-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mla_finite [hPre_mla_finite : Cert.Pre_mla_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mla_finite [hPre_mla_finite : Cert.Pre_mla_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalReferenceIdeal (m : (ℓ : Loc Cert.FfnFinalReferenceIdeal.nD Cert.FfnFinalReferenceIdeal.τ Cert.FfnFinalReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_OddProject (m : (ℓ : Loc Cert.OddProject.nD Cert.OddProject.τ Cert.OddProject.sig) → Buf (Elt Bits) ℓ) : Prop :=
  True

def Pre_OddProjectIdeal (m : (ℓ : Loc Cert.OddProjectIdeal.nD Cert.OddProjectIdeal.τ Cert.OddProjectIdeal.sig) → Buf (Elt Ideal) ℓ) : Prop :=
  True

def Pre_OddProjectReferenceIdeal (m : (ℓ : Loc Cert.OddProjectReferenceIdeal.nD Cert.OddProjectReferenceIdeal.τ Cert.OddProjectReferenceIdeal.sig) → Buf (Elt Ideal) ℓ) : Prop :=
  True

def Pre_EvenProject (m : (ℓ : Loc Cert.EvenProject.nD Cert.EvenProject.τ Cert.EvenProject.sig) → Buf (Elt Bits) ℓ) : Prop :=
  True

def Pre_EvenProjectIdeal (m : (ℓ : Loc Cert.EvenProjectIdeal.nD Cert.EvenProjectIdeal.τ Cert.EvenProjectIdeal.sig) → Buf (Elt Ideal) ℓ) : Prop :=
  True

def Pre_EvenProjectReferenceIdeal (m : (ℓ : Loc Cert.EvenProjectReferenceIdeal.nD Cert.EvenProjectReferenceIdeal.τ Cert.EvenProjectReferenceIdeal.sig) → Buf (Elt Ideal) ℓ) : Prop :=
  True

def Pre_MemAttend (m : (ℓ : Loc Cert.MemAttend.nD Cert.MemAttend.τ Cert.MemAttend.sig) → Buf (Elt Bits) ℓ) : Prop :=
  True

def Pre_MemAttendIdeal (m : (ℓ : Loc Cert.MemAttendIdeal.nD Cert.MemAttendIdeal.τ Cert.MemAttendIdeal.sig) → Buf (Elt Ideal) ℓ) : Prop :=
  True

def Pre_MemAttendIdeal_mem_finite [hPre_mem_finite : Cert.Pre_mem_finite.Facts] (m : (ℓ : Loc Cert.MemAttendIdeal.nD Cert.MemAttendIdeal.τ Cert.MemAttendIdeal.sig) → Buf (Elt Ideal) ℓ) : Prop :=
  ∀ c : Dev Cert.MemAttendIdeal.nD,
    (Cert.Pre_mem_finite.fn (F := Ideal) (m ((c.tc : Thread Cert.MemAttendIdeal.nD Cert.MemAttendIdeal.τ).loc Cert.MemAttendIdeal.main_arg0)) (m ((c.tc : Thread Cert.MemAttendIdeal.nD Cert.MemAttendIdeal.τ).loc Cert.MemAttendIdeal.main_arg1)) (m ((c.tc : Thread Cert.MemAttendIdeal.nD Cert.MemAttendIdeal.τ).loc Cert.MemAttendIdeal.main_arg2)) (m ((c.tc : Thread Cert.MemAttendIdeal.nD Cert.MemAttendIdeal.τ).loc Cert.MemAttendIdeal.main_arg3)) (m ((c.tc : Thread Cert.MemAttendIdeal.nD Cert.MemAttendIdeal.τ).loc Cert.MemAttendIdeal.main_arg4)) (m ((c.tc : Thread Cert.MemAttendIdeal.nD Cert.MemAttendIdeal.τ).loc Cert.MemAttendIdeal.main_arg5))) = (fun _ => 1#1)

def Pre_MemAttendReferenceIdeal (m : (ℓ : Loc Cert.MemAttendReferenceIdeal.nD Cert.MemAttendReferenceIdeal.τ Cert.MemAttendReferenceIdeal.sig) → Buf (Elt Ideal) ℓ) : Prop :=
  True

def Pre_MemAttendReferenceIdeal_mem_finite [hPre_mem_finite : Cert.Pre_mem_finite.Facts] (m : (ℓ : Loc Cert.MemAttendReferenceIdeal.nD Cert.MemAttendReferenceIdeal.τ Cert.MemAttendReferenceIdeal.sig) → Buf (Elt Ideal) ℓ) : Prop :=
  ∀ c : Dev Cert.MemAttendReferenceIdeal.nD,
    (Cert.Pre_mem_finite.fn (F := Ideal) (m ((c.tc : Thread Cert.MemAttendReferenceIdeal.nD Cert.MemAttendReferenceIdeal.τ).loc Cert.MemAttendReferenceIdeal.main_arg0)) (m ((c.tc : Thread Cert.MemAttendReferenceIdeal.nD Cert.MemAttendReferenceIdeal.τ).loc Cert.MemAttendReferenceIdeal.main_arg1)) (m ((c.tc : Thread Cert.MemAttendReferenceIdeal.nD Cert.MemAttendReferenceIdeal.τ).loc Cert.MemAttendReferenceIdeal.main_arg2)) (m ((c.tc : Thread Cert.MemAttendReferenceIdeal.nD Cert.MemAttendReferenceIdeal.τ).loc Cert.MemAttendReferenceIdeal.main_arg3)) (m ((c.tc : Thread Cert.MemAttendReferenceIdeal.nD Cert.MemAttendReferenceIdeal.τ).loc Cert.MemAttendReferenceIdeal.main_arg4)) (m ((c.tc : Thread Cert.MemAttendReferenceIdeal.nD Cert.MemAttendReferenceIdeal.τ).loc Cert.MemAttendReferenceIdeal.main_arg5))) = (fun _ => 1#1)

def Pre_EvenOutput (m : (ℓ : Loc Cert.EvenOutput.nD Cert.EvenOutput.τ Cert.EvenOutput.sig) → Buf (Elt Bits) ℓ) : Prop :=
  True

def Pre_EvenOutputIdeal (m : (ℓ : Loc Cert.EvenOutputIdeal.nD Cert.EvenOutputIdeal.τ Cert.EvenOutputIdeal.sig) → Buf (Elt Ideal) ℓ) : Prop :=
  True

def Pre_EvenOutputReferenceIdeal (m : (ℓ : Loc Cert.EvenOutputReferenceIdeal.nD Cert.EvenOutputReferenceIdeal.τ Cert.EvenOutputReferenceIdeal.sig) → Buf (Elt Ideal) ℓ) : Prop :=
  True

def Pre_OddOutput (m : (ℓ : Loc Cert.OddOutput.nD Cert.OddOutput.τ Cert.OddOutput.sig) → Buf (Elt Bits) ℓ) : Prop :=
  True

def Pre_OddOutputIdeal (m : (ℓ : Loc Cert.OddOutputIdeal.nD Cert.OddOutputIdeal.τ Cert.OddOutputIdeal.sig) → Buf (Elt Ideal) ℓ) : Prop :=
  True

def Pre_OddOutputReferenceIdeal (m : (ℓ : Loc Cert.OddOutputReferenceIdeal.nD Cert.OddOutputReferenceIdeal.τ Cert.OddOutputReferenceIdeal.sig) → Buf (Elt Ideal) ℓ) : Prop :=
  True

def Pre_DilSample (m : (ℓ : Loc Cert.DilSample.nD Cert.DilSample.τ Cert.DilSample.sig) → Buf (Elt Bits) ℓ) : Prop :=
  True

def Pre_DilSampleIdeal (m : (ℓ : Loc Cert.DilSampleIdeal.nD Cert.DilSampleIdeal.τ Cert.DilSampleIdeal.sig) → Buf (Elt Ideal) ℓ) : Prop :=
  True

def Pre_DilSampleReferenceIdeal (m : (ℓ : Loc Cert.DilSampleReferenceIdeal.nD Cert.DilSampleReferenceIdeal.τ Cert.DilSampleReferenceIdeal.sig) → Buf (Elt Ideal) ℓ) : Prop :=
  True

def Pre_FfnFinalSample (m : (ℓ : Loc Cert.FfnFinalSample.nD Cert.FfnFinalSample.τ Cert.FfnFinalSample.sig) → Buf (Elt Bits) ℓ) : Prop :=
  True

def Pre_FfnFinalSampleIdeal (m : (ℓ : Loc Cert.FfnFinalSampleIdeal.nD Cert.FfnFinalSampleIdeal.τ Cert.FfnFinalSampleIdeal.sig) → Buf (Elt Ideal) ℓ) : Prop :=
  True

def Pre_FfnFinalSampleReferenceIdeal (m : (ℓ : Loc Cert.FfnFinalSampleReferenceIdeal.nD Cert.FfnFinalSampleReferenceIdeal.τ Cert.FfnFinalSampleReferenceIdeal.sig) → Buf (Elt Ideal) ℓ) : Prop :=
  True

def Pre_EvenProjectSample (m : (ℓ : Loc Cert.EvenProjectSample.nD Cert.EvenProjectSample.τ Cert.EvenProjectSample.sig) → Buf (Elt Bits) ℓ) : Prop :=
  True

def Pre_EvenProjectSampleIdeal (m : (ℓ : Loc Cert.EvenProjectSampleIdeal.nD Cert.EvenProjectSampleIdeal.τ Cert.EvenProjectSampleIdeal.sig) → Buf (Elt Ideal) ℓ) : Prop :=
  True

def Pre_EvenProjectSampleReferenceIdeal (m : (ℓ : Loc Cert.EvenProjectSampleReferenceIdeal.nD Cert.EvenProjectSampleReferenceIdeal.τ Cert.EvenProjectSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mla_finite [hKernelIdeal : Cert.KernelIdeal.Facts] [hPre_mla_finite : Cert.Pre_mla_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mla_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mla_finite [hReferenceIdeal : Cert.ReferenceIdeal.Facts] [hPre_mla_finite : Cert.Pre_mla_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mla_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ r.2.sem = fun _ => 0)

def quiescent_FfnFinalReferenceIdeal [hFfnFinalReferenceIdeal : Cert.FfnFinalReferenceIdeal.Facts] : Prop :=
  ∀ (m : (ℓ : Loc Cert.FfnFinalReferenceIdeal.nD Cert.FfnFinalReferenceIdeal.τ Cert.FfnFinalReferenceIdeal.sig) → Buf (Elt Ideal) ℓ) (g : Dev Cert.FfnFinalReferenceIdeal.nD → PrngReg), Pre_FfnFinalReferenceIdeal m →
    θ_run (Cert.FfnFinalReferenceIdeal.defs (F := Ideal)) (onTc (τ := Cert.FfnFinalReferenceIdeal.τ) (Cert.FfnFinalReferenceIdeal.main (F := Ideal))) ⟨m, fun _ => 0, g⟩ (fun r => (∀ c : Dev Cert.FfnFinalReferenceIdeal.nD,
      r.2.mem ((c.tc : Thread Cert.FfnFinalReferenceIdeal.nD Cert.FfnFinalReferenceIdeal.τ).loc Cert.FfnFinalReferenceIdeal.main_arg0) = m ((c.tc : Thread Cert.FfnFinalReferenceIdeal.nD Cert.FfnFinalReferenceIdeal.τ).loc Cert.FfnFinalReferenceIdeal.main_arg0)
      ∧ r.2.mem ((c.tc : Thread Cert.FfnFinalReferenceIdeal.nD Cert.FfnFinalReferenceIdeal.τ).loc Cert.FfnFinalReferenceIdeal.main_arg1) = m ((c.tc : Thread Cert.FfnFinalReferenceIdeal.nD Cert.FfnFinalReferenceIdeal.τ).loc Cert.FfnFinalReferenceIdeal.main_arg1)
      ∧ r.2.mem ((c.tc : Thread Cert.FfnFinalReferenceIdeal.nD Cert.FfnFinalReferenceIdeal.τ).loc Cert.FfnFinalReferenceIdeal.main_arg2) = m ((c.tc : Thread Cert.FfnFinalReferenceIdeal.nD Cert.FfnFinalReferenceIdeal.τ).loc Cert.FfnFinalReferenceIdeal.main_arg2)
      ∧ r.2.mem ((c.tc : Thread Cert.FfnFinalReferenceIdeal.nD Cert.FfnFinalReferenceIdeal.τ).loc Cert.FfnFinalReferenceIdeal.main_arg3) = m ((c.tc : Thread Cert.FfnFinalReferenceIdeal.nD Cert.FfnFinalReferenceIdeal.τ).loc Cert.FfnFinalReferenceIdeal.main_arg3)
      ∧ r.2.mem ((c.tc : Thread Cert.FfnFinalReferenceIdeal.nD Cert.FfnFinalReferenceIdeal.τ).loc Cert.FfnFinalReferenceIdeal.main_arg4) = m ((c.tc : Thread Cert.FfnFinalReferenceIdeal.nD Cert.FfnFinalReferenceIdeal.τ).loc Cert.FfnFinalReferenceIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_OddProject [hOddProject : Cert.OddProject.Facts] : Prop :=
  ∀ (m : (ℓ : Loc Cert.OddProject.nD Cert.OddProject.τ Cert.OddProject.sig) → Buf (Elt Bits) ℓ) (g : Dev Cert.OddProject.nD → PrngReg), Pre_OddProject m →
    θ_run (Cert.OddProject.defs (F := Bits)) (onTc (τ := Cert.OddProject.τ) (Cert.OddProject.main (F := Bits))) ⟨m, fun _ => 0, g⟩ (fun r => (∀ c : Dev Cert.OddProject.nD,
      r.2.mem ((c.tc : Thread Cert.OddProject.nD Cert.OddProject.τ).loc Cert.OddProject.main_arg0) = m ((c.tc : Thread Cert.OddProject.nD Cert.OddProject.τ).loc Cert.OddProject.main_arg0)
      ∧ r.2.mem ((c.tc : Thread Cert.OddProject.nD Cert.OddProject.τ).loc Cert.OddProject.main_arg1) = m ((c.tc : Thread Cert.OddProject.nD Cert.OddProject.τ).loc Cert.OddProject.main_arg1)
      ∧ r.2.mem ((c.tc : Thread Cert.OddProject.nD Cert.OddProject.τ).loc Cert.OddProject.main_arg2) = m ((c.tc : Thread Cert.OddProject.nD Cert.OddProject.τ).loc Cert.OddProject.main_arg2))
      ∧ r.2.sem = fun _ => 0)

def quiescent_OddProjectIdeal [hOddProjectIdeal : Cert.OddProjectIdeal.Facts] : Prop :=
  ∀ (m : (ℓ : Loc Cert.OddProjectIdeal.nD Cert.OddProjectIdeal.τ Cert.OddProjectIdeal.sig) → Buf (Elt Ideal) ℓ) (g : Dev Cert.OddProjectIdeal.nD → PrngReg), Pre_OddProjectIdeal m →
    θ_run (Cert.OddProjectIdeal.defs (F := Ideal)) (onTc (τ := Cert.OddProjectIdeal.τ) (Cert.OddProjectIdeal.main (F := Ideal))) ⟨m, fun _ => 0, g⟩ (fun r => (∀ c : Dev Cert.OddProjectIdeal.nD,
      r.2.mem ((c.tc : Thread Cert.OddProjectIdeal.nD Cert.OddProjectIdeal.τ).loc Cert.OddProjectIdeal.main_arg0) = m ((c.tc : Thread Cert.OddProjectIdeal.nD Cert.OddProjectIdeal.τ).loc Cert.OddProjectIdeal.main_arg0)
      ∧ r.2.mem ((c.tc : Thread Cert.OddProjectIdeal.nD Cert.OddProjectIdeal.τ).loc Cert.OddProjectIdeal.main_arg1) = m ((c.tc : Thread Cert.OddProjectIdeal.nD Cert.OddProjectIdeal.τ).loc Cert.OddProjectIdeal.main_arg1)
      ∧ r.2.mem ((c.tc : Thread Cert.OddProjectIdeal.nD Cert.OddProjectIdeal.τ).loc Cert.OddProjectIdeal.main_arg2) = m ((c.tc : Thread Cert.OddProjectIdeal.nD Cert.OddProjectIdeal.τ).loc Cert.OddProjectIdeal.main_arg2))
      ∧ r.2.sem = fun _ => 0)

def quiescent_OddProjectReferenceIdeal [hOddProjectReferenceIdeal : Cert.OddProjectReferenceIdeal.Facts] : Prop :=
  ∀ (m : (ℓ : Loc Cert.OddProjectReferenceIdeal.nD Cert.OddProjectReferenceIdeal.τ Cert.OddProjectReferenceIdeal.sig) → Buf (Elt Ideal) ℓ) (g : Dev Cert.OddProjectReferenceIdeal.nD → PrngReg), Pre_OddProjectReferenceIdeal m →
    θ_run (Cert.OddProjectReferenceIdeal.defs (F := Ideal)) (onTc (τ := Cert.OddProjectReferenceIdeal.τ) (Cert.OddProjectReferenceIdeal.main (F := Ideal))) ⟨m, fun _ => 0, g⟩ (fun r => (∀ c : Dev Cert.OddProjectReferenceIdeal.nD,
      r.2.mem ((c.tc : Thread Cert.OddProjectReferenceIdeal.nD Cert.OddProjectReferenceIdeal.τ).loc Cert.OddProjectReferenceIdeal.main_arg0) = m ((c.tc : Thread Cert.OddProjectReferenceIdeal.nD Cert.OddProjectReferenceIdeal.τ).loc Cert.OddProjectReferenceIdeal.main_arg0)
      ∧ r.2.mem ((c.tc : Thread Cert.OddProjectReferenceIdeal.nD Cert.OddProjectReferenceIdeal.τ).loc Cert.OddProjectReferenceIdeal.main_arg1) = m ((c.tc : Thread Cert.OddProjectReferenceIdeal.nD Cert.OddProjectReferenceIdeal.τ).loc Cert.OddProjectReferenceIdeal.main_arg1)
      ∧ r.2.mem ((c.tc : Thread Cert.OddProjectReferenceIdeal.nD Cert.OddProjectReferenceIdeal.τ).loc Cert.OddProjectReferenceIdeal.main_arg2) = m ((c.tc : Thread Cert.OddProjectReferenceIdeal.nD Cert.OddProjectReferenceIdeal.τ).loc Cert.OddProjectReferenceIdeal.main_arg2))
      ∧ r.2.sem = fun _ => 0)

def quiescent_EvenProject [hEvenProject : Cert.EvenProject.Facts] : Prop :=
  ∀ (m : (ℓ : Loc Cert.EvenProject.nD Cert.EvenProject.τ Cert.EvenProject.sig) → Buf (Elt Bits) ℓ) (g : Dev Cert.EvenProject.nD → PrngReg), Pre_EvenProject m →
    θ_run (Cert.EvenProject.defs (F := Bits)) (onTc (τ := Cert.EvenProject.τ) (Cert.EvenProject.main (F := Bits))) ⟨m, fun _ => 0, g⟩ (fun r => (∀ c : Dev Cert.EvenProject.nD,
      r.2.mem ((c.tc : Thread Cert.EvenProject.nD Cert.EvenProject.τ).loc Cert.EvenProject.main_arg0) = m ((c.tc : Thread Cert.EvenProject.nD Cert.EvenProject.τ).loc Cert.EvenProject.main_arg0)
      ∧ r.2.mem ((c.tc : Thread Cert.EvenProject.nD Cert.EvenProject.τ).loc Cert.EvenProject.main_arg1) = m ((c.tc : Thread Cert.EvenProject.nD Cert.EvenProject.τ).loc Cert.EvenProject.main_arg1)
      ∧ r.2.mem ((c.tc : Thread Cert.EvenProject.nD Cert.EvenProject.τ).loc Cert.EvenProject.main_arg2) = m ((c.tc : Thread Cert.EvenProject.nD Cert.EvenProject.τ).loc Cert.EvenProject.main_arg2)
      ∧ r.2.mem ((c.tc : Thread Cert.EvenProject.nD Cert.EvenProject.τ).loc Cert.EvenProject.main_arg3) = m ((c.tc : Thread Cert.EvenProject.nD Cert.EvenProject.τ).loc Cert.EvenProject.main_arg3)
      ∧ r.2.mem ((c.tc : Thread Cert.EvenProject.nD Cert.EvenProject.τ).loc Cert.EvenProject.main_arg4) = m ((c.tc : Thread Cert.EvenProject.nD Cert.EvenProject.τ).loc Cert.EvenProject.main_arg4)
      ∧ r.2.mem ((c.tc : Thread Cert.EvenProject.nD Cert.EvenProject.τ).loc Cert.EvenProject.main_arg5) = m ((c.tc : Thread Cert.EvenProject.nD Cert.EvenProject.τ).loc Cert.EvenProject.main_arg5)
      ∧ r.2.mem ((c.tc : Thread Cert.EvenProject.nD Cert.EvenProject.τ).loc Cert.EvenProject.main_arg6) = m ((c.tc : Thread Cert.EvenProject.nD Cert.EvenProject.τ).loc Cert.EvenProject.main_arg6))
      ∧ r.2.sem = fun _ => 0)

def quiescent_EvenProjectIdeal [hEvenProjectIdeal : Cert.EvenProjectIdeal.Facts] : Prop :=
  ∀ (m : (ℓ : Loc Cert.EvenProjectIdeal.nD Cert.EvenProjectIdeal.τ Cert.EvenProjectIdeal.sig) → Buf (Elt Ideal) ℓ) (g : Dev Cert.EvenProjectIdeal.nD → PrngReg), Pre_EvenProjectIdeal m →
    θ_run (Cert.EvenProjectIdeal.defs (F := Ideal)) (onTc (τ := Cert.EvenProjectIdeal.τ) (Cert.EvenProjectIdeal.main (F := Ideal))) ⟨m, fun _ => 0, g⟩ (fun r => (∀ c : Dev Cert.EvenProjectIdeal.nD,
      r.2.mem ((c.tc : Thread Cert.EvenProjectIdeal.nD Cert.EvenProjectIdeal.τ).loc Cert.EvenProjectIdeal.main_arg0) = m ((c.tc : Thread Cert.EvenProjectIdeal.nD Cert.EvenProjectIdeal.τ).loc Cert.EvenProjectIdeal.main_arg0)
      ∧ r.2.mem ((c.tc : Thread Cert.EvenProjectIdeal.nD Cert.EvenProjectIdeal.τ).loc Cert.EvenProjectIdeal.main_arg1) = m ((c.tc : Thread Cert.EvenProjectIdeal.nD Cert.EvenProjectIdeal.τ).loc Cert.EvenProjectIdeal.main_arg1)
      ∧ r.2.mem ((c.tc : Thread Cert.EvenProjectIdeal.nD Cert.EvenProjectIdeal.τ).loc Cert.EvenProjectIdeal.main_arg2) = m ((c.tc : Thread Cert.EvenProjectIdeal.nD Cert.EvenProjectIdeal.τ).loc Cert.EvenProjectIdeal.main_arg2)
      ∧ r.2.mem ((c.tc : Thread Cert.EvenProjectIdeal.nD Cert.EvenProjectIdeal.τ).loc Cert.EvenProjectIdeal.main_arg3) = m ((c.tc : Thread Cert.EvenProjectIdeal.nD Cert.EvenProjectIdeal.τ).loc Cert.EvenProjectIdeal.main_arg3)
      ∧ r.2.mem ((c.tc : Thread Cert.EvenProjectIdeal.nD Cert.EvenProjectIdeal.τ).loc Cert.EvenProjectIdeal.main_arg4) = m ((c.tc : Thread Cert.EvenProjectIdeal.nD Cert.EvenProjectIdeal.τ).loc Cert.EvenProjectIdeal.main_arg4)
      ∧ r.2.mem ((c.tc : Thread Cert.EvenProjectIdeal.nD Cert.EvenProjectIdeal.τ).loc Cert.EvenProjectIdeal.main_arg5) = m ((c.tc : Thread Cert.EvenProjectIdeal.nD Cert.EvenProjectIdeal.τ).loc Cert.EvenProjectIdeal.main_arg5)
      ∧ r.2.mem ((c.tc : Thread Cert.EvenProjectIdeal.nD Cert.EvenProjectIdeal.τ).loc Cert.EvenProjectIdeal.main_arg6) = m ((c.tc : Thread Cert.EvenProjectIdeal.nD Cert.EvenProjectIdeal.τ).loc Cert.EvenProjectIdeal.main_arg6))
      ∧ r.2.sem = fun _ => 0)

def quiescent_EvenProjectReferenceIdeal [hEvenProjectReferenceIdeal : Cert.EvenProjectReferenceIdeal.Facts] : Prop :=
  ∀ (m : (ℓ : Loc Cert.EvenProjectReferenceIdeal.nD Cert.EvenProjectReferenceIdeal.τ Cert.EvenProjectReferenceIdeal.sig) → Buf (Elt Ideal) ℓ) (g : Dev Cert.EvenProjectReferenceIdeal.nD → PrngReg), Pre_EvenProjectReferenceIdeal m →
    θ_run (Cert.EvenProjectReferenceIdeal.defs (F := Ideal)) (onTc (τ := Cert.EvenProjectReferenceIdeal.τ) (Cert.EvenProjectReferenceIdeal.main (F := Ideal))) ⟨m, fun _ => 0, g⟩ (fun r => (∀ c : Dev Cert.EvenProjectReferenceIdeal.nD,
      r.2.mem ((c.tc : Thread Cert.EvenProjectReferenceIdeal.nD Cert.EvenProjectReferenceIdeal.τ).loc Cert.EvenProjectReferenceIdeal.main_arg0) = m ((c.tc : Thread Cert.EvenProjectReferenceIdeal.nD Cert.EvenProjectReferenceIdeal.τ).loc Cert.EvenProjectReferenceIdeal.main_arg0)
      ∧ r.2.mem ((c.tc : Thread Cert.EvenProjectReferenceIdeal.nD Cert.EvenProjectReferenceIdeal.τ).loc Cert.EvenProjectReferenceIdeal.main_arg1) = m ((c.tc : Thread Cert.EvenProjectReferenceIdeal.nD Cert.EvenProjectReferenceIdeal.τ).loc Cert.EvenProjectReferenceIdeal.main_arg1)
      ∧ r.2.mem ((c.tc : Thread Cert.EvenProjectReferenceIdeal.nD Cert.EvenProjectReferenceIdeal.τ).loc Cert.EvenProjectReferenceIdeal.main_arg2) = m ((c.tc : Thread Cert.EvenProjectReferenceIdeal.nD Cert.EvenProjectReferenceIdeal.τ).loc Cert.EvenProjectReferenceIdeal.main_arg2)
      ∧ r.2.mem ((c.tc : Thread Cert.EvenProjectReferenceIdeal.nD Cert.EvenProjectReferenceIdeal.τ).loc Cert.EvenProjectReferenceIdeal.main_arg3) = m ((c.tc : Thread Cert.EvenProjectReferenceIdeal.nD Cert.EvenProjectReferenceIdeal.τ).loc Cert.EvenProjectReferenceIdeal.main_arg3)
      ∧ r.2.mem ((c.tc : Thread Cert.EvenProjectReferenceIdeal.nD Cert.EvenProjectReferenceIdeal.τ).loc Cert.EvenProjectReferenceIdeal.main_arg4) = m ((c.tc : Thread Cert.EvenProjectReferenceIdeal.nD Cert.EvenProjectReferenceIdeal.τ).loc Cert.EvenProjectReferenceIdeal.main_arg4)
      ∧ r.2.mem ((c.tc : Thread Cert.EvenProjectReferenceIdeal.nD Cert.EvenProjectReferenceIdeal.τ).loc Cert.EvenProjectReferenceIdeal.main_arg5) = m ((c.tc : Thread Cert.EvenProjectReferenceIdeal.nD Cert.EvenProjectReferenceIdeal.τ).loc Cert.EvenProjectReferenceIdeal.main_arg5)
      ∧ r.2.mem ((c.tc : Thread Cert.EvenProjectReferenceIdeal.nD Cert.EvenProjectReferenceIdeal.τ).loc Cert.EvenProjectReferenceIdeal.main_arg6) = m ((c.tc : Thread Cert.EvenProjectReferenceIdeal.nD Cert.EvenProjectReferenceIdeal.τ).loc Cert.EvenProjectReferenceIdeal.main_arg6))
      ∧ r.2.sem = fun _ => 0)

def quiescent_MemAttend [hMemAttend : Cert.MemAttend.Facts] : Prop :=
  ∀ (m : (ℓ : Loc Cert.MemAttend.nD Cert.MemAttend.τ Cert.MemAttend.sig) → Buf (Elt Bits) ℓ) (g : Dev Cert.MemAttend.nD → PrngReg), Pre_MemAttend m →
    θ_run (Cert.MemAttend.defs (F := Bits)) (onTc (τ := Cert.MemAttend.τ) (Cert.MemAttend.main (F := Bits))) ⟨m, fun _ => 0, g⟩ (fun r => (∀ c : Dev Cert.MemAttend.nD,
      r.2.mem ((c.tc : Thread Cert.MemAttend.nD Cert.MemAttend.τ).loc Cert.MemAttend.main_arg0) = m ((c.tc : Thread Cert.MemAttend.nD Cert.MemAttend.τ).loc Cert.MemAttend.main_arg0)
      ∧ r.2.mem ((c.tc : Thread Cert.MemAttend.nD Cert.MemAttend.τ).loc Cert.MemAttend.main_arg1) = m ((c.tc : Thread Cert.MemAttend.nD Cert.MemAttend.τ).loc Cert.MemAttend.main_arg1)
      ∧ r.2.mem ((c.tc : Thread Cert.MemAttend.nD Cert.MemAttend.τ).loc Cert.MemAttend.main_arg2) = m ((c.tc : Thread Cert.MemAttend.nD Cert.MemAttend.τ).loc Cert.MemAttend.main_arg2)
      ∧ r.2.mem ((c.tc : Thread Cert.MemAttend.nD Cert.MemAttend.τ).loc Cert.MemAttend.main_arg3) = m ((c.tc : Thread Cert.MemAttend.nD Cert.MemAttend.τ).loc Cert.MemAttend.main_arg3)
      ∧ r.2.mem ((c.tc : Thread Cert.MemAttend.nD Cert.MemAttend.τ).loc Cert.MemAttend.main_arg4) = m ((c.tc : Thread Cert.MemAttend.nD Cert.MemAttend.τ).loc Cert.MemAttend.main_arg4)
      ∧ r.2.mem ((c.tc : Thread Cert.MemAttend.nD Cert.MemAttend.τ).loc Cert.MemAttend.main_arg5) = m ((c.tc : Thread Cert.MemAttend.nD Cert.MemAttend.τ).loc Cert.MemAttend.main_arg5))
      ∧ r.2.sem = fun _ => 0)

def quiescent_MemAttendIdeal [hMemAttendIdeal : Cert.MemAttendIdeal.Facts] : Prop :=
  ∀ (m : (ℓ : Loc Cert.MemAttendIdeal.nD Cert.MemAttendIdeal.τ Cert.MemAttendIdeal.sig) → Buf (Elt Ideal) ℓ) (g : Dev Cert.MemAttendIdeal.nD → PrngReg), Pre_MemAttendIdeal m →
    θ_run (Cert.MemAttendIdeal.defs (F := Ideal)) (onTc (τ := Cert.MemAttendIdeal.τ) (Cert.MemAttendIdeal.main (F := Ideal))) ⟨m, fun _ => 0, g⟩ (fun r => (∀ c : Dev Cert.MemAttendIdeal.nD,
      r.2.mem ((c.tc : Thread Cert.MemAttendIdeal.nD Cert.MemAttendIdeal.τ).loc Cert.MemAttendIdeal.main_arg0) = m ((c.tc : Thread Cert.MemAttendIdeal.nD Cert.MemAttendIdeal.τ).loc Cert.MemAttendIdeal.main_arg0)
      ∧ r.2.mem ((c.tc : Thread Cert.MemAttendIdeal.nD Cert.MemAttendIdeal.τ).loc Cert.MemAttendIdeal.main_arg1) = m ((c.tc : Thread Cert.MemAttendIdeal.nD Cert.MemAttendIdeal.τ).loc Cert.MemAttendIdeal.main_arg1)
      ∧ r.2.mem ((c.tc : Thread Cert.MemAttendIdeal.nD Cert.MemAttendIdeal.τ).loc Cert.MemAttendIdeal.main_arg2) = m ((c.tc : Thread Cert.MemAttendIdeal.nD Cert.MemAttendIdeal.τ).loc Cert.MemAttendIdeal.main_arg2)
      ∧ r.2.mem ((c.tc : Thread Cert.MemAttendIdeal.nD Cert.MemAttendIdeal.τ).loc Cert.MemAttendIdeal.main_arg3) = m ((c.tc : Thread Cert.MemAttendIdeal.nD Cert.MemAttendIdeal.τ).loc Cert.MemAttendIdeal.main_arg3)
      ∧ r.2.mem ((c.tc : Thread Cert.MemAttendIdeal.nD Cert.MemAttendIdeal.τ).loc Cert.MemAttendIdeal.main_arg4) = m ((c.tc : Thread Cert.MemAttendIdeal.nD Cert.MemAttendIdeal.τ).loc Cert.MemAttendIdeal.main_arg4)
      ∧ r.2.mem ((c.tc : Thread Cert.MemAttendIdeal.nD Cert.MemAttendIdeal.τ).loc Cert.MemAttendIdeal.main_arg5) = m ((c.tc : Thread Cert.MemAttendIdeal.nD Cert.MemAttendIdeal.τ).loc Cert.MemAttendIdeal.main_arg5))
      ∧ r.2.sem = fun _ => 0)

def quiescent_MemAttendIdeal_pre_mem_finite [hMemAttendIdeal : Cert.MemAttendIdeal.Facts] [hPre_mem_finite : Cert.Pre_mem_finite.Facts] : Prop :=
  ∀ (m : (ℓ : Loc Cert.MemAttendIdeal.nD Cert.MemAttendIdeal.τ Cert.MemAttendIdeal.sig) → Buf (Elt Ideal) ℓ) (g : Dev Cert.MemAttendIdeal.nD → PrngReg), Pre_MemAttendIdeal_mem_finite m →
    θ_run (Cert.MemAttendIdeal.defs (F := Ideal)) (onTc (τ := Cert.MemAttendIdeal.τ) (Cert.MemAttendIdeal.main (F := Ideal))) ⟨m, fun _ => 0, g⟩ (fun r => (∀ c : Dev Cert.MemAttendIdeal.nD,
      r.2.mem ((c.tc : Thread Cert.MemAttendIdeal.nD Cert.MemAttendIdeal.τ).loc Cert.MemAttendIdeal.main_arg0) = m ((c.tc : Thread Cert.MemAttendIdeal.nD Cert.MemAttendIdeal.τ).loc Cert.MemAttendIdeal.main_arg0)
      ∧ r.2.mem ((c.tc : Thread Cert.MemAttendIdeal.nD Cert.MemAttendIdeal.τ).loc Cert.MemAttendIdeal.main_arg1) = m ((c.tc : Thread Cert.MemAttendIdeal.nD Cert.MemAttendIdeal.τ).loc Cert.MemAttendIdeal.main_arg1)
      ∧ r.2.mem ((c.tc : Thread Cert.MemAttendIdeal.nD Cert.MemAttendIdeal.τ).loc Cert.MemAttendIdeal.main_arg2) = m ((c.tc : Thread Cert.MemAttendIdeal.nD Cert.MemAttendIdeal.τ).loc Cert.MemAttendIdeal.main_arg2)
      ∧ r.2.mem ((c.tc : Thread Cert.MemAttendIdeal.nD Cert.MemAttendIdeal.τ).loc Cert.MemAttendIdeal.main_arg3) = m ((c.tc : Thread Cert.MemAttendIdeal.nD Cert.MemAttendIdeal.τ).loc Cert.MemAttendIdeal.main_arg3)
      ∧ r.2.mem ((c.tc : Thread Cert.MemAttendIdeal.nD Cert.MemAttendIdeal.τ).loc Cert.MemAttendIdeal.main_arg4) = m ((c.tc : Thread Cert.MemAttendIdeal.nD Cert.MemAttendIdeal.τ).loc Cert.MemAttendIdeal.main_arg4)
      ∧ r.2.mem ((c.tc : Thread Cert.MemAttendIdeal.nD Cert.MemAttendIdeal.τ).loc Cert.MemAttendIdeal.main_arg5) = m ((c.tc : Thread Cert.MemAttendIdeal.nD Cert.MemAttendIdeal.τ).loc Cert.MemAttendIdeal.main_arg5))
      ∧ r.2.sem = fun _ => 0)

def quiescent_MemAttendReferenceIdeal [hMemAttendReferenceIdeal : Cert.MemAttendReferenceIdeal.Facts] : Prop :=
  ∀ (m : (ℓ : Loc Cert.MemAttendReferenceIdeal.nD Cert.MemAttendReferenceIdeal.τ Cert.MemAttendReferenceIdeal.sig) → Buf (Elt Ideal) ℓ) (g : Dev Cert.MemAttendReferenceIdeal.nD → PrngReg), Pre_MemAttendReferenceIdeal m →
    θ_run (Cert.MemAttendReferenceIdeal.defs (F := Ideal)) (onTc (τ := Cert.MemAttendReferenceIdeal.τ) (Cert.MemAttendReferenceIdeal.main (F := Ideal))) ⟨m, fun _ => 0, g⟩ (fun r => (∀ c : Dev Cert.MemAttendReferenceIdeal.nD,
      r.2.mem ((c.tc : Thread Cert.MemAttendReferenceIdeal.nD Cert.MemAttendReferenceIdeal.τ).loc Cert.MemAttendReferenceIdeal.main_arg0) = m ((c.tc : Thread Cert.MemAttendReferenceIdeal.nD Cert.MemAttendReferenceIdeal.τ).loc Cert.MemAttendReferenceIdeal.main_arg0)
      ∧ r.2.mem ((c.tc : Thread Cert.MemAttendReferenceIdeal.nD Cert.MemAttendReferenceIdeal.τ).loc Cert.MemAttendReferenceIdeal.main_arg1) = m ((c.tc : Thread Cert.MemAttendReferenceIdeal.nD Cert.MemAttendReferenceIdeal.τ).loc Cert.MemAttendReferenceIdeal.main_arg1)
      ∧ r.2.mem ((c.tc : Thread Cert.MemAttendReferenceIdeal.nD Cert.MemAttendReferenceIdeal.τ).loc Cert.MemAttendReferenceIdeal.main_arg2) = m ((c.tc : Thread Cert.MemAttendReferenceIdeal.nD Cert.MemAttendReferenceIdeal.τ).loc Cert.MemAttendReferenceIdeal.main_arg2)
      ∧ r.2.mem ((c.tc : Thread Cert.MemAttendReferenceIdeal.nD Cert.MemAttendReferenceIdeal.τ).loc Cert.MemAttendReferenceIdeal.main_arg3) = m ((c.tc : Thread Cert.MemAttendReferenceIdeal.nD Cert.MemAttendReferenceIdeal.τ).loc Cert.MemAttendReferenceIdeal.main_arg3)
      ∧ r.2.mem ((c.tc : Thread Cert.MemAttendReferenceIdeal.nD Cert.MemAttendReferenceIdeal.τ).loc Cert.MemAttendReferenceIdeal.main_arg4) = m ((c.tc : Thread Cert.MemAttendReferenceIdeal.nD Cert.MemAttendReferenceIdeal.τ).loc Cert.MemAttendReferenceIdeal.main_arg4)
      ∧ r.2.mem ((c.tc : Thread Cert.MemAttendReferenceIdeal.nD Cert.MemAttendReferenceIdeal.τ).loc Cert.MemAttendReferenceIdeal.main_arg5) = m ((c.tc : Thread Cert.MemAttendReferenceIdeal.nD Cert.MemAttendReferenceIdeal.τ).loc Cert.MemAttendReferenceIdeal.main_arg5))
      ∧ r.2.sem = fun _ => 0)

def quiescent_MemAttendReferenceIdeal_pre_mem_finite [hMemAttendReferenceIdeal : Cert.MemAttendReferenceIdeal.Facts] [hPre_mem_finite : Cert.Pre_mem_finite.Facts] : Prop :=
  ∀ (m : (ℓ : Loc Cert.MemAttendReferenceIdeal.nD Cert.MemAttendReferenceIdeal.τ Cert.MemAttendReferenceIdeal.sig) → Buf (Elt Ideal) ℓ) (g : Dev Cert.MemAttendReferenceIdeal.nD → PrngReg), Pre_MemAttendReferenceIdeal_mem_finite m →
    θ_run (Cert.MemAttendReferenceIdeal.defs (F := Ideal)) (onTc (τ := Cert.MemAttendReferenceIdeal.τ) (Cert.MemAttendReferenceIdeal.main (F := Ideal))) ⟨m, fun _ => 0, g⟩ (fun r => (∀ c : Dev Cert.MemAttendReferenceIdeal.nD,
      r.2.mem ((c.tc : Thread Cert.MemAttendReferenceIdeal.nD Cert.MemAttendReferenceIdeal.τ).loc Cert.MemAttendReferenceIdeal.main_arg0) = m ((c.tc : Thread Cert.MemAttendReferenceIdeal.nD Cert.MemAttendReferenceIdeal.τ).loc Cert.MemAttendReferenceIdeal.main_arg0)
      ∧ r.2.mem ((c.tc : Thread Cert.MemAttendReferenceIdeal.nD Cert.MemAttendReferenceIdeal.τ).loc Cert.MemAttendReferenceIdeal.main_arg1) = m ((c.tc : Thread Cert.MemAttendReferenceIdeal.nD Cert.MemAttendReferenceIdeal.τ).loc Cert.MemAttendReferenceIdeal.main_arg1)
      ∧ r.2.mem ((c.tc : Thread Cert.MemAttendReferenceIdeal.nD Cert.MemAttendReferenceIdeal.τ).loc Cert.MemAttendReferenceIdeal.main_arg2) = m ((c.tc : Thread Cert.MemAttendReferenceIdeal.nD Cert.MemAttendReferenceIdeal.τ).loc Cert.MemAttendReferenceIdeal.main_arg2)
      ∧ r.2.mem ((c.tc : Thread Cert.MemAttendReferenceIdeal.nD Cert.MemAttendReferenceIdeal.τ).loc Cert.MemAttendReferenceIdeal.main_arg3) = m ((c.tc : Thread Cert.MemAttendReferenceIdeal.nD Cert.MemAttendReferenceIdeal.τ).loc Cert.MemAttendReferenceIdeal.main_arg3)
      ∧ r.2.mem ((c.tc : Thread Cert.MemAttendReferenceIdeal.nD Cert.MemAttendReferenceIdeal.τ).loc Cert.MemAttendReferenceIdeal.main_arg4) = m ((c.tc : Thread Cert.MemAttendReferenceIdeal.nD Cert.MemAttendReferenceIdeal.τ).loc Cert.MemAttendReferenceIdeal.main_arg4)
      ∧ r.2.mem ((c.tc : Thread Cert.MemAttendReferenceIdeal.nD Cert.MemAttendReferenceIdeal.τ).loc Cert.MemAttendReferenceIdeal.main_arg5) = m ((c.tc : Thread Cert.MemAttendReferenceIdeal.nD Cert.MemAttendReferenceIdeal.τ).loc Cert.MemAttendReferenceIdeal.main_arg5))
      ∧ r.2.sem = fun _ => 0)

def quiescent_EvenOutput [hEvenOutput : Cert.EvenOutput.Facts] : Prop :=
  ∀ (m : (ℓ : Loc Cert.EvenOutput.nD Cert.EvenOutput.τ Cert.EvenOutput.sig) → Buf (Elt Bits) ℓ) (g : Dev Cert.EvenOutput.nD → PrngReg), Pre_EvenOutput m →
    θ_run (Cert.EvenOutput.defs (F := Bits)) (onTc (τ := Cert.EvenOutput.τ) (Cert.EvenOutput.main (F := Bits))) ⟨m, fun _ => 0, g⟩ (fun r => (∀ c : Dev Cert.EvenOutput.nD,
      r.2.mem ((c.tc : Thread Cert.EvenOutput.nD Cert.EvenOutput.τ).loc Cert.EvenOutput.main_arg0) = m ((c.tc : Thread Cert.EvenOutput.nD Cert.EvenOutput.τ).loc Cert.EvenOutput.main_arg0)
      ∧ r.2.mem ((c.tc : Thread Cert.EvenOutput.nD Cert.EvenOutput.τ).loc Cert.EvenOutput.main_arg1) = m ((c.tc : Thread Cert.EvenOutput.nD Cert.EvenOutput.τ).loc Cert.EvenOutput.main_arg1)
      ∧ r.2.mem ((c.tc : Thread Cert.EvenOutput.nD Cert.EvenOutput.τ).loc Cert.EvenOutput.main_arg2) = m ((c.tc : Thread Cert.EvenOutput.nD Cert.EvenOutput.τ).loc Cert.EvenOutput.main_arg2)
      ∧ r.2.mem ((c.tc : Thread Cert.EvenOutput.nD Cert.EvenOutput.τ).loc Cert.EvenOutput.main_arg3) = m ((c.tc : Thread Cert.EvenOutput.nD Cert.EvenOutput.τ).loc Cert.EvenOutput.main_arg3)
      ∧ r.2.mem ((c.tc : Thread Cert.EvenOutput.nD Cert.EvenOutput.τ).loc Cert.EvenOutput.main_arg4) = m ((c.tc : Thread Cert.EvenOutput.nD Cert.EvenOutput.τ).loc Cert.EvenOutput.main_arg4))
      ∧ r.2.sem = fun _ => 0)

def quiescent_EvenOutputIdeal [hEvenOutputIdeal : Cert.EvenOutputIdeal.Facts] : Prop :=
  ∀ (m : (ℓ : Loc Cert.EvenOutputIdeal.nD Cert.EvenOutputIdeal.τ Cert.EvenOutputIdeal.sig) → Buf (Elt Ideal) ℓ) (g : Dev Cert.EvenOutputIdeal.nD → PrngReg), Pre_EvenOutputIdeal m →
    θ_run (Cert.EvenOutputIdeal.defs (F := Ideal)) (onTc (τ := Cert.EvenOutputIdeal.τ) (Cert.EvenOutputIdeal.main (F := Ideal))) ⟨m, fun _ => 0, g⟩ (fun r => (∀ c : Dev Cert.EvenOutputIdeal.nD,
      r.2.mem ((c.tc : Thread Cert.EvenOutputIdeal.nD Cert.EvenOutputIdeal.τ).loc Cert.EvenOutputIdeal.main_arg0) = m ((c.tc : Thread Cert.EvenOutputIdeal.nD Cert.EvenOutputIdeal.τ).loc Cert.EvenOutputIdeal.main_arg0)
      ∧ r.2.mem ((c.tc : Thread Cert.EvenOutputIdeal.nD Cert.EvenOutputIdeal.τ).loc Cert.EvenOutputIdeal.main_arg1) = m ((c.tc : Thread Cert.EvenOutputIdeal.nD Cert.EvenOutputIdeal.τ).loc Cert.EvenOutputIdeal.main_arg1)
      ∧ r.2.mem ((c.tc : Thread Cert.EvenOutputIdeal.nD Cert.EvenOutputIdeal.τ).loc Cert.EvenOutputIdeal.main_arg2) = m ((c.tc : Thread Cert.EvenOutputIdeal.nD Cert.EvenOutputIdeal.τ).loc Cert.EvenOutputIdeal.main_arg2)
      ∧ r.2.mem ((c.tc : Thread Cert.EvenOutputIdeal.nD Cert.EvenOutputIdeal.τ).loc Cert.EvenOutputIdeal.main_arg3) = m ((c.tc : Thread Cert.EvenOutputIdeal.nD Cert.EvenOutputIdeal.τ).loc Cert.EvenOutputIdeal.main_arg3)
      ∧ r.2.mem ((c.tc : Thread Cert.EvenOutputIdeal.nD Cert.EvenOutputIdeal.τ).loc Cert.EvenOutputIdeal.main_arg4) = m ((c.tc : Thread Cert.EvenOutputIdeal.nD Cert.EvenOutputIdeal.τ).loc Cert.EvenOutputIdeal.main_arg4))
      ∧ r.2.sem = fun _ => 0)

def quiescent_EvenOutputReferenceIdeal [hEvenOutputReferenceIdeal : Cert.EvenOutputReferenceIdeal.Facts] : Prop :=
  ∀ (m : (ℓ : Loc Cert.EvenOutputReferenceIdeal.nD Cert.EvenOutputReferenceIdeal.τ Cert.EvenOutputReferenceIdeal.sig) → Buf (Elt Ideal) ℓ) (g : Dev Cert.EvenOutputReferenceIdeal.nD → PrngReg), Pre_EvenOutputReferenceIdeal m →
    θ_run (Cert.EvenOutputReferenceIdeal.defs (F := Ideal)) (onTc (τ := Cert.EvenOutputReferenceIdeal.τ) (Cert.EvenOutputReferenceIdeal.main (F := Ideal))) ⟨m, fun _ => 0, g⟩ (fun r => (∀ c : Dev Cert.EvenOutputReferenceIdeal.nD,
      r.2.mem ((c.tc : Thread Cert.EvenOutputReferenceIdeal.nD Cert.EvenOutputReferenceIdeal.τ).loc Cert.EvenOutputReferenceIdeal.main_arg0) = m ((c.tc : Thread Cert.EvenOutputReferenceIdeal.nD Cert.EvenOutputReferenceIdeal.τ).loc Cert.EvenOutputReferenceIdeal.main_arg0)
      ∧ r.2.mem ((c.tc : Thread Cert.EvenOutputReferenceIdeal.nD Cert.EvenOutputReferenceIdeal.τ).loc Cert.EvenOutputReferenceIdeal.main_arg1) = m ((c.tc : Thread Cert.EvenOutputReferenceIdeal.nD Cert.EvenOutputReferenceIdeal.τ).loc Cert.EvenOutputReferenceIdeal.main_arg1)
      ∧ r.2.mem ((c.tc : Thread Cert.EvenOutputReferenceIdeal.nD Cert.EvenOutputReferenceIdeal.τ).loc Cert.EvenOutputReferenceIdeal.main_arg2) = m ((c.tc : Thread Cert.EvenOutputReferenceIdeal.nD Cert.EvenOutputReferenceIdeal.τ).loc Cert.EvenOutputReferenceIdeal.main_arg2)
      ∧ r.2.mem ((c.tc : Thread Cert.EvenOutputReferenceIdeal.nD Cert.EvenOutputReferenceIdeal.τ).loc Cert.EvenOutputReferenceIdeal.main_arg3) = m ((c.tc : Thread Cert.EvenOutputReferenceIdeal.nD Cert.EvenOutputReferenceIdeal.τ).loc Cert.EvenOutputReferenceIdeal.main_arg3)
      ∧ r.2.mem ((c.tc : Thread Cert.EvenOutputReferenceIdeal.nD Cert.EvenOutputReferenceIdeal.τ).loc Cert.EvenOutputReferenceIdeal.main_arg4) = m ((c.tc : Thread Cert.EvenOutputReferenceIdeal.nD Cert.EvenOutputReferenceIdeal.τ).loc Cert.EvenOutputReferenceIdeal.main_arg4))
      ∧ r.2.sem = fun _ => 0)

def quiescent_OddOutput [hOddOutput : Cert.OddOutput.Facts] : Prop :=
  ∀ (m : (ℓ : Loc Cert.OddOutput.nD Cert.OddOutput.τ Cert.OddOutput.sig) → Buf (Elt Bits) ℓ) (g : Dev Cert.OddOutput.nD → PrngReg), Pre_OddOutput m →
    θ_run (Cert.OddOutput.defs (F := Bits)) (onTc (τ := Cert.OddOutput.τ) (Cert.OddOutput.main (F := Bits))) ⟨m, fun _ => 0, g⟩ (fun r => (∀ c : Dev Cert.OddOutput.nD,
      r.2.mem ((c.tc : Thread Cert.OddOutput.nD Cert.OddOutput.τ).loc Cert.OddOutput.main_arg0) = m ((c.tc : Thread Cert.OddOutput.nD Cert.OddOutput.τ).loc Cert.OddOutput.main_arg0)
      ∧ r.2.mem ((c.tc : Thread Cert.OddOutput.nD Cert.OddOutput.τ).loc Cert.OddOutput.main_arg1) = m ((c.tc : Thread Cert.OddOutput.nD Cert.OddOutput.τ).loc Cert.OddOutput.main_arg1)
      ∧ r.2.mem ((c.tc : Thread Cert.OddOutput.nD Cert.OddOutput.τ).loc Cert.OddOutput.main_arg2) = m ((c.tc : Thread Cert.OddOutput.nD Cert.OddOutput.τ).loc Cert.OddOutput.main_arg2)
      ∧ r.2.mem ((c.tc : Thread Cert.OddOutput.nD Cert.OddOutput.τ).loc Cert.OddOutput.main_arg3) = m ((c.tc : Thread Cert.OddOutput.nD Cert.OddOutput.τ).loc Cert.OddOutput.main_arg3)
      ∧ r.2.mem ((c.tc : Thread Cert.OddOutput.nD Cert.OddOutput.τ).loc Cert.OddOutput.main_arg4) = m ((c.tc : Thread Cert.OddOutput.nD Cert.OddOutput.τ).loc Cert.OddOutput.main_arg4)
      ∧ r.2.mem ((c.tc : Thread Cert.OddOutput.nD Cert.OddOutput.τ).loc Cert.OddOutput.main_arg5) = m ((c.tc : Thread Cert.OddOutput.nD Cert.OddOutput.τ).loc Cert.OddOutput.main_arg5)
      ∧ r.2.mem ((c.tc : Thread Cert.OddOutput.nD Cert.OddOutput.τ).loc Cert.OddOutput.main_arg6) = m ((c.tc : Thread Cert.OddOutput.nD Cert.OddOutput.τ).loc Cert.OddOutput.main_arg6)
      ∧ r.2.mem ((c.tc : Thread Cert.OddOutput.nD Cert.OddOutput.τ).loc Cert.OddOutput.main_arg7) = m ((c.tc : Thread Cert.OddOutput.nD Cert.OddOutput.τ).loc Cert.OddOutput.main_arg7))
      ∧ r.2.sem = fun _ => 0)

def quiescent_OddOutputIdeal [hOddOutputIdeal : Cert.OddOutputIdeal.Facts] : Prop :=
  ∀ (m : (ℓ : Loc Cert.OddOutputIdeal.nD Cert.OddOutputIdeal.τ Cert.OddOutputIdeal.sig) → Buf (Elt Ideal) ℓ) (g : Dev Cert.OddOutputIdeal.nD → PrngReg), Pre_OddOutputIdeal m →
    θ_run (Cert.OddOutputIdeal.defs (F := Ideal)) (onTc (τ := Cert.OddOutputIdeal.τ) (Cert.OddOutputIdeal.main (F := Ideal))) ⟨m, fun _ => 0, g⟩ (fun r => (∀ c : Dev Cert.OddOutputIdeal.nD,
      r.2.mem ((c.tc : Thread Cert.OddOutputIdeal.nD Cert.OddOutputIdeal.τ).loc Cert.OddOutputIdeal.main_arg0) = m ((c.tc : Thread Cert.OddOutputIdeal.nD Cert.OddOutputIdeal.τ).loc Cert.OddOutputIdeal.main_arg0)
      ∧ r.2.mem ((c.tc : Thread Cert.OddOutputIdeal.nD Cert.OddOutputIdeal.τ).loc Cert.OddOutputIdeal.main_arg1) = m ((c.tc : Thread Cert.OddOutputIdeal.nD Cert.OddOutputIdeal.τ).loc Cert.OddOutputIdeal.main_arg1)
      ∧ r.2.mem ((c.tc : Thread Cert.OddOutputIdeal.nD Cert.OddOutputIdeal.τ).loc Cert.OddOutputIdeal.main_arg2) = m ((c.tc : Thread Cert.OddOutputIdeal.nD Cert.OddOutputIdeal.τ).loc Cert.OddOutputIdeal.main_arg2)
      ∧ r.2.mem ((c.tc : Thread Cert.OddOutputIdeal.nD Cert.OddOutputIdeal.τ).loc Cert.OddOutputIdeal.main_arg3) = m ((c.tc : Thread Cert.OddOutputIdeal.nD Cert.OddOutputIdeal.τ).loc Cert.OddOutputIdeal.main_arg3)
      ∧ r.2.mem ((c.tc : Thread Cert.OddOutputIdeal.nD Cert.OddOutputIdeal.τ).loc Cert.OddOutputIdeal.main_arg4) = m ((c.tc : Thread Cert.OddOutputIdeal.nD Cert.OddOutputIdeal.τ).loc Cert.OddOutputIdeal.main_arg4)
      ∧ r.2.mem ((c.tc : Thread Cert.OddOutputIdeal.nD Cert.OddOutputIdeal.τ).loc Cert.OddOutputIdeal.main_arg5) = m ((c.tc : Thread Cert.OddOutputIdeal.nD Cert.OddOutputIdeal.τ).loc Cert.OddOutputIdeal.main_arg5)
      ∧ r.2.mem ((c.tc : Thread Cert.OddOutputIdeal.nD Cert.OddOutputIdeal.τ).loc Cert.OddOutputIdeal.main_arg6) = m ((c.tc : Thread Cert.OddOutputIdeal.nD Cert.OddOutputIdeal.τ).loc Cert.OddOutputIdeal.main_arg6)
      ∧ r.2.mem ((c.tc : Thread Cert.OddOutputIdeal.nD Cert.OddOutputIdeal.τ).loc Cert.OddOutputIdeal.main_arg7) = m ((c.tc : Thread Cert.OddOutputIdeal.nD Cert.OddOutputIdeal.τ).loc Cert.OddOutputIdeal.main_arg7))
      ∧ r.2.sem = fun _ => 0)

def quiescent_OddOutputReferenceIdeal [hOddOutputReferenceIdeal : Cert.OddOutputReferenceIdeal.Facts] : Prop :=
  ∀ (m : (ℓ : Loc Cert.OddOutputReferenceIdeal.nD Cert.OddOutputReferenceIdeal.τ Cert.OddOutputReferenceIdeal.sig) → Buf (Elt Ideal) ℓ) (g : Dev Cert.OddOutputReferenceIdeal.nD → PrngReg), Pre_OddOutputReferenceIdeal m →
    θ_run (Cert.OddOutputReferenceIdeal.defs (F := Ideal)) (onTc (τ := Cert.OddOutputReferenceIdeal.τ) (Cert.OddOutputReferenceIdeal.main (F := Ideal))) ⟨m, fun _ => 0, g⟩ (fun r => (∀ c : Dev Cert.OddOutputReferenceIdeal.nD,
      r.2.mem ((c.tc : Thread Cert.OddOutputReferenceIdeal.nD Cert.OddOutputReferenceIdeal.τ).loc Cert.OddOutputReferenceIdeal.main_arg0) = m ((c.tc : Thread Cert.OddOutputReferenceIdeal.nD Cert.OddOutputReferenceIdeal.τ).loc Cert.OddOutputReferenceIdeal.main_arg0)
      ∧ r.2.mem ((c.tc : Thread Cert.OddOutputReferenceIdeal.nD Cert.OddOutputReferenceIdeal.τ).loc Cert.OddOutputReferenceIdeal.main_arg1) = m ((c.tc : Thread Cert.OddOutputReferenceIdeal.nD Cert.OddOutputReferenceIdeal.τ).loc Cert.OddOutputReferenceIdeal.main_arg1)
      ∧ r.2.mem ((c.tc : Thread Cert.OddOutputReferenceIdeal.nD Cert.OddOutputReferenceIdeal.τ).loc Cert.OddOutputReferenceIdeal.main_arg2) = m ((c.tc : Thread Cert.OddOutputReferenceIdeal.nD Cert.OddOutputReferenceIdeal.τ).loc Cert.OddOutputReferenceIdeal.main_arg2)
      ∧ r.2.mem ((c.tc : Thread Cert.OddOutputReferenceIdeal.nD Cert.OddOutputReferenceIdeal.τ).loc Cert.OddOutputReferenceIdeal.main_arg3) = m ((c.tc : Thread Cert.OddOutputReferenceIdeal.nD Cert.OddOutputReferenceIdeal.τ).loc Cert.OddOutputReferenceIdeal.main_arg3)
      ∧ r.2.mem ((c.tc : Thread Cert.OddOutputReferenceIdeal.nD Cert.OddOutputReferenceIdeal.τ).loc Cert.OddOutputReferenceIdeal.main_arg4) = m ((c.tc : Thread Cert.OddOutputReferenceIdeal.nD Cert.OddOutputReferenceIdeal.τ).loc Cert.OddOutputReferenceIdeal.main_arg4)
      ∧ r.2.mem ((c.tc : Thread Cert.OddOutputReferenceIdeal.nD Cert.OddOutputReferenceIdeal.τ).loc Cert.OddOutputReferenceIdeal.main_arg5) = m ((c.tc : Thread Cert.OddOutputReferenceIdeal.nD Cert.OddOutputReferenceIdeal.τ).loc Cert.OddOutputReferenceIdeal.main_arg5)
      ∧ r.2.mem ((c.tc : Thread Cert.OddOutputReferenceIdeal.nD Cert.OddOutputReferenceIdeal.τ).loc Cert.OddOutputReferenceIdeal.main_arg6) = m ((c.tc : Thread Cert.OddOutputReferenceIdeal.nD Cert.OddOutputReferenceIdeal.τ).loc Cert.OddOutputReferenceIdeal.main_arg6)
      ∧ r.2.mem ((c.tc : Thread Cert.OddOutputReferenceIdeal.nD Cert.OddOutputReferenceIdeal.τ).loc Cert.OddOutputReferenceIdeal.main_arg7) = m ((c.tc : Thread Cert.OddOutputReferenceIdeal.nD Cert.OddOutputReferenceIdeal.τ).loc Cert.OddOutputReferenceIdeal.main_arg7))
      ∧ r.2.sem = fun _ => 0)

def quiescent_DilSample [hDilSample : Cert.DilSample.Facts] : Prop :=
  ∀ (m : (ℓ : Loc Cert.DilSample.nD Cert.DilSample.τ Cert.DilSample.sig) → Buf (Elt Bits) ℓ) (g : Dev Cert.DilSample.nD → PrngReg), Pre_DilSample m →
    θ_run (Cert.DilSample.defs (F := Bits)) (onTc (τ := Cert.DilSample.τ) (Cert.DilSample.main (F := Bits))) ⟨m, fun _ => 0, g⟩ (fun r => (∀ c : Dev Cert.DilSample.nD,
      r.2.mem ((c.tc : Thread Cert.DilSample.nD Cert.DilSample.τ).loc Cert.DilSample.main_arg0) = m ((c.tc : Thread Cert.DilSample.nD Cert.DilSample.τ).loc Cert.DilSample.main_arg0)
      ∧ r.2.mem ((c.tc : Thread Cert.DilSample.nD Cert.DilSample.τ).loc Cert.DilSample.main_arg1) = m ((c.tc : Thread Cert.DilSample.nD Cert.DilSample.τ).loc Cert.DilSample.main_arg1)
      ∧ r.2.mem ((c.tc : Thread Cert.DilSample.nD Cert.DilSample.τ).loc Cert.DilSample.main_arg2) = m ((c.tc : Thread Cert.DilSample.nD Cert.DilSample.τ).loc Cert.DilSample.main_arg2)
      ∧ r.2.mem ((c.tc : Thread Cert.DilSample.nD Cert.DilSample.τ).loc Cert.DilSample.main_arg3) = m ((c.tc : Thread Cert.DilSample.nD Cert.DilSample.τ).loc Cert.DilSample.main_arg3))
      ∧ r.2.sem = fun _ => 0)

def quiescent_DilSampleIdeal [hDilSampleIdeal : Cert.DilSampleIdeal.Facts] : Prop :=
  ∀ (m : (ℓ : Loc Cert.DilSampleIdeal.nD Cert.DilSampleIdeal.τ Cert.DilSampleIdeal.sig) → Buf (Elt Ideal) ℓ) (g : Dev Cert.DilSampleIdeal.nD → PrngReg), Pre_DilSampleIdeal m →
    θ_run (Cert.DilSampleIdeal.defs (F := Ideal)) (onTc (τ := Cert.DilSampleIdeal.τ) (Cert.DilSampleIdeal.main (F := Ideal))) ⟨m, fun _ => 0, g⟩ (fun r => (∀ c : Dev Cert.DilSampleIdeal.nD,
      r.2.mem ((c.tc : Thread Cert.DilSampleIdeal.nD Cert.DilSampleIdeal.τ).loc Cert.DilSampleIdeal.main_arg0) = m ((c.tc : Thread Cert.DilSampleIdeal.nD Cert.DilSampleIdeal.τ).loc Cert.DilSampleIdeal.main_arg0)
      ∧ r.2.mem ((c.tc : Thread Cert.DilSampleIdeal.nD Cert.DilSampleIdeal.τ).loc Cert.DilSampleIdeal.main_arg1) = m ((c.tc : Thread Cert.DilSampleIdeal.nD Cert.DilSampleIdeal.τ).loc Cert.DilSampleIdeal.main_arg1)
      ∧ r.2.mem ((c.tc : Thread Cert.DilSampleIdeal.nD Cert.DilSampleIdeal.τ).loc Cert.DilSampleIdeal.main_arg2) = m ((c.tc : Thread Cert.DilSampleIdeal.nD Cert.DilSampleIdeal.τ).loc Cert.DilSampleIdeal.main_arg2)
      ∧ r.2.mem ((c.tc : Thread Cert.DilSampleIdeal.nD Cert.DilSampleIdeal.τ).loc Cert.DilSampleIdeal.main_arg3) = m ((c.tc : Thread Cert.DilSampleIdeal.nD Cert.DilSampleIdeal.τ).loc Cert.DilSampleIdeal.main_arg3))
      ∧ r.2.sem = fun _ => 0)

def quiescent_DilSampleReferenceIdeal [hDilSampleReferenceIdeal : Cert.DilSampleReferenceIdeal.Facts] : Prop :=
  ∀ (m : (ℓ : Loc Cert.DilSampleReferenceIdeal.nD Cert.DilSampleReferenceIdeal.τ Cert.DilSampleReferenceIdeal.sig) → Buf (Elt Ideal) ℓ) (g : Dev Cert.DilSampleReferenceIdeal.nD → PrngReg), Pre_DilSampleReferenceIdeal m →
    θ_run (Cert.DilSampleReferenceIdeal.defs (F := Ideal)) (onTc (τ := Cert.DilSampleReferenceIdeal.τ) (Cert.DilSampleReferenceIdeal.main (F := Ideal))) ⟨m, fun _ => 0, g⟩ (fun r => (∀ c : Dev Cert.DilSampleReferenceIdeal.nD,
      r.2.mem ((c.tc : Thread Cert.DilSampleReferenceIdeal.nD Cert.DilSampleReferenceIdeal.τ).loc Cert.DilSampleReferenceIdeal.main_arg0) = m ((c.tc : Thread Cert.DilSampleReferenceIdeal.nD Cert.DilSampleReferenceIdeal.τ).loc Cert.DilSampleReferenceIdeal.main_arg0)
      ∧ r.2.mem ((c.tc : Thread Cert.DilSampleReferenceIdeal.nD Cert.DilSampleReferenceIdeal.τ).loc Cert.DilSampleReferenceIdeal.main_arg1) = m ((c.tc : Thread Cert.DilSampleReferenceIdeal.nD Cert.DilSampleReferenceIdeal.τ).loc Cert.DilSampleReferenceIdeal.main_arg1)
      ∧ r.2.mem ((c.tc : Thread Cert.DilSampleReferenceIdeal.nD Cert.DilSampleReferenceIdeal.τ).loc Cert.DilSampleReferenceIdeal.main_arg2) = m ((c.tc : Thread Cert.DilSampleReferenceIdeal.nD Cert.DilSampleReferenceIdeal.τ).loc Cert.DilSampleReferenceIdeal.main_arg2)
      ∧ r.2.mem ((c.tc : Thread Cert.DilSampleReferenceIdeal.nD Cert.DilSampleReferenceIdeal.τ).loc Cert.DilSampleReferenceIdeal.main_arg3) = m ((c.tc : Thread Cert.DilSampleReferenceIdeal.nD Cert.DilSampleReferenceIdeal.τ).loc Cert.DilSampleReferenceIdeal.main_arg3))
      ∧ r.2.sem = fun _ => 0)

def quiescent_FfnFinalSample [hFfnFinalSample : Cert.FfnFinalSample.Facts] : Prop :=
  ∀ (m : (ℓ : Loc Cert.FfnFinalSample.nD Cert.FfnFinalSample.τ Cert.FfnFinalSample.sig) → Buf (Elt Bits) ℓ) (g : Dev Cert.FfnFinalSample.nD → PrngReg), Pre_FfnFinalSample m →
    θ_run (Cert.FfnFinalSample.defs (F := Bits)) (onTc (τ := Cert.FfnFinalSample.τ) (Cert.FfnFinalSample.main (F := Bits))) ⟨m, fun _ => 0, g⟩ (fun r => (∀ c : Dev Cert.FfnFinalSample.nD,
      r.2.mem ((c.tc : Thread Cert.FfnFinalSample.nD Cert.FfnFinalSample.τ).loc Cert.FfnFinalSample.main_arg0) = m ((c.tc : Thread Cert.FfnFinalSample.nD Cert.FfnFinalSample.τ).loc Cert.FfnFinalSample.main_arg0)
      ∧ r.2.mem ((c.tc : Thread Cert.FfnFinalSample.nD Cert.FfnFinalSample.τ).loc Cert.FfnFinalSample.main_arg1) = m ((c.tc : Thread Cert.FfnFinalSample.nD Cert.FfnFinalSample.τ).loc Cert.FfnFinalSample.main_arg1)
      ∧ r.2.mem ((c.tc : Thread Cert.FfnFinalSample.nD Cert.FfnFinalSample.τ).loc Cert.FfnFinalSample.main_arg2) = m ((c.tc : Thread Cert.FfnFinalSample.nD Cert.FfnFinalSample.τ).loc Cert.FfnFinalSample.main_arg2)
      ∧ r.2.mem ((c.tc : Thread Cert.FfnFinalSample.nD Cert.FfnFinalSample.τ).loc Cert.FfnFinalSample.main_arg3) = m ((c.tc : Thread Cert.FfnFinalSample.nD Cert.FfnFinalSample.τ).loc Cert.FfnFinalSample.main_arg3)
      ∧ r.2.mem ((c.tc : Thread Cert.FfnFinalSample.nD Cert.FfnFinalSample.τ).loc Cert.FfnFinalSample.main_arg4) = m ((c.tc : Thread Cert.FfnFinalSample.nD Cert.FfnFinalSample.τ).loc Cert.FfnFinalSample.main_arg4))
      ∧ r.2.sem = fun _ => 0)

def quiescent_FfnFinalSampleIdeal [hFfnFinalSampleIdeal : Cert.FfnFinalSampleIdeal.Facts] : Prop :=
  ∀ (m : (ℓ : Loc Cert.FfnFinalSampleIdeal.nD Cert.FfnFinalSampleIdeal.τ Cert.FfnFinalSampleIdeal.sig) → Buf (Elt Ideal) ℓ) (g : Dev Cert.FfnFinalSampleIdeal.nD → PrngReg), Pre_FfnFinalSampleIdeal m →
    θ_run (Cert.FfnFinalSampleIdeal.defs (F := Ideal)) (onTc (τ := Cert.FfnFinalSampleIdeal.τ) (Cert.FfnFinalSampleIdeal.main (F := Ideal))) ⟨m, fun _ => 0, g⟩ (fun r => (∀ c : Dev Cert.FfnFinalSampleIdeal.nD,
      r.2.mem ((c.tc : Thread Cert.FfnFinalSampleIdeal.nD Cert.FfnFinalSampleIdeal.τ).loc Cert.FfnFinalSampleIdeal.main_arg0) = m ((c.tc : Thread Cert.FfnFinalSampleIdeal.nD Cert.FfnFinalSampleIdeal.τ).loc Cert.FfnFinalSampleIdeal.main_arg0)
      ∧ r.2.mem ((c.tc : Thread Cert.FfnFinalSampleIdeal.nD Cert.FfnFinalSampleIdeal.τ).loc Cert.FfnFinalSampleIdeal.main_arg1) = m ((c.tc : Thread Cert.FfnFinalSampleIdeal.nD Cert.FfnFinalSampleIdeal.τ).loc Cert.FfnFinalSampleIdeal.main_arg1)
      ∧ r.2.mem ((c.tc : Thread Cert.FfnFinalSampleIdeal.nD Cert.FfnFinalSampleIdeal.τ).loc Cert.FfnFinalSampleIdeal.main_arg2) = m ((c.tc : Thread Cert.FfnFinalSampleIdeal.nD Cert.FfnFinalSampleIdeal.τ).loc Cert.FfnFinalSampleIdeal.main_arg2)
      ∧ r.2.mem ((c.tc : Thread Cert.FfnFinalSampleIdeal.nD Cert.FfnFinalSampleIdeal.τ).loc Cert.FfnFinalSampleIdeal.main_arg3) = m ((c.tc : Thread Cert.FfnFinalSampleIdeal.nD Cert.FfnFinalSampleIdeal.τ).loc Cert.FfnFinalSampleIdeal.main_arg3)
      ∧ r.2.mem ((c.tc : Thread Cert.FfnFinalSampleIdeal.nD Cert.FfnFinalSampleIdeal.τ).loc Cert.FfnFinalSampleIdeal.main_arg4) = m ((c.tc : Thread Cert.FfnFinalSampleIdeal.nD Cert.FfnFinalSampleIdeal.τ).loc Cert.FfnFinalSampleIdeal.main_arg4))
      ∧ r.2.sem = fun _ => 0)

def quiescent_FfnFinalSampleReferenceIdeal [hFfnFinalSampleReferenceIdeal : Cert.FfnFinalSampleReferenceIdeal.Facts] : Prop :=
  ∀ (m : (ℓ : Loc Cert.FfnFinalSampleReferenceIdeal.nD Cert.FfnFinalSampleReferenceIdeal.τ Cert.FfnFinalSampleReferenceIdeal.sig) → Buf (Elt Ideal) ℓ) (g : Dev Cert.FfnFinalSampleReferenceIdeal.nD → PrngReg), Pre_FfnFinalSampleReferenceIdeal m →
    θ_run (Cert.FfnFinalSampleReferenceIdeal.defs (F := Ideal)) (onTc (τ := Cert.FfnFinalSampleReferenceIdeal.τ) (Cert.FfnFinalSampleReferenceIdeal.main (F := Ideal))) ⟨m, fun _ => 0, g⟩ (fun r => (∀ c : Dev Cert.FfnFinalSampleReferenceIdeal.nD,
      r.2.mem ((c.tc : Thread Cert.FfnFinalSampleReferenceIdeal.nD Cert.FfnFinalSampleReferenceIdeal.τ).loc Cert.FfnFinalSampleReferenceIdeal.main_arg0) = m ((c.tc : Thread Cert.FfnFinalSampleReferenceIdeal.nD Cert.FfnFinalSampleReferenceIdeal.τ).loc Cert.FfnFinalSampleReferenceIdeal.main_arg0)
      ∧ r.2.mem ((c.tc : Thread Cert.FfnFinalSampleReferenceIdeal.nD Cert.FfnFinalSampleReferenceIdeal.τ).loc Cert.FfnFinalSampleReferenceIdeal.main_arg1) = m ((c.tc : Thread Cert.FfnFinalSampleReferenceIdeal.nD Cert.FfnFinalSampleReferenceIdeal.τ).loc Cert.FfnFinalSampleReferenceIdeal.main_arg1)
      ∧ r.2.mem ((c.tc : Thread Cert.FfnFinalSampleReferenceIdeal.nD Cert.FfnFinalSampleReferenceIdeal.τ).loc Cert.FfnFinalSampleReferenceIdeal.main_arg2) = m ((c.tc : Thread Cert.FfnFinalSampleReferenceIdeal.nD Cert.FfnFinalSampleReferenceIdeal.τ).loc Cert.FfnFinalSampleReferenceIdeal.main_arg2)
      ∧ r.2.mem ((c.tc : Thread Cert.FfnFinalSampleReferenceIdeal.nD Cert.FfnFinalSampleReferenceIdeal.τ).loc Cert.FfnFinalSampleReferenceIdeal.main_arg3) = m ((c.tc : Thread Cert.FfnFinalSampleReferenceIdeal.nD Cert.FfnFinalSampleReferenceIdeal.τ).loc Cert.FfnFinalSampleReferenceIdeal.main_arg3)
      ∧ r.2.mem ((c.tc : Thread Cert.FfnFinalSampleReferenceIdeal.nD Cert.FfnFinalSampleReferenceIdeal.τ).loc Cert.FfnFinalSampleReferenceIdeal.main_arg4) = m ((c.tc : Thread Cert.FfnFinalSampleReferenceIdeal.nD Cert.FfnFinalSampleReferenceIdeal.τ).loc Cert.FfnFinalSampleReferenceIdeal.main_arg4))
      ∧ r.2.sem = fun _ => 0)

def quiescent_EvenProjectSample [hEvenProjectSample : Cert.EvenProjectSample.Facts] : Prop :=
  ∀ (m : (ℓ : Loc Cert.EvenProjectSample.nD Cert.EvenProjectSample.τ Cert.EvenProjectSample.sig) → Buf (Elt Bits) ℓ) (g : Dev Cert.EvenProjectSample.nD → PrngReg), Pre_EvenProjectSample m →
    θ_run (Cert.EvenProjectSample.defs (F := Bits)) (onTc (τ := Cert.EvenProjectSample.τ) (Cert.EvenProjectSample.main (F := Bits))) ⟨m, fun _ => 0, g⟩ (fun r => (∀ c : Dev Cert.EvenProjectSample.nD,
      r.2.mem ((c.tc : Thread Cert.EvenProjectSample.nD Cert.EvenProjectSample.τ).loc Cert.EvenProjectSample.main_arg0) = m ((c.tc : Thread Cert.EvenProjectSample.nD Cert.EvenProjectSample.τ).loc Cert.EvenProjectSample.main_arg0)
      ∧ r.2.mem ((c.tc : Thread Cert.EvenProjectSample.nD Cert.EvenProjectSample.τ).loc Cert.EvenProjectSample.main_arg1) = m ((c.tc : Thread Cert.EvenProjectSample.nD Cert.EvenProjectSample.τ).loc Cert.EvenProjectSample.main_arg1)
      ∧ r.2.mem ((c.tc : Thread Cert.EvenProjectSample.nD Cert.EvenProjectSample.τ).loc Cert.EvenProjectSample.main_arg2) = m ((c.tc : Thread Cert.EvenProjectSample.nD Cert.EvenProjectSample.τ).loc Cert.EvenProjectSample.main_arg2)
      ∧ r.2.mem ((c.tc : Thread Cert.EvenProjectSample.nD Cert.EvenProjectSample.τ).loc Cert.EvenProjectSample.main_arg3) = m ((c.tc : Thread Cert.EvenProjectSample.nD Cert.EvenProjectSample.τ).loc Cert.EvenProjectSample.main_arg3)
      ∧ r.2.mem ((c.tc : Thread Cert.EvenProjectSample.nD Cert.EvenProjectSample.τ).loc Cert.EvenProjectSample.main_arg4) = m ((c.tc : Thread Cert.EvenProjectSample.nD Cert.EvenProjectSample.τ).loc Cert.EvenProjectSample.main_arg4)
      ∧ r.2.mem ((c.tc : Thread Cert.EvenProjectSample.nD Cert.EvenProjectSample.τ).loc Cert.EvenProjectSample.main_arg5) = m ((c.tc : Thread Cert.EvenProjectSample.nD Cert.EvenProjectSample.τ).loc Cert.EvenProjectSample.main_arg5)
      ∧ r.2.mem ((c.tc : Thread Cert.EvenProjectSample.nD Cert.EvenProjectSample.τ).loc Cert.EvenProjectSample.main_arg6) = m ((c.tc : Thread Cert.EvenProjectSample.nD Cert.EvenProjectSample.τ).loc Cert.EvenProjectSample.main_arg6))
      ∧ r.2.sem = fun _ => 0)

def quiescent_EvenProjectSampleIdeal [hEvenProjectSampleIdeal : Cert.EvenProjectSampleIdeal.Facts] : Prop :=
  ∀ (m : (ℓ : Loc Cert.EvenProjectSampleIdeal.nD Cert.EvenProjectSampleIdeal.τ Cert.EvenProjectSampleIdeal.sig) → Buf (Elt Ideal) ℓ) (g : Dev Cert.EvenProjectSampleIdeal.nD → PrngReg), Pre_EvenProjectSampleIdeal m →
    θ_run (Cert.EvenProjectSampleIdeal.defs (F := Ideal)) (onTc (τ := Cert.EvenProjectSampleIdeal.τ) (Cert.EvenProjectSampleIdeal.main (F := Ideal))) ⟨m, fun _ => 0, g⟩ (fun r => (∀ c : Dev Cert.EvenProjectSampleIdeal.nD,
      r.2.mem ((c.tc : Thread Cert.EvenProjectSampleIdeal.nD Cert.EvenProjectSampleIdeal.τ).loc Cert.EvenProjectSampleIdeal.main_arg0) = m ((c.tc : Thread Cert.EvenProjectSampleIdeal.nD Cert.EvenProjectSampleIdeal.τ).loc Cert.EvenProjectSampleIdeal.main_arg0)
      ∧ r.2.mem ((c.tc : Thread Cert.EvenProjectSampleIdeal.nD Cert.EvenProjectSampleIdeal.τ).loc Cert.EvenProjectSampleIdeal.main_arg1) = m ((c.tc : Thread Cert.EvenProjectSampleIdeal.nD Cert.EvenProjectSampleIdeal.τ).loc Cert.EvenProjectSampleIdeal.main_arg1)
      ∧ r.2.mem ((c.tc : Thread Cert.EvenProjectSampleIdeal.nD Cert.EvenProjectSampleIdeal.τ).loc Cert.EvenProjectSampleIdeal.main_arg2) = m ((c.tc : Thread Cert.EvenProjectSampleIdeal.nD Cert.EvenProjectSampleIdeal.τ).loc Cert.EvenProjectSampleIdeal.main_arg2)
      ∧ r.2.mem ((c.tc : Thread Cert.EvenProjectSampleIdeal.nD Cert.EvenProjectSampleIdeal.τ).loc Cert.EvenProjectSampleIdeal.main_arg3) = m ((c.tc : Thread Cert.EvenProjectSampleIdeal.nD Cert.EvenProjectSampleIdeal.τ).loc Cert.EvenProjectSampleIdeal.main_arg3)
      ∧ r.2.mem ((c.tc : Thread Cert.EvenProjectSampleIdeal.nD Cert.EvenProjectSampleIdeal.τ).loc Cert.EvenProjectSampleIdeal.main_arg4) = m ((c.tc : Thread Cert.EvenProjectSampleIdeal.nD Cert.EvenProjectSampleIdeal.τ).loc Cert.EvenProjectSampleIdeal.main_arg4)
      ∧ r.2.mem ((c.tc : Thread Cert.EvenProjectSampleIdeal.nD Cert.EvenProjectSampleIdeal.τ).loc Cert.EvenProjectSampleIdeal.main_arg5) = m ((c.tc : Thread Cert.EvenProjectSampleIdeal.nD Cert.EvenProjectSampleIdeal.τ).loc Cert.EvenProjectSampleIdeal.main_arg5)
      ∧ r.2.mem ((c.tc : Thread Cert.EvenProjectSampleIdeal.nD Cert.EvenProjectSampleIdeal.τ).loc Cert.EvenProjectSampleIdeal.main_arg6) = m ((c.tc : Thread Cert.EvenProjectSampleIdeal.nD Cert.EvenProjectSampleIdeal.τ).loc Cert.EvenProjectSampleIdeal.main_arg6))
      ∧ r.2.sem = fun _ => 0)

def quiescent_EvenProjectSampleReferenceIdeal [hEvenProjectSampleReferenceIdeal : Cert.EvenProjectSampleReferenceIdeal.Facts] : Prop :=
  ∀ (m : (ℓ : Loc Cert.EvenProjectSampleReferenceIdeal.nD Cert.EvenProjectSampleReferenceIdeal.τ Cert.EvenProjectSampleReferenceIdeal.sig) → Buf (Elt Ideal) ℓ) (g : Dev Cert.EvenProjectSampleReferenceIdeal.nD → PrngReg), Pre_EvenProjectSampleReferenceIdeal m →
    θ_run (Cert.EvenProjectSampleReferenceIdeal.defs (F := Ideal)) (onTc (τ := Cert.EvenProjectSampleReferenceIdeal.τ) (Cert.EvenProjectSampleReferenceIdeal.main (F := Ideal))) ⟨m, fun _ => 0, g⟩ (fun r => (∀ c : Dev Cert.EvenProjectSampleReferenceIdeal.nD,
      r.2.mem ((c.tc : Thread Cert.EvenProjectSampleReferenceIdeal.nD Cert.EvenProjectSampleReferenceIdeal.τ).loc Cert.EvenProjectSampleReferenceIdeal.main_arg0) = m ((c.tc : Thread Cert.EvenProjectSampleReferenceIdeal.nD Cert.EvenProjectSampleReferenceIdeal.τ).loc Cert.EvenProjectSampleReferenceIdeal.main_arg0)
      ∧ r.2.mem ((c.tc : Thread Cert.EvenProjectSampleReferenceIdeal.nD Cert.EvenProjectSampleReferenceIdeal.τ).loc Cert.EvenProjectSampleReferenceIdeal.main_arg1) = m ((c.tc : Thread Cert.EvenProjectSampleReferenceIdeal.nD Cert.EvenProjectSampleReferenceIdeal.τ).loc Cert.EvenProjectSampleReferenceIdeal.main_arg1)
      ∧ r.2.mem ((c.tc : Thread Cert.EvenProjectSampleReferenceIdeal.nD Cert.EvenProjectSampleReferenceIdeal.τ).loc Cert.EvenProjectSampleReferenceIdeal.main_arg2) = m ((c.tc : Thread Cert.EvenProjectSampleReferenceIdeal.nD Cert.EvenProjectSampleReferenceIdeal.τ).loc Cert.EvenProjectSampleReferenceIdeal.main_arg2)
      ∧ r.2.mem ((c.tc : Thread Cert.EvenProjectSampleReferenceIdeal.nD Cert.EvenProjectSampleReferenceIdeal.τ).loc Cert.EvenProjectSampleReferenceIdeal.main_arg3) = m ((c.tc : Thread Cert.EvenProjectSampleReferenceIdeal.nD Cert.EvenProjectSampleReferenceIdeal.τ).loc Cert.EvenProjectSampleReferenceIdeal.main_arg3)
      ∧ r.2.mem ((c.tc : Thread Cert.EvenProjectSampleReferenceIdeal.nD Cert.EvenProjectSampleReferenceIdeal.τ).loc Cert.EvenProjectSampleReferenceIdeal.main_arg4) = m ((c.tc : Thread Cert.EvenProjectSampleReferenceIdeal.nD Cert.EvenProjectSampleReferenceIdeal.τ).loc Cert.EvenProjectSampleReferenceIdeal.main_arg4)
      ∧ r.2.mem ((c.tc : Thread Cert.EvenProjectSampleReferenceIdeal.nD Cert.EvenProjectSampleReferenceIdeal.τ).loc Cert.EvenProjectSampleReferenceIdeal.main_arg5) = m ((c.tc : Thread Cert.EvenProjectSampleReferenceIdeal.nD Cert.EvenProjectSampleReferenceIdeal.τ).loc Cert.EvenProjectSampleReferenceIdeal.main_arg5)
      ∧ r.2.mem ((c.tc : Thread Cert.EvenProjectSampleReferenceIdeal.nD Cert.EvenProjectSampleReferenceIdeal.τ).loc Cert.EvenProjectSampleReferenceIdeal.main_arg6) = m ((c.tc : Thread Cert.EvenProjectSampleReferenceIdeal.nD Cert.EvenProjectSampleReferenceIdeal.τ).loc Cert.EvenProjectSampleReferenceIdeal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E16C740#32 (((Real.sqrt 96)⁻¹ * (Real.log 2)⁻¹ : ℝ) : EReal)

def algebraic_KernelIdeal_ReferenceIdeal_pre_mla_finite [hKernelIdeal : Cert.KernelIdeal.Facts] [hReferenceIdeal : Cert.ReferenceIdeal.Facts] [hPre_mla_finite : Cert.Pre_mla_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mla_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_FfnFinal_FfnFinalIdeal : Prop :=
  True

def algebraic_FfnFinalIdeal_FfnFinalReferenceIdeal [hFfnFinalIdeal : Cert.FfnFinalIdeal.Facts] [hFfnFinalReferenceIdeal : Cert.FfnFinalReferenceIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalReferenceIdeal.nD Cert.FfnFinalReferenceIdeal.τ Cert.FfnFinalReferenceIdeal.sig) → Buf (Elt Ideal) ℓ) (g' : Dev Cert.FfnFinalReferenceIdeal.nD → PrngReg), Pre_FfnFinalIdeal m →
    (∀ c : Dev Cert.FfnFinalIdeal.nD,
      m' ((c.tc : Thread Cert.FfnFinalReferenceIdeal.nD Cert.FfnFinalReferenceIdeal.τ).loc Cert.FfnFinalReferenceIdeal.main_arg0) = m ((c.tc : Thread Cert.FfnFinalIdeal.nD Cert.FfnFinalIdeal.τ).loc Cert.FfnFinalIdeal.main_arg0)
      ∧ m' ((c.tc : Thread Cert.FfnFinalReferenceIdeal.nD Cert.FfnFinalReferenceIdeal.τ).loc Cert.FfnFinalReferenceIdeal.main_arg1) = m ((c.tc : Thread Cert.FfnFinalIdeal.nD Cert.FfnFinalIdeal.τ).loc Cert.FfnFinalIdeal.main_arg1)
      ∧ m' ((c.tc : Thread Cert.FfnFinalReferenceIdeal.nD Cert.FfnFinalReferenceIdeal.τ).loc Cert.FfnFinalReferenceIdeal.main_arg2) = m ((c.tc : Thread Cert.FfnFinalIdeal.nD Cert.FfnFinalIdeal.τ).loc Cert.FfnFinalIdeal.main_arg2)
      ∧ m' ((c.tc : Thread Cert.FfnFinalReferenceIdeal.nD Cert.FfnFinalReferenceIdeal.τ).loc Cert.FfnFinalReferenceIdeal.main_arg3) = m ((c.tc : Thread Cert.FfnFinalIdeal.nD Cert.FfnFinalIdeal.τ).loc Cert.FfnFinalIdeal.main_arg3)
      ∧ m' ((c.tc : Thread Cert.FfnFinalReferenceIdeal.nD Cert.FfnFinalReferenceIdeal.τ).loc Cert.FfnFinalReferenceIdeal.main_arg4) = m ((c.tc : Thread Cert.FfnFinalIdeal.nD Cert.FfnFinalIdeal.τ).loc Cert.FfnFinalIdeal.main_arg4)) →
    ∃ (v0 : (c : Dev Cert.FfnFinalIdeal.nD) → Buf (Elt Ideal) ((c.tc : Thread Cert.FfnFinalIdeal.nD Cert.FfnFinalIdeal.τ).loc Cert.FfnFinalIdeal.main_v5)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v5) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ θ_run (Cert.FfnFinalReferenceIdeal.defs (F := Ideal)) (onTc (τ := Cert.FfnFinalReferenceIdeal.τ) (Cert.FfnFinalReferenceIdeal.main (F := Ideal))) ⟨m', fun _ => 0, g'⟩ (fun r => ∀ c : Dev Cert.FfnFinalReferenceIdeal.nD,
          r.2.mem ((c.tc : Thread Cert.FfnFinalReferenceIdeal.nD Cert.FfnFinalReferenceIdeal.τ).loc Cert.FfnFinalReferenceIdeal.main_v35) = v0 c
          ∧ r.2.mem ((c.tc : Thread Cert.FfnFinalReferenceIdeal.nD Cert.FfnFinalReferenceIdeal.τ).loc Cert.FfnFinalReferenceIdeal.main_arg0) = m' ((c.tc : Thread Cert.FfnFinalReferenceIdeal.nD Cert.FfnFinalReferenceIdeal.τ).loc Cert.FfnFinalReferenceIdeal.main_arg0)
          ∧ r.2.mem ((c.tc : Thread Cert.FfnFinalReferenceIdeal.nD Cert.FfnFinalReferenceIdeal.τ).loc Cert.FfnFinalReferenceIdeal.main_arg1) = m' ((c.tc : Thread Cert.FfnFinalReferenceIdeal.nD Cert.FfnFinalReferenceIdeal.τ).loc Cert.FfnFinalReferenceIdeal.main_arg1)
          ∧ r.2.mem ((c.tc : Thread Cert.FfnFinalReferenceIdeal.nD Cert.FfnFinalReferenceIdeal.τ).loc Cert.FfnFinalReferenceIdeal.main_arg2) = m' ((c.tc : Thread Cert.FfnFinalReferenceIdeal.nD Cert.FfnFinalReferenceIdeal.τ).loc Cert.FfnFinalReferenceIdeal.main_arg2)
          ∧ r.2.mem ((c.tc : Thread Cert.FfnFinalReferenceIdeal.nD Cert.FfnFinalReferenceIdeal.τ).loc Cert.FfnFinalReferenceIdeal.main_arg3) = m' ((c.tc : Thread Cert.FfnFinalReferenceIdeal.nD Cert.FfnFinalReferenceIdeal.τ).loc Cert.FfnFinalReferenceIdeal.main_arg3)
          ∧ r.2.mem ((c.tc : Thread Cert.FfnFinalReferenceIdeal.nD Cert.FfnFinalReferenceIdeal.τ).loc Cert.FfnFinalReferenceIdeal.main_arg4) = m' ((c.tc : Thread Cert.FfnFinalReferenceIdeal.nD Cert.FfnFinalReferenceIdeal.τ).loc Cert.FfnFinalReferenceIdeal.main_arg4))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v17) = v0 c
          ∧ r.2.mem ((c.tc : Thread Cert.MemKvReferenceIdeal.nD Cert.MemKvReferenceIdeal.τ).loc Cert.MemKvReferenceIdeal.main_v20) = v1 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_OddProject_OddProjectIdeal : Prop :=
  True

def algebraic_OddProjectIdeal_OddProjectReferenceIdeal [hOddProjectIdeal : Cert.OddProjectIdeal.Facts] [hOddProjectReferenceIdeal : Cert.OddProjectReferenceIdeal.Facts] : Prop :=
  ∀ (m : (ℓ : Loc Cert.OddProjectIdeal.nD Cert.OddProjectIdeal.τ Cert.OddProjectIdeal.sig) → Buf (Elt Ideal) ℓ) (g : Dev Cert.OddProjectIdeal.nD → PrngReg)
    (m' : (ℓ : Loc Cert.OddProjectReferenceIdeal.nD Cert.OddProjectReferenceIdeal.τ Cert.OddProjectReferenceIdeal.sig) → Buf (Elt Ideal) ℓ) (g' : Dev Cert.OddProjectReferenceIdeal.nD → PrngReg), Pre_OddProjectIdeal m →
    (∀ c : Dev Cert.OddProjectIdeal.nD,
      m' ((c.tc : Thread Cert.OddProjectReferenceIdeal.nD Cert.OddProjectReferenceIdeal.τ).loc Cert.OddProjectReferenceIdeal.main_arg0) = m ((c.tc : Thread Cert.OddProjectIdeal.nD Cert.OddProjectIdeal.τ).loc Cert.OddProjectIdeal.main_arg0)
      ∧ m' ((c.tc : Thread Cert.OddProjectReferenceIdeal.nD Cert.OddProjectReferenceIdeal.τ).loc Cert.OddProjectReferenceIdeal.main_arg1) = m ((c.tc : Thread Cert.OddProjectIdeal.nD Cert.OddProjectIdeal.τ).loc Cert.OddProjectIdeal.main_arg1)
      ∧ m' ((c.tc : Thread Cert.OddProjectReferenceIdeal.nD Cert.OddProjectReferenceIdeal.τ).loc Cert.OddProjectReferenceIdeal.main_arg2) = m ((c.tc : Thread Cert.OddProjectIdeal.nD Cert.OddProjectIdeal.τ).loc Cert.OddProjectIdeal.main_arg2)) →
    ∃ (v0 : (c : Dev Cert.OddProjectIdeal.nD) → Buf (Elt Ideal) ((c.tc : Thread Cert.OddProjectIdeal.nD Cert.OddProjectIdeal.τ).loc Cert.OddProjectIdeal.main_v27)),
      θ_run (Cert.OddProjectIdeal.defs (F := Ideal)) (onTc (τ := Cert.OddProjectIdeal.τ) (Cert.OddProjectIdeal.main (F := Ideal))) ⟨m, fun _ => 0, g⟩ (fun r => ∀ c : Dev Cert.OddProjectIdeal.nD,
          r.2.mem ((c.tc : Thread Cert.OddProjectIdeal.nD Cert.OddProjectIdeal.τ).loc Cert.OddProjectIdeal.main_v27) = v0 c
          ∧ r.2.mem ((c.tc : Thread Cert.OddProjectIdeal.nD Cert.OddProjectIdeal.τ).loc Cert.OddProjectIdeal.main_arg0) = m ((c.tc : Thread Cert.OddProjectIdeal.nD Cert.OddProjectIdeal.τ).loc Cert.OddProjectIdeal.main_arg0)
          ∧ r.2.mem ((c.tc : Thread Cert.OddProjectIdeal.nD Cert.OddProjectIdeal.τ).loc Cert.OddProjectIdeal.main_arg1) = m ((c.tc : Thread Cert.OddProjectIdeal.nD Cert.OddProjectIdeal.τ).loc Cert.OddProjectIdeal.main_arg1)
          ∧ r.2.mem ((c.tc : Thread Cert.OddProjectIdeal.nD Cert.OddProjectIdeal.τ).loc Cert.OddProjectIdeal.main_arg2) = m ((c.tc : Thread Cert.OddProjectIdeal.nD Cert.OddProjectIdeal.τ).loc Cert.OddProjectIdeal.main_arg2))
      ∧ θ_run (Cert.OddProjectReferenceIdeal.defs (F := Ideal)) (onTc (τ := Cert.OddProjectReferenceIdeal.τ) (Cert.OddProjectReferenceIdeal.main (F := Ideal))) ⟨m', fun _ => 0, g'⟩ (fun r => ∀ c : Dev Cert.OddProjectReferenceIdeal.nD,
          r.2.mem ((c.tc : Thread Cert.OddProjectReferenceIdeal.nD Cert.OddProjectReferenceIdeal.τ).loc Cert.OddProjectReferenceIdeal.main_v54) = v0 c
          ∧ r.2.mem ((c.tc : Thread Cert.OddProjectReferenceIdeal.nD Cert.OddProjectReferenceIdeal.τ).loc Cert.OddProjectReferenceIdeal.main_arg0) = m' ((c.tc : Thread Cert.OddProjectReferenceIdeal.nD Cert.OddProjectReferenceIdeal.τ).loc Cert.OddProjectReferenceIdeal.main_arg0)
          ∧ r.2.mem ((c.tc : Thread Cert.OddProjectReferenceIdeal.nD Cert.OddProjectReferenceIdeal.τ).loc Cert.OddProjectReferenceIdeal.main_arg1) = m' ((c.tc : Thread Cert.OddProjectReferenceIdeal.nD Cert.OddProjectReferenceIdeal.τ).loc Cert.OddProjectReferenceIdeal.main_arg1)
          ∧ r.2.mem ((c.tc : Thread Cert.OddProjectReferenceIdeal.nD Cert.OddProjectReferenceIdeal.τ).loc Cert.OddProjectReferenceIdeal.main_arg2) = m' ((c.tc : Thread Cert.OddProjectReferenceIdeal.nD Cert.OddProjectReferenceIdeal.τ).loc Cert.OddProjectReferenceIdeal.main_arg2))

def preserves_EvenProject_EvenProjectIdeal : Prop :=
  True

def algebraic_EvenProjectIdeal_EvenProjectReferenceIdeal [hEvenProjectIdeal : Cert.EvenProjectIdeal.Facts] [hEvenProjectReferenceIdeal : Cert.EvenProjectReferenceIdeal.Facts] : Prop :=
  ∀ (m : (ℓ : Loc Cert.EvenProjectIdeal.nD Cert.EvenProjectIdeal.τ Cert.EvenProjectIdeal.sig) → Buf (Elt Ideal) ℓ) (g : Dev Cert.EvenProjectIdeal.nD → PrngReg)
    (m' : (ℓ : Loc Cert.EvenProjectReferenceIdeal.nD Cert.EvenProjectReferenceIdeal.τ Cert.EvenProjectReferenceIdeal.sig) → Buf (Elt Ideal) ℓ) (g' : Dev Cert.EvenProjectReferenceIdeal.nD → PrngReg), Pre_EvenProjectIdeal m →
    (∀ c : Dev Cert.EvenProjectIdeal.nD,
      m' ((c.tc : Thread Cert.EvenProjectReferenceIdeal.nD Cert.EvenProjectReferenceIdeal.τ).loc Cert.EvenProjectReferenceIdeal.main_arg0) = m ((c.tc : Thread Cert.EvenProjectIdeal.nD Cert.EvenProjectIdeal.τ).loc Cert.EvenProjectIdeal.main_arg0)
      ∧ m' ((c.tc : Thread Cert.EvenProjectReferenceIdeal.nD Cert.EvenProjectReferenceIdeal.τ).loc Cert.EvenProjectReferenceIdeal.main_arg1) = m ((c.tc : Thread Cert.EvenProjectIdeal.nD Cert.EvenProjectIdeal.τ).loc Cert.EvenProjectIdeal.main_arg1)
      ∧ m' ((c.tc : Thread Cert.EvenProjectReferenceIdeal.nD Cert.EvenProjectReferenceIdeal.τ).loc Cert.EvenProjectReferenceIdeal.main_arg2) = m ((c.tc : Thread Cert.EvenProjectIdeal.nD Cert.EvenProjectIdeal.τ).loc Cert.EvenProjectIdeal.main_arg2)
      ∧ m' ((c.tc : Thread Cert.EvenProjectReferenceIdeal.nD Cert.EvenProjectReferenceIdeal.τ).loc Cert.EvenProjectReferenceIdeal.main_arg3) = m ((c.tc : Thread Cert.EvenProjectIdeal.nD Cert.EvenProjectIdeal.τ).loc Cert.EvenProjectIdeal.main_arg3)
      ∧ m' ((c.tc : Thread Cert.EvenProjectReferenceIdeal.nD Cert.EvenProjectReferenceIdeal.τ).loc Cert.EvenProjectReferenceIdeal.main_arg4) = m ((c.tc : Thread Cert.EvenProjectIdeal.nD Cert.EvenProjectIdeal.τ).loc Cert.EvenProjectIdeal.main_arg4)
      ∧ m' ((c.tc : Thread Cert.EvenProjectReferenceIdeal.nD Cert.EvenProjectReferenceIdeal.τ).loc Cert.EvenProjectReferenceIdeal.main_arg5) = m ((c.tc : Thread Cert.EvenProjectIdeal.nD Cert.EvenProjectIdeal.τ).loc Cert.EvenProjectIdeal.main_arg5)
      ∧ m' ((c.tc : Thread Cert.EvenProjectReferenceIdeal.nD Cert.EvenProjectReferenceIdeal.τ).loc Cert.EvenProjectReferenceIdeal.main_arg6) = m ((c.tc : Thread Cert.EvenProjectIdeal.nD Cert.EvenProjectIdeal.τ).loc Cert.EvenProjectIdeal.main_arg6)) →
    ∃ (v0 : (c : Dev Cert.EvenProjectIdeal.nD) → Buf (Elt Ideal) ((c.tc : Thread Cert.EvenProjectIdeal.nD Cert.EvenProjectIdeal.τ).loc Cert.EvenProjectIdeal.main_v54_0)) (v1 : (c : Dev Cert.EvenProjectIdeal.nD) → Buf (Elt Ideal) ((c.tc : Thread Cert.EvenProjectIdeal.nD Cert.EvenProjectIdeal.τ).loc Cert.EvenProjectIdeal.main_v54_1)) (v2 : (c : Dev Cert.EvenProjectIdeal.nD) → Buf (Elt Ideal) ((c.tc : Thread Cert.EvenProjectIdeal.nD Cert.EvenProjectIdeal.τ).loc Cert.EvenProjectIdeal.main_v54_2)) (v3 : (c : Dev Cert.EvenProjectIdeal.nD) → Buf (Elt Ideal) ((c.tc : Thread Cert.EvenProjectIdeal.nD Cert.EvenProjectIdeal.τ).loc Cert.EvenProjectIdeal.main_v54_3)) (v4 : (c : Dev Cert.EvenProjectIdeal.nD) → Buf (Elt Ideal) ((c.tc : Thread Cert.EvenProjectIdeal.nD Cert.EvenProjectIdeal.τ).loc Cert.EvenProjectIdeal.main_v54_4)) (v5 : (c : Dev Cert.EvenProjectIdeal.nD) → Buf (Elt Ideal) ((c.tc : Thread Cert.EvenProjectIdeal.nD Cert.EvenProjectIdeal.τ).loc Cert.EvenProjectIdeal.main_v54_5)) (v6 : (c : Dev Cert.EvenProjectIdeal.nD) → Buf (Elt Ideal) ((c.tc : Thread Cert.EvenProjectIdeal.nD Cert.EvenProjectIdeal.τ).loc Cert.EvenProjectIdeal.main_v54_6)) (v7 : (c : Dev Cert.EvenProjectIdeal.nD) → Buf (Elt Ideal) ((c.tc : Thread Cert.EvenProjectIdeal.nD Cert.EvenProjectIdeal.τ).loc Cert.EvenProjectIdeal.main_v54_7)) (v8 : (c : Dev Cert.EvenProjectIdeal.nD) → Buf (Elt Ideal) ((c.tc : Thread Cert.EvenProjectIdeal.nD Cert.EvenProjectIdeal.τ).loc Cert.EvenProjectIdeal.main_v54_8)),
      θ_run (Cert.EvenProjectIdeal.defs (F := Ideal)) (onTc (τ := Cert.EvenProjectIdeal.τ) (Cert.EvenProjectIdeal.main (F := Ideal))) ⟨m, fun _ => 0, g⟩ (fun r => ∀ c : Dev Cert.EvenProjectIdeal.nD,
          r.2.mem ((c.tc : Thread Cert.EvenProjectIdeal.nD Cert.EvenProjectIdeal.τ).loc Cert.EvenProjectIdeal.main_v54_0) = v0 c
          ∧ r.2.mem ((c.tc : Thread Cert.EvenProjectIdeal.nD Cert.EvenProjectIdeal.τ).loc Cert.EvenProjectIdeal.main_v54_1) = v1 c
          ∧ r.2.mem ((c.tc : Thread Cert.EvenProjectIdeal.nD Cert.EvenProjectIdeal.τ).loc Cert.EvenProjectIdeal.main_v54_2) = v2 c
          ∧ r.2.mem ((c.tc : Thread Cert.EvenProjectIdeal.nD Cert.EvenProjectIdeal.τ).loc Cert.EvenProjectIdeal.main_v54_3) = v3 c
          ∧ r.2.mem ((c.tc : Thread Cert.EvenProjectIdeal.nD Cert.EvenProjectIdeal.τ).loc Cert.EvenProjectIdeal.main_v54_4) = v4 c
          ∧ r.2.mem ((c.tc : Thread Cert.EvenProjectIdeal.nD Cert.EvenProjectIdeal.τ).loc Cert.EvenProjectIdeal.main_v54_5) = v5 c
          ∧ r.2.mem ((c.tc : Thread Cert.EvenProjectIdeal.nD Cert.EvenProjectIdeal.τ).loc Cert.EvenProjectIdeal.main_v54_6) = v6 c
          ∧ r.2.mem ((c.tc : Thread Cert.EvenProjectIdeal.nD Cert.EvenProjectIdeal.τ).loc Cert.EvenProjectIdeal.main_v54_7) = v7 c
          ∧ r.2.mem ((c.tc : Thread Cert.EvenProjectIdeal.nD Cert.EvenProjectIdeal.τ).loc Cert.EvenProjectIdeal.main_v54_8) = v8 c
          ∧ r.2.mem ((c.tc : Thread Cert.EvenProjectIdeal.nD Cert.EvenProjectIdeal.τ).loc Cert.EvenProjectIdeal.main_arg0) = m ((c.tc : Thread Cert.EvenProjectIdeal.nD Cert.EvenProjectIdeal.τ).loc Cert.EvenProjectIdeal.main_arg0)
          ∧ r.2.mem ((c.tc : Thread Cert.EvenProjectIdeal.nD Cert.EvenProjectIdeal.τ).loc Cert.EvenProjectIdeal.main_arg1) = m ((c.tc : Thread Cert.EvenProjectIdeal.nD Cert.EvenProjectIdeal.τ).loc Cert.EvenProjectIdeal.main_arg1)
          ∧ r.2.mem ((c.tc : Thread Cert.EvenProjectIdeal.nD Cert.EvenProjectIdeal.τ).loc Cert.EvenProjectIdeal.main_arg2) = m ((c.tc : Thread Cert.EvenProjectIdeal.nD Cert.EvenProjectIdeal.τ).loc Cert.EvenProjectIdeal.main_arg2)
          ∧ r.2.mem ((c.tc : Thread Cert.EvenProjectIdeal.nD Cert.EvenProjectIdeal.τ).loc Cert.EvenProjectIdeal.main_arg3) = m ((c.tc : Thread Cert.EvenProjectIdeal.nD Cert.EvenProjectIdeal.τ).loc Cert.EvenProjectIdeal.main_arg3)
          ∧ r.2.mem ((c.tc : Thread Cert.EvenProjectIdeal.nD Cert.EvenProjectIdeal.τ).loc Cert.EvenProjectIdeal.main_arg4) = m ((c.tc : Thread Cert.EvenProjectIdeal.nD Cert.EvenProjectIdeal.τ).loc Cert.EvenProjectIdeal.main_arg4)
          ∧ r.2.mem ((c.tc : Thread Cert.EvenProjectIdeal.nD Cert.EvenProjectIdeal.τ).loc Cert.EvenProjectIdeal.main_arg5) = m ((c.tc : Thread Cert.EvenProjectIdeal.nD Cert.EvenProjectIdeal.τ).loc Cert.EvenProjectIdeal.main_arg5)
          ∧ r.2.mem ((c.tc : Thread Cert.EvenProjectIdeal.nD Cert.EvenProjectIdeal.τ).loc Cert.EvenProjectIdeal.main_arg6) = m ((c.tc : Thread Cert.EvenProjectIdeal.nD Cert.EvenProjectIdeal.τ).loc Cert.EvenProjectIdeal.main_arg6))
      ∧ θ_run (Cert.EvenProjectReferenceIdeal.defs (F := Ideal)) (onTc (τ := Cert.EvenProjectReferenceIdeal.τ) (Cert.EvenProjectReferenceIdeal.main (F := Ideal))) ⟨m', fun _ => 0, g'⟩ (fun r => ∀ c : Dev Cert.EvenProjectReferenceIdeal.nD,
          r.2.mem ((c.tc : Thread Cert.EvenProjectReferenceIdeal.nD Cert.EvenProjectReferenceIdeal.τ).loc Cert.EvenProjectReferenceIdeal.main_v126) = v0 c
          ∧ r.2.mem ((c.tc : Thread Cert.EvenProjectReferenceIdeal.nD Cert.EvenProjectReferenceIdeal.τ).loc Cert.EvenProjectReferenceIdeal.main_v128) = v1 c
          ∧ r.2.mem ((c.tc : Thread Cert.EvenProjectReferenceIdeal.nD Cert.EvenProjectReferenceIdeal.τ).loc Cert.EvenProjectReferenceIdeal.main_v129) = v2 c
          ∧ r.2.mem ((c.tc : Thread Cert.EvenProjectReferenceIdeal.nD Cert.EvenProjectReferenceIdeal.τ).loc Cert.EvenProjectReferenceIdeal.main_v130) = v3 c
          ∧ r.2.mem ((c.tc : Thread Cert.EvenProjectReferenceIdeal.nD Cert.EvenProjectReferenceIdeal.τ).loc Cert.EvenProjectReferenceIdeal.main_v132) = v4 c
          ∧ r.2.mem ((c.tc : Thread Cert.EvenProjectReferenceIdeal.nD Cert.EvenProjectReferenceIdeal.τ).loc Cert.EvenProjectReferenceIdeal.main_v134) = v5 c
          ∧ r.2.mem ((c.tc : Thread Cert.EvenProjectReferenceIdeal.nD Cert.EvenProjectReferenceIdeal.τ).loc Cert.EvenProjectReferenceIdeal.main_v136) = v6 c
          ∧ r.2.mem ((c.tc : Thread Cert.EvenProjectReferenceIdeal.nD Cert.EvenProjectReferenceIdeal.τ).loc Cert.EvenProjectReferenceIdeal.main_v137) = v7 c
          ∧ r.2.mem ((c.tc : Thread Cert.EvenProjectReferenceIdeal.nD Cert.EvenProjectReferenceIdeal.τ).loc Cert.EvenProjectReferenceIdeal.main_v138) = v8 c
          ∧ r.2.mem ((c.tc : Thread Cert.EvenProjectReferenceIdeal.nD Cert.EvenProjectReferenceIdeal.τ).loc Cert.EvenProjectReferenceIdeal.main_arg0) = m' ((c.tc : Thread Cert.EvenProjectReferenceIdeal.nD Cert.EvenProjectReferenceIdeal.τ).loc Cert.EvenProjectReferenceIdeal.main_arg0)
          ∧ r.2.mem ((c.tc : Thread Cert.EvenProjectReferenceIdeal.nD Cert.EvenProjectReferenceIdeal.τ).loc Cert.EvenProjectReferenceIdeal.main_arg1) = m' ((c.tc : Thread Cert.EvenProjectReferenceIdeal.nD Cert.EvenProjectReferenceIdeal.τ).loc Cert.EvenProjectReferenceIdeal.main_arg1)
          ∧ r.2.mem ((c.tc : Thread Cert.EvenProjectReferenceIdeal.nD Cert.EvenProjectReferenceIdeal.τ).loc Cert.EvenProjectReferenceIdeal.main_arg2) = m' ((c.tc : Thread Cert.EvenProjectReferenceIdeal.nD Cert.EvenProjectReferenceIdeal.τ).loc Cert.EvenProjectReferenceIdeal.main_arg2)
          ∧ r.2.mem ((c.tc : Thread Cert.EvenProjectReferenceIdeal.nD Cert.EvenProjectReferenceIdeal.τ).loc Cert.EvenProjectReferenceIdeal.main_arg3) = m' ((c.tc : Thread Cert.EvenProjectReferenceIdeal.nD Cert.EvenProjectReferenceIdeal.τ).loc Cert.EvenProjectReferenceIdeal.main_arg3)
          ∧ r.2.mem ((c.tc : Thread Cert.EvenProjectReferenceIdeal.nD Cert.EvenProjectReferenceIdeal.τ).loc Cert.EvenProjectReferenceIdeal.main_arg4) = m' ((c.tc : Thread Cert.EvenProjectReferenceIdeal.nD Cert.EvenProjectReferenceIdeal.τ).loc Cert.EvenProjectReferenceIdeal.main_arg4)
          ∧ r.2.mem ((c.tc : Thread Cert.EvenProjectReferenceIdeal.nD Cert.EvenProjectReferenceIdeal.τ).loc Cert.EvenProjectReferenceIdeal.main_arg5) = m' ((c.tc : Thread Cert.EvenProjectReferenceIdeal.nD Cert.EvenProjectReferenceIdeal.τ).loc Cert.EvenProjectReferenceIdeal.main_arg5)
          ∧ r.2.mem ((c.tc : Thread Cert.EvenProjectReferenceIdeal.nD Cert.EvenProjectReferenceIdeal.τ).loc Cert.EvenProjectReferenceIdeal.main_arg6) = m' ((c.tc : Thread Cert.EvenProjectReferenceIdeal.nD Cert.EvenProjectReferenceIdeal.τ).loc Cert.EvenProjectReferenceIdeal.main_arg6))

def preserves_MemAttend_MemAttendIdeal : Prop :=
  True

def algebraic_MemAttendIdeal_MemAttendReferenceIdeal_pre_mem_finite [hMemAttendIdeal : Cert.MemAttendIdeal.Facts] [hMemAttendReferenceIdeal : Cert.MemAttendReferenceIdeal.Facts] [hPre_mem_finite : Cert.Pre_mem_finite.Facts] : Prop :=
  ∀ (m : (ℓ : Loc Cert.MemAttendIdeal.nD Cert.MemAttendIdeal.τ Cert.MemAttendIdeal.sig) → Buf (Elt Ideal) ℓ) (g : Dev Cert.MemAttendIdeal.nD → PrngReg)
    (m' : (ℓ : Loc Cert.MemAttendReferenceIdeal.nD Cert.MemAttendReferenceIdeal.τ Cert.MemAttendReferenceIdeal.sig) → Buf (Elt Ideal) ℓ) (g' : Dev Cert.MemAttendReferenceIdeal.nD → PrngReg), Pre_MemAttendIdeal_mem_finite m →
    (∀ c : Dev Cert.MemAttendIdeal.nD,
      m' ((c.tc : Thread Cert.MemAttendReferenceIdeal.nD Cert.MemAttendReferenceIdeal.τ).loc Cert.MemAttendReferenceIdeal.main_arg0) = m ((c.tc : Thread Cert.MemAttendIdeal.nD Cert.MemAttendIdeal.τ).loc Cert.MemAttendIdeal.main_arg0)
      ∧ m' ((c.tc : Thread Cert.MemAttendReferenceIdeal.nD Cert.MemAttendReferenceIdeal.τ).loc Cert.MemAttendReferenceIdeal.main_arg1) = m ((c.tc : Thread Cert.MemAttendIdeal.nD Cert.MemAttendIdeal.τ).loc Cert.MemAttendIdeal.main_arg1)
      ∧ m' ((c.tc : Thread Cert.MemAttendReferenceIdeal.nD Cert.MemAttendReferenceIdeal.τ).loc Cert.MemAttendReferenceIdeal.main_arg2) = m ((c.tc : Thread Cert.MemAttendIdeal.nD Cert.MemAttendIdeal.τ).loc Cert.MemAttendIdeal.main_arg2)
      ∧ m' ((c.tc : Thread Cert.MemAttendReferenceIdeal.nD Cert.MemAttendReferenceIdeal.τ).loc Cert.MemAttendReferenceIdeal.main_arg3) = m ((c.tc : Thread Cert.MemAttendIdeal.nD Cert.MemAttendIdeal.τ).loc Cert.MemAttendIdeal.main_arg3)
      ∧ m' ((c.tc : Thread Cert.MemAttendReferenceIdeal.nD Cert.MemAttendReferenceIdeal.τ).loc Cert.MemAttendReferenceIdeal.main_arg4) = m ((c.tc : Thread Cert.MemAttendIdeal.nD Cert.MemAttendIdeal.τ).loc Cert.MemAttendIdeal.main_arg4)
      ∧ m' ((c.tc : Thread Cert.MemAttendReferenceIdeal.nD Cert.MemAttendReferenceIdeal.τ).loc Cert.MemAttendReferenceIdeal.main_arg5) = m ((c.tc : Thread Cert.MemAttendIdeal.nD Cert.MemAttendIdeal.τ).loc Cert.MemAttendIdeal.main_arg5)) →
    ∃ (v0 : (c : Dev Cert.MemAttendIdeal.nD) → Buf (Elt Ideal) ((c.tc : Thread Cert.MemAttendIdeal.nD Cert.MemAttendIdeal.τ).loc Cert.MemAttendIdeal.main_v5)),
      θ_run (Cert.MemAttendIdeal.defs (F := Ideal)) (onTc (τ := Cert.MemAttendIdeal.τ) (Cert.MemAttendIdeal.main (F := Ideal))) ⟨m, fun _ => 0, g⟩ (fun r => ∀ c : Dev Cert.MemAttendIdeal.nD,
          r.2.mem ((c.tc : Thread Cert.MemAttendIdeal.nD Cert.MemAttendIdeal.τ).loc Cert.MemAttendIdeal.main_v5) = v0 c
          ∧ r.2.mem ((c.tc : Thread Cert.MemAttendIdeal.nD Cert.MemAttendIdeal.τ).loc Cert.MemAttendIdeal.main_arg0) = m ((c.tc : Thread Cert.MemAttendIdeal.nD Cert.MemAttendIdeal.τ).loc Cert.MemAttendIdeal.main_arg0)
          ∧ r.2.mem ((c.tc : Thread Cert.MemAttendIdeal.nD Cert.MemAttendIdeal.τ).loc Cert.MemAttendIdeal.main_arg1) = m ((c.tc : Thread Cert.MemAttendIdeal.nD Cert.MemAttendIdeal.τ).loc Cert.MemAttendIdeal.main_arg1)
          ∧ r.2.mem ((c.tc : Thread Cert.MemAttendIdeal.nD Cert.MemAttendIdeal.τ).loc Cert.MemAttendIdeal.main_arg2) = m ((c.tc : Thread Cert.MemAttendIdeal.nD Cert.MemAttendIdeal.τ).loc Cert.MemAttendIdeal.main_arg2)
          ∧ r.2.mem ((c.tc : Thread Cert.MemAttendIdeal.nD Cert.MemAttendIdeal.τ).loc Cert.MemAttendIdeal.main_arg3) = m ((c.tc : Thread Cert.MemAttendIdeal.nD Cert.MemAttendIdeal.τ).loc Cert.MemAttendIdeal.main_arg3)
          ∧ r.2.mem ((c.tc : Thread Cert.MemAttendIdeal.nD Cert.MemAttendIdeal.τ).loc Cert.MemAttendIdeal.main_arg4) = m ((c.tc : Thread Cert.MemAttendIdeal.nD Cert.MemAttendIdeal.τ).loc Cert.MemAttendIdeal.main_arg4)
          ∧ r.2.mem ((c.tc : Thread Cert.MemAttendIdeal.nD Cert.MemAttendIdeal.τ).loc Cert.MemAttendIdeal.main_arg5) = m ((c.tc : Thread Cert.MemAttendIdeal.nD Cert.MemAttendIdeal.τ).loc Cert.MemAttendIdeal.main_arg5))
      ∧ θ_run (Cert.MemAttendReferenceIdeal.defs (F := Ideal)) (onTc (τ := Cert.MemAttendReferenceIdeal.τ) (Cert.MemAttendReferenceIdeal.main (F := Ideal))) ⟨m', fun _ => 0, g'⟩ (fun r => ∀ c : Dev Cert.MemAttendReferenceIdeal.nD,
          r.2.mem ((c.tc : Thread Cert.MemAttendReferenceIdeal.nD Cert.MemAttendReferenceIdeal.τ).loc Cert.MemAttendReferenceIdeal.main_v33) = v0 c
          ∧ r.2.mem ((c.tc : Thread Cert.MemAttendReferenceIdeal.nD Cert.MemAttendReferenceIdeal.τ).loc Cert.MemAttendReferenceIdeal.main_arg0) = m' ((c.tc : Thread Cert.MemAttendReferenceIdeal.nD Cert.MemAttendReferenceIdeal.τ).loc Cert.MemAttendReferenceIdeal.main_arg0)
          ∧ r.2.mem ((c.tc : Thread Cert.MemAttendReferenceIdeal.nD Cert.MemAttendReferenceIdeal.τ).loc Cert.MemAttendReferenceIdeal.main_arg1) = m' ((c.tc : Thread Cert.MemAttendReferenceIdeal.nD Cert.MemAttendReferenceIdeal.τ).loc Cert.MemAttendReferenceIdeal.main_arg1)
          ∧ r.2.mem ((c.tc : Thread Cert.MemAttendReferenceIdeal.nD Cert.MemAttendReferenceIdeal.τ).loc Cert.MemAttendReferenceIdeal.main_arg2) = m' ((c.tc : Thread Cert.MemAttendReferenceIdeal.nD Cert.MemAttendReferenceIdeal.τ).loc Cert.MemAttendReferenceIdeal.main_arg2)
          ∧ r.2.mem ((c.tc : Thread Cert.MemAttendReferenceIdeal.nD Cert.MemAttendReferenceIdeal.τ).loc Cert.MemAttendReferenceIdeal.main_arg3) = m' ((c.tc : Thread Cert.MemAttendReferenceIdeal.nD Cert.MemAttendReferenceIdeal.τ).loc Cert.MemAttendReferenceIdeal.main_arg3)
          ∧ r.2.mem ((c.tc : Thread Cert.MemAttendReferenceIdeal.nD Cert.MemAttendReferenceIdeal.τ).loc Cert.MemAttendReferenceIdeal.main_arg4) = m' ((c.tc : Thread Cert.MemAttendReferenceIdeal.nD Cert.MemAttendReferenceIdeal.τ).loc Cert.MemAttendReferenceIdeal.main_arg4)
          ∧ r.2.mem ((c.tc : Thread Cert.MemAttendReferenceIdeal.nD Cert.MemAttendReferenceIdeal.τ).loc Cert.MemAttendReferenceIdeal.main_arg5) = m' ((c.tc : Thread Cert.MemAttendReferenceIdeal.nD Cert.MemAttendReferenceIdeal.τ).loc Cert.MemAttendReferenceIdeal.main_arg5))

def preserves_EvenOutput_EvenOutputIdeal : Prop :=
  True

def algebraic_EvenOutputIdeal_EvenOutputReferenceIdeal [hEvenOutputIdeal : Cert.EvenOutputIdeal.Facts] [hEvenOutputReferenceIdeal : Cert.EvenOutputReferenceIdeal.Facts] : Prop :=
  ∀ (m : (ℓ : Loc Cert.EvenOutputIdeal.nD Cert.EvenOutputIdeal.τ Cert.EvenOutputIdeal.sig) → Buf (Elt Ideal) ℓ) (g : Dev Cert.EvenOutputIdeal.nD → PrngReg)
    (m' : (ℓ : Loc Cert.EvenOutputReferenceIdeal.nD Cert.EvenOutputReferenceIdeal.τ Cert.EvenOutputReferenceIdeal.sig) → Buf (Elt Ideal) ℓ) (g' : Dev Cert.EvenOutputReferenceIdeal.nD → PrngReg), Pre_EvenOutputIdeal m →
    (∀ c : Dev Cert.EvenOutputIdeal.nD,
      m' ((c.tc : Thread Cert.EvenOutputReferenceIdeal.nD Cert.EvenOutputReferenceIdeal.τ).loc Cert.EvenOutputReferenceIdeal.main_arg0) = m ((c.tc : Thread Cert.EvenOutputIdeal.nD Cert.EvenOutputIdeal.τ).loc Cert.EvenOutputIdeal.main_arg0)
      ∧ m' ((c.tc : Thread Cert.EvenOutputReferenceIdeal.nD Cert.EvenOutputReferenceIdeal.τ).loc Cert.EvenOutputReferenceIdeal.main_arg1) = m ((c.tc : Thread Cert.EvenOutputIdeal.nD Cert.EvenOutputIdeal.τ).loc Cert.EvenOutputIdeal.main_arg1)
      ∧ m' ((c.tc : Thread Cert.EvenOutputReferenceIdeal.nD Cert.EvenOutputReferenceIdeal.τ).loc Cert.EvenOutputReferenceIdeal.main_arg2) = m ((c.tc : Thread Cert.EvenOutputIdeal.nD Cert.EvenOutputIdeal.τ).loc Cert.EvenOutputIdeal.main_arg2)
      ∧ m' ((c.tc : Thread Cert.EvenOutputReferenceIdeal.nD Cert.EvenOutputReferenceIdeal.τ).loc Cert.EvenOutputReferenceIdeal.main_arg3) = m ((c.tc : Thread Cert.EvenOutputIdeal.nD Cert.EvenOutputIdeal.τ).loc Cert.EvenOutputIdeal.main_arg3)
      ∧ m' ((c.tc : Thread Cert.EvenOutputReferenceIdeal.nD Cert.EvenOutputReferenceIdeal.τ).loc Cert.EvenOutputReferenceIdeal.main_arg4) = m ((c.tc : Thread Cert.EvenOutputIdeal.nD Cert.EvenOutputIdeal.τ).loc Cert.EvenOutputIdeal.main_arg4)) →
    ∃ (v0 : (c : Dev Cert.EvenOutputIdeal.nD) → Buf (Elt Ideal) ((c.tc : Thread Cert.EvenOutputIdeal.nD Cert.EvenOutputIdeal.τ).loc Cert.EvenOutputIdeal.main_v20)),
      θ_run (Cert.EvenOutputIdeal.defs (F := Ideal)) (onTc (τ := Cert.EvenOutputIdeal.τ) (Cert.EvenOutputIdeal.main (F := Ideal))) ⟨m, fun _ => 0, g⟩ (fun r => ∀ c : Dev Cert.EvenOutputIdeal.nD,
          r.2.mem ((c.tc : Thread Cert.EvenOutputIdeal.nD Cert.EvenOutputIdeal.τ).loc Cert.EvenOutputIdeal.main_v20) = v0 c
          ∧ r.2.mem ((c.tc : Thread Cert.EvenOutputIdeal.nD Cert.EvenOutputIdeal.τ).loc Cert.EvenOutputIdeal.main_arg0) = m ((c.tc : Thread Cert.EvenOutputIdeal.nD Cert.EvenOutputIdeal.τ).loc Cert.EvenOutputIdeal.main_arg0)
          ∧ r.2.mem ((c.tc : Thread Cert.EvenOutputIdeal.nD Cert.EvenOutputIdeal.τ).loc Cert.EvenOutputIdeal.main_arg1) = m ((c.tc : Thread Cert.EvenOutputIdeal.nD Cert.EvenOutputIdeal.τ).loc Cert.EvenOutputIdeal.main_arg1)
          ∧ r.2.mem ((c.tc : Thread Cert.EvenOutputIdeal.nD Cert.EvenOutputIdeal.τ).loc Cert.EvenOutputIdeal.main_arg2) = m ((c.tc : Thread Cert.EvenOutputIdeal.nD Cert.EvenOutputIdeal.τ).loc Cert.EvenOutputIdeal.main_arg2)
          ∧ r.2.mem ((c.tc : Thread Cert.EvenOutputIdeal.nD Cert.EvenOutputIdeal.τ).loc Cert.EvenOutputIdeal.main_arg3) = m ((c.tc : Thread Cert.EvenOutputIdeal.nD Cert.EvenOutputIdeal.τ).loc Cert.EvenOutputIdeal.main_arg3)
          ∧ r.2.mem ((c.tc : Thread Cert.EvenOutputIdeal.nD Cert.EvenOutputIdeal.τ).loc Cert.EvenOutputIdeal.main_arg4) = m ((c.tc : Thread Cert.EvenOutputIdeal.nD Cert.EvenOutputIdeal.τ).loc Cert.EvenOutputIdeal.main_arg4))
      ∧ θ_run (Cert.EvenOutputReferenceIdeal.defs (F := Ideal)) (onTc (τ := Cert.EvenOutputReferenceIdeal.τ) (Cert.EvenOutputReferenceIdeal.main (F := Ideal))) ⟨m', fun _ => 0, g'⟩ (fun r => ∀ c : Dev Cert.EvenOutputReferenceIdeal.nD,
          r.2.mem ((c.tc : Thread Cert.EvenOutputReferenceIdeal.nD Cert.EvenOutputReferenceIdeal.τ).loc Cert.EvenOutputReferenceIdeal.main_v7) = v0 c
          ∧ r.2.mem ((c.tc : Thread Cert.EvenOutputReferenceIdeal.nD Cert.EvenOutputReferenceIdeal.τ).loc Cert.EvenOutputReferenceIdeal.main_arg0) = m' ((c.tc : Thread Cert.EvenOutputReferenceIdeal.nD Cert.EvenOutputReferenceIdeal.τ).loc Cert.EvenOutputReferenceIdeal.main_arg0)
          ∧ r.2.mem ((c.tc : Thread Cert.EvenOutputReferenceIdeal.nD Cert.EvenOutputReferenceIdeal.τ).loc Cert.EvenOutputReferenceIdeal.main_arg1) = m' ((c.tc : Thread Cert.EvenOutputReferenceIdeal.nD Cert.EvenOutputReferenceIdeal.τ).loc Cert.EvenOutputReferenceIdeal.main_arg1)
          ∧ r.2.mem ((c.tc : Thread Cert.EvenOutputReferenceIdeal.nD Cert.EvenOutputReferenceIdeal.τ).loc Cert.EvenOutputReferenceIdeal.main_arg2) = m' ((c.tc : Thread Cert.EvenOutputReferenceIdeal.nD Cert.EvenOutputReferenceIdeal.τ).loc Cert.EvenOutputReferenceIdeal.main_arg2)
          ∧ r.2.mem ((c.tc : Thread Cert.EvenOutputReferenceIdeal.nD Cert.EvenOutputReferenceIdeal.τ).loc Cert.EvenOutputReferenceIdeal.main_arg3) = m' ((c.tc : Thread Cert.EvenOutputReferenceIdeal.nD Cert.EvenOutputReferenceIdeal.τ).loc Cert.EvenOutputReferenceIdeal.main_arg3)
          ∧ r.2.mem ((c.tc : Thread Cert.EvenOutputReferenceIdeal.nD Cert.EvenOutputReferenceIdeal.τ).loc Cert.EvenOutputReferenceIdeal.main_arg4) = m' ((c.tc : Thread Cert.EvenOutputReferenceIdeal.nD Cert.EvenOutputReferenceIdeal.τ).loc Cert.EvenOutputReferenceIdeal.main_arg4))

def preserves_OddOutput_OddOutputIdeal : Prop :=
  True

def algebraic_OddOutputIdeal_OddOutputReferenceIdeal [hOddOutputIdeal : Cert.OddOutputIdeal.Facts] [hOddOutputReferenceIdeal : Cert.OddOutputReferenceIdeal.Facts] : Prop :=
  ∀ (m : (ℓ : Loc Cert.OddOutputIdeal.nD Cert.OddOutputIdeal.τ Cert.OddOutputIdeal.sig) → Buf (Elt Ideal) ℓ) (g : Dev Cert.OddOutputIdeal.nD → PrngReg)
    (m' : (ℓ : Loc Cert.OddOutputReferenceIdeal.nD Cert.OddOutputReferenceIdeal.τ Cert.OddOutputReferenceIdeal.sig) → Buf (Elt Ideal) ℓ) (g' : Dev Cert.OddOutputReferenceIdeal.nD → PrngReg), Pre_OddOutputIdeal m →
    (∀ c : Dev Cert.OddOutputIdeal.nD,
      m' ((c.tc : Thread Cert.OddOutputReferenceIdeal.nD Cert.OddOutputReferenceIdeal.τ).loc Cert.OddOutputReferenceIdeal.main_arg0) = m ((c.tc : Thread Cert.OddOutputIdeal.nD Cert.OddOutputIdeal.τ).loc Cert.OddOutputIdeal.main_arg0)
      ∧ m' ((c.tc : Thread Cert.OddOutputReferenceIdeal.nD Cert.OddOutputReferenceIdeal.τ).loc Cert.OddOutputReferenceIdeal.main_arg1) = m ((c.tc : Thread Cert.OddOutputIdeal.nD Cert.OddOutputIdeal.τ).loc Cert.OddOutputIdeal.main_arg1)
      ∧ m' ((c.tc : Thread Cert.OddOutputReferenceIdeal.nD Cert.OddOutputReferenceIdeal.τ).loc Cert.OddOutputReferenceIdeal.main_arg2) = m ((c.tc : Thread Cert.OddOutputIdeal.nD Cert.OddOutputIdeal.τ).loc Cert.OddOutputIdeal.main_arg2)
      ∧ m' ((c.tc : Thread Cert.OddOutputReferenceIdeal.nD Cert.OddOutputReferenceIdeal.τ).loc Cert.OddOutputReferenceIdeal.main_arg3) = m ((c.tc : Thread Cert.OddOutputIdeal.nD Cert.OddOutputIdeal.τ).loc Cert.OddOutputIdeal.main_arg3)
      ∧ m' ((c.tc : Thread Cert.OddOutputReferenceIdeal.nD Cert.OddOutputReferenceIdeal.τ).loc Cert.OddOutputReferenceIdeal.main_arg4) = m ((c.tc : Thread Cert.OddOutputIdeal.nD Cert.OddOutputIdeal.τ).loc Cert.OddOutputIdeal.main_arg4)
      ∧ m' ((c.tc : Thread Cert.OddOutputReferenceIdeal.nD Cert.OddOutputReferenceIdeal.τ).loc Cert.OddOutputReferenceIdeal.main_arg5) = m ((c.tc : Thread Cert.OddOutputIdeal.nD Cert.OddOutputIdeal.τ).loc Cert.OddOutputIdeal.main_arg5)
      ∧ m' ((c.tc : Thread Cert.OddOutputReferenceIdeal.nD Cert.OddOutputReferenceIdeal.τ).loc Cert.OddOutputReferenceIdeal.main_arg6) = m ((c.tc : Thread Cert.OddOutputIdeal.nD Cert.OddOutputIdeal.τ).loc Cert.OddOutputIdeal.main_arg6)
      ∧ m' ((c.tc : Thread Cert.OddOutputReferenceIdeal.nD Cert.OddOutputReferenceIdeal.τ).loc Cert.OddOutputReferenceIdeal.main_arg7) = m ((c.tc : Thread Cert.OddOutputIdeal.nD Cert.OddOutputIdeal.τ).loc Cert.OddOutputIdeal.main_arg7)) →
    ∃ (v0 : (c : Dev Cert.OddOutputIdeal.nD) → Buf (Elt Ideal) ((c.tc : Thread Cert.OddOutputIdeal.nD Cert.OddOutputIdeal.τ).loc Cert.OddOutputIdeal.main_v20)),
      θ_run (Cert.OddOutputIdeal.defs (F := Ideal)) (onTc (τ := Cert.OddOutputIdeal.τ) (Cert.OddOutputIdeal.main (F := Ideal))) ⟨m, fun _ => 0, g⟩ (fun r => ∀ c : Dev Cert.OddOutputIdeal.nD,
          r.2.mem ((c.tc : Thread Cert.OddOutputIdeal.nD Cert.OddOutputIdeal.τ).loc Cert.OddOutputIdeal.main_v20) = v0 c
          ∧ r.2.mem ((c.tc : Thread Cert.OddOutputIdeal.nD Cert.OddOutputIdeal.τ).loc Cert.OddOutputIdeal.main_arg0) = m ((c.tc : Thread Cert.OddOutputIdeal.nD Cert.OddOutputIdeal.τ).loc Cert.OddOutputIdeal.main_arg0)
          ∧ r.2.mem ((c.tc : Thread Cert.OddOutputIdeal.nD Cert.OddOutputIdeal.τ).loc Cert.OddOutputIdeal.main_arg1) = m ((c.tc : Thread Cert.OddOutputIdeal.nD Cert.OddOutputIdeal.τ).loc Cert.OddOutputIdeal.main_arg1)
          ∧ r.2.mem ((c.tc : Thread Cert.OddOutputIdeal.nD Cert.OddOutputIdeal.τ).loc Cert.OddOutputIdeal.main_arg2) = m ((c.tc : Thread Cert.OddOutputIdeal.nD Cert.OddOutputIdeal.τ).loc Cert.OddOutputIdeal.main_arg2)
          ∧ r.2.mem ((c.tc : Thread Cert.OddOutputIdeal.nD Cert.OddOutputIdeal.τ).loc Cert.OddOutputIdeal.main_arg3) = m ((c.tc : Thread Cert.OddOutputIdeal.nD Cert.OddOutputIdeal.τ).loc Cert.OddOutputIdeal.main_arg3)
          ∧ r.2.mem ((c.tc : Thread Cert.OddOutputIdeal.nD Cert.OddOutputIdeal.τ).loc Cert.OddOutputIdeal.main_arg4) = m ((c.tc : Thread Cert.OddOutputIdeal.nD Cert.OddOutputIdeal.τ).loc Cert.OddOutputIdeal.main_arg4)
          ∧ r.2.mem ((c.tc : Thread Cert.OddOutputIdeal.nD Cert.OddOutputIdeal.τ).loc Cert.OddOutputIdeal.main_arg5) = m ((c.tc : Thread Cert.OddOutputIdeal.nD Cert.OddOutputIdeal.τ).loc Cert.OddOutputIdeal.main_arg5)
          ∧ r.2.mem ((c.tc : Thread Cert.OddOutputIdeal.nD Cert.OddOutputIdeal.τ).loc Cert.OddOutputIdeal.main_arg6) = m ((c.tc : Thread Cert.OddOutputIdeal.nD Cert.OddOutputIdeal.τ).loc Cert.OddOutputIdeal.main_arg6)
          ∧ r.2.mem ((c.tc : Thread Cert.OddOutputIdeal.nD Cert.OddOutputIdeal.τ).loc Cert.OddOutputIdeal.main_arg7) = m ((c.tc : Thread Cert.OddOutputIdeal.nD Cert.OddOutputIdeal.τ).loc Cert.OddOutputIdeal.main_arg7))
      ∧ θ_run (Cert.OddOutputReferenceIdeal.defs (F := Ideal)) (onTc (τ := Cert.OddOutputReferenceIdeal.τ) (Cert.OddOutputReferenceIdeal.main (F := Ideal))) ⟨m', fun _ => 0, g'⟩ (fun r => ∀ c : Dev Cert.OddOutputReferenceIdeal.nD,
          r.2.mem ((c.tc : Thread Cert.OddOutputReferenceIdeal.nD Cert.OddOutputReferenceIdeal.τ).loc Cert.OddOutputReferenceIdeal.main_v23) = v0 c
          ∧ r.2.mem ((c.tc : Thread Cert.OddOutputReferenceIdeal.nD Cert.OddOutputReferenceIdeal.τ).loc Cert.OddOutputReferenceIdeal.main_arg0) = m' ((c.tc : Thread Cert.OddOutputReferenceIdeal.nD Cert.OddOutputReferenceIdeal.τ).loc Cert.OddOutputReferenceIdeal.main_arg0)
          ∧ r.2.mem ((c.tc : Thread Cert.OddOutputReferenceIdeal.nD Cert.OddOutputReferenceIdeal.τ).loc Cert.OddOutputReferenceIdeal.main_arg1) = m' ((c.tc : Thread Cert.OddOutputReferenceIdeal.nD Cert.OddOutputReferenceIdeal.τ).loc Cert.OddOutputReferenceIdeal.main_arg1)
          ∧ r.2.mem ((c.tc : Thread Cert.OddOutputReferenceIdeal.nD Cert.OddOutputReferenceIdeal.τ).loc Cert.OddOutputReferenceIdeal.main_arg2) = m' ((c.tc : Thread Cert.OddOutputReferenceIdeal.nD Cert.OddOutputReferenceIdeal.τ).loc Cert.OddOutputReferenceIdeal.main_arg2)
          ∧ r.2.mem ((c.tc : Thread Cert.OddOutputReferenceIdeal.nD Cert.OddOutputReferenceIdeal.τ).loc Cert.OddOutputReferenceIdeal.main_arg3) = m' ((c.tc : Thread Cert.OddOutputReferenceIdeal.nD Cert.OddOutputReferenceIdeal.τ).loc Cert.OddOutputReferenceIdeal.main_arg3)
          ∧ r.2.mem ((c.tc : Thread Cert.OddOutputReferenceIdeal.nD Cert.OddOutputReferenceIdeal.τ).loc Cert.OddOutputReferenceIdeal.main_arg4) = m' ((c.tc : Thread Cert.OddOutputReferenceIdeal.nD Cert.OddOutputReferenceIdeal.τ).loc Cert.OddOutputReferenceIdeal.main_arg4)
          ∧ r.2.mem ((c.tc : Thread Cert.OddOutputReferenceIdeal.nD Cert.OddOutputReferenceIdeal.τ).loc Cert.OddOutputReferenceIdeal.main_arg5) = m' ((c.tc : Thread Cert.OddOutputReferenceIdeal.nD Cert.OddOutputReferenceIdeal.τ).loc Cert.OddOutputReferenceIdeal.main_arg5)
          ∧ r.2.mem ((c.tc : Thread Cert.OddOutputReferenceIdeal.nD Cert.OddOutputReferenceIdeal.τ).loc Cert.OddOutputReferenceIdeal.main_arg6) = m' ((c.tc : Thread Cert.OddOutputReferenceIdeal.nD Cert.OddOutputReferenceIdeal.τ).loc Cert.OddOutputReferenceIdeal.main_arg6)
          ∧ r.2.mem ((c.tc : Thread Cert.OddOutputReferenceIdeal.nD Cert.OddOutputReferenceIdeal.τ).loc Cert.OddOutputReferenceIdeal.main_arg7) = m' ((c.tc : Thread Cert.OddOutputReferenceIdeal.nD Cert.OddOutputReferenceIdeal.τ).loc Cert.OddOutputReferenceIdeal.main_arg7))

def preserves_DilSample_DilSampleIdeal : Prop :=
  True

def algebraic_DilSampleIdeal_DilSampleReferenceIdeal [hDilSampleIdeal : Cert.DilSampleIdeal.Facts] [hDilSampleReferenceIdeal : Cert.DilSampleReferenceIdeal.Facts] : Prop :=
  ∀ (m : (ℓ : Loc Cert.DilSampleIdeal.nD Cert.DilSampleIdeal.τ Cert.DilSampleIdeal.sig) → Buf (Elt Ideal) ℓ) (g : Dev Cert.DilSampleIdeal.nD → PrngReg)
    (m' : (ℓ : Loc Cert.DilSampleReferenceIdeal.nD Cert.DilSampleReferenceIdeal.τ Cert.DilSampleReferenceIdeal.sig) → Buf (Elt Ideal) ℓ) (g' : Dev Cert.DilSampleReferenceIdeal.nD → PrngReg), Pre_DilSampleIdeal m →
    (∀ c : Dev Cert.DilSampleIdeal.nD,
      m' ((c.tc : Thread Cert.DilSampleReferenceIdeal.nD Cert.DilSampleReferenceIdeal.τ).loc Cert.DilSampleReferenceIdeal.main_arg0) = m ((c.tc : Thread Cert.DilSampleIdeal.nD Cert.DilSampleIdeal.τ).loc Cert.DilSampleIdeal.main_arg0)
      ∧ m' ((c.tc : Thread Cert.DilSampleReferenceIdeal.nD Cert.DilSampleReferenceIdeal.τ).loc Cert.DilSampleReferenceIdeal.main_arg1) = m ((c.tc : Thread Cert.DilSampleIdeal.nD Cert.DilSampleIdeal.τ).loc Cert.DilSampleIdeal.main_arg1)
      ∧ m' ((c.tc : Thread Cert.DilSampleReferenceIdeal.nD Cert.DilSampleReferenceIdeal.τ).loc Cert.DilSampleReferenceIdeal.main_arg2) = m ((c.tc : Thread Cert.DilSampleIdeal.nD Cert.DilSampleIdeal.τ).loc Cert.DilSampleIdeal.main_arg2)
      ∧ m' ((c.tc : Thread Cert.DilSampleReferenceIdeal.nD Cert.DilSampleReferenceIdeal.τ).loc Cert.DilSampleReferenceIdeal.main_arg3) = m ((c.tc : Thread Cert.DilSampleIdeal.nD Cert.DilSampleIdeal.τ).loc Cert.DilSampleIdeal.main_arg3)) →
    ∃ (v0 : (c : Dev Cert.DilSampleIdeal.nD) → Buf (Elt Ideal) ((c.tc : Thread Cert.DilSampleIdeal.nD Cert.DilSampleIdeal.τ).loc Cert.DilSampleIdeal.main_v31_2)) (v1 : (c : Dev Cert.DilSampleIdeal.nD) → Buf (Elt Ideal) ((c.tc : Thread Cert.DilSampleIdeal.nD Cert.DilSampleIdeal.τ).loc Cert.DilSampleIdeal.main_v31_3)) (v2 : (c : Dev Cert.DilSampleIdeal.nD) → Buf (Elt Ideal) ((c.tc : Thread Cert.DilSampleIdeal.nD Cert.DilSampleIdeal.τ).loc Cert.DilSampleIdeal.main_v31_4)),
      θ_run (Cert.DilSampleIdeal.defs (F := Ideal)) (onTc (τ := Cert.DilSampleIdeal.τ) (Cert.DilSampleIdeal.main (F := Ideal))) ⟨m, fun _ => 0, g⟩ (fun r => ∀ c : Dev Cert.DilSampleIdeal.nD,
          r.2.mem ((c.tc : Thread Cert.DilSampleIdeal.nD Cert.DilSampleIdeal.τ).loc Cert.DilSampleIdeal.main_v31_2) = v0 c
          ∧ r.2.mem ((c.tc : Thread Cert.DilSampleIdeal.nD Cert.DilSampleIdeal.τ).loc Cert.DilSampleIdeal.main_v31_3) = v1 c
          ∧ r.2.mem ((c.tc : Thread Cert.DilSampleIdeal.nD Cert.DilSampleIdeal.τ).loc Cert.DilSampleIdeal.main_v31_4) = v2 c
          ∧ r.2.mem ((c.tc : Thread Cert.DilSampleIdeal.nD Cert.DilSampleIdeal.τ).loc Cert.DilSampleIdeal.main_arg0) = m ((c.tc : Thread Cert.DilSampleIdeal.nD Cert.DilSampleIdeal.τ).loc Cert.DilSampleIdeal.main_arg0)
          ∧ r.2.mem ((c.tc : Thread Cert.DilSampleIdeal.nD Cert.DilSampleIdeal.τ).loc Cert.DilSampleIdeal.main_arg1) = m ((c.tc : Thread Cert.DilSampleIdeal.nD Cert.DilSampleIdeal.τ).loc Cert.DilSampleIdeal.main_arg1)
          ∧ r.2.mem ((c.tc : Thread Cert.DilSampleIdeal.nD Cert.DilSampleIdeal.τ).loc Cert.DilSampleIdeal.main_arg2) = m ((c.tc : Thread Cert.DilSampleIdeal.nD Cert.DilSampleIdeal.τ).loc Cert.DilSampleIdeal.main_arg2)
          ∧ r.2.mem ((c.tc : Thread Cert.DilSampleIdeal.nD Cert.DilSampleIdeal.τ).loc Cert.DilSampleIdeal.main_arg3) = m ((c.tc : Thread Cert.DilSampleIdeal.nD Cert.DilSampleIdeal.τ).loc Cert.DilSampleIdeal.main_arg3))
      ∧ θ_run (Cert.DilSampleReferenceIdeal.defs (F := Ideal)) (onTc (τ := Cert.DilSampleReferenceIdeal.τ) (Cert.DilSampleReferenceIdeal.main (F := Ideal))) ⟨m', fun _ => 0, g'⟩ (fun r => ∀ c : Dev Cert.DilSampleReferenceIdeal.nD,
          r.2.mem ((c.tc : Thread Cert.DilSampleReferenceIdeal.nD Cert.DilSampleReferenceIdeal.τ).loc Cert.DilSampleReferenceIdeal.main_v9) = v0 c
          ∧ r.2.mem ((c.tc : Thread Cert.DilSampleReferenceIdeal.nD Cert.DilSampleReferenceIdeal.τ).loc Cert.DilSampleReferenceIdeal.main_v19) = v1 c
          ∧ r.2.mem ((c.tc : Thread Cert.DilSampleReferenceIdeal.nD Cert.DilSampleReferenceIdeal.τ).loc Cert.DilSampleReferenceIdeal.main_v29) = v2 c
          ∧ r.2.mem ((c.tc : Thread Cert.DilSampleReferenceIdeal.nD Cert.DilSampleReferenceIdeal.τ).loc Cert.DilSampleReferenceIdeal.main_arg0) = m' ((c.tc : Thread Cert.DilSampleReferenceIdeal.nD Cert.DilSampleReferenceIdeal.τ).loc Cert.DilSampleReferenceIdeal.main_arg0)
          ∧ r.2.mem ((c.tc : Thread Cert.DilSampleReferenceIdeal.nD Cert.DilSampleReferenceIdeal.τ).loc Cert.DilSampleReferenceIdeal.main_arg1) = m' ((c.tc : Thread Cert.DilSampleReferenceIdeal.nD Cert.DilSampleReferenceIdeal.τ).loc Cert.DilSampleReferenceIdeal.main_arg1)
          ∧ r.2.mem ((c.tc : Thread Cert.DilSampleReferenceIdeal.nD Cert.DilSampleReferenceIdeal.τ).loc Cert.DilSampleReferenceIdeal.main_arg2) = m' ((c.tc : Thread Cert.DilSampleReferenceIdeal.nD Cert.DilSampleReferenceIdeal.τ).loc Cert.DilSampleReferenceIdeal.main_arg2)
          ∧ r.2.mem ((c.tc : Thread Cert.DilSampleReferenceIdeal.nD Cert.DilSampleReferenceIdeal.τ).loc Cert.DilSampleReferenceIdeal.main_arg3) = m' ((c.tc : Thread Cert.DilSampleReferenceIdeal.nD Cert.DilSampleReferenceIdeal.τ).loc Cert.DilSampleReferenceIdeal.main_arg3))

def preserves_FfnFinalSample_FfnFinalSampleIdeal : Prop :=
  True

def algebraic_FfnFinalSampleIdeal_FfnFinalSampleReferenceIdeal [hFfnFinalSampleIdeal : Cert.FfnFinalSampleIdeal.Facts] [hFfnFinalSampleReferenceIdeal : Cert.FfnFinalSampleReferenceIdeal.Facts] : Prop :=
  ∀ (m : (ℓ : Loc Cert.FfnFinalSampleIdeal.nD Cert.FfnFinalSampleIdeal.τ Cert.FfnFinalSampleIdeal.sig) → Buf (Elt Ideal) ℓ) (g : Dev Cert.FfnFinalSampleIdeal.nD → PrngReg)
    (m' : (ℓ : Loc Cert.FfnFinalSampleReferenceIdeal.nD Cert.FfnFinalSampleReferenceIdeal.τ Cert.FfnFinalSampleReferenceIdeal.sig) → Buf (Elt Ideal) ℓ) (g' : Dev Cert.FfnFinalSampleReferenceIdeal.nD → PrngReg), Pre_FfnFinalSampleIdeal m →
    (∀ c : Dev Cert.FfnFinalSampleIdeal.nD,
      m' ((c.tc : Thread Cert.FfnFinalSampleReferenceIdeal.nD Cert.FfnFinalSampleReferenceIdeal.τ).loc Cert.FfnFinalSampleReferenceIdeal.main_arg0) = m ((c.tc : Thread Cert.FfnFinalSampleIdeal.nD Cert.FfnFinalSampleIdeal.τ).loc Cert.FfnFinalSampleIdeal.main_arg0)
      ∧ m' ((c.tc : Thread Cert.FfnFinalSampleReferenceIdeal.nD Cert.FfnFinalSampleReferenceIdeal.τ).loc Cert.FfnFinalSampleReferenceIdeal.main_arg1) = m ((c.tc : Thread Cert.FfnFinalSampleIdeal.nD Cert.FfnFinalSampleIdeal.τ).loc Cert.FfnFinalSampleIdeal.main_arg1)
      ∧ m' ((c.tc : Thread Cert.FfnFinalSampleReferenceIdeal.nD Cert.FfnFinalSampleReferenceIdeal.τ).loc Cert.FfnFinalSampleReferenceIdeal.main_arg2) = m ((c.tc : Thread Cert.FfnFinalSampleIdeal.nD Cert.FfnFinalSampleIdeal.τ).loc Cert.FfnFinalSampleIdeal.main_arg2)
      ∧ m' ((c.tc : Thread Cert.FfnFinalSampleReferenceIdeal.nD Cert.FfnFinalSampleReferenceIdeal.τ).loc Cert.FfnFinalSampleReferenceIdeal.main_arg3) = m ((c.tc : Thread Cert.FfnFinalSampleIdeal.nD Cert.FfnFinalSampleIdeal.τ).loc Cert.FfnFinalSampleIdeal.main_arg3)
      ∧ m' ((c.tc : Thread Cert.FfnFinalSampleReferenceIdeal.nD Cert.FfnFinalSampleReferenceIdeal.τ).loc Cert.FfnFinalSampleReferenceIdeal.main_arg4) = m ((c.tc : Thread Cert.FfnFinalSampleIdeal.nD Cert.FfnFinalSampleIdeal.τ).loc Cert.FfnFinalSampleIdeal.main_arg4)) →
    ∃ (v0 : (c : Dev Cert.FfnFinalSampleIdeal.nD) → Buf (Elt Ideal) ((c.tc : Thread Cert.FfnFinalSampleIdeal.nD Cert.FfnFinalSampleIdeal.τ).loc Cert.FfnFinalSampleIdeal.main_v5)),
      θ_run (Cert.FfnFinalSampleIdeal.defs (F := Ideal)) (onTc (τ := Cert.FfnFinalSampleIdeal.τ) (Cert.FfnFinalSampleIdeal.main (F := Ideal))) ⟨m, fun _ => 0, g⟩ (fun r => ∀ c : Dev Cert.FfnFinalSampleIdeal.nD,
          r.2.mem ((c.tc : Thread Cert.FfnFinalSampleIdeal.nD Cert.FfnFinalSampleIdeal.τ).loc Cert.FfnFinalSampleIdeal.main_v5) = v0 c
          ∧ r.2.mem ((c.tc : Thread Cert.FfnFinalSampleIdeal.nD Cert.FfnFinalSampleIdeal.τ).loc Cert.FfnFinalSampleIdeal.main_arg0) = m ((c.tc : Thread Cert.FfnFinalSampleIdeal.nD Cert.FfnFinalSampleIdeal.τ).loc Cert.FfnFinalSampleIdeal.main_arg0)
          ∧ r.2.mem ((c.tc : Thread Cert.FfnFinalSampleIdeal.nD Cert.FfnFinalSampleIdeal.τ).loc Cert.FfnFinalSampleIdeal.main_arg1) = m ((c.tc : Thread Cert.FfnFinalSampleIdeal.nD Cert.FfnFinalSampleIdeal.τ).loc Cert.FfnFinalSampleIdeal.main_arg1)
          ∧ r.2.mem ((c.tc : Thread Cert.FfnFinalSampleIdeal.nD Cert.FfnFinalSampleIdeal.τ).loc Cert.FfnFinalSampleIdeal.main_arg2) = m ((c.tc : Thread Cert.FfnFinalSampleIdeal.nD Cert.FfnFinalSampleIdeal.τ).loc Cert.FfnFinalSampleIdeal.main_arg2)
          ∧ r.2.mem ((c.tc : Thread Cert.FfnFinalSampleIdeal.nD Cert.FfnFinalSampleIdeal.τ).loc Cert.FfnFinalSampleIdeal.main_arg3) = m ((c.tc : Thread Cert.FfnFinalSampleIdeal.nD Cert.FfnFinalSampleIdeal.τ).loc Cert.FfnFinalSampleIdeal.main_arg3)
          ∧ r.2.mem ((c.tc : Thread Cert.FfnFinalSampleIdeal.nD Cert.FfnFinalSampleIdeal.τ).loc Cert.FfnFinalSampleIdeal.main_arg4) = m ((c.tc : Thread Cert.FfnFinalSampleIdeal.nD Cert.FfnFinalSampleIdeal.τ).loc Cert.FfnFinalSampleIdeal.main_arg4))
      ∧ θ_run (Cert.FfnFinalSampleReferenceIdeal.defs (F := Ideal)) (onTc (τ := Cert.FfnFinalSampleReferenceIdeal.τ) (Cert.FfnFinalSampleReferenceIdeal.main (F := Ideal))) ⟨m', fun _ => 0, g'⟩ (fun r => ∀ c : Dev Cert.FfnFinalSampleReferenceIdeal.nD,
          r.2.mem ((c.tc : Thread Cert.FfnFinalSampleReferenceIdeal.nD Cert.FfnFinalSampleReferenceIdeal.τ).loc Cert.FfnFinalSampleReferenceIdeal.main_v35) = v0 c
          ∧ r.2.mem ((c.tc : Thread Cert.FfnFinalSampleReferenceIdeal.nD Cert.FfnFinalSampleReferenceIdeal.τ).loc Cert.FfnFinalSampleReferenceIdeal.main_arg0) = m' ((c.tc : Thread Cert.FfnFinalSampleReferenceIdeal.nD Cert.FfnFinalSampleReferenceIdeal.τ).loc Cert.FfnFinalSampleReferenceIdeal.main_arg0)
          ∧ r.2.mem ((c.tc : Thread Cert.FfnFinalSampleReferenceIdeal.nD Cert.FfnFinalSampleReferenceIdeal.τ).loc Cert.FfnFinalSampleReferenceIdeal.main_arg1) = m' ((c.tc : Thread Cert.FfnFinalSampleReferenceIdeal.nD Cert.FfnFinalSampleReferenceIdeal.τ).loc Cert.FfnFinalSampleReferenceIdeal.main_arg1)
          ∧ r.2.mem ((c.tc : Thread Cert.FfnFinalSampleReferenceIdeal.nD Cert.FfnFinalSampleReferenceIdeal.τ).loc Cert.FfnFinalSampleReferenceIdeal.main_arg2) = m' ((c.tc : Thread Cert.FfnFinalSampleReferenceIdeal.nD Cert.FfnFinalSampleReferenceIdeal.τ).loc Cert.FfnFinalSampleReferenceIdeal.main_arg2)
          ∧ r.2.mem ((c.tc : Thread Cert.FfnFinalSampleReferenceIdeal.nD Cert.FfnFinalSampleReferenceIdeal.τ).loc Cert.FfnFinalSampleReferenceIdeal.main_arg3) = m' ((c.tc : Thread Cert.FfnFinalSampleReferenceIdeal.nD Cert.FfnFinalSampleReferenceIdeal.τ).loc Cert.FfnFinalSampleReferenceIdeal.main_arg3)
          ∧ r.2.mem ((c.tc : Thread Cert.FfnFinalSampleReferenceIdeal.nD Cert.FfnFinalSampleReferenceIdeal.τ).loc Cert.FfnFinalSampleReferenceIdeal.main_arg4) = m' ((c.tc : Thread Cert.FfnFinalSampleReferenceIdeal.nD Cert.FfnFinalSampleReferenceIdeal.τ).loc Cert.FfnFinalSampleReferenceIdeal.main_arg4))

def preserves_EvenProjectSample_EvenProjectSampleIdeal : Prop :=
  True

def algebraic_EvenProjectSampleIdeal_EvenProjectSampleReferenceIdeal [hEvenProjectSampleIdeal : Cert.EvenProjectSampleIdeal.Facts] [hEvenProjectSampleReferenceIdeal : Cert.EvenProjectSampleReferenceIdeal.Facts] : Prop :=
  ∀ (m : (ℓ : Loc Cert.EvenProjectSampleIdeal.nD Cert.EvenProjectSampleIdeal.τ Cert.EvenProjectSampleIdeal.sig) → Buf (Elt Ideal) ℓ) (g : Dev Cert.EvenProjectSampleIdeal.nD → PrngReg)
    (m' : (ℓ : Loc Cert.EvenProjectSampleReferenceIdeal.nD Cert.EvenProjectSampleReferenceIdeal.τ Cert.EvenProjectSampleReferenceIdeal.sig) → Buf (Elt Ideal) ℓ) (g' : Dev Cert.EvenProjectSampleReferenceIdeal.nD → PrngReg), Pre_EvenProjectSampleIdeal m →
    (∀ c : Dev Cert.EvenProjectSampleIdeal.nD,
      m' ((c.tc : Thread Cert.EvenProjectSampleReferenceIdeal.nD Cert.EvenProjectSampleReferenceIdeal.τ).loc Cert.EvenProjectSampleReferenceIdeal.main_arg0) = m ((c.tc : Thread Cert.EvenProjectSampleIdeal.nD Cert.EvenProjectSampleIdeal.τ).loc Cert.EvenProjectSampleIdeal.main_arg0)
      ∧ m' ((c.tc : Thread Cert.EvenProjectSampleReferenceIdeal.nD Cert.EvenProjectSampleReferenceIdeal.τ).loc Cert.EvenProjectSampleReferenceIdeal.main_arg1) = m ((c.tc : Thread Cert.EvenProjectSampleIdeal.nD Cert.EvenProjectSampleIdeal.τ).loc Cert.EvenProjectSampleIdeal.main_arg1)
      ∧ m' ((c.tc : Thread Cert.EvenProjectSampleReferenceIdeal.nD Cert.EvenProjectSampleReferenceIdeal.τ).loc Cert.EvenProjectSampleReferenceIdeal.main_arg2) = m ((c.tc : Thread Cert.EvenProjectSampleIdeal.nD Cert.EvenProjectSampleIdeal.τ).loc Cert.EvenProjectSampleIdeal.main_arg2)
      ∧ m' ((c.tc : Thread Cert.EvenProjectSampleReferenceIdeal.nD Cert.EvenProjectSampleReferenceIdeal.τ).loc Cert.EvenProjectSampleReferenceIdeal.main_arg3) = m ((c.tc : Thread Cert.EvenProjectSampleIdeal.nD Cert.EvenProjectSampleIdeal.τ).loc Cert.EvenProjectSampleIdeal.main_arg3)
      ∧ m' ((c.tc : Thread Cert.EvenProjectSampleReferenceIdeal.nD Cert.EvenProjectSampleReferenceIdeal.τ).loc Cert.EvenProjectSampleReferenceIdeal.main_arg4) = m ((c.tc : Thread Cert.EvenProjectSampleIdeal.nD Cert.EvenProjectSampleIdeal.τ).loc Cert.EvenProjectSampleIdeal.main_arg4)
      ∧ m' ((c.tc : Thread Cert.EvenProjectSampleReferenceIdeal.nD Cert.EvenProjectSampleReferenceIdeal.τ).loc Cert.EvenProjectSampleReferenceIdeal.main_arg5) = m ((c.tc : Thread Cert.EvenProjectSampleIdeal.nD Cert.EvenProjectSampleIdeal.τ).loc Cert.EvenProjectSampleIdeal.main_arg5)
      ∧ m' ((c.tc : Thread Cert.EvenProjectSampleReferenceIdeal.nD Cert.EvenProjectSampleReferenceIdeal.τ).loc Cert.EvenProjectSampleReferenceIdeal.main_arg6) = m ((c.tc : Thread Cert.EvenProjectSampleIdeal.nD Cert.EvenProjectSampleIdeal.τ).loc Cert.EvenProjectSampleIdeal.main_arg6)) →
    ∃ (v0 : (c : Dev Cert.EvenProjectSampleIdeal.nD) → Buf (Elt Ideal) ((c.tc : Thread Cert.EvenProjectSampleIdeal.nD Cert.EvenProjectSampleIdeal.τ).loc Cert.EvenProjectSampleIdeal.main_v59_0)) (v1 : (c : Dev Cert.EvenProjectSampleIdeal.nD) → Buf (Elt Ideal) ((c.tc : Thread Cert.EvenProjectSampleIdeal.nD Cert.EvenProjectSampleIdeal.τ).loc Cert.EvenProjectSampleIdeal.main_v59_1)) (v2 : (c : Dev Cert.EvenProjectSampleIdeal.nD) → Buf (Elt Ideal) ((c.tc : Thread Cert.EvenProjectSampleIdeal.nD Cert.EvenProjectSampleIdeal.τ).loc Cert.EvenProjectSampleIdeal.main_v59_2)) (v3 : (c : Dev Cert.EvenProjectSampleIdeal.nD) → Buf (Elt Ideal) ((c.tc : Thread Cert.EvenProjectSampleIdeal.nD Cert.EvenProjectSampleIdeal.τ).loc Cert.EvenProjectSampleIdeal.main_v59_3)) (v4 : (c : Dev Cert.EvenProjectSampleIdeal.nD) → Buf (Elt Ideal) ((c.tc : Thread Cert.EvenProjectSampleIdeal.nD Cert.EvenProjectSampleIdeal.τ).loc Cert.EvenProjectSampleIdeal.main_v59_4)) (v5 : (c : Dev Cert.EvenProjectSampleIdeal.nD) → Buf (Elt Ideal) ((c.tc : Thread Cert.EvenProjectSampleIdeal.nD Cert.EvenProjectSampleIdeal.τ).loc Cert.EvenProjectSampleIdeal.main_v59_5)) (v6 : (c : Dev Cert.EvenProjectSampleIdeal.nD) → Buf (Elt Ideal) ((c.tc : Thread Cert.EvenProjectSampleIdeal.nD Cert.EvenProjectSampleIdeal.τ).loc Cert.EvenProjectSampleIdeal.main_v59_6)) (v7 : (c : Dev Cert.EvenProjectSampleIdeal.nD) → Buf (Elt Ideal) ((c.tc : Thread Cert.EvenProjectSampleIdeal.nD Cert.EvenProjectSampleIdeal.τ).loc Cert.EvenProjectSampleIdeal.main_v59_7)) (v8 : (c : Dev Cert.EvenProjectSampleIdeal.nD) → Buf (Elt Ideal) ((c.tc : Thread Cert.EvenProjectSampleIdeal.nD Cert.EvenProjectSampleIdeal.τ).loc Cert.EvenProjectSampleIdeal.main_v59_8)),
      θ_run (Cert.EvenProjectSampleIdeal.defs (F := Ideal)) (onTc (τ := Cert.EvenProjectSampleIdeal.τ) (Cert.EvenProjectSampleIdeal.main (F := Ideal))) ⟨m, fun _ => 0, g⟩ (fun r => ∀ c : Dev Cert.EvenProjectSampleIdeal.nD,
          r.2.mem ((c.tc : Thread Cert.EvenProjectSampleIdeal.nD Cert.EvenProjectSampleIdeal.τ).loc Cert.EvenProjectSampleIdeal.main_v59_0) = v0 c
          ∧ r.2.mem ((c.tc : Thread Cert.EvenProjectSampleIdeal.nD Cert.EvenProjectSampleIdeal.τ).loc Cert.EvenProjectSampleIdeal.main_v59_1) = v1 c
          ∧ r.2.mem ((c.tc : Thread Cert.EvenProjectSampleIdeal.nD Cert.EvenProjectSampleIdeal.τ).loc Cert.EvenProjectSampleIdeal.main_v59_2) = v2 c
          ∧ r.2.mem ((c.tc : Thread Cert.EvenProjectSampleIdeal.nD Cert.EvenProjectSampleIdeal.τ).loc Cert.EvenProjectSampleIdeal.main_v59_3) = v3 c
          ∧ r.2.mem ((c.tc : Thread Cert.EvenProjectSampleIdeal.nD Cert.EvenProjectSampleIdeal.τ).loc Cert.EvenProjectSampleIdeal.main_v59_4) = v4 c
          ∧ r.2.mem ((c.tc : Thread Cert.EvenProjectSampleIdeal.nD Cert.EvenProjectSampleIdeal.τ).loc Cert.EvenProjectSampleIdeal.main_v59_5) = v5 c
          ∧ r.2.mem ((c.tc : Thread Cert.EvenProjectSampleIdeal.nD Cert.EvenProjectSampleIdeal.τ).loc Cert.EvenProjectSampleIdeal.main_v59_6) = v6 c
          ∧ r.2.mem ((c.tc : Thread Cert.EvenProjectSampleIdeal.nD Cert.EvenProjectSampleIdeal.τ).loc Cert.EvenProjectSampleIdeal.main_v59_7) = v7 c
          ∧ r.2.mem ((c.tc : Thread Cert.EvenProjectSampleIdeal.nD Cert.EvenProjectSampleIdeal.τ).loc Cert.EvenProjectSampleIdeal.main_v59_8) = v8 c
          ∧ r.2.mem ((c.tc : Thread Cert.EvenProjectSampleIdeal.nD Cert.EvenProjectSampleIdeal.τ).loc Cert.EvenProjectSampleIdeal.main_arg0) = m ((c.tc : Thread Cert.EvenProjectSampleIdeal.nD Cert.EvenProjectSampleIdeal.τ).loc Cert.EvenProjectSampleIdeal.main_arg0)
          ∧ r.2.mem ((c.tc : Thread Cert.EvenProjectSampleIdeal.nD Cert.EvenProjectSampleIdeal.τ).loc Cert.EvenProjectSampleIdeal.main_arg1) = m ((c.tc : Thread Cert.EvenProjectSampleIdeal.nD Cert.EvenProjectSampleIdeal.τ).loc Cert.EvenProjectSampleIdeal.main_arg1)
          ∧ r.2.mem ((c.tc : Thread Cert.EvenProjectSampleIdeal.nD Cert.EvenProjectSampleIdeal.τ).loc Cert.EvenProjectSampleIdeal.main_arg2) = m ((c.tc : Thread Cert.EvenProjectSampleIdeal.nD Cert.EvenProjectSampleIdeal.τ).loc Cert.EvenProjectSampleIdeal.main_arg2)
          ∧ r.2.mem ((c.tc : Thread Cert.EvenProjectSampleIdeal.nD Cert.EvenProjectSampleIdeal.τ).loc Cert.EvenProjectSampleIdeal.main_arg3) = m ((c.tc : Thread Cert.EvenProjectSampleIdeal.nD Cert.EvenProjectSampleIdeal.τ).loc Cert.EvenProjectSampleIdeal.main_arg3)
          ∧ r.2.mem ((c.tc : Thread Cert.EvenProjectSampleIdeal.nD Cert.EvenProjectSampleIdeal.τ).loc Cert.EvenProjectSampleIdeal.main_arg4) = m ((c.tc : Thread Cert.EvenProjectSampleIdeal.nD Cert.EvenProjectSampleIdeal.τ).loc Cert.EvenProjectSampleIdeal.main_arg4)
          ∧ r.2.mem ((c.tc : Thread Cert.EvenProjectSampleIdeal.nD Cert.EvenProjectSampleIdeal.τ).loc Cert.EvenProjectSampleIdeal.main_arg5) = m ((c.tc : Thread Cert.EvenProjectSampleIdeal.nD Cert.EvenProjectSampleIdeal.τ).loc Cert.EvenProjectSampleIdeal.main_arg5)
          ∧ r.2.mem ((c.tc : Thread Cert.EvenProjectSampleIdeal.nD Cert.EvenProjectSampleIdeal.τ).loc Cert.EvenProjectSampleIdeal.main_arg6) = m ((c.tc : Thread Cert.EvenProjectSampleIdeal.nD Cert.EvenProjectSampleIdeal.τ).loc Cert.EvenProjectSampleIdeal.main_arg6))
      ∧ θ_run (Cert.EvenProjectSampleReferenceIdeal.defs (F := Ideal)) (onTc (τ := Cert.EvenProjectSampleReferenceIdeal.τ) (Cert.EvenProjectSampleReferenceIdeal.main (F := Ideal))) ⟨m', fun _ => 0, g'⟩ (fun r => ∀ c : Dev Cert.EvenProjectSampleReferenceIdeal.nD,
          r.2.mem ((c.tc : Thread Cert.EvenProjectSampleReferenceIdeal.nD Cert.EvenProjectSampleReferenceIdeal.τ).loc Cert.EvenProjectSampleReferenceIdeal.main_v128) = v0 c
          ∧ r.2.mem ((c.tc : Thread Cert.EvenProjectSampleReferenceIdeal.nD Cert.EvenProjectSampleReferenceIdeal.τ).loc Cert.EvenProjectSampleReferenceIdeal.main_v130) = v1 c
          ∧ r.2.mem ((c.tc : Thread Cert.EvenProjectSampleReferenceIdeal.nD Cert.EvenProjectSampleReferenceIdeal.τ).loc Cert.EvenProjectSampleReferenceIdeal.main_v131) = v2 c
          ∧ r.2.mem ((c.tc : Thread Cert.EvenProjectSampleReferenceIdeal.nD Cert.EvenProjectSampleReferenceIdeal.τ).loc Cert.EvenProjectSampleReferenceIdeal.main_v132) = v3 c
          ∧ r.2.mem ((c.tc : Thread Cert.EvenProjectSampleReferenceIdeal.nD Cert.EvenProjectSampleReferenceIdeal.τ).loc Cert.EvenProjectSampleReferenceIdeal.main_v134) = v4 c
          ∧ r.2.mem ((c.tc : Thread Cert.EvenProjectSampleReferenceIdeal.nD Cert.EvenProjectSampleReferenceIdeal.τ).loc Cert.EvenProjectSampleReferenceIdeal.main_v136) = v5 c
          ∧ r.2.mem ((c.tc : Thread Cert.EvenProjectSampleReferenceIdeal.nD Cert.EvenProjectSampleReferenceIdeal.τ).loc Cert.EvenProjectSampleReferenceIdeal.main_v138) = v6 c
          ∧ r.2.mem ((c.tc : Thread Cert.EvenProjectSampleReferenceIdeal.nD Cert.EvenProjectSampleReferenceIdeal.τ).loc Cert.EvenProjectSampleReferenceIdeal.main_v139) = v7 c
          ∧ r.2.mem ((c.tc : Thread Cert.EvenProjectSampleReferenceIdeal.nD Cert.EvenProjectSampleReferenceIdeal.τ).loc Cert.EvenProjectSampleReferenceIdeal.main_v140) = v8 c
          ∧ r.2.mem ((c.tc : Thread Cert.EvenProjectSampleReferenceIdeal.nD Cert.EvenProjectSampleReferenceIdeal.τ).loc Cert.EvenProjectSampleReferenceIdeal.main_arg0) = m' ((c.tc : Thread Cert.EvenProjectSampleReferenceIdeal.nD Cert.EvenProjectSampleReferenceIdeal.τ).loc Cert.EvenProjectSampleReferenceIdeal.main_arg0)
          ∧ r.2.mem ((c.tc : Thread Cert.EvenProjectSampleReferenceIdeal.nD Cert.EvenProjectSampleReferenceIdeal.τ).loc Cert.EvenProjectSampleReferenceIdeal.main_arg1) = m' ((c.tc : Thread Cert.EvenProjectSampleReferenceIdeal.nD Cert.EvenProjectSampleReferenceIdeal.τ).loc Cert.EvenProjectSampleReferenceIdeal.main_arg1)
          ∧ r.2.mem ((c.tc : Thread Cert.EvenProjectSampleReferenceIdeal.nD Cert.EvenProjectSampleReferenceIdeal.τ).loc Cert.EvenProjectSampleReferenceIdeal.main_arg2) = m' ((c.tc : Thread Cert.EvenProjectSampleReferenceIdeal.nD Cert.EvenProjectSampleReferenceIdeal.τ).loc Cert.EvenProjectSampleReferenceIdeal.main_arg2)
          ∧ r.2.mem ((c.tc : Thread Cert.EvenProjectSampleReferenceIdeal.nD Cert.EvenProjectSampleReferenceIdeal.τ).loc Cert.EvenProjectSampleReferenceIdeal.main_arg3) = m' ((c.tc : Thread Cert.EvenProjectSampleReferenceIdeal.nD Cert.EvenProjectSampleReferenceIdeal.τ).loc Cert.EvenProjectSampleReferenceIdeal.main_arg3)
          ∧ r.2.mem ((c.tc : Thread Cert.EvenProjectSampleReferenceIdeal.nD Cert.EvenProjectSampleReferenceIdeal.τ).loc Cert.EvenProjectSampleReferenceIdeal.main_arg4) = m' ((c.tc : Thread Cert.EvenProjectSampleReferenceIdeal.nD Cert.EvenProjectSampleReferenceIdeal.τ).loc Cert.EvenProjectSampleReferenceIdeal.main_arg4)
          ∧ r.2.mem ((c.tc : Thread Cert.EvenProjectSampleReferenceIdeal.nD Cert.EvenProjectSampleReferenceIdeal.τ).loc Cert.EvenProjectSampleReferenceIdeal.main_arg5) = m' ((c.tc : Thread Cert.EvenProjectSampleReferenceIdeal.nD Cert.EvenProjectSampleReferenceIdeal.τ).loc Cert.EvenProjectSampleReferenceIdeal.main_arg5)
          ∧ r.2.mem ((c.tc : Thread Cert.EvenProjectSampleReferenceIdeal.nD Cert.EvenProjectSampleReferenceIdeal.τ).loc Cert.EvenProjectSampleReferenceIdeal.main_arg6) = m' ((c.tc : Thread Cert.EvenProjectSampleReferenceIdeal.nD Cert.EvenProjectSampleReferenceIdeal.τ).loc Cert.EvenProjectSampleReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnFinal : Cert.FfnFinal.Facts) (hFfnFinalIdeal : Cert.FfnFinalIdeal.Facts) (hFfnFinalReferenceIdeal : Cert.FfnFinalReferenceIdeal.Facts) (hMemKv : Cert.MemKv.Facts) (hMemKvIdeal : Cert.MemKvIdeal.Facts) (hMemKvReferenceIdeal : Cert.MemKvReferenceIdeal.Facts) (hOddProject : Cert.OddProject.Facts) (hOddProjectIdeal : Cert.OddProjectIdeal.Facts) (hOddProjectReferenceIdeal : Cert.OddProjectReferenceIdeal.Facts) (hEvenProject : Cert.EvenProject.Facts) (hEvenProjectIdeal : Cert.EvenProjectIdeal.Facts) (hEvenProjectReferenceIdeal : Cert.EvenProjectReferenceIdeal.Facts) (hMemAttend : Cert.MemAttend.Facts) (hMemAttendIdeal : Cert.MemAttendIdeal.Facts) (hMemAttendReferenceIdeal : Cert.MemAttendReferenceIdeal.Facts) (hEvenOutput : Cert.EvenOutput.Facts) (hEvenOutputIdeal : Cert.EvenOutputIdeal.Facts) (hEvenOutputReferenceIdeal : Cert.EvenOutputReferenceIdeal.Facts) (hOddOutput : Cert.OddOutput.Facts) (hOddOutputIdeal : Cert.OddOutputIdeal.Facts) (hOddOutputReferenceIdeal : Cert.OddOutputReferenceIdeal.Facts) (hDilSample : Cert.DilSample.Facts) (hDilSampleIdeal : Cert.DilSampleIdeal.Facts) (hDilSampleReferenceIdeal : Cert.DilSampleReferenceIdeal.Facts) (hFfnFinalSample : Cert.FfnFinalSample.Facts) (hFfnFinalSampleIdeal : Cert.FfnFinalSampleIdeal.Facts) (hFfnFinalSampleReferenceIdeal : Cert.FfnFinalSampleReferenceIdeal.Facts) (hEvenProjectSample : Cert.EvenProjectSample.Facts) (hEvenProjectSampleIdeal : Cert.EvenProjectSampleIdeal.Facts) (hEvenProjectSampleReferenceIdeal : Cert.EvenProjectSampleReferenceIdeal.Facts) (hPre_mla_finite : Cert.Pre_mla_finite.Facts) (hPre_mem_finite : Cert.Pre_mem_finite.Facts),
    quiescent_Kernel (hKernel := hKernel)
    ∧ quiescent_KernelIdeal (hKernelIdeal := hKernelIdeal)
    ∧ quiescent_KernelIdeal_pre_mla_finite (hKernelIdeal := hKernelIdeal) (hPre_mla_finite := hPre_mla_finite)
    ∧ quiescent_ReferenceIdeal (hReferenceIdeal := hReferenceIdeal)
    ∧ quiescent_ReferenceIdeal_pre_mla_finite (hReferenceIdeal := hReferenceIdeal) (hPre_mla_finite := hPre_mla_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnFinal (hFfnFinal := hFfnFinal)
    ∧ quiescent_FfnFinalIdeal (hFfnFinalIdeal := hFfnFinalIdeal)
    ∧ quiescent_FfnFinalReferenceIdeal (hFfnFinalReferenceIdeal := hFfnFinalReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_OddProject (hOddProject := hOddProject)
    ∧ quiescent_OddProjectIdeal (hOddProjectIdeal := hOddProjectIdeal)
    ∧ quiescent_OddProjectReferenceIdeal (hOddProjectReferenceIdeal := hOddProjectReferenceIdeal)
    ∧ quiescent_EvenProject (hEvenProject := hEvenProject)
    ∧ quiescent_EvenProjectIdeal (hEvenProjectIdeal := hEvenProjectIdeal)
    ∧ quiescent_EvenProjectReferenceIdeal (hEvenProjectReferenceIdeal := hEvenProjectReferenceIdeal)
    ∧ quiescent_MemAttend (hMemAttend := hMemAttend)
    ∧ quiescent_MemAttendIdeal (hMemAttendIdeal := hMemAttendIdeal)
    ∧ quiescent_MemAttendIdeal_pre_mem_finite (hMemAttendIdeal := hMemAttendIdeal) (hPre_mem_finite := hPre_mem_finite)
    ∧ quiescent_MemAttendReferenceIdeal (hMemAttendReferenceIdeal := hMemAttendReferenceIdeal)
    ∧ quiescent_MemAttendReferenceIdeal_pre_mem_finite (hMemAttendReferenceIdeal := hMemAttendReferenceIdeal) (hPre_mem_finite := hPre_mem_finite)
    ∧ quiescent_EvenOutput (hEvenOutput := hEvenOutput)
    ∧ quiescent_EvenOutputIdeal (hEvenOutputIdeal := hEvenOutputIdeal)
    ∧ quiescent_EvenOutputReferenceIdeal (hEvenOutputReferenceIdeal := hEvenOutputReferenceIdeal)
    ∧ quiescent_OddOutput (hOddOutput := hOddOutput)
    ∧ quiescent_OddOutputIdeal (hOddOutputIdeal := hOddOutputIdeal)
    ∧ quiescent_OddOutputReferenceIdeal (hOddOutputReferenceIdeal := hOddOutputReferenceIdeal)
    ∧ quiescent_DilSample (hDilSample := hDilSample)
    ∧ quiescent_DilSampleIdeal (hDilSampleIdeal := hDilSampleIdeal)
    ∧ quiescent_DilSampleReferenceIdeal (hDilSampleReferenceIdeal := hDilSampleReferenceIdeal)
    ∧ quiescent_FfnFinalSample (hFfnFinalSample := hFfnFinalSample)
    ∧ quiescent_FfnFinalSampleIdeal (hFfnFinalSampleIdeal := hFfnFinalSampleIdeal)
    ∧ quiescent_FfnFinalSampleReferenceIdeal (hFfnFinalSampleReferenceIdeal := hFfnFinalSampleReferenceIdeal)
    ∧ quiescent_EvenProjectSample (hEvenProjectSample := hEvenProjectSample)
    ∧ quiescent_EvenProjectSampleIdeal (hEvenProjectSampleIdeal := hEvenProjectSampleIdeal)
    ∧ quiescent_EvenProjectSampleReferenceIdeal (hEvenProjectSampleReferenceIdeal := hEvenProjectSampleReferenceIdeal)
    ∧ preserves_Kernel_KernelIdeal
    ∧ algebraic_KernelIdeal_ReferenceIdeal_pre_mla_finite (hKernelIdeal := hKernelIdeal) (hReferenceIdeal := hReferenceIdeal) (hPre_mla_finite := hPre_mla_finite)
    ∧ preserves_Ffn_FfnIdeal
    ∧ algebraic_FfnIdeal_FfnReferenceIdeal (hFfnIdeal := hFfnIdeal) (hFfnReferenceIdeal := hFfnReferenceIdeal)
    ∧ preserves_FfnFinal_FfnFinalIdeal
    ∧ algebraic_FfnFinalIdeal_FfnFinalReferenceIdeal (hFfnFinalIdeal := hFfnFinalIdeal) (hFfnFinalReferenceIdeal := hFfnFinalReferenceIdeal)
    ∧ preserves_MemKv_MemKvIdeal
    ∧ algebraic_MemKvIdeal_MemKvReferenceIdeal (hMemKvIdeal := hMemKvIdeal) (hMemKvReferenceIdeal := hMemKvReferenceIdeal)
    ∧ preserves_OddProject_OddProjectIdeal
    ∧ algebraic_OddProjectIdeal_OddProjectReferenceIdeal (hOddProjectIdeal := hOddProjectIdeal) (hOddProjectReferenceIdeal := hOddProjectReferenceIdeal)
    ∧ preserves_EvenProject_EvenProjectIdeal
    ∧ algebraic_EvenProjectIdeal_EvenProjectReferenceIdeal (hEvenProjectIdeal := hEvenProjectIdeal) (hEvenProjectReferenceIdeal := hEvenProjectReferenceIdeal)
    ∧ preserves_MemAttend_MemAttendIdeal
    ∧ algebraic_MemAttendIdeal_MemAttendReferenceIdeal_pre_mem_finite (hMemAttendIdeal := hMemAttendIdeal) (hMemAttendReferenceIdeal := hMemAttendReferenceIdeal) (hPre_mem_finite := hPre_mem_finite)
    ∧ preserves_EvenOutput_EvenOutputIdeal
    ∧ algebraic_EvenOutputIdeal_EvenOutputReferenceIdeal (hEvenOutputIdeal := hEvenOutputIdeal) (hEvenOutputReferenceIdeal := hEvenOutputReferenceIdeal)
    ∧ preserves_OddOutput_OddOutputIdeal
    ∧ algebraic_OddOutputIdeal_OddOutputReferenceIdeal (hOddOutputIdeal := hOddOutputIdeal) (hOddOutputReferenceIdeal := hOddOutputReferenceIdeal)
    ∧ preserves_DilSample_DilSampleIdeal
    ∧ algebraic_DilSampleIdeal_DilSampleReferenceIdeal (hDilSampleIdeal := hDilSampleIdeal) (hDilSampleReferenceIdeal := hDilSampleReferenceIdeal)
    ∧ preserves_FfnFinalSample_FfnFinalSampleIdeal
    ∧ algebraic_FfnFinalSampleIdeal_FfnFinalSampleReferenceIdeal (hFfnFinalSampleIdeal := hFfnFinalSampleIdeal) (hFfnFinalSampleReferenceIdeal := hFfnFinalSampleReferenceIdeal)
    ∧ preserves_EvenProjectSample_EvenProjectSampleIdeal
    ∧ algebraic_EvenProjectSampleIdeal_EvenProjectSampleReferenceIdeal (hEvenProjectSampleIdeal := hEvenProjectSampleIdeal) (hEvenProjectSampleReferenceIdeal := hEvenProjectSampleReferenceIdeal)
-- ==== Pre_mem_finite.lean ====
abbrev S32x2048x1024 : Shape := ⟨3, ![32, 2048, 1024]⟩
abbrev S1024 : Shape := ⟨1, ![1024]⟩
abbrev S1024x256 : Shape := ⟨2, ![1024, 256]⟩
abbrev S32x256x4x64 : Shape := ⟨4, ![32, 256, 4, 64]⟩
abbrev S256x1024 : Shape := ⟨2, ![256, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S32x256x4x64 : S_.BroadcastsInDim S32x256x4x64 (![] : Fin 0 → Fin S32x256x4x64.rank)
  reducesTo_S32x256x4x64_S_d0_1_2_3 : S32x256x4x64.ReducesTo [0, 1, 2, 3] S_

variable [Facts]

def fn_part1 {F : FTy → Type} [FloatOps F] (main_v13 : IVec S_ 1) (main_v16 : IVec S32x256x4x64 1) : IVec S_ 1 :=
  let main_c_5 : IVec S_ 1 := constantI S_ 1 1#1
  let main_v17 : IVec S_ 1 := (fun x v => Host.reduce IntOp.andi x v reducesTo_S32x256x4x64_S_d0_1_2_3 h_S_) main_v16 main_c_5
  let main_v18 : IVec S_ 1 := andi main_v13 main_v17
  main_v18

def fn {F : FTy → Type} [FloatOps F] (main_arg0 : FVec F S32x2048x1024 .f32) (main_arg1 : FVec F S1024 .f32) (main_arg2 : FVec F S1024x256 .f32) (main_arg3 : FVec F S32x256x4x64 .f32) (main_arg4 : FVec F S32x256x4x64 .f32) (main_arg5 : FVec F S256x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S32x256x4x64 .f32 := Host.absf main_arg3
  let main_cst_4 : FVec F S_ .f32 := constant S_ .f32 0x7F800000#32
  let main_v15 : FVec F S32x256x4x64 .f32 := broadcastInDim S32x256x4x64 ![] bcast_S_S32x256x4x64 main_cst_4
  let main_v16 : IVec S32x256x4x64 1 := cmpf .olt main_v14 main_v15
  fn_part1 (F := F) main_v13 main_v16
-- ==== Pre_mla_finite.lean ====
abbrev S32x2048x8x128 : Shape := ⟨4, ![32, 2048, 8, 128]⟩
abbrev S32x2048x8x32 : Shape := ⟨4, ![32, 2048, 8, 32]⟩
abbrev S32x2048x128 : Shape := ⟨3, ![32, 2048, 128]⟩
abbrev S32x2048x32 : Shape := ⟨3, ![32, 2048, 32]⟩
abbrev S_ : Shape := ⟨0, ![]⟩

class Facts : Prop where
  bcast_S_S32x2048x8x128 : S_.BroadcastsInDim S32x2048x8x128 (![] : Fin 0 → Fin S32x2048x8x128.rank)
  reducesTo_S32x2048x8x128_S_d0_1_2_3 : S32x2048x8x128.ReducesTo [0, 1, 2, 3] S_
  h_S_ : 0 < S_.numel
  bcast_S_S32x2048x8x32 : S_.BroadcastsInDim S32x2048x8x32 (![] : Fin 0 → Fin S32x2048x8x32.rank)
  reducesTo_S32x2048x8x32_S_d0_1_2_3 : S32x2048x8x32.ReducesTo [0, 1, 2, 3] S_
  bcast_S_S32x2048x128 : S_.BroadcastsInDim S32x2048x128 (![] : Fin 0 → Fin S32x2048x128.rank)
  reducesTo_S32x2048x128_S_d0_1_2 : S32x2048x128.ReducesTo [0, 1, 2] S_
  bcast_S_S32x2048x32 : S_.BroadcastsInDim S32x2048x32 (![] : Fin 0 → Fin S32x2048x32.rank)
  reducesTo_S32x2048x32_S_d0_1_2 : S32x2048x32.ReducesTo [0, 1, 2] S_

variable [Facts]

def fn_part1 {F : FTy → Type} [FloatOps F] (main_v13 : IVec S_ 1) (main_v16 : IVec S32x2048x32 1) : IVec S_ 1 :=
  let main_c_5 : IVec S_ 1 := constantI S_ 1 1#1
  let main_v17 : IVec S_ 1 := (fun x v => Host.reduce IntOp.andi x v reducesTo_S32x2048x32_S_d0_1_2 h_S_) main_v16 main_c_5
  let main_v18 : IVec S_ 1 := andi main_v13 main_v17
  main_v18

def fn {F : FTy → Type} [FloatOps F] (main_arg0 : FVec F S32x2048x8x128 .f32) (main_arg1 : FVec F S32x2048x8x32 .f32) (main_arg2 : FVec F S32x2048x128 .f32) (main_arg3 : FVec F S32x2048x32 .f32) : IVec S_ 1 :=
  let main_v0 : FVec F S32x2048x8x128 .f32 := Host.absf main_arg0
  let main_cst : FVec F S_ .f32 := constant S_ .f32 0x7F800000#32
  let main_v1 : FVec F S32x2048x8x128 .f32 := broadcastInDim S32x2048x8x128 ![] bcast_S_S32x2048x8x128 main_cst
  let main_v2 : IVec S32x2048x8x128 1 := cmpf .olt main_v0 main_v1
  let main_c : IVec S_ 1 := constantI S_ 1 1#1
  let main_v3 : IVec S_ 1 := (fun x v => Host.reduce IntOp.andi x v reducesTo_S32x2048x8x128_S_d0_1_2_3 h_S_) main_v2 main_c
  let main_v4 : FVec F S32x2048x8x32 .f32 := Host.absf main_arg1
  let main_cst_0 : FVec F S_ .f32 := constant S_ .f32 0x7F800000#32
  let main_v5 : FVec F S32x2048x8x32 .f32 := broadcastInDim S32x2048x8x32 ![] bcast_S_S32x2048x8x32 main_cst_0
  let main_v6 : IVec S32x2048x8x32 1 := cmpf .olt main_v4 main_v5
  let main_c_1 : IVec S_ 1 := constantI S_ 1 1#1
  let main_v7 : IVec S_ 1 := (fun x v => Host.reduce IntOp.andi x v reducesTo_S32x2048x8x32_S_d0_1_2_3 h_S_) main_v6 main_c_1
  let main_v8 : IVec S_ 1 := andi main_v3 main_v7
  let main_v9 : FVec F S32x2048x128 .f32 := Host.absf main_arg2
  let main_cst_2 : FVec F S_ .f32 := constant S_ .f32 0x7F800000#32
  let main_v10 : FVec F S32x2048x128 .f32 := broadcastInDim S32x2048x128 ![] bcast_S_S32x2048x128 main_cst_2
  let main_v11 : IVec S32x2048x128 1 := cmpf .olt main_v9 main_v10
  let main_c_3 : IVec S_ 1 := constantI S_ 1 1#1
  let main_v12 : IVec S_ 1 := (fun x v => Host.reduce IntOp.andi x v reducesTo_S32x2048x128_S_d0_1_2 h_S_) main_v11 main_c_3
  let main_v13 : IVec S_ 1 := andi main_v8 main_v12
  let main_v14 : FVec F S32x2048x32 .f32 := Host.absf main_arg3
  let main_cst_4 : FVec F S_ .f32 := constant S_ .f32 0x7F800000#32
  let main_v15 : FVec F S32x2048x32 .f32 := broadcastInDim S32x2048x32 ![] bcast_S_S32x2048x32 main_cst_4
  let main_v16 : IVec S32x2048x32 1 := cmpf .olt main_v14 main_v15
  fn_part1 (F := F) main_v13 main_v16
-- ==== Kernel.lean ====
abbrev S32x2048x8x128 : Shape := ⟨4, ![32, 2048, 8, 128]⟩
abbrev S32x2048x8x32 : Shape := ⟨4, ![32, 2048, 8, 32]⟩
abbrev S32x2048x128 : Shape := ⟨3, ![32, 2048, 128]⟩
abbrev S32x2048x32 : Shape := ⟨3, ![32, 2048, 32]⟩
abbrev S_ : Shape := ⟨0, ![]⟩
abbrev S32x2048x8x96 : Shape := ⟨4, ![32, 2048, 8, 96]⟩
abbrev S32x2048x8x256 : Shape := ⟨4, ![32, 2048, 8, 256]⟩
abbrev S8x32x2048x256 : Shape := ⟨4, ![8, 32, 2048, 256]⟩
abbrev S8x65536x256 : Shape := ⟨3, ![8, 65536, 256]⟩
abbrev S32x2048x1x96 : Shape := ⟨4, ![32, 2048, 1, 96]⟩
abbrev S32x2048x96 : Shape := ⟨3, ![32, 2048, 96]⟩
abbrev S32x2048x256 : Shape := ⟨3, ![32, 2048, 256]⟩
abbrev S65536x256 : Shape := ⟨2, ![65536, 256]⟩
abbrev S8x65536x128 : Shape := ⟨3, ![8, 65536, 128]⟩
abbrev S8x128x256 : Shape := ⟨3, ![8, 128, 256]⟩
abbrev S2048x256 : Shape := ⟨2, ![2048, 256]⟩
abbrev S8x128x128 : Shape := ⟨3, ![8, 128, 128]⟩
abbrev S1024x128 : Shape := ⟨2, ![1024, 128]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩
abbrev S256x128 : Shape := ⟨2, ![256, 128]⟩

abbrev nBuf : Space → Nat
  | .hbm => 16
  | .vmem => 9
  | .smem => 0
  | _ => 0

abbrev bufTy : (tb : Table) → Fin (tcTables nBuf tb) → BufTy
  | .hbm, ⟨0, _⟩ => ⟨S32x2048x8x128, .f32⟩
  | .hbm, ⟨1, _⟩ => ⟨S32x2048x8x32, .f32⟩
  | .hbm, ⟨2, _⟩ => ⟨S32x2048x128, .f32⟩
  | .hbm, ⟨3, _⟩ => ⟨S32x2048x32, .f32⟩
  | .hbm, ⟨4, _⟩ => ⟨S_, .f32⟩
  | .hbm, ⟨5, _⟩ => ⟨S32x2048x8x96, .f32⟩
  | .hbm, ⟨6, _⟩ => ⟨S32x2048x8x256, .f32⟩
  | .hbm, ⟨7, _⟩ => ⟨S8x32x2048x256, .f32⟩
  | .hbm, ⟨8, _⟩ => ⟨S8x65536x256, .f32⟩
  | .hbm, ⟨9, _⟩ => ⟨S8x65536x256, .bf16⟩
  | .hbm, ⟨10, _⟩ => ⟨S32x2048x1x96, .f32⟩
  | .hbm, ⟨11, _⟩ => ⟨S32x2048x96, .f32⟩
  | .hbm, ⟨12, _⟩ => ⟨S32x2048x256, .f32⟩
  | .hbm, ⟨13, _⟩ => ⟨S65536x256, .f32⟩
  | .hbm, ⟨14, _⟩ => ⟨S65536x256, .bf16⟩
  | .hbm, ⟨15, _⟩ => ⟨S8x65536x128, .bf16⟩
  | .local _ .vmem, ⟨0, _⟩ => ⟨S8x128x256, .bf16⟩
  | .local _ .vmem, ⟨1, _⟩ => ⟨S8x128x256, .bf16⟩
  | .local _ .vmem, ⟨2, _⟩ => ⟨S2048x256, .bf16⟩
  | .local _ .vmem, ⟨3, _⟩ => ⟨S2048x256, .bf16⟩
  | .local _ .vmem, ⟨4, _⟩ => ⟨S8x128x128, .bf16⟩
  | .local _ .vmem, ⟨5, _⟩ => ⟨S8x128x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S32x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

@[reducible] def k0_t1_loop (i : grid0.Coords) : Scf.Loop 32 :=
  let c0_i32_15 : BitVec 32 := 0#32
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_10 : BitVec 32 := 0#32
  let v18 : BitVec 1 := Scalar.cmpi .slt arg1 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg1 c2_i32
  let c0_i32_13 : BitVec 32 := 0#32
  let v28 : BitVec 1 := Scalar.cmpi .ne v27 c0_i32_13
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_17 : BitVec 32 := 1#32
  ⟨c0_i32_15, v36, c1_i32_17⟩
def k0_mult1 (i : grid0.Coords) (k0_t1 : Fin (k0_t1_loop i).trips) : BitVec 32 :=
  let c0_i32_15 : BitVec 32 := 0#32
  let c1_i32_17 : BitVec 32 := 1#32
  let arg8 : BitVec 32 := Scf.iv c0_i32_15 c1_i32_17 k0_t1
  let c256_i32_52 : BitVec 32 := 256#32
  let v110 : BitVec 32 := Scalar.muli arg8 c256_i32_52
  v110
def k0_off1 (i : grid0.Coords) (k0_t1 : Fin (k0_t1_loop i).trips) : Fin 2 → Nat :=
  let c0_i32_15 : BitVec 32 := 0#32
  let c1_i32_17 : BitVec 32 := 1#32
  let arg8 : BitVec 32 := Scf.iv c0_i32_15 c1_i32_17 k0_t1
  let c256_i32_52 : BitVec 32 := 256#32
  let v110 : BitVec 32 := Scalar.muli arg8 c256_i32_52
  let v111 : BitVec 32 := v110
  let v112 : Index := Scalar.indexCast v111
  let c0_53 : Index := 0#32
  ![v112.toNat, 0]
@[reducible] def k0_t2_loop (i : grid0.Coords) : Scf.Loop 32 :=
  let c0_i32_15 : BitVec 32 := 0#32
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_10 : BitVec 32 := 0#32
  let v18 : BitVec 1 := Scalar.cmpi .slt arg1 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg1 c2_i32
  let c0_i32_13 : BitVec 32 := 0#32
  let v28 : BitVec 1 := Scalar.cmpi .ne v27 c0_i32_13
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let v33 : BitVec 32 := Scalar.addi c0_i32_15 v32
  let c1_i32_18 : BitVec 32 := 1#32
  ⟨v36, v33, c1_i32_18⟩
def k0_mult2 (i : grid0.Coords) (k0_t2 : Fin (k0_t2_loop i).trips) : BitVec 32 :=
  let c0_i32_15 : BitVec 32 := 0#32
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_10 : BitVec 32 := 0#32
  let v18 : BitVec 1 := Scalar.cmpi .slt arg1 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg1 c2_i32
  let c0_i32_13 : BitVec 32 := 0#32
  let v28 : BitVec 1 := Scalar.cmpi .ne v27 c0_i32_13
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let c256_i32_52 : BitVec 32 := 256#32
  let v110 : BitVec 32 := Scalar.muli arg8 c256_i32_52
  v110
def k0_off2 (i : grid0.Coords) (k0_t2 : Fin (k0_t2_loop i).trips) : Fin 2 → Nat :=
  let c0_i32_15 : BitVec 32 := 0#32
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_10 : BitVec 32 := 0#32
  let v18 : BitVec 1 := Scalar.cmpi .slt arg1 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg1 c2_i32
  let c0_i32_13 : BitVec 32 := 0#32
  let v28 : BitVec 1 := Scalar.cmpi .ne v27 c0_i32_13
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg8 : BitVec 32 := Scf.iv v36 c1_i32_18 k0_t2
  let c256_i32_52 : BitVec 32 := 256#32
  let v110 : BitVec 32 := Scalar.muli arg8 c256_i32_52
  let v111 : BitVec 32 := v110
  let v112 : Index := Scalar.indexCast v111
  let c0_53 : Index := 0#32
  ![v112.toNat, 0]
def k0_mult3 (i : grid0.Coords) : BitVec 32 :=
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_10 : BitVec 32 := 0#32
  let v18 : BitVec 1 := Scalar.cmpi .slt arg1 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg1 c2_i32
  let c0_i32_13 : BitVec 32 := 0#32
  let v28 : BitVec 1 := Scalar.cmpi .ne v27 c0_i32_13
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let c256_i32 : BitVec 32 := 256#32
  let v37 : BitVec 32 := Scalar.muli v31 c256_i32
  v37
def k0_off3 (i : grid0.Coords) : Fin 2 → Nat :=
  let arg1 : BitVec 32 := BitVec.ofNat 32 (i 1).val
  let c0_i32 : BitVec 32 := 0#32
  let v16 : BitVec 1 := Scalar.cmpi .sgt arg1 c0_i32
  let v17 : BitVec 32 := Scalar.extui v16
  let c0_i32_10 : BitVec 32 := 0#32
  let v18 : BitVec 1 := Scalar.cmpi .slt arg1 c0_i32_10
  let v19 : BitVec 32 := Scalar.extui v18
  let v20 : BitVec 32 := Scalar.subi v17 v19
  let c2_i32 : BitVec 32 := 2#32
  let c0_i32_11 : BitVec 32 := 0#32
  let v21 : BitVec 1 := Scalar.cmpi .sgt c2_i32 c0_i32_11
  let v22 : BitVec 32 := Scalar.extui v21
  let c0_i32_12 : BitVec 32 := 0#32
  let v23 : BitVec 1 := Scalar.cmpi .slt c2_i32 c0_i32_12
  let v24 : BitVec 32 := Scalar.extui v23
  let v25 : BitVec 32 := Scalar.subi v22 v24
  let v26 : BitVec 1 := Scalar.cmpi .ne v20 v25
  let v27 : BitVec 32 := Scalar.remsi arg1 c2_i32
  let c0_i32_13 : BitVec 32 := 0#32
  let v28 : BitVec 1 := Scalar.cmpi .ne v27 c0_i32_13
  let v29 : BitVec 1 := Scalar.andi v26 v28
  let v15 : BitVec 32 := Scalar.divsi arg1 c2_i32
  let c1_i32 : BitVec 32 := 1#32
  let v30 : BitVec 32 := Scalar.subi v15 c1_i32
  let v31 : BitVec 32 := Scalar.select v29 v30 v15
  let c256_i32 : BitVec 32 := 256#32
  let v37 : BitVec 32 := Scalar.muli v31 c256_i32
  let v38 : BitVec 32 := v37
  let v39 : Index := Scalar.indexCast v38
  let c0_19 : Index := 0#32
  ![v39.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | "scale_log2e" => some (((Real.sqrt 96)⁻¹ * (Real.log 2)⁻¹ : ℝ) : EReal)
  | _ => none
-- ==== ReferenceIdeal.lean ====
abbrev S32x2048x8x128 : Shape := ⟨4, ![32, 2048, 8, 128]⟩
abbrev S32x2048x8x32 : Shape := ⟨4, ![32, 2048, 8, 32]⟩
abbrev S32x2048x128 : Shape := ⟨3, ![32, 2048, 128]⟩
abbrev S32x2048x32 : Shape := ⟨3, ![32, 2048, 32]⟩
abbrev S2048 : Shape := ⟨1, ![2048]⟩
abbrev S32x2048x2048x8 : Shape := ⟨4, ![32, 2048, 2048, 8]⟩
abbrev S32x8x2048x2048 : Shape := ⟨4, ![32, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x128x8x2048 : Shape := ⟨4, ![32, 128, 8, 2048]⟩
abbrev S8x32x2048x128 : Shape := ⟨4, ![8, 32, 2048, 128]⟩
abbrev S8x65536x128 : Shape := ⟨3, ![8, 65536, 128]⟩

abbrev nBuf : Space → Nat
  | .hbm => 43
  | .vmem => 0
  | .smem => 0
  | _ => 0

abbrev bufTy : (tb : Table) → Fin (tcTables nBuf tb) → BufTy
  | .hbm, ⟨0, _⟩ => ⟨S32x2048x8x128, .f32⟩
  | .hbm, ⟨1, _⟩ => ⟨S32x2048x8x32, .f32⟩
  | .hbm, ⟨2, _⟩ => ⟨S32x2048x128, .f32⟩
  | .hbm, ⟨3, _⟩ => ⟨S32x2048x32, .f32⟩
  | .hbm, ⟨4, _⟩ => ⟨S2048, .i32⟩
  | .hbm, ⟨5, _⟩ => ⟨S32x2048x2048x8, .f32⟩
  | .hbm, ⟨6, _⟩ => ⟨S32x8x2048x2048, .f32⟩
  | .hbm, ⟨7, _⟩ => ⟨S32x2048x2048x8, .f32⟩
  | .hbm, ⟨8, _⟩ => ⟨S32x8x2048x2048, .f32⟩
  | .hbm, ⟨9, _⟩ => ⟨S32x8x2048x2048, .f32⟩
  | .hbm, ⟨10, _⟩ => ⟨S_, .f32⟩
  | .hbm, ⟨11, _⟩ => ⟨S_, .f32⟩
  | .hbm, ⟨12, _⟩ => ⟨S32x8x2048x2048, .f32⟩
  | .hbm, ⟨13, _⟩ => ⟨S32x8x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S32x8x2048x2048, .i1⟩
  | .hbm, ⟨22, _⟩ => ⟨S32x8x2048x2048, .f32⟩
  | .hbm, ⟨23, _⟩ => ⟨S32x8x2048x2048, .f32⟩
  | .hbm, ⟨24, _⟩ => ⟨S_, .f32⟩
  | .hbm, ⟨25, _⟩ => ⟨S32x8x2048, .f32⟩
  | .hbm, ⟨26, _⟩ => ⟨S_, .f32⟩
  | .hbm, ⟨27, _⟩ => ⟨S32x8x2048, .f32⟩
  | .hbm, ⟨28, _⟩ => ⟨S32x8x2048, .f32⟩
  | .hbm, ⟨29, _⟩ => ⟨S32x8x2048x1, .f32⟩
  | .hbm, ⟨30, _⟩ => ⟨S32x8x2048x2048, .f32⟩
  | .hbm, ⟨31, _⟩ => ⟨S32x8x2048x2048, .f32⟩
  | .hbm, ⟨32, _⟩ => ⟨S32x8x2048x2048, .f32⟩
  | .hbm, ⟨33, _⟩ => ⟨S_, .f32⟩
  | .hbm, ⟨34, _⟩ => ⟨S32x8x2048, .f32⟩
  | .hbm, ⟨35, _⟩ => ⟨S32x8x2048x1, .f32⟩
  | .hbm, ⟨36, _⟩ => ⟨S32x8x2048x2048, .f32⟩
  | .hbm, ⟨37, _⟩ => ⟨S32x8x2048x2048, .f32⟩
  | .hbm, ⟨38, _⟩ => ⟨S32x128x8x2048, .f32⟩
  | .hbm, ⟨39, _⟩ => ⟨S32x2048x8x128, .f32⟩
  | .hbm, ⟨40, _⟩ => ⟨S8x32x2048x128, .f32⟩
  | .hbm, ⟨41, _⟩ => ⟨S8x65536x128, .f32⟩
  | .hbm, ⟨42, _⟩ => ⟨S8x65536x128, .bf16⟩
  | _, _ => ⟨S32x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Ffn.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 10
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S65536x1024 : Shape := ⟨2, ![65536, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S32x2048x5632, .f32⟩
  | .hbm, ⟨21, _⟩ => ⟨S32x2048x2816, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S_, .f32⟩
  | .hbm, ⟨26, _⟩ => ⟨S32x2048x2816, .f32⟩
  | .hbm, ⟨27, _⟩ => ⟨S32x2048x2816, .f32⟩
  | .hbm, ⟨28, _⟩ => ⟨S_, .f32⟩
  | .hbm, ⟨29, _⟩ => ⟨S32x2048x2816, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x1024, .f32⟩
  | .hbm, ⟨34, _⟩ => ⟨S_, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== FfnFinal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 11
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnFinalIdeal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 11
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnFinalReferenceIdeal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S65536x1024 : Shape := ⟨2, ![65536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x5632, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S32x2048x2816, .f32⟩
  | .hbm, ⟨26, _⟩ => ⟨S_, .f32⟩
  | .hbm, ⟨27, _⟩ => ⟨S32x2048x2816, .f32⟩
  | .hbm, ⟨28, _⟩ => ⟨S32x2048x2816, .f32⟩
  | .hbm, ⟨29, _⟩ => ⟨S_, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S32x2048x1024, .f32⟩
  | .hbm, ⟨35, _⟩ => ⟨S_, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S_, .f32⟩
  | .hbm, ⟨41, _⟩ => ⟨S32x2048, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S_, .f32⟩
  | .hbm, ⟨47, _⟩ => ⟨S32x2048x1, .f32⟩
  | .hbm, ⟨48, _⟩ => ⟨S32x2048x1, .f32⟩
  | .hbm, ⟨49, _⟩ => ⟨S32x2048x1, .f32⟩
  | .hbm, ⟨50, _⟩ => ⟨S32x2048x1024, .f32⟩
  | .hbm, ⟨51, _⟩ => ⟨S32x2048x1024, .f32⟩
  | .hbm, ⟨52, _⟩ => ⟨S1x1x1024, .f32⟩
  | .hbm, ⟨53, _⟩ => ⟨S32x2048x1024, .f32⟩
  | .hbm, ⟨54, _⟩ => ⟨S32x2048x1024, .f32⟩
  | .hbm, ⟨55, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== MemKv.lean ====
abbrev S32x256x1024 : Shape := ⟨3, ![32, 256, 1024]⟩
abbrev S1024 : Shape := ⟨1, ![1024]⟩
abbrev S1024x512 : Shape := ⟨2, ![1024, 512]⟩
abbrev S8192x1024 : Shape := ⟨2, ![8192, 1024]⟩
abbrev S1x1024 : Shape := ⟨2, ![1, 1024]⟩
abbrev S8192x256 : Shape := ⟨2, ![8192, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024x512, .f32⟩
  | .hbm, ⟨3, _⟩ => ⟨S8192x1024, .f32⟩
  | .hbm, ⟨4, _⟩ => ⟨S1x1024, .f32⟩
  | .hbm, ⟨5, _⟩ => ⟨S1024x512, .bf16⟩
  | .hbm, ⟨6, _⟩ => ⟨S8192x256, .f32⟩
  | .hbm, ⟨7, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvReferenceIdeal.lean ====
abbrev S32x256x1024 : Shape := ⟨3, ![32, 256, 1024]⟩
abbrev S1024 : Shape := ⟨1, ![1024]⟩
abbrev S1024x512 : Shape := ⟨2, ![1024, 512]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x512 : Shape := ⟨3, ![32, 256, 512]⟩
abbrev S32x256x2x4x64 : Shape := ⟨5, ![32, 256, 2, 4, 64]⟩
abbrev S32x256x1x4x64 : Shape := ⟨5, ![32, 256, 1, 4, 64]⟩
abbrev S32x256x4x64 : Shape := ⟨4, ![32, 256, 4, 64]⟩
abbrev S8192x256 : Shape := ⟨2, ![8192, 256]⟩

abbrev nBuf : Space → Nat
  | .hbm => 27
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024x512, .f32⟩
  | .hbm, ⟨3, _⟩ => ⟨S32x256x1024, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S32x256x1, .f32⟩
  | .hbm, ⟨14, _⟩ => ⟨S32x256x1024, .f32⟩
  | .hbm, ⟨15, _⟩ => ⟨S32x256x1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S32x256x512, .f32⟩
  | .hbm, ⟨20, _⟩ => ⟨S32x256x2x4x64, .f32⟩
  | .hbm, ⟨21, _⟩ => ⟨S32x256x1x4x64, .f32⟩
  | .hbm, ⟨22, _⟩ => ⟨S32x256x4x64, .f32⟩
  | .hbm, ⟨23, _⟩ => ⟨S8192x256, .f32⟩
  | .hbm, ⟨24, _⟩ => ⟨S32x256x1x4x64, .f32⟩
  | .hbm, ⟨25, _⟩ => ⟨S32x256x4x64, .f32⟩
  | .hbm, ⟨26, _⟩ => ⟨S8192x256, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== OddProject.lean ====
abbrev S32x2048x1024 : Shape := ⟨3, ![32, 2048, 1024]⟩
abbrev S1024 : Shape := ⟨1, ![1024]⟩
abbrev S1024x2304 : Shape := ⟨2, ![1024, 2304]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S65536x1024 : Shape := ⟨2, ![65536, 1024]⟩
abbrev S1x1024 : Shape := ⟨2, ![1, 1024]⟩
abbrev S65536x2304 : Shape := ⟨2, ![65536, 2304]⟩
abbrev S512x1024 : Shape := ⟨2, ![512, 1024]⟩
abbrev S512x256 : Shape := ⟨2, ![512, 256]⟩
abbrev S512x2304 : Shape := ⟨2, ![512, 2304]⟩
abbrev S512 : Shape := ⟨1, ![512]⟩
abbrev S512x1 : Shape := ⟨2, ![512, 1]⟩

abbrev nBuf : Space → Nat
  | .hbm => 33
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2304, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x64, .f32⟩
  | .hbm, ⟨21, _⟩ => ⟨S1x2048x1x64, .f32⟩
  | .hbm, ⟨22, _⟩ => ⟨S1x2048x4x64, .f32⟩
  | .hbm, ⟨23, _⟩ => ⟨S2048x256, .f32⟩
  | .hbm, ⟨24, _⟩ => ⟨S2048x32, .f32⟩
  | .hbm, ⟨25, _⟩ => ⟨S2048x64, .f32⟩
  | .hbm, ⟨26, _⟩ => ⟨S1x2048x1x64, .f32⟩
  | .hbm, ⟨27, _⟩ => ⟨S1x2048x4x64, .f32⟩
  | .hbm, ⟨28, _⟩ => ⟨S2048x256, .f32⟩
  | .hbm, ⟨29, _⟩ => ⟨S65536x1024, .f32⟩
  | .hbm, ⟨30, _⟩ => ⟨S1x1024, .f32⟩
  | .hbm, ⟨31, _⟩ => ⟨S1024x2304, .bf16⟩
  | .hbm, ⟨32, _⟩ => ⟨S65536x2304, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x2304, .f32⟩
  | .local _ .vmem, ⟨9, _⟩ => ⟨S512x2304, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddProjectReferenceIdeal.lean ====
abbrev S32x2048x1024 : Shape := ⟨3, ![32, 2048, 1024]⟩
abbrev S1024 : Shape := ⟨1, ![1024]⟩
abbrev S1024x2304 : Shape := ⟨2, ![1024, 2304]⟩
abbrev S2048 : Shape := ⟨1, ![2048]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2304 : Shape := ⟨3, ![32, 2048, 2304]⟩
abbrev S32x2048x3x3x4x64 : Shape := ⟨6, ![32, 2048, 3, 3, 4, 64]⟩
abbrev S32x2048x3x2x4x64 : Shape := ⟨6, ![32, 2048, 3, 2, 4, 64]⟩
abbrev S32x2048x24x64 : Shape := ⟨4, ![32, 2048, 24, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S32x2048x24x32 : Shape := ⟨4, ![32, 2048, 24, 32]⟩
abbrev S1x2048x1x32 : Shape := ⟨4, ![1, 2048, 1, 32]⟩
abbrev S32x2048x3x1x4x64 : Shape := ⟨6, ![32, 2048, 3, 1, 4, 64]⟩
abbrev S65536x2304 : Shape := ⟨2, ![65536, 2304]⟩

abbrev nBuf : Space → Nat
  | .hbm => 63
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2304, .f32⟩
  | .hbm, ⟨3, _⟩ => ⟨S2048, .i32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S32x2048x2304, .f32⟩
  | .hbm, ⟨21, _⟩ => ⟨S32x2048x3x3x4x64, .f32⟩
  | .hbm, ⟨22, _⟩ => ⟨S32x2048x3x2x4x64, .f32⟩
  | .hbm, ⟨23, _⟩ => ⟨S32x2048x24x64, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S2048, .f32⟩
  | .hbm, ⟨33, _⟩ => ⟨S2048x1, .f32⟩
  | .hbm, ⟨34, _⟩ => ⟨S1x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x1x32, .f32⟩
  | .hbm, ⟨40, _⟩ => ⟨S2048x32, .f32⟩
  | .hbm, ⟨41, _⟩ => ⟨S2048x1x32, .f32⟩
  | .hbm, ⟨42, _⟩ => ⟨S32x2048x24x32, .f32⟩
  | .hbm, ⟨43, _⟩ => ⟨S32x2048x24x32, .f32⟩
  | .hbm, ⟨44, _⟩ => ⟨S1x2048x1x32, .f32⟩
  | .hbm, ⟨45, _⟩ => ⟨S32x2048x24x32, .f32⟩
  | .hbm, ⟨46, _⟩ => ⟨S32x2048x24x32, .f32⟩
  | .hbm, ⟨47, _⟩ => ⟨S1x2048x1x32, .f32⟩
  | .hbm, ⟨48, _⟩ => ⟨S32x2048x24x32, .f32⟩
  | .hbm, ⟨49, _⟩ => ⟨S32x2048x24x32, .f32⟩
  | .hbm, ⟨50, _⟩ => ⟨S32x2048x24x32, .f32⟩
  | .hbm, ⟨51, _⟩ => ⟨S1x2048x1x32, .f32⟩
  | .hbm, ⟨52, _⟩ => ⟨S32x2048x24x32, .f32⟩
  | .hbm, ⟨53, _⟩ => ⟨S32x2048x24x32, .f32⟩
  | .hbm, ⟨54, _⟩ => ⟨S1x2048x1x32, .f32⟩
  | .hbm, ⟨55, _⟩ => ⟨S32x2048x24x32, .f32⟩
  | .hbm, ⟨56, _⟩ => ⟨S32x2048x24x32, .f32⟩
  | .hbm, ⟨57, _⟩ => ⟨S32x2048x24x32, .f32⟩
  | .hbm, ⟨58, _⟩ => ⟨S32x2048x24x64, .f32⟩
  | .hbm, ⟨59, _⟩ => ⟨S32x2048x3x2x4x64, .f32⟩
  | .hbm, ⟨60, _⟩ => ⟨S32x2048x3x1x4x64, .f32⟩
  | .hbm, ⟨61, _⟩ => ⟨S32x2048x3x3x4x64, .f32⟩
  | .hbm, ⟨62, _⟩ => ⟨S65536x2304, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩

abbrev nD : Nat := 1
abbrev τ : Topo := Topo.v7x

variable {F : FTy → Type} [FloatOps F]
-- ==== EvenProject.lean ====
abbrev S32x2048x1024 : Shape := ⟨3, ![32, 2048, 1024]⟩
abbrev S1024 : Shape := ⟨1, ![1024]⟩
abbrev S1024x1952 : Shape := ⟨2, ![1024, 1952]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S1024x384 : Shape := ⟨2, ![1024, 384]⟩
abbrev S1024x32 : Shape := ⟨2, ![1024, 32]⟩
abbrev S_ : Shape := ⟨0, ![]⟩
abbrev S1024x96 : Shape := ⟨2, ![1024, 96]⟩
abbrev S1024x1536 : Shape := ⟨2, ![1024, 1536]⟩
abbrev S1024x2048 : Shape := ⟨2, ![1024, 2048]⟩
abbrev S256x8x64 : Shape := ⟨3, ![256, 8, 64]⟩
abbrev S256x512 : Shape := ⟨2, ![256, 512]⟩
abbrev S256x8x32 : Shape := ⟨3, ![256, 8, 32]⟩
abbrev S256x8x128 : Shape := ⟨3, ![256, 8, 128]⟩
abbrev S256x1024 : Shape := ⟨2, ![256, 1024]⟩
abbrev S256x1536 : Shape := ⟨2, ![256, 1536]⟩
abbrev S8x64x128 : Shape := ⟨3, ![8, 64, 128]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S4x64x256 : Shape := ⟨3, ![4, 64, 256]⟩
abbrev S4x128x256 : Shape := ⟨3, ![4, 128, 256]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S65536x1024 : Shape := ⟨2, ![65536, 1024]⟩
abbrev S1x1024 : Shape := ⟨2, ![1, 1024]⟩
abbrev S1x256 : Shape := ⟨2, ![1, 256]⟩
abbrev S1x128 : Shape := ⟨2, ![1, 128]⟩
abbrev S8x65536x256 : Shape := ⟨3, ![8, 65536, 256]⟩
abbrev S65536x256 : Shape := ⟨2, ![65536, 256]⟩
abbrev S65536x128 : Shape := ⟨2, ![65536, 128]⟩
abbrev S65536x32 : Shape := ⟨2, ![65536, 32]⟩
abbrev S65536x512 : Shape := ⟨2, ![65536, 512]⟩
abbrev S512x1024 : Shape := ⟨2, ![512, 1024]⟩
abbrev S512x128 : Shape := ⟨2, ![512, 128]⟩
abbrev S8x512x256 : Shape := ⟨3, ![8, 512, 256]⟩
abbrev S512x256 : Shape := ⟨2, ![512, 256]⟩
abbrev S512x32 : Shape := ⟨2, ![512, 32]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩
abbrev S512x1536 : Shape := ⟨2, ![512, 1536]⟩
abbrev S1x128x256 : Shape := ⟨3, ![1, 128, 256]⟩
abbrev S128x256 : Shape := ⟨2, ![128, 256]⟩
abbrev S1x512x128 : Shape := ⟨3, ![1, 512, 128]⟩

abbrev nBuf : Space → Nat
  | .hbm => 76
  | .vmem => 30
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x1952, .f32⟩
  | .hbm, ⟨3, _⟩ => ⟨S256, .f32⟩
  | .hbm, ⟨4, _⟩ => ⟨S128, .f32⟩
  | .hbm, ⟨5, _⟩ => ⟨S256x8x96, .f32⟩
  | .hbm, ⟨6, _⟩ => ⟨S128x8x64, .f32⟩
  | .hbm, ⟨7, _⟩ => ⟨S1024x384, .f32⟩
  | .hbm, ⟨8, _⟩ => ⟨S1024x32, .f32⟩
  | .hbm, ⟨9, _⟩ => ⟨S_, .f32⟩
  | .hbm, ⟨10, _⟩ => ⟨S1024x96, .f32⟩
  | .hbm, ⟨11, _⟩ => ⟨S1024x1536, .f32⟩
  | .hbm, ⟨12, _⟩ => ⟨S1024x2048, .f32⟩
  | .hbm, ⟨13, _⟩ => ⟨S1024x2048, .bf16⟩
  | .hbm, ⟨14, _⟩ => ⟨S256x8x64, .f32⟩
  | .hbm, ⟨15, _⟩ => ⟨S256x512, .f32⟩
  | .hbm, ⟨16, _⟩ => ⟨S256x8x32, .f32⟩
  | .hbm, ⟨17, _⟩ => ⟨S_, .i32⟩
  | .hbm, ⟨18, _⟩ => ⟨S_, .f32⟩
  | .hbm, ⟨19, _⟩ => ⟨S256x8x128, .f32⟩
  | .hbm, ⟨20, _⟩ => ⟨S256x1024, .f32⟩
  | .hbm, ⟨21, _⟩ => ⟨S256x1536, .f32⟩
  | .hbm, ⟨22, _⟩ => ⟨S256x1536, .bf16⟩
  | .hbm, ⟨23, _⟩ => ⟨S8x64x128, .f32⟩
  | .hbm, ⟨24, _⟩ => ⟨S4x2x64x128, .f32⟩
  | .hbm, ⟨25, _⟩ => ⟨S4x1x64x128, .f32⟩
  | .hbm, ⟨26, _⟩ => ⟨S4x64x128, .f32⟩
  | .hbm, ⟨27, _⟩ => ⟨S_, .f32⟩
  | .hbm, ⟨28, _⟩ => ⟨S4x64x128, .f32⟩
  | .hbm, ⟨29, _⟩ => ⟨S4x1x64x128, .f32⟩
  | .hbm, ⟨30, _⟩ => ⟨S4x64x128, .f32⟩
  | .hbm, ⟨31, _⟩ => ⟨S4x64x256, .f32⟩
  | .hbm, ⟨32, _⟩ => ⟨S4x1x64x128, .f32⟩
  | .hbm, ⟨33, _⟩ => ⟨S4x64x128, .f32⟩
  | .hbm, ⟨34, _⟩ => ⟨S4x64x256, .f32⟩
  | .hbm, ⟨35, _⟩ => ⟨S4x128x256, .f32⟩
  | .hbm, ⟨36, _⟩ => ⟨S4x128x256, .bf16⟩
  | .hbm, ⟨37, _⟩ => ⟨S2048, .i32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S2048, .f32⟩
  | .hbm, ⟨47, _⟩ => ⟨S2048x1, .f32⟩
  | .hbm, ⟨48, _⟩ => ⟨S1x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x16, .f32⟩
  | .hbm, ⟨54, _⟩ => ⟨S2048x32, .f32⟩
  | .hbm, ⟨55, _⟩ => ⟨S1x2048x1x32, .f32⟩
  | .hbm, ⟨56, _⟩ => ⟨S1x2048x4x32, .f32⟩
  | .hbm, ⟨57, _⟩ => ⟨S2048x128, .f32⟩
  | .hbm, ⟨58, _⟩ => ⟨S2048x16, .f32⟩
  | .hbm, ⟨59, _⟩ => ⟨S2048x32, .f32⟩
  | .hbm, ⟨60, _⟩ => ⟨S1x2048x1x32, .f32⟩
  | .hbm, ⟨61, _⟩ => ⟨S1x2048x4x32, .f32⟩
  | .hbm, ⟨62, _⟩ => ⟨S2048x128, .f32⟩
  | .hbm, ⟨63, _⟩ => ⟨S65536x1024, .f32⟩
  | .hbm, ⟨64, _⟩ => ⟨S1x1024, .f32⟩
  | .hbm, ⟨65, _⟩ => ⟨S1x256, .f32⟩
  | .hbm, ⟨66, _⟩ => ⟨S1x128, .f32⟩
  | .hbm, ⟨67, _⟩ => ⟨S8x65536x256, .bf16⟩
  | .hbm, ⟨68, _⟩ => ⟨S65536x256, .bf16⟩
  | .hbm, ⟨69, _⟩ => ⟨S65536x128, .f32⟩
  | .hbm, ⟨70, _⟩ => ⟨S65536x32, .f32⟩
  | .hbm, ⟨71, _⟩ => ⟨S65536x512, .bf16⟩
  | .hbm, ⟨72, _⟩ => ⟨S65536x512, .bf16⟩
  | .hbm, ⟨73, _⟩ => ⟨S65536x512, .bf16⟩
  | .hbm, ⟨74, _⟩ => ⟨S65536x512, .f32⟩
  | .hbm, ⟨75, _⟩ => ⟨S65536x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S1x128, .f32⟩
  | .local _ .vmem, ⟨6, _⟩ => ⟨S256x1536, .bf16⟩
  | .local _ .vmem, ⟨7, _⟩ => ⟨S4x128x256, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x512x256, .bf16⟩
  | .local _ .vmem, ⟨13, _⟩ => ⟨S8x512x256, .bf16⟩
  | .local _ .vmem, ⟨14, _⟩ => ⟨S512x256, .bf16⟩
  | .local _ .vmem, ⟨15, _⟩ => ⟨S512x256, .bf16⟩
  | .local _ .vmem, ⟨16, _⟩ => ⟨S512x128, .f32⟩
  | .local _ .vmem, ⟨17, _⟩ => ⟨S512x128, .f32⟩
  | .local _ .vmem, ⟨18, _⟩ => ⟨S512x32, .f32⟩
  | .local _ .vmem, ⟨19, _⟩ => ⟨S512x32, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54_0 : Ref sig .tc := ⟨.hbm, 67, rfl⟩
abbrev main_v54_1 : Ref sig .tc := ⟨.hbm, 68, rfl⟩
abbrev main_v54_2 : Ref sig .tc := ⟨.hbm, 69, rfl⟩
abbrev main_v54_3 : Ref sig .tc := ⟨.hbm, 70, rfl⟩
abbrev main_v54_4 : Ref sig .tc := ⟨.hbm, 71, rfl⟩
abbrev main_v54_5 : Ref sig .tc := ⟨.hbm, 72, rfl⟩
abbrev main_v54_6 : Ref sig .tc := ⟨.hbm, 73, rfl⟩
abbrev main_v54_7 : Ref sig .tc := ⟨.hbm, 74, rfl⟩
abbrev main_v54_8 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== EvenProjectReferenceIdeal.lean ====
abbrev S32x2048x1024 : Shape := ⟨3, ![32, 2048, 1024]⟩
abbrev S1024 : Shape := ⟨1, ![1024]⟩
abbrev S1024x1952 : Shape := ⟨2, ![1024, 1952]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S2048 : Shape := ⟨1, ![2048]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x1952 : Shape := ⟨3, ![32, 2048, 1952]⟩
abbrev S32x2048x256 : Shape := ⟨3, ![32, 2048, 256]⟩
abbrev S32x2048x128 : Shape := ⟨3, ![32, 2048, 128]⟩
abbrev S32x2048x32 : Shape := ⟨3, ![32, 2048, 32]⟩
abbrev S32x2048x512 : Shape := ⟨3, ![32, 2048, 512]⟩
abbrev S1x1x256 : Shape := ⟨3, ![1, 1, 256]⟩
abbrev S1x1x128 : Shape := ⟨3, ![1, 1, 128]⟩
abbrev S32x2048x8x96 : Shape := ⟨4, ![32, 2048, 8, 96]⟩
abbrev S32x2048x8x32 : Shape := ⟨4, ![32, 2048, 8, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S32x2048x8x16 : Shape := ⟨4, ![32, 2048, 8, 16]⟩
abbrev S1x2048x1x16 : Shape := ⟨4, ![1, 2048, 1, 16]⟩
abbrev S32x2048x8x64 : Shape := ⟨4, ![32, 2048, 8, 64]⟩
abbrev S8x128x32x2048 : Shape := ⟨4, ![8, 128, 32, 2048]⟩
abbrev S32x2048x8x128 : Shape := ⟨4, ![32, 2048, 8, 128]⟩
abbrev S32x2048x1x32 : Shape := ⟨4, ![32, 2048, 1, 32]⟩
abbrev S32x2048x1x16 : Shape := ⟨4, ![32, 2048, 1, 16]⟩
abbrev S32x2048x8x160 : Shape := ⟨4, ![32, 2048, 8, 160]⟩
abbrev S32x2048x8x256 : Shape := ⟨4, ![32, 2048, 8, 256]⟩
abbrev S32x2048x160 : Shape := ⟨3, ![32, 2048, 160]⟩
abbrev S8x32x2048x256 : Shape := ⟨4, ![8, 32, 2048, 256]⟩
abbrev S8x65536x256 : Shape := ⟨3, ![8, 65536, 256]⟩
abbrev S65536x256 : Shape := ⟨2, ![65536, 256]⟩
abbrev S65536x128 : Shape := ⟨2, ![65536, 128]⟩
abbrev S65536x32 : Shape := ⟨2, ![65536, 32]⟩
abbrev S65536x512 : Shape := ⟨2, ![65536, 512]⟩

abbrev nBuf : Space → Nat
  | .hbm => 163
  | .vmem => 0
  | .smem => 0
  | _ => 0

abbrev hbmTy0_0 (i : Nat) : BufTy := match i % 128 with
  | 0 => ⟨S32x2048x1024, .f32⟩
  | 1 => ⟨S1024, .f32⟩
  | 2 => ⟨S1024x1952, .f32⟩
  | 3 => ⟨S256, .f32⟩
  | 4 => ⟨S128, .f32⟩
  | 5 => ⟨S256x8x96, .f32⟩
  | 6 => ⟨S128x8x64, .f32⟩
  | 7 => ⟨S2048, .i32⟩
  | 8 => ⟨S32x2048x1024, .f32⟩
  | 9 => ⟨S_, .f32⟩
  | 10 => ⟨S32x2048, .f32⟩
  | 11 => ⟨S32x2048x1, .f32⟩
  | 12 => ⟨S_, .f32⟩
  | 13 => ⟨S32x2048x1, .f32⟩
  | 14 => ⟨S32x2048x1, .f32⟩
  | 15 => ⟨S_, .f32⟩
  | 16 => ⟨S32x2048x1, .f32⟩
  | 17 => ⟨S32x2048x1, .f32⟩
  | 18 => ⟨S32x2048x1, .f32⟩
  | 19 => ⟨S32x2048x1024, .f32⟩
  | 20 => ⟨S32x2048x1024, .f32⟩
  | 21 => ⟨S1x1x1024, .f32⟩
  | 22 => ⟨S32x2048x1024, .f32⟩
  | 23 => ⟨S32x2048x1024, .f32⟩
  | 24 => ⟨S32x2048x1952, .f32⟩
  | 25 => ⟨S32x2048x256, .f32⟩
  | 26 => ⟨S32x2048x128, .f32⟩
  | 27 => ⟨S32x2048x32, .f32⟩
  | 28 => ⟨S32x2048x512, .f32⟩
  | 29 => ⟨S32x2048x512, .f32⟩
  | 30 => ⟨S32x2048x512, .f32⟩
  | 31 => ⟨S32x2048x256, .f32⟩
  | 32 => ⟨S_, .f32⟩
  | 33 => ⟨S32x2048, .f32⟩
  | 34 => ⟨S32x2048x1, .f32⟩
  | 35 => ⟨S_, .f32⟩
  | 36 => ⟨S32x2048x1, .f32⟩
  | 37 => ⟨S32x2048x1, .f32⟩
  | 38 => ⟨S_, .f32⟩
  | 39 => ⟨S32x2048x1, .f32⟩
  | 40 => ⟨S32x2048x1, .f32⟩
  | 41 => ⟨S32x2048x1, .f32⟩
  | 42 => ⟨S32x2048x256, .f32⟩
  | 43 => ⟨S32x2048x256, .f32⟩
  | 44 => ⟨S1x1x256, .f32⟩
  | 45 => ⟨S32x2048x256, .f32⟩
  | 46 => ⟨S32x2048x256, .f32⟩
  | 47 => ⟨S32x2048x128, .f32⟩
  | 48 => ⟨S_, .f32⟩
  | 49 => ⟨S32x2048, .f32⟩
  | 50 => ⟨S32x2048x1, .f32⟩
  | 51 => ⟨S_, .f32⟩
  | 52 => ⟨S32x2048x1, .f32⟩
  | 53 => ⟨S32x2048x1, .f32⟩
  | 54 => ⟨S_, .f32⟩
  | 55 => ⟨S32x2048x1, .f32⟩
  | 56 => ⟨S32x2048x1, .f32⟩
  | 57 => ⟨S32x2048x1, .f32⟩
  | 58 => ⟨S32x2048x128, .f32⟩
  | 59 => ⟨S32x2048x128, .f32⟩
  | 60 => ⟨S1x1x128, .f32⟩
  | 61 => ⟨S32x2048x128, .f32⟩
  | 62 => ⟨S32x2048x128, .f32⟩
  | 63 => ⟨S32x2048x8x96, .f32⟩
  | 64 => ⟨S32x2048x8x32, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S2048, .f32⟩
  | 74 => ⟨S2048x1, .f32⟩
  | 75 => ⟨S1x16, .f32⟩
  | 76 => ⟨S2048x16, .f32⟩
  | 77 => ⟨S2048x16, .f32⟩
  | 78 => ⟨S2048x16, .f32⟩
  | 79 => ⟨S2048x16, .f32⟩
  | 80 => ⟨S2048x1x16, .f32⟩
  | 81 => ⟨S2048x16, .f32⟩
  | 82 => ⟨S2048x1x16, .f32⟩
  | 83 => ⟨S32x2048x8x16, .f32⟩
  | 84 => ⟨S32x2048x8x16, .f32⟩
  | 85 => ⟨S1x2048x1x16, .f32⟩
  | 86 => ⟨S32x2048x8x16, .f32⟩
  | 87 => ⟨S32x2048x8x16, .f32⟩
  | 88 => ⟨S1x2048x1x16, .f32⟩
  | 89 => ⟨S32x2048x8x16, .f32⟩
  | 90 => ⟨S32x2048x8x16, .f32⟩
  | 91 => ⟨S32x2048x8x16, .f32⟩
  | 92 => ⟨S1x2048x1x16, .f32⟩
  | 93 => ⟨S32x2048x8x16, .f32⟩
  | 94 => ⟨S32x2048x8x16, .f32⟩
  | 95 => ⟨S1x2048x1x16, .f32⟩
  | 96 => ⟨S32x2048x8x16, .f32⟩
  | 97 => ⟨S32x2048x8x16, .f32⟩
  | 98 => ⟨S32x2048x8x16, .f32⟩
  | 99 => ⟨S32x2048x8x32, .f32⟩
  | 100 => ⟨S32x2048x8x64, .f32⟩
  | 101 => ⟨S8x128x32x2048, .f32⟩
  | 102 => ⟨S32x2048x8x128, .f32⟩
  | 103 => ⟨S32x2048x1x32, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S2048, .f32⟩
  | 113 => ⟨S2048x1, .f32⟩
  | 114 => ⟨S1x16, .f32⟩
  | 115 => ⟨S2048x16, .f32⟩
  | 116 => ⟨S2048x16, .f32⟩
  | 117 => ⟨S2048x16, .f32⟩
  | 118 => ⟨S2048x16, .f32⟩
  | 119 => ⟨S2048x1x16, .f32⟩
  | 120 => ⟨S2048x16, .f32⟩
  | 121 => ⟨S2048x1x16, .f32⟩
  | 122 => ⟨S32x2048x1x16, .f32⟩
  | 123 => ⟨S32x2048x1x16, .f32⟩
  | 124 => ⟨S1x2048x1x16, .f32⟩
  | 125 => ⟨S32x2048x1x16, .f32⟩
  | 126 => ⟨S32x2048x1x16, .f32⟩
  | 127 => ⟨S1x2048x1x16, .f32⟩
  | _ => ⟨S32x2048x1024, .f32⟩

abbrev hbmTy0_1 (i : Nat) : BufTy := match i % 128 with
  | 0 => ⟨S32x2048x1x16, .f32⟩
  | 1 => ⟨S32x2048x1x16, .f32⟩
  | 2 => ⟨S32x2048x1x16, .f32⟩
  | 3 => ⟨S1x2048x1x16, .f32⟩
  | 4 => ⟨S32x2048x1x16, .f32⟩
  | 5 => ⟨S32x2048x1x16, .f32⟩
  | 6 => ⟨S1x2048x1x16, .f32⟩
  | 7 => ⟨S32x2048x1x16, .f32⟩
  | 8 => ⟨S32x2048x1x16, .f32⟩
  | 9 => ⟨S32x2048x1x16, .f32⟩
  | 10 => ⟨S32x2048x1x32, .f32⟩
  | 11 => ⟨S32x2048x32, .f32⟩
  | 12 => ⟨S32x2048x8x160, .f32⟩
  | 13 => ⟨S_, .i32⟩
  | 14 => ⟨S_, .f32⟩
  | 15 => ⟨S32x2048x8x256, .f32⟩
  | 16 => ⟨S32x2048x160, .f32⟩
  | 17 => ⟨S_, .i32⟩
  | 18 => ⟨S_, .f32⟩
  | 19 => ⟨S32x2048x256, .f32⟩
  | 20 => ⟨S8x32x2048x256, .f32⟩
  | 21 => ⟨S8x65536x256, .f32⟩
  | 22 => ⟨S8x65536x256, .bf16⟩
  | 23 => ⟨S65536x256, .f32⟩
  | 24 => ⟨S65536x256, .bf16⟩
  | 25 => ⟨S65536x128, .f32⟩
  | 26 => ⟨S65536x32, .f32⟩
  | 27 => ⟨S65536x512, .f32⟩
  | 28 => ⟨S65536x512, .bf16⟩
  | 29 => ⟨S65536x512, .f32⟩
  | 30 => ⟨S65536x512, .bf16⟩
  | 31 => ⟨S65536x512, .f32⟩
  | 32 => ⟨S65536x512, .bf16⟩
  | 33 => ⟨S65536x512, .f32⟩
  | 34 => ⟨S65536x512, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_10 : Ref sig .tc := ⟨.hbm, 106, rfl⟩
abbrev main_v88 : Ref sig .tc := ⟨.hbm, 107, rfl⟩
abbrev main_v89 : Ref sig .tc := ⟨.hbm, 108, rfl⟩
abbrev main_cst_11 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_c : Ref sig .tc := ⟨.hbm, 141, rfl⟩
abbrev main_call0_v0 : Ref sig .tc := ⟨.hbm, 142, rfl⟩
abbrev main_v121 : Ref sig .tc := ⟨.hbm, 143, rfl⟩
abbrev main_v122 : Ref sig .tc := ⟨.hbm, 144, rfl⟩
abbrev main_c_12 : Ref sig .tc := ⟨.hbm, 145, rfl⟩
abbrev main_call1_v0 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩

abbrev nD : Nat := 1
abbrev τ : Topo := Topo.v7x

variable {F : FTy → Type} [FloatOps F]
-- ==== MemAttend.lean ====
abbrev S32x2048x1024 : Shape := ⟨3, ![32, 2048, 1024]⟩
abbrev S1024 : Shape := ⟨1, ![1024]⟩
abbrev S1024x256 : Shape := ⟨2, ![1024, 256]⟩
abbrev S32x256x4x64 : Shape := ⟨4, ![32, 256, 4, 64]⟩
abbrev S256x1024 : Shape := ⟨2, ![256, 1024]⟩
abbrev S1x1024 : Shape := ⟨2, ![1, 1024]⟩
abbrev S32x256x256 : Shape := ⟨3, ![32, 256, 256]⟩
abbrev S1x512x1024 : Shape := ⟨3, ![1, 512, 1024]⟩
abbrev S1x256x256 : Shape := ⟨3, ![1, 256, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 12
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x256, .f32⟩
  | .hbm, ⟨3, _⟩ => ⟨S32x256x4x64, .f32⟩
  | .hbm, ⟨4, _⟩ => ⟨S32x256x4x64, .f32⟩
  | .hbm, ⟨5, _⟩ => ⟨S256x1024, .f32⟩
  | .hbm, ⟨6, _⟩ => ⟨S1x1024, .f32⟩
  | .hbm, ⟨7, _⟩ => ⟨S1024x256, .bf16⟩
  | .hbm, ⟨8, _⟩ => ⟨S32x256x256, .f32⟩
  | .hbm, ⟨9, _⟩ => ⟨S32x256x256, .f32⟩
  | .hbm, ⟨10, _⟩ => ⟨S256x1024, .bf16⟩
  | .hbm, ⟨11, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S256x1024, .bf16⟩
  | .local _ .vmem, ⟨9, _⟩ => ⟨S1x512x1024, .f32⟩
  | .local _ .vmem, ⟨10, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MemAttendReferenceIdeal.lean ====
abbrev S32x2048x1024 : Shape := ⟨3, ![32, 2048, 1024]⟩
abbrev S1024 : Shape := ⟨1, ![1024]⟩
abbrev S1024x256 : Shape := ⟨2, ![1024, 256]⟩
abbrev S32x256x4x64 : Shape := ⟨4, ![32, 256, 4, 64]⟩
abbrev S256x1024 : Shape := ⟨2, ![256, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x256 : Shape := ⟨3, ![32, 2048, 256]⟩
abbrev S32x2048x4x64 : Shape := ⟨4, ![32, 2048, 4, 64]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩

abbrev nBuf : Space → Nat
  | .hbm => 47
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x256, .f32⟩
  | .hbm, ⟨3, _⟩ => ⟨S32x256x4x64, .f32⟩
  | .hbm, ⟨4, _⟩ => ⟨S32x256x4x64, .f32⟩
  | .hbm, ⟨5, _⟩ => ⟨S256x1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S32x2048x256, .f32⟩
  | .hbm, ⟨23, _⟩ => ⟨S32x2048x4x64, .f32⟩
  | .hbm, ⟨24, _⟩ => ⟨S32x4x2048x256, .f32⟩
  | .hbm, ⟨25, _⟩ => ⟨S_, .f32⟩
  | .hbm, ⟨26, _⟩ => ⟨S32x4x2048x256, .f32⟩
  | .hbm, ⟨27, _⟩ => ⟨S32x4x2048x256, .f32⟩
  | .hbm, ⟨28, _⟩ => ⟨S_, .f32⟩
  | .hbm, ⟨29, _⟩ => ⟨S32x4x2048, .f32⟩
  | .hbm, ⟨30, _⟩ => ⟨S_, .f32⟩
  | .hbm, ⟨31, _⟩ => ⟨S32x4x2048, .f32⟩
  | .hbm, ⟨32, _⟩ => ⟨S32x4x2048, .f32⟩
  | .hbm, ⟨33, _⟩ => ⟨S32x4x2048x1, .f32⟩
  | .hbm, ⟨34, _⟩ => ⟨S32x4x2048x256, .f32⟩
  | .hbm, ⟨35, _⟩ => ⟨S32x4x2048x256, .f32⟩
  | .hbm, ⟨36, _⟩ => ⟨S32x4x2048x256, .f32⟩
  | .hbm, ⟨37, _⟩ => ⟨S_, .f32⟩
  | .hbm, ⟨38, _⟩ => ⟨S32x4x2048, .f32⟩
  | .hbm, ⟨39, _⟩ => ⟨S32x4x2048x1, .f32⟩
  | .hbm, ⟨40, _⟩ => ⟨S32x4x2048x256, .f32⟩
  | .hbm, ⟨41, _⟩ => ⟨S32x4x2048x256, .f32⟩
  | .hbm, ⟨42, _⟩ => ⟨S32x4x64x2048, .f32⟩
  | .hbm, ⟨43, _⟩ => ⟨S32x2048x4x64, .f32⟩
  | .hbm, ⟨44, _⟩ => ⟨S32x2048x256, .f32⟩
  | .hbm, ⟨45, _⟩ => ⟨S32x2048x1024, .f32⟩
  | .hbm, ⟨46, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== EvenOutput.lean ====
abbrev S32x2048x1024 : Shape := ⟨3, ![32, 2048, 1024]⟩
abbrev S32x2048x8x128 : Shape := ⟨4, ![32, 2048, 8, 128]⟩
abbrev S32x2048x8x64 : Shape := ⟨4, ![32, 2048, 8, 64]⟩
abbrev S128x8x64 : Shape := ⟨3, ![128, 8, 64]⟩
abbrev S1024x1024 : Shape := ⟨2, ![1024, 1024]⟩
abbrev S8x32x2048x128 : Shape := ⟨4, ![8, 32, 2048, 128]⟩
abbrev S8x65536x128 : Shape := ⟨3, ![8, 65536, 128]⟩
abbrev S65536x512 : Shape := ⟨2, ![65536, 512]⟩
abbrev S65536x1024 : Shape := ⟨2, ![65536, 1024]⟩
abbrev S8x128x64 : Shape := ⟨3, ![8, 128, 64]⟩
abbrev S4x2x128x64 : Shape := ⟨4, ![4, 2, 128, 64]⟩
abbrev S4x1x128x64 : Shape := ⟨4, ![4, 1, 128, 64]⟩
abbrev S4x128x64 : Shape := ⟨3, ![4, 128, 64]⟩
abbrev S_ : Shape := ⟨0, ![]⟩
abbrev S4x128x128 : Shape := ⟨3, ![4, 128, 128]⟩
abbrev S4x256x128 : Shape := ⟨3, ![4, 256, 128]⟩
abbrev S512x1024 : Shape := ⟨2, ![512, 1024]⟩
abbrev S8x512x128 : Shape := ⟨3, ![8, 512, 128]⟩
abbrev S512x512 : Shape := ⟨2, ![512, 512]⟩
abbrev S1x512x128 : Shape := ⟨3, ![1, 512, 128]⟩
abbrev S512x128 : Shape := ⟨2, ![512, 128]⟩
abbrev S512x256 : Shape := ⟨2, ![512, 256]⟩
abbrev S1x256x128 : Shape := ⟨3, ![1, 256, 128]⟩
abbrev S256x128 : Shape := ⟨2, ![256, 128]⟩

abbrev nBuf : Space → Nat
  | .hbm => 27
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S32x2048x8x128, .f32⟩
  | .hbm, ⟨2, _⟩ => ⟨S32x2048x8x64, .f32⟩
  | .hbm, ⟨3, _⟩ => ⟨S128x8x64, .f32⟩
  | .hbm, ⟨4, _⟩ => ⟨S1024x1024, .f32⟩
  | .hbm, ⟨5, _⟩ => ⟨S8x32x2048x128, .f32⟩
  | .hbm, ⟨6, _⟩ => ⟨S8x65536x128, .f32⟩
  | .hbm, ⟨7, _⟩ => ⟨S8x65536x128, .bf16⟩
  | .hbm, ⟨8, _⟩ => ⟨S65536x512, .f32⟩
  | .hbm, ⟨9, _⟩ => ⟨S65536x512, .bf16⟩
  | .hbm, ⟨10, _⟩ => ⟨S65536x1024, .f32⟩
  | .hbm, ⟨11, _⟩ => ⟨S8x128x64, .f32⟩
  | .hbm, ⟨12, _⟩ => ⟨S4x2x128x64, .f32⟩
  | .hbm, ⟨13, _⟩ => ⟨S4x1x128x64, .f32⟩
  | .hbm, ⟨14, _⟩ => ⟨S4x128x64, .f32⟩
  | .hbm, ⟨15, _⟩ => ⟨S_, .f32⟩
  | .hbm, ⟨16, _⟩ => ⟨S4x128x64, .f32⟩
  | .hbm, ⟨17, _⟩ => ⟨S4x1x128x64, .f32⟩
  | .hbm, ⟨18, _⟩ => ⟨S4x128x64, .f32⟩
  | .hbm, ⟨19, _⟩ => ⟨S4x128x128, .f32⟩
  | .hbm, ⟨20, _⟩ => ⟨S4x1x128x64, .f32⟩
  | .hbm, ⟨21, _⟩ => ⟨S4x128x64, .f32⟩
  | .hbm, ⟨22, _⟩ => ⟨S4x128x128, .f32⟩
  | .hbm, ⟨23, _⟩ => ⟨S4x256x128, .f32⟩
  | .hbm, ⟨24, _⟩ => ⟨S4x256x128, .bf16⟩
  | .hbm, ⟨25, _⟩ => ⟨S1024x1024, .bf16⟩
  | .hbm, ⟨26, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S8x512x128, .bf16⟩
  | .local _ .vmem, ⟨3, _⟩ => ⟨S8x512x128, .bf16⟩
  | .local _ .vmem, ⟨4, _⟩ => ⟨S512x512, .bf16⟩
  | .local _ .vmem, ⟨5, _⟩ => ⟨S512x512, .bf16⟩
  | .local _ .vmem, ⟨6, _⟩ => ⟨S4x256x128, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenOutputReferenceIdeal.lean ====
abbrev S32x2048x1024 : Shape := ⟨3, ![32, 2048, 1024]⟩
abbrev S32x2048x8x128 : Shape := ⟨4, ![32, 2048, 8, 128]⟩
abbrev S32x2048x8x64 : Shape := ⟨4, ![32, 2048, 8, 64]⟩
abbrev S128x8x64 : Shape := ⟨3, ![128, 8, 64]⟩
abbrev S1024x1024 : Shape := ⟨2, ![1024, 1024]⟩
abbrev S8x64x32x2048 : Shape := ⟨4, ![8, 64, 32, 2048]⟩
abbrev S32x2048x512 : Shape := ⟨3, ![32, 2048, 512]⟩
abbrev S65536x1024 : Shape := ⟨2, ![65536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x8x128, .f32⟩
  | .hbm, ⟨2, _⟩ => ⟨S32x2048x8x64, .f32⟩
  | .hbm, ⟨3, _⟩ => ⟨S128x8x64, .f32⟩
  | .hbm, ⟨4, _⟩ => ⟨S1024x1024, .f32⟩
  | .hbm, ⟨5, _⟩ => ⟨S8x64x32x2048, .f32⟩
  | .hbm, ⟨6, _⟩ => ⟨S32x2048x8x64, .f32⟩
  | .hbm, ⟨7, _⟩ => ⟨S32x2048x512, .f32⟩
  | .hbm, ⟨8, _⟩ => ⟨S32x2048x512, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== OddOutput.lean ====
abbrev S32x2048x1024 : Shape := ⟨3, ![32, 2048, 1024]⟩
abbrev S32x2048x4x64 : Shape := ⟨4, ![32, 2048, 4, 64]⟩
abbrev S32x2048x4 : Shape := ⟨3, ![32, 2048, 4]⟩
abbrev S256x1024 : Shape := ⟨2, ![256, 1024]⟩
abbrev S65536x2x128 : Shape := ⟨3, ![65536, 2, 128]⟩
abbrev S2x65536x128 : Shape := ⟨3, ![2, 65536, 128]⟩
abbrev S32x2048x4x1 : Shape := ⟨4, ![32, 2048, 4, 1]⟩
abbrev S65536x1024 : Shape := ⟨2, ![65536, 1024]⟩
abbrev S512x1024 : Shape := ⟨2, ![512, 1024]⟩
abbrev S2x512x128 : Shape := ⟨3, ![2, 512, 128]⟩
abbrev S1x512x128 : Shape := ⟨3, ![1, 512, 128]⟩
abbrev S512x128 : Shape := ⟨2, ![512, 128]⟩
abbrev S512x256 : Shape := ⟨2, ![512, 256]⟩

abbrev nBuf : Space → Nat
  | .hbm => 29
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x2048x4x64, .f32⟩
  | .hbm, ⟨2, _⟩ => ⟨S32x2048x4x64, .f32⟩
  | .hbm, ⟨3, _⟩ => ⟨S32x2048x4x64, .f32⟩
  | .hbm, ⟨4, _⟩ => ⟨S32x2048x4, .f32⟩
  | .hbm, ⟨5, _⟩ => ⟨S32x2048x4, .f32⟩
  | .hbm, ⟨6, _⟩ => ⟨S32x2048x4, .f32⟩
  | .hbm, ⟨7, _⟩ => ⟨S256x1024, .f32⟩
  | .hbm, ⟨8, _⟩ => ⟨S65536x2x128, .f32⟩
  | .hbm, ⟨9, _⟩ => ⟨S2x65536x128, .f32⟩
  | .hbm, ⟨10, _⟩ => ⟨S65536x2x128, .f32⟩
  | .hbm, ⟨11, _⟩ => ⟨S2x65536x128, .f32⟩
  | .hbm, ⟨12, _⟩ => ⟨S65536x2x128, .f32⟩
  | .hbm, ⟨13, _⟩ => ⟨S2x65536x128, .f32⟩
  | .hbm, ⟨14, _⟩ => ⟨S32x2048x4x1, .f32⟩
  | .hbm, ⟨15, _⟩ => ⟨S32x2048x4x64, .f32⟩
  | .hbm, ⟨16, _⟩ => ⟨S65536x2x128, .f32⟩
  | .hbm, ⟨17, _⟩ => ⟨S2x65536x128, .f32⟩
  | .hbm, ⟨18, _⟩ => ⟨S32x2048x4x1, .f32⟩
  | .hbm, ⟨19, _⟩ => ⟨S32x2048x4x64, .f32⟩
  | .hbm, ⟨20, _⟩ => ⟨S65536x2x128, .f32⟩
  | .hbm, ⟨21, _⟩ => ⟨S2x65536x128, .f32⟩
  | .hbm, ⟨22, _⟩ => ⟨S32x2048x4x1, .f32⟩
  | .hbm, ⟨23, _⟩ => ⟨S32x2048x4x64, .f32⟩
  | .hbm, ⟨24, _⟩ => ⟨S65536x2x128, .f32⟩
  | .hbm, ⟨25, _⟩ => ⟨S2x65536x128, .f32⟩
  | .hbm, ⟨26, _⟩ => ⟨S65536x1024, .f32⟩
  | .hbm, ⟨27, _⟩ => ⟨S256x1024, .bf16⟩
  | .hbm, ⟨28, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S2x512x128, .f32⟩
  | .local _ .vmem, ⟨3, _⟩ => ⟨S2x512x128, .f32⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S256x1024, .bf16⟩
  | .local _ .vmem, ⟨15, _⟩ => ⟨S512x1024, .f32⟩
  | .local _ .vmem, ⟨16, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OddOutputReferenceIdeal.lean ====
abbrev S32x2048x1024 : Shape := ⟨3, ![32, 2048, 1024]⟩
abbrev S32x2048x4x64 : Shape := ⟨4, ![32, 2048, 4, 64]⟩
abbrev S32x2048x4 : Shape := ⟨3, ![32, 2048, 4]⟩
abbrev S256x1024 : Shape := ⟨2, ![256, 1024]⟩
abbrev S1x32x2048x4 : Shape := ⟨4, ![1, 32, 2048, 4]⟩
abbrev S3x32x2048x4 : Shape := ⟨4, ![3, 32, 2048, 4]⟩
abbrev S_ : Shape := ⟨0, ![]⟩
abbrev S1x32x2048x4x64 : Shape := ⟨5, ![1, 32, 2048, 4, 64]⟩
abbrev S3x32x2048x4x64 : Shape := ⟨5, ![3, 32, 2048, 4, 64]⟩
abbrev S32x2048x256 : Shape := ⟨3, ![32, 2048, 256]⟩
abbrev S65536x1024 : Shape := ⟨2, ![65536, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x4x64, .f32⟩
  | .hbm, ⟨2, _⟩ => ⟨S32x2048x4x64, .f32⟩
  | .hbm, ⟨3, _⟩ => ⟨S32x2048x4x64, .f32⟩
  | .hbm, ⟨4, _⟩ => ⟨S32x2048x4, .f32⟩
  | .hbm, ⟨5, _⟩ => ⟨S32x2048x4, .f32⟩
  | .hbm, ⟨6, _⟩ => ⟨S32x2048x4, .f32⟩
  | .hbm, ⟨7, _⟩ => ⟨S256x1024, .f32⟩
  | .hbm, ⟨8, _⟩ => ⟨S1x32x2048x4, .f32⟩
  | .hbm, ⟨9, _⟩ => ⟨S1x32x2048x4, .f32⟩
  | .hbm, ⟨10, _⟩ => ⟨S1x32x2048x4, .f32⟩
  | .hbm, ⟨11, _⟩ => ⟨S3x32x2048x4, .f32⟩
  | .hbm, ⟨12, _⟩ => ⟨S_, .f32⟩
  | .hbm, ⟨13, _⟩ => ⟨S32x2048x4, .f32⟩
  | .hbm, ⟨14, _⟩ => ⟨S_, .f32⟩
  | .hbm, ⟨15, _⟩ => ⟨S32x2048x4, .f32⟩
  | .hbm, ⟨16, _⟩ => ⟨S32x2048x4, .f32⟩
  | .hbm, ⟨17, _⟩ => ⟨S1x32x2048x4, .f32⟩
  | .hbm, ⟨18, _⟩ => ⟨S3x32x2048x4, .f32⟩
  | .hbm, ⟨19, _⟩ => ⟨S3x32x2048x4, .f32⟩
  | .hbm, ⟨20, _⟩ => ⟨S3x32x2048x4, .f32⟩
  | .hbm, ⟨21, _⟩ => ⟨S_, .f32⟩
  | .hbm, ⟨22, _⟩ => ⟨S32x2048x4, .f32⟩
  | .hbm, ⟨23, _⟩ => ⟨S1x32x2048x4, .f32⟩
  | .hbm, ⟨24, _⟩ => ⟨S3x32x2048x4, .f32⟩
  | .hbm, ⟨25, _⟩ => ⟨S3x32x2048x4, .f32⟩
  | .hbm, ⟨26, _⟩ => ⟨S1x32x2048x4x64, .f32⟩
  | .hbm, ⟨27, _⟩ => ⟨S1x32x2048x4x64, .f32⟩
  | .hbm, ⟨28, _⟩ => ⟨S1x32x2048x4x64, .f32⟩
  | .hbm, ⟨29, _⟩ => ⟨S3x32x2048x4x64, .f32⟩
  | .hbm, ⟨30, _⟩ => ⟨S32x2048x4x64, .f32⟩
  | .hbm, ⟨31, _⟩ => ⟨S32x2048x256, .f32⟩
  | .hbm, ⟨32, _⟩ => ⟨S32x2048x1024, .f32⟩
  | .hbm, ⟨33, _⟩ => ⟨S32x2048x1024, .f32⟩
  | .hbm, ⟨34, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== DilSample.lean ====
abbrev S128x4x2304 : Shape := ⟨3, ![128, 4, 2304]⟩
abbrev S128x128x2x4x64 : Shape := ⟨5, ![128, 128, 2, 4, 64]⟩
abbrev S128x512x2x4x64 : Shape := ⟨5, ![128, 512, 2, 4, 64]⟩
abbrev S128x2048x2x4x64 : Shape := ⟨5, ![128, 2048, 2, 4, 64]⟩
abbrev S128x4x256 : Shape := ⟨3, ![128, 4, 256]⟩
abbrev S128x1x4x256 : Shape := ⟨4, ![128, 1, 4, 256]⟩
abbrev S128x3x4x256 : Shape := ⟨4, ![128, 3, 4, 256]⟩
abbrev S_ : Shape := ⟨0, ![]⟩
abbrev S128x3x8x256 : Shape := ⟨4, ![128, 3, 8, 256]⟩
abbrev S256 : Shape := ⟨1, ![256]⟩
abbrev S1x1x256 : Shape := ⟨3, ![1, 1, 256]⟩
abbrev S4 : Shape := ⟨1, ![4]⟩
abbrev S4x1x1 : Shape := ⟨3, ![4, 1, 1]⟩
abbrev S4x1x256 : Shape := ⟨3, ![4, 1, 256]⟩
abbrev S128x3x1x8x256 : Shape := ⟨5, ![128, 3, 1, 8, 256]⟩
abbrev S128x3x4x8x256 : Shape := ⟨5, ![128, 3, 4, 8, 256]⟩
abbrev S128x96x256 : Shape := ⟨3, ![128, 96, 256]⟩
abbrev S128x2x4x64x128 : Shape := ⟨5, ![128, 2, 4, 64, 128]⟩
abbrev S128x2x4x64x512 : Shape := ⟨5, ![128, 2, 4, 64, 512]⟩
abbrev S128x2x4x64x2048 : Shape := ⟨5, ![128, 2, 4, 64, 2048]⟩
abbrev S128x4x512 : Shape := ⟨3, ![128, 4, 512]⟩
abbrev S128x512x4 : Shape := ⟨3, ![128, 512, 4]⟩
abbrev S128x512x128 : Shape := ⟨3, ![128, 512, 128]⟩
abbrev S128x4x768 : Shape := ⟨3, ![128, 4, 768]⟩
abbrev S1x96x256 : Shape := ⟨3, ![1, 96, 256]⟩
abbrev S1x4x2304 : Shape := ⟨3, ![1, 4, 2304]⟩
abbrev S1x2x4x64x128 : Shape := ⟨5, ![1, 2, 4, 64, 128]⟩
abbrev S1x2x4x64x512 : Shape := ⟨5, ![1, 2, 4, 64, 512]⟩
abbrev S1x2x4x64x2048 : Shape := ⟨5, ![1, 2, 4, 64, 2048]⟩
abbrev S1x512x128 : Shape := ⟨3, ![1, 512, 128]⟩
abbrev S1x4x768 : Shape := ⟨3, ![1, 4, 768]⟩
abbrev S32x1 : Shape := ⟨2, ![32, 1]⟩
abbrev S32x256 : Shape := ⟨2, ![32, 256]⟩
abbrev S1x32x256 : Shape := ⟨3, ![1, 32, 256]⟩
abbrev S1x4x256 : Shape := ⟨3, ![1, 4, 256]⟩
abbrev S4x256 : Shape := ⟨2, ![4, 256]⟩
abbrev S1x1x4x64x128 : Shape := ⟨5, ![1, 1, 4, 64, 128]⟩
abbrev S4x64x128 : Shape := ⟨3, ![4, 64, 128]⟩
abbrev S256x128 : Shape := ⟨2, ![256, 128]⟩
abbrev S32x128 : Shape := ⟨2, ![32, 128]⟩
abbrev S1x256 : Shape := ⟨2, ![1, 256]⟩
abbrev S32 : Shape := ⟨1, ![32]⟩
abbrev S8x256 : Shape := ⟨2, ![8, 256]⟩
abbrev S2x4x64x128 : Shape := ⟨4, ![2, 4, 64, 128]⟩
abbrev S512x128 : Shape := ⟨2, ![512, 128]⟩
abbrev S1x1x4x64x512 : Shape := ⟨5, ![1, 1, 4, 64, 512]⟩
abbrev S4x64x512 : Shape := ⟨3, ![4, 64, 512]⟩
abbrev S256x512 : Shape := ⟨2, ![256, 512]⟩
abbrev S32x512 : Shape := ⟨2, ![32, 512]⟩
abbrev S2x4x64x512 : Shape := ⟨4, ![2, 4, 64, 512]⟩
abbrev S512x512 : Shape := ⟨2, ![512, 512]⟩
abbrev S512x384 : Shape := ⟨2, ![512, 384]⟩
abbrev S1x1x4x64x2048 : Shape := ⟨5, ![1, 1, 4, 64, 2048]⟩
abbrev S4x64x2048 : Shape := ⟨3, ![4, 64, 2048]⟩
abbrev S256x2048 : Shape := ⟨2, ![256, 2048]⟩
abbrev S32x2048 : Shape := ⟨2, ![32, 2048]⟩
abbrev S2x4x64x2048 : Shape := ⟨4, ![2, 4, 64, 2048]⟩
abbrev S512x2048 : Shape := ⟨2, ![512, 2048]⟩
abbrev S512x1920 : Shape := ⟨2, ![512, 1920]⟩

abbrev nBuf : Space → Nat
  | .hbm => 70
  | .vmem => 26
  | .smem => 0
  | _ => 0

abbrev bufTy : (tb : Table) → Fin (tcTables nBuf tb) → BufTy
  | .hbm, ⟨0, _⟩ => ⟨S128x4x2304, .f32⟩
  | .hbm, ⟨1, _⟩ => ⟨S128x128x2x4x64, .f32⟩
  | .hbm, ⟨2, _⟩ => ⟨S128x512x2x4x64, .f32⟩
  | .hbm, ⟨3, _⟩ => ⟨S128x2048x2x4x64, .f32⟩
  | .hbm, ⟨4, _⟩ => ⟨S128x4x256, .f32⟩
  | .hbm, ⟨5, _⟩ => ⟨S128x4x256, .f32⟩
  | .hbm, ⟨6, _⟩ => ⟨S128x4x256, .f32⟩
  | .hbm, ⟨7, _⟩ => ⟨S128x1x4x256, .f32⟩
  | .hbm, ⟨8, _⟩ => ⟨S128x1x4x256, .f32⟩
  | .hbm, ⟨9, _⟩ => ⟨S128x1x4x256, .f32⟩
  | .hbm, ⟨10, _⟩ => ⟨S128x3x4x256, .f32⟩
  | .hbm, ⟨11, _⟩ => ⟨S_, .i32⟩
  | .hbm, ⟨12, _⟩ => ⟨S_, .f32⟩
  | .hbm, ⟨13, _⟩ => ⟨S128x3x8x256, .f32⟩
  | .hbm, ⟨14, _⟩ => ⟨S256, .i32⟩
  | .hbm, ⟨15, _⟩ => ⟨S_, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S1x1x256, .i32⟩
  | .hbm, ⟨34, _⟩ => ⟨S4, .i32⟩
  | .hbm, ⟨35, _⟩ => ⟨S4x1x1, .i32⟩
  | .hbm, ⟨36, _⟩ => ⟨S4x1x256, .i32⟩
  | .hbm, ⟨37, _⟩ => ⟨S4x1x256, .i32⟩
  | .hbm, ⟨38, _⟩ => ⟨S4x1x256, .i1⟩
  | .hbm, ⟨39, _⟩ => ⟨S128x3x1x8x256, .f32⟩
  | .hbm, ⟨40, _⟩ => ⟨S_, .f32⟩
  | .hbm, ⟨41, _⟩ => ⟨S_, .f32⟩
  | .hbm, ⟨42, _⟩ => ⟨S128x3x4x8x256, .i1⟩
  | .hbm, ⟨43, _⟩ => ⟨S128x3x4x8x256, .f32⟩
  | .hbm, ⟨44, _⟩ => ⟨S128x3x4x8x256, .f32⟩
  | .hbm, ⟨45, _⟩ => ⟨S128x3x4x8x256, .f32⟩
  | .hbm, ⟨46, _⟩ => ⟨S128x96x256, .f32⟩
  | .hbm, ⟨47, _⟩ => ⟨S128x2x4x64x128, .f32⟩
  | .hbm, ⟨48, _⟩ => ⟨S128x2x4x64x512, .f32⟩
  | .hbm, ⟨49, _⟩ => ⟨S128x2x4x64x2048, .f32⟩
  | .hbm, ⟨50, _⟩ => ⟨S128x4x512, .f32⟩
  | .hbm, ⟨51, _⟩ => ⟨S128x512x4, .f32⟩
  | .hbm, ⟨52, _⟩ => ⟨S_, .i32⟩
  | .hbm, ⟨53, _⟩ => ⟨S_, .f32⟩
  | .hbm, ⟨54, _⟩ => ⟨S128x512x128, .f32⟩
  | .hbm, ⟨55, _⟩ => ⟨S128x4x512, .f32⟩
  | .hbm, ⟨56, _⟩ => ⟨S128x512x4, .f32⟩
  | .hbm, ⟨57, _⟩ => ⟨S_, .i32⟩
  | .hbm, ⟨58, _⟩ => ⟨S_, .f32⟩
  | .hbm, ⟨59, _⟩ => ⟨S128x512x128, .f32⟩
  | .hbm, ⟨60, _⟩ => ⟨S128x4x512, .f32⟩
  | .hbm, ⟨61, _⟩ => ⟨S128x512x4, .f32⟩
  | .hbm, ⟨62, _⟩ => ⟨S_, .i32⟩
  | .hbm, ⟨63, _⟩ => ⟨S_, .f32⟩
  | .hbm, ⟨64, _⟩ => ⟨S128x512x128, .f32⟩
  | .hbm, ⟨65, _⟩ => ⟨S128x4x768, .f32⟩
  | .hbm, ⟨66, _⟩ => ⟨S128x4x768, .f32⟩
  | .hbm, ⟨67, _⟩ => ⟨S128x2x4x64x128, .f32⟩
  | .hbm, ⟨68, _⟩ => ⟨S128x2x4x64x512, .f32⟩
  | .hbm, ⟨69, _⟩ => ⟨S128x2x4x64x2048, .f32⟩
  | .local _ .vmem, ⟨0, _⟩ => ⟨S1x96x256, .f32⟩
  | .local _ .vmem, ⟨1, _⟩ => ⟨S1x96x256, .f32⟩
  | .local _ .vmem, ⟨2, _⟩ => ⟨S1x4x2304, .f32⟩
  | .local _ .vmem, ⟨3, _⟩ => ⟨S1x4x2304, .f32⟩
  | .local _ .vmem, ⟨4, _⟩ => ⟨S1x2x4x64x128, .f32⟩
  | .local _ .vmem, ⟨5, _⟩ => ⟨S1x2x4x64x128, .f32⟩
  | .local _ .vmem, ⟨6, _⟩ => ⟨S1x2x4x64x512, .f32⟩
  | .local _ .vmem, ⟨7, _⟩ => ⟨S1x2x4x64x512, .f32⟩
  | .local _ .vmem, ⟨8, _⟩ => ⟨S1x2x4x64x2048, .f32⟩
  | .local _ .vmem, ⟨9, _⟩ => ⟨S1x2x4x64x2048, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x4x768, .f32⟩
  | .local _ .vmem, ⟨17, _⟩ => ⟨S1x4x768, .f32⟩
  | .local _ .vmem, ⟨18, _⟩ => ⟨S1x4x768, .f32⟩
  | .local _ .vmem, ⟨19, _⟩ => ⟨S1x4x768, .f32⟩
  | .local _ .vmem, ⟨20, _⟩ => ⟨S1x2x4x64x128, .f32⟩
  | .local _ .vmem, ⟨21, _⟩ => ⟨S1x2x4x64x128, .f32⟩
  | .local _ .vmem, ⟨22, _⟩ => ⟨S1x2x4x64x512, .f32⟩
  | .local _ .vmem, ⟨23, _⟩ => ⟨S1x2x4x64x512, .f32⟩
  | .local _ .vmem, ⟨24, _⟩ => ⟨S1x2x4x64x2048, .f32⟩
  | .local _ .vmem, ⟨25, _⟩ => ⟨S1x2x4x64x2048, .f32⟩
  | _, _ => ⟨S128x4x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_1 : Ref sig .tc := ⟨.hbm, 52, rfl⟩
abbrev main_call3_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_2 : Ref sig .tc := ⟨.hbm, 57, rfl⟩
abbrev main_call4_v0 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_3 : Ref sig .tc := ⟨.hbm, 62, rfl⟩
abbrev main_call5_v0 : Ref sig .tc := ⟨.hbm, 63, rfl⟩
abbrev main_v30 : Ref sig .tc := ⟨.hbm, 64, rfl⟩
abbrev main_v31_0 : Ref sig .tc := ⟨.hbm, 65, rfl⟩
abbrev main_v31_1 : Ref sig .tc := ⟨.hbm, 66, rfl⟩
abbrev main_v31_2 : Ref sig .tc := ⟨.hbm, 67, rfl⟩
abbrev main_v31_3 : Ref sig .tc := ⟨.hbm, 68, rfl⟩
abbrev main_v31_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_12 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x96x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x4x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x4x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x4x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x4x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DilSampleReferenceIdeal.lean ====
abbrev S128x4x2304 : Shape := ⟨3, ![128, 4, 2304]⟩
abbrev S128x128x2x4x64 : Shape := ⟨5, ![128, 128, 2, 4, 64]⟩
abbrev S128x512x2x4x64 : Shape := ⟨5, ![128, 512, 2, 4, 64]⟩
abbrev S128x2048x2x4x64 : Shape := ⟨5, ![128, 2048, 2, 4, 64]⟩
abbrev S128x4x256 : Shape := ⟨3, ![128, 4, 256]⟩
abbrev S128x4x4x64 : Shape := ⟨4, ![128, 4, 4, 64]⟩
abbrev S128x4x1x4x64 : Shape := ⟨5, ![128, 4, 1, 4, 64]⟩
abbrev S128x4x2x4x64 : Shape := ⟨5, ![128, 4, 2, 4, 64]⟩
abbrev S128x132x2x4x64 : Shape := ⟨5, ![128, 132, 2, 4, 64]⟩
abbrev S128x2x4x64x128 : Shape := ⟨5, ![128, 2, 4, 64, 128]⟩
abbrev S128x516x2x4x64 : Shape := ⟨5, ![128, 516, 2, 4, 64]⟩
abbrev S128x2x4x64x512 : Shape := ⟨5, ![128, 2, 4, 64, 512]⟩
abbrev S128x2052x2x4x64 : Shape := ⟨5, ![128, 2052, 2, 4, 64]⟩
abbrev S128x2x4x64x2048 : Shape := ⟨5, ![128, 2, 4, 64, 2048]⟩

abbrev nBuf : Space → Nat
  | .hbm => 34
  | .vmem => 0
  | .smem => 0
  | _ => 0

abbrev bufTy : (tb : Table) → Fin (tcTables nBuf tb) → BufTy
  | .hbm, ⟨0, _⟩ => ⟨S128x4x2304, .f32⟩
  | .hbm, ⟨1, _⟩ => ⟨S128x128x2x4x64, .f32⟩
  | .hbm, ⟨2, _⟩ => ⟨S128x512x2x4x64, .f32⟩
  | .hbm, ⟨3, _⟩ => ⟨S128x2048x2x4x64, .f32⟩
  | .hbm, ⟨4, _⟩ => ⟨S128x4x256, .f32⟩
  | .hbm, ⟨5, _⟩ => ⟨S128x4x4x64, .f32⟩
  | .hbm, ⟨6, _⟩ => ⟨S128x4x256, .f32⟩
  | .hbm, ⟨7, _⟩ => ⟨S128x4x4x64, .f32⟩
  | .hbm, ⟨8, _⟩ => ⟨S128x4x1x4x64, .f32⟩
  | .hbm, ⟨9, _⟩ => ⟨S128x4x1x4x64, .f32⟩
  | .hbm, ⟨10, _⟩ => ⟨S128x4x2x4x64, .f32⟩
  | .hbm, ⟨11, _⟩ => ⟨S128x132x2x4x64, .f32⟩
  | .hbm, ⟨12, _⟩ => ⟨S128x128x2x4x64, .f32⟩
  | .hbm, ⟨13, _⟩ => ⟨S128x2x4x64x128, .f32⟩
  | .hbm, ⟨14, _⟩ => ⟨S128x4x256, .f32⟩
  | .hbm, ⟨15, _⟩ => ⟨S128x4x4x64, .f32⟩
  | .hbm, ⟨16, _⟩ => ⟨S128x4x256, .f32⟩
  | .hbm, ⟨17, _⟩ => ⟨S128x4x4x64, .f32⟩
  | .hbm, ⟨18, _⟩ => ⟨S128x4x1x4x64, .f32⟩
  | .hbm, ⟨19, _⟩ => ⟨S128x4x1x4x64, .f32⟩
  | .hbm, ⟨20, _⟩ => ⟨S128x4x2x4x64, .f32⟩
  | .hbm, ⟨21, _⟩ => ⟨S128x516x2x4x64, .f32⟩
  | .hbm, ⟨22, _⟩ => ⟨S128x512x2x4x64, .f32⟩
  | .hbm, ⟨23, _⟩ => ⟨S128x2x4x64x512, .f32⟩
  | .hbm, ⟨24, _⟩ => ⟨S128x4x256, .f32⟩
  | .hbm, ⟨25, _⟩ => ⟨S128x4x4x64, .f32⟩
  | .hbm, ⟨26, _⟩ => ⟨S128x4x256, .f32⟩
  | .hbm, ⟨27, _⟩ => ⟨S128x4x4x64, .f32⟩
  | .hbm, ⟨28, _⟩ => ⟨S128x4x1x4x64, .f32⟩
  | .hbm, ⟨29, _⟩ => ⟨S128x4x1x4x64, .f32⟩
  | .hbm, ⟨30, _⟩ => ⟨S128x4x2x4x64, .f32⟩
  | .hbm, ⟨31, _⟩ => ⟨S128x2052x2x4x64, .f32⟩
  | .hbm, ⟨32, _⟩ => ⟨S128x2048x2x4x64, .f32⟩
  | .hbm, ⟨33, _⟩ => ⟨S128x2x4x64x2048, .f32⟩
  | _, _ => ⟨S128x4x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== FfnFinalSample.lean ====
abbrev S128x4x1024 : Shape := ⟨3, ![128, 4, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S1x1024 : Shape := ⟨2, ![1, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S512x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S512x1024, .f32⟩
  | .local _ .vmem, ⟨6, _⟩ => ⟨S512x2816, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FfnFinalSampleReferenceIdeal.lean ====
abbrev S128x4x1024 : Shape := ⟨3, ![128, 4, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x5632 : Shape := ⟨3, ![128, 4, 5632]⟩
abbrev S128x4x2816 : Shape := ⟨3, ![128, 4, 2816]⟩
abbrev S512x1024 : Shape := ⟨2, ![512, 1024]⟩

abbrev nBuf : Space → Nat
  | .hbm => 56
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S128x4x1024, .f32⟩
  | .hbm, ⟨6, _⟩ => ⟨S_, .f32⟩
  | .hbm, ⟨7, _⟩ => ⟨S128x4, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1, .f32⟩
  | .hbm, ⟨16, _⟩ => ⟨S128x4x1024, .f32⟩
  | .hbm, ⟨17, _⟩ => ⟨S128x4x1024, .f32⟩
  | .hbm, ⟨18, _⟩ => ⟨S1x1x1024, .f32⟩
  | .hbm, ⟨19, _⟩ => ⟨S128x4x1024, .f32⟩
  | .hbm, ⟨20, _⟩ => ⟨S128x4x1024, .f32⟩
  | .hbm, ⟨21, _⟩ => ⟨S128x4x5632, .f32⟩
  | .hbm, ⟨22, _⟩ => ⟨S128x4x2816, .f32⟩
  | .hbm, ⟨23, _⟩ => ⟨S128x4x2816, .f32⟩
  | .hbm, ⟨24, _⟩ => ⟨S128x4x2816, .f32⟩
  | .hbm, ⟨25, _⟩ => ⟨S128x4x2816, .f32⟩
  | .hbm, ⟨26, _⟩ => ⟨S_, .f32⟩
  | .hbm, ⟨27, _⟩ => ⟨S128x4x2816, .f32⟩
  | .hbm, ⟨28, _⟩ => ⟨S128x4x2816, .f32⟩
  | .hbm, ⟨29, _⟩ => ⟨S_, .f32⟩
  | .hbm, ⟨30, _⟩ => ⟨S128x4x2816, .f32⟩
  | .hbm, ⟨31, _⟩ => ⟨S128x4x2816, .f32⟩
  | .hbm, ⟨32, _⟩ => ⟨S128x4x2816, .f32⟩
  | .hbm, ⟨33, _⟩ => ⟨S128x4x2816, .f32⟩
  | .hbm, ⟨34, _⟩ => ⟨S128x4x1024, .f32⟩
  | .hbm, ⟨35, _⟩ => ⟨S_, .f32⟩
  | .hbm, ⟨36, _⟩ => ⟨S128x4x1024, .f32⟩
  | .hbm, ⟨37, _⟩ => ⟨S128x4x1024, .f32⟩
  | .hbm, ⟨38, _⟩ => ⟨S128x4x1024, .f32⟩
  | .hbm, ⟨39, _⟩ => ⟨S128x4x1024, .f32⟩
  | .hbm, ⟨40, _⟩ => ⟨S_, .f32⟩
  | .hbm, ⟨41, _⟩ => ⟨S128x4, .f32⟩
  | .hbm, ⟨42, _⟩ => ⟨S128x4x1, .f32⟩
  | .hbm, ⟨43, _⟩ => ⟨S_, .f32⟩
  | .hbm, ⟨44, _⟩ => ⟨S128x4x1, .f32⟩
  | .hbm, ⟨45, _⟩ => ⟨S128x4x1, .f32⟩
  | .hbm, ⟨46, _⟩ => ⟨S_, .f32⟩
  | .hbm, ⟨47, _⟩ => ⟨S128x4x1, .f32⟩
  | .hbm, ⟨48, _⟩ => ⟨S128x4x1, .f32⟩
  | .hbm, ⟨49, _⟩ => ⟨S128x4x1, .f32⟩
  | .hbm, ⟨50, _⟩ => ⟨S128x4x1024, .f32⟩
  | .hbm, ⟨51, _⟩ => ⟨S128x4x1024, .f32⟩
  | .hbm, ⟨52, _⟩ => ⟨S1x1x1024, .f32⟩
  | .hbm, ⟨53, _⟩ => ⟨S128x4x1024, .f32⟩
  | .hbm, ⟨54, _⟩ => ⟨S128x4x1024, .f32⟩
  | .hbm, ⟨55, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== EvenProjectSample.lean ====
abbrev S128x4x1024 : Shape := ⟨3, ![128, 4, 1024]⟩
abbrev S1024 : Shape := ⟨1, ![1024]⟩
abbrev S1024x1952 : Shape := ⟨2, ![1024, 1952]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S1024x384 : Shape := ⟨2, ![1024, 384]⟩
abbrev S1024x32 : Shape := ⟨2, ![1024, 32]⟩
abbrev S_ : Shape := ⟨0, ![]⟩
abbrev S1024x96 : Shape := ⟨2, ![1024, 96]⟩
abbrev S1024x1536 : Shape := ⟨2, ![1024, 1536]⟩
abbrev S1024x2048 : Shape := ⟨2, ![1024, 2048]⟩
abbrev S256x8x64 : Shape := ⟨3, ![256, 8, 64]⟩
abbrev S256x512 : Shape := ⟨2, ![256, 512]⟩
abbrev S256x8x32 : Shape := ⟨3, ![256, 8, 32]⟩
abbrev S256x8x128 : Shape := ⟨3, ![256, 8, 128]⟩
abbrev S256x1024 : Shape := ⟨2, ![256, 1024]⟩
abbrev S256x1536 : Shape := ⟨2, ![256, 1536]⟩
abbrev S8x64x128 : Shape := ⟨3, ![8, 64, 128]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S4x64x256 : Shape := ⟨3, ![4, 64, 256]⟩
abbrev S4x128x256 : Shape := ⟨3, ![4, 128, 256]⟩
abbrev S4 : Shape := ⟨1, ![4]⟩
abbrev S1x4 : Shape := ⟨2, ![1, 4]⟩
abbrev S128x4 : Shape := ⟨2, ![128, 4]⟩
abbrev S512 : Shape := ⟨1, ![512]⟩
abbrev S16 : Shape := ⟨1, ![16]⟩
abbrev S512x1 : Shape := ⟨2, ![512, 1]⟩
abbrev S1x16 : Shape := ⟨2, ![1, 16]⟩
abbrev S512x16 : Shape := ⟨2, ![512, 16]⟩
abbrev S512x32 : Shape := ⟨2, ![512, 32]⟩
abbrev S1x512x1x32 : Shape := ⟨4, ![1, 512, 1, 32]⟩
abbrev S1x512x4x32 : Shape := ⟨4, ![1, 512, 4, 32]⟩
abbrev S512x128 : Shape := ⟨2, ![512, 128]⟩
abbrev S512x1024 : Shape := ⟨2, ![512, 1024]⟩
abbrev S1x1024 : Shape := ⟨2, ![1, 1024]⟩
abbrev S1x256 : Shape := ⟨2, ![1, 256]⟩
abbrev S1x128 : Shape := ⟨2, ![1, 128]⟩
abbrev S8x512x256 : Shape := ⟨3, ![8, 512, 256]⟩
abbrev S512x256 : Shape := ⟨2, ![512, 256]⟩
abbrev S512x512 : Shape := ⟨2, ![512, 512]⟩
abbrev S512x2048 : Shape := ⟨2, ![512, 2048]⟩
abbrev S512x1536 : Shape := ⟨2, ![512, 1536]⟩
abbrev S1x128x256 : Shape := ⟨3, ![1, 128, 256]⟩
abbrev S128x256 : Shape := ⟨2, ![128, 256]⟩
abbrev S1x512x128 : Shape := ⟨3, ![1, 512, 128]⟩

abbrev nBuf : Space → Nat
  | .hbm => 82
  | .vmem => 18
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x1952, .f32⟩
  | .hbm, ⟨3, _⟩ => ⟨S256, .f32⟩
  | .hbm, ⟨4, _⟩ => ⟨S128, .f32⟩
  | .hbm, ⟨5, _⟩ => ⟨S256x8x96, .f32⟩
  | .hbm, ⟨6, _⟩ => ⟨S128x8x64, .f32⟩
  | .hbm, ⟨7, _⟩ => ⟨S1024x384, .f32⟩
  | .hbm, ⟨8, _⟩ => ⟨S1024x32, .f32⟩
  | .hbm, ⟨9, _⟩ => ⟨S_, .f32⟩
  | .hbm, ⟨10, _⟩ => ⟨S1024x96, .f32⟩
  | .hbm, ⟨11, _⟩ => ⟨S1024x1536, .f32⟩
  | .hbm, ⟨12, _⟩ => ⟨S1024x2048, .f32⟩
  | .hbm, ⟨13, _⟩ => ⟨S1024x2048, .bf16⟩
  | .hbm, ⟨14, _⟩ => ⟨S256x8x64, .f32⟩
  | .hbm, ⟨15, _⟩ => ⟨S256x512, .f32⟩
  | .hbm, ⟨16, _⟩ => ⟨S256x8x32, .f32⟩
  | .hbm, ⟨17, _⟩ => ⟨S_, .i32⟩
  | .hbm, ⟨18, _⟩ => ⟨S_, .f32⟩
  | .hbm, ⟨19, _⟩ => ⟨S256x8x128, .f32⟩
  | .hbm, ⟨20, _⟩ => ⟨S256x1024, .f32⟩
  | .hbm, ⟨21, _⟩ => ⟨S256x1536, .f32⟩
  | .hbm, ⟨22, _⟩ => ⟨S256x1536, .bf16⟩
  | .hbm, ⟨23, _⟩ => ⟨S8x64x128, .f32⟩
  | .hbm, ⟨24, _⟩ => ⟨S4x2x64x128, .f32⟩
  | .hbm, ⟨25, _⟩ => ⟨S4x1x64x128, .f32⟩
  | .hbm, ⟨26, _⟩ => ⟨S4x64x128, .f32⟩
  | .hbm, ⟨27, _⟩ => ⟨S_, .f32⟩
  | .hbm, ⟨28, _⟩ => ⟨S4x64x128, .f32⟩
  | .hbm, ⟨29, _⟩ => ⟨S4x1x64x128, .f32⟩
  | .hbm, ⟨30, _⟩ => ⟨S4x64x128, .f32⟩
  | .hbm, ⟨31, _⟩ => ⟨S4x64x256, .f32⟩
  | .hbm, ⟨32, _⟩ => ⟨S4x1x64x128, .f32⟩
  | .hbm, ⟨33, _⟩ => ⟨S4x64x128, .f32⟩
  | .hbm, ⟨34, _⟩ => ⟨S4x64x256, .f32⟩
  | .hbm, ⟨35, _⟩ => ⟨S4x128x256, .f32⟩
  | .hbm, ⟨36, _⟩ => ⟨S4x128x256, .bf16⟩
  | .hbm, ⟨37, _⟩ => ⟨S4, .i32⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S1x4, .i32⟩
  | .hbm, ⟨42, _⟩ => ⟨S128x4, .i32⟩
  | .hbm, ⟨43, _⟩ => ⟨S512, .i32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S512, .f32⟩
  | .hbm, ⟨53, _⟩ => ⟨S512x1, .f32⟩
  | .hbm, ⟨54, _⟩ => ⟨S1x16, .f32⟩
  | .hbm, ⟨55, _⟩ => ⟨S512x16, .f32⟩
  | .hbm, ⟨56, _⟩ => ⟨S512x16, .f32⟩
  | .hbm, ⟨57, _⟩ => ⟨S512x16, .f32⟩
  | .hbm, ⟨58, _⟩ => ⟨S512x16, .f32⟩
  | .hbm, ⟨59, _⟩ => ⟨S512x16, .f32⟩
  | .hbm, ⟨60, _⟩ => ⟨S512x32, .f32⟩
  | .hbm, ⟨61, _⟩ => ⟨S1x512x1x32, .f32⟩
  | .hbm, ⟨62, _⟩ => ⟨S1x512x4x32, .f32⟩
  | .hbm, ⟨63, _⟩ => ⟨S512x128, .f32⟩
  | .hbm, ⟨64, _⟩ => ⟨S512x16, .f32⟩
  | .hbm, ⟨65, _⟩ => ⟨S512x32, .f32⟩
  | .hbm, ⟨66, _⟩ => ⟨S1x512x1x32, .f32⟩
  | .hbm, ⟨67, _⟩ => ⟨S1x512x4x32, .f32⟩
  | .hbm, ⟨68, _⟩ => ⟨S512x128, .f32⟩
  | .hbm, ⟨69, _⟩ => ⟨S512x1024, .f32⟩
  | .hbm, ⟨70, _⟩ => ⟨S1x1024, .f32⟩
  | .hbm, ⟨71, _⟩ => ⟨S1x256, .f32⟩
  | .hbm, ⟨72, _⟩ => ⟨S1x128, .f32⟩
  | .hbm, ⟨73, _⟩ => ⟨S8x512x256, .bf16⟩
  | .hbm, ⟨74, _⟩ => ⟨S512x256, .bf16⟩
  | .hbm, ⟨75, _⟩ => ⟨S512x128, .f32⟩
  | .hbm, ⟨76, _⟩ => ⟨S512x32, .f32⟩
  | .hbm, ⟨77, _⟩ => ⟨S512x512, .bf16⟩
  | .hbm, ⟨78, _⟩ => ⟨S512x512, .bf16⟩
  | .hbm, ⟨79, _⟩ => ⟨S512x512, .bf16⟩
  | .hbm, ⟨80, _⟩ => ⟨S512x512, .f32⟩
  | .hbm, ⟨81, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x2048, .bf16⟩
  | .local _ .vmem, ⟨3, _⟩ => ⟨S1x256, .f32⟩
  | .local _ .vmem, ⟨4, _⟩ => ⟨S1x128, .f32⟩
  | .local _ .vmem, ⟨5, _⟩ => ⟨S256x1536, .bf16⟩
  | .local _ .vmem, ⟨6, _⟩ => ⟨S4x128x256, .bf16⟩
  | .local _ .vmem, ⟨7, _⟩ => ⟨S512x128, .f32⟩
  | .local _ .vmem, ⟨8, _⟩ => ⟨S512x128, .f32⟩
  | .local _ .vmem, ⟨9, _⟩ => ⟨S8x512x256, .bf16⟩
  | .local _ .vmem, ⟨10, _⟩ => ⟨S512x256, .bf16⟩
  | .local _ .vmem, ⟨11, _⟩ => ⟨S512x128, .f32⟩
  | .local _ .vmem, ⟨12, _⟩ => ⟨S512x32, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59_0 : Ref sig .tc := ⟨.hbm, 73, rfl⟩
abbrev main_v59_1 : Ref sig .tc := ⟨.hbm, 74, rfl⟩
abbrev main_v59_2 : Ref sig .tc := ⟨.hbm, 75, rfl⟩
abbrev main_v59_3 : Ref sig .tc := ⟨.hbm, 76, rfl⟩
abbrev main_v59_4 : Ref sig .tc := ⟨.hbm, 77, rfl⟩
abbrev main_v59_5 : Ref sig .tc := ⟨.hbm, 78, rfl⟩
abbrev main_v59_6 : Ref sig .tc := ⟨.hbm, 79, rfl⟩
abbrev main_v59_7 : Ref sig .tc := ⟨.hbm, 80, rfl⟩
abbrev main_v59_8 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== EvenProjectSampleReferenceIdeal.lean ====
abbrev S128x4x1024 : Shape := ⟨3, ![128, 4, 1024]⟩
abbrev S1024 : Shape := ⟨1, ![1024]⟩
abbrev S1024x1952 : Shape := ⟨2, ![1024, 1952]⟩
abbrev S256 : Shape := ⟨1, ![256]⟩
abbrev S128 : Shape := ⟨1, ![128]⟩
abbrev S256x8x96 : Shape := ⟨3, ![256, 8, 96]⟩
abbrev S128x8x64 : Shape := ⟨3, ![128, 8, 64]⟩
abbrev S4 : Shape := ⟨1, ![4]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x1952 : Shape := ⟨3, ![128, 4, 1952]⟩
abbrev S128x4x256 : Shape := ⟨3, ![128, 4, 256]⟩
abbrev S128x4x128 : Shape := ⟨3, ![128, 4, 128]⟩
abbrev S128x4x32 : Shape := ⟨3, ![128, 4, 32]⟩
abbrev S128x4x512 : Shape := ⟨3, ![128, 4, 512]⟩
abbrev S1x1x256 : Shape := ⟨3, ![1, 1, 256]⟩
abbrev S1x1x128 : Shape := ⟨3, ![1, 1, 128]⟩
abbrev S128x4x8x96 : Shape := ⟨4, ![128, 4, 8, 96]⟩
abbrev S128x4x8x32 : Shape := ⟨4, ![128, 4, 8, 32]⟩
abbrev S16 : Shape := ⟨1, ![16]⟩
abbrev S4x1 : Shape := ⟨2, ![4, 1]⟩
abbrev S1x16 : Shape := ⟨2, ![1, 16]⟩
abbrev S4x16 : Shape := ⟨2, ![4, 16]⟩
abbrev S4x1x16 : Shape := ⟨3, ![4, 1, 16]⟩
abbrev S128x4x8x16 : Shape := ⟨4, ![128, 4, 8, 16]⟩
abbrev S1x4x1x16 : Shape := ⟨4, ![1, 4, 1, 16]⟩
abbrev S128x4x8x64 : Shape := ⟨4, ![128, 4, 8, 64]⟩
abbrev S8x128x128x4 : Shape := ⟨4, ![8, 128, 128, 4]⟩
abbrev S128x4x8x128 : Shape := ⟨4, ![128, 4, 8, 128]⟩
abbrev S128x4x1x32 : Shape := ⟨4, ![128, 4, 1, 32]⟩
abbrev S128x4x1x16 : Shape := ⟨4, ![128, 4, 1, 16]⟩
abbrev S128x4x8x160 : Shape := ⟨4, ![128, 4, 8, 160]⟩
abbrev S128x4x8x256 : Shape := ⟨4, ![128, 4, 8, 256]⟩
abbrev S128x4x160 : Shape := ⟨3, ![128, 4, 160]⟩
abbrev S8x128x4x256 : Shape := ⟨4, ![8, 128, 4, 256]⟩
abbrev S8x512x256 : Shape := ⟨3, ![8, 512, 256]⟩
abbrev S512x256 : Shape := ⟨2, ![512, 256]⟩
abbrev S512x128 : Shape := ⟨2, ![512, 128]⟩
abbrev S512x32 : Shape := ⟨2, ![512, 32]⟩
abbrev S512x512 : Shape := ⟨2, ![512, 512]⟩

abbrev nBuf : Space → Nat
  | .hbm => 166
  | .vmem => 0
  | .smem => 0
  | _ => 0

abbrev hbmTy0_0 (i : Nat) : BufTy := match i % 128 with
  | 0 => ⟨S128x4x1024, .f32⟩
  | 1 => ⟨S1024, .f32⟩
  | 2 => ⟨S1024x1952, .f32⟩
  | 3 => ⟨S256, .f32⟩
  | 4 => ⟨S128, .f32⟩
  | 5 => ⟨S256x8x96, .f32⟩
  | 6 => ⟨S128x8x64, .f32⟩
  | 7 => ⟨S4, .i32⟩
  | 8 => ⟨S_, .i32⟩
  | 9 => ⟨S4, .i32⟩
  | 10 => ⟨S4, .i32⟩
  | 11 => ⟨S128x4x1024, .f32⟩
  | 12 => ⟨S_, .f32⟩
  | 13 => ⟨S128x4, .f32⟩
  | 14 => ⟨S128x4x1, .f32⟩
  | 15 => ⟨S_, .f32⟩
  | 16 => ⟨S128x4x1, .f32⟩
  | 17 => ⟨S128x4x1, .f32⟩
  | 18 => ⟨S_, .f32⟩
  | 19 => ⟨S128x4x1, .f32⟩
  | 20 => ⟨S128x4x1, .f32⟩
  | 21 => ⟨S128x4x1, .f32⟩
  | 22 => ⟨S128x4x1024, .f32⟩
  | 23 => ⟨S128x4x1024, .f32⟩
  | 24 => ⟨S1x1x1024, .f32⟩
  | 25 => ⟨S128x4x1024, .f32⟩
  | 26 => ⟨S128x4x1024, .f32⟩
  | 27 => ⟨S128x4x1952, .f32⟩
  | 28 => ⟨S128x4x256, .f32⟩
  | 29 => ⟨S128x4x128, .f32⟩
  | 30 => ⟨S128x4x32, .f32⟩
  | 31 => ⟨S128x4x512, .f32⟩
  | 32 => ⟨S128x4x512, .f32⟩
  | 33 => ⟨S128x4x512, .f32⟩
  | 34 => ⟨S128x4x256, .f32⟩
  | 35 => ⟨S_, .f32⟩
  | 36 => ⟨S128x4, .f32⟩
  | 37 => ⟨S128x4x1, .f32⟩
  | 38 => ⟨S_, .f32⟩
  | 39 => ⟨S128x4x1, .f32⟩
  | 40 => ⟨S128x4x1, .f32⟩
  | 41 => ⟨S_, .f32⟩
  | 42 => ⟨S128x4x1, .f32⟩
  | 43 => ⟨S128x4x1, .f32⟩
  | 44 => ⟨S128x4x1, .f32⟩
  | 45 => ⟨S128x4x256, .f32⟩
  | 46 => ⟨S128x4x256, .f32⟩
  | 47 => ⟨S1x1x256, .f32⟩
  | 48 => ⟨S128x4x256, .f32⟩
  | 49 => ⟨S128x4x256, .f32⟩
  | 50 => ⟨S128x4x128, .f32⟩
  | 51 => ⟨S_, .f32⟩
  | 52 => ⟨S128x4, .f32⟩
  | 53 => ⟨S128x4x1, .f32⟩
  | 54 => ⟨S_, .f32⟩
  | 55 => ⟨S128x4x1, .f32⟩
  | 56 => ⟨S128x4x1, .f32⟩
  | 57 => ⟨S_, .f32⟩
  | 58 => ⟨S128x4x1, .f32⟩
  | 59 => ⟨S128x4x1, .f32⟩
  | 60 => ⟨S128x4x1, .f32⟩
  | 61 => ⟨S128x4x128, .f32⟩
  | 62 => ⟨S128x4x128, .f32⟩
  | 63 => ⟨S1x1x128, .f32⟩
  | 64 => ⟨S128x4x128, .f32⟩
  | 65 => ⟨S128x4x128, .f32⟩
  | 66 => ⟨S128x4x8x96, .f32⟩
  | 67 => ⟨S128x4x8x32, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S4, .f32⟩
  | 77 => ⟨S4x1, .f32⟩
  | 78 => ⟨S1x16, .f32⟩
  | 79 => ⟨S4x16, .f32⟩
  | 80 => ⟨S4x16, .f32⟩
  | 81 => ⟨S4x16, .f32⟩
  | 82 => ⟨S4x16, .f32⟩
  | 83 => ⟨S4x1x16, .f32⟩
  | 84 => ⟨S4x16, .f32⟩
  | 85 => ⟨S4x1x16, .f32⟩
  | 86 => ⟨S128x4x8x16, .f32⟩
  | 87 => ⟨S128x4x8x16, .f32⟩
  | 88 => ⟨S1x4x1x16, .f32⟩
  | 89 => ⟨S128x4x8x16, .f32⟩
  | 90 => ⟨S128x4x8x16, .f32⟩
  | 91 => ⟨S1x4x1x16, .f32⟩
  | 92 => ⟨S128x4x8x16, .f32⟩
  | 93 => ⟨S128x4x8x16, .f32⟩
  | 94 => ⟨S128x4x8x16, .f32⟩
  | 95 => ⟨S1x4x1x16, .f32⟩
  | 96 => ⟨S128x4x8x16, .f32⟩
  | 97 => ⟨S128x4x8x16, .f32⟩
  | 98 => ⟨S1x4x1x16, .f32⟩
  | 99 => ⟨S128x4x8x16, .f32⟩
  | 100 => ⟨S128x4x8x16, .f32⟩
  | 101 => ⟨S128x4x8x16, .f32⟩
  | 102 => ⟨S128x4x8x32, .f32⟩
  | 103 => ⟨S128x4x8x64, .f32⟩
  | 104 => ⟨S8x128x128x4, .f32⟩
  | 105 => ⟨S128x4x8x128, .f32⟩
  | 106 => ⟨S128x4x1x32, .f32⟩
  | 107 => ⟨S16, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S4, .f32⟩
  | 116 => ⟨S4x1, .f32⟩
  | 117 => ⟨S1x16, .f32⟩
  | 118 => ⟨S4x16, .f32⟩
  | 119 => ⟨S4x16, .f32⟩
  | 120 => ⟨S4x16, .f32⟩
  | 121 => ⟨S4x16, .f32⟩
  | 122 => ⟨S4x1x16, .f32⟩
  | 123 => ⟨S4x16, .f32⟩
  | 124 => ⟨S4x1x16, .f32⟩
  | 125 => ⟨S128x4x1x16, .f32⟩
  | 126 => ⟨S128x4x1x16, .f32⟩
  | 127 => ⟨S1x4x1x16, .f32⟩
  | _ => ⟨S128x4x1024, .f32⟩

abbrev hbmTy0_1 (i : Nat) : BufTy := match i % 128 with
  | 0 => ⟨S128x4x1x16, .f32⟩
  | 1 => ⟨S128x4x1x16, .f32⟩
  | 2 => ⟨S1x4x1x16, .f32⟩
  | 3 => ⟨S128x4x1x16, .f32⟩
  | 4 => ⟨S128x4x1x16, .f32⟩
  | 5 => ⟨S128x4x1x16, .f32⟩
  | 6 => ⟨S1x4x1x16, .f32⟩
  | 7 => ⟨S128x4x1x16, .f32⟩
  | 8 => ⟨S128x4x1x16, .f32⟩
  | 9 => ⟨S1x4x1x16, .f32⟩
  | 10 => ⟨S128x4x1x16, .f32⟩
  | 11 => ⟨S128x4x1x16, .f32⟩
  | 12 => ⟨S128x4x1x16, .f32⟩
  | 13 => ⟨S128x4x1x32, .f32⟩
  | 14 => ⟨S128x4x32, .f32⟩
  | 15 => ⟨S128x4x8x160, .f32⟩
  | 16 => ⟨S_, .i32⟩
  | 17 => ⟨S_, .f32⟩
  | 18 => ⟨S128x4x8x256, .f32⟩
  | 19 => ⟨S128x4x160, .f32⟩
  | 20 => ⟨S_, .i32⟩
  | 21 => ⟨S_, .f32⟩
  | 22 => ⟨S128x4x256, .f32⟩
  | 23 => ⟨S8x128x4x256, .f32⟩
  | 24 => ⟨S8x512x256, .f32⟩
  | 25 => ⟨S8x512x256, .bf16⟩
  | 26 => ⟨S512x256, .f32⟩
  | 27 => ⟨S512x256, .bf16⟩
  | 28 => ⟨S512x128, .f32⟩
  | 29 => ⟨S512x32, .f32⟩
  | 30 => ⟨S512x512, .f32⟩
  | 31 => ⟨S512x512, .bf16⟩
  | 32 => ⟨S512x512, .f32⟩
  | 33 => ⟨S512x512, .bf16⟩
  | 34 => ⟨S512x512, .f32⟩
  | 35 => ⟨S512x512, .bf16⟩
  | 36 => ⟨S512x512, .f32⟩
  | 37 => ⟨S512x512, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_v91 : Ref sig .tc := ⟨.hbm, 111, rfl⟩
abbrev main_cst_11 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_c_12 : Ref sig .tc := ⟨.hbm, 144, rfl⟩
abbrev main_call0_v0 : Ref sig .tc := ⟨.hbm, 145, rfl⟩
abbrev main_v123 : Ref sig .tc := ⟨.hbm, 146, rfl⟩
abbrev main_v124 : Ref sig .tc := ⟨.hbm, 147, rfl⟩
abbrev main_c_13 : Ref sig .tc := ⟨.hbm, 148, rfl⟩
abbrev main_call1_v0 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩

abbrev nD : Nat := 1
abbrev τ : Topo := Topo.v7x

variable {F : FTy → Type} [FloatOps F]
-- ==== Proof.Indices.lean ====
/- Indices given by their coordinates are equal when the coordinates' values are. -/
module

public import Idealize.ShloMosaic.Lib.Pointwise

@[expose] public section

namespace Cert.Indices

open Idealize.ShloMosaic

theorem ix1_congr {a : ℕ} {x x' : Fin a} (h : x.val = x'.val) : ix1 x = ix1 x' := by
  obtain rfl := Fin.ext h
  rfl

theorem ix2_congr {a b : ℕ} {x x' : Fin a} {y y' : Fin b} (h : x.val = x'.val) (k : y.val = y'.val) :
    ix2 x y = ix2 x' y' := by
  obtain rfl := Fin.ext h
  obtain rfl := Fin.ext k
  rfl

theorem ix3_congr {a b c : ℕ} {x x' : Fin a} {y y' : Fin b} {z z' : Fin c} (h : x.val = x'.val) (k : y.val = y'.val)
    (l : z.val = z'.val) : ix3 x y z = ix3 x' y' z' := by
  obtain rfl := Fin.ext h
  obtain rfl := Fin.ext k
  obtain rfl := Fin.ext l
  rfl

theorem ix4_congr {a b c d : ℕ} {x x' : Fin a} {y y' : Fin b} {z z' : Fin c} {w w' : Fin d} (h : x.val = x'.val)
    (k : y.val = y'.val) (l : z.val = z'.val) (n : w.val = w'.val) : ix4 x y z w = ix4 x' y' z' w' := by
  obtain rfl := Fin.ext h
  obtain rfl := Fin.ext k
  obtain rfl := Fin.ext l
  obtain rfl := Fin.ext n
  rfl

end Cert.Indices
-- ==== Proof.FfnMath.lean ====
/- The feed-forward half's arithmetic on one row, over the extended reals: the normalised row, the gated activation
   and the half-step added to the row. -/
module

public import Idealize.ShloMosaic.Lib.Pointwise
public import Idealize.ShloMosaic.Lib.IdealHost

@[expose] public section

noncomputable section

open Idealize.ShloMosaic

namespace Cert.FfnMath

/-- Entry `k` of a row divided by the root of its mean square (the small constant added) and scaled by `g`. -/
def rnorm (x g : Fin 1024 → EReal) (k : Fin 1024) : EReal :=
  x k * Ideal.rsqrt (Ideal.div (∑ l : Fin 1024, x l * x l) (Ideal.ofBits .f32 0x44800000#32)
        + Ideal.ofBits .f32 0x358637BD#32) * g k

/-- Column `j` of the normalised row's product with the joint weight. -/
def lin (n : Fin 1024 → EReal) (w : Fin 1024 → Fin 5632 → EReal) (j : Fin 5632) : EReal := ∑ k : Fin 1024, n k * w k j

/-- The gated activation: the gate times its logistic value, times the second half of the product. -/
def gated (s u : EReal) : EReal := s * Ideal.div 1 (1 + Ideal.exp (-s)) * u

/-- One plus an exponential is not zero. -/
theorem den_ne (s : EReal) : (1 : EReal) + Ideal.exp s ≠ 0 := by
  have h : (0 : EReal) ≤ Ideal.exp s := by
    induction s using EReal.rec with
    | bot => exact le_refl (0 : EReal)
    | top => exact (le_top : (0 : EReal) ≤ ⊤)
    | coe r => exact EReal.coe_nonneg.mpr (Real.exp_pos r).le
  have h1 : (0 : EReal) < 1 + Ideal.exp s := lt_of_lt_of_le zero_lt_one (le_add_of_nonneg_right h)
  exact h1.ne'

/-- The activation written with one division is the same. -/
theorem gated_div (s u : EReal) : Ideal.div s (1 + Ideal.exp (0 - s)) * u = gated s u := by
  unfold gated
  rw [zero_sub]
  have h := den_ne (-s)
  simp [Ideal.div, h]

/-- Activation `j` of a normalised row. -/
def act (n : Fin 1024 → EReal) (w : Fin 1024 → Fin 5632 → EReal) (j : Fin 2816) : EReal :=
  gated (lin n w ⟨j.val, by omega⟩) (lin n w ⟨2816 + j.val, by omega⟩)

/-- Entry `k` of the row with half of the feed-forward's output added. -/
def ffn (x g : Fin 1024 → EReal) (w : Fin 1024 → Fin 5632 → EReal) (d : Fin 2816 → Fin 1024 → EReal) (k : Fin 1024) : EReal :=
  x k + Ideal.ofBits .f32 0x3F000000#32 * ∑ j : Fin 2816, act (rnorm x g) w j * d j k

end Cert.FfnMath

end
-- ==== Proof.FfnValue.lean ====
/- The values of the feed-forward half's call: each row of the result is the row with half of its feed-forward added,
   and the reference's result read at the same row is the same. -/
module

public import proofs.«01_k».proof.Proof.Gen.FfnIdeal.Value
public import proofs.«01_k».proof.Proof.Gen.FfnReferenceIdeal.Run
public import proofs.«01_k».proof.Proof.Indices
public import proofs.«01_k».proof.Proof.FfnMath
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.FfnIdeal.Closed

open Cert.FfnIdeal Cert.FfnIdeal.Gen Cert.Indices Cert.FfnMath

variable (m : (ℓ : Loc nD τ sig) → Buf (Elt Ideal) ℓ)

/-- The activations of a block of normalised rows. -/
def acts (n : Vec Ideal S512x1024 .bf16) (w : Vec Ideal S1024x5632 .bf16) : Vec Ideal S512x2816 .bf16 := fun i =>
  act (fun k => n (ix2 (i 0) k)) (fun k j => w (ix2 k j)) (i 1)

/-- One chunk of activations, from the chunk of the gate's weight and the chunk of the other half's. -/
def chunk (n : Vec Ideal S512x1024 .bf16) (a b : Vec Ideal S1024x256 .bf16) : Vec Ideal S512x256 .bf16 := k0_pay2 (F := Ideal) n a b

/-- The columns from `o` on, read at an element. -/
theorem cols (w : Vec Ideal S1024x5632 .bf16) (o : ℕ) (h) (k : Fin 1024) (j : Fin 256) (ho : o + 256 ≤ 5632) :
    View.ld w (Rect.unit ![0, o] ![1024, 256] h) (ix2 k j) = w (ix2 k ⟨o + j.val, by omega⟩) := by
  refine congrArg w ?_
  funext a
  fin_cases a
  · exact Fin.ext (by simp [Rect.emb, LoadRect.idx, Rect.toLoadRect, Rect.unit])
  · exact Fin.ext (by simp [Rect.emb, LoadRect.idx, Rect.toLoadRect, Rect.unit])

/-- A chunk, read at an element, is the gated activation of two sums. -/
theorem chunk_at (n : Vec Ideal S512x1024 .bf16) (a b : Vec Ideal S1024x256 .bf16) (r : Fin 512) (j : Fin 256) :
    chunk n a b (ix2 r j) = gated (∑ k : Fin 1024, n (ix2 r k) * a (ix2 k j)) (∑ k : Fin 1024, n (ix2 r k) * b (ix2 k j)) := by
  unfold chunk
  rw [← gated_div]
  pointwise [k0_pay2]

/-- The chunk stored at column `o` holds those columns of the activations. -/
theorem chunk_piece (n : Vec Ideal S512x1024 .bf16) (w : Vec Ideal S1024x5632 .bf16) (o p : ℕ) (h h' h'') (ho : o + 256 ≤ 2816) (hp : p = 2816 + o)
    (x : S512x256.Idx) :
    chunk n (View.ld w (Rect.unit ![0, o] ![1024, 256] h)) (View.ld w (Rect.unit ![0, p] ![1024, 256] h')) x
      = acts n w ((Rect.unit (s := S512x2816) ![0, o] ![512, 256] h'').emb x) := by
  subst hp
  idx_vars x
  rw [chunk_at]
  simp only [cols w o _ _ _ (by omega), cols w (2816 + o) _ _ _ (by omega)]
  have e : (Rect.unit (s := S512x2816) ![0, o] ![512, 256] h'').emb (ix2 x0 x1) = ix2 x0 ⟨o + x1.val, by omega⟩ := by
    funext a
    fin_cases a
    · exact Fin.ext (by simp [Rect.emb, LoadRect.idx, Rect.toLoadRect, Rect.unit])
    · exact Fin.ext (by simp [Rect.emb, LoadRect.idx, Rect.toLoadRect, Rect.unit])
  rw [e]
  unfold acts act lin
  refine congrArg₂ gated ?_ ?_
  · rfl
  · refine Finset.sum_congr rfl fun k _ => congrArg (n (ix2 x0 k) * ·) (congrArg w (ix2_congr rfl ?_))
    dsimp only
    show 2816 + o + x1.val = 2816 + (o + x1.val)
    omega

/-- What a grid point leaves in the result's block: the half-step over the activations of its rows. -/
theorem out_block (c : Dev nD) (t : Fin cfg0.N) (y) : outsAt0 (F := Ideal) m c t y = k0_pay3 (F := Ideal) (k0_pay4 (F := Ideal) (iblk m c 0 t))
    (acts (k0_pay5 (F := Ideal) (iblk m c 0 t) (iblk m c 1 t)) (iblk m c 2 t)) (iblk m c 3 t) y := by
  unfold outsAt0
  frame_out
  refine congrFun (congrArg (fun a => k0_pay3 (F := Ideal) (k0_pay4 (F := Ideal) (iblk m c 0 t)) a (iblk m c 3 t)) ?_) y
  rw [View.readCov_eq_canon']
  funext z
  have e : (Rect.unit ![0, 0] ![512, 2816] inb_S512x2816_S512x2816_0_0).toLoadRect.idx z = z := by
    funext a
    fin_cases a
    · exact Fin.ext (by simp [LoadRect.idx, Rect.toLoadRect, Rect.unit])
    · exact Fin.ext (by simp [LoadRect.idx, Rect.toLoadRect, Rect.unit])
  rw [e]
  refine View.canon_apply_of_pieces (acts (k0_pay5 (F := Ideal) (iblk m c 0 t) (iblk m c 1 t)) (iblk m c 2 t)) _ ?_ z
    (View.cover_of_tiledL _ ![512, 256] (by sl_kernel_rfl) z)
  refine View.PiecesOf.mem ?_
  exact ⟨chunk_piece (k0_pay5 (F := Ideal) (iblk m c 0 t) (iblk m c 1 t)) (iblk m c 2 t) 2560 5376 inb_S1024x5632_S1024x256_0_2560 inb_S1024x5632_S1024x256_0_5376 inb_S512x2816_S512x256_0_2560 (by decide) rfl,
    chunk_piece (k0_pay5 (F := Ideal) (iblk m c 0 t) (iblk m c 1 t)) (iblk m c 2 t) 2304 5120 inb_S1024x5632_S1024x256_0_2304 inb_S1024x5632_S1024x256_0_5120 inb_S512x2816_S512x256_0_2304 (by decide) rfl,
    chunk_piece (k0_pay5 (F := Ideal) (iblk m c 0 t) (iblk m c 1 t)) (iblk m c 2 t) 2048 4864 inb_S1024x5632_S1024x256_0_2048 inb_S1024x5632_S1024x256_0_4864 inb_S512x2816_S512x256_0_2048 (by decide) rfl,
    chunk_piece (k0_pay5 (F := Ideal) (iblk m c 0 t) (iblk m c 1 t)) (iblk m c 2 t) 1792 4608 inb_S1024x5632_S1024x256_0_1792 inb_S1024x5632_S1024x256_0_4608 inb_S512x2816_S512x256_0_1792 (by decide) rfl,
    chunk_piece (k0_pay5 (F := Ideal) (iblk m c 0 t) (iblk m c 1 t)) (iblk m c 2 t) 1536 4352 inb_S1024x5632_S1024x256_0_1536 inb_S1024x5632_S1024x256_0_4352 inb_S512x2816_S512x256_0_1536 (by decide) rfl,
    chunk_piece (k0_pay5 (F := Ideal) (iblk m c 0 t) (iblk m c 1 t)) (iblk m c 2 t) 1280 4096 inb_S1024x5632_S1024x256_0_1280 inb_S1024x5632_S1024x256_0_4096 inb_S512x2816_S512x256_0_1280 (by decide) rfl,
    chunk_piece (k0_pay5 (F := Ideal) (iblk m c 0 t) (iblk m c 1 t)) (iblk m c 2 t) 1024 3840 inb_S1024x5632_S1024x256_0_1024 inb_S1024x5632_S1024x256_0_3840 inb_S512x2816_S512x256_0_1024 (by decide) rfl,
    chunk_piece (k0_pay5 (F := Ideal) (iblk m c 0 t) (iblk m c 1 t)) (iblk m c 2 t) 768 3584 inb_S1024x5632_S1024x256_0_768 inb_S1024x5632_S1024x256_0_3584 inb_S512x2816_S512x256_0_768 (by decide) rfl,
    chunk_piece (k0_pay5 (F := Ideal) (iblk m c 0 t) (iblk m c 1 t)) (iblk m c 2 t) 512 3328 inb_S1024x5632_S1024x256_0_512 inb_S1024x5632_S1024x256_0_3328 inb_S512x2816_S512x256_0_512 (by decide) rfl,
    chunk_piece (k0_pay5 (F := Ideal) (iblk m c 0 t) (iblk m c 1 t)) (iblk m c 2 t) 256 3072 inb_S1024x5632_S1024x256_0_256 inb_S1024x5632_S1024x256_0_3072 inb_S512x2816_S512x256_0_256 (by decide) rfl,
    chunk_piece (k0_pay5 (F := Ideal) (iblk m c 0 t) (iblk m c 1 t)) (iblk m c 2 t) 0 2816 inb_S1024x5632_S1024x256_0_0 inb_S1024x5632_S1024x256_0_2816 inb_S512x2816_S512x256_0_0 (by decide) rfl,
    trivial⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx5 : ∀ t : Fin cfg0.N, win0_5.index t = ![t.val, 0] :=
  (by decide +kernel : ∀ t : Fin grid0.N, win0_5.index t = ![t.val, 0])

theorem V0 (c : Dev nD) : V m c main_v0 = shapeCast S65536x1024 (m ((c : Thread nD τ).loc main_arg0)) shapeCasts_S32x2048x1024_S65536x1024 := by
  unfold V
  after_results <;> rfl
theorem V1 (c : Dev nD) : V m c main_v1 = shapeCast S1x1024 (m ((c : Thread nD τ).loc main_arg1)) shapeCasts_S1024_S1x1024 := by
  unfold V
  after_results <;> rfl
theorem V2 (c : Dev nD) : V m c main_v2 = (m ((c : Thread nD τ).loc main_arg2) : Vec Ideal S1024x5632 .f32) := by
  unfold V
  after_results <;> rfl
theorem V3 (c : Dev nD) : V m c main_v3 = (m ((c : Thread nD τ).loc main_arg3) : Vec Ideal S2816x1024 .f32) := by
  unfold V
  after_results <;> rfl

theorem emb0 (t : Fin cfg0.N) (r : Fin 512) (k : Fin 1024) : ((cfg0.win 0).blk t).view.emb (ix2 r k)
    = ix2 (⟨t.val * 512 + r.val, by have := t.isLt; have : cfg0.N = 128 := N_0; omega⟩ : Fin 65536) k := by
  blk_ext [idx0 t]
theorem emb5 (t : Fin cfg0.N) (r : Fin 512) (k : Fin 1024) : ((cfg0.win 5).blk t).view.emb (ix2 r k)
    = ix2 (⟨t.val * 512 + r.val, by have := t.isLt; have : cfg0.N = 128 := N_0; omega⟩ : Fin 65536) k := by
  blk_ext [idx5 t]

/-- The prompts as rows of all batches, read at a row. -/
theorem rows (x : Vec Ideal S32x2048x1024 .f32) (h : S32x2048x1024.ShapeCasts S65536x1024) (n : Fin 65536) (k : Fin 1024) :
    shapeCast S65536x1024 x h (ix2 n k) = x (ix3 (⟨n.val / 2048, by omega⟩ : Fin 32) (⟨n.val % 2048, by omega⟩ : Fin 2048) k) := by
  pointwise

theorem iblk0 (c : Dev nD) (t : Fin cfg0.N) (r : Fin 512) (k : Fin 1024) (b : Fin 32) (s : Fin 2048)
    (h : b.val * 2048 + s.val = t.val * 512 + r.val) :
    iblk (F := Ideal) m c 0 t (ix2 r k) = m ((c : Thread nD τ).loc main_arg0) (ix3 b s k) := by
  unfold iblk
  rw [View.read_apply]
  erw [V0, emb0, rows]
  exact congrArg (m ((c : Thread nD τ).loc main_arg0)) (ix3_congr (by dsimp only; omega) (by dsimp only; omega) rfl)
theorem iblk1 (c : Dev nD) (t : Fin cfg0.N) (k : Fin 1024)  :
    iblk (F := Ideal) m c 1 t (ix2 0 k) = m ((c : Thread nD τ).loc main_arg1) (ix1 k) := by
  blk_simp [iblk, idx1 t]
  rw [V1]
  pointwise
  blk_ext [idx1 t]
theorem iblk2 (c : Dev nD) (t : Fin cfg0.N) (k : Fin 1024) (j : Fin 5632) :
    iblk (F := Ideal) m c 2 t (ix2 k j) = m ((c : Thread nD τ).loc main_arg2) (ix2 k j) := by
  blk_simp [iblk, idx2 t]
  rw [V2]
  blk_ext [idx2 t]
theorem iblk3 (c : Dev nD) (t : Fin cfg0.N) (j : Fin 2816) (k : Fin 1024) :
    iblk (F := Ideal) m c 3 t (ix2 j k) = m ((c : Thread nD τ).loc main_arg3) (ix2 j k) := by
  blk_simp [iblk, idx3 t]
  rw [V3]
  blk_ext [idx3 t]

/-- The normalised block, read at an element, is the row's normalisation. -/
theorem norm_at (x : Vec Ideal S512x1024 .f32) (g : Vec Ideal S1x1024 .f32) (r : Fin 512) (k : Fin 1024) :
    k0_pay5 (F := Ideal) x g (ix2 r k) = rnorm (fun k => x (ix2 r k)) (fun k => g (ix2 0 k)) k := by
  unfold rnorm
  pointwise [k0_pay5, k0_pay4]

/-- The half-step over a block of activations, read at an element. -/
theorem step_at (x : Vec Ideal S512x1024 .f32) (a : Vec Ideal S512x2816 .bf16) (d : Vec Ideal S2816x1024 .bf16) (r : Fin 512) (k : Fin 1024) :
    k0_pay3 (F := Ideal) (k0_pay4 (F := Ideal) x) a d (ix2 r k)
      = x (ix2 r k) + Ideal.ofBits .f32 0x3F000000#32 * ∑ j : Fin 2816, a (ix2 r j) * d (ix2 j k) := by
  pointwise [k0_pay3, k0_pay4]

/-- The result array: every row with half of its feed-forward added. -/
def out (x : Vec Ideal S32x2048x1024 .f32) (g : Vec Ideal S1024 .f32) (w : Vec Ideal S1024x5632 .f32) (d : Vec Ideal S2816x1024 .f32) :
    Vec Ideal S65536x1024 .f32 := fun i =>
  ffn (fun k => x (ix3 (⟨(i 0).val / 2048, by have : (i 0).val < 65536 := (i 0).isLt; omega⟩ : Fin 32) (⟨(i 0).val % 2048, by omega⟩ : Fin 2048) k))
    (fun k => g (ix1 k)) (fun k j => w (ix2 k j)) (fun j k => d (ix2 j k)) (i 1)

/-- A grid point's block holds its rows of the result. -/
theorem out_at (c : Dev nD) (t : Fin cfg0.N) (r : Fin 512) (k : Fin 1024) (n : Fin 65536) (hn : n.val = t.val * 512 + r.val) :
    outsAt0 (F := Ideal) m c t (ix2 r k) = out (m ((c : Thread nD τ).loc main_arg0)) (m ((c : Thread nD τ).loc main_arg1))
      (m ((c : Thread nD τ).loc main_arg2)) (m ((c : Thread nD τ).loc main_arg3)) (ix2 n k) := by
  rw [out_block, step_at]
  unfold out ffn acts
  simp only [norm_at, iblk0 m c t r _ ⟨n.val / 2048, by omega⟩ ⟨n.val % 2048, by omega⟩ (by dsimp only; omega), iblk1, iblk2, iblk3, ix2_0, ix2_1]

/-- The result array of the call. -/
theorem final5 (c : Dev nD) : (dats (F := Ideal) m 0 c).arrAt 5 cfg0.N = out (m ((c : Thread nD τ).loc main_arg0))
    (m ((c : Thread nD τ).loc main_arg1)) (m ((c : Thread nD τ).loc main_arg2)) (m ((c : Thread nD τ).loc main_arg3)) := by
  refine (dats (F := Ideal) m 0 c).arrAt_eq_of_covers 5 _ (by decide +kernel) fun t hf y => ?_
  rw [after0_5]
  idx_vars y
  have ht : t.val < 128 := N_0 ▸ t.isLt
  have h := out_at m c t y0 y1 ⟨t.val * 512 + y0.val, by omega⟩ rfl
  erw [emb5 t y0 y1]
  generalize out (m (c.tc.loc main_arg0)) (m (c.tc.loc main_arg1)) (m (c.tc.loc main_arg2)) (m (c.tc.loc main_arg3)) = G at h ⊢
  generalize outsAt0 m c t = O at h ⊢
  exact h

end Cert.FfnIdeal.Closed

namespace Cert.FfnReferenceIdeal.Closed

open Cert.FfnReferenceIdeal Cert.FfnReferenceIdeal.Gen Cert.Indices Cert.FfnMath
open Cert.FfnIdeal.Closed (out)

/-- The reference's normalised rows. -/
abbrev N (x : Vec Ideal S32x2048x1024 .f32) (g : Vec Ideal S1024 .f32) : FVec Ideal S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))

/-- The reference's gate and second half, one product. -/
abbrev P (n : Vec Ideal S32x2048x1024 .f32) (w : Vec Ideal S1024x5632 .f32) : Vec Ideal S32x2048x5632 .f32 :=
  Host.dotGeneral (F := Ideal) (φ₁ := .f32) (φ₂ := .f32) dot_S32x2048x1024_S1024x5632_S32x2048x5632_2_0_01_1_n_n none n w

/-- The reference's result before its rows are laid out, from the product. -/
abbrev R (x : Vec Ideal S32x2048x1024 .f32) (p : Vec Ideal S32x2048x5632 .f32) (d : Vec Ideal S2816x1024 .f32) : Vec Ideal S32x2048x1024 .f32 :=
  addf x (mulf (broadcastInDim S32x2048x1024 ![] bcast_S_S32x2048x1024 (constant S_ .f32 0x3F000000#32)) (Host.dotGeneral (F := Ideal) (φ₁ := .f32) (φ₂ := .f32) dot_S32x2048x2816_S2816x1024_S32x2048x1024_2_0_01_1_n_n none (mulf (mulf (extractStridedSlice S32x2048x2816 ![0, 0, 0] p slices_S32x2048x5632_S32x2048x2816_0_0_0) (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf (extractStridedSlice S32x2048x2816 ![0, 0, 0] p slices_S32x2048x5632_S32x2048x2816_0_0_0)))))) (extractStridedSlice S32x2048x2816 ![0, 0, 2816] p slices_S32x2048x5632_S32x2048x2816_0_0_2816)) d))

theorem norm_at (x : Vec Ideal S32x2048x1024 .f32) (g : Vec Ideal S1024 .f32) (b : Fin 32) (s : Fin 2048) (k : Fin 1024) :
    N x g (ix3 b s k) = rnorm (fun k => x (ix3 b s k)) (fun k => g (ix1 k)) k := by
  unfold N rnorm
  pointwise

theorem prod_at (n : Vec Ideal S32x2048x1024 .f32) (w : Vec Ideal S1024x5632 .f32) (b : Fin 32) (s : Fin 2048) (j : Fin 5632) :
    P n w (ix3 b s j) = lin (fun k => n (ix3 b s k)) (fun k j => w (ix2 k j)) j := by
  unfold P lin
  pointwise

theorem res_at (x : Vec Ideal S32x2048x1024 .f32) (p : Vec Ideal S32x2048x5632 .f32) (d : Vec Ideal S2816x1024 .f32) (b : Fin 32) (s : Fin 2048) (k : Fin 1024) :
    R x p d (ix3 b s k) = x (ix3 b s k) + Ideal.ofBits .f32 0x3F000000#32
      * ∑ j : Fin 2816, gated (p (ix3 b s ⟨j.val, by omega⟩)) (p (ix3 b s ⟨2816 + j.val, by omega⟩)) * d (ix2 j k) := by
  unfold R gated
  pointwise

/-- The reference's run with its result at the same rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run (F := Ideal) m ρ)
  funext i
  idx_vars i
  refine (Cert.FfnIdeal.Closed.rows (R (m ((c.tc : Thread nD τ).loc main_arg0)) (P (N (m ((c.tc : Thread nD τ).loc main_arg0)) (m ((c.tc : Thread nD τ).loc main_arg1))) (m ((c.tc : Thread nD τ).loc main_arg2))) (m ((c.tc : Thread nD τ).loc main_arg3))) _ i0 i1).trans ?_
  rw [res_at]
  simp only [prod_at, norm_at]
  rfl

end Cert.FfnReferenceIdeal.Closed

end
-- ==== Proof.FfnFinalValue.lean ====
/- The values of the feed-forward half that closes the layer: each row of the result is the row with half of its
   feed-forward added, normalised once more, and the reference's result read at the same row is the same. -/
module

public import proofs.«01_k».proof.Proof.Gen.FfnFinalIdeal.Value
public import proofs.«01_k».proof.Proof.Gen.FfnFinalReferenceIdeal.Run
public import proofs.«01_k».proof.Proof.Indices
public import proofs.«01_k».proof.Proof.FfnMath
public import proofs.«01_k».proof.Proof.FfnValue
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.FfnFinalIdeal.Closed

open Cert.FfnFinalIdeal Cert.FfnFinalIdeal.Gen Cert.Indices Cert.FfnMath
open Cert.FfnIdeal.Closed (acts chunk_piece rows)

variable (m : (ℓ : Loc nD τ sig) → Buf (Elt Ideal) ℓ)

/-- A block with half of the product of its activations added. -/
def step (x : Vec Ideal S512x1024 .f32) (a : Vec Ideal S512x2816 .bf16) (d : Vec Ideal S2816x1024 .bf16) : Vec Ideal S512x1024 .f32 :=
  k0_pay25 (F := Ideal) (k0_pay2 (F := Ideal) x) a d

/-- The half-step over a block of activations, read at an element. -/
theorem step_at (x : Vec Ideal S512x1024 .f32) (a : Vec Ideal S512x2816 .bf16) (d : Vec Ideal S2816x1024 .bf16) (r : Fin 512) (k : Fin 1024) :
    step x a d (ix2 r k) = x (ix2 r k) + Ideal.ofBits .f32 0x3F000000#32 * ∑ j : Fin 2816, a (ix2 r j) * d (ix2 j k) := by
  unfold step
  pointwise [k0_pay25, k0_pay2]

/-- The mean square of each row of a block, the small constant added. -/
def meanSq (y : FVec Ideal S512x1024 .f32) : FVec Ideal S512x1 .f32 :=
  addf (divf (shapeCast S512x1 (multiReduction .add [1] S512 (mulf y y) 0x00000000#32 reduces_S512x1024_S512 (.inl rfl) rfl) shapeCasts_S512_S512x1)
    (broadcast S512x1 (Scalar.ofBits .f32 0x44800000#32))) (broadcast S512x1 (Scalar.ofBits .f32 0x358637BD#32))

/-- The mean square, read at a row. -/
theorem meanSq_at (y : FVec Ideal S512x1024 .f32) (r : Fin 512) : meanSq y (ix2 r 0)
    = Ideal.div (∑ l : Fin 1024, y (ix2 r l) * y (ix2 r l)) (Ideal.ofBits .f32 0x44800000#32) + Ideal.ofBits .f32 0x358637BD#32 := by
  unfold meanSq
  pointwise

/-- The last normalisation of a block, read at an element. -/
theorem last_at (x : Vec Ideal S512x1024 .f32) (a : Vec Ideal S512x2816 .bf16) (d : Vec Ideal S2816x1024 .bf16) (g : Vec Ideal S1x1024 .f32)
    (r : Fin 512) (k : Fin 1024) :
    k0_pay1 (F := Ideal) (step x a d) (k0_pay26 (F := Ideal) g) (k0_pay27 (F := Ideal) (k0_pay2 (F := Ideal) x) a d) (ix2 r k)
      = rnorm (fun k => step x a d (ix2 r k)) (fun k => g (ix2 0 k)) k := by
  have e : k0_pay27 (F := Ideal) (k0_pay2 (F := Ideal) x) a d (ix2 r 0)
      = Ideal.div (∑ l : Fin 1024, step x a d (ix2 r l) * step x a d (ix2 r l)) (Ideal.ofBits .f32 0x44800000#32)
        + Ideal.ofBits .f32 0x358637BD#32 := by
    have h : k0_pay27 (F := Ideal) (k0_pay2 (F := Ideal) x) a d = meanSq (step x a d) := rfl
    rw [h, meanSq_at]
  unfold rnorm
  rw [← e]
  generalize step x a d = y
  generalize k0_pay27 (F := Ideal) (k0_pay2 (F := Ideal) x) a d = z
  pointwise [k0_pay1, k0_pay26]

/-- What a grid point leaves in the result's block: the last normalisation of the half-step over the activations of its rows. -/
theorem out_block (c : Dev nD) (t : Fin cfg0.N) (y) : outsAt0 (F := Ideal) m c t y = k0_pay1 (F := Ideal)
    (step (iblk m c 0 t) (acts (k0_pay3 (F := Ideal) (iblk m c 0 t) (iblk m c 1 t)) (iblk m c 2 t)) (iblk m c 3 t)) (k0_pay26 (F := Ideal) (iblk m c 4 t))
    (k0_pay27 (F := Ideal) (k0_pay2 (F := Ideal) (iblk m c 0 t)) (acts (k0_pay3 (F := Ideal) (iblk m c 0 t) (iblk m c 1 t)) (iblk m c 2 t)) (iblk m c 3 t)) y := by
  unfold outsAt0
  frame_out
  refine congrFun (congrArg (fun a => k0_pay1 (F := Ideal) (step (iblk m c 0 t) a (iblk m c 3 t)) (k0_pay26 (F := Ideal) (iblk m c 4 t))
    (k0_pay27 (F := Ideal) (k0_pay2 (F := Ideal) (iblk m c 0 t)) a (iblk m c 3 t))) ?_) y
  rw [View.readCov_eq_canon']
  funext z
  have e : (Rect.unit ![0, 0] ![512, 2816] inb_S512x2816_S512x2816_0_0).toLoadRect.idx z = z := by
    funext a
    fin_cases a
    · exact Fin.ext (by simp [LoadRect.idx, Rect.toLoadRect, Rect.unit])
    · exact Fin.ext (by simp [LoadRect.idx, Rect.toLoadRect, Rect.unit])
  rw [e]
  refine View.canon_apply_of_pieces (acts (k0_pay3 (F := Ideal) (iblk m c 0 t) (iblk m c 1 t)) (iblk m c 2 t)) _ ?_ z
    (View.cover_of_tiledL _ ![512, 256] (by sl_kernel_rfl) z)
  refine View.PiecesOf.mem ?_
  exact ⟨chunk_piece (k0_pay3 (F := Ideal) (iblk m c 0 t) (iblk m c 1 t)) (iblk m c 2 t) 2560 5376 inb_S1024x5632_S1024x256_0_2560 inb_S1024x5632_S1024x256_0_5376 inb_S512x2816_S512x256_0_2560 (by decide) rfl,
    chunk_piece (k0_pay3 (F := Ideal) (iblk m c 0 t) (iblk m c 1 t)) (iblk m c 2 t) 2304 5120 inb_S1024x5632_S1024x256_0_2304 inb_S1024x5632_S1024x256_0_5120 inb_S512x2816_S512x256_0_2304 (by decide) rfl,
    chunk_piece (k0_pay3 (F := Ideal) (iblk m c 0 t) (iblk m c 1 t)) (iblk m c 2 t) 2048 4864 inb_S1024x5632_S1024x256_0_2048 inb_S1024x5632_S1024x256_0_4864 inb_S512x2816_S512x256_0_2048 (by decide) rfl,
    chunk_piece (k0_pay3 (F := Ideal) (iblk m c 0 t) (iblk m c 1 t)) (iblk m c 2 t) 1792 4608 inb_S1024x5632_S1024x256_0_1792 inb_S1024x5632_S1024x256_0_4608 inb_S512x2816_S512x256_0_1792 (by decide) rfl,
    chunk_piece (k0_pay3 (F := Ideal) (iblk m c 0 t) (iblk m c 1 t)) (iblk m c 2 t) 1536 4352 inb_S1024x5632_S1024x256_0_1536 inb_S1024x5632_S1024x256_0_4352 inb_S512x2816_S512x256_0_1536 (by decide) rfl,
    chunk_piece (k0_pay3 (F := Ideal) (iblk m c 0 t) (iblk m c 1 t)) (iblk m c 2 t) 1280 4096 inb_S1024x5632_S1024x256_0_1280 inb_S1024x5632_S1024x256_0_4096 inb_S512x2816_S512x256_0_1280 (by decide) rfl,
    chunk_piece (k0_pay3 (F := Ideal) (iblk m c 0 t) (iblk m c 1 t)) (iblk m c 2 t) 1024 3840 inb_S1024x5632_S1024x256_0_1024 inb_S1024x5632_S1024x256_0_3840 inb_S512x2816_S512x256_0_1024 (by decide) rfl,
    chunk_piece (k0_pay3 (F := Ideal) (iblk m c 0 t) (iblk m c 1 t)) (iblk m c 2 t) 768 3584 inb_S1024x5632_S1024x256_0_768 inb_S1024x5632_S1024x256_0_3584 inb_S512x2816_S512x256_0_768 (by decide) rfl,
    chunk_piece (k0_pay3 (F := Ideal) (iblk m c 0 t) (iblk m c 1 t)) (iblk m c 2 t) 512 3328 inb_S1024x5632_S1024x256_0_512 inb_S1024x5632_S1024x256_0_3328 inb_S512x2816_S512x256_0_512 (by decide) rfl,
    chunk_piece (k0_pay3 (F := Ideal) (iblk m c 0 t) (iblk m c 1 t)) (iblk m c 2 t) 256 3072 inb_S1024x5632_S1024x256_0_256 inb_S1024x5632_S1024x256_0_3072 inb_S512x2816_S512x256_0_256 (by decide) rfl,
    chunk_piece (k0_pay3 (F := Ideal) (iblk m c 0 t) (iblk m c 1 t)) (iblk m c 2 t) 0 2816 inb_S1024x5632_S1024x256_0_0 inb_S1024x5632_S1024x256_0_2816 inb_S512x2816_S512x256_0_0 (by decide) rfl,
    trivial⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val, 0] :=
  (by decide +kernel : ∀ t : Fin grid0.N, win0_5.index t = ![t.val, 0])

theorem V0 (c : Dev nD) : V m c main_v0 = shapeCast S65536x1024 (m ((c : Thread nD τ).loc main_arg0)) shapeCasts_S32x2048x1024_S65536x1024 := by
  unfold V
  after_results <;> rfl
theorem V1 (c : Dev nD) : V m c main_v1 = shapeCast S1x1024 (m ((c : Thread nD τ).loc main_arg1)) shapeCasts_S1024_S1x1024 := by
  unfold V
  after_results <;> rfl
theorem V4 (c : Dev nD) : V m c main_v4 = shapeCast S1x1024 (m ((c : Thread nD τ).loc main_arg4)) shapeCasts_S1024_S1x1024 := by
  unfold V
  after_results <;> rfl
theorem V2 (c : Dev nD) : V m c main_v2 = (m ((c : Thread nD τ).loc main_arg2) : Vec Ideal S1024x5632 .f32) := by
  unfold V
  after_results <;> rfl
theorem V3 (c : Dev nD) : V m c main_v3 = (m ((c : Thread nD τ).loc main_arg3) : Vec Ideal S2816x1024 .f32) := by
  unfold V
  after_results <;> rfl

theorem emb0 (t : Fin cfg0.N) (r : Fin 512) (k : Fin 1024) : ((cfg0.win 0).blk t).view.emb (ix2 r k)
    = ix2 (⟨t.val * 512 + r.val, by have := t.isLt; have : cfg0.N = 128 := N_0; omega⟩ : Fin 65536) k := by
  blk_ext [idx0 t]
theorem emb5 (t : Fin cfg0.N) (r : Fin 512) (k : Fin 1024) : ((cfg0.win 5).blk t).view.emb (ix2 r k)
    = ix2 (⟨t.val * 512 + r.val, by have := t.isLt; have : cfg0.N = 128 := N_0; omega⟩ : Fin 65536) k := by
  blk_ext [idx5 t]

theorem iblk0 (c : Dev nD) (t : Fin cfg0.N) (r : Fin 512) (k : Fin 1024) (b : Fin 32) (s : Fin 2048)
    (h : b.val * 2048 + s.val = t.val * 512 + r.val) :
    iblk (F := Ideal) m c 0 t (ix2 r k) = m ((c : Thread nD τ).loc main_arg0) (ix3 b s k) := by
  unfold iblk
  rw [View.read_apply]
  erw [V0, emb0, rows]
  exact congrArg (m ((c : Thread nD τ).loc main_arg0)) (ix3_congr (by dsimp only; omega) (by dsimp only; omega) rfl)
theorem iblk1 (c : Dev nD) (t : Fin cfg0.N) (k : Fin 1024)  :
    iblk (F := Ideal) m c 1 t (ix2 0 k) = m ((c : Thread nD τ).loc main_arg1) (ix1 k) := by
  blk_simp [iblk, idx1 t]
  rw [V1]
  pointwise
  blk_ext [idx1 t]
theorem iblk4 (c : Dev nD) (t : Fin cfg0.N) (k : Fin 1024)  :
    iblk (F := Ideal) m c 4 t (ix2 0 k) = m ((c : Thread nD τ).loc main_arg4) (ix1 k) := by
  blk_simp [iblk, idx4 t]
  rw [V4]
  pointwise
  blk_ext [idx4 t]
theorem iblk2 (c : Dev nD) (t : Fin cfg0.N) (k : Fin 1024) (j : Fin 5632) :
    iblk (F := Ideal) m c 2 t (ix2 k j) = m ((c : Thread nD τ).loc main_arg2) (ix2 k j) := by
  blk_simp [iblk, idx2 t]
  rw [V2]
  blk_ext [idx2 t]
theorem iblk3 (c : Dev nD) (t : Fin cfg0.N) (j : Fin 2816) (k : Fin 1024) :
    iblk (F := Ideal) m c 3 t (ix2 j k) = m ((c : Thread nD τ).loc main_arg3) (ix2 j k) := by
  blk_simp [iblk, idx3 t]
  rw [V3]
  blk_ext [idx3 t]

/-- The normalised block, read at an element, is the row's normalisation. -/
theorem norm_at (x : Vec Ideal S512x1024 .f32) (g : Vec Ideal S1x1024 .f32) (r : Fin 512) (k : Fin 1024) :
    k0_pay3 (F := Ideal) x g (ix2 r k) = rnorm (fun k => x (ix2 r k)) (fun k => g (ix2 0 k)) k := by
  unfold rnorm
  pointwise [k0_pay3, k0_pay2]

/-- The result array: every row with half of its feed-forward added, normalised. -/
def out (x : Vec Ideal S32x2048x1024 .f32) (g : Vec Ideal S1024 .f32) (w : Vec Ideal S1024x5632 .f32) (d : Vec Ideal S2816x1024 .f32)
    (gf : Vec Ideal S1024 .f32) : Vec Ideal S65536x1024 .f32 := fun i =>
  rnorm (ffn (fun k => x (ix3 (⟨(i 0).val / 2048, by have : (i 0).val < 65536 := (i 0).isLt; omega⟩ : Fin 32) (⟨(i 0).val % 2048, by omega⟩ : Fin 2048) k))
    (fun k => g (ix1 k)) (fun k j => w (ix2 k j)) (fun j k => d (ix2 j k))) (fun k => gf (ix1 k)) (i 1)

/-- A grid point's block holds its rows of the result. -/
theorem out_at (c : Dev nD) (t : Fin cfg0.N) (r : Fin 512) (k : Fin 1024) (n : Fin 65536) (hn : n.val = t.val * 512 + r.val) :
    outsAt0 (F := Ideal) m c t (ix2 r k) = out (m ((c : Thread nD τ).loc main_arg0)) (m ((c : Thread nD τ).loc main_arg1))
      (m ((c : Thread nD τ).loc main_arg2)) (m ((c : Thread nD τ).loc main_arg3)) (m ((c : Thread nD τ).loc main_arg4)) (ix2 n k) := by
  rw [out_block, last_at]
  unfold out ffn acts
  simp only [step_at, norm_at, iblk0 m c t r _ ⟨n.val / 2048, by omega⟩ ⟨n.val % 2048, by omega⟩ (by dsimp only; omega), iblk1, iblk2, iblk3, iblk4, ix2_0, ix2_1]

/-- The result array of the call. -/
theorem final5 (c : Dev nD) : (dats (F := Ideal) m 0 c).arrAt 5 cfg0.N = out (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats (F := Ideal) m 0 c).arrAt_eq_of_covers 5 _ (by decide +kernel) fun t hf y => ?_
  rw [after0_5]
  idx_vars y
  have ht : t.val < 128 := N_0 ▸ t.isLt
  have h := out_at m c t y0 y1 ⟨t.val * 512 + y0.val, by omega⟩ rfl
  erw [emb5 t y0 y1]
  generalize out (m (c.tc.loc main_arg0)) (m (c.tc.loc main_arg1)) (m (c.tc.loc main_arg2)) (m (c.tc.loc main_arg3)) (m (c.tc.loc main_arg4)) = G at h ⊢
  generalize outsAt0 m c t = O at h ⊢
  exact h

end Cert.FfnFinalIdeal.Closed

namespace Cert.FfnFinalReferenceIdeal.Closed

open Cert.FfnFinalReferenceIdeal Cert.FfnFinalReferenceIdeal.Gen Cert.Indices Cert.FfnMath
open Cert.FfnFinalIdeal.Closed (out)
open Cert.FfnReferenceIdeal.Closed (N P R norm_at prod_at res_at)

/-- The reference's run with its result at the same rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Value.run (F := Ideal) m ρ)
  funext i
  idx_vars i
  refine (Cert.FfnIdeal.Closed.rows (N (R (m ((c.tc : Thread nD τ).loc main_arg0)) (P (N (m ((c.tc : Thread nD τ).loc main_arg0)) (m ((c.tc : Thread nD τ).loc main_arg1))) (m ((c.tc : Thread nD τ).loc main_arg2))) (m ((c.tc : Thread nD τ).loc main_arg3))) (m ((c.tc : Thread nD τ).loc main_arg4))) _ i0 i1).trans ?_
  rw [norm_at]
  simp only [res_at, prod_at, norm_at]
  rfl

end Cert.FfnFinalReferenceIdeal.Closed

end
-- ==== Proof.MemKvValue.lean ====
/- The values of the memory keys and values call: each result array is the normalised memory times its half of the
   weight, read at an index, and the reference's results read at the same index are the same sums. -/
module

public import proofs.«01_k».proof.Proof.Indices
public import proofs.«01_k».proof.Proof.Gen.MemKvIdeal.Value
public import proofs.«01_k».proof.Proof.Gen.MemKvReferenceIdeal.Run
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.MemKvIdeal.Closed

open Cert.MemKvIdeal Cert.MemKvIdeal.Gen Cert.Indices

variable (m : (ℓ : Loc nD τ sig) → Buf (Elt Ideal) ℓ)

/-- Column `j` of the product of row `s` of batch `b` of the normalised memory with the weight. -/
def kv (x : Vec Ideal S32x256x1024 .f32) (g : Vec Ideal S1024 .f32) (w : Vec Ideal S1024x512 .f32)
    (b : Fin 32) (s : Fin 256) (j : Fin 512) : EReal :=
  ∑ k : Fin 1024, x (ix3 b s k)
    * Ideal.rsqrt (Ideal.div (∑ l : Fin 1024, x (ix3 b s l) * x (ix3 b s l)) (Ideal.ofBits .f32 0x44800000#32)
        + Ideal.ofBits .f32 0x358637BD#32) * g (ix1 k) * w (ix2 k j)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])

theorem V0 (c : Dev nD) : V m c main_v0 = shapeCast S8192x1024 (m ((c : Thread nD τ).loc main_arg0)) shapeCasts_S32x256x1024_S8192x1024 := by
  unfold V
  after_results <;> rfl
theorem V1 (c : Dev nD) : V m c main_v1 = shapeCast S1x1024 (m ((c : Thread nD τ).loc main_arg1)) shapeCasts_S1024_S1x1024 := by
  unfold V
  after_results <;> rfl
theorem V2 (c : Dev nD) : V m c main_v2 = (m ((c : Thread nD τ).loc main_arg2) : Vec Ideal S1024x512 .f32) := by
  unfold V
  after_results <;> rfl

theorem emb0 (t : Fin cfg0.N) (r : Fin 512) (k : Fin 1024) : ((cfg0.win 0).blk t).view.emb (ix2 r k)
    = ix2 (⟨t.val * 512 + r.val, by have := t.isLt; have : cfg0.N = 16 := N_0; omega⟩ : Fin 8192) k := by
  blk_ext [idx0 t]

/-- The memory as rows of all batches, read at a row. -/
theorem rows (x : Vec Ideal S32x256x1024 .f32) (h : S32x256x1024.ShapeCasts S8192x1024) (n : Fin 8192) (k : Fin 1024) :
    shapeCast S8192x1024 x h (ix2 n k) = x (ix3 (⟨n.val / 256, by omega⟩ : Fin 32) (⟨n.val % 256, by omega⟩ : Fin 256) k) := by
  pointwise

theorem iblk0 (c : Dev nD) (t : Fin cfg0.N) (r : Fin 512) (k : Fin 1024) (b : Fin 32) (s : Fin 256)
    (h : b.val * 256 + s.val = t.val * 512 + r.val) :
    iblk (F := Ideal) m c 0 t (ix2 r k) = m ((c : Thread nD τ).loc main_arg0) (ix3 b s k) := by
  unfold iblk
  rw [View.read_apply]
  erw [V0, emb0, rows]
  exact congrArg (m ((c : Thread nD τ).loc main_arg0)) (ix3_congr (by dsimp only; omega) (by dsimp only; omega) rfl)

theorem iblk1 (c : Dev nD) (t : Fin cfg0.N) (k : Fin 1024)  :
    iblk (F := Ideal) m c 1 t (ix2 0 k) = m ((c : Thread nD τ).loc main_arg1) (ix1 k) := by
  blk_simp [iblk, idx1 t]
  rw [V1]
  pointwise
  blk_ext [idx1 t]

theorem iblk2 (c : Dev nD) (t : Fin cfg0.N) (k : Fin 1024) (j : Fin 512) :
    iblk (F := Ideal) m c 2 t (ix2 k j) = m ((c : Thread nD τ).loc main_arg2) (ix2 k j) := by
  blk_simp [iblk, idx2 t]
  rw [V2]
  blk_ext [idx2 t]

theorem emb3 (t : Fin cfg0.N) (r : Fin 512) (k : Fin 256) : ((cfg0.win 3).blk t).view.emb (ix2 r k)
    = ix2 (⟨t.val * 512 + r.val, by have := t.isLt; have : cfg0.N = 16 := N_0; omega⟩ : Fin 8192) k := by
  blk_ext [idx3 t]

/-- The normalised row times the weight, read at the product's element of a block. -/
theorem pay (c : Dev nD) (t : Fin cfg0.N) (r : Fin 512) (j : Fin 512) (b : Fin 32) (s : Fin 256)
    (h : b.val * 256 + s.val = t.val * 512 + r.val) :
    k0_pay1 (F := Ideal) (iblk m c 0 t) (iblk m c 1 t) (iblk m c 2 t) (ix2 r j)
      = kv (m ((c : Thread nD τ).loc main_arg0)) (m ((c : Thread nD τ).loc main_arg1)) (m ((c : Thread nD τ).loc main_arg2)) b s j := by
  unfold kv
  pointwise [k0_pay1]
  simp only [iblk0 m c t r _ b s h, iblk1, iblk2]

/-- The keys or the values of every batch, as rows: the columns from `o` on. -/
def half (o : ℕ) (ho : o ≤ 256) (x : Vec Ideal S32x256x1024 .f32) (g : Vec Ideal S1024 .f32) (w : Vec Ideal S1024x512 .f32) :
    Vec Ideal S8192x256 .f32 := fun i =>
  kv x g w ⟨(i 0).val / 256, by have : (i 0).val < 8192 := (i 0).isLt; omega⟩ ⟨(i 0).val % 256, by omega⟩
    ⟨o + (i 1).val, by have : (i 1).val < 256 := (i 1).isLt; omega⟩

/-- The first result array: the keys. -/
theorem final3 (c : Dev nD) : (dats (F := Ideal) m 0 c).arrAt 3 cfg0.N = half 0 (by decide)
    (m ((c : Thread nD τ).loc main_arg0)) (m ((c : Thread nD τ).loc main_arg1)) (m ((c : Thread nD τ).loc main_arg2)) := by
  refine (dats (F := Ideal) m 0 c).arrAt_eq_of_covers 3 _ (by decide +kernel) fun t hf y => ?_
  rw [after0_3]
  frame_out
  idx_vars y
  have ht : t.val < 16 := N_0 ▸ t.isLt
  have hl : k0_pay2 (F := Ideal) (iblk m c 0 t) (iblk m c 1 t) (iblk m c 2 t) (ix2 y0 y1)
      = k0_pay1 (F := Ideal) (iblk m c 0 t) (iblk m c 1 t) (iblk m c 2 t) (ix2 y0 ⟨0 + y1.val, by omega⟩) := by
    pointwise [k0_pay2]
    try exact congrArg (k0_pay1 (F := Ideal) (iblk m c 0 t) (iblk m c 1 t) (iblk m c 2 t)) (ix2_congr rfl (by dsimp only; omega))
  erw [emb3]
  refine Eq.trans (show _ = k0_pay2 (F := Ideal) (iblk m c 0 t) (iblk m c 1 t) (iblk m c 2 t) (ix2 y0 y1) from rfl) ?_
  rw [hl, pay m c t y0 _ ⟨(t.val * 512 + y0.val) / 256, by omega⟩ ⟨(t.val * 512 + y0.val) % 256, by omega⟩ (by dsimp only; omega)]
  rfl

theorem idx4 : ∀ t : Fin cfg0.N, win0_4.index t = ![t.val, 0] :=
  (by decide +kernel : ∀ t : Fin grid0.N, win0_4.index t = ![t.val, 0])
theorem emb4 (t : Fin cfg0.N) (r : Fin 512) (k : Fin 256) : ((cfg0.win 4).blk t).view.emb (ix2 r k)
    = ix2 (⟨t.val * 512 + r.val, by have := t.isLt; have : cfg0.N = 16 := N_0; omega⟩ : Fin 8192) k := by
  blk_ext [idx4 t]

/-- The second result array: the values. -/
theorem final4 (c : Dev nD) : (dats (F := Ideal) m 0 c).arrAt 4 cfg0.N = half 256 (by decide)
    (m ((c : Thread nD τ).loc main_arg0)) (m ((c : Thread nD τ).loc main_arg1)) (m ((c : Thread nD τ).loc main_arg2)) := by
  refine (dats (F := Ideal) m 0 c).arrAt_eq_of_covers 4 _ (by decide +kernel) fun t hf y => ?_
  rw [after0_4]
  frame_out
  idx_vars y
  have ht : t.val < 16 := N_0 ▸ t.isLt
  have hl : k0_pay3 (F := Ideal) (iblk m c 0 t) (iblk m c 1 t) (iblk m c 2 t) (ix2 y0 y1)
      = k0_pay1 (F := Ideal) (iblk m c 0 t) (iblk m c 1 t) (iblk m c 2 t) (ix2 y0 ⟨256 + y1.val, by omega⟩) := by
    pointwise [k0_pay3]
    try exact congrArg (k0_pay1 (F := Ideal) (iblk m c 0 t) (iblk m c 1 t) (iblk m c 2 t)) (ix2_congr rfl (by dsimp only; omega))
  erw [emb4]
  refine Eq.trans (show _ = k0_pay3 (F := Ideal) (iblk m c 0 t) (iblk m c 1 t) (iblk m c 2 t) (ix2 y0 y1) from rfl) ?_
  rw [hl, pay m c t y0 _ ⟨(t.val * 512 + y0.val) / 256, by omega⟩ ⟨(t.val * 512 + y0.val) % 256, by omega⟩ (by dsimp only; omega)]
  rfl

end Cert.MemKvIdeal.Closed

namespace Cert.MemKvReferenceIdeal.Closed

open Cert.MemKvReferenceIdeal Cert.MemKvReferenceIdeal.Gen Cert.Indices
open Cert.MemKvIdeal.Closed (half kv)

/-- The reference's product of the normalised memory with the weight. -/
abbrev P (x : Vec Ideal S32x256x1024 .f32) (g : Vec Ideal S1024 .f32) (w : Vec Ideal S1024x512 .f32) : Vec Ideal S32x256x512 .f32 :=
  Host.dotGeneral (F := Ideal) (φ₁ := .f32) (φ₂ := .f32) dot_S32x256x1024_S1024x512_S32x256x512_2_0_01_1_n_n none (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))) w

/-- The reference's product, read at an element. -/
theorem prod (x : Vec Ideal S32x256x1024 .f32) (g : Vec Ideal S1024 .f32) (w : Vec Ideal S1024x512 .f32) (b : Fin 32) (s : Fin 256) (j : Fin 512) :
    P x g w (ix3 b s j) = kv x g w b s j := by
  unfold P kv
  pointwise

/-- The keys as rows: the first half of the product's columns. -/
theorem lay0 (p : Vec Ideal S32x256x512 .f32) (n : Fin 8192) (j : Fin 256) :
    shapeCast S8192x256 (shapeCast S32x256x4x64 (extractStridedSlice S32x256x1x4x64 ![0, 0, 0, 0, 0] (shapeCast S32x256x2x4x64 p shapeCasts_S32x256x512_S32x256x2x4x64) slices_S32x256x2x4x64_S32x256x1x4x64_0_0_0_0_0) shapeCasts_S32x256x1x4x64_S32x256x4x64) shapeCasts_S32x256x4x64_S8192x256 (ix2 n j)
      = p (ix3 (⟨n.val / 256, by omega⟩ : Fin 32) (⟨n.val % 256, by omega⟩ : Fin 256) (⟨0 + j.val, by omega⟩ : Fin 512)) := by
  pointwise
  exact congrArg p (ix3_congr rfl rfl (by dsimp only; omega))

/-- The values as rows: the second half of the product's columns. -/
theorem lay1 (p : Vec Ideal S32x256x512 .f32) (n : Fin 8192) (j : Fin 256) :
    shapeCast S8192x256 (shapeCast S32x256x4x64 (extractStridedSlice S32x256x1x4x64 ![0, 0, 1, 0, 0] (shapeCast S32x256x2x4x64 p shapeCasts_S32x256x512_S32x256x2x4x64) slices_S32x256x2x4x64_S32x256x1x4x64_0_0_1_0_0) shapeCasts_S32x256x1x4x64_S32x256x4x64) shapeCasts_S32x256x4x64_S8192x256 (ix2 n j)
      = p (ix3 (⟨n.val / 256, by omega⟩ : Fin 32) (⟨n.val % 256, by omega⟩ : Fin 256) (⟨256 + j.val, by omega⟩ : Fin 512)) := by
  pointwise
  exact congrArg p (ix3_congr rfl rfl (by dsimp only; omega))

/-- The reference's run with its results at the two halves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = half 0 (by decide) (m ((c.tc : Thread nD τ).loc main_arg0)) (m ((c.tc : Thread nD τ).loc main_arg1)) (m ((c.tc : Thread nD τ).loc main_arg2))
      ∧ r.2.mem ((c.tc : Thread nD τ).loc main_v20) = half 256 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2⟩) (Value.run (F := Ideal) m ρ)
  · funext i
    idx_vars i
    exact (lay0 (P (m ((c.tc : Thread nD τ).loc main_arg0)) (m ((c.tc : Thread nD τ).loc main_arg1)) (m ((c.tc : Thread nD τ).loc main_arg2))) i0 i1).trans (prod _ _ _ _ _ _)
  · funext i
    idx_vars i
    exact (lay1 (P (m ((c.tc : Thread nD τ).loc main_arg0)) (m ((c.tc : Thread nD τ).loc main_arg1)) (m ((c.tc : Thread nD τ).loc main_arg2))) i0 i1).trans (prod _ _ _ _ _ _)

end Cert.MemKvReferenceIdeal.Closed

end
-- ==== Proof.FeedForwardClaims.lean ====
/- The claims about the feed-forward halves and the memory keys and values: each program and its reference end with the same results. -/
module

public import proofs.«01_k».proof.Defs
public import proofs.«01_k».proof.Proof.FfnValue
public import proofs.«01_k».proof.Proof.FfnFinalValue
public import proofs.«01_k».proof.Proof.MemKvValue

@[expose] public section

noncomputable section

open Idealize.ShloMosaic Idealize.ShloMosaic.TcCoe Idealize.SL.Sem

namespace Cert.FeedForwardClaims

/-- The feed-forward half's reference runs, ends with its arguments unchanged and every counter at zero. -/
theorem ffn_reference_frame : Cert.quiescent_FfnReferenceIdeal := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m ρ)

/-- The closing feed-forward half's reference runs, ends with its arguments unchanged and every counter at zero. -/
theorem ffn_final_reference_frame : Cert.quiescent_FfnFinalReferenceIdeal := fun m ρ _ =>
  (θ_run Cert.FfnFinalReferenceIdeal.defs _ _).mono (fun r h => ⟨fun c => (h c).2, Idealize.ShloMosaic.sem_eq_zero_of_no_sems (by decide) r.2⟩)
    (Cert.FfnFinalReferenceIdeal.Value.run (F := Ideal) m ρ)

/-- The memory keys and values' reference runs, ends with its arguments unchanged and every counter at zero. -/
theorem mem_kv_reference_frame : Cert.quiescent_MemKvReferenceIdeal := fun m ρ _ =>
  (θ_run Cert.MemKvReferenceIdeal.defs _ _).mono (fun r h => ⟨fun c => (h c).2.2, Idealize.ShloMosaic.sem_eq_zero_of_no_sems (by decide) r.2⟩)
    (Cert.MemKvReferenceIdeal.Value.run (F := Ideal) m ρ)

/-- The feed-forward half and its reference end with equal results. -/
theorem ffn : Cert.algebraic_FfnIdeal_FfnReferenceIdeal := fun m ρ m' ρ' _ hag =>
  ⟨fun c => Cert.FfnIdeal.Closed.out (m ((c.tc : Thread Cert.FfnIdeal.nD Cert.FfnIdeal.τ).loc Cert.FfnIdeal.main_arg0))
      (m ((c.tc : Thread Cert.FfnIdeal.nD Cert.FfnIdeal.τ).loc Cert.FfnIdeal.main_arg1)) (m ((c.tc : Thread Cert.FfnIdeal.nD Cert.FfnIdeal.τ).loc Cert.FfnIdeal.main_arg2))
      (m ((c.tc : Thread Cert.FfnIdeal.nD Cert.FfnIdeal.τ).loc Cert.FfnIdeal.main_arg3)),
    (θ_run Cert.FfnIdeal.defs _ _).mono (fun _ h c => ⟨(h c).1.trans (Cert.FfnIdeal.Closed.final5 m c), (h c).2⟩) (Cert.FfnIdeal.Value.run_blocks (F := Ideal) m ρ),
    (θ_run Cert.FfnReferenceIdeal.defs _ _).mono (fun _ h c => ⟨(h c).1.trans (by
        obtain ⟨h0, h1, h2, h3⟩ := hag c
        rw [h0, h1, h2, h3]), (h c).2⟩) (Cert.FfnReferenceIdeal.Closed.run m' ρ')⟩

/-- The closing feed-forward half and its reference end with equal results. -/
theorem ffn_final : Cert.algebraic_FfnFinalIdeal_FfnFinalReferenceIdeal := fun m ρ m' ρ' _ hag =>
  ⟨fun c => Cert.FfnFinalIdeal.Closed.out (m ((c.tc : Thread Cert.FfnFinalIdeal.nD Cert.FfnFinalIdeal.τ).loc Cert.FfnFinalIdeal.main_arg0))
      (m ((c.tc : Thread Cert.FfnFinalIdeal.nD Cert.FfnFinalIdeal.τ).loc Cert.FfnFinalIdeal.main_arg1)) (m ((c.tc : Thread Cert.FfnFinalIdeal.nD Cert.FfnFinalIdeal.τ).loc Cert.FfnFinalIdeal.main_arg2))
      (m ((c.tc : Thread Cert.FfnFinalIdeal.nD Cert.FfnFinalIdeal.τ).loc Cert.FfnFinalIdeal.main_arg3)) (m ((c.tc : Thread Cert.FfnFinalIdeal.nD Cert.FfnFinalIdeal.τ).loc Cert.FfnFinalIdeal.main_arg4)),
    (θ_run Cert.FfnFinalIdeal.defs _ _).mono (fun _ h c => ⟨(h c).1.trans (Cert.FfnFinalIdeal.Closed.final5 m c), (h c).2⟩) (Cert.FfnFinalIdeal.Value.run_blocks (F := Ideal) m ρ),
    (θ_run Cert.FfnFinalReferenceIdeal.defs _ _).mono (fun _ h c => ⟨(h c).1.trans (by
        obtain ⟨h0, h1, h2, h3, h4⟩ := hag c
        rw [h0, h1, h2, h3, h4]), (h c).2⟩) (Cert.FfnFinalReferenceIdeal.Closed.run m' ρ')⟩

/-- The memory keys and values and their reference end with equal results. -/
theorem mem_kv : Cert.algebraic_MemKvIdeal_MemKvReferenceIdeal := fun m ρ m' ρ' _ hag =>
  ⟨fun c => Cert.MemKvIdeal.Closed.half 0 (by decide) (m ((c.tc : Thread Cert.MemKvIdeal.nD Cert.MemKvIdeal.τ).loc Cert.MemKvIdeal.main_arg0))
      (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)),
    fun c => Cert.MemKvIdeal.Closed.half 256 (by decide) (m ((c.tc : Thread Cert.MemKvIdeal.nD Cert.MemKvIdeal.τ).loc Cert.MemKvIdeal.main_arg0))
      (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)),
    (θ_run Cert.MemKvIdeal.defs _ _).mono (fun _ h c => ⟨(h c).1.trans (Cert.MemKvIdeal.Closed.final3 m c), (h c).2.1.trans (Cert.MemKvIdeal.Closed.final4 m c), (h c).2.2⟩)
      (Cert.MemKvIdeal.Value.run_blocks (F := Ideal) m ρ),
    (θ_run Cert.MemKvReferenceIdeal.defs _ _).mono (fun _ h c => ⟨(h c).1.trans (by
        obtain ⟨h0, h1, h2⟩ := hag c
        rw [h0, h1, h2]), (h c).2.1.trans (by
        obtain ⟨h0, h1, h2⟩ := hag c
        rw [h0, h1, h2]), (h c).2.2⟩) (Cert.MemKvReferenceIdeal.Closed.run m' ρ')⟩

end Cert.FeedForwardClaims

end
-- ==== Proof.AttentionLoop.lean ====
/- The latent attention's launch, one grid point: what the loop over whole key tiles leaves in the three running
   buffers (maximum, denominator, weighted sum), and the block written after the tile on the diagonal. -/
module

public import proofs.«01_k».proof.Proof.Gen.KernelIdeal.Value
public import Idealize.ShloMosaic.Lib.VecWindow
public import Idealize.ShloMosaic.Lib.WholeRead
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.AttentionLoop

open Cert.KernelIdeal Cert.KernelIdeal.Gen

variable {F : FTy → Type} [FloatOps F] [Named F]

/-- The loop over the tiles left after the whole groups makes no trip: the groups are single tiles. -/
theorem trips2 (i : grid0.Coords) : (k0_t2_loop i).trips = 0 := by
  unfold k0_t2_loop
  generalize i 1 = n
  revert n
  decide +kernel

/-- The loop makes one trip for every two query blocks before the point's own. -/
theorem trips1 (i : grid0.Coords) : (k0_t1_loop i).trips = (i 1).val / 2 := by
  unfold k0_t1_loop
  generalize i 1 = n
  revert n
  decide +kernel

/-- Trip k reads the keys from 256 k on. -/
theorem off1 (i : grid0.Coords) (k : Fin (k0_t1_loop i).trips) : k0_off1 i k = ![256 * k.val, 0] := by
  have hk := k.isLt.trans_eq (trips1 i)
  have : (i 1).val < 16 := (i 1).isLt
  have h : k.val < 8 := by omega
  unfold k0_off1
  generalize k.val = n at *
  interval_cases n <;> decide +kernel

/-- The last tile begins where the loop ended. -/
theorem off3 (i : grid0.Coords) : k0_off3 i = ![256 * ((i 1).val / 2), 0] := by
  unfold k0_off3
  generalize i 1 = n
  revert n
  decide +kernel

/-- Tile `n` of a batch's keys: 256 rows from `256 n` on. -/
def tile (x : Vec F S2048x256 .bf16) (n : ℕ) : Vec F S256x256 .bf16 :=
  fun y => x (ix2 ⟨(256 * n + (y 0).val) % 2048, Nat.mod_lt _ (by decide)⟩ ⟨(y 1).val, (y 1).isLt⟩)

/-- A load of 256 rows from `256 n` on is tile `n`. -/
theorem load_tile (arg3 : Memref sig .tc .vmem S2048x256 .bf16) (harg3 : arg3.IsWhole) (x : Vec F S2048x256 .bf16) (off : Fin 2 → ℕ)
    (n : ℕ) (h : off = ![256 * n, 0]) (inb : ∀ a, off a + S256x256.size a ≤ S2048x256.size a) :
    View.readAt (Elt F) arg3.view (Rect.unit (s := S2048x256) off S256x256.size inb).toLoadRect (harg3.unread x) = tile x n := by
  subst h
  funext y
  rw [Memref.IsWhole.readAt_unread]
  unfold tile
  have h0 : 256 * n + 256 ≤ 2048 := inb 0
  have hy : (y 0).val < 256 := (y 0).isLt
  refine congrArg x ?_
  funext a
  fin_cases a
  · refine Fin.ext ?_
    show 256 * n + 1 * (y 0).val = (256 * n + (y 0).val) % 2048
    rw [Nat.mod_eq_of_lt (by omega)]; omega
  · refine Fin.ext ?_
    show 0 + 1 * (y 1).val = (y 1).val
    omega

/-- The running maximum, denominator and weighted sum after `n` whole tiles. -/
def state (q : FVec F S1024x256 .bf16) (x : Vec F S2048x256 .bf16) : ℕ → FVec F S1024x128 .f32 × FVec F S1024x128 .f32 × FVec F S1024x128 .f32
  | 0 => (k0_pay16, k0_pay17, k0_pay18)
  | n + 1 => (k0_pay19 (k0_pay3 q (tile x n) (state q x n).1), k0_pay6 q (tile x n) (state q x n).1 (state q x n).2.1,
      k0_pay7 q (tile x n) (state q x n).1 (state q x n).2.2)

section Loop

variable (c : Dev nD) (i : grid0.Coords) (arg2 : Memref sig .tc .vmem S8x128x256 .bf16) (harg2 : arg2.IsWhole)
  (arg3 : Memref sig .tc .vmem S2048x256 .bf16) (harg3 : arg3.IsWhole) (arg4 : Memref sig .tc .vmem S8x128x128 .bf16) (harg4 : arg4.IsWhole)
  (arg5 : Memref sig .tc .vmem S1024x128 .f32) (harg5 : arg5.IsWhole) (arg6 : Memref sig .tc .vmem S1024x128 .f32) (harg6 : arg6.IsWhole)
  (arg7 : Memref sig .tc .vmem S1024x128 .f32) (harg7 : arg7.IsWhole) (arg1 v31 z v32 : BitVec 32) (q : FVec F S1024x256 .bf16)
  (x : Vec F S2048x256 .bf16)

/-- After `n` trips the three buffers read the running values of `n` tiles. -/
theorem loop_reads (f5 : BufTy.Contents (Elt F) arg5.view.ty) (f6 : BufTy.Contents (Elt F) arg6.view.ty) (f7 : BufTy.Contents (Elt F) arg7.view.ty)
    (h5 : arg5.view.read (Elt F) f5 = k0_pay16) (h6 : arg6.view.read (Elt F) f6 = k0_pay17) (h7 : arg7.view.read (Elt F) f7 = k0_pay18) :
    ∀ n, n ≤ (k0_t1_loop i).trips →
      arg5.view.read (Elt F) (arg5.view.writes (Elt F) f5 (pb_k0_t1 Variants.none c none i arg2 harg2 arg3 harg3 arg4 harg4 arg5 harg5 arg6 harg6 arg7 harg7 arg1 q v31 z v32 (harg3.unread x) f5 f6 f7 n).1) = (state q x n).1
      ∧ arg6.view.read (Elt F) (arg6.view.writes (Elt F) f6 (pb_k0_t1 Variants.none c none i arg2 harg2 arg3 harg3 arg4 harg4 arg5 harg5 arg6 harg6 arg7 harg7 arg1 q v31 z v32 (harg3.unread x) f5 f6 f7 n).2.1) = (state q x n).2.1
      ∧ arg7.view.read (Elt F) (arg7.view.writes (Elt F) f7 (pb_k0_t1 Variants.none c none i arg2 harg2 arg3 harg3 arg4 harg4 arg5 harg5 arg6 harg6 arg7 harg7 arg1 q v31 z v32 (harg3.unread x) f5 f6 f7 n).2.2) = (state q x n).2.2 := by
  intro n
  induction n with
  | zero => exact fun _ => ⟨h5, h6, h7⟩
  | succ n ih =>
    intro hn
    obtain ⟨i5, i6, i7⟩ := ih (by omega)
    have hs := pb_k0_t1_succ (F := F) Variants.none c none i arg2 harg2 arg3 harg3 arg4 harg4 arg5 harg5 arg6 harg6 arg7 harg7 arg1 q v31 z v32 (harg3.unread x) f5 f6 f7 ⟨n, hn⟩
    dsimp only at hs
    rw [hs]
    generalize pb_k0_t1 Variants.none c none i arg2 harg2 arg3 harg3 arg4 harg4 arg5 harg5 arg6 harg6 arg7 harg7 arg1 q v31 z v32 (harg3.unread x) f5 f6 f7 n = P at i5 i6 i7 ⊢
    unfold trip_k0_t1
    unfold trip_k0_t1.sl.r
    dsimp only [List.cons_append, List.nil_append]
    have ht := load_tile arg3 harg3 x (k0_off1 i ⟨n, hn⟩) n (off1 i ⟨n, hn⟩) (Facts₀.k0_off1_inb i ⟨n, hn⟩)
    refine ⟨(View.read_writes_full _ _ _ _ _).trans ?_, (View.read_writes_full _ _ _ _ _).trans ?_, (View.read_writes_full _ _ _ _ _).trans ?_⟩
    · rw [View.readAt_full arg5.view, i5]
      exact congrArg (fun k => k0_pay19 (k0_pay3 q k (state q x n).1)) ht
    · rw [View.readAt_full arg5.view, View.readAt_full arg6.view, i5, i6]
      exact congrArg (fun k => k0_pay6 q k (state q x n).1 (state q x n).2.1) ht
    · rw [View.readAt_full arg5.view, View.readAt_full arg7.view, i5, i7]
      exact congrArg (fun k => k0_pay7 q k (state q x n).1 (state q x n).2.2) ht

/-- What the three buffers read before the diagonal tile: the running values of the whole tiles. -/
theorem entry (x0 : Vec F S8x128x256 .bf16) :
    kernelRun0_A.sl.v69 c i arg2 harg2 arg3 harg3 arg4 harg4 arg5 harg5 arg6 harg6 arg7 harg7 x0 x
        = (state (kernelRun0_A.sl.r c arg2 harg2 x0) x ((i 1).val / 2)).1
    ∧ kernelRun0_A.sl.v83 c i arg2 harg2 arg3 harg3 arg4 harg4 arg5 harg5 arg6 harg6 arg7 harg7 x0 x
        = (state (kernelRun0_A.sl.r c arg2 harg2 x0) x ((i 1).val / 2)).2.1
    ∧ kernelRun0_A.sl.v92 c i arg2 harg2 arg3 harg3 arg4 harg4 arg5 harg5 arg6 harg6 arg7 harg7 x0 x
        = (state (kernelRun0_A.sl.r c arg2 harg2 x0) x ((i 1).val / 2)).2.2 := by
  have h := loop_reads c i arg2 harg2 arg3 harg3 arg4 harg4 arg5 harg5 arg6 harg6 arg7 harg7 (BitVec.ofNat 32 (i 1).val)
    (kernelRun0_A.sl.v31 i) 0#32 (kernelRun0_A.sl.v32 i) (kernelRun0_A.sl.r c arg2 harg2 x0) x
    (arg5.view.writes (Elt F) arg5.view.junk kernelRun0_A.sl.HS0_1) (arg6.view.writes (Elt F) arg6.view.junk kernelRun0_A.sl.HS1_1)
    (arg7.view.writes (Elt F) arg7.view.junk kernelRun0_A.sl.HS2_1)
    (by unfold kernelRun0_A.sl.HS0_1; exact View.read_writes_full _ _ _ _ _)
    (by unfold kernelRun0_A.sl.HS1_1; exact View.read_writes_full _ _ _ _ _)
    (by unfold kernelRun0_A.sl.HS2_1; exact View.read_writes_full _ _ _ _ _) (k0_t1_loop i).trips le_rfl
  rw [← View.writes_append, ← View.writes_append, ← View.writes_append] at h
  have e2 : Scf.trips (k0_t2_loop i).lb (k0_t2_loop i).ub (k0_t2_loop i).st = 0 := trips2 i
  rw [← trips1 i]
  refine ⟨?_, ?_, ?_⟩
  · unfold kernelRun0_A.sl.v69
    rw [e2]
    refine Eq.trans (View.readAt_full _ _ _) ?_
    exact h.1
  · unfold kernelRun0_A.sl.v83
    rw [e2]
    refine Eq.trans (View.readAt_full _ _ _) ?_
    exact h.2.1
  · unfold kernelRun0_A.sl.v92
    rw [e2]
    refine Eq.trans (View.readAt_full _ _ _) ?_
    exact h.2.2

end Loop

/-- The denominators after the diagonal tile `k` on the running maximum `M` and denominator `L`. -/
def lastL (i : grid0.Coords) (q : FVec F S1024x256 .bf16) (k : Vec F S256x256 .bf16) (M L : FVec F S1024x128 .f32) : FVec F S1024x128 .f32 :=
  k0_pay27 (k0_pay22 (BitVec.ofNat 32 (i 1).val) q (kernelRun0_A.sl.v31 i) k) M (k0_pay23 (BitVec.ofNat 32 (i 1).val) q (kernelRun0_A.sl.v31 i) k M)
    (k0_pay24 (BitVec.ofNat 32 (i 1).val) q (kernelRun0_A.sl.v31 i) k M) L

/-- The weighted sums after the diagonal tile. -/
def lastA (i : grid0.Coords) (q : FVec F S1024x256 .bf16) (k : Vec F S256x256 .bf16) (M A : FVec F S1024x128 .f32) : FVec F S1024x128 .f32 :=
  k0_pay28 (k0_pay21 k) (k0_pay22 (BitVec.ofNat 32 (i 1).val) q (kernelRun0_A.sl.v31 i) k) M
    (k0_pay23 (BitVec.ofNat 32 (i 1).val) q (kernelRun0_A.sl.v31 i) k M) (k0_pay24 (BitVec.ofNat 32 (i 1).val) q (kernelRun0_A.sl.v31 i) k M) A

/-- The block of the output that a grid point writes, from its block of queries and its batch's keys. -/
def block (i : grid0.Coords) (x0 : Vec F S8x128x256 .bf16) (x : Vec F S2048x256 .bf16) : Vec F S8x128x128 .bf16 :=
  k0_pay30 (lastA i (k0_pay15 x0) (tile x ((i 1).val / 2)) (state (k0_pay15 x0) x ((i 1).val / 2)).1 (state (k0_pay15 x0) x ((i 1).val / 2)).2.2)
    (lastL i (k0_pay15 x0) (tile x ((i 1).val / 2)) (state (k0_pay15 x0) x ((i 1).val / 2)).1 (state (k0_pay15 x0) x ((i 1).val / 2)).2.1)

/-- What the body leaves in the output's buffer at a point. -/
theorem out_eq (m : (ℓ : Loc nD τ sig) → Buf (Elt F) ℓ) (c : Dev nD) (t : Fin cfg0.N) :
    outsAt0 m c t = block (grid0.coords t) (iblk m c 0 t) (iblk m c 1 t) := by
  unfold outsAt0 out0_A_2 kernelRun0_A
  dsimp only
  refine (View.read_writes_full _ _ _ _ _).trans ?_
  generalize iblk m c 0 t = x0
  generalize iblk m c 1 t = x
  generalize grid0.coords t = i
  have hr : kernelRun0_A.sl.r c (ms0_0 t) (hs0_0 t) x0 = k0_pay15 x0 := by
    unfold kernelRun0_A.sl.r
    refine congrArg k0_pay15 ?_
    exact (View.readAt_full _ _ _).trans ((hs0_0 t).read_unread x0)
  have hk := load_tile (ms0_1 t) (hs0_1 t) x (k0_off3 i) ((i 1).val / 2) (off3 i) (Facts₀.k0_off3_inb i)
  have he := entry c i (ms0_0 t) (hs0_0 t) (ms0_1 t) (hs0_1 t) (ms0_2 t) (hs0_2 t) scM0_0 (Memref.isWhole_whole _) scM0_1 (Memref.isWhole_whole _) scM0_2 (Memref.isWhole_whole _) x x0
  rw [hr] at he
  unfold block
  refine congrArg₂ k0_pay30 ?_ ?_
  · unfold kernelRun0_A.sl.v104 kernelRun0_A.sl.HS2_1_1
    refine (View.readCov_full _ _ _ _ _).trans ?_
    unfold kernelRun0_A.sl.r_1 kernelRun0_A.sl.r_2 kernelRun0_A.sl.r_3 kernelRun0_A.sl.r_4 lastA
    rw [he.1, he.2.2, hr, hk]
  · unfold kernelRun0_A.sl.v105 kernelRun0_A.sl.HS1_1_1
    refine (View.readCov_full _ _ _ _ _).trans ?_
    unfold kernelRun0_A.sl.r_2 kernelRun0_A.sl.r_3 kernelRun0_A.sl.r_4 lastL
    rw [he.1, he.2.1, hr, hk]

end Cert.AttentionLoop

end
-- ==== Proof.AttentionMath.lean ====
/- The arithmetic of one row of attention over the extended reals: the running maximum, denominator and weighted sum
   over tiles of 256 keys, and the softmax over all keys, which give the same quotient when the scores and the values
   are real numbers and a masked score is minus infinity. -/
module

public import Idealize.ShloMosaic.Lib.Pointwise
public import Idealize.ShloMosaic.Lib.IdealHost

@[expose] public section

noncomputable section

open Idealize.ShloMosaic

namespace Cert.AttentionMath

/-- One over the root of 96, the scale of the scores. -/
def c : ℝ := (Real.sqrt 96)⁻¹

/-- The scale times the logarithm of e to the base two. -/
def C : ℝ := (Real.sqrt 96)⁻¹ * (Real.log 2)⁻¹

theorem c_pos : 0 < c := inv_pos.mpr (Real.sqrt_pos.mpr (by norm_num))

theorem log_pos : 0 < Real.log 2 := Real.log_pos (by norm_num)

theorem C_pos : 0 < C := mul_pos c_pos (inv_pos.mpr log_pos)

/-- The weight of a score `s` relative to `μ`: the exponential of the scaled difference, zero for a masked score. -/
def W (μ : ℝ) (s : EReal) : ℝ := if s = ⊥ then 0 else Real.exp ((s.toReal - μ) * c)

theorem W_bot (μ : ℝ) : W μ ⊥ = 0 := if_pos rfl

theorem W_coe (μ r : ℝ) : W μ (r : EReal) = Real.exp ((r - μ) * c) := by
  unfold W
  rw [if_neg (EReal.coe_ne_bot r), EReal.toReal_coe]

theorem W_nonneg (μ : ℝ) (s : EReal) : 0 ≤ W μ s := by
  unfold W
  split
  · exact le_refl _
  · exact (Real.exp_pos _).le

theorem W_pos (μ : ℝ) (s : EReal) (h : s ≠ ⊥) : 0 < W μ s := by
  unfold W
  rw [if_neg h]
  exact Real.exp_pos _

/-- Moving the reference point scales every weight by one factor. -/
theorem W_shift (μ μ' : ℝ) (s : EReal) : W μ' s = Real.exp ((μ - μ') * c) * W μ s := by
  unfold W
  split
  · rw [mul_zero]
  · rw [← Real.exp_add]
    congr 1
    ring

/-- The weight written with the power of two. -/
theorem exp2_weight (μ : ℝ) (s : EReal) (h : s ≠ ⊤) : Ideal.exp2 ((s - (μ : EReal)) * (C : EReal)) = ((W μ s : ℝ) : EReal) := by
  induction s using EReal.rec with
  | bot =>
    rw [EReal.bot_sub, EReal.bot_mul_coe_of_pos C_pos, W_bot]
    exact Ideal.exp2_bot
  | top => exact absurd rfl h
  | coe r =>
    rw [← EReal.coe_sub, ← EReal.coe_mul, W_coe]
    refine (Ideal.exp2_coe _).trans ?_
    refine congrArg _ ?_
    show (2 : ℝ) ^ ((r - μ) * C) = _
    rw [Real.rpow_def_of_pos (by norm_num)]
    congr 1
    unfold C c
    have := log_pos.ne'
    field_simp

/-- The weight written with the exponential of scaled scores. -/
theorem exp_weight (μ : ℝ) (s : EReal) (h : s ≠ ⊤) : Ideal.exp (s * (c : EReal) - ((μ * c : ℝ) : EReal)) = ((W μ s : ℝ) : EReal) := by
  induction s using EReal.rec with
  | bot =>
    rw [EReal.bot_mul_coe_of_pos c_pos, EReal.bot_sub, W_bot]
    exact Ideal.exp_bot
  | top => exact absurd rfl h
  | coe r =>
    rw [← EReal.coe_mul, ← EReal.coe_sub, W_coe]
    refine (Ideal.exp_coe _).trans ?_
    rw [sub_mul]

/-- One tile of 256 scores `s` and values `v` folded into the running maximum, denominator and weighted sum. -/
def step (s v : Fin 256 → EReal) (t : EReal × EReal × EReal) : EReal × EReal × EReal :=
  (max t.1 (Finset.univ.sup s),
    Ideal.exp2 ((t.1 - max t.1 (Finset.univ.sup s)) * (C : EReal)) * t.2.1 + ∑ j, Ideal.exp2 ((s j - max t.1 (Finset.univ.sup s)) * (C : EReal)),
    Ideal.exp2 ((t.1 - max t.1 (Finset.univ.sup s)) * (C : EReal)) * t.2.2
      + ∑ j, Ideal.exp2 ((s j - max t.1 (Finset.univ.sup s)) * (C : EReal)) * v j)

/-- The running values after `n` tiles of the scores `S` and values `V`. -/
def run (S V : ℕ → EReal) : ℕ → EReal × EReal × EReal
  | 0 => (⊥, 0, 0)
  | n + 1 => step (fun j => S (256 * n + j.val)) (fun j => V (256 * n + j.val)) (run S V n)

/-- A finite supremum of entries none of which is infinite above is not infinite above. -/
theorem sup_ne_top {ι : Type} (s : Finset ι) (f : ι → EReal) (h : ∀ i, f i ≠ ⊤) : s.sup f ≠ ⊤ := by
  refine Finset.sup_induction (p := fun x => x ≠ (⊤ : EReal)) bot_ne_top (fun a ha b hb => ?_) (fun i _ => h i)
  rcases max_choice a b with e | e
  · exact fun h => ha (e ▸ h)
  · exact fun h => hb (e ▸ h)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A step whose new maximum is the real number `μ`. -/
theorem step_real (s v : Fin 256 → EReal) (w : Fin 256 → ℝ) (t : EReal × EReal × EReal) (μ l a : ℝ) (hs : ∀ j, s j ≠ ⊤) (hv : ∀ j, v j = (w j : EReal))
    (ht : t.1 ≠ ⊤) (hm : max t.1 (Finset.univ.sup s) = (μ : EReal)) (hl : t.2.1 = (l : EReal)) (ha : t.2.2 = (a : EReal)) :
    step s v t = ((μ : EReal), ((W μ t.1 * l + ∑ j, W μ (s j) : ℝ) : EReal), ((W μ t.1 * a + ∑ j, W μ (s j) * w j : ℝ) : EReal)) := by
  unfold step
  rw [hm, hl, ha, exp2_weight μ t.1 ht]
  simp only [exp2_weight μ _ (hs _), hv, ← EReal.coe_mul, coe_sum, ← EReal.coe_add]

variable (S V : ℕ → EReal) (v : ℕ → ℝ)

/-- After at least one tile the running maximum is real, and the running sums are the sums of the weights relative to it. -/
theorem run_eq (hS : ∀ k, S k ≠ ⊤) (h0 : S 0 ≠ ⊥) (hV : ∀ k, V k = (v k : EReal)) : ∀ n, ∃ μ : ℝ,
    run S V (n + 1) = ((μ : EReal), ((∑ k ∈ Finset.range (256 * (n + 1)), W μ (S k) : ℝ) : EReal),
      ((∑ k ∈ Finset.range (256 * (n + 1)), W μ (S k) * v k : ℝ) : EReal)) := by
  intro n
  induction n with
  | zero =>
    have h1 : Finset.univ.sup (fun j : Fin 256 => S (256 * 0 + j.val)) ≠ ⊤ := sup_ne_top _ _ fun j => hS _
    have h2 : Finset.univ.sup (fun j : Fin 256 => S (256 * 0 + j.val)) ≠ ⊥ := by
      intro h
      exact h0 ((Finset.sup_eq_bot_iff _ _).mp h (0 : Fin 256) (Finset.mem_univ _))
    refine ⟨(Finset.univ.sup (fun j : Fin 256 => S (256 * 0 + j.val))).toReal, ?_⟩
    have e := EReal.coe_toReal h1 h2
    generalize (Finset.univ.sup (fun j : Fin 256 => S (256 * 0 + j.val))).toReal = μ at e ⊢
    refine (step_real _ _ (fun j : Fin 256 => v (256 * 0 + j.val)) (⊥, 0, 0) μ 0 0 (fun j => hS _) (fun j => hV _) bot_ne_top ?_ rfl rfl).trans ?_
    · rw [← e]; exact max_eq_right bot_le
    · simp only [mul_zero, zero_add, Finset.sum_range, mul_one]
  | succ n ih =>
    obtain ⟨μ, hr⟩ := ih
    have h1 : max (μ : EReal) (Finset.univ.sup (fun j : Fin 256 => S (256 * (n + 1) + j.val))) ≠ ⊤ := by
      have := sup_ne_top Finset.univ (fun j : Fin 256 => S (256 * (n + 1) + j.val)) fun j => hS _
      rcases max_choice (μ : EReal) (Finset.univ.sup (fun j : Fin 256 => S (256 * (n + 1) + j.val))) with e | e
      · rw [e]; exact EReal.coe_ne_top μ
      · rw [e]; exact this
    have h2 : max (μ : EReal) (Finset.univ.sup (fun j : Fin 256 => S (256 * (n + 1) + j.val))) ≠ ⊥ := by
      intro h
      exact EReal.coe_ne_bot μ (le_bot_iff.mp (h ▸ le_max_left _ _))
    refine ⟨(max (μ : EReal) (Finset.univ.sup (fun j : Fin 256 => S (256 * (n + 1) + j.val)))).toReal, ?_⟩
    have e := EReal.coe_toReal h1 h2
    generalize (max (μ : EReal) (Finset.univ.sup (fun j : Fin 256 => S (256 * (n + 1) + j.val)))).toReal = ν at e ⊢
    refine (step_real _ _ (fun j : Fin 256 => v (256 * (n + 1) + j.val)) (run S V (n + 1)) ν _ _ (fun j => hS _) (fun j => hV _)
      (by rw [hr]; exact EReal.coe_ne_top μ) (by rw [hr]; exact e.symm) (by rw [hr]) (by rw [hr])).trans ?_
    have e3 : W ν (run S V (n + 1)).1 = Real.exp ((μ - ν) * c) := by rw [hr]; exact W_coe ν μ
    rw [e3, Finset.mul_sum, Finset.mul_sum]
    have e4 : 256 * (n + 1 + 1) = 256 * (n + 1) + 256 := by ring
    rw [e4, Finset.sum_range_add, Finset.sum_range_add, Finset.sum_range (n := 256), Finset.sum_range (n := 256)]
    refine congrArg₂ (fun a b : ℝ => ((ν : EReal), (a : EReal), (b : EReal))) ?_ ?_
    · refine congrArg (· + _) (Finset.sum_congr rfl fun k _ => ?_)
      exact (W_shift μ ν _).symm
    · refine congrArg (· + _) (Finset.sum_congr rfl fun k _ => ?_)
      rw [W_shift μ ν (S k)]
      ring

/-- A quotient of real numbers, the divisor positive. -/
theorem div_coe (x y : ℝ) (hy : 0 < y) : Ideal.div (x : EReal) (y : EReal) = ((x / y : ℝ) : EReal) := by
  have : (y : EReal) ≠ 0 := by exact_mod_cast hy.ne'
  unfold Ideal.div
  rw [if_neg this, ← EReal.coe_inv, ← EReal.coe_mul, div_eq_mul_inv]

/-- The softmax of the scaled scores over all keys, applied to the values. -/
def softmax (n : ℕ) (S V : ℕ → EReal) : EReal :=
  ∑ k : Fin n, V k.val * Ideal.div (Ideal.exp (S k.val * (c : EReal) - Finset.univ.sup fun j : Fin n => S j.val * (c : EReal)))
    (∑ i : Fin n, Ideal.exp (S i.val * (c : EReal) - Finset.univ.sup fun j : Fin n => S j.val * (c : EReal)))

/-- The quotient of the running sums after `n` tiles is the softmax over all keys, those after the tiles being masked. -/
theorem run_softmax (hS : ∀ k, S k ≠ ⊤) (h0 : S 0 ≠ ⊥) (hV : ∀ k, V k = (v k : EReal)) (n N : ℕ) (hN : 256 * (n + 1) ≤ N)
    (hm : ∀ k, 256 * (n + 1) ≤ k → S k = ⊥) :
    Ideal.div (run S V (n + 1)).2.2 (run S V (n + 1)).2.1 = softmax N S V := by
  obtain ⟨μ, hr⟩ := run_eq S V v hS h0 hV n
  rw [hr]
  have hs : ∀ ν : ℝ, ∑ k ∈ Finset.range (256 * (n + 1)), W ν (S k) = ∑ k ∈ Finset.range N, W ν (S k) := fun ν =>
    Finset.sum_subset (Finset.range_mono hN) fun k _ hk => by
      rw [hm k (by simpa using hk), W_bot]
  have hs' : ∀ ν : ℝ, ∑ k ∈ Finset.range (256 * (n + 1)), W ν (S k) * v k = ∑ k ∈ Finset.range N, W ν (S k) * v k := fun ν =>
    Finset.sum_subset (Finset.range_mono hN) fun k _ hk => by
      rw [hm k (by simpa using hk), W_bot, zero_mul]
  have hpos : ∀ ν : ℝ, 0 < ∑ k ∈ Finset.range N, W ν (S k) := fun ν =>
    Finset.sum_pos' (fun k _ => W_nonneg ν _) ⟨0, Finset.mem_range.mpr (by omega), W_pos ν _ h0⟩
  dsimp only
  rw [hs, hs', div_coe _ _ (hpos μ)]
  unfold softmax
  have hz : ∀ k, S k * (c : EReal) ≠ ⊤ := fun k => by
    have := hS k
    generalize S k = s at this
    induction s using EReal.rec with
    | bot => rw [EReal.bot_mul_coe_of_pos c_pos]; exact bot_ne_top
    | top => exact absurd rfl this
    | coe r => rw [← EReal.coe_mul]; exact EReal.coe_ne_top _
  have h1 : (Finset.univ.sup fun j : Fin N => S j.val * (c : EReal)) ≠ ⊤ := sup_ne_top _ _ fun j => hz _
  have h2 : (Finset.univ.sup fun j : Fin N => S j.val * (c : EReal)) ≠ ⊥ := by
    intro h
    have := (Finset.sup_eq_bot_iff _ _).mp h (⟨0, by omega⟩ : Fin N) (Finset.mem_univ _)
    have h0' := h0
    have hS0 := hS 0
    dsimp only at this
    generalize S 0 = s at this h0' hS0
    induction s using EReal.rec with
    | bot => exact h0' rfl
    | top => exact hS0 rfl
    | coe r => rw [← EReal.coe_mul] at this; exact EReal.coe_ne_bot _ this
  have e := EReal.coe_toReal h1 h2
  generalize (Finset.univ.sup fun j : Fin N => S j.val * (c : EReal)) = M at e ⊢
  generalize M.toReal = r at e
  have hr' : M = ((r / c * c : ℝ) : EReal) := by
    rw [div_mul_cancel₀ _ c_pos.ne']; exact e.symm
  rw [hr']
  generalize r / c = ν
  simp only [exp_weight ν _ (hS _), coe_sum, hV]
  have hD : (∑ i : Fin N, W ν (S i.val)) = ∑ k ∈ Finset.range N, W ν (S k) := (Finset.sum_range (fun k => W ν (S k))).symm
  rw [hD]
  simp only [div_coe _ _ (hpos ν), ← EReal.coe_mul, coe_sum]
  refine congrArg _ ?_
  rw [← Finset.sum_range (fun k => v k * (W ν (S k) / ∑ k ∈ Finset.range N, W ν (S k)))]
  have hf : Real.exp ((ν - μ) * c) ≠ 0 := (Real.exp_pos _).ne'
  simp only [W_shift ν μ]
  rw [← Finset.mul_sum]
  have : ∑ k ∈ Finset.range N, Real.exp ((ν - μ) * c) * W ν (S k) * v k = Real.exp ((ν - μ) * c) * ∑ k ∈ Finset.range N, W ν (S k) * v k := by
    rw [Finset.mul_sum]
    exact Finset.sum_congr rfl fun k _ => mul_assoc _ _ _
  rw [this, mul_div_mul_left _ _ hf, Finset.sum_div]
  exact Finset.sum_congr rfl fun k _ => by ring

end Cert.AttentionMath

end
-- ==== Proof.AttentionRow.lean ====
/- The launch's vector operations of one tile read at an element: each row of the running buffers takes one step of the row's
   arithmetic. -/
module

public import proofs.«01_k».proof.Proof.AttentionLoop
public import proofs.«01_k».proof.Proof.AttentionMath

@[expose] public section

set_option maxRecDepth 16384

noncomputable section

open Idealize.ShloMosaic Idealize.ShloMosaic.TcCoe Idealize.SL.Sem

namespace Cert.AttentionLoop

open Cert.KernelIdeal Cert.KernelIdeal.Gen Cert.AttentionMath

/-- The score of row `r` against key `j` of a tile. -/
def score (q : Vec Ideal S1024x256 .bf16) (k : Vec Ideal S256x256 .bf16) (r : Fin 1024) (j : Fin 256) : EReal :=
  ∑ e : Fin 256, q (ix2 r e) * k (ix2 j e)

theorem named_scale : (Named.named κ "scale_log2e" 0x3E16C740#32 : Ideal .f32) = (C : EReal) := rfl

theorem named_mask : (Named.named κ "mask" 0xF149F2CA#32 : Ideal .f32) = (⊥ : EReal) := rfl

theorem minus_infinity : (Ideal.ofBits FTy.f32 0xFF800000#32 : EReal) = ⊥ := by
  simp [Ideal.ofBits, Ideal.ieee]

/-- A fold of maxima from minus infinity is the supremum. -/
theorem fold_sup {n : ℕ} (f : Fin n → EReal) : Finset.fold max (Ideal.ofBits FTy.f32 0xFF800000#32) f Finset.univ = Finset.univ.sup f := by
  rw [minus_infinity]
  rfl

theorem pay3_at (q : Vec Ideal S1024x256 .bf16) (k : Vec Ideal S256x256 .bf16) (M : Vec Ideal S1024x128 .f32) (r : Fin 1024) (l : Fin 128) :
    k0_pay3 (F := Ideal) q k M (ix2 r l) = max (M (ix2 r l)) (Finset.univ.sup (score q k r)) := by
  pointwise [k0_pay3, k0_pay2, k0_pay1]
  rw [fold_sup]
  rfl

theorem pay4_at (q : Vec Ideal S1024x256 .bf16) (k : Vec Ideal S256x256 .bf16) (M : Vec Ideal S1024x128 .f32) (μ : EReal) (r : Fin 1024) (j : Fin 256)
    (h : ∀ l, k0_pay3 (F := Ideal) q k M (ix2 r l) = μ) :
    k0_pay4 (F := Ideal) q k M (ix2 r j) = Ideal.exp2 ((score q k r j - μ) * (C : EReal)) := by
  unfold k0_pay4 k0_pay2 k0_pay1
  generalize k0_pay3 (F := Ideal) q k M = M' at h ⊢
  pointwise
  simp only [h, dite_eq_ite, ite_self, named_scale]
  rfl

theorem pay5_at (q : Vec Ideal S1024x256 .bf16) (k : Vec Ideal S256x256 .bf16) (M : Vec Ideal S1024x128 .f32) (r : Fin 1024) (l : Fin 128) :
    k0_pay5 (F := Ideal) q k M (ix2 r l) = Ideal.exp2 ((M (ix2 r l) - k0_pay3 (F := Ideal) q k M (ix2 r l)) * (C : EReal)) := by
  unfold k0_pay5
  generalize k0_pay3 (F := Ideal) q k M = M'
  pointwise
  simp only [named_scale]
  rfl

theorem pay6_at (q : Vec Ideal S1024x256 .bf16) (k : Vec Ideal S256x256 .bf16) (M L : Vec Ideal S1024x128 .f32) (r : Fin 1024) (l : Fin 128) :
    k0_pay6 (F := Ideal) q k M L (ix2 r l)
      = k0_pay5 (F := Ideal) q k M (ix2 r l) * L (ix2 r l) + ∑ j : Fin 256, k0_pay4 (F := Ideal) q k M (ix2 r j) := by
  unfold k0_pay6
  generalize k0_pay5 (F := Ideal) q k M = a
  generalize k0_pay4 (F := Ideal) q k M = b
  pointwise

theorem pay7_at (q : Vec Ideal S1024x256 .bf16) (k : Vec Ideal S256x256 .bf16) (M A : Vec Ideal S1024x128 .f32) (r : Fin 1024) (l : Fin 128) :
    k0_pay7 (F := Ideal) q k M A (ix2 r l)
      = k0_pay5 (F := Ideal) q k M (ix2 r l) * A (ix2 r l)
        + ∑ j : Fin 256, k0_pay4 (F := Ideal) q k M (ix2 r j) * k (ix2 j ⟨l.val, by omega⟩) := by
  unfold k0_pay7 k0_pay1
  generalize k0_pay5 (F := Ideal) q k M = a
  generalize k0_pay4 (F := Ideal) q k M = b
  pointwise

theorem pay16_at (r : Fin 1024) (l : Fin 128) : k0_pay16 (F := Ideal) (ix2 r l) = (⊥ : EReal) := by
  pointwise [k0_pay16]
  try exact named_mask

theorem pay17_at (r : Fin 1024) (l : Fin 128) : k0_pay17 (F := Ideal) (ix2 r l) = (0 : EReal) := by
  pointwise [k0_pay17]

theorem pay18_at (r : Fin 1024) (l : Fin 128) : k0_pay18 (F := Ideal) (ix2 r l) = (0 : EReal) := by
  pointwise [k0_pay18]

theorem pay19_at (v : Vec Ideal S1024x128 .f32) (r : Fin 1024) (l : Fin 128) : k0_pay19 (F := Ideal) v (ix2 r l) = v (ix2 r l) := by
  pointwise [k0_pay19]

/-- The position word of row `r` within its block of 128 queries. -/
theorem row_word (r : Fin 1024) :
    Scalar.select
      (IntOp.andi
        (IntOp.xori
          (IntOp.cmpi CmpIPredicate.slt
            (IntOp.remsi ArithUnit.vector (BitVec.ofNat 32 r.val) (Scalar.select (Scalar.cmpi CmpIPredicate.eq 128#32 0#32) 1#32 128#32)) 0#32)
          (Scalar.cmpi CmpIPredicate.slt (Scalar.select (Scalar.cmpi CmpIPredicate.eq 128#32 0#32) 1#32 128#32) 0#32))
        (IntOp.cmpi CmpIPredicate.ne
          (IntOp.remsi ArithUnit.vector (BitVec.ofNat 32 r.val) (Scalar.select (Scalar.cmpi CmpIPredicate.eq 128#32 0#32) 1#32 128#32)) 0#32))
      (IntOp.addi
        (IntOp.remsi ArithUnit.vector (BitVec.ofNat 32 r.val) (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 r.val) (Scalar.select (Scalar.cmpi CmpIPredicate.eq 128#32 0#32) 1#32 128#32))
      = BitVec.ofNat 32 (r.val % 128) := by
  revert r
  decide +kernel

theorem pay22_at (a n : ℕ) (ha : a < 16) (hn : n < 8) (q : Vec Ideal S1024x256 .bf16) (k : Vec Ideal S256x256 .bf16) (r : Fin 1024) (j : Fin 256) :
    k0_pay22 (F := Ideal) (BitVec.ofNat 32 a) q (BitVec.ofNat 32 n) k (ix2 r j) = if 256 * n + j.val ≤ 128 * a + r.val % 128 then score q k r j else ⊥ := by
  pointwise [k0_pay22, k0_pay21]
  rw [row_word, named_mask]
  have e1 : IntOp.addi (Scalar.muli (BitVec.ofNat 32 n) 256#32) (BitVec.ofNat 32 j.val) = BitVec.ofNat 32 (256 * n + j.val) := by
    show BitVec.ofNat 32 n * BitVec.ofNat 32 256 + BitVec.ofNat 32 j.val = _
    rw [← BitVec.ofNat_mul, ← BitVec.ofNat_add, mul_comm]
  have e2 : IntOp.addi (Scalar.muli (BitVec.ofNat 32 a) 128#32) (BitVec.ofNat 32 (r.val % 128)) = BitVec.ofNat 32 (128 * a + r.val % 128) := by
    show BitVec.ofNat 32 a * BitVec.ofNat 32 128 + BitVec.ofNat 32 (r.val % 128) = _
    rw [← BitVec.ofNat_mul, ← BitVec.ofNat_add, mul_comm]
  rw [e1, e2]
  have h1 : 256 * n + j.val < 2 ^ (32 - 1) := by have := j.isLt; norm_num; omega
  have h2 : 128 * a + r.val % 128 < 2 ^ (32 - 1) := by norm_num; omega
  by_cases h : 256 * n + j.val ≤ 128 * a + r.val % 128
  · rw [if_pos h, (WordCmp.cmpi_sle_ofNat_eq_one_iff h1 h2).mpr h]
    rfl
  · rw [if_neg h, (WordCmp.cmpi_sle_ofNat_eq_zero_iff h1 h2).mpr (by omega)]
    rfl

theorem pay21_at (k : Vec Ideal S256x256 .bf16) (j e : Fin 256) : k0_pay21 (F := Ideal) k (ix2 j e) = k (ix2 j e) := by
  pointwise [k0_pay21]

theorem pay23_at (a n : BitVec 32) (q : Vec Ideal S1024x256 .bf16) (k : Vec Ideal S256x256 .bf16) (M : Vec Ideal S1024x128 .f32) (r : Fin 1024) (l : Fin 128) :
    k0_pay23 (F := Ideal) a q n k M (ix2 r l) = max (M (ix2 r l)) (Finset.univ.sup fun j => k0_pay22 (F := Ideal) a q n k (ix2 r j)) := by
  unfold k0_pay23
  generalize k0_pay22 (F := Ideal) a q n k = s
  pointwise
  rw [fold_sup]

theorem pay24_at (a n : BitVec 32) (q : Vec Ideal S1024x256 .bf16) (k : Vec Ideal S256x256 .bf16) (M : Vec Ideal S1024x128 .f32) (μ : EReal) (r : Fin 1024) (j : Fin 256)
    (h : ∀ l, k0_pay23 (F := Ideal) a q n k M (ix2 r l) = μ) :
    k0_pay24 (F := Ideal) a q n k M (ix2 r j) = μ := by
  unfold k0_pay24
  generalize k0_pay23 (F := Ideal) a q n k M = M' at h ⊢
  pointwise
  simp only [h, dite_eq_ite, ite_self]

theorem pay25_at (s m : Vec Ideal S1024x256 .f32) (r : Fin 1024) (j : Fin 256) :
    k0_pay25 (F := Ideal) s m (ix2 r j) = Ideal.exp2 ((s (ix2 r j) - m (ix2 r j)) * (C : EReal)) := by
  pointwise [k0_pay25]
  simp only [named_scale]
  rfl

theorem pay26_at (M M' : Vec Ideal S1024x128 .f32) (r : Fin 1024) (l : Fin 128) :
    k0_pay26 (F := Ideal) M M' (ix2 r l) = Ideal.exp2 ((M (ix2 r l) - M' (ix2 r l)) * (C : EReal)) := by
  pointwise [k0_pay26]
  simp only [named_scale]
  rfl

theorem pay27_at (s m : Vec Ideal S1024x256 .f32) (M M' L : Vec Ideal S1024x128 .f32) (r : Fin 1024) (l : Fin 128) :
    k0_pay27 (F := Ideal) s M M' m L (ix2 r l)
      = k0_pay26 (F := Ideal) M M' (ix2 r l) * L (ix2 r l) + ∑ j : Fin 256, k0_pay25 (F := Ideal) s m (ix2 r j) := by
  unfold k0_pay27
  generalize k0_pay26 (F := Ideal) M M' = a
  generalize k0_pay25 (F := Ideal) s m = b
  pointwise

theorem pay28_at (k : Vec Ideal S256x256 .bf16) (s m : Vec Ideal S1024x256 .f32) (M M' A : Vec Ideal S1024x128 .f32) (r : Fin 1024) (l : Fin 128) :
    k0_pay28 (F := Ideal) k s M M' m A (ix2 r l)
      = k0_pay26 (F := Ideal) M M' (ix2 r l) * A (ix2 r l)
        + ∑ j : Fin 256, k0_pay25 (F := Ideal) s m (ix2 r j) * k (ix2 j ⟨l.val, by omega⟩) := by
  unfold k0_pay28
  generalize k0_pay26 (F := Ideal) M M' = a
  generalize k0_pay25 (F := Ideal) s m = b
  pointwise

theorem pay15_at (x : Vec Ideal S8x128x256 .bf16) (r : Fin 1024) (e : Fin 256) :
    k0_pay15 (F := Ideal) x (ix2 r e) = x (ix3 ⟨r.val / 128, by omega⟩ ⟨r.val % 128, by omega⟩ e) := by
  pointwise [k0_pay15]

theorem pay30_at (A L : Vec Ideal S1024x128 .f32) (h : Fin 8) (p : Fin 128) (l : Fin 128) :
    k0_pay30 (F := Ideal) A L (ix3 h p l) = Ideal.div (A (ix2 ⟨h.val * 128 + p.val, by omega⟩ l)) (L (ix2 ⟨h.val * 128 + p.val, by omega⟩ l)) := by
  pointwise [k0_pay30]

/-! ## The tiles of one row in turn -/

/-- The score of row `r` against key `k`. -/
def raw (q : Vec Ideal S1024x256 .bf16) (x : Vec Ideal S2048x256 .bf16) (r : Fin 1024) (k : ℕ) : EReal :=
  ∑ e : Fin 256, q (ix2 r e) * x (ix2 ⟨k % 2048, Nat.mod_lt _ (by decide)⟩ e)

/-- Column `l` of the value of key `k`. -/
def value (x : Vec Ideal S2048x256 .bf16) (l : Fin 128) (k : ℕ) : EReal :=
  x (ix2 ⟨k % 2048, Nat.mod_lt _ (by decide)⟩ ⟨l.val, by omega⟩)

theorem score_tile (q : Vec Ideal S1024x256 .bf16) (x : Vec Ideal S2048x256 .bf16) (n : ℕ) (r : Fin 1024) (j : Fin 256) :
    score q (tile x n) r j = raw q x r (256 * n + j.val) := rfl

theorem value_tile (x : Vec Ideal S2048x256 .bf16) (n : ℕ) (l : Fin 128) (j : Fin 256) :
    tile x n (ix2 j ⟨l.val, by omega⟩) = value x l (256 * n + j.val) := rfl

/-- The running maximum and denominator do not depend on the values. -/
theorem run_values (S V V' : ℕ → EReal) : ∀ n, (run S V n).1 = (run S V' n).1 ∧ (run S V n).2.1 = (run S V' n).2.1
  | 0 => ⟨rfl, rfl⟩
  | n + 1 => by
    obtain ⟨h1, h2⟩ := run_values S V V' n
    simp only [run, step, h1, h2, and_self]

/-- The running values after `n` tiles depend on the scores of those tiles only. -/
theorem run_congr (S S' V : ℕ → EReal) : ∀ n, (∀ k, k < 256 * n → S k = S' k) → run S V n = run S' V n
  | 0, _ => rfl
  | n + 1, h => by
    have ih := run_congr S S' V n fun k hk => h k (by omega)
    have e : (fun j : Fin 256 => S (256 * n + j.val)) = fun j : Fin 256 => S' (256 * n + j.val) :=
      funext fun j => h _ (by have := j.isLt; omega)
    show step _ _ (run S V n) = step _ _ (run S' V n)
    rw [ih, e]

/-- Row `r` of the carried buffers after `n` whole tiles. -/
theorem state_at (q : Vec Ideal S1024x256 .bf16) (x : Vec Ideal S2048x256 .bf16) (r : Fin 1024) : ∀ (n : ℕ) (l : Fin 128),
    (state (F := Ideal) q x n).1 (ix2 r l) = (run (raw q x r) (value x l) n).1
      ∧ (state (F := Ideal) q x n).2.1 (ix2 r l) = (run (raw q x r) (value x l) n).2.1
      ∧ (state (F := Ideal) q x n).2.2 (ix2 r l) = (run (raw q x r) (value x l) n).2.2
  | 0, l => ⟨pay16_at r l, pay17_at r l, pay18_at r l⟩
  | n + 1, l => by
    have ih := state_at q x r n
    have hM : ∀ l', k0_pay3 (F := Ideal) q (tile x n) (state (F := Ideal) q x n).1 (ix2 r l')
        = max (run (raw q x r) (value x l) n).1 (Finset.univ.sup fun j : Fin 256 => raw q x r (256 * n + j.val)) := fun l' => by
      rw [pay3_at, (ih l').1, (run_values (raw q x r) (value x l') (value x l) n).1]
      rfl
    have h4 := fun j => pay4_at q (tile x n) (state (F := Ideal) q x n).1 _ r j hM
    have h5 := pay5_at q (tile x n) (state (F := Ideal) q x n).1 r l
    rw [hM, (ih l).1] at h5
    refine ⟨?_, ?_, ?_⟩
    · show k0_pay19 (F := Ideal) (k0_pay3 (F := Ideal) q (tile x n) (state (F := Ideal) q x n).1) (ix2 r l) = _
      rw [pay19_at, hM]
      rfl
    · show k0_pay6 (F := Ideal) q (tile x n) (state (F := Ideal) q x n).1 (state (F := Ideal) q x n).2.1 (ix2 r l) = _
      rw [pay6_at, h5, (ih l).2.1]
      simp only [h4, score_tile]
      rfl
    · show k0_pay7 (F := Ideal) q (tile x n) (state (F := Ideal) q x n).1 (state (F := Ideal) q x n).2.2 (ix2 r l) = _
      rw [pay7_at, h5, (ih l).2.2]
      simp only [h4, score_tile, value_tile]
      rfl

/-- The score of row `r` against key `k`, masked past the row's position `p`. -/
def masked (q : Vec Ideal S1024x256 .bf16) (x : Vec Ideal S2048x256 .bf16) (r : Fin 1024) (p k : ℕ) : EReal :=
  if k ≤ p then raw q x r k else ⊥

/-- The word that numbers the last tile of a grid point. -/
theorem v31_eq (i : grid0.Coords) : kernelRun0_A.sl.v31 i = BitVec.ofNat 32 ((i 1).val / 2) := by
  unfold kernelRun0_A.sl.v31 kernelRun0_A.sl.v30 kernelRun0_A.sl.v29 kernelRun0_A.sl.v28 kernelRun0_A.sl.v27 kernelRun0_A.sl.v26
    kernelRun0_A.sl.v20
    kernelRun0_A.sl.v19 kernelRun0_A.sl.v18 kernelRun0_A.sl.v17 kernelRun0_A.sl.v16 kernelRun0_A.sl.v15
  generalize i 1 = n
  revert n
  decide +kernel

/-- Row `r` after the masked last tile: the denominator and the weighted sum. -/
theorem last_at (i : grid0.Coords) (q : Vec Ideal S1024x256 .bf16) (x : Vec Ideal S2048x256 .bf16) (r : Fin 1024) (l : Fin 128) :
    lastL (F := Ideal) i q (tile x ((i 1).val / 2)) (state (F := Ideal) q x ((i 1).val / 2)).1 (state (F := Ideal) q x ((i 1).val / 2)).2.1 (ix2 r l)
        = (run (masked q x r (128 * (i 1).val + r.val % 128)) (value x l) ((i 1).val / 2 + 1)).2.1
      ∧ lastA (F := Ideal) i q (tile x ((i 1).val / 2)) (state (F := Ideal) q x ((i 1).val / 2)).1 (state (F := Ideal) q x ((i 1).val / 2)).2.2 (ix2 r l)
        = (run (masked q x r (128 * (i 1).val + r.val % 128)) (value x l) ((i 1).val / 2 + 1)).2.2 := by
  have ha : (i 1).val < 16 := (i 1).isLt
  have ih := state_at q x r ((i 1).val / 2)
  have h22 : ∀ j, k0_pay22 (F := Ideal) (BitVec.ofNat 32 (i 1).val) q (kernelRun0_A.sl.v31 i) (tile x ((i 1).val / 2)) (ix2 r j)
      = masked q x r (128 * (i 1).val + r.val % 128) (256 * ((i 1).val / 2) + j.val) := fun j => by
    rw [v31_eq, pay22_at _ _ ha (by omega)]
    rfl
  have hc : ∀ l', run (raw q x r) (value x l') ((i 1).val / 2) = run (masked q x r (128 * (i 1).val + r.val % 128)) (value x l') ((i 1).val / 2) := fun l' =>
    run_congr _ _ _ _ fun k hk => (if_pos (by omega)).symm
  generalize masked q x r (128 * (i 1).val + r.val % 128) = S at h22 hc ⊢
  have hM : ∀ l', k0_pay23 (F := Ideal) (BitVec.ofNat 32 (i 1).val) q (kernelRun0_A.sl.v31 i) (tile x ((i 1).val / 2)) (state (F := Ideal) q x ((i 1).val / 2)).1 (ix2 r l')
      = max (run S (value x l) ((i 1).val / 2)).1 (Finset.univ.sup fun j : Fin 256 => S (256 * ((i 1).val / 2) + j.val)) := fun l' => by
    rw [pay23_at, (ih l').1, hc, (run_values S (value x l') (value x l) _).1]
    simp only [h22]
  have h24 := fun j => pay24_at (BitVec.ofNat 32 (i 1).val) (kernelRun0_A.sl.v31 i) q (tile x ((i 1).val / 2)) (state (F := Ideal) q x ((i 1).val / 2)).1 _ r j hM
  have ih := ih l
  rw [hc] at ih
  refine ⟨?_, ?_⟩
  · unfold lastL
    rw [pay27_at, pay26_at, hM, ih.1, ih.2.1]
    simp only [pay25_at, h22, h24]
    rfl
  · unfold lastA
    rw [pay28_at, pay26_at, hM, ih.1, ih.2.2]
    simp only [pay25_at, h22, h24, pay21_at]
    rfl

/-- A sum of products of real numbers is a real number. -/
theorem raw_real (q : Vec Ideal S1024x256 .bf16) (x : Vec Ideal S2048x256 .bf16) (hq : ∀ y, ∃ z : ℝ, q y = (z : EReal)) (hx : ∀ y, ∃ z : ℝ, x y = (z : EReal))
    (r : Fin 1024) (k : ℕ) : ∃ z : ℝ, raw q x r k = (z : EReal) := by
  choose f hf using hq
  choose g hg using hx
  refine ⟨∑ e : Fin 256, f (ix2 r e) * g (ix2 ⟨k % 2048, Nat.mod_lt _ (by decide)⟩ e), ?_⟩
  unfold raw
  simp only [hf, hg, ← EReal.coe_mul]
  exact coe_sum _ _

/-- The block a grid point writes: the softmax of the row's masked scores, applied to the values. -/
theorem block_at (i : grid0.Coords) (x0 : Vec Ideal S8x128x256 .bf16) (x : Vec Ideal S2048x256 .bf16)
    (hq : ∀ y, ∃ z : ℝ, x0 y = (z : EReal)) (hx : ∀ y, ∃ z : ℝ, x y = (z : EReal)) (h : Fin 8) (p l : Fin 128) :
    block (F := Ideal) i x0 x (ix3 h p l)
      = softmax 2048
          (fun k => if k ≤ 128 * (i 1).val + p.val then ∑ e : Fin 256, x0 (ix3 h p e) * x (ix2 ⟨k % 2048, Nat.mod_lt _ (by decide)⟩ e) else ⊥)
          (value x l) := by
  have ha : (i 1).val < 16 := (i 1).isLt
  have hq' : ∀ y, ∃ z : ℝ, k0_pay15 (F := Ideal) x0 y = (z : EReal) := fun y => by
    obtain ⟨r, e, rfl⟩ : ∃ r e, y = ix2 r e := ⟨y 0, y 1, by ext d; fin_cases d <;> rfl⟩
    rw [pay15_at]
    exact hq _
  have hr : (⟨h.val * 128 + p.val, by omega⟩ : Fin 1024).val % 128 = p.val := by
    show (h.val * 128 + p.val) % 128 = p.val
    omega
  unfold block
  rw [pay30_at]
  obtain ⟨h1, h2⟩ := last_at i (k0_pay15 (F := Ideal) x0) x ⟨h.val * 128 + p.val, by omega⟩ l
  rw [h1, h2, hr]
  have hV : ∀ k, ∃ z : ℝ, value x l k = (z : EReal) := fun k => hx _
  choose v hv using hV
  have hS := raw_real (k0_pay15 (F := Ideal) x0) x hq' hx ⟨h.val * 128 + p.val, by omega⟩
  refine (run_softmax (masked (k0_pay15 (F := Ideal) x0) x ⟨h.val * 128 + p.val, by omega⟩ (128 * (i 1).val + p.val)) (value x l) v ?_ ?_ hv _ 2048 (by omega) ?_).trans ?_
  · intro k
    unfold masked
    split
    · obtain ⟨z, hz⟩ := hS k
      rw [hz]
      exact EReal.coe_ne_top z
    · exact bot_ne_top
  · unfold masked
    rw [if_pos (Nat.zero_le _)]
    obtain ⟨z, hz⟩ := hS 0
    rw [hz]
    exact EReal.coe_ne_bot z
  · intro k hk
    exact if_neg (by have := p.isLt; omega)
  · refine congrArg (fun S => softmax 2048 S (value x l)) (funext fun k => ?_)
    unfold masked raw
    simp only [pay15_at]
    have e1 : (h.val * 128 + p.val) / 128 = h.val := by omega
    simp only [e1, hr]

end Cert.AttentionLoop

end
-- ==== Proof.AttentionSpec.lean ====
/- The result of causal attention over latent keys: each head's query against the latents and the rotary keys, the softmax of the
   scaled scores up to the query's own position, and the weighted sum of the latents. -/
module

public import proofs.«01_k».proof.Proof.Gen.KernelIdeal
public import proofs.«01_k».proof.Proof.AttentionMath

@[expose] public section

noncomputable section

open Idealize.ShloMosaic

namespace Cert.AttentionSpec

open Cert.KernelIdeal Cert.AttentionMath

variable (q : Vec Ideal S32x2048x8x128 .f32) (qp : Vec Ideal S32x2048x8x32 .f32) (ck : Vec Ideal S32x2048x128 .f32) (kp : Vec Ideal S32x2048x32 .f32)

/-- The score of head `h` of the query at position `s` of batch `b` against the key at position `k`. -/
def dots (b : Fin 32) (h : Fin 8) (s k : Fin 2048) : EReal :=
  (∑ e : Fin 128, q (ix4 b s h e) * ck (ix3 b k e)) + ∑ e : Fin 32, qp (ix4 b s h e) * kp (ix3 b k e)

/-- The same score for a key counted by a natural number, masked past the query's position. -/
def scores (b : Fin 32) (h : Fin 8) (s : Fin 2048) (k : ℕ) : EReal :=
  if k ≤ s.val then dots q qp ck kp b h s ⟨k % 2048, Nat.mod_lt _ (by decide)⟩ else ⊥

/-- Column `l` of the latent of a key. -/
def latent (b : Fin 32) (l : Fin 128) (k : ℕ) : EReal := ck (ix3 b ⟨k % 2048, Nat.mod_lt _ (by decide)⟩ l)

/-- One element of the attention's result. -/
def attend (b : Fin 32) (h : Fin 8) (s : Fin 2048) (l : Fin 128) : EReal :=
  softmax 2048 (scores q qp ck kp b h s) (latent ck b l)

/-- The result array: heads, then the positions of all batches, then columns. -/
def out : Vec Ideal S8x65536x128 .bf16 := fun i =>
  attend q qp ck kp ⟨(i 1).val / 2048, by have : (i 1).val < 65536 := (i 1).isLt; omega⟩ (i 0) ⟨(i 1).val % 2048, by omega⟩ (i 2)

end Cert.AttentionSpec

end
-- ==== Proof.AttentionValue.lean ====
/- The values of the attention launch: each grid point's block of the result holds the attention of its positions. -/
module

public import proofs.«01_k».proof.Proof.AttentionRow
public import proofs.«01_k».proof.Proof.AttentionSpec
public import proofs.«01_k».proof.Proof.Gen.KernelIdeal.Value
public import proofs.«01_k».proof.Proof.Indices
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.AttentionValue

open Cert.KernelIdeal Cert.KernelIdeal.Gen Cert.Indices Cert.AttentionMath Cert.AttentionSpec Cert.AttentionLoop

variable (m : (ℓ : Loc nD τ sig) → Buf (Elt Ideal) ℓ)

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val / 16, 0] :=
  (by decide +kernel : ∀ t : Fin grid0.N, win0_1.index t = ![t.val / 16, 0])
theorem idx2 : ∀ t : Fin cfg0.N, win0_2.index t = ![0, t.val, 0] :=
  (by decide +kernel : ∀ t : Fin grid0.N, win0_2.index t = ![0, t.val, 0])
theorem coord1 : ∀ t : Fin cfg0.N, ((grid0.coords t) 1).val = t.val % 16 :=
  (by decide +kernel : ∀ t : Fin grid0.N, ((grid0.coords t) 1).val = t.val % 16)

/-- The zeros beside the queries. -/
abbrev zeros : FVec Ideal S32x2048x8x96 .f32 := broadcastInDim S32x2048x8x96 ![] bcast_S_S32x2048x8x96 (constant S_ .f32 0x00000000#32)

/-- The queries as the launch takes them: the latent part, the rotary part and zeros side by side. -/
abbrev queries (q : FVec Ideal S32x2048x8x128 .f32) (qp : FVec Ideal S32x2048x8x32 .f32) : FVec Ideal S32x2048x8x256 .f32 :=
  concatenate S32x2048x8x256 3 [⟨S32x2048x8x128, q⟩, ⟨S32x2048x8x32, qp⟩, ⟨S32x2048x8x96, zeros⟩]
    concatenates_S32x2048x8x128_S32x2048x8x32_S32x2048x8x96_S32x2048x8x256_d3

/-- The keys as the launch takes them, likewise. -/
abbrev keys (ck : FVec Ideal S32x2048x128 .f32) (kp : FVec Ideal S32x2048x32 .f32) : FVec Ideal S32x2048x256 .f32 :=
  concatenate S32x2048x256 2 [⟨S32x2048x128, ck⟩, ⟨S32x2048x32, kp⟩, ⟨S32x2048x96, shapeCast S32x2048x96
    (extractStridedSlice S32x2048x1x96 ![0, 0, 0, 0] zeros slices_S32x2048x8x96_S32x2048x1x96_0_0_0_0) shapeCasts_S32x2048x1x96_S32x2048x96⟩]
    concatenates_S32x2048x128_S32x2048x32_S32x2048x96_S32x2048x256_d2

theorem V0 (c : Dev nD) : V m c main_v4 = truncf .bf16 (shapeCast S8x65536x256 (transpose S8x32x2048x256 [2, 0, 1, 3]
    (queries (m ((c : Thread nD τ).loc main_arg0)) (m ((c : Thread nD τ).loc main_arg1))) transposes_S32x2048x8x256_S8x32x2048x256_2_0_1_3)
    shapeCasts_S8x32x2048x256_S8x65536x256) bitsLt_bf16_f32 := by
  unfold V
  after_results <;> rfl

theorem V1 (c : Dev nD) : V m c main_v9 = truncf .bf16 (shapeCast S65536x256
    (keys (m ((c : Thread nD τ).loc main_arg2)) (m ((c : Thread nD τ).loc main_arg3))) shapeCasts_S32x2048x256_S65536x256) bitsLt_bf16_f32 := by
  unfold V
  after_results <;> rfl

section Operands

variable (q : FVec Ideal S32x2048x8x128 .f32) (qp : FVec Ideal S32x2048x8x32 .f32) (ck : FVec Ideal S32x2048x128 .f32) (kp : FVec Ideal S32x2048x32 .f32)

theorem queries_at (b : Fin 32) (s : Fin 2048) (h : Fin 8) (e : Fin 256) :
    queries q qp (ix4 b s h e) = if h1 : e.val < 128 then q (ix4 b s h ⟨e.val, h1⟩) else if h2 : e.val - 128 < 32 then qp (ix4 b s h ⟨e.val - 128, h2⟩) else 0 := by
  unfold queries zeros
  pointwise

theorem keys_at (b : Fin 32) (k : Fin 2048) (e : Fin 256) :
    keys ck kp (ix3 b k e) = if h1 : e.val < 128 then ck (ix3 b k ⟨e.val, h1⟩) else if h2 : e.val - 128 < 32 then kp (ix3 b k ⟨e.val - 128, h2⟩) else 0 := by
  unfold keys zeros
  pointwise

/-- A sum over 256 columns in the three parts of the operands. -/
theorem sum_parts (f : Fin 256 → EReal) : ∑ e, f e
    = (∑ e : Fin 128, f ⟨e.val, by omega⟩) + (∑ e : Fin 32, f ⟨128 + e.val, by omega⟩) + ∑ e : Fin 96, f ⟨160 + e.val, by omega⟩ := by
  refine (Fin.sum_univ_add (a := 160) (b := 96) f).trans ?_
  refine congrArg₂ (· + ·) ?_ rfl
  exact Fin.sum_univ_add (a := 128) (b := 32) fun e => f (Fin.castAdd 96 e)

/-- The product of a query's row and a key's row is the score. -/
theorem dot_at (b : Fin 32) (s : Fin 2048) (h : Fin 8) (k : Fin 2048) :
    ∑ e : Fin 256, queries q qp (ix4 b s h e) * keys ck kp (ix3 b k e) = dots q qp ck kp b h s k := by
  rw [sum_parts]
  simp only [queries_at, keys_at]
  have h1 : ∀ e : Fin 32, ¬ (128 + e.val < 128) := fun e => by omega
  have h3 : ∀ e : Fin 96, ¬ (160 + e.val < 128) := fun e => by omega
  have h4 : ∀ e : Fin 96, ¬ (160 + e.val - 128 < 32) := fun e => by omega
  simp only [Fin.isLt, h1, h3, h4, dite_true, dite_false, Nat.add_sub_cancel_left, mul_zero, Finset.sum_const_zero, add_zero]
  rfl

theorem queries_real (hq : ∀ y, ∃ z : ℝ, q y = (z : EReal)) (hqp : ∀ y, ∃ z : ℝ, qp y = (z : EReal)) (b : Fin 32) (s : Fin 2048) (h : Fin 8) (e : Fin 256) :
    ∃ z : ℝ, queries q qp (ix4 b s h e) = (z : EReal) := by
  rw [queries_at]
  split
  · exact hq _
  · split
    · exact hqp _
    · exact ⟨0, rfl⟩

theorem keys_real (hck : ∀ y, ∃ z : ℝ, ck y = (z : EReal)) (hkp : ∀ y, ∃ z : ℝ, kp y = (z : EReal)) (b : Fin 32) (k : Fin 2048) (e : Fin 256) :
    ∃ z : ℝ, keys ck kp (ix3 b k e) = (z : EReal) := by
  rw [keys_at]
  split
  · exact hck _
  · split
    · exact hkp _
    · exact ⟨0, rfl⟩

/-- The queries laid out by head, then the positions of all batches. -/
theorem query_rows (x : FVec Ideal S32x2048x8x256 .f32) (h : Fin 8) (n : Fin 65536) (e : Fin 256) :
    (truncf .bf16 (shapeCast S8x65536x256 (transpose S8x32x2048x256 [2, 0, 1, 3] x transposes_S32x2048x8x256_S8x32x2048x256_2_0_1_3)
      shapeCasts_S8x32x2048x256_S8x65536x256) bitsLt_bf16_f32 : FVec Ideal S8x65536x256 .bf16) (ix3 h n e)
      = x (ix4 (⟨n.val / 2048, by omega⟩ : Fin 32) (⟨n.val % 2048, by omega⟩ : Fin 2048) h e) := by
  pointwise

/-- The keys laid out by the positions of all batches. -/
theorem key_rows (x : FVec Ideal S32x2048x256 .f32) (n : Fin 65536) (e : Fin 256) :
    (truncf .bf16 (shapeCast S65536x256 x shapeCasts_S32x2048x256_S65536x256) bitsLt_bf16_f32 : FVec Ideal S65536x256 .bf16) (ix2 n e)
      = x (ix3 (⟨n.val / 2048, by omega⟩ : Fin 32) (⟨n.val % 2048, by omega⟩ : Fin 2048) e) := by
  pointwise

end Operands

theorem emb0 (t : Fin cfg0.N) (h : Fin 8) (p : Fin 128) (e : Fin 256) : ((cfg0.win 0).blk t).view.emb (ix3 h p e)
    = ix3 h (⟨t.val * 128 + p.val, by have := t.isLt; have : cfg0.N = 512 := N_0; omega⟩ : Fin 65536) e := by
  blk_ext [idx0 t]
theorem emb1 (t : Fin cfg0.N) (k : Fin 2048) (e : Fin 256) : ((cfg0.win 1).blk t).view.emb (ix2 k e)
    = ix2 (⟨t.val / 16 * 2048 + k.val, by have := t.isLt; have : cfg0.N = 512 := N_0; omega⟩ : Fin 65536) e := by
  blk_ext [idx1 t]
theorem emb2 (t : Fin cfg0.N) (h : Fin 8) (p l : Fin 128) : ((cfg0.win 2).blk t).view.emb (ix3 h p l)
    = ix3 h (⟨t.val * 128 + p.val, by have := t.isLt; have : cfg0.N = 512 := N_0; omega⟩ : Fin 65536) l := by
  blk_ext [idx2 t]

theorem iblk0 (c : Dev nD) (t : Fin cfg0.N) (h : Fin 8) (p : Fin 128) (e : Fin 256) (b : Fin 32) (s : Fin 2048)
    (hn : b.val * 2048 + s.val = t.val * 128 + p.val) :
    iblk (F := Ideal) m c 0 t (ix3 h p e)
      = queries (m ((c : Thread nD τ).loc main_arg0)) (m ((c : Thread nD τ).loc main_arg1)) (ix4 b s h e) := by
  unfold iblk
  rw [View.read_apply]
  erw [V0, emb0, query_rows]
  exact congrArg (queries (m ((c : Thread nD τ).loc main_arg0)) (m ((c : Thread nD τ).loc main_arg1)))
    (ix4_congr (by dsimp only; omega) (by dsimp only; omega) rfl rfl)

theorem iblk1 (c : Dev nD) (t : Fin cfg0.N) (k : Fin 2048) (e : Fin 256) (b : Fin 32) (hb : b.val = t.val / 16) :
    iblk (F := Ideal) m c 1 t (ix2 k e)
      = keys (m ((c : Thread nD τ).loc main_arg2)) (m ((c : Thread nD τ).loc main_arg3)) (ix3 b k e) := by
  unfold iblk
  rw [View.read_apply]
  erw [V1, emb1, key_rows]
  exact congrArg (keys (m ((c : Thread nD τ).loc main_arg2)) (m ((c : Thread nD τ).loc main_arg3)))
    (ix3_congr (by dsimp only; omega) (by dsimp only; omega) rfl)

/-- Every argument's entries are real numbers. -/
structure Real (c : Dev nD) : Prop where
  q : ∀ y, ∃ z : ℝ, (m ((c : Thread nD τ).loc main_arg0) : FVec Ideal S32x2048x8x128 .f32) y = (z : EReal)
  qp : ∀ y, ∃ z : ℝ, (m ((c : Thread nD τ).loc main_arg1) : FVec Ideal S32x2048x8x32 .f32) y = (z : EReal)
  ck : ∀ y, ∃ z : ℝ, (m ((c : Thread nD τ).loc main_arg2) : FVec Ideal S32x2048x128 .f32) y = (z : EReal)
  kp : ∀ y, ∃ z : ℝ, (m ((c : Thread nD τ).loc main_arg3) : FVec Ideal S32x2048x32 .f32) y = (z : EReal)

/-- The block computed from a block of queries and a batch's keys holds the attention of its positions. -/
theorem block_out (i : grid0.Coords) (x0 : Vec Ideal S8x128x256 .bf16) (x : Vec Ideal S2048x256 .bf16)
    (q : FVec Ideal S32x2048x8x128 .f32) (qp : FVec Ideal S32x2048x8x32 .f32) (ck : FVec Ideal S32x2048x128 .f32) (kp : FVec Ideal S32x2048x32 .f32)
    (hq : ∀ y, ∃ z : ℝ, q y = (z : EReal)) (hqp : ∀ y, ∃ z : ℝ, qp y = (z : EReal)) (hck : ∀ y, ∃ z : ℝ, ck y = (z : EReal)) (hkp : ∀ y, ∃ z : ℝ, kp y = (z : EReal))
    (b : Fin 32) (pos : Fin 128 → Fin 2048) (hpos : ∀ p, (pos p).val = 128 * (i 1).val + p.val)
    (e0 : ∀ h p e, x0 (ix3 h p e) = queries q qp (ix4 b (pos p) h e)) (e1 : ∀ k e, x (ix2 k e) = keys ck kp (ix3 b k e))
    (h : Fin 8) (p l : Fin 128) : block (F := Ideal) i x0 x (ix3 h p l) = attend q qp ck kp b h (pos p) l := by
  have r0 : ∀ y, ∃ z : ℝ, x0 y = (z : EReal) := fun y => by
    idx_vars y
    rw [e0]
    exact queries_real _ _ hq hqp _ _ _ _
  have r1 : ∀ y, ∃ z : ℝ, x y = (z : EReal) := fun y => by
    idx_vars y
    rw [e1]
    exact keys_real _ _ hck hkp _ _ _
  rw [block_at i x0 x r0 r1 h p l, ← hpos]
  unfold attend
  refine congrArg₂ (softmax 2048) (funext fun k => ?_) (funext fun k => ?_)
  · unfold scores
    refine if_congr Iff.rfl ?_ rfl
    simp only [e0, e1]
    exact dot_at _ _ _ _ _ _ _ _
  · unfold value latent
    rw [e1, keys_at]
    exact dif_pos l.isLt

/-- A grid point's block holds the attention of its positions. -/
theorem out_at (c : Dev nD) (hr : Real m c) (t : Fin cfg0.N) (h : Fin 8) (p l : Fin 128) (n : Fin 65536) (hn : n.val = t.val * 128 + p.val) :
    outsAt0 (F := Ideal) m c t (ix3 h p l) = out (m ((c : Thread nD τ).loc main_arg0)) (m ((c : Thread nD τ).loc main_arg1))
      (m ((c : Thread nD τ).loc main_arg2)) (m ((c : Thread nD τ).loc main_arg3)) (ix3 h n l) := by
  have ht : t.val < 512 := N_0 ▸ t.isLt
  have hc := coord1 t
  rw [out_eq]
  refine (block_out (grid0.coords t) (iblk (F := Ideal) m c 0 t) (iblk (F := Ideal) m c 1 t) _ _ _ _ hr.q hr.qp hr.ck hr.kp ⟨t.val / 16, by omega⟩
    (fun p => ⟨128 * (t.val % 16) + p.val, by omega⟩) (fun p => by rw [hc])
    (fun h p e => iblk0 m c t h p e _ _ (by dsimp only; omega)) (fun k e => iblk1 m c t k e _ rfl) h p l).trans ?_
  unfold out
  have hb : (⟨t.val / 16, by omega⟩ : Fin 32) = ⟨n.val / 2048, by omega⟩ := Fin.ext (by dsimp only; omega)
  have hs : (⟨128 * (t.val % 16) + p.val, by omega⟩ : Fin 2048) = ⟨n.val % 2048, by omega⟩ := Fin.ext (by dsimp only; omega)
  dsimp only
  rw [hb, hs]
  rfl

/-- The result array of the launch. -/
theorem final2 (c : Dev nD) (hr : Real m c) : (dats (F := Ideal) m 0 c).arrAt 2 cfg0.N = out (m ((c : Thread nD τ).loc main_arg0))
    (m ((c : Thread nD τ).loc main_arg1)) (m ((c : Thread nD τ).loc main_arg2)) (m ((c : Thread nD τ).loc main_arg3)) := by
  refine (dats (F := Ideal) m 0 c).arrAt_eq_of_covers 2 _ (by decide +kernel) fun t hf y => ?_
  rw [after0_2]
  idx_vars y
  have ht : t.val < 512 := N_0 ▸ t.isLt
  have h := out_at m c hr t y0 y1 y2 ⟨t.val * 128 + y1.val, by omega⟩ rfl
  erw [emb2 t y0 y1 y2]
  generalize out (m (c.tc.loc main_arg0)) (m (c.tc.loc main_arg1)) (m (c.tc.loc main_arg2)) (m (c.tc.loc main_arg3)) = G at h ⊢
  generalize outsAt0 m c t = O at h ⊢
  exact h

end Cert.AttentionValue

end
-- ==== Proof.AttentionReference.lean ====
/- The reference attention's result read at an element. -/
module

public import proofs.«01_k».proof.Proof.AttentionSpec
public import proofs.«01_k».proof.Proof.Gen.ReferenceIdeal.Run
public import proofs.«01_k».proof.Proof.Indices
public import Idealize.ShloMosaic.Lib.Pointwise
public import Idealize.ShloMosaic.Lib.IdealHost
public import Idealize.ShloMosaic.Lib.WordCmp

@[expose] public section

set_option maxRecDepth 16384

noncomputable section

open Idealize.ShloMosaic Idealize.ShloMosaic.TcCoe Idealize.SL.Sem

namespace Cert.AttentionReference

open Cert.ReferenceIdeal Cert.ReferenceIdeal.Gen Cert.Indices Cert.AttentionMath Cert.AttentionSpec

theorem minus_infinity : (Ideal.ofBits FTy.f32 0xFF800000#32 : EReal) = ⊥ := by
  simp [Ideal.ofBits, Ideal.ieee]

theorem ninety_six : (Ideal.ofBits FTy.f32 0x42C00000#32 : EReal) = ((96 : ℝ) : EReal) := by
  simp [Ideal.ofBits, Ideal.ieee, -EReal.coe_mul]
  norm_num

/-- The scale the reference takes, the reciprocal root of 96. -/
theorem scale : Ideal.rsqrt (Ideal.ofBits FTy.f32 0x42C00000#32) = (c : EReal) := by
  rw [ninety_six]
  refine (Ideal.rsqrt_coe _).trans ?_
  rw [if_neg (by norm_num), if_neg (by norm_num)]
  rfl

/-- The reference's scaled and masked scores. -/
abbrev S (q : FVec Ideal S32x2048x8x128 .f32) (qp : FVec Ideal S32x2048x8x32 .f32) (ck : FVec Ideal S32x2048x128 .f32) (kp : FVec Ideal S32x2048x32 .f32) :
    FVec Ideal S32x8x2048x2048 .f32 :=
  select (broadcastInDim S32x8x2048x2048 ![2, 3] bcast_S2048x2048_S32x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (transpose S32x8x2048x2048 [0, 3, 2, 1] (Host.dotGeneral (F := Ideal) (φ₁ := .f32) (φ₂ := .f32) dot_S32x2048x128_S32x2048x8x128_S32x2048x2048x8_2_3_1_12_0_0 none ck q) transposes_S32x2048x2048x8_S32x8x2048x2048_0_3_2_1) (transpose S32x8x2048x2048 [0, 3, 2, 1] (Host.dotGeneral (F := Ideal) (φ₁ := .f32) (φ₂ := .f32) dot_S32x2048x32_S32x2048x8x32_S32x2048x2048x8_2_3_1_12_0_0 none kp qp) transposes_S32x2048x2048x8_S32x8x2048x2048_0_3_2_1)) (broadcastInDim S32x8x2048x2048 ![] bcast_S_S32x8x2048x2048 (Host.rsqrt (constant S_ .f32 0x42C00000#32)))) (broadcastInDim S32x8x2048x2048 ![] bcast_S_S32x8x2048x2048 (id (constant (F := Ideal) S_ .f32 0xFF800000#32)))

/-- The exponentials of the scores less their row's maximum. -/
abbrev E (S : FVec Ideal S32x8x2048x2048 .f32) : FVec Ideal S32x8x2048x2048 .f32 :=
  Host.exp (F := Ideal) (subf S (broadcastInDim S32x8x2048x2048 ![0, 1, 2, 3] bcast_S32x8x2048x1_S32x8x2048x2048_0_1_2_3 (broadcastInDim S32x8x2048x1 ![0, 1, 2] bcast_S32x8x2048_S32x8x2048x1_0_1_2 (maximumf (broadcastInDim S32x8x2048 ![] bcast_S_S32x8x2048 (constant S_ .f32 0xFF800000#32)) (Host.reduce FloatOps.maximumf S (constant S_ .f32 0xFF800000#32) reducesTo_S32x8x2048x2048_S32x8x2048_d3 h_S_)))))

/-- The weighted sums of the latents. -/
abbrev O (ck : FVec Ideal S32x2048x128 .f32) (E : FVec Ideal S32x8x2048x2048 .f32) : FVec Ideal S8x32x2048x128 .f32 :=
  transpose S8x32x2048x128 [2, 0, 1, 3] (transpose S32x2048x8x128 [0, 3, 2, 1] (Host.dotGeneral (F := Ideal) (φ₁ := .f32) (φ₂ := .f32) dot_S32x2048x128_S32x8x2048x2048_S32x128x8x2048_1_3_2_12_0_0 none ck (Host.divf E (broadcastInDim S32x8x2048x2048 ![0, 1, 2, 3] bcast_S32x8x2048x1_S32x8x2048x2048_0_1_2_3 (broadcastInDim S32x8x2048x1 ![0, 1, 2] bcast_S32x8x2048_S32x8x2048x1_0_1_2 (Host.reduceAdd E (constant S_ .f32 0x00000000#32) reducesTo_S32x8x2048x2048_S32x8x2048_d3 h_S_))))) transposes_S32x128x8x2048_S32x2048x8x128_0_3_2_1) transposes_S32x2048x8x128_S8x32x2048x128_2_0_1_3

theorem S_at (q : FVec Ideal S32x2048x8x128 .f32) (qp : FVec Ideal S32x2048x8x32 .f32) (ck : FVec Ideal S32x2048x128 .f32) (kp : FVec Ideal S32x2048x32 .f32)
    (b : Fin 32) (h : Fin 8) (s k : Fin 2048) : S q qp ck kp (ix4 b h s k) = scores q qp ck kp b h s k.val * (c : EReal) := by
  unfold S scores
  pointwise
  rw [scale]
  have hk : k.val % 2048 = k.val := Nat.mod_eq_of_lt k.isLt
  simp only [hk]
  by_cases hs : k.val ≤ s.val
  · rw [if_pos hs, (WordCmp.cmpi_sle_ofNat_eq_one_iff (by have := k.isLt; norm_num; omega) (by have := s.isLt; norm_num; omega)).mpr hs]
    refine (WordCmp.select_one _ _).trans (congrArg (· * (c : EReal)) ?_)
    unfold dots
    exact congrArg₂ (· + ·) (Finset.sum_congr rfl fun e _ => mul_comm _ _) (Finset.sum_congr rfl fun e _ => mul_comm _ _)
  · rw [if_neg hs, (WordCmp.cmpi_sle_ofNat_eq_zero_iff (by have := k.isLt; norm_num; omega) (by have := s.isLt; norm_num; omega)).mpr (by omega)]
    rw [EReal.bot_mul_coe_of_pos c_pos]
    exact minus_infinity

/-- A row's maximum, over any number of keys. -/
theorem max_at {n : ℕ} (S : FVec Ideal ⟨4, ![32, 8, 2048, n]⟩ .f32) (v : FVec Ideal S_ .f32) (h' : Shape.ReducesTo ⟨4, ![32, 8, 2048, n]⟩ [3] S32x8x2048)
    (b : Fin 32) (h : Fin 8) (s : Fin 2048) :
    Host.reduce (FloatOps.maximumf (F := Ideal)) S v h' h_S_ (ix3 b h s) = Finset.fold max (v (Shape.Idx.first h_S_)) (fun k : Fin n => S (ix4 b h s k)) Finset.univ := by
  pointwise

theorem sup_at {n : ℕ} (f : Fin n → EReal) : Finset.fold max (Ideal.ofBits FTy.f32 0xFF800000#32) f Finset.univ = Finset.univ.sup f := by
  rw [minus_infinity]
  rfl

/-- The exponentials of the scores less a row's value. -/
abbrev E' (S : FVec Ideal S32x8x2048x2048 .f32) (M : FVec Ideal S32x8x2048 .f32) : FVec Ideal S32x8x2048x2048 .f32 :=
  Host.exp (F := Ideal) (subf S (broadcastInDim S32x8x2048x2048 ![0, 1, 2, 3] bcast_S32x8x2048x1_S32x8x2048x2048_0_1_2_3 (broadcastInDim S32x8x2048x1 ![0, 1, 2] bcast_S32x8x2048_S32x8x2048x1_0_1_2 (maximumf (broadcastInDim S32x8x2048 ![] bcast_S_S32x8x2048 (constant S_ .f32 0xFF800000#32)) M))))

theorem E'_at (S : FVec Ideal S32x8x2048x2048 .f32) (M : FVec Ideal S32x8x2048 .f32) (b : Fin 32) (h : Fin 8) (s k : Fin 2048) :
    E' S M (ix4 b h s k) = Ideal.exp (S (ix4 b h s k) - M (ix3 b h s)) := by
  unfold E'
  pointwise
  rw [minus_infinity]
  refine congrArg (fun x => Ideal.exp (S (ix4 b h s k) - x)) ?_
  exact max_eq_right bot_le

theorem E_at (S : FVec Ideal S32x8x2048x2048 .f32) (b : Fin 32) (h : Fin 8) (s k : Fin 2048) :
    E S (ix4 b h s k) = Ideal.exp (S (ix4 b h s k) - Finset.univ.sup fun j : Fin 2048 => S (ix4 b h s j)) := by
  refine (E'_at S _ b h s k).trans ?_
  rw [max_at]
  exact congrArg (fun x => Ideal.exp (S (ix4 b h s k) - x)) (sup_at _)

theorem O_at (ck : FVec Ideal S32x2048x128 .f32) (E : FVec Ideal S32x8x2048x2048 .f32) (b : Fin 32) (h : Fin 8) (s : Fin 2048) (l : Fin 128) :
    O ck E (ix4 h b s l) = ∑ k : Fin 2048, ck (ix3 b k l) * Ideal.div (E (ix4 b h s k)) (∑ j : Fin 2048, E (ix4 b h s j)) := by
  unfold O
  pointwise

/-- Batches and positions laid out as one axis, read at an element. -/
theorem rows (x : Vec Ideal S8x32x2048x128 .f32) (hx : S8x32x2048x128.ShapeCasts S8x65536x128) (h : Fin 8) (n : Fin 65536) (l : Fin 128) :
    shapeCast S8x65536x128 x hx (ix3 h n l) = x (ix4 h (⟨n.val / 2048, by omega⟩ : Fin 32) (⟨n.val % 2048, by omega⟩ : Fin 2048) l) := by
  pointwise

/-- The reference's run with its result written as the attention of every element. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run (F := Ideal) m ρ)
  funext i
  idx_vars i
  unfold Value.res_main_v30
  refine (rows (O (m ((c.tc : Thread nD τ).loc main_arg2)) (E (S (m ((c.tc : Thread nD τ).loc main_arg0)) (m ((c.tc : Thread nD τ).loc main_arg1))
    (m ((c.tc : Thread nD τ).loc main_arg2)) (m ((c.tc : Thread nD τ).loc main_arg3))))) _ i0 i1 i2).trans ?_
  rw [O_at]
  simp only [E_at, S_at]
  unfold out attend softmax latent
  have hk : ∀ k : Fin 2048, (⟨k.val % 2048, Nat.mod_lt _ (by decide)⟩ : Fin 2048) = k := fun k => Fin.ext (Nat.mod_eq_of_lt k.isLt)
  simp only [hk]
  rfl

end Cert.AttentionReference

end
-- ==== Proof.AttentionClaims.lean ====
/- The claims about the attention launch: with arguments whose entries are real numbers, the launch and its reference end with the same result. -/
module

public import proofs.«01_k».proof.Defs
public import proofs.«01_k».proof.Proof.AttentionValue
public import proofs.«01_k».proof.Proof.AttentionReference
public import proofs.«01_k».proof.Proof.Gen.Pre_mla_finite
public import Idealize.ShloMosaic.Lib.ReduceAll

@[expose] public section

set_option maxRecDepth 16384

noncomputable section

open Idealize.ShloMosaic Idealize.ShloMosaic.TcCoe Idealize.SL.Sem

namespace Cert.AttentionClaims

theorem infinity : (Ideal.ofBits FTy.f32 0x7F800000#32 : EReal) = ⊤ := by
  simp [Ideal.ofBits, Ideal.ieee]

/-- An extended real whose absolute value is below infinity is a real number. -/
theorem real_of (x : EReal) (h : Ideal.cmp .olt (max x (-x)) (Ideal.ofBits FTy.f32 0x7F800000#32) = 1#1) : ∃ z : ℝ, x = (z : EReal) := by
  rw [infinity] at h
  induction x using EReal.rec with
  | bot => simp [Ideal.cmp] at h
  | top => simp [Ideal.cmp] at h
  | coe r => exact ⟨r, rfl⟩

open Cert.Pre_mla_finite in
/-- The precondition's test of one array: every entry is a real number. -/
theorem real_all {s : Shape} {axes : List (Fin s.rank)} (x : FVec Ideal s .f32) (b : S_.BroadcastsInDim s (![] : Fin 0 → Fin s.rank)) (hr : s.ReducesTo axes S_) (hS : 0 < S_.numel)
    (h : Host.reduce IntOp.andi (cmpf .olt (Host.absf x) (broadcastInDim s ![] b (constant S_ .f32 0x7F800000#32))) (constantI S_ 1 1#1) hr hS ix0 = 1#1) (y : s.Idx) :
    ∃ z : ℝ, x y = (z : EReal) := by
  haveI : Subsingleton S_.Idx := ⟨fun a b => funext fun d => d.elim0⟩
  exact real_of (x y) (Host.reduce_andi_all _ _ hr hS ix0 h y)

/-- The precondition gives that every argument's entries are real numbers. -/
theorem real (m : (ℓ : Loc Cert.KernelIdeal.nD Cert.KernelIdeal.τ Cert.KernelIdeal.sig) → Buf (Elt Ideal) ℓ) (h : Cert.Pre_KernelIdeal_mla_finite m)
    (c : Dev Cert.KernelIdeal.nD) : Cert.AttentionValue.Real m c := by
  have e := congrFun (h c) ix0
  unfold Cert.Pre_mla_finite.fn Cert.Pre_mla_finite.fn_part1 at e
  dsimp only at e
  obtain ⟨e, h3⟩ := IntOp.andi_eq_one.1 e
  obtain ⟨e, h2⟩ := IntOp.andi_eq_one.1 e
  obtain ⟨h0, h1⟩ := IntOp.andi_eq_one.1 e
  exact ⟨real_all _ _ _ _ h0, real_all _ _ _ _ h1, real_all _ _ _ _ h2, real_all _ _ _ _ h3⟩

/-- The attention's reference runs, ends with its arguments unchanged and every counter at zero. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same with the precondition at hand. -/
theorem reference_frame_real : Cert.quiescent_ReferenceIdeal_pre_mla_finite := fun m ρ _ => reference_frame m ρ trivial

/-- The two constants the kernel rounds are named after the numbers they stand for. -/
theorem constants : Cert.preserves_Kernel_KernelIdeal :=
  ⟨IdealRules.named_const.statement Cert.KernelIdeal.κ "mask" .f32 _ _ rfl, IdealRules.named_const.statement Cert.KernelIdeal.κ "scale_log2e" .f32 _ _ rfl⟩

/-- The attention launch and its reference end with equal results. -/
theorem attention : Cert.algebraic_KernelIdeal_ReferenceIdeal_pre_mla_finite := fun m ρ m' ρ' hp hag =>
  ⟨fun c => Cert.AttentionSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run Cert.KernelIdeal.defs _ _).mono (fun _ h c => ⟨(h c).1.trans (Cert.AttentionValue.final2 m c (real m hp c)), (h c).2⟩) (Cert.KernelIdeal.Value.run_blocks (F := Ideal) m ρ),
    (θ_run Cert.ReferenceIdeal.defs _ _).mono (fun _ h c => ⟨(h c).1.trans (by
        obtain ⟨h0, h1, h2, h3⟩ := hag c
        rw [h0, h1, h2, h3]), (h c).2⟩) (Cert.AttentionReference.run m' ρ')⟩

end Cert.AttentionClaims

end
-- ==== Proof.OddProjectValue.lean ====
/- The values of the odd layer's projection: the normalised rows times the weight, with the queries and keys of every
   group of heads rotated by their position, and the reference's result read at the same index. -/
module

public import proofs.«01_k».proof.Proof.Indices
public import proofs.«01_k».proof.Proof.FfnMath
public import proofs.«01_k».proof.Proof.Gen.OddProjectIdeal.Value
public import proofs.«01_k».proof.Proof.Gen.OddProjectReferenceIdeal.Run
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.OddProjectIdeal.Closed

open Cert.OddProjectIdeal Cert.OddProjectIdeal.Gen Cert.Indices Cert.FfnMath

variable (m : (ℓ : Loc nD τ sig) → Buf (Elt Ideal) ℓ)

/-- The word that tells a lane of the first half of its head. -/
theorem first_half : ∀ l : Fin 256, IntOp.cmpi CmpIPredicate.slt
    (Scalar.select
      (IntOp.andi
        (IntOp.xori
          (IntOp.cmpi CmpIPredicate.slt
            (IntOp.remsi ArithUnit.vector (BitVec.ofNat 32 l.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 l.val) (Scalar.select (Scalar.cmpi CmpIPredicate.eq 64#32 0#32) 1#32 64#32)) 0#32))
      (IntOp.addi
        (IntOp.remsi ArithUnit.vector (BitVec.ofNat 32 l.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 l.val) (Scalar.select (Scalar.cmpi CmpIPredicate.eq 64#32 0#32) 1#32 64#32)))
    32#32 = if l.val % 64 < 32 then 1#1 else 0#1 := by decide +kernel

/-- A block of columns turned by the two tables. -/
def rope (p c s : FVec Ideal S512x256 .f32) : FVec Ideal S512x256 .f32 :=
  k0_pay9 (F := Ideal) c s p (Scalar.select (Scalar.cmpi .eq 64#32 0#32) 1#32 64#32) k0_pay7 k0_pay8

theorem rope_at (p c s : FVec Ideal S512x256 .f32) (r : Fin 512) (l : Fin 256) :
    rope p c s (ix2 r l) = p (ix2 r l) * c (ix2 r l)
      + (if h : l.val % 64 < 32 then p (ix2 r ⟨l.val + 32, by omega⟩) else p (ix2 r ⟨l.val - 32, by omega⟩)) * s (ix2 r l) := by
  unfold rope
  pointwise [k0_pay9, k0_pay7, k0_pay8]
  rw [first_half]
  by_cases h : l.val % 64 < 32
  · rw [if_pos h, dif_pos h]
    refine congrArg (fun a => p (ix2 r l) * c (ix2 r l) + a * s (ix2 r l)) ?_
    exact congrArg p (ix2_congr rfl (by dsimp only; omega))
  · rw [if_neg h, dif_neg h]
    refine congrArg (fun a => p (ix2 r l) * c (ix2 r l) + a * s (ix2 r l)) ?_
    exact congrArg p (ix2_congr rfl (by dsimp only; omega))

/-- Column `j` of a row of products: kept in a group's last block of columns, turned within its head elsewhere. -/
def turned (z : Fin 2304 → EReal) (c s : Fin 256 → EReal) (j : Fin 2304) : EReal :=
  if j.val / 256 % 3 = 2 then z j
  else z j * c ⟨j.val % 256, by omega⟩ + (if h : j.val % 64 < 32 then z ⟨j.val + 32, by omega⟩ else z ⟨j.val - 32, by omega⟩) * s ⟨j.val % 256, by omega⟩

/-- A block's rows of products turned by the block's two tables. -/
def turn (z : FVec Ideal S512x2304 .f32) (c s : FVec Ideal S512x256 .f32) : Vec Ideal S512x2304 .f32 := fun i =>
  turned (fun j => z (ix2 (i 0) j)) (fun l => c (ix2 (i 0) l)) (fun l => s (ix2 (i 0) l)) (i 1)

theorem turn_at (z : FVec Ideal S512x2304 .f32) (c s : FVec Ideal S512x256 .f32) (r : Fin 512) (j : Fin 2304) :
    turn z c s (ix2 r j) = turned (fun j => z (ix2 r j)) (fun l => c (ix2 r l)) (fun l => s (ix2 r l)) j := rfl

theorem slice_at (z : FVec Ideal S512x2304 .f32) (o : ℕ) (h) (ho : o + 256 ≤ 2304) (r : Fin 512) (l : Fin 256) :
    extractStridedSlice S512x256 ![0, o] z h (ix2 r l) = z (ix2 r ⟨o + l.val, by omega⟩) := by
  pointwise

theorem emb_at (o : ℕ) (h) (ho : o + 256 ≤ 2304) (r : Fin 512) (l : Fin 256) :
    (Rect.unit (s := S512x2304) ![0, o] ![512, 256] h).emb (ix2 r l) = ix2 r ⟨o + l.val, by omega⟩ := by
  funext a
  fin_cases a
  · exact Fin.ext (by simp [Rect.emb, LoadRect.idx, Rect.toLoadRect, Rect.unit])
  · exact Fin.ext (by simp [Rect.emb, LoadRect.idx, Rect.toLoadRect, Rect.unit])

theorem rope_piece (z : FVec Ideal S512x2304 .f32) (c s : FVec Ideal S512x256 .f32) (o : ℕ) (h h') (ho : o + 256 ≤ 2304) (hd : o % 256 = 0) (h2 : o / 256 % 3 ≠ 2)
    (x : S512x256.Idx) :
    rope (extractStridedSlice S512x256 ![0, o] z h) c s x = turn z c s ((Rect.unit (s := S512x2304) ![0, o] ![512, 256] h').emb x) := by
  idx_vars x
  rw [rope_at, emb_at o h' ho, turn_at]
  unfold turned
  simp only [slice_at z o h ho]
  rw [if_neg (by omega)]
  refine congrArg₂ (· + ·) (congrArg (z _ * ·) (congrArg c (ix2_congr rfl (by dsimp only; omega))))
    (congrArg₂ (· * ·) ?_ (congrArg s (ix2_congr rfl (by dsimp only; omega))))
  by_cases hl : x1.val % 64 < 32
  · rw [dif_pos hl, dif_pos (by omega)]
    exact congrArg z (ix2_congr rfl (by dsimp only; omega))
  · rw [dif_neg hl, dif_neg (by omega)]
    exact congrArg z (ix2_congr rfl (by dsimp only; omega))

theorem keep_piece (z : FVec Ideal S512x2304 .f32) (c s : FVec Ideal S512x256 .f32) (o : ℕ) (h h') (ho : o + 256 ≤ 2304) (hd : o % 256 = 0) (h2 : o / 256 % 3 = 2)
    (x : S512x256.Idx) :
    extractStridedSlice S512x256 ![0, o] z h x = turn z c s ((Rect.unit (s := S512x2304) ![0, o] ![512, 256] h').emb x) := by
  idx_vars x
  rw [slice_at z o h ho, emb_at o h' ho, turn_at]
  unfold turned
  dsimp only
  rw [if_pos (by omega)]

/-- What the body leaves in the result's block. -/
theorem block (x0 : Vec Ideal S512x1024 .f32) (x1 : Vec Ideal S1x1024 .f32) (x2 : Vec Ideal S1024x2304 .bf16) (x3 x4 : Vec Ideal S512x256 .f32) (y : S512x2304.Idx) :
    out0_5 (F := Ideal) x0 x1 x2 x3 x4 y = turn (k0_pay21 (F := Ideal) x0 x1 x2 x3 x4) (k0_pay22 (F := Ideal) x0 x1 x2 x3 x4) (k0_pay23 (F := Ideal) x0 x1 x2 x3 x4) y := by
  unfold out0_5
  refine View.canon_apply_of_pieces (turn (k0_pay21 (F := Ideal) x0 x1 x2 x3 x4) (k0_pay22 (F := Ideal) x0 x1 x2 x3 x4) (k0_pay23 (F := Ideal) x0 x1 x2 x3 x4)) _ ?_ y
    (View.cover_of_tiledL _ ![512, 256] (by sl_kernel_rfl) y)
  refine View.PiecesOf.mem ?_
  rw [show k0_pay6 (F := Ideal) (View.ld x0 r0_0) (View.ld x1 r0_1) (View.ld x2 r0_2)
      = extractStridedSlice S512x256 ![0, 0] (k0_pay21 (F := Ideal) x0 x1 x2 x3 x4) slices_S512x2304_o0_0_S512x256 from rfl]
  generalize k0_pay21 (F := Ideal) x0 x1 x2 x3 x4 = z
  generalize k0_pay22 (F := Ideal) x0 x1 x2 x3 x4 = c
  generalize k0_pay23 (F := Ideal) x0 x1 x2 x3 x4 = s
  exact ⟨fun x => keep_piece z c s 2048 slices_S512x2304_o0_2048_S512x256 inb_S512x2304_S512x256_0_2048 (by decide) (by decide) (by decide) x,
    fun x => rope_piece z c s 1792 slices_S512x2304_o0_1792_S512x256 inb_S512x2304_S512x256_0_1792 (by decide) (by decide) (by decide) x,
    fun x => rope_piece z c s 1536 slices_S512x2304_o0_1536_S512x256 inb_S512x2304_S512x256_0_1536 (by decide) (by decide) (by decide) x,
    fun x => keep_piece z c s 1280 slices_S512x2304_o0_1280_S512x256 inb_S512x2304_S512x256_0_1280 (by decide) (by decide) (by decide) x,
    fun x => rope_piece z c s 1024 slices_S512x2304_o0_1024_S512x256 inb_S512x2304_S512x256_0_1024 (by decide) (by decide) (by decide) x,
    fun x => rope_piece z c s 768 slices_S512x2304_o0_768_S512x256 inb_S512x2304_S512x256_0_768 (by decide) (by decide) (by decide) x,
    fun x => keep_piece z c s 512 slices_S512x2304_o0_512_S512x256 inb_S512x2304_S512x256_0_512 (by decide) (by decide) (by decide) x,
    fun x => rope_piece z c s 256 slices_S512x2304_o0_256_S512x256 inb_S512x2304_S512x256_0_256 (by decide) (by decide) (by decide) x,
    fun x => rope_piece z c s 0 slices_S512x2304_o0_0_S512x256 inb_S512x2304_S512x256_0_0 (by decide) (by decide) (by decide) x,
    trivial⟩

/-- The angles: position times frequency. -/
abbrev angle : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

def cosT : FVec Ideal S2048x32 .f32 := Host.cos angle
def sinT : FVec Ideal S2048x32 .f32 := Host.sin angle

/-- Two tables side by side, repeated over the heads. -/
abbrev tile (a b : FVec Ideal S2048x32 .f32) : FVec Ideal S2048x256 .f32 :=
  shapeCast S2048x256 (broadcastInDim S1x2048x4x64 ![0, 1, 2, 3] bcast_S1x2048x1x64_S1x2048x4x64_0_1_2_3 (shapeCast S1x2048x1x64 (concatenate S2048x64 1 [⟨S2048x32, a⟩, ⟨S2048x32, b⟩] concatenates_S2048x32_S2048x32_S2048x64_d1) shapeCasts_S2048x64_S1x2048x1x64)) shapeCasts_S1x2048x4x64_S2048x256

theorem tile_at (a b : FVec Ideal S2048x32 .f32) (s : Fin 2048) (l : Fin 256) :
    tile a b (ix2 s l) = if l.val % 64 < 32 then a (ix2 s ⟨l.val % 32, by omega⟩) else b (ix2 s ⟨l.val % 32, by omega⟩) := by
  unfold tile
  pointwise
  by_cases h : l.val % 64 < 32
  · rw [dif_pos h, if_pos h]
    exact congrArg a (ix2_congr rfl (by dsimp only; omega))
  · rw [dif_neg h, if_neg h]
    exact congrArg b (ix2_congr rfl (by dsimp only; omega))

theorem V24 (c : Dev nD) : V m c main_v24 = shapeCast S65536x1024 (m ((c : Thread nD τ).loc main_arg0)) shapeCasts_S32x2048x1024_S65536x1024 := by
  unfold V
  after_results <;> rfl
theorem V25 (c : Dev nD) : V m c main_v25 = shapeCast S1x1024 (m ((c : Thread nD τ).loc main_arg1)) shapeCasts_S1024_S1x1024 := by
  unfold V
  after_results <;> rfl
theorem V26 (c : Dev nD) : V m c main_v26 = (m ((c : Thread nD τ).loc main_arg2) : Vec Ideal S1024x2304 .f32) := by
  unfold V
  after_results <;> rfl
theorem V18 (c : Dev nD) : V m c main_v18 = tile cosT cosT := by
  unfold V
  after_results <;> rfl
theorem V23 (c : Dev nD) : V m c main_v23 = tile (Host.negf sinT) sinT := by
  unfold V
  after_results <;> rfl

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val % 4, 0] :=
  (by decide +kernel : ∀ t : Fin grid0.N, win0_3.index t = ![t.val % 4, 0])
theorem idx4 : ∀ t : Fin cfg0.N, win0_4.index t = ![t.val % 4, 0] :=
  (by decide +kernel : ∀ t : Fin grid0.N, win0_4.index t = ![t.val % 4, 0])
theorem idx5 : ∀ t : Fin cfg0.N, win0_5.index t = ![t.val, 0] :=
  (by decide +kernel : ∀ t : Fin grid0.N, win0_5.index t = ![t.val, 0])

theorem emb0 (t : Fin cfg0.N) (r : Fin 512) (k : Fin 1024) : ((cfg0.win 0).blk t).view.emb (ix2 r k)
    = ix2 (⟨t.val * 512 + r.val, by have := t.isLt; have : cfg0.N = 128 := N_0; omega⟩ : Fin 65536) k := by
  blk_ext [idx0 t]
theorem emb3 (t : Fin cfg0.N) (r : Fin 512) (l : Fin 256) : ((cfg0.win 3).blk t).view.emb (ix2 r l)
    = ix2 (⟨t.val % 4 * 512 + r.val, by omega⟩ : Fin 2048) l := by
  blk_ext [idx3 t]
theorem emb4 (t : Fin cfg0.N) (r : Fin 512) (l : Fin 256) : ((cfg0.win 4).blk t).view.emb (ix2 r l)
    = ix2 (⟨t.val % 4 * 512 + r.val, by omega⟩ : Fin 2048) l := by
  blk_ext [idx4 t]
theorem emb5 (t : Fin cfg0.N) (r : Fin 512) (k : Fin 2304) : ((cfg0.win 5).blk t).view.emb (ix2 r k)
    = ix2 (⟨t.val * 512 + r.val, by have := t.isLt; have : cfg0.N = 128 := N_0; omega⟩ : Fin 65536) k := by
  blk_ext [idx5 t]

/-- The prompts as rows of all batches, read at a row. -/
theorem rows (x : Vec Ideal S32x2048x1024 .f32) (h : S32x2048x1024.ShapeCasts S65536x1024) (n : Fin 65536) (k : Fin 1024) :
    shapeCast S65536x1024 x h (ix2 n k) = x (ix3 (⟨n.val / 2048, by omega⟩ : Fin 32) (⟨n.val % 2048, by omega⟩ : Fin 2048) k) := by
  pointwise

theorem iblk0 (c : Dev nD) (t : Fin cfg0.N) (r : Fin 512) (k : Fin 1024) (b : Fin 32) (s : Fin 2048)
    (h : b.val * 2048 + s.val = t.val * 512 + r.val) :
    iblk (F := Ideal) m c 0 t (ix2 r k) = m ((c : Thread nD τ).loc main_arg0) (ix3 b s k) := by
  unfold iblk
  rw [View.read_apply]
  erw [V24, emb0, rows]
  exact congrArg (m ((c : Thread nD τ).loc main_arg0)) (ix3_congr (by dsimp only; omega) (by dsimp only; omega) rfl)
theorem iblk1 (c : Dev nD) (t : Fin cfg0.N) (k : Fin 1024)  :
    iblk (F := Ideal) m c 1 t (ix2 0 k) = m ((c : Thread nD τ).loc main_arg1) (ix1 k) := by
  blk_simp [iblk, idx1 t]
  rw [V25]
  pointwise
  blk_ext [idx1 t]
theorem iblk2 (c : Dev nD) (t : Fin cfg0.N) (k : Fin 1024) (j : Fin 2304) :
    iblk (F := Ideal) m c 2 t (ix2 k j) = m ((c : Thread nD τ).loc main_arg2) (ix2 k j) := by
  blk_simp [iblk, idx2 t]
  rw [V26]
  blk_ext [idx2 t]
theorem iblk3 (c : Dev nD) (t : Fin cfg0.N) (r : Fin 512) (l : Fin 256) (s : Fin 2048) (h : s.val = (t.val * 512 + r.val) % 2048) :
    iblk (F := Ideal) m c 3 t (ix2 r l) = cosT (ix2 s ⟨l.val % 32, by omega⟩) := by
  unfold iblk
  rw [View.read_apply]
  erw [V18, emb3, tile_at, ite_self]
  exact congrArg cosT (ix2_congr (by dsimp only; omega) rfl)
theorem iblk4 (c : Dev nD) (t : Fin cfg0.N) (r : Fin 512) (l : Fin 256) (s : Fin 2048) (h : s.val = (t.val * 512 + r.val) % 2048) :
    iblk (F := Ideal) m c 4 t (ix2 r l) = if l.val % 64 < 32 then -sinT (ix2 s ⟨l.val % 32, by omega⟩) else sinT (ix2 s ⟨l.val % 32, by omega⟩) := by
  rw [show s = ⟨t.val % 4 * 512 + r.val, by omega⟩ from Fin.ext (by dsimp only; omega)]
  unfold iblk
  rw [View.read_apply]
  erw [V23, emb4, tile_at]
  rfl

/-- The normalised block times the weight, read at an element. -/
theorem prod_at (x : Vec Ideal S512x1024 .f32) (g : Vec Ideal S1x1024 .f32) (w : Vec Ideal S1024x2304 .bf16) (r : Fin 512) (j : Fin 2304) :
    k0_pay3 (F := Ideal) x g w (ix2 r j) = ∑ k : Fin 1024, rnorm (fun k => x (ix2 r k)) (fun k => g (ix2 0 k)) k * w (ix2 k j) := by
  unfold rnorm
  pointwise [k0_pay3]

/-- The rotated row at position `s`, from its products. -/
def turnedAt (z : Fin 2304 → EReal) (s : Fin 2048) (j : Fin 2304) : EReal :=
  turned z (fun l => cosT (ix2 s ⟨l.val % 32, by omega⟩))
    (fun l => if l.val % 64 < 32 then -sinT (ix2 s ⟨l.val % 32, by omega⟩) else sinT (ix2 s ⟨l.val % 32, by omega⟩)) j

/-- The result array: every row's products, turned. -/
def out (x : Vec Ideal S32x2048x1024 .f32) (g : Vec Ideal S1024 .f32) (w : Vec Ideal S1024x2304 .f32) : Vec Ideal S65536x2304 .f32 := fun i =>
  turnedAt (fun j => ∑ k : Fin 1024, rnorm (fun k => x (ix3 (⟨(i 0).val / 2048, by have : (i 0).val < 65536 := (i 0).isLt; omega⟩ : Fin 32) (⟨(i 0).val % 2048, by omega⟩ : Fin 2048) k))
    (fun k => g (ix1 k)) k * w (ix2 k j)) ⟨(i 0).val % 2048, by omega⟩ (i 1)

/-- A grid point's block holds its rows of the result. -/
theorem out_at (c : Dev nD) (t : Fin cfg0.N) (r : Fin 512) (j : Fin 2304) (n : Fin 65536) (hn : n.val = t.val * 512 + r.val) :
    out0_5 (F := Ideal) (iblk m c 0 t) (iblk m c 1 t) (iblk m c 2 t) (iblk m c 3 t) (iblk m c 4 t) (ix2 r j)
      = out (m ((c : Thread nD τ).loc main_arg0)) (m ((c : Thread nD τ).loc main_arg1)) (m ((c : Thread nD τ).loc main_arg2)) (ix2 n j) := by
  rw [block]
  unfold turn out turnedAt
  have e1 : k0_pay21 (F := Ideal) (iblk m c 0 t) (iblk m c 1 t) (iblk m c 2 t) (iblk m c 3 t) (iblk m c 4 t) = k0_pay3 (F := Ideal) (iblk m c 0 t) (iblk m c 1 t) (iblk m c 2 t) := by
    unfold k0_pay21
    rw [View.ld_unit_lit, View.ld_unit_lit, View.ld_unit_lit] <;> intro a <;> fin_cases a <;> rfl
  have e2 : k0_pay22 (F := Ideal) (iblk m c 0 t) (iblk m c 1 t) (iblk m c 2 t) (iblk m c 3 t) (iblk m c 4 t) = iblk m c 3 t := by
    unfold k0_pay22 k0_pay4
    rw [View.ld_unit_lit]
    · exact shapeCast_self _ _
    · intro a
      fin_cases a <;> rfl
  have e3 : k0_pay23 (F := Ideal) (iblk m c 0 t) (iblk m c 1 t) (iblk m c 2 t) (iblk m c 3 t) (iblk m c 4 t) = iblk m c 4 t := by
    unfold k0_pay23 k0_pay5
    rw [View.ld_unit_lit]
    · exact shapeCast_self _ _
    · intro a
      fin_cases a <;> rfl
  rw [e1, e2, e3]
  simp only [ix2_0, ix2_1, prod_at, iblk0 m c t r _ ⟨n.val / 2048, by omega⟩ ⟨n.val % 2048, by omega⟩ (by dsimp only; omega), iblk1, iblk2,
    iblk3 m c t r _ ⟨n.val % 2048, by omega⟩ (by dsimp only; omega), iblk4 m c t r _ ⟨n.val % 2048, by omega⟩ (by dsimp only; omega)]

/-- The result array of the call. -/
theorem final5 (c : Dev nD) : (dats (F := Ideal) m 0 c).arrAt 5 cfg0.N = out (m ((c : Thread nD τ).loc main_arg0))
    (m ((c : Thread nD τ).loc main_arg1)) (m ((c : Thread nD τ).loc main_arg2)) := by
  refine (dats (F := Ideal) m 0 c).arrAt_eq_of_covers 5 _ (by decide +kernel) fun t hf y => ?_
  rw [after0_5]
  idx_vars y
  have ht : t.val < 128 := N_0 ▸ t.isLt
  have h := out_at m c t y0 y1 ⟨t.val * 512 + y0.val, by omega⟩ rfl
  erw [emb5 t y0 y1]
  generalize out (m (c.tc.loc main_arg0)) (m (c.tc.loc main_arg1)) (m (c.tc.loc main_arg2)) = G at h ⊢
  generalize out0_5 (F := Ideal) (iblk m c 0 t) (iblk m c 1 t) (iblk m c 2 t) (iblk m c 3 t) (iblk m c 4 t) = O at h ⊢
  exact h

end Cert.OddProjectIdeal.Closed

namespace Cert.OddProjectReferenceIdeal.Closed

open Cert.OddProjectReferenceIdeal Cert.OddProjectReferenceIdeal.Gen Cert.Indices Cert.FfnMath
open Cert.OddProjectIdeal.Closed (out turned turnedAt cosT sinT)

/-- The reference's normalised rows. -/
abbrev N (x : Vec Ideal S32x2048x1024 .f32) (g : Vec Ideal S1024 .f32) : FVec Ideal S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))

/-- The reference's products. -/
abbrev P (n : Vec Ideal S32x2048x1024 .f32) (w : Vec Ideal S1024x2304 .f32) : Vec Ideal S32x2048x2304 .f32 :=
  Host.dotGeneral (F := Ideal) (φ₁ := .f32) (φ₂ := .f32) dot_S32x2048x1024_S1024x2304_S32x2048x2304_2_0_01_1_n_n none n w

/-- A table spread over batches and heads. -/
abbrev spread (a : FVec Ideal S2048x32 .f32) : FVec Ideal S32x2048x24x32 .f32 :=
  broadcastInDim S32x2048x24x32 ![0, 1, 2, 3] bcast_S1x2048x1x32_S32x2048x24x32_0_1_2_3 (broadcastInDim S1x2048x1x32 ![1, 2, 3] bcast_S2048x1x32_S1x2048x1x32_1_2_3 (broadcastInDim S2048x1x32 ![0, 2] bcast_S2048x32_S2048x1x32_0_2 a))

/-- The heads of queries and keys. -/
abbrev H (p : Vec Ideal S32x2048x2304 .f32) : FVec Ideal S32x2048x24x64 .f32 :=
  shapeCast S32x2048x24x64 (extractStridedSlice S32x2048x3x2x4x64 ![0, 0, 0, 0, 0, 0] (shapeCast S32x2048x3x3x4x64 p shapeCasts_S32x2048x2304_S32x2048x3x3x4x64) slices_S32x2048x3x3x4x64_S32x2048x3x2x4x64_0_0_0_0_0_0) shapeCasts_S32x2048x3x2x4x64_S32x2048x24x64

/-- Heads rotated by position. -/
abbrev T (q : FVec Ideal S32x2048x24x64 .f32) (c s : FVec Ideal S2048x32 .f32) : FVec Ideal S32x2048x24x64 .f32 :=
  concatenate S32x2048x24x64 3 [⟨S32x2048x24x32, (subf (mulf (extractStridedSlice S32x2048x24x32 ![0, 0, 0, 0] q slices_S32x2048x24x64_S32x2048x24x32_0_0_0_0) (spread c)) (mulf (extractStridedSlice S32x2048x24x32 ![0, 0, 0, 32] q slices_S32x2048x24x64_S32x2048x24x32_0_0_0_32) (spread s)))⟩,
    ⟨S32x2048x24x32, (addf (mulf (extractStridedSlice S32x2048x24x32 ![0, 0, 0, 32] q slices_S32x2048x24x64_S32x2048x24x32_0_0_0_32) (spread c)) (mulf (extractStridedSlice S32x2048x24x32 ![0, 0, 0, 0] q slices_S32x2048x24x64_S32x2048x24x32_0_0_0_0) (spread s)))⟩] concatenates_S32x2048x24x32_S32x2048x24x32_S32x2048x24x64_d3

/-- The result: rotated heads and values back in their columns. -/
abbrev L (t : FVec Ideal S32x2048x24x64 .f32) (p : Vec Ideal S32x2048x2304 .f32) : FVec Ideal S65536x2304 .f32 :=
  shapeCast S65536x2304 (concatenate S32x2048x3x3x4x64 3 [⟨S32x2048x3x2x4x64, shapeCast S32x2048x3x2x4x64 t shapeCasts_S32x2048x24x64_S32x2048x3x2x4x64⟩,
    ⟨S32x2048x3x1x4x64, extractStridedSlice S32x2048x3x1x4x64 ![0, 0, 0, 2, 0, 0] (shapeCast S32x2048x3x3x4x64 p shapeCasts_S32x2048x2304_S32x2048x3x3x4x64) slices_S32x2048x3x3x4x64_S32x2048x3x1x4x64_0_0_0_2_0_0⟩] concatenates_S32x2048x3x2x4x64_S32x2048x3x1x4x64_S32x2048x3x3x4x64_d3) shapeCasts_S32x2048x3x3x4x64_S65536x2304

theorem norm_at (x : Vec Ideal S32x2048x1024 .f32) (g : Vec Ideal S1024 .f32) (b : Fin 32) (s : Fin 2048) (k : Fin 1024) :
    N x g (ix3 b s k) = rnorm (fun k => x (ix3 b s k)) (fun k => g (ix1 k)) k := by
  unfold N rnorm
  pointwise

theorem prod_at (n : Vec Ideal S32x2048x1024 .f32) (w : Vec Ideal S1024x2304 .f32) (b : Fin 32) (s : Fin 2048) (j : Fin 2304) :
    P n w (ix3 b s j) = ∑ k : Fin 1024, n (ix3 b s k) * w (ix2 k j) := by
  unfold P
  pointwise

theorem heads_at (p : Vec Ideal S32x2048x2304 .f32) (b : Fin 32) (s : Fin 2048) (h : Fin 24) (e : Fin 64) :
    H p (ix4 b s h e) = p (ix3 b s ⟨h.val / 8 * 768 + h.val % 8 * 64 + e.val, by omega⟩) := by
  unfold H
  pointwise
  exact congrArg p (ix3_congr rfl rfl (by dsimp only; omega))

theorem turn_at (q : FVec Ideal S32x2048x24x64 .f32) (c s : FVec Ideal S2048x32 .f32) (b : Fin 32) (n : Fin 2048) (h : Fin 24) (e : Fin 64) :
    T q c s (ix4 b n h e) = if l : e.val < 32 then q (ix4 b n h e) * c (ix2 n ⟨e.val, l⟩) - q (ix4 b n h ⟨e.val + 32, by omega⟩) * s (ix2 n ⟨e.val, l⟩)
      else q (ix4 b n h e) * c (ix2 n ⟨e.val - 32, by omega⟩) + q (ix4 b n h ⟨e.val - 32, by omega⟩) * s (ix2 n ⟨e.val - 32, by omega⟩) := by
  unfold T spread
  pointwise
  by_cases l : e.val < 32
  · rw [dif_pos l, dif_pos l]
    exact congrArg (fun a => q (ix4 b n h e) * c (ix2 n ⟨e.val, l⟩) - a * s (ix2 n ⟨e.val, l⟩)) (congrArg q (ix4_congr rfl rfl rfl (by dsimp only; omega)))
  · rw [dif_neg l, dif_neg l]
    exact congrArg (fun a => a * c (ix2 n ⟨e.val - 32, by omega⟩) + q (ix4 b n h ⟨e.val - 32, by omega⟩) * s (ix2 n ⟨e.val - 32, by omega⟩))
      (congrArg q (ix4_congr rfl rfl rfl (by dsimp only; omega)))

theorem lay_at (t : FVec Ideal S32x2048x24x64 .f32) (p : Vec Ideal S32x2048x2304 .f32) (n : Fin 65536) (j : Fin 2304) :
    L t p (ix2 n j) = if h : j.val / 256 % 3 = 2 then p (ix3 ⟨n.val / 2048, by omega⟩ ⟨n.val % 2048, by omega⟩ j)
      else t (ix4 ⟨n.val / 2048, by omega⟩ ⟨n.val % 2048, by omega⟩ ⟨j.val / 768 * 8 + j.val / 256 % 3 * 4 + j.val / 64 % 4, by omega⟩ ⟨j.val % 64, by omega⟩) := by
  unfold L
  pointwise
  by_cases h : j.val / 256 % 3 = 2
  · rw [dif_neg (by omega), dif_pos h]
    exact congrArg p (ix3_congr rfl rfl (by dsimp only; omega))
  · rw [dif_pos (by omega), dif_neg h]

/-- The reference's last steps, read at an element: its row of products turned by its position. -/
theorem turned_at (p : Vec Ideal S32x2048x2304 .f32) (n : Fin 65536) (j : Fin 2304) :
    L (T (H p) cosT sinT) p (ix2 n j) = turnedAt (fun j => p (ix3 ⟨n.val / 2048, by omega⟩ ⟨n.val % 2048, by omega⟩ j)) ⟨n.val % 2048, by omega⟩ j := by
  rw [lay_at]
  unfold turnedAt turned
  by_cases h : j.val / 256 % 3 = 2
  · rw [dif_pos h, if_pos h]
  · rw [dif_neg h, if_neg h, turn_at, heads_at]
    by_cases l : j.val % 64 < 32
    · rw [dif_pos l, dif_pos l, heads_at, sub_eq_add_neg, ← mul_neg]
      dsimp only
      rw [if_pos (by omega)]
      refine congrArg₂ (· + ·) (congrArg₂ (· * ·) (congrArg p (ix3_congr rfl rfl (by dsimp only; omega))) (congrArg cosT (ix2_congr rfl (by dsimp only; omega))))
        (congrArg₂ (· * ·) (congrArg p (ix3_congr rfl rfl (by dsimp only; omega))) (congrArg (fun a => -a) (congrArg sinT (ix2_congr rfl (by dsimp only; omega)))))
    · rw [dif_neg l, dif_neg l, heads_at]
      dsimp only
      rw [if_neg (by omega)]
      refine congrArg₂ (· + ·) (congrArg₂ (· * ·) (congrArg p (ix3_congr rfl rfl (by dsimp only; omega))) (congrArg cosT (ix2_congr rfl (by dsimp only; omega))))
        (congrArg₂ (· * ·) (congrArg p (ix3_congr rfl rfl (by dsimp only; omega))) (congrArg sinT (ix2_congr rfl (by dsimp only; omega))))

/-- The reference's result, as the projection's. -/
theorem result (x : Vec Ideal S32x2048x1024 .f32) (g : Vec Ideal S1024 .f32) (w : Vec Ideal S1024x2304 .f32) :
    L (T (H (P (N x g) w)) cosT sinT) (P (N x g) w) = out x g w := by
  funext i
  idx_vars i
  rw [turned_at]
  unfold out
  simp only [prod_at, norm_at, ix2_0, ix2_1]

/-- The reference's run with its result at the projection. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  exact result (m ((c.tc : Thread nD τ).loc main_arg0)) (m ((c.tc : Thread nD τ).loc main_arg1)) (m ((c.tc : Thread nD τ).loc main_arg2))

end Cert.OddProjectReferenceIdeal.Closed

end
-- ==== Proof.EvenProjectMath.lean ====
/- The even layer's projection on one row, over the extended reals: the normalised queries and latents, the rotation of the
   positional parts, the packed queries and keys, and the sums of the packed weights. -/
module

public import Idealize.ShloMosaic.Lib.Pointwise
public import Idealize.ShloMosaic.Lib.IdealHost

@[expose] public section

noncomputable section

open Idealize.ShloMosaic

namespace Cert.EvenProjectMath

/-- Entry `k` of a row divided by the root of its mean square (`b` is the row's length, the small constant added) and scaled by `g`. -/
def rms {n : ℕ} (b : BitVec 32) (x g : Fin n → EReal) (k : Fin n) : EReal :=
  x k * Ideal.rsqrt (Ideal.div (∑ l : Fin n, x l * x l) (Ideal.ofBits .f32 b) + Ideal.ofBits .f32 0x358637BD#32) * g k

/-- Lane `l` of a part of 32 lanes whose halves are turned by the angles with cosines `c` and sines `s`. -/
def turn (c s : Fin 16 → EReal) (a : Fin 32 → EReal) (l : Fin 32) : EReal :=
  a l * c ⟨l.val % 16, by omega⟩ + if h : l.val < 16 then a ⟨l.val + 16, by omega⟩ * -s ⟨l.val % 16, by omega⟩
    else a ⟨l.val - 16, by omega⟩ * s ⟨l.val % 16, by omega⟩

/-- Lane `l` of 128 lanes, every 32 of them turned within themselves by tables over the lanes. -/
def turnLanes (p c s : Fin 128 → EReal) (l : Fin 128) : EReal :=
  p l * c l + (if h : l.val % 32 < 16 then p ⟨l.val + 16, by omega⟩ else p ⟨l.val - 16, by omega⟩) * s l

/-- 128 lanes of which only the first 32 are not zero, turned by the repeated tables. -/
theorem turnLanes_wide (c s : Fin 16 → EReal) (a : Fin 32 → EReal) (p C S : Fin 128 → EReal)
    (hp : ∀ l : Fin 128, p l = if h : l.val < 32 then a ⟨l.val, h⟩ else 0)
    (hc : ∀ l : Fin 128, C l = c ⟨l.val % 16, by omega⟩)
    (hs : ∀ l : Fin 128, S l = if l.val % 32 < 16 then -s ⟨l.val % 16, by omega⟩ else s ⟨l.val % 16, by omega⟩) (l : Fin 128) :
    turnLanes p C S l = if h : l.val < 32 then turn c s a ⟨l.val, h⟩ else 0 := by
  unfold turnLanes turn
  rw [hc, hs, hp l]
  by_cases h : l.val < 32
  · rw [dif_pos h, dif_pos h]
    by_cases h' : l.val < 16
    · rw [dif_pos (by omega), if_pos (by omega), hp, dif_pos (by dsimp only; omega), dif_pos (by dsimp only; omega)]
    · rw [dif_neg (by omega), if_neg (by omega), hp, dif_pos (by dsimp only; omega), dif_neg (by dsimp only; omega)]
  · rw [dif_neg h, dif_neg h, zero_mul, zero_add]
    by_cases h' : l.val % 32 < 16
    · rw [dif_pos h', hp, dif_neg (by dsimp only; omega), zero_mul]
    · rw [dif_neg h', hp, dif_neg (by dsimp only; omega), zero_mul]

/-- A row's normalised query latents. -/
def cq (z : Fin 1952 → EReal) (g : Fin 256 → EReal) (r : Fin 256) : EReal := rms 0x43800000#32 (fun r => z ⟨r.val, by omega⟩) g r

/-- A row's normalised latents of keys and values. -/
def ckv (z : Fin 1952 → EReal) (g : Fin 128 → EReal) (r : Fin 128) : EReal := rms 0x43000000#32 (fun r => z ⟨256 + r.val, by omega⟩) g r

/-- A row's rotated positional key. -/
def kpe (c s : Fin 16 → EReal) (z : Fin 1952 → EReal) (l : Fin 32) : EReal := turn c s (fun l => z ⟨384 + l.val, by omega⟩) l

/-- Lane `e` of head `h`'s query. -/
def query (q : Fin 256 → EReal) (u : Fin 256 → Fin 8 → Fin 96 → EReal) (h : Fin 8) (e : Fin 96) : EReal := ∑ r : Fin 256, q r * u r h e

/-- Head `h`'s query taken to the latents. -/
def absorbed (q : Fin 256 → EReal) (u : Fin 256 → Fin 8 → Fin 96 → EReal) (k : Fin 128 → Fin 8 → Fin 64 → EReal) (h : Fin 8) (j : Fin 128) : EReal :=
  ∑ n : Fin 64, query q u h ⟨n.val, by omega⟩ * k j h n

/-- Lane `j` of head `h`'s packed query: latent part, rotated part, zeros. -/
def packedQ (c s : Fin 16 → EReal) (q : Fin 256 → EReal) (u : Fin 256 → Fin 8 → Fin 96 → EReal) (k : Fin 128 → Fin 8 → Fin 64 → EReal)
    (h : Fin 8) (j : Fin 256) : EReal :=
  if hj : j.val < 128 then absorbed q u k h ⟨j.val, hj⟩
  else if hj' : j.val < 160 then turn c s (fun l => query q u h ⟨64 + l.val, by omega⟩) ⟨j.val - 128, by omega⟩ else 0

/-- Lane `j` of the packed key: latent, rotated part, zeros. -/
def packedK (c s : Fin 16 → EReal) (z : Fin 1952 → EReal) (g : Fin 128 → EReal) (j : Fin 256) : EReal :=
  if hj : j.val < 128 then ckv z g ⟨j.val, hj⟩ else if hj' : j.val < 160 then kpe c s z ⟨j.val - 128, by omega⟩ else 0

/-- The joint weight's columns with 96 columns of zeros after the positional key's. -/
def wide (w : Fin 1952 → EReal) (j : Fin 2048) : EReal :=
  if h : j.val < 416 then w ⟨j.val, by omega⟩ else if h : j.val < 512 then 0 else w ⟨j.val - 96, by omega⟩

/-- The query weight's columns: the heads' first 64 lanes, then every head's last 32 lanes and 96 zeros. -/
def wideQ (u : Fin 8 → Fin 96 → EReal) (j : Fin 1536) : EReal :=
  if h : j.val < 512 then u ⟨j.val / 64, by omega⟩ ⟨j.val % 64, by omega⟩
  else if h' : (j.val - 512) % 128 < 32 then u ⟨(j.val - 512) / 128, by omega⟩ ⟨64 + (j.val - 512) % 128, by omega⟩ else 0

/-- Two heads' weights into the latents, as one square with zeros across. -/
def pair (k : Fin 128 → Fin 8 → Fin 64 → EReal) (p : Fin 4) (a : Fin 128) (b : Fin 256) : EReal :=
  if h : a.val < 64 then (if h' : b.val < 128 then k ⟨b.val, h'⟩ ⟨2 * p.val, by omega⟩ ⟨a.val, h⟩ else 0)
  else (if h' : b.val < 128 then 0 else k ⟨b.val - 128, by omega⟩ ⟨2 * p.val + 1, by omega⟩ ⟨a.val - 64, by omega⟩)

/-- A sum over the widened weight's column. -/
theorem sum_wide {n : ℕ} (x : Fin n → EReal) (w : Fin n → Fin 1952 → EReal) (j : Fin 2048) :
    ∑ k, x k * wide (w k) j = wide (fun j => ∑ k, x k * w k j) j := by
  unfold wide
  by_cases h : j.val < 416
  · simp only [dif_pos h]
  · by_cases h' : j.val < 512
    · simp only [dif_neg h, dif_pos h', mul_zero, Finset.sum_const_zero]
    · simp only [dif_neg h, dif_neg h']

/-- A sum over the packed query weight's column. -/
theorem sum_wideQ (q : Fin 256 → EReal) (u : Fin 256 → Fin 8 → Fin 96 → EReal) (j : Fin 1536) :
    ∑ r, q r * wideQ (u r) j = wideQ (query q u) j := by
  unfold wideQ query
  by_cases h : j.val < 512
  · simp only [dif_pos h]
  · by_cases h' : (j.val - 512) % 128 < 32
    · simp only [dif_neg h, dif_pos h']
    · simp only [dif_neg h, dif_neg h', mul_zero, Finset.sum_const_zero]

theorem sum_halves (f : Fin 128 → EReal) :
    ∑ a, f a = ∑ n : Fin 64, f ⟨n.val, by omega⟩ + ∑ n : Fin 64, f ⟨64 + n.val, by omega⟩ :=
  Fin.sum_univ_add (a := 64) (b := 64) f

/-- The pair's product, at a head's columns, is that head's. -/
theorem sum_pair (q : Fin 8 → Fin 96 → EReal) (k : Fin 128 → Fin 8 → Fin 64 → EReal) (h : Fin 8) (j : Fin 128) :
    ∑ a : Fin 128, wideQ q ⟨h.val / 2 * 128 + a.val, by omega⟩ * pair k ⟨h.val / 2, by omega⟩ a ⟨h.val % 2 * 128 + j.val, by omega⟩
      = ∑ n : Fin 64, q h ⟨n.val, by omega⟩ * k j h n := by
  rw [sum_halves]
  by_cases e : h.val % 2 = 0
  · rw [show ∑ n : Fin 64, wideQ q ⟨h.val / 2 * 128 + (64 + n.val), by omega⟩
        * pair k ⟨h.val / 2, by omega⟩ ⟨64 + n.val, by omega⟩ ⟨h.val % 2 * 128 + j.val, by omega⟩ = 0 from
      Finset.sum_eq_zero fun n _ => by
        unfold pair
        rw [dif_neg (by dsimp only; omega), dif_pos (by dsimp only; omega), mul_zero], add_zero]
    refine Finset.sum_congr rfl fun n _ => ?_
    unfold wideQ pair
    rw [dif_pos (by dsimp only; omega), dif_pos (by dsimp only; omega), dif_pos (by dsimp only; omega)]
    refine congrArg₂ (· * ·) (congrArg₂ q (Fin.ext (by dsimp only; omega)) (Fin.ext (by dsimp only; omega))) ?_
    exact congr (congrArg₂ k (Fin.ext (by dsimp only; omega)) (Fin.ext (by dsimp only; omega))) rfl
  · rw [show ∑ n : Fin 64, wideQ q ⟨h.val / 2 * 128 + n.val, by omega⟩
        * pair k ⟨h.val / 2, by omega⟩ ⟨n.val, by omega⟩ ⟨h.val % 2 * 128 + j.val, by omega⟩ = 0 from
      Finset.sum_eq_zero fun n _ => by
        unfold pair
        rw [dif_pos (by dsimp only; omega), dif_neg (by dsimp only; omega), mul_zero], zero_add]
    refine Finset.sum_congr rfl fun n _ => ?_
    unfold wideQ pair
    rw [dif_pos (by dsimp only; omega), dif_neg (by dsimp only; omega), dif_neg (by dsimp only; omega)]
    refine congrArg₂ (· * ·) (congrArg₂ q (Fin.ext (by dsimp only; omega)) (Fin.ext (by dsimp only; omega))) ?_
    exact congr (congrArg₂ k (Fin.ext (by dsimp only; omega)) (Fin.ext (by dsimp only; omega))) (Fin.ext (by dsimp only; omega))

end Cert.EvenProjectMath

end
-- ==== Proof.EvenProjectValue.lean ====
/- The values of the even layer's projection: every block of its nine results, from the normalised rows' products with the
   weights, and the arrays that the blocks make up. -/
module

public import proofs.«01_k».proof.Proof.Indices
public import proofs.«01_k».proof.Proof.FfnMath
public import proofs.«01_k».proof.Proof.EvenProjectMath
public import proofs.«01_k».proof.Proof.Gen.EvenProjectIdeal.Value
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.EvenProjectIdeal.Closed

open Cert.EvenProjectIdeal Cert.EvenProjectIdeal.Gen Cert.Indices Cert.FfnMath Cert.EvenProjectMath

variable (m : (ℓ : Loc nD τ sig) → Buf (Elt Ideal) ℓ)

/-- The word that tells a lane of the first half of its part. -/
theorem first_half : ∀ l : Fin 128, IntOp.cmpi CmpIPredicate.slt
    (Scalar.select
      (IntOp.andi
        (IntOp.xori
          (IntOp.cmpi CmpIPredicate.slt
            (IntOp.remsi ArithUnit.vector (BitVec.ofNat 32 l.val) (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 l.val) (Scalar.select (Scalar.cmpi CmpIPredicate.eq 32#32 0#32) 1#32 32#32)) 0#32))
      (IntOp.addi
        (IntOp.remsi ArithUnit.vector (BitVec.ofNat 32 l.val) (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 l.val) (Scalar.select (Scalar.cmpi CmpIPredicate.eq 32#32 0#32) 1#32 32#32)))
    16#32 = if l.val % 32 < 16 then 1#1 else 0#1 := by decide +kernel

/-- 128 lanes turned by the block's tables. -/
def rope (p c s : FVec Ideal S512x128 .f32) : FVec Ideal S512x128 .f32 :=
  addf (mulf p c) (mulf (select (k0_pay48) (dynamicRotate 1 112#32 none p rotates_S512x128_d1) (dynamicRotate 1 16#32 none p rotates_S512x128_d1)) s)

theorem rope_at (p c s : FVec Ideal S512x128 .f32) (r : Fin 512) (l : Fin 128) :
    rope p c s (ix2 r l) = turnLanes (fun l => p (ix2 r l)) (fun l => c (ix2 r l)) (fun l => s (ix2 r l)) l := by
  unfold rope turnLanes
  pointwise [k0_pay48]
  rw [first_half]
  by_cases h : l.val % 32 < 16
  · rw [if_pos h, dif_pos h]
    refine congrArg (fun a => p (ix2 r l) * c (ix2 r l) + a * s (ix2 r l)) ?_
    exact congrArg p (ix2_congr rfl (by dsimp only; omega))
  · rw [if_neg h, dif_neg h]
    refine congrArg (fun a => p (ix2 r l) * c (ix2 r l) + a * s (ix2 r l)) ?_
    exact congrArg p (ix2_congr rfl (by dsimp only; omega))

theorem pay8_eq (z : FVec Ideal S512x2048 .f32) (c s : FVec Ideal S512x128 .f32) :
    k0_pay8 (F := Ideal) z c s = rope (extractStridedSlice S512x128 ![0, 384] z slices_S512x2048_o0_384_S512x128) c s := rfl

theorem slice_at (q : FVec Ideal S512x1536 .f32) (o : ℕ) (h) (ho : o + 128 ≤ 1536) (r : Fin 512) (l : Fin 128) :
    extractStridedSlice S512x128 ![0, o] q h (ix2 r l) = q (ix2 r ⟨o + l.val, by omega⟩) := by
  pointwise

theorem emb_at (g o : ℕ) (h) (hg : g < 8) (ho : o + 128 ≤ 256) (r : Fin 512) (l : Fin 128) :
    (Rect.unit (s := S8x512x256) ![g, 0, o] ![1, 512, 128] h).emb (ix3 0 r l) = ix3 (⟨g, hg⟩ : Fin 8) r (⟨o + l.val, by omega⟩ : Fin 256) := by
  funext a
  fin_cases a
  · exact Fin.ext (by simp [Rect.emb, LoadRect.idx, Rect.toLoadRect, Rect.unit])
  · exact Fin.ext (by simp [Rect.emb, LoadRect.idx, Rect.toLoadRect, Rect.unit])
  · exact Fin.ext (by simp [Rect.emb, LoadRect.idx, Rect.toLoadRect, Rect.unit])

theorem weight_at (x6 : Vec Ideal S4x128x256 .bf16) (p : ℕ) (h) (hp : p < 4) (a : Fin 128) (b : Fin 256) :
    View.ld x6 (Rect.unit ![p, 0, 0] ![1, 128, 256] h) (ix3 0 a b) = x6 (ix3 (⟨p, hp⟩ : Fin 4) a b) := by
  refine congrArg x6 ?_
  funext a
  fin_cases a
  · exact Fin.ext (by simp [Rect.emb, LoadRect.idx, Rect.toLoadRect, Rect.unit])
  · exact Fin.ext (by simp [Rect.emb, LoadRect.idx, Rect.toLoadRect, Rect.unit])
  · exact Fin.ext (by simp [Rect.emb, LoadRect.idx, Rect.toLoadRect, Rect.unit])

/-- The packed queries' block, from the block's queries, its tables and the pairs' weights. -/
def packed (q : FVec Ideal S512x1536 .f32) (c s : FVec Ideal S512x128 .f32) (x6 : Vec Ideal S4x128x256 .bf16)
    (h : Fin 8) (r : Fin 512) (j : Fin 256) : EReal :=
  if hj : j.val < 128 then ∑ a : Fin 128, q (ix2 r ⟨h.val / 2 * 128 + a.val, by omega⟩) * x6 (ix3 (⟨h.val / 2, by omega⟩ : Fin 4) a (⟨h.val % 2 * 128 + j.val, by omega⟩ : Fin 256))
  else turnLanes (fun l => q (ix2 r ⟨512 + 128 * h.val + l.val, by omega⟩)) (fun l => c (ix2 r l)) (fun l => s (ix2 r l)) ⟨j.val - 128, by omega⟩

def packedBlock (q : FVec Ideal S512x1536 .f32) (c s : FVec Ideal S512x128 .f32) (x6 : Vec Ideal S4x128x256 .bf16) : Vec Ideal S8x512x256 .bf16 := fun i =>
  packed q c s x6 (i 0) (i 1) (i 2)

theorem packedBlock_at (q : FVec Ideal S512x1536 .f32) (c s : FVec Ideal S512x128 .f32) (x6 : Vec Ideal S4x128x256 .bf16)
    (h : Fin 8) (r : Fin 512) (j : Fin 256) : packedBlock q c s x6 (ix3 h r j) = packed q c s x6 h r j := rfl

theorem turned_row (p : FVec Ideal S512x128 .f32) (h) (r : Fin 512) (l : Fin 128) :
    (shapeCast S1x512x128 (truncf .bf16 p bitsLt_bf16_f32) h : Vec Ideal S1x512x128 .bf16) (ix3 0 r l) = p (ix2 r l) := by
  pointwise

theorem rope_piece (q : FVec Ideal S512x1536 .f32) (c s : FVec Ideal S512x128 .f32) (x6 : Vec Ideal S4x128x256 .bf16) (g o : ℕ) (h h')
    (hg : g < 8) (ho : o = 512 + 128 * g) (x : S1x512x128.Idx) :
    (shapeCast S1x512x128 (truncf .bf16 (rope (extractStridedSlice S512x128 ![0, o] q h) c s) bitsLt_bf16_f32) shapeCasts_S512x128_S1x512x128 : Vec Ideal S1x512x128 .bf16) x
      = packedBlock q c s x6 ((Rect.unit (s := S8x512x256) ![g, 0, 128] ![1, 512, 128] h').emb x) := by
  subst ho
  idx_vars x
  obtain rfl : x0 = 0 := Subsingleton.elim _ _
  rw [turned_row, rope_at, emb_at g 128 h' hg (by decide), packedBlock_at]
  unfold packed
  rw [dif_neg (by dsimp only; omega)]
  simp only [slice_at q _ h (by omega)]
  refine congrArg (turnLanes _ _ _) (Fin.ext ?_)
  dsimp only
  omega

theorem latent_at (q : FVec Ideal S512x128 .bf16) (w : Vec Ideal S128x256 .bf16) (o : ℕ) (h) (ho : o + 128 ≤ 256) (r : Fin 512) (l : Fin 128) :
    extractStridedSlice S512x128 ![0, o] (matmul (F := Ideal) (φ₁ := .bf16) (φ₂ := .bf16) dot_S512x128_S128x256_S512x256_1_0_0_1_n_n none q w (constant S512x256 .f32 0x00000000#32)) h (ix2 r l)
      = ∑ a : Fin 128, q (ix2 r a) * w (ix2 a ⟨o + l.val, by omega⟩) := by
  pointwise

theorem square_at (w : Vec Ideal S1x128x256 .bf16) (a : Fin 128) (b : Fin 256) :
    shapeCast S128x256 w shapeCasts_S1x128x256_S128x256 (ix2 a b) = w (ix3 0 a b) := by
  pointwise

theorem cast_at (q : FVec Ideal S512x128 .f32) (r : Fin 512) (a : Fin 128) :
    (truncf .bf16 q bitsLt_bf16_f32 : FVec Ideal S512x128 .bf16) (ix2 r a) = q (ix2 r a) := rfl

theorem latent_piece (q : FVec Ideal S512x1536 .f32) (c s : FVec Ideal S512x128 .f32) (x6 : Vec Ideal S4x128x256 .bf16) (g p o e : ℕ) (h hw he h')
    (hg : g < 8) (hp : p = g / 2) (ho : o = p * 128) (hee : e = g % 2 * 128) (x : S1x512x128.Idx) :
    (shapeCast S1x512x128 (truncf .bf16 (extractStridedSlice S512x128 ![0, e]
      (matmul (F := Ideal) (φ₁ := .bf16) (φ₂ := .bf16) dot_S512x128_S128x256_S512x256_1_0_0_1_n_n none (truncf .bf16 (extractStridedSlice S512x128 ![0, o] q h) bitsLt_bf16_f32)
        (shapeCast S128x256 (View.ld x6 (Rect.unit ![p, 0, 0] ![1, 128, 256] hw)) shapeCasts_S1x128x256_S128x256) (constant S512x256 .f32 0x00000000#32)) he) bitsLt_bf16_f32)
      shapeCasts_S512x128_S1x512x128 : Vec Ideal S1x512x128 .bf16) x
      = packedBlock q c s x6 ((Rect.unit (s := S8x512x256) ![g, 0, 0] ![1, 512, 128] h').emb x) := by
  subst ho hee hp
  idx_vars x
  obtain rfl : x0 = 0 := Subsingleton.elim _ _
  rw [turned_row, latent_at _ _ _ he (by omega), emb_at g 0 h' hg (by decide), packedBlock_at]
  unfold packed
  rw [dif_pos (by dsimp only; omega)]
  refine Finset.sum_congr rfl fun a _ => ?_
  rw [cast_at, slice_at q _ h (by omega), square_at, weight_at x6 _ hw (by omega)]
  exact congrArg₂ (· * ·) rfl (congrArg x6 (ix3_congr rfl rfl (by dsimp only; omega)))

/-- What the body leaves in the packed queries' block. -/
theorem block9 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) (y : S8x512x256.Idx) :
    out0_9 (F := Ideal) x0 x1 x2 x3 x4 x5 x6 x7 x8 y = packedBlock (k0_pay64 (F := Ideal) x0 x1 x2 x3 x4 x5 x6 x7 x8) (k0_pay61 (F := Ideal) x0 x1 x2 x3 x4 x5 x6 x7 x8) (k0_pay62 (F := Ideal) x0 x1 x2 x3 x4 x5 x6 x7 x8) x6 y := by
  unfold out0_9 k0_pay65 k0_pay66 k0_pay67 k0_pay68
  refine View.canon_apply_of_pieces (packedBlock (k0_pay64 (F := Ideal) x0 x1 x2 x3 x4 x5 x6 x7 x8) (k0_pay61 (F := Ideal) x0 x1 x2 x3 x4 x5 x6 x7 x8) (k0_pay62 (F := Ideal) x0 x1 x2 x3 x4 x5 x6 x7 x8) x6) _ ?_ y
    (View.cover_of_tiledL _ ![1, 512, 128] (by sl_kernel_rfl) y)
  refine View.PiecesOf.mem ?_
  rw [show k0_pay18 (F := Ideal) (k0_pay63 (F := Ideal) x0 x1 x2 x3 x4 x5 x6 x7 x8) (View.ld x5 r0_10) (View.ld x6 r0_11)
      = matmul (F := Ideal) (φ₁ := .bf16) (φ₂ := .bf16) dot_S512x128_S128x256_S512x256_1_0_0_1_n_n none (truncf .bf16 (extractStridedSlice S512x128 ![0, 0] (k0_pay64 (F := Ideal) x0 x1 x2 x3 x4 x5 x6 x7 x8) slices_S512x1536_o0_0_S512x128) bitsLt_bf16_f32)
        (shapeCast S128x256 (View.ld x6 r0_11) shapeCasts_S1x128x256_S128x256) (constant S512x256 .f32 0x00000000#32) from rfl,
    show k0_pay19 (F := Ideal) (k0_pay63 (F := Ideal) x0 x1 x2 x3 x4 x5 x6 x7 x8) (View.ld x5 r0_10)
      = extractStridedSlice S512x128 ![0, 512] (k0_pay64 (F := Ideal) x0 x1 x2 x3 x4 x5 x6 x7 x8) slices_S512x1536_o0_512_S512x128 from rfl]
  generalize k0_pay64 (F := Ideal) x0 x1 x2 x3 x4 x5 x6 x7 x8 = q
  generalize k0_pay61 (F := Ideal) x0 x1 x2 x3 x4 x5 x6 x7 x8 = c
  generalize k0_pay62 (F := Ideal) x0 x1 x2 x3 x4 x5 x6 x7 x8 = s
  exact ⟨fun x => rope_piece q c s x6 7 1408 slices_S512x1536_o0_1408_S512x128 inb_S8x512x256_S1x512x128_7_0_128 (by decide) (by decide) x,
    fun x => latent_piece q c s x6 7 3 384 128 slices_S512x1536_o0_384_S512x128 inb_S4x128x256_S1x128x256_3_0_0 slices_S512x256_o0_128_S512x128 inb_S8x512x256_S1x512x128_7_0_0 (by decide) (by decide) (by decide) (by decide) x,
    fun x => rope_piece q c s x6 6 1280 slices_S512x1536_o0_1280_S512x128 inb_S8x512x256_S1x512x128_6_0_128 (by decide) (by decide) x,
    fun x => latent_piece q c s x6 6 3 384 0 slices_S512x1536_o0_384_S512x128 inb_S4x128x256_S1x128x256_3_0_0 slices_S512x256_o0_0_S512x128 inb_S8x512x256_S1x512x128_6_0_0 (by decide) (by decide) (by decide) (by decide) x,
    fun x => rope_piece q c s x6 5 1152 slices_S512x1536_o0_1152_S512x128 inb_S8x512x256_S1x512x128_5_0_128 (by decide) (by decide) x,
    fun x => latent_piece q c s x6 5 2 256 128 slices_S512x1536_o0_256_S512x128 inb_S4x128x256_S1x128x256_2_0_0 slices_S512x256_o0_128_S512x128 inb_S8x512x256_S1x512x128_5_0_0 (by decide) (by decide) (by decide) (by decide) x,
    fun x => rope_piece q c s x6 4 1024 slices_S512x1536_o0_1024_S512x128 inb_S8x512x256_S1x512x128_4_0_128 (by decide) (by decide) x,
    fun x => latent_piece q c s x6 4 2 256 0 slices_S512x1536_o0_256_S512x128 inb_S4x128x256_S1x128x256_2_0_0 slices_S512x256_o0_0_S512x128 inb_S8x512x256_S1x512x128_4_0_0 (by decide) (by decide) (by decide) (by decide) x,
    fun x => rope_piece q c s x6 3 896 slices_S512x1536_o0_896_S512x128 inb_S8x512x256_S1x512x128_3_0_128 (by decide) (by decide) x,
    fun x => latent_piece q c s x6 3 1 128 128 slices_S512x1536_o0_128_S512x128 inb_S4x128x256_S1x128x256_1_0_0 slices_S512x256_o0_128_S512x128 inb_S8x512x256_S1x512x128_3_0_0 (by decide) (by decide) (by decide) (by decide) x,
    fun x => rope_piece q c s x6 2 768 slices_S512x1536_o0_768_S512x128 inb_S8x512x256_S1x512x128_2_0_128 (by decide) (by decide) x,
    fun x => latent_piece q c s x6 2 1 128 0 slices_S512x1536_o0_128_S512x128 inb_S4x128x256_S1x128x256_1_0_0 slices_S512x256_o0_0_S512x128 inb_S8x512x256_S1x512x128_2_0_0 (by decide) (by decide) (by decide) (by decide) x,
    fun x => rope_piece q c s x6 1 640 slices_S512x1536_o0_640_S512x128 inb_S8x512x256_S1x512x128_1_0_128 (by decide) (by decide) x,
    fun x => latent_piece q c s x6 1 0 0 128 slices_S512x1536_o0_0_S512x128 inb_S4x128x256_S1x128x256_0_0_0 slices_S512x256_o0_128_S512x128 inb_S8x512x256_S1x512x128_1_0_0 (by decide) (by decide) (by decide) (by decide) x,
    fun x => rope_piece q c s x6 0 512 slices_S512x1536_o0_512_S512x128 inb_S8x512x256_S1x512x128_0_0_128 (by decide) (by decide) x,
    fun x => latent_piece q c s x6 0 0 0 0 slices_S512x1536_o0_0_S512x128 inb_S4x128x256_S1x128x256_0_0_0 slices_S512x256_o0_0_S512x128 inb_S8x512x256_S1x512x128_0_0_0 (by decide) (by decide) (by decide) (by decide) x,
    trivial⟩
-- ==== Proof.EvenProjectInputs.lean ====
/- The inputs of the even layer's projection as its grid points read them: the rows of the prompts, the joint weight with its
   columns of zeros, the packed weights of queries and keys, and the repeated tables of cosines and sines. -/
module

public import proofs.«01_k».proof.Proof.Indices
public import proofs.«01_k».proof.Proof.FfnMath
public import proofs.«01_k».proof.Proof.EvenProjectMath
public import proofs.«01_k».proof.Proof.Gen.EvenProjectIdeal.Value
public import Idealize.ShloMosaic.Lib.KernelVsHost
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.EvenProjectIdeal.Closed

open Cert.EvenProjectIdeal Cert.EvenProjectIdeal.Gen Cert.Indices Cert.EvenProjectMath

variable (m : (ℓ : Loc nD τ sig) → Buf (Elt Ideal) ℓ)

/-- The angles: position times frequency. -/
abbrev angle : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

def cosT : FVec Ideal S2048x16 .f32 := Host.cos angle
def sinT : FVec Ideal S2048x16 .f32 := Host.sin angle

/-- Two tables side by side, four times over. -/
abbrev tile (a b : FVec Ideal S2048x16 .f32) : FVec Ideal S2048x128 .f32 :=
  shapeCast S2048x128 (broadcastInDim S1x2048x4x32 ![0, 1, 2, 3] bcast_S1x2048x1x32_S1x2048x4x32_0_1_2_3 (shapeCast S1x2048x1x32 (concatenate S2048x32 1 [⟨S2048x16, a⟩, ⟨S2048x16, b⟩] concatenates_S2048x16_S2048x16_S2048x32_d1) shapeCasts_S2048x32_S1x2048x1x32)) shapeCasts_S1x2048x4x32_S2048x128

theorem tile_at (a b : FVec Ideal S2048x16 .f32) (s : Fin 2048) (l : Fin 128) :
    tile a b (ix2 s l) = if l.val % 32 < 16 then a (ix2 s ⟨l.val % 16, by omega⟩) else b (ix2 s ⟨l.val % 16, by omega⟩) := by
  unfold tile
  pointwise
  by_cases h : l.val % 32 < 16
  · rw [dif_pos h, if_pos h]
    exact congrArg a (ix2_congr rfl (by dsimp only; omega))
  · rw [dif_neg h, if_neg h]
    exact congrArg b (ix2_congr rfl (by dsimp only; omega))

/-- The joint weight with columns of zeros. -/
abbrev joint (w : Vec Ideal S1024x1952 .f32) : FVec Ideal S1024x2048 .f32 :=
  concatenate S1024x2048 1 [⟨S1024x384, extractStridedSlice S1024x384 ![0, 0] w slices_S1024x1952_S1024x384_0_0⟩, ⟨S1024x32, extractStridedSlice S1024x32 ![0, 384] w slices_S1024x1952_S1024x32_0_384⟩,
    ⟨S1024x96, broadcastInDim S1024x96 ![] bcast_S_S1024x96 (constant S_ .f32 0x00000000#32)⟩, ⟨S1024x1536, extractStridedSlice S1024x1536 ![0, 416] w slices_S1024x1952_S1024x1536_0_416⟩] concatenates_S1024x384_S1024x32_S1024x96_S1024x1536_S1024x2048_d1

theorem joint_at (w : Vec Ideal S1024x1952 .f32) (k : Fin 1024) (j : Fin 2048) : joint w (ix2 k j) = wide (fun j => w (ix2 k j)) j := by
  unfold joint wide
  pointwise
  by_cases h0 : j.val < 384
  · rw [dif_pos h0, dif_pos (by omega)]
  · rw [dif_neg h0]
    by_cases h1 : j.val < 416
    · rw [dif_pos (by omega), dif_pos h1]
      exact congrArg w (ix2_congr rfl (by dsimp only; omega))
    · rw [dif_neg (by omega), dif_neg h1]
      by_cases h2 : j.val < 512
      · rw [dif_pos (by omega), dif_pos h2]
      · rw [dif_neg (by omega), dif_neg h2]
        exact congrArg w (ix2_congr rfl (by dsimp only; omega))

/-- Every head's last lanes, widened with zeros. -/
abbrev tails (u : Vec Ideal S256x8x96 .f32) : FVec Ideal S256x8x128 .f32 :=
  pad S256x8x128 ![0, 0, 0] ![0, 0, 96] ![0, 0, 0] (extractStridedSlice S256x8x32 ![0, 0, 64] u slices_S256x8x96_S256x8x32_0_0_64) (sitofp (F := Ideal) .f32 (constantI S_ 32 0#32)) pads_S256x8x32_S256x8x128_000_000_0960 h_S_

theorem tails_at (u : Vec Ideal S256x8x96 .f32) (r : Fin 256) (h : Fin 8) (l : Fin 128) :
    tails u (ix3 r h l) = if hl : l.val < 32 then u (ix3 r h ⟨64 + l.val, by omega⟩) else 0 := by
  unfold tails
  by_cases hl : l.val < 32
  · rw [dif_pos hl, pad_apply_of_inside _ _ _ _ _ _ _ _ (ix3 r h (⟨l.val, hl⟩ : Fin 32)) (by intro a; fin_cases a <;> simp)]
    pointwise
  · rw [dif_neg hl, pad_apply_of_not_inside _ _ _ _ _ _ _ _ (2 : Fin 3) (by simp; omega)]
    exact sitofp_zero

/-- The packed query weight. -/
abbrev packedU (u : Vec Ideal S256x8x96 .f32) : FVec Ideal S256x1536 .f32 :=
  concatenate S256x1536 1 [⟨S256x512, shapeCast S256x512 (extractStridedSlice S256x8x64 ![0, 0, 0] u slices_S256x8x96_S256x8x64_0_0_0) shapeCasts_S256x8x64_S256x512⟩, ⟨S256x1024, shapeCast S256x1024 (tails u) shapeCasts_S256x8x128_S256x1024⟩] concatenates_S256x512_S256x1024_S256x1536_d1

theorem cast_tails (t : FVec Ideal S256x8x128 .f32) (u : Vec Ideal S256x8x96 .f32) (r : Fin 256) (j : Fin 1536) :
    concatenate S256x1536 1 [⟨S256x512, shapeCast S256x512 (extractStridedSlice S256x8x64 ![0, 0, 0] u slices_S256x8x96_S256x8x64_0_0_0) shapeCasts_S256x8x64_S256x512⟩, ⟨S256x1024, shapeCast S256x1024 t shapeCasts_S256x8x128_S256x1024⟩] concatenates_S256x512_S256x1024_S256x1536_d1 (ix2 r j)
      = if h : j.val < 512 then u (ix3 r ⟨j.val / 64, by omega⟩ ⟨j.val % 64, by omega⟩) else t (ix3 r ⟨(j.val - 512) / 128, by omega⟩ ⟨(j.val - 512) % 128, by omega⟩) := by
  pointwise

theorem packedU_at (u : Vec Ideal S256x8x96 .f32) (r : Fin 256) (j : Fin 1536) : packedU u (ix2 r j) = wideQ (fun h e => u (ix3 r h e)) j := by
  unfold packedU
  rw [cast_tails]
  unfold wideQ
  by_cases h : j.val < 512
  · rw [dif_pos h, dif_pos h]
  · rw [dif_neg h, dif_neg h, tails_at]

/-- The heads' weights into the latents, pair by pair. -/
abbrev heads (k : Vec Ideal S128x8x64 .f32) : FVec Ideal S4x2x64x128 .f32 :=
  shapeCast S4x2x64x128 (transpose S8x64x128 [1, 2, 0] k transposes_S128x8x64_S8x64x128_1_2_0) shapeCasts_S8x64x128_S4x2x64x128

/-- The squares of the pairs. -/
abbrev pairs (k : FVec Ideal S4x2x64x128 .f32) : FVec Ideal S4x128x256 .f32 :=
  concatenate S4x128x256 1 [⟨S4x64x256, concatenate S4x64x256 2 [⟨S4x64x128, shapeCast S4x64x128 (extractStridedSlice S4x1x64x128 ![0, 0, 0, 0] k slices_S4x2x64x128_S4x1x64x128_0_0_0_0) shapeCasts_S4x1x64x128_S4x64x128⟩, ⟨S4x64x128, broadcastInDim S4x64x128 ![] bcast_S_S4x64x128 (constant S_ .f32 0x00000000#32)⟩] concatenates_S4x64x128_S4x64x128_S4x64x256_d2⟩,
    ⟨S4x64x256, concatenate S4x64x256 2 [⟨S4x64x128, broadcastInDim S4x64x128 ![] bcast_S_S4x64x128 (constant S_ .f32 0x00000000#32)⟩, ⟨S4x64x128, shapeCast S4x64x128 (extractStridedSlice S4x1x64x128 ![0, 1, 0, 0] k slices_S4x2x64x128_S4x1x64x128_0_1_0_0) shapeCasts_S4x1x64x128_S4x64x128⟩] concatenates_S4x64x128_S4x64x128_S4x64x256_d2⟩] concatenates_S4x64x256_S4x64x256_S4x128x256_d1

theorem heads_at (k : Vec Ideal S128x8x64 .f32) (p : Fin 4) (g : Fin 2) (n : Fin 64) (j : Fin 128) :
    heads k (ix4 p g n j) = k (ix3 j ⟨2 * p.val + g.val, by omega⟩ n) := by
  unfold heads
  pointwise
  exact congrArg k (ix3_congr rfl (by dsimp only; omega) rfl)

theorem pairs_at (k : FVec Ideal S4x2x64x128 .f32) (p : Fin 4) (a : Fin 128) (b : Fin 256) :
    pairs k (ix3 p a b) = if h : a.val < 64 then (if h' : b.val < 128 then k (ix4 p 0 ⟨a.val, h⟩ ⟨b.val, h'⟩) else 0)
      else (if h' : b.val < 128 then 0 else k (ix4 p 1 ⟨a.val - 64, by omega⟩ ⟨b.val - 128, by omega⟩)) := by
  unfold pairs
  pointwise

theorem pair_at (k : Vec Ideal S128x8x64 .f32) (p : Fin 4) (a : Fin 128) (b : Fin 256) :
    pairs (heads k) (ix3 p a b) = pair (fun j h n => k (ix3 j h n)) p a b := by
  rw [pairs_at]
  unfold pair
  simp only [heads_at]
  rfl

theorem V50 (c : Dev nD) : V m c main_v50 = shapeCast S65536x1024 (m ((c : Thread nD τ).loc main_arg0)) shapeCasts_S32x2048x1024_S65536x1024 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V51 (c : Dev nD) : V m c main_v51 = shapeCast S1x1024 (m ((c : Thread nD τ).loc main_arg1)) shapeCasts_S1024_S1x1024 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V5 (c : Dev nD) : V m c main_v5 = (joint (m ((c : Thread nD τ).loc main_arg2)) : Vec Ideal S1024x2048 .f32) := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V52 (c : Dev nD) : V m c main_v52 = shapeCast S1x256 (m ((c : Thread nD τ).loc main_arg3)) shapeCasts_S256_S1x256 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V53 (c : Dev nD) : V m c main_v53 = shapeCast S1x128 (m ((c : Thread nD τ).loc main_arg4)) shapeCasts_S128_S1x128 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V12 (c : Dev nD) : V m c main_v12 = (packedU (m ((c : Thread nD τ).loc main_arg5)) : Vec Ideal S256x1536 .f32) := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V25 (c : Dev nD) : V m c main_v25 = (pairs (heads (m ((c : Thread nD τ).loc main_arg6))) : Vec Ideal S4x128x256 .f32) := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V44 (c : Dev nD) : V m c main_v44 = tile cosT cosT := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V49 (c : Dev nD) : V m c main_v49 = tile (Host.negf sinT) sinT := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0, 0] :=
  (by decide +kernel : ∀ t : Fin grid0.N, win0_6.index t = ![0, 0, 0])
theorem idx7 : ∀ t : Fin cfg0.N, win0_7.index t = ![t.val % 4, 0] :=
  (by decide +kernel : ∀ t : Fin grid0.N, win0_7.index t = ![t.val % 4, 0])
theorem idx8 : ∀ t : Fin cfg0.N, win0_8.index t = ![t.val % 4, 0] :=
  (by decide +kernel : ∀ t : Fin grid0.N, win0_8.index t = ![t.val % 4, 0])
theorem idx9 : ∀ t : Fin cfg0.N, win0_9.index t = ![0, t.val, 0] :=
  (by decide +kernel : ∀ t : Fin grid0.N, win0_9.index t = ![0, t.val, 0])
theorem idx10 : ∀ t : Fin cfg0.N, win0_10.index t = ![t.val, 0] :=
  (by decide +kernel : ∀ t : Fin grid0.N, win0_10.index t = ![t.val, 0])
theorem idx11 : ∀ t : Fin cfg0.N, win0_11.index t = ![t.val, 0] :=
  (by decide +kernel : ∀ t : Fin grid0.N, win0_11.index t = ![t.val, 0])
theorem idx12 : ∀ t : Fin cfg0.N, win0_12.index t = ![t.val, 0] :=
  (by decide +kernel : ∀ t : Fin grid0.N, win0_12.index t = ![t.val, 0])
theorem idx13 : ∀ t : Fin cfg0.N, win0_13.index t = ![t.val, 0] :=
  (by decide +kernel : ∀ t : Fin grid0.N, win0_13.index t = ![t.val, 0])
theorem idx14 : ∀ t : Fin cfg0.N, win0_14.index t = ![t.val, 0] :=
  (by decide +kernel : ∀ t : Fin grid0.N, win0_14.index t = ![t.val, 0])
theorem idx15 : ∀ t : Fin cfg0.N, win0_15.index t = ![t.val, 0] :=
  (by decide +kernel : ∀ t : Fin grid0.N, win0_15.index t = ![t.val, 0])
theorem idx16 : ∀ t : Fin cfg0.N, win0_16.index t = ![t.val, 0] :=
  (by decide +kernel : ∀ t : Fin grid0.N, win0_16.index t = ![t.val, 0])
theorem idx17 : ∀ t : Fin cfg0.N, win0_17.index t = ![t.val, 0] :=
  (by decide +kernel : ∀ t : Fin grid0.N, win0_17.index t = ![t.val, 0])

theorem emb0 (t : Fin cfg0.N) (r : Fin 512) (k : Fin 1024) : ((cfg0.win 0).blk t).view.emb (ix2 r k)
    = ix2 (⟨t.val * 512 + r.val, by have := t.isLt; have : cfg0.N = 128 := N_0; omega⟩ : Fin 65536) k := by
  blk_ext [idx0 t]
theorem emb7 (t : Fin cfg0.N) (r : Fin 512) (l : Fin 128) : ((cfg0.win 7).blk t).view.emb (ix2 r l)
    = ix2 (⟨t.val % 4 * 512 + r.val, by omega⟩ : Fin 2048) l := by
  blk_ext [idx7 t]
theorem emb8 (t : Fin cfg0.N) (r : Fin 512) (l : Fin 128) : ((cfg0.win 8).blk t).view.emb (ix2 r l)
    = ix2 (⟨t.val % 4 * 512 + r.val, by omega⟩ : Fin 2048) l := by
  blk_ext [idx8 t]
theorem emb9 (t : Fin cfg0.N) (h : Fin 8) (r : Fin 512) (k : Fin 256) : ((cfg0.win 9).blk t).view.emb (ix3 h r k)
    = ix3 h (⟨t.val * 512 + r.val, by have := t.isLt; have : cfg0.N = 128 := N_0; omega⟩ : Fin 65536) k := by
  blk_ext [idx9 t]
theorem emb10 (t : Fin cfg0.N) (r : Fin 512) (k : Fin 256) : ((cfg0.win 10).blk t).view.emb (ix2 r k)
    = ix2 (⟨t.val * 512 + r.val, by have := t.isLt; have : cfg0.N = 128 := N_0; omega⟩ : Fin 65536) k := by
  blk_ext [idx10 t]
theorem emb11 (t : Fin cfg0.N) (r : Fin 512) (k : Fin 128) : ((cfg0.win 11).blk t).view.emb (ix2 r k)
    = ix2 (⟨t.val * 512 + r.val, by have := t.isLt; have : cfg0.N = 128 := N_0; omega⟩ : Fin 65536) k := by
  blk_ext [idx11 t]
theorem emb12 (t : Fin cfg0.N) (r : Fin 512) (k : Fin 32) : ((cfg0.win 12).blk t).view.emb (ix2 r k)
    = ix2 (⟨t.val * 512 + r.val, by have := t.isLt; have : cfg0.N = 128 := N_0; omega⟩ : Fin 65536) k := by
  blk_ext [idx12 t]
theorem emb13 (t : Fin cfg0.N) (r : Fin 512) (k : Fin 512) : ((cfg0.win 13).blk t).view.emb (ix2 r k)
    = ix2 (⟨t.val * 512 + r.val, by have := t.isLt; have : cfg0.N = 128 := N_0; omega⟩ : Fin 65536) k := by
  blk_ext [idx13 t]
theorem emb14 (t : Fin cfg0.N) (r : Fin 512) (k : Fin 512) : ((cfg0.win 14).blk t).view.emb (ix2 r k)
    = ix2 (⟨t.val * 512 + r.val, by have := t.isLt; have : cfg0.N = 128 := N_0; omega⟩ : Fin 65536) k := by
  blk_ext [idx14 t]
theorem emb15 (t : Fin cfg0.N) (r : Fin 512) (k : Fin 512) : ((cfg0.win 15).blk t).view.emb (ix2 r k)
    = ix2 (⟨t.val * 512 + r.val, by have := t.isLt; have : cfg0.N = 128 := N_0; omega⟩ : Fin 65536) k := by
  blk_ext [idx15 t]
theorem emb16 (t : Fin cfg0.N) (r : Fin 512) (k : Fin 512) : ((cfg0.win 16).blk t).view.emb (ix2 r k)
    = ix2 (⟨t.val * 512 + r.val, by have := t.isLt; have : cfg0.N = 128 := N_0; omega⟩ : Fin 65536) k := by
  blk_ext [idx16 t]
theorem emb17 (t : Fin cfg0.N) (r : Fin 512) (k : Fin 512) : ((cfg0.win 17).blk t).view.emb (ix2 r k)
    = ix2 (⟨t.val * 512 + r.val, by have := t.isLt; have : cfg0.N = 128 := N_0; omega⟩ : Fin 65536) k := by
  blk_ext [idx17 t]
theorem emb2 (t : Fin cfg0.N) (k : Fin 1024) (j : Fin 2048) : ((cfg0.win 2).blk t).view.emb (ix2 k j) = ix2 k j := by
  blk_ext [idx2 t]
theorem emb5 (t : Fin cfg0.N) (k : Fin 256) (j : Fin 1536) : ((cfg0.win 5).blk t).view.emb (ix2 k j) = ix2 k j := by
  blk_ext [idx5 t]
theorem emb6 (t : Fin cfg0.N) (p : Fin 4) (k : Fin 128) (j : Fin 256) : ((cfg0.win 6).blk t).view.emb (ix3 p k j) = ix3 p k j := by
  blk_ext [idx6 t]

/-- The prompts as rows of all batches, read at a row. -/
theorem rows (x : Vec Ideal S32x2048x1024 .f32) (h : S32x2048x1024.ShapeCasts S65536x1024) (n : Fin 65536) (k : Fin 1024) :
    shapeCast S65536x1024 x h (ix2 n k) = x (ix3 (⟨n.val / 2048, by omega⟩ : Fin 32) (⟨n.val % 2048, by omega⟩ : Fin 2048) k) := by
  pointwise

theorem iblk0 (c : Dev nD) (t : Fin cfg0.N) (r : Fin 512) (k : Fin 1024) (n : Fin 65536) (h : n.val = t.val * 512 + r.val) :
    iblk (F := Ideal) m c 0 t (ix2 r k) = m ((c : Thread nD τ).loc main_arg0) (ix3 ⟨n.val / 2048, by omega⟩ ⟨n.val % 2048, by omega⟩ k) := by
  unfold iblk
  rw [View.read_apply]
  erw [V50, emb0, rows]
  exact congrArg (m ((c : Thread nD τ).loc main_arg0)) (ix3_congr (by dsimp only; omega) (by dsimp only; omega) rfl)
theorem iblk1 (c : Dev nD) (t : Fin cfg0.N) (k : Fin 1024) :
    iblk (F := Ideal) m c 1 t (ix2 0 k) = m ((c : Thread nD τ).loc main_arg1) (ix1 k) := by
  blk_simp [iblk, idx1 t]
  rw [V51]
  pointwise
  blk_ext [idx1 t]
theorem iblk2 (c : Dev nD) (t : Fin cfg0.N) (k : Fin 1024) (j : Fin 2048) :
    iblk (F := Ideal) m c 2 t (ix2 k j) = wide (fun j => m ((c : Thread nD τ).loc main_arg2) (ix2 k j)) j := by
  unfold iblk
  rw [View.read_apply]
  erw [V5, emb2]
  exact joint_at _ k j
theorem iblk3 (c : Dev nD) (t : Fin cfg0.N) (k : Fin 256) :
    iblk (F := Ideal) m c 3 t (ix2 0 k) = m ((c : Thread nD τ).loc main_arg3) (ix1 k) := by
  blk_simp [iblk, idx3 t]
  rw [V52]
  pointwise
  blk_ext [idx3 t]
theorem iblk4 (c : Dev nD) (t : Fin cfg0.N) (k : Fin 128) :
    iblk (F := Ideal) m c 4 t (ix2 0 k) = m ((c : Thread nD τ).loc main_arg4) (ix1 k) := by
  blk_simp [iblk, idx4 t]
  rw [V53]
  pointwise
  blk_ext [idx4 t]
theorem iblk5 (c : Dev nD) (t : Fin cfg0.N) (r : Fin 256) (j : Fin 1536) :
    iblk (F := Ideal) m c 5 t (ix2 r j) = wideQ (fun h e => m ((c : Thread nD τ).loc main_arg5) (ix3 r h e)) j := by
  unfold iblk
  rw [View.read_apply]
  erw [V12, emb5]
  exact packedU_at _ r j
theorem iblk6 (c : Dev nD) (t : Fin cfg0.N) (p : Fin 4) (a : Fin 128) (b : Fin 256) :
    iblk (F := Ideal) m c 6 t (ix3 p a b) = pair (fun j h n => m ((c : Thread nD τ).loc main_arg6) (ix3 j h n)) p a b := by
  unfold iblk
  rw [View.read_apply]
  erw [V25, emb6]
  exact pair_at _ p a b
theorem iblk7 (c : Dev nD) (t : Fin cfg0.N) (r : Fin 512) (l : Fin 128) (s : Fin 2048) (h : s.val = (t.val * 512 + r.val) % 2048) :
    iblk (F := Ideal) m c 7 t (ix2 r l) = cosT (ix2 s ⟨l.val % 16, by omega⟩) := by
  unfold iblk
  rw [View.read_apply]
  erw [V44, emb7, tile_at, ite_self]
  exact congrArg cosT (ix2_congr (by dsimp only; omega) rfl)
theorem iblk8 (c : Dev nD) (t : Fin cfg0.N) (r : Fin 512) (l : Fin 128) (s : Fin 2048) (h : s.val = (t.val * 512 + r.val) % 2048) :
    iblk (F := Ideal) m c 8 t (ix2 r l) = if l.val % 32 < 16 then -sinT (ix2 s ⟨l.val % 16, by omega⟩) else sinT (ix2 s ⟨l.val % 16, by omega⟩) := by
  rw [show s = ⟨t.val % 4 * 512 + r.val, by omega⟩ from Fin.ext (by dsimp only; omega)]
  unfold iblk
  rw [View.read_apply]
  erw [V49, emb8, tile_at]
  rfl

end Cert.EvenProjectIdeal.Closed

end
-- ==== Proof.EvenProjectArrays.lean ====
/- The nine results of the even layer's projection, as functions of the arguments, and the call's arrays at them. -/
module

public import proofs.«01_k».proof.Proof.Indices
public import proofs.«01_k».proof.Proof.FfnMath
public import proofs.«01_k».proof.Proof.EvenProjectMath
public import proofs.«01_k».proof.Proof.EvenProjectValue
public import proofs.«01_k».proof.Proof.EvenProjectInputs
public import proofs.«01_k».proof.Proof.Gen.EvenProjectIdeal.Value
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.EvenProjectIdeal.Closed

open Cert.EvenProjectIdeal Cert.EvenProjectIdeal.Gen Cert.Indices Cert.FfnMath Cert.EvenProjectMath

variable (m : (ℓ : Loc nD τ sig) → Buf (Elt Ideal) ℓ)

/-- The block's load of all of an input is the input's block. -/
theorem pay60 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) : k0_pay60 (F := Ideal) x0 x1 x2 x3 x4 x5 x6 x7 x8 = k0_pay3 (F := Ideal) x0 x1 x2 := by
  unfold k0_pay60
  rw [View.ld_unit_lit, View.ld_unit_lit, View.ld_unit_lit] <;> intro a <;> fin_cases a <;> rfl
theorem pay61 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) : k0_pay61 (F := Ideal) x0 x1 x2 x3 x4 x5 x6 x7 x8 = x7 := by
  unfold k0_pay61 k0_pay4
  rw [View.ld_unit_lit]
  · exact shapeCast_self _ _
  · intro a
    fin_cases a <;> rfl
theorem pay62 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) : k0_pay62 (F := Ideal) x0 x1 x2 x3 x4 x5 x6 x7 x8 = x8 := by
  unfold k0_pay62 k0_pay5
  rw [View.ld_unit_lit]
  · exact shapeCast_self _ _
  · intro a
    fin_cases a <;> rfl
theorem pay63 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) : k0_pay63 (F := Ideal) x0 x1 x2 x3 x4 x5 x6 x7 x8 = k0_pay6 (F := Ideal) x0 x1 x2 x3 := by
  unfold k0_pay63
  rw [View.ld_unit_lit, View.ld_unit_lit, View.ld_unit_lit, View.ld_unit_lit] <;> intro a <;> fin_cases a <;> rfl
theorem pay64 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) : k0_pay64 (F := Ideal) x0 x1 x2 x3 x4 x5 x6 x7 x8 = k0_pay17 (F := Ideal) (k0_pay6 (F := Ideal) x0 x1 x2 x3) x5 := by
  unfold k0_pay64
  rw [pay63, View.ld_unit_lit]
  intro a
  fin_cases a <;> rfl
theorem full4 (x4 : Vec Ideal S1x128 .f32) : View.ld x4 r0_5 = x4 := by
  rw [View.ld_unit_lit]
  intro a
  fin_cases a <;> rfl

/-- The normalised block times the joint weight, read at an element. -/
theorem prod_at (x : Vec Ideal S512x1024 .f32) (g : Vec Ideal S1x1024 .f32) (w : Vec Ideal S1024x2048 .bf16) (r : Fin 512) (j : Fin 2048) :
    k0_pay3 (F := Ideal) x g w (ix2 r j) = ∑ k : Fin 1024, rnorm (fun k => x (ix2 r k)) (fun k => g (ix2 0 k)) k * w (ix2 k j) := by
  unfold rnorm
  pointwise [k0_pay3]

theorem cq_at (x : Vec Ideal S512x1024 .f32) (g : Vec Ideal S1x1024 .f32) (w : Vec Ideal S1024x2048 .bf16) (gq : Vec Ideal S1x256 .f32) (r : Fin 512) (e : Fin 256) :
    k0_pay6 (F := Ideal) x g w gq (ix2 r e) = rms 0x43800000#32 (fun e => k0_pay3 (F := Ideal) x g w (ix2 r ⟨e.val, by omega⟩)) (fun e => gq (ix2 0 e)) e := by
  unfold rms k0_pay6
  generalize k0_pay3 (F := Ideal) x g w = z
  pointwise

theorem ckv_at (z : FVec Ideal S512x2048 .f32) (gkv : Vec Ideal S1x128 .f32) (r : Fin 512) (e : Fin 128) :
    k0_pay7 (F := Ideal) z gkv (ix2 r e) = rms 0x43000000#32 (fun e => z (ix2 r ⟨256 + e.val, by omega⟩)) (fun e => gkv (ix2 0 e)) e := by
  unfold rms
  pointwise [k0_pay7]

theorem query_at (q : FVec Ideal S512x256 .bf16) (w : Vec Ideal S256x1536 .bf16) (r : Fin 512) (j : Fin 1536) :
    k0_pay17 (F := Ideal) q w (ix2 r j) = ∑ a : Fin 256, q (ix2 r a) * w (ix2 a j) := by
  pointwise [k0_pay17]

/-- A row's products with the joint weight. -/
def products (x : Vec Ideal S32x2048x1024 .f32) (g : Vec Ideal S1024 .f32) (w : Vec Ideal S1024x1952 .f32) (n : Fin 65536) (j : Fin 1952) : EReal :=
  ∑ k : Fin 1024, rnorm (fun k => x (ix3 ⟨n.val / 2048, by omega⟩ ⟨n.val % 2048, by omega⟩ k)) (fun k => g (ix1 k)) k * w (ix2 k j)

/-- The cosines and sines at a row's position. -/
def cosR (n : Fin 65536) (l : Fin 16) : EReal := cosT (ix2 ⟨n.val % 2048, by omega⟩ l)
def sinR (n : Fin 65536) (l : Fin 16) : EReal := sinT (ix2 ⟨n.val % 2048, by omega⟩ l)

/-- The packed queries. -/
def outQ (x : Vec Ideal S32x2048x1024 .f32) (g : Vec Ideal S1024 .f32) (w : Vec Ideal S1024x1952 .f32) (gq : Vec Ideal S256 .f32) (uq : Vec Ideal S256x8x96 .f32) (uk : Vec Ideal S128x8x64 .f32) : Vec Ideal S8x65536x256 .bf16 := fun i =>
  packedQ (cosR (i 1)) (sinR (i 1)) (cq (products x g w (i 1)) fun r => gq (ix1 r)) (fun r h e => uq (ix3 r h e)) (fun j h n => uk (ix3 j h n)) (i 0) (i 2)
/-- The packed keys. -/
def outK (x : Vec Ideal S32x2048x1024 .f32) (g : Vec Ideal S1024 .f32) (w : Vec Ideal S1024x1952 .f32) (gkv : Vec Ideal S128 .f32) : Vec Ideal S65536x256 .bf16 := fun i =>
  packedK (cosR (i 0)) (sinR (i 0)) (products x g w (i 0)) (fun r => gkv (ix1 r)) (i 1)
/-- The latents. -/
def outC (x : Vec Ideal S32x2048x1024 .f32) (g : Vec Ideal S1024 .f32) (w : Vec Ideal S1024x1952 .f32) (gkv : Vec Ideal S128 .f32) : Vec Ideal S65536x128 .f32 := fun i =>
  ckv (products x g w (i 0)) (fun r => gkv (ix1 r)) (i 1)
/-- The rotated positional keys. -/
def outR (x : Vec Ideal S32x2048x1024 .f32) (g : Vec Ideal S1024 .f32) (w : Vec Ideal S1024x1952 .f32) : Vec Ideal S65536x32 .f32 := fun i =>
  kpe (cosR (i 0)) (sinR (i 0)) (products x g w (i 0)) (i 1)
/-- 512 columns of the products. -/
def outB (o : ℕ) (ho : o + 512 ≤ 1952) (x : Vec Ideal S32x2048x1024 .f32) (g : Vec Ideal S1024 .f32) (w : Vec Ideal S1024x1952 .f32) : Vec Ideal S65536x512 .bf16 := fun i =>
  products x g w (i 0) ⟨o + (i 1).val, by have : (i 1).val < 512 := (i 1).isLt; omega⟩
/-- The same columns, not rounded. -/
def outF (o : ℕ) (ho : o + 512 ≤ 1952) (x : Vec Ideal S32x2048x1024 .f32) (g : Vec Ideal S1024 .f32) (w : Vec Ideal S1024x1952 .f32) : Vec Ideal S65536x512 .f32 := fun i =>
  products x g w (i 0) ⟨o + (i 1).val, by have : (i 1).val < 512 := (i 1).isLt; omega⟩

theorem outQ_at (x : Vec Ideal S32x2048x1024 .f32) (g : Vec Ideal S1024 .f32) (w : Vec Ideal S1024x1952 .f32) (gq : Vec Ideal S256 .f32) (uq : Vec Ideal S256x8x96 .f32) (uk : Vec Ideal S128x8x64 .f32) (h : Fin 8) (n : Fin 65536) (j : Fin 256) :
    outQ x g w gq uq uk (ix3 h n j) = packedQ (cosR n) (sinR n) (cq (products x g w n) fun r => gq (ix1 r)) (fun r h e => uq (ix3 r h e)) (fun j h n => uk (ix3 j h n)) h j := rfl
theorem outK_at (x : Vec Ideal S32x2048x1024 .f32) (g : Vec Ideal S1024 .f32) (w : Vec Ideal S1024x1952 .f32) (gkv : Vec Ideal S128 .f32) (n : Fin 65536) (j : Fin 256) :
    outK x g w gkv (ix2 n j) = packedK (cosR n) (sinR n) (products x g w n) (fun r => gkv (ix1 r)) j := rfl
theorem outC_at (x : Vec Ideal S32x2048x1024 .f32) (g : Vec Ideal S1024 .f32) (w : Vec Ideal S1024x1952 .f32) (gkv : Vec Ideal S128 .f32) (n : Fin 65536) (j : Fin 128) :
    outC x g w gkv (ix2 n j) = ckv (products x g w n) (fun r => gkv (ix1 r)) j := rfl
theorem outR_at (x : Vec Ideal S32x2048x1024 .f32) (g : Vec Ideal S1024 .f32) (w : Vec Ideal S1024x1952 .f32) (n : Fin 65536) (j : Fin 32) :
    outR x g w (ix2 n j) = kpe (cosR n) (sinR n) (products x g w n) j := rfl
theorem outB_at (o : ℕ) (ho : o + 512 ≤ 1952) (x : Vec Ideal S32x2048x1024 .f32) (g : Vec Ideal S1024 .f32) (w : Vec Ideal S1024x1952 .f32) (n : Fin 65536) (j : Fin 512) :
    outB o ho x g w (ix2 n j) = products x g w n ⟨o + j.val, by omega⟩ := rfl
theorem outF_at (o : ℕ) (ho : o + 512 ≤ 1952) (x : Vec Ideal S32x2048x1024 .f32) (g : Vec Ideal S1024 .f32) (w : Vec Ideal S1024x1952 .f32) (n : Fin 65536) (j : Fin 512) :
    outF o ho x g w (ix2 n j) = products x g w n ⟨o + j.val, by omega⟩ := rfl

/-- A grid point's products: its rows' products, with the columns of zeros. -/
theorem z_at (c : Dev nD) (t : Fin cfg0.N) (r : Fin 512) (n : Fin 65536) (hn : n.val = t.val * 512 + r.val) (j : Fin 2048) :
    k0_pay3 (F := Ideal) (iblk m c 0 t) (iblk m c 1 t) (iblk m c 2 t) (ix2 r j) = wide (products (m ((c : Thread nD τ).loc main_arg0)) (m ((c : Thread nD τ).loc main_arg1)) (m ((c : Thread nD τ).loc main_arg2)) n) j := by
  rw [prod_at]
  simp only [iblk0 m c t r _ n hn, iblk1, iblk2]
  exact sum_wide _ _ j

theorem cos_at (c : Dev nD) (t : Fin cfg0.N) (r : Fin 512) (n : Fin 65536) (hn : n.val = t.val * 512 + r.val) (l : Fin 128) :
    (iblk m c 7 t : Vec Ideal S512x128 .f32) (ix2 r l) = cosR n ⟨l.val % 16, by omega⟩ :=
  iblk7 m c t r l ⟨n.val % 2048, by omega⟩ (by dsimp only; omega)
theorem sin_at (c : Dev nD) (t : Fin cfg0.N) (r : Fin 512) (n : Fin 65536) (hn : n.val = t.val * 512 + r.val) (l : Fin 128) :
    (iblk m c 8 t : Vec Ideal S512x128 .f32) (ix2 r l) = if l.val % 32 < 16 then -sinR n ⟨l.val % 16, by omega⟩ else sinR n ⟨l.val % 16, by omega⟩ :=
  iblk8 m c t r l ⟨n.val % 2048, by omega⟩ (by dsimp only; omega)

/-- A grid point's queries, with their columns of zeros. -/
theorem q_at (c : Dev nD) (t : Fin cfg0.N) (r : Fin 512) (n : Fin 65536) (hn : n.val = t.val * 512 + r.val) (j : Fin 1536) :
    k0_pay17 (F := Ideal) (k0_pay6 (F := Ideal) (iblk m c 0 t) (iblk m c 1 t) (iblk m c 2 t) (iblk m c 3 t)) (iblk m c 5 t) (ix2 r j)
      = wideQ (query (cq (products (m ((c : Thread nD τ).loc main_arg0)) (m ((c : Thread nD τ).loc main_arg1)) (m ((c : Thread nD τ).loc main_arg2)) n) fun r => (m ((c : Thread nD τ).loc main_arg3)) (ix1 r)) fun r h e => (m ((c : Thread nD τ).loc main_arg5)) (ix3 r h e)) j := by
  rw [query_at]
  simp only [cq_at, iblk5, iblk3, z_at m c t r n hn]
  rw [← sum_wideQ]
  refine Finset.sum_congr rfl fun a _ => congrArg (· * _) ?_
  unfold cq
  refine congrArg (fun z => rms 0x43800000#32 z (fun r => (m ((c : Thread nD τ).loc main_arg3)) (ix1 r)) a) (funext fun e => ?_)
  unfold wide
  rw [dif_pos (by dsimp only; omega)]

/-- A grid point's latents. -/
theorem c_at (c : Dev nD) (t : Fin cfg0.N) (r : Fin 512) (n : Fin 65536) (hn : n.val = t.val * 512 + r.val) (j : Fin 128) :
    k0_pay7 (F := Ideal) (k0_pay3 (F := Ideal) (iblk m c 0 t) (iblk m c 1 t) (iblk m c 2 t)) (iblk m c 4 t) (ix2 r j)
      = ckv (products (m ((c : Thread nD τ).loc main_arg0)) (m ((c : Thread nD τ).loc main_arg1)) (m ((c : Thread nD τ).loc main_arg2)) n) (fun r => (m ((c : Thread nD τ).loc main_arg4)) (ix1 r)) j := by
  rw [ckv_at]
  simp only [iblk4, z_at m c t r n hn]
  unfold ckv
  refine congrArg (fun z => rms 0x43000000#32 z (fun r => (m ((c : Thread nD τ).loc main_arg4)) (ix1 r)) j) (funext fun e => ?_)
  unfold wide
  rw [dif_pos (by dsimp only; omega)]

theorem wide_slice (z : FVec Ideal S512x2048 .f32) (r : Fin 512) (l : Fin 128) :
    extractStridedSlice S512x128 ![0, 384] z slices_S512x2048_o0_384_S512x128 (ix2 r l) = z (ix2 r ⟨384 + l.val, by omega⟩) := by
  pointwise

/-- A grid point's rotated positional keys, followed by zeros. -/
theorem k_at (c : Dev nD) (t : Fin cfg0.N) (r : Fin 512) (n : Fin 65536) (hn : n.val = t.val * 512 + r.val) (l : Fin 128) :
    k0_pay8 (F := Ideal) (k0_pay3 (F := Ideal) (iblk m c 0 t) (iblk m c 1 t) (iblk m c 2 t)) (iblk m c 7 t) (iblk m c 8 t) (ix2 r l)
      = if h : l.val < 32 then kpe (cosR n) (sinR n) (products (m ((c : Thread nD τ).loc main_arg0)) (m ((c : Thread nD τ).loc main_arg1)) (m ((c : Thread nD τ).loc main_arg2)) n) ⟨l.val, h⟩ else 0 := by
  rw [pay8_eq, rope_at]
  unfold kpe
  refine turnLanes_wide (cosR n) (sinR n) (fun l => products (m ((c : Thread nD τ).loc main_arg0)) (m ((c : Thread nD τ).loc main_arg1)) (m ((c : Thread nD τ).loc main_arg2)) n ⟨384 + l.val, by omega⟩) _ _ _ (fun l => ?_) (fun l => ?_) (fun l => ?_) l
  · rw [wide_slice, z_at m c t r n hn]
    unfold wide
    by_cases h : l.val < 32
    · rw [dif_pos (by dsimp only; omega), dif_pos h]
    · rw [dif_neg (by dsimp only; omega), dif_pos (by dsimp only; omega), dif_neg h]
  · exact cos_at m c t r n hn l
  · exact sin_at m c t r n hn l

theorem at9 (c : Dev nD) (t : Fin cfg0.N) (h : Fin 8) (r : Fin 512) (j : Fin 256) (n : Fin 65536) (hn : n.val = t.val * 512 + r.val) :
    out0_9 (F := Ideal) (iblk m c 0 t) (iblk m c 1 t) (iblk m c 2 t) (iblk m c 3 t) (iblk m c 4 t) (iblk m c 5 t) (iblk m c 6 t) (iblk m c 7 t) (iblk m c 8 t) (ix3 h r j)
      = outQ (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (ix3 h n j) := by
  rw [block9, packedBlock_at, pay64, pay61, pay62, outQ_at]
  unfold packed packedQ
  by_cases hj : j.val < 128
  · rw [dif_pos hj, dif_pos hj]
    simp only [q_at m c t r n hn, iblk6]
    exact sum_pair _ _ h ⟨j.val, hj⟩
  · rw [dif_neg hj, dif_neg hj]
    rw [turnLanes_wide (cosR n) (sinR n) (fun l => query (cq (products (m ((c : Thread nD τ).loc main_arg0)) (m ((c : Thread nD τ).loc main_arg1)) (m ((c : Thread nD τ).loc main_arg2)) n) fun r => (m ((c : Thread nD τ).loc main_arg3)) (ix1 r)) (fun r h e => (m ((c : Thread nD τ).loc main_arg5)) (ix3 r h e)) h ⟨64 + l.val, by omega⟩) _ _ _ (fun l => ?_) (fun l => ?_) (fun l => ?_)]
    · by_cases h' : j.val < 160
      · rw [dif_pos (by dsimp only; omega), dif_pos h']
      · rw [dif_neg (by dsimp only; omega), dif_neg h']
    · rw [q_at m c t r n hn]
      unfold wideQ
      rw [dif_neg (by dsimp only; omega)]
      by_cases h' : l.val < 32
      · rw [dif_pos (by dsimp only; omega), dif_pos h']
        exact congrArg₂ (query (cq (products (m ((c : Thread nD τ).loc main_arg0)) (m ((c : Thread nD τ).loc main_arg1)) (m ((c : Thread nD τ).loc main_arg2)) n) fun r => (m ((c : Thread nD τ).loc main_arg3)) (ix1 r)) fun r h e => (m ((c : Thread nD τ).loc main_arg5)) (ix3 r h e)) (Fin.ext (by dsimp only; omega)) (Fin.ext (by dsimp only; omega))
      · rw [dif_neg (by dsimp only; omega), dif_neg h']
    · exact cos_at m c t r n hn l
    · exact sin_at m c t r n hn l

/-- The packed keys' block. -/
def keyBlock (a b : FVec Ideal S512x128 .f32) : Vec Ideal S512x256 .bf16 := fun i =>
  if h : (i 1).val < 128 then a (ix2 (i 0) ⟨(i 1).val, h⟩) else b (ix2 (i 0) ⟨(i 1).val - 128, by have : (i 1).val < 256 := (i 1).isLt; omega⟩)

theorem keyBlock_at (a b : FVec Ideal S512x128 .f32) (r : Fin 512) (j : Fin 256) :
    keyBlock a b (ix2 r j) = if h : j.val < 128 then a (ix2 r ⟨j.val, h⟩) else b (ix2 r ⟨j.val - 128, by omega⟩) := rfl

theorem key_emb (o : ℕ) (h) (ho : o + 128 ≤ 256) (r : Fin 512) (l : Fin 128) :
    (Rect.unit (s := S512x256) ![0, o] ![512, 128] h).emb (ix2 r l) = ix2 r ⟨o + l.val, by omega⟩ := by
  funext a
  fin_cases a
  · exact Fin.ext (by simp [Rect.emb, LoadRect.idx, Rect.toLoadRect, Rect.unit])
  · exact Fin.ext (by simp [Rect.emb, LoadRect.idx, Rect.toLoadRect, Rect.unit])

theorem key_first (a b : FVec Ideal S512x128 .f32) (h) (x : S512x128.Idx) :
    k0_pay10 (F := Ideal) a x = keyBlock a b ((Rect.unit (s := S512x256) ![0, 0] ![512, 128] h).emb x) := by
  idx_vars x
  rw [key_emb 0 h (by decide), keyBlock_at, dif_pos (by dsimp only; omega)]
  exact congrArg a (ix2_congr rfl (by dsimp only; omega))

theorem key_last (a b : FVec Ideal S512x128 .f32) (h) (x : S512x128.Idx) :
    k0_pay11 (F := Ideal) b x = keyBlock a b ((Rect.unit (s := S512x256) ![0, 128] ![512, 128] h).emb x) := by
  idx_vars x
  rw [key_emb 128 h (by decide), keyBlock_at, dif_neg (by dsimp only; omega)]
  exact congrArg b (ix2_congr rfl (by dsimp only; omega))

theorem block10 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) (y : S512x256.Idx) :
    out0_10 (F := Ideal) x0 x1 x2 x3 x4 x5 x6 x7 x8 y = keyBlock (k0_pay7 (F := Ideal) (k0_pay3 (F := Ideal) x0 x1 x2) x4) (k0_pay8 (F := Ideal) (k0_pay3 (F := Ideal) x0 x1 x2) x7 x8) y := by
  unfold out0_10
  rw [pay60, pay61, pay62, full4]
  refine View.canon_apply_of_pieces (keyBlock (k0_pay7 (F := Ideal) (k0_pay3 (F := Ideal) x0 x1 x2) x4) (k0_pay8 (F := Ideal) (k0_pay3 (F := Ideal) x0 x1 x2) x7 x8)) _ ?_ y
    (View.cover_of_tiledL _ ![512, 128] (by sl_kernel_rfl) y)
  refine View.PiecesOf.mem ?_
  generalize k0_pay7 (F := Ideal) (k0_pay3 (F := Ideal) x0 x1 x2) x4 = a
  generalize k0_pay8 (F := Ideal) (k0_pay3 (F := Ideal) x0 x1 x2) x7 x8 = b
  exact ⟨fun x => key_last a b inb_S512x256_S512x128_0_128 x, fun x => key_first a b inb_S512x256_S512x128_0_0 x, trivial⟩

theorem at10 (c : Dev nD) (t : Fin cfg0.N) (r : Fin 512) (j : Fin 256) (n : Fin 65536) (hn : n.val = t.val * 512 + r.val) :
    out0_10 (F := Ideal) (iblk m c 0 t) (iblk m c 1 t) (iblk m c 2 t) (iblk m c 3 t) (iblk m c 4 t) (iblk m c 5 t) (iblk m c 6 t) (iblk m c 7 t) (iblk m c 8 t) (ix2 r j) = outK (m ((c : Thread nD τ).loc main_arg0)) (m ((c : Thread nD τ).loc main_arg1)) (m ((c : Thread nD τ).loc main_arg2)) (m ((c : Thread nD τ).loc main_arg4)) (ix2 n j) := by
  rw [block10, keyBlock_at, outK_at]
  unfold packedK
  by_cases hj : j.val < 128
  · rw [dif_pos hj, dif_pos hj, c_at m c t r n hn]
  · rw [dif_neg hj, dif_neg hj, k_at m c t r n hn]
    by_cases h' : j.val < 160
    · rw [dif_pos (by dsimp only; omega), dif_pos h']
    · rw [dif_neg (by dsimp only; omega), dif_neg h']

theorem at11 (c : Dev nD) (t : Fin cfg0.N) (r : Fin 512) (j : Fin 128) (n : Fin 65536) (hn : n.val = t.val * 512 + r.val) :
    out0_11 (F := Ideal) (iblk m c 0 t) (iblk m c 1 t) (iblk m c 2 t) (iblk m c 3 t) (iblk m c 4 t) (iblk m c 5 t) (iblk m c 6 t) (iblk m c 7 t) (iblk m c 8 t) (ix2 r j) = outC (m ((c : Thread nD τ).loc main_arg0)) (m ((c : Thread nD τ).loc main_arg1)) (m ((c : Thread nD τ).loc main_arg2)) (m ((c : Thread nD τ).loc main_arg4)) (ix2 n j) := by
  unfold out0_11
  rw [View.canon_unit_zero (by funext a; fin_cases a <;> rfl), pay60, full4, c_at m c t r n hn, outC_at]

theorem low_at (z : FVec Ideal S512x2048 .f32) (c s : FVec Ideal S512x128 .f32) (r : Fin 512) (l : Fin 32) :
    k0_pay9 (F := Ideal) z c s (ix2 r l) = k0_pay8 (F := Ideal) z c s (ix2 r ⟨l.val, by omega⟩) := by
  unfold k0_pay9
  generalize k0_pay8 (F := Ideal) z c s = a
  pointwise

theorem at12 (c : Dev nD) (t : Fin cfg0.N) (r : Fin 512) (j : Fin 32) (n : Fin 65536) (hn : n.val = t.val * 512 + r.val) :
    out0_12 (F := Ideal) (iblk m c 0 t) (iblk m c 1 t) (iblk m c 2 t) (iblk m c 3 t) (iblk m c 4 t) (iblk m c 5 t) (iblk m c 6 t) (iblk m c 7 t) (iblk m c 8 t) (ix2 r j) = outR (m ((c : Thread nD τ).loc main_arg0)) (m ((c : Thread nD τ).loc main_arg1)) (m ((c : Thread nD τ).loc main_arg2)) (ix2 n j) := by
  unfold out0_12
  rw [View.canon_unit_zero (by funext a; fin_cases a <;> rfl), pay60, pay61, pay62, low_at, k_at m c t r n hn, outR_at, dif_pos j.isLt]

theorem cols_at (z : FVec Ideal S512x2048 .f32) (o : ℕ) (h) (ho : o + 512 ≤ 2048) (r : Fin 512) (l : Fin 512) :
    extractStridedSlice S512x512 ![0, o] z h (ix2 r l) = z (ix2 r ⟨o + l.val, by omega⟩) := by
  pointwise

/-- 512 columns of a grid point's products, after the columns of zeros. -/
theorem col_at (c : Dev nD) (t : Fin cfg0.N) (r : Fin 512) (j : Fin 512) (n : Fin 65536) (hn : n.val = t.val * 512 + r.val) (o : ℕ) (h) (ho : o + 512 ≤ 1952) (hl : 416 ≤ o) :
    extractStridedSlice S512x512 ![0, o + 96] (k0_pay3 (F := Ideal) (iblk m c 0 t) (iblk m c 1 t) (iblk m c 2 t)) h (ix2 r j)
      = products (m ((c : Thread nD τ).loc main_arg0)) (m ((c : Thread nD τ).loc main_arg1)) (m ((c : Thread nD τ).loc main_arg2)) n ⟨o + j.val, by omega⟩ := by
  rw [cols_at _ _ h (by omega), z_at m c t r n hn]
  unfold wide
  rw [dif_neg (by dsimp only; omega), dif_neg (by dsimp only; omega)]
  exact congrArg (products (m ((c : Thread nD τ).loc main_arg0)) (m ((c : Thread nD τ).loc main_arg1)) (m ((c : Thread nD τ).loc main_arg2)) n) (Fin.ext (by dsimp only; omega))

theorem at13 (c : Dev nD) (t : Fin cfg0.N) (r : Fin 512) (j : Fin 512) (n : Fin 65536) (hn : n.val = t.val * 512 + r.val) :
    out0_13 (F := Ideal) (iblk m c 0 t) (iblk m c 1 t) (iblk m c 2 t) (iblk m c 3 t) (iblk m c 4 t) (iblk m c 5 t) (iblk m c 6 t) (iblk m c 7 t) (iblk m c 8 t) (ix2 r j) = outB 416 (by decide) (m ((c : Thread nD τ).loc main_arg0)) (m ((c : Thread nD τ).loc main_arg1)) (m ((c : Thread nD τ).loc main_arg2)) (ix2 n j) := by
  unfold out0_13
  rw [View.canon_unit_zero (by funext a; fin_cases a <;> rfl), pay60, outB_at]
  exact col_at m c t r j n hn 416 slices_S512x2048_o0_512_S512x512 (by decide) (by decide)

theorem at14 (c : Dev nD) (t : Fin cfg0.N) (r : Fin 512) (j : Fin 512) (n : Fin 65536) (hn : n.val = t.val * 512 + r.val) :
    out0_14 (F := Ideal) (iblk m c 0 t) (iblk m c 1 t) (iblk m c 2 t) (iblk m c 3 t) (iblk m c 4 t) (iblk m c 5 t) (iblk m c 6 t) (iblk m c 7 t) (iblk m c 8 t) (ix2 r j) = outB 928 (by decide) (m ((c : Thread nD τ).loc main_arg0)) (m ((c : Thread nD τ).loc main_arg1)) (m ((c : Thread nD τ).loc main_arg2)) (ix2 n j) := by
  unfold out0_14
  rw [View.canon_unit_zero (by funext a; fin_cases a <;> rfl), pay60, outB_at]
  exact col_at m c t r j n hn 928 slices_S512x2048_o0_1024_S512x512 (by decide) (by decide)

theorem at15 (c : Dev nD) (t : Fin cfg0.N) (r : Fin 512) (j : Fin 512) (n : Fin 65536) (hn : n.val = t.val * 512 + r.val) :
    out0_15 (F := Ideal) (iblk m c 0 t) (iblk m c 1 t) (iblk m c 2 t) (iblk m c 3 t) (iblk m c 4 t) (iblk m c 5 t) (iblk m c 6 t) (iblk m c 7 t) (iblk m c 8 t) (ix2 r j) = outB 1440 (by decide) (m ((c : Thread nD τ).loc main_arg0)) (m ((c : Thread nD τ).loc main_arg1)) (m ((c : Thread nD τ).loc main_arg2)) (ix2 n j) := by
  unfold out0_15
  rw [View.canon_unit_zero (by funext a; fin_cases a <;> rfl), pay60, outB_at]
  exact col_at m c t r j n hn 1440 slices_S512x2048_o0_1536_S512x512 (by decide) (by decide)

theorem at16 (c : Dev nD) (t : Fin cfg0.N) (r : Fin 512) (j : Fin 512) (n : Fin 65536) (hn : n.val = t.val * 512 + r.val) :
    out0_16 (F := Ideal) (iblk m c 0 t) (iblk m c 1 t) (iblk m c 2 t) (iblk m c 3 t) (iblk m c 4 t) (iblk m c 5 t) (iblk m c 6 t) (iblk m c 7 t) (iblk m c 8 t) (ix2 r j) = outF 928 (by decide) (m ((c : Thread nD τ).loc main_arg0)) (m ((c : Thread nD τ).loc main_arg1)) (m ((c : Thread nD τ).loc main_arg2)) (ix2 n j) := by
  unfold out0_16
  rw [View.canon_unit_zero (by funext a; fin_cases a <;> rfl), pay60, outF_at]
  exact col_at m c t r j n hn 928 slices_S512x2048_o0_1024_S512x512 (by decide) (by decide)

theorem at17 (c : Dev nD) (t : Fin cfg0.N) (r : Fin 512) (j : Fin 512) (n : Fin 65536) (hn : n.val = t.val * 512 + r.val) :
    out0_17 (F := Ideal) (iblk m c 0 t) (iblk m c 1 t) (iblk m c 2 t) (iblk m c 3 t) (iblk m c 4 t) (iblk m c 5 t) (iblk m c 6 t) (iblk m c 7 t) (iblk m c 8 t) (ix2 r j) = outF 1440 (by decide) (m ((c : Thread nD τ).loc main_arg0)) (m ((c : Thread nD τ).loc main_arg1)) (m ((c : Thread nD τ).loc main_arg2)) (ix2 n j) := by
  unfold out0_17
  rw [View.canon_unit_zero (by funext a; fin_cases a <;> rfl), pay60, outF_at]
  exact col_at m c t r j n hn 1440 slices_S512x2048_o0_1536_S512x512 (by decide) (by decide)

/-- The result arrays of the call. -/
theorem final9 (c : Dev nD) : (dats (F := Ideal) m 0 c).arrAt 9 cfg0.N = outQ (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (dats (F := Ideal) m 0 c).arrAt_eq_of_covers 9 _ (by decide +kernel) fun t hf y => ?_
  rw [after0_9]
  idx_vars y
  have ht : t.val < 128 := N_0 ▸ t.isLt
  have h := at9 m c t y0 y1 y2 ⟨t.val * 512 + y1.val, by omega⟩ rfl
  erw [emb9 t y0 y1 y2]
  generalize outQ (m (c.tc.loc main_arg0)) (m (c.tc.loc main_arg1)) (m (c.tc.loc main_arg2)) (m (c.tc.loc main_arg3)) (m (c.tc.loc main_arg5)) (m (c.tc.loc main_arg6)) = G at h ⊢
  generalize out0_9 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final10 (c : Dev nD) : (dats (F := Ideal) m 0 c).arrAt 10 cfg0.N = outK (m ((c : Thread nD τ).loc main_arg0)) (m ((c : Thread nD τ).loc main_arg1)) (m ((c : Thread nD τ).loc main_arg2)) (m ((c : Thread nD τ).loc main_arg4)) := by
  refine (dats (F := Ideal) m 0 c).arrAt_eq_of_covers 10 _ (by decide +kernel) fun t hf y => ?_
  rw [after0_10]
  idx_vars y
  have ht : t.val < 128 := N_0 ▸ t.isLt
  have h := at10 m c t y0 y1 ⟨t.val * 512 + y0.val, by omega⟩ rfl
  erw [emb10 t y0 y1]
  generalize outK (m (c.tc.loc main_arg0)) (m (c.tc.loc main_arg1)) (m (c.tc.loc main_arg2)) (m (c.tc.loc main_arg4)) = G at h ⊢
  generalize out0_10 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final11 (c : Dev nD) : (dats (F := Ideal) m 0 c).arrAt 11 cfg0.N = outC (m ((c : Thread nD τ).loc main_arg0)) (m ((c : Thread nD τ).loc main_arg1)) (m ((c : Thread nD τ).loc main_arg2)) (m ((c : Thread nD τ).loc main_arg4)) := by
  refine (dats (F := Ideal) m 0 c).arrAt_eq_of_covers 11 _ (by decide +kernel) fun t hf y => ?_
  rw [after0_11]
  idx_vars y
  have ht : t.val < 128 := N_0 ▸ t.isLt
  have h := at11 m c t y0 y1 ⟨t.val * 512 + y0.val, by omega⟩ rfl
  erw [emb11 t y0 y1]
  generalize outC (m (c.tc.loc main_arg0)) (m (c.tc.loc main_arg1)) (m (c.tc.loc main_arg2)) (m (c.tc.loc main_arg4)) = G at h ⊢
  generalize out0_11 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final12 (c : Dev nD) : (dats (F := Ideal) m 0 c).arrAt 12 cfg0.N = outR (m ((c : Thread nD τ).loc main_arg0)) (m ((c : Thread nD τ).loc main_arg1)) (m ((c : Thread nD τ).loc main_arg2)) := by
  refine (dats (F := Ideal) m 0 c).arrAt_eq_of_covers 12 _ (by decide +kernel) fun t hf y => ?_
  rw [after0_12]
  idx_vars y
  have ht : t.val < 128 := N_0 ▸ t.isLt
  have h := at12 m c t y0 y1 ⟨t.val * 512 + y0.val, by omega⟩ rfl
  erw [emb12 t y0 y1]
  generalize outR (m (c.tc.loc main_arg0)) (m (c.tc.loc main_arg1)) (m (c.tc.loc main_arg2)) = G at h ⊢
  generalize out0_12 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final13 (c : Dev nD) : (dats (F := Ideal) m 0 c).arrAt 13 cfg0.N = outB 416 (by decide) (m ((c : Thread nD τ).loc main_arg0)) (m ((c : Thread nD τ).loc main_arg1)) (m ((c : Thread nD τ).loc main_arg2)) := by
  refine (dats (F := Ideal) m 0 c).arrAt_eq_of_covers 13 _ (by decide +kernel) fun t hf y => ?_
  rw [after0_13]
  idx_vars y
  have ht : t.val < 128 := N_0 ▸ t.isLt
  have h := at13 m c t y0 y1 ⟨t.val * 512 + y0.val, by omega⟩ rfl
  erw [emb13 t y0 y1]
  generalize outB 416 (by decide) (m (c.tc.loc main_arg0)) (m (c.tc.loc main_arg1)) (m (c.tc.loc main_arg2)) = G at h ⊢
  generalize out0_13 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final14 (c : Dev nD) : (dats (F := Ideal) m 0 c).arrAt 14 cfg0.N = outB 928 (by decide) (m ((c : Thread nD τ).loc main_arg0)) (m ((c : Thread nD τ).loc main_arg1)) (m ((c : Thread nD τ).loc main_arg2)) := by
  refine (dats (F := Ideal) m 0 c).arrAt_eq_of_covers 14 _ (by decide +kernel) fun t hf y => ?_
  rw [after0_14]
  idx_vars y
  have ht : t.val < 128 := N_0 ▸ t.isLt
  have h := at14 m c t y0 y1 ⟨t.val * 512 + y0.val, by omega⟩ rfl
  erw [emb14 t y0 y1]
  generalize outB 928 (by decide) (m (c.tc.loc main_arg0)) (m (c.tc.loc main_arg1)) (m (c.tc.loc main_arg2)) = G at h ⊢
  generalize out0_14 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final15 (c : Dev nD) : (dats (F := Ideal) m 0 c).arrAt 15 cfg0.N = outB 1440 (by decide) (m ((c : Thread nD τ).loc main_arg0)) (m ((c : Thread nD τ).loc main_arg1)) (m ((c : Thread nD τ).loc main_arg2)) := by
  refine (dats (F := Ideal) m 0 c).arrAt_eq_of_covers 15 _ (by decide +kernel) fun t hf y => ?_
  rw [after0_15]
  idx_vars y
  have ht : t.val < 128 := N_0 ▸ t.isLt
  have h := at15 m c t y0 y1 ⟨t.val * 512 + y0.val, by omega⟩ rfl
  erw [emb15 t y0 y1]
  generalize outB 1440 (by decide) (m (c.tc.loc main_arg0)) (m (c.tc.loc main_arg1)) (m (c.tc.loc main_arg2)) = G at h ⊢
  generalize out0_15 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final16 (c : Dev nD) : (dats (F := Ideal) m 0 c).arrAt 16 cfg0.N = outF 928 (by decide) (m ((c : Thread nD τ).loc main_arg0)) (m ((c : Thread nD τ).loc main_arg1)) (m ((c : Thread nD τ).loc main_arg2)) := by
  refine (dats (F := Ideal) m 0 c).arrAt_eq_of_covers 16 _ (by decide +kernel) fun t hf y => ?_
  rw [after0_16]
  idx_vars y
  have ht : t.val < 128 := N_0 ▸ t.isLt
  have h := at16 m c t y0 y1 ⟨t.val * 512 + y0.val, by omega⟩ rfl
  erw [emb16 t y0 y1]
  generalize outF 928 (by decide) (m (c.tc.loc main_arg0)) (m (c.tc.loc main_arg1)) (m (c.tc.loc main_arg2)) = G at h ⊢
  generalize out0_16 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final17 (c : Dev nD) : (dats (F := Ideal) m 0 c).arrAt 17 cfg0.N = outF 1440 (by decide) (m ((c : Thread nD τ).loc main_arg0)) (m ((c : Thread nD τ).loc main_arg1)) (m ((c : Thread nD τ).loc main_arg2)) := by
  refine (dats (F := Ideal) m 0 c).arrAt_eq_of_covers 17 _ (by decide +kernel) fun t hf y => ?_
  rw [after0_17]
  idx_vars y
  have ht : t.val < 128 := N_0 ▸ t.isLt
  have h := at17 m c t y0 y1 ⟨t.val * 512 + y0.val, by omega⟩ rfl
  erw [emb17 t y0 y1]
  generalize outF 1440 (by decide) (m (c.tc.loc main_arg0)) (m (c.tc.loc main_arg1)) (m (c.tc.loc main_arg2)) = G at h ⊢
  generalize out0_17 (F := Ideal) (iblk m c 0 t) (iblk m c 1 t) (iblk m c 2 t) (iblk m c 3 t) (iblk m c 4 t) (iblk m c 5 t) (iblk m c 6 t) (iblk m c 7 t) (iblk m c 8 t) = O at h ⊢
  exact h

end Cert.EvenProjectIdeal.Closed

end
-- ==== Proof.EvenProjectReference.lean ====
/- The reference of the even layer's projection: its nine results read at an element, and its run with them at the projection. -/
module

public import proofs.«01_k».proof.Proof.Indices
public import proofs.«01_k».proof.Proof.FfnMath
public import proofs.«01_k».proof.Proof.EvenProjectMath
public import proofs.«01_k».proof.Proof.EvenProjectArrays
public import proofs.«01_k».proof.Proof.Gen.EvenProjectReferenceIdeal.Run
public import Idealize.ShloMosaic.Lib.Pipeline.ValueKit
public import Idealize.ShloMosaic.Lib.KernelVsHost
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.EvenProjectReferenceIdeal.Closed

open Cert.EvenProjectReferenceIdeal Cert.EvenProjectReferenceIdeal.Gen Cert.Indices Cert.FfnMath Cert.EvenProjectMath
open Cert.EvenProjectIdeal.Closed (products cosR sinR cosT sinT outQ outK outC outR outB outF outQ_at outK_at outC_at outR_at outB_at outF_at)

/-- The reference's normalised rows. -/
abbrev N (x : Vec Ideal S32x2048x1024 .f32) (g : Vec Ideal S1024 .f32) : FVec Ideal S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))

/-- The reference's products. -/
abbrev P (n : Vec Ideal S32x2048x1024 .f32) (w : Vec Ideal S1024x1952 .f32) : Vec Ideal S32x2048x1952 .f32 :=
  Host.dotGeneral (F := Ideal) (φ₁ := .f32) (φ₂ := .f32) dot_S32x2048x1024_S1024x1952_S32x2048x1952_2_0_01_1_n_n none n w

/-- The products' parts: query latents, latents, positional keys, and 512 columns from `o`. -/
abbrev partQ (p : Vec Ideal S32x2048x1952 .f32) : FVec Ideal S32x2048x256 .f32 := extractStridedSlice S32x2048x256 ![0, 0, 0] p slices_S32x2048x1952_S32x2048x256_0_0_0
abbrev partC (p : Vec Ideal S32x2048x1952 .f32) : FVec Ideal S32x2048x128 .f32 := extractStridedSlice S32x2048x128 ![0, 0, 256] p slices_S32x2048x1952_S32x2048x128_0_0_256
abbrev partR (p : Vec Ideal S32x2048x1952 .f32) : FVec Ideal S32x2048x32 .f32 := extractStridedSlice S32x2048x32 ![0, 0, 384] p slices_S32x2048x1952_S32x2048x32_0_0_384
abbrev partB (o : ℕ) (h : S32x2048x1952.Slices ![0, 0, o] S32x2048x512) (p : Vec Ideal S32x2048x1952 .f32) : FVec Ideal S65536x512 .f32 :=
  shapeCast S65536x512 (extractStridedSlice S32x2048x512 ![0, 0, o] p h) shapeCasts_S32x2048x512_S65536x512

/-- The normalised query latents and latents. -/
abbrev NQ (z : FVec Ideal S32x2048x256 .f32) (g : Vec Ideal S256 .f32) : FVec Ideal S32x2048x256 .f32 :=
  mulf (mulf z (broadcastInDim S32x2048x256 ![0, 1, 2] bcast_S32x2048x1_S32x2048x256_0_1_2 (Host.rsqrt (addf (Host.divf (broadcastInDim S32x2048x1 ![0, 1] bcast_S32x2048_S32x2048x1_0_1 (Host.reduceAdd (mulf z z) (constant S_ .f32 0x00000000#32) reducesTo_S32x2048x256_S32x2048_d2 h_S_)) (broadcastInDim S32x2048x1 ![] bcast_S_S32x2048x1 (constant S_ .f32 0x43800000#32))) (broadcastInDim S32x2048x1 ![] bcast_S_S32x2048x1 (constant S_ .f32 0x358637BD#32)))))) (broadcastInDim S32x2048x256 ![0, 1, 2] bcast_S1x1x256_S32x2048x256_0_1_2 (broadcastInDim S1x1x256 ![2] bcast_S256_S1x1x256_2 g))
abbrev NC (z : FVec Ideal S32x2048x128 .f32) (g : Vec Ideal S128 .f32) : FVec Ideal S32x2048x128 .f32 :=
  mulf (mulf z (broadcastInDim S32x2048x128 ![0, 1, 2] bcast_S32x2048x1_S32x2048x128_0_1_2 (Host.rsqrt (addf (Host.divf (broadcastInDim S32x2048x1 ![0, 1] bcast_S32x2048_S32x2048x1_0_1 (Host.reduceAdd (mulf z z) (constant S_ .f32 0x00000000#32) reducesTo_S32x2048x128_S32x2048_d2 h_S_)) (broadcastInDim S32x2048x1 ![] bcast_S_S32x2048x1 (constant S_ .f32 0x43000000#32))) (broadcastInDim S32x2048x1 ![] bcast_S_S32x2048x1 (constant S_ .f32 0x358637BD#32)))))) (broadcastInDim S32x2048x128 ![0, 1, 2] bcast_S1x1x128_S32x2048x128_0_1_2 (broadcastInDim S1x1x128 ![2] bcast_S128_S1x1x128_2 g))

/-- The heads' queries. -/
abbrev Q (n : FVec Ideal S32x2048x256 .f32) (u : Vec Ideal S256x8x96 .f32) : FVec Ideal S32x2048x8x96 .f32 :=
  Host.dotGeneral (F := Ideal) (φ₁ := .f32) (φ₂ := .f32) dot_S32x2048x256_S256x8x96_S32x2048x8x96_2_0_01_12_n_n none n u

/-- The heads' queries taken to the latents. -/
abbrev QL (q : FVec Ideal S32x2048x8x96 .f32) (k : Vec Ideal S128x8x64 .f32) : FVec Ideal S32x2048x8x128 .f32 :=
  transpose S32x2048x8x128 [2, 3, 0, 1] (Host.dotGeneral (F := Ideal) (φ₁ := .f32) (φ₂ := .f32) dot_S128x8x64_S32x2048x8x64_S8x128x32x2048_2_3_0_01_1_2 none k (extractStridedSlice S32x2048x8x64 ![0, 0, 0, 0] q slices_S32x2048x8x96_S32x2048x8x64_0_0_0_0)) transposes_S8x128x32x2048_S32x2048x8x128_2_3_0_1

/-- The heads' positional lanes. -/
abbrev QR (q : FVec Ideal S32x2048x8x96 .f32) : FVec Ideal S32x2048x8x32 .f32 :=
  extractStridedSlice S32x2048x8x32 ![0, 0, 0, 64] q slices_S32x2048x8x96_S32x2048x8x32_0_0_0_64

/-- Parts rotated by position: the heads' and the key's. -/
abbrev T8 (q : FVec Ideal S32x2048x8x32 .f32) (c s : FVec Ideal S2048x16 .f32) : FVec Ideal S32x2048x8x32 .f32 :=
  concatenate S32x2048x8x32 3 [⟨S32x2048x8x16, (subf (mulf (extractStridedSlice S32x2048x8x16 ![0, 0, 0, 0] q slices_S32x2048x8x32_S32x2048x8x16_0_0_0_0) (broadcastInDim S32x2048x8x16 ![0, 1, 2, 3] bcast_S1x2048x1x16_S32x2048x8x16_0_1_2_3 (broadcastInDim S1x2048x1x16 ![1, 2, 3] bcast_S2048x1x16_S1x2048x1x16_1_2_3 (broadcastInDim S2048x1x16 ![0, 2] bcast_S2048x16_S2048x1x16_0_2 c)))) (mulf (extractStridedSlice S32x2048x8x16 ![0, 0, 0, 16] q slices_S32x2048x8x32_S32x2048x8x16_0_0_0_16) (broadcastInDim S32x2048x8x16 ![0, 1, 2, 3] bcast_S1x2048x1x16_S32x2048x8x16_0_1_2_3 (broadcastInDim S1x2048x1x16 ![1, 2, 3] bcast_S2048x1x16_S1x2048x1x16_1_2_3 (broadcastInDim S2048x1x16 ![0, 2] bcast_S2048x16_S2048x1x16_0_2 s)))))⟩,
    ⟨S32x2048x8x16, (addf (mulf (extractStridedSlice S32x2048x8x16 ![0, 0, 0, 16] q slices_S32x2048x8x32_S32x2048x8x16_0_0_0_16) (broadcastInDim S32x2048x8x16 ![0, 1, 2, 3] bcast_S1x2048x1x16_S32x2048x8x16_0_1_2_3 (broadcastInDim S1x2048x1x16 ![1, 2, 3] bcast_S2048x1x16_S1x2048x1x16_1_2_3 (broadcastInDim S2048x1x16 ![0, 2] bcast_S2048x16_S2048x1x16_0_2 c)))) (mulf (extractStridedSlice S32x2048x8x16 ![0, 0, 0, 0] q slices_S32x2048x8x32_S32x2048x8x16_0_0_0_0) (broadcastInDim S32x2048x8x16 ![0, 1, 2, 3] bcast_S1x2048x1x16_S32x2048x8x16_0_1_2_3 (broadcastInDim S1x2048x1x16 ![1, 2, 3] bcast_S2048x1x16_S1x2048x1x16_1_2_3 (broadcastInDim S2048x1x16 ![0, 2] bcast_S2048x16_S2048x1x16_0_2 s)))))⟩] concatenates_S32x2048x8x16_S32x2048x8x16_S32x2048x8x32_d3
abbrev T1 (q : FVec Ideal S32x2048x1x32 .f32) (c s : FVec Ideal S2048x16 .f32) : FVec Ideal S32x2048x1x32 .f32 :=
  concatenate S32x2048x1x32 3 [⟨S32x2048x1x16, (subf (mulf (extractStridedSlice S32x2048x1x16 ![0, 0, 0, 0] q slices_S32x2048x1x32_S32x2048x1x16_0_0_0_0) (broadcastInDim S32x2048x1x16 ![0, 1, 2, 3] bcast_S1x2048x1x16_S32x2048x1x16_0_1_2_3 (broadcastInDim S1x2048x1x16 ![1, 2, 3] bcast_S2048x1x16_S1x2048x1x16_1_2_3 (broadcastInDim S2048x1x16 ![0, 2] bcast_S2048x16_S2048x1x16_0_2 c)))) (mulf (extractStridedSlice S32x2048x1x16 ![0, 0, 0, 16] q slices_S32x2048x1x32_S32x2048x1x16_0_0_0_16) (broadcastInDim S32x2048x1x16 ![0, 1, 2, 3] bcast_S1x2048x1x16_S32x2048x1x16_0_1_2_3 (broadcastInDim S1x2048x1x16 ![1, 2, 3] bcast_S2048x1x16_S1x2048x1x16_1_2_3 (broadcastInDim S2048x1x16 ![0, 2] bcast_S2048x16_S2048x1x16_0_2 s)))))⟩,
    ⟨S32x2048x1x16, (addf (mulf (extractStridedSlice S32x2048x1x16 ![0, 0, 0, 16] q slices_S32x2048x1x32_S32x2048x1x16_0_0_0_16) (broadcastInDim S32x2048x1x16 ![0, 1, 2, 3] bcast_S1x2048x1x16_S32x2048x1x16_0_1_2_3 (broadcastInDim S1x2048x1x16 ![1, 2, 3] bcast_S2048x1x16_S1x2048x1x16_1_2_3 (broadcastInDim S2048x1x16 ![0, 2] bcast_S2048x16_S2048x1x16_0_2 c)))) (mulf (extractStridedSlice S32x2048x1x16 ![0, 0, 0, 0] q slices_S32x2048x1x32_S32x2048x1x16_0_0_0_0) (broadcastInDim S32x2048x1x16 ![0, 1, 2, 3] bcast_S1x2048x1x16_S32x2048x1x16_0_1_2_3 (broadcastInDim S1x2048x1x16 ![1, 2, 3] bcast_S2048x1x16_S1x2048x1x16_1_2_3 (broadcastInDim S2048x1x16 ![0, 2] bcast_S2048x16_S2048x1x16_0_2 s)))))⟩] concatenates_S32x2048x1x16_S32x2048x1x16_S32x2048x1x32_d3

/-- The rotated positional keys. -/
abbrev KR (r : FVec Ideal S32x2048x32 .f32) (c s : FVec Ideal S2048x16 .f32) : FVec Ideal S32x2048x32 .f32 :=
  shapeCast S32x2048x32 (T1 (broadcastInDim S32x2048x1x32 ![0, 1, 3] bcast_S32x2048x32_S32x2048x1x32_0_1_3 r) c s) shapeCasts_S32x2048x1x32_S32x2048x32

/-- Latent and rotated parts side by side, with lanes of zeros. -/
abbrev W8 (l : FVec Ideal S32x2048x8x128 .f32) (r : FVec Ideal S32x2048x8x32 .f32) : FVec Ideal S32x2048x8x256 .f32 :=
  pad S32x2048x8x256 ![0, 0, 0, 0] ![0, 0, 0, 96] ![0, 0, 0, 0] (concatenate S32x2048x8x160 3 [⟨S32x2048x8x128, l⟩, ⟨S32x2048x8x32, r⟩] concatenates_S32x2048x8x128_S32x2048x8x32_S32x2048x8x160_d3) (sitofp (F := Ideal) .f32 (constantI S_ 32 0#32)) pads_S32x2048x8x160_S32x2048x8x256_000_000_000_0960 h_S_
abbrev W1 (l : FVec Ideal S32x2048x128 .f32) (r : FVec Ideal S32x2048x32 .f32) : FVec Ideal S32x2048x256 .f32 :=
  pad S32x2048x256 ![0, 0, 0] ![0, 0, 96] ![0, 0, 0] (concatenate S32x2048x160 2 [⟨S32x2048x128, l⟩, ⟨S32x2048x32, r⟩] concatenates_S32x2048x128_S32x2048x32_S32x2048x160_d2) (sitofp (F := Ideal) .f32 (constantI S_ 32 0#32)) pads_S32x2048x160_S32x2048x256_000_000_0960 h_S_

/-- Packed queries and keys as rows of all batches. -/
abbrev F8 (a : FVec Ideal S32x2048x8x256 .f32) : FVec Ideal S8x65536x256 .bf16 :=
  truncf .bf16 (shapeCast S8x65536x256 (transpose S8x32x2048x256 [2, 0, 1, 3] a transposes_S32x2048x8x256_S8x32x2048x256_2_0_1_3) shapeCasts_S8x32x2048x256_S8x65536x256) bitsLt_bf16_f32
abbrev F1 (a : FVec Ideal S32x2048x256 .f32) : FVec Ideal S65536x256 .bf16 :=
  truncf .bf16 (shapeCast S65536x256 a shapeCasts_S32x2048x256_S65536x256) bitsLt_bf16_f32

theorem norm_at (x : Vec Ideal S32x2048x1024 .f32) (g : Vec Ideal S1024 .f32) (b : Fin 32) (s : Fin 2048) (k : Fin 1024) :
    N x g (ix3 b s k) = rnorm (fun k => x (ix3 b s k)) (fun k => g (ix1 k)) k := by
  unfold N rnorm
  pointwise

theorem prod_at (n : Vec Ideal S32x2048x1024 .f32) (w : Vec Ideal S1024x1952 .f32) (b : Fin 32) (s : Fin 2048) (j : Fin 1952) :
    P n w (ix3 b s j) = ∑ k : Fin 1024, n (ix3 b s k) * w (ix2 k j) := by
  unfold P
  pointwise

/-- The reference's products at a row. -/
theorem products_at (x : Vec Ideal S32x2048x1024 .f32) (g : Vec Ideal S1024 .f32) (w : Vec Ideal S1024x1952 .f32) (n : Fin 65536) (j : Fin 1952) :
    P (N x g) w (ix3 ⟨n.val / 2048, by omega⟩ ⟨n.val % 2048, by omega⟩ j) = products x g w n j := by
  rw [prod_at]
  simp only [norm_at]
  rfl

theorem partQ_at (p : Vec Ideal S32x2048x1952 .f32) (b : Fin 32) (s : Fin 2048) (j : Fin 256) : partQ p (ix3 b s j) = p (ix3 b s ⟨j.val, by omega⟩) := by
  unfold partQ
  pointwise
theorem partC_at (p : Vec Ideal S32x2048x1952 .f32) (b : Fin 32) (s : Fin 2048) (j : Fin 128) : partC p (ix3 b s j) = p (ix3 b s ⟨256 + j.val, by omega⟩) := by
  unfold partC
  pointwise
theorem partR_at (p : Vec Ideal S32x2048x1952 .f32) (b : Fin 32) (s : Fin 2048) (j : Fin 32) : partR p (ix3 b s j) = p (ix3 b s ⟨384 + j.val, by omega⟩) := by
  unfold partR
  pointwise
theorem partB_at (o : ℕ) (h) (ho : o + 512 ≤ 1952) (p : Vec Ideal S32x2048x1952 .f32) (n : Fin 65536) (j : Fin 512) :
    partB o h p (ix2 n j) = p (ix3 ⟨n.val / 2048, by omega⟩ ⟨n.val % 2048, by omega⟩ ⟨o + j.val, by omega⟩) := by
  unfold partB
  pointwise

theorem nq_at (z : FVec Ideal S32x2048x256 .f32) (g : Vec Ideal S256 .f32) (b : Fin 32) (s : Fin 2048) (k : Fin 256) :
    NQ z g (ix3 b s k) = rms 0x43800000#32 (fun k => z (ix3 b s k)) (fun k => g (ix1 k)) k := by
  unfold NQ rms
  pointwise
theorem nc_at (z : FVec Ideal S32x2048x128 .f32) (g : Vec Ideal S128 .f32) (b : Fin 32) (s : Fin 2048) (k : Fin 128) :
    NC z g (ix3 b s k) = rms 0x43000000#32 (fun k => z (ix3 b s k)) (fun k => g (ix1 k)) k := by
  unfold NC rms
  pointwise

theorem q_at (n : FVec Ideal S32x2048x256 .f32) (u : Vec Ideal S256x8x96 .f32) (b : Fin 32) (s : Fin 2048) (h : Fin 8) (e : Fin 96) :
    Q n u (ix4 b s h e) = query (fun r => n (ix3 b s r)) (fun r h e => u (ix3 r h e)) h e := by
  unfold Q query
  pointwise

theorem ql_at (q : FVec Ideal S32x2048x8x96 .f32) (k : Vec Ideal S128x8x64 .f32) (b : Fin 32) (s : Fin 2048) (h : Fin 8) (j : Fin 128) :
    QL q k (ix4 b s h j) = ∑ n : Fin 64, q (ix4 b s h ⟨n.val, by omega⟩) * k (ix3 j h n) := by
  unfold QL
  pointwise
  exact Finset.sum_congr rfl fun n _ => mul_comm _ _

theorem qr_at (q : FVec Ideal S32x2048x8x96 .f32) (b : Fin 32) (s : Fin 2048) (h : Fin 8) (l : Fin 32) :
    QR q (ix4 b s h l) = q (ix4 b s h ⟨64 + l.val, by omega⟩) := by
  unfold QR
  pointwise

theorem turn8_at (q : FVec Ideal S32x2048x8x32 .f32) (c s : FVec Ideal S2048x16 .f32) (b : Fin 32) (n : Fin 2048) (h : Fin 8) (e : Fin 32) :
    T8 q c s (ix4 b n h e) = turn (fun l => c (ix2 n l)) (fun l => s (ix2 n l)) (fun l => q (ix4 b n h l)) e := by
  unfold T8 turn
  pointwise
  by_cases l : e.val < 16
  · rw [dif_pos l, dif_pos l, sub_eq_add_neg, ← mul_neg]
    refine congrArg₂ (· + ·) (congrArg₂ (· * ·) (congrArg q (ix4_congr rfl rfl rfl rfl)) (congrArg c (ix2_congr rfl (by dsimp only; omega))))
      (congrArg₂ (· * ·) (congrArg q (ix4_congr rfl rfl rfl (by dsimp only; omega))) (congrArg (fun a => -a) (congrArg s (ix2_congr rfl (by dsimp only; omega)))))
  · rw [dif_neg l, dif_neg l]
    refine congrArg₂ (· + ·) (congrArg₂ (· * ·) (congrArg q (ix4_congr rfl rfl rfl (by dsimp only; omega))) (congrArg c (ix2_congr rfl (by dsimp only; omega))))
      (congrArg₂ (· * ·) (congrArg q (ix4_congr rfl rfl rfl rfl)) (congrArg s (ix2_congr rfl (by dsimp only; omega))))

theorem turn1_at (q : FVec Ideal S32x2048x1x32 .f32) (c s : FVec Ideal S2048x16 .f32) (b : Fin 32) (n : Fin 2048) (h : Fin 1) (e : Fin 32) :
    T1 q c s (ix4 b n h e) = turn (fun l => c (ix2 n l)) (fun l => s (ix2 n l)) (fun l => q (ix4 b n h l)) e := by
  obtain rfl : h = 0 := Subsingleton.elim _ _
  unfold T1 turn
  pointwise
  by_cases l : e.val < 16
  · rw [dif_pos l, dif_pos l, sub_eq_add_neg, ← mul_neg]
    refine congrArg₂ (· + ·) (congrArg₂ (· * ·) (congrArg q (ix4_congr rfl rfl rfl rfl)) (congrArg c (ix2_congr rfl (by dsimp only; omega))))
      (congrArg₂ (· * ·) (congrArg q (ix4_congr rfl rfl rfl (by dsimp only; omega))) (congrArg (fun a => -a) (congrArg s (ix2_congr rfl (by dsimp only; omega)))))
  · rw [dif_neg l, dif_neg l]
    refine congrArg₂ (· + ·) (congrArg₂ (· * ·) (congrArg q (ix4_congr rfl rfl rfl (by dsimp only; omega))) (congrArg c (ix2_congr rfl (by dsimp only; omega))))
      (congrArg₂ (· * ·) (congrArg q (ix4_congr rfl rfl rfl rfl)) (congrArg s (ix2_congr rfl (by dsimp only; omega))))

theorem spread_at (r : FVec Ideal S32x2048x32 .f32) (b : Fin 32) (s : Fin 2048) (h : Fin 1) (l : Fin 32) :
    broadcastInDim S32x2048x1x32 ![0, 1, 3] bcast_S32x2048x32_S32x2048x1x32_0_1_3 r (ix4 b s h l) = r (ix3 b s l) := by
  pointwise

theorem drop_at (r : FVec Ideal S32x2048x1x32 .f32) (b : Fin 32) (s : Fin 2048) (l : Fin 32) :
    shapeCast S32x2048x32 r shapeCasts_S32x2048x1x32_S32x2048x32 (ix3 b s l) = r (ix4 b s 0 l) := by
  pointwise

theorem kr_at (r : FVec Ideal S32x2048x32 .f32) (c s : FVec Ideal S2048x16 .f32) (b : Fin 32) (n : Fin 2048) (l : Fin 32) :
    KR r c s (ix3 b n l) = turn (fun l => c (ix2 n l)) (fun l => s (ix2 n l)) (fun l => r (ix3 b n l)) l := by
  unfold KR
  rw [drop_at, turn1_at]
  exact congrArg (fun f => turn _ _ f l) (funext fun l => spread_at r b n 0 l)

theorem cat8_at (l : FVec Ideal S32x2048x8x128 .f32) (r : FVec Ideal S32x2048x8x32 .f32) (b : Fin 32) (s : Fin 2048) (h : Fin 8) (e : Fin 160) :
    concatenate S32x2048x8x160 3 [⟨S32x2048x8x128, l⟩, ⟨S32x2048x8x32, r⟩] concatenates_S32x2048x8x128_S32x2048x8x32_S32x2048x8x160_d3 (ix4 b s h e)
      = if he : e.val < 128 then l (ix4 b s h ⟨e.val, he⟩) else r (ix4 b s h ⟨e.val - 128, by omega⟩) := by
  pointwise
theorem cat1_at (l : FVec Ideal S32x2048x128 .f32) (r : FVec Ideal S32x2048x32 .f32) (b : Fin 32) (s : Fin 2048) (e : Fin 160) :
    concatenate S32x2048x160 2 [⟨S32x2048x128, l⟩, ⟨S32x2048x32, r⟩] concatenates_S32x2048x128_S32x2048x32_S32x2048x160_d2 (ix3 b s e)
      = if he : e.val < 128 then l (ix3 b s ⟨e.val, he⟩) else r (ix3 b s ⟨e.val - 128, by omega⟩) := by
  pointwise

theorem w8_at (l : FVec Ideal S32x2048x8x128 .f32) (r : FVec Ideal S32x2048x8x32 .f32) (b : Fin 32) (s : Fin 2048) (h : Fin 8) (j : Fin 256) :
    W8 l r (ix4 b s h j) = if hj : j.val < 128 then l (ix4 b s h ⟨j.val, hj⟩) else if hj' : j.val < 160 then r (ix4 b s h ⟨j.val - 128, by omega⟩) else 0 := by
  unfold W8
  by_cases hj' : j.val < 160
  · rw [pad_apply_of_inside _ _ _ _ _ _ _ _ (ix4 b s h (⟨j.val, hj'⟩ : Fin 160)) (by intro a; fin_cases a <;> simp), cat8_at]
    by_cases hj : j.val < 128
    · rw [dif_pos hj, dif_pos hj]
    · rw [dif_neg hj, dif_neg hj, dif_pos hj']
  · rw [dif_neg (by omega), dif_neg hj', pad_apply_of_not_inside _ _ _ _ _ _ _ _ (3 : Fin 4) (by simp; omega)]
    exact sitofp_zero
theorem w1_at (l : FVec Ideal S32x2048x128 .f32) (r : FVec Ideal S32x2048x32 .f32) (b : Fin 32) (s : Fin 2048) (j : Fin 256) :
    W1 l r (ix3 b s j) = if hj : j.val < 128 then l (ix3 b s ⟨j.val, hj⟩) else if hj' : j.val < 160 then r (ix3 b s ⟨j.val - 128, by omega⟩) else 0 := by
  unfold W1
  by_cases hj' : j.val < 160
  · rw [pad_apply_of_inside _ _ _ _ _ _ _ _ (ix3 b s (⟨j.val, hj'⟩ : Fin 160)) (by intro a; fin_cases a <;> simp), cat1_at]
    by_cases hj : j.val < 128
    · rw [dif_pos hj, dif_pos hj]
    · rw [dif_neg hj, dif_neg hj, dif_pos hj']
  · rw [dif_neg (by omega), dif_neg hj', pad_apply_of_not_inside _ _ _ _ _ _ _ _ (2 : Fin 3) (by simp; omega)]
    exact sitofp_zero

theorem f8_at (a : FVec Ideal S32x2048x8x256 .f32) (h : Fin 8) (n : Fin 65536) (j : Fin 256) :
    F8 a (ix3 h n j) = a (ix4 ⟨n.val / 2048, by omega⟩ ⟨n.val % 2048, by omega⟩ h j) := by
  unfold F8
  pointwise
theorem f1_at (a : FVec Ideal S32x2048x256 .f32) (n : Fin 65536) (j : Fin 256) :
    F1 a (ix2 n j) = a (ix3 ⟨n.val / 2048, by omega⟩ ⟨n.val % 2048, by omega⟩ j) := by
  unfold F1
  pointwise
theorem rows128 (a : FVec Ideal S32x2048x128 .f32) (n : Fin 65536) (j : Fin 128) :
    shapeCast S65536x128 a shapeCasts_S32x2048x128_S65536x128 (ix2 n j) = a (ix3 ⟨n.val / 2048, by omega⟩ ⟨n.val % 2048, by omega⟩ j) := by
  pointwise
theorem rows32 (a : FVec Ideal S32x2048x32 .f32) (n : Fin 65536) (j : Fin 32) :
    shapeCast S65536x32 a shapeCasts_S32x2048x32_S65536x32 (ix2 n j) = a (ix3 ⟨n.val / 2048, by omega⟩ ⟨n.val % 2048, by omega⟩ j) := by
  pointwise

/-- The reference's packed queries. -/
theorem resultQ (x : Vec Ideal S32x2048x1024 .f32) (g : Vec Ideal S1024 .f32) (w : Vec Ideal S1024x1952 .f32) (gq : Vec Ideal S256 .f32) (uq : Vec Ideal S256x8x96 .f32) (uk : Vec Ideal S128x8x64 .f32) :
    F8 (W8 (QL (Q (NQ (partQ (P (N x g) w)) gq) uq) uk) (T8 (QR (Q (NQ (partQ (P (N x g) w)) gq) uq)) cosT sinT)) = outQ x g w gq uq uk := by
  funext i
  idx_vars i
  rw [f8_at, w8_at, outQ_at]
  unfold packedQ
  by_cases hj : i2.val < 128
  · rw [dif_pos hj, dif_pos hj, ql_at]
    unfold absorbed
    simp only [q_at, nq_at, partQ_at, products_at]
    rfl
  · rw [dif_neg hj, dif_neg hj]
    by_cases hj' : i2.val < 160
    · rw [dif_pos hj', dif_pos hj', turn8_at]
      simp only [qr_at, q_at, nq_at, partQ_at, products_at]
      rfl
    · rw [dif_neg hj', dif_neg hj']

/-- The reference's packed keys. -/
theorem resultK (x : Vec Ideal S32x2048x1024 .f32) (g : Vec Ideal S1024 .f32) (w : Vec Ideal S1024x1952 .f32) (gkv : Vec Ideal S128 .f32) :
    F1 (W1 (NC (partC (P (N x g) w)) gkv) (KR (partR (P (N x g) w)) cosT sinT)) = outK x g w gkv := by
  funext i
  idx_vars i
  rw [f1_at, w1_at, outK_at]
  unfold packedK
  by_cases hj : i1.val < 128
  · rw [dif_pos hj, dif_pos hj, nc_at]
    simp only [partC_at, products_at]
    rfl
  · rw [dif_neg hj, dif_neg hj]
    by_cases hj' : i1.val < 160
    · rw [dif_pos hj', dif_pos hj', kr_at]
      simp only [partR_at, products_at]
      rfl
    · rw [dif_neg hj', dif_neg hj']

theorem resultC (x : Vec Ideal S32x2048x1024 .f32) (g : Vec Ideal S1024 .f32) (w : Vec Ideal S1024x1952 .f32) (gkv : Vec Ideal S128 .f32) :
    shapeCast S65536x128 (NC (partC (P (N x g) w)) gkv) shapeCasts_S32x2048x128_S65536x128 = outC x g w gkv := by
  funext i
  idx_vars i
  rw [rows128, outC_at, nc_at]
  simp only [partC_at, products_at]
  rfl

theorem resultR (x : Vec Ideal S32x2048x1024 .f32) (g : Vec Ideal S1024 .f32) (w : Vec Ideal S1024x1952 .f32) :
    shapeCast S65536x32 (KR (partR (P (N x g) w)) cosT sinT) shapeCasts_S32x2048x32_S65536x32 = outR x g w := by
  funext i
  idx_vars i
  rw [rows32, outR_at, kr_at]
  simp only [partR_at, products_at]
  rfl

theorem resultF (o : ℕ) (h) (ho : o + 512 ≤ 1952) (x : Vec Ideal S32x2048x1024 .f32) (g : Vec Ideal S1024 .f32) (w : Vec Ideal S1024x1952 .f32) : partB o h (P (N x g) w) = outF o ho x g w := by
  funext i
  idx_vars i
  rw [partB_at o h ho, outF_at, products_at]

theorem resultB (o : ℕ) (h) (ho : o + 512 ≤ 1952) (x : Vec Ideal S32x2048x1024 .f32) (g : Vec Ideal S1024 .f32) (w : Vec Ideal S1024x1952 .f32) :
    (truncf .bf16 (partB o h (P (N x g) w)) bitsLt_bf16_f32 : FVec Ideal S65536x512 .bf16) = outB o ho x g w :=
  resultF o h ho x g w

/-- The reference's run with its results at the projection. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v126) = outQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v128) = outK (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v129) = outC (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v130) = outR (m ((c.tc : Thread nD τ).loc main_arg0)) (m ((c.tc : Thread nD τ).loc main_arg1)) (m ((c.tc : Thread nD τ).loc main_arg2))
      ∧ r.2.mem ((c.tc : Thread nD τ).loc main_v132) = outB 416 (by decide) (m ((c.tc : Thread nD τ).loc main_arg0)) (m ((c.tc : Thread nD τ).loc main_arg1)) (m ((c.tc : Thread nD τ).loc main_arg2))
      ∧ r.2.mem ((c.tc : Thread nD τ).loc main_v134) = outB 928 (by decide) (m ((c.tc : Thread nD τ).loc main_arg0)) (m ((c.tc : Thread nD τ).loc main_arg1)) (m ((c.tc : Thread nD τ).loc main_arg2))
      ∧ r.2.mem ((c.tc : Thread nD τ).loc main_v136) = outB 1440 (by decide) (m ((c.tc : Thread nD τ).loc main_arg0)) (m ((c.tc : Thread nD τ).loc main_arg1)) (m ((c.tc : Thread nD τ).loc main_arg2))
      ∧ r.2.mem ((c.tc : Thread nD τ).loc main_v137) = outF 928 (by decide) (m ((c.tc : Thread nD τ).loc main_arg0)) (m ((c.tc : Thread nD τ).loc main_arg1)) (m ((c.tc : Thread nD τ).loc main_arg2))
      ∧ r.2.mem ((c.tc : Thread nD τ).loc main_v138) = outF 1440 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Value.run (F := Ideal) m ρ)
  · unfold Value.res_main_v126
    exact resultQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
  · unfold Value.res_main_v128
    exact resultK (m ((c.tc : Thread nD τ).loc main_arg0)) (m ((c.tc : Thread nD τ).loc main_arg1)) (m ((c.tc : Thread nD τ).loc main_arg2)) (m ((c.tc : Thread nD τ).loc main_arg4))
  · exact resultC (m ((c.tc : Thread nD τ).loc main_arg0)) (m ((c.tc : Thread nD τ).loc main_arg1)) (m ((c.tc : Thread nD τ).loc main_arg2)) (m ((c.tc : Thread nD τ).loc main_arg4))
  · unfold Value.res_main_v130
    exact resultR (m ((c.tc : Thread nD τ).loc main_arg0)) (m ((c.tc : Thread nD τ).loc main_arg1)) (m ((c.tc : Thread nD τ).loc main_arg2))
  · exact resultB 416 slices_S32x2048x1952_S32x2048x512_0_0_416 (by decide) (m ((c.tc : Thread nD τ).loc main_arg0)) (m ((c.tc : Thread nD τ).loc main_arg1)) (m ((c.tc : Thread nD τ).loc main_arg2))
  · exact resultB 928 slices_S32x2048x1952_S32x2048x512_0_0_928 (by decide) (m ((c.tc : Thread nD τ).loc main_arg0)) (m ((c.tc : Thread nD τ).loc main_arg1)) (m ((c.tc : Thread nD τ).loc main_arg2))
  · exact resultB 1440 slices_S32x2048x1952_S32x2048x512_0_0_1440 (by decide) (m ((c.tc : Thread nD τ).loc main_arg0)) (m ((c.tc : Thread nD τ).loc main_arg1)) (m ((c.tc : Thread nD τ).loc main_arg2))
  · exact resultF 928 slices_S32x2048x1952_S32x2048x512_0_0_928 (by decide) (m ((c.tc : Thread nD τ).loc main_arg0)) (m ((c.tc : Thread nD τ).loc main_arg1)) (m ((c.tc : Thread nD τ).loc main_arg2))
  · exact resultF 1440 slices_S32x2048x1952_S32x2048x512_0_0_1440 (by decide) (m ((c.tc : Thread nD τ).loc main_arg0)) (m ((c.tc : Thread nD τ).loc main_arg1)) (m ((c.tc : Thread nD τ).loc main_arg2))

end Cert.EvenProjectReferenceIdeal.Closed

end
-- ==== Proof.ProjectionClaims.lean ====
/- The claims about the prompt's projections: each program and its reference end with the same results. -/
module

public import proofs.«01_k».proof.Defs
public import proofs.«01_k».proof.Proof.OddProjectValue
public import proofs.«01_k».proof.Proof.EvenProjectArrays
public import proofs.«01_k».proof.Proof.EvenProjectReference

@[expose] public section

noncomputable section

open Idealize.ShloMosaic Idealize.ShloMosaic.TcCoe Idealize.SL.Sem

namespace Cert.ProjectionClaims

/-- The odd layer's projection: its reference runs, ends with its arguments unchanged and every counter at zero. -/
theorem odd_reference_frame : Cert.quiescent_OddProjectReferenceIdeal := fun m ρ _ =>
  (θ_run Cert.OddProjectReferenceIdeal.defs _ _).mono (fun r h => ⟨fun c => (h c).2, Idealize.ShloMosaic.sem_eq_zero_of_no_sems (by decide) r.2⟩)
    (Cert.OddProjectReferenceIdeal.Value.run (F := Ideal) m ρ)

/-- The odd layer's projection and its reference end with equal results. -/
theorem odd : Cert.algebraic_OddProjectIdeal_OddProjectReferenceIdeal := fun m ρ m' ρ' _ hag =>
  ⟨fun c => Cert.OddProjectIdeal.Closed.out (m ((c.tc : Thread Cert.OddProjectIdeal.nD Cert.OddProjectIdeal.τ).loc Cert.OddProjectIdeal.main_arg0))
      (m ((c.tc : Thread Cert.OddProjectIdeal.nD Cert.OddProjectIdeal.τ).loc Cert.OddProjectIdeal.main_arg1)) (m ((c.tc : Thread Cert.OddProjectIdeal.nD Cert.OddProjectIdeal.τ).loc Cert.OddProjectIdeal.main_arg2)),
    (θ_run Cert.OddProjectIdeal.defs _ _).mono (fun _ h c => ⟨(h c).1.trans (Cert.OddProjectIdeal.Closed.final5 m c), (h c).2⟩) (Cert.OddProjectIdeal.Value.run_blocks (F := Ideal) m ρ),
    (θ_run Cert.OddProjectReferenceIdeal.defs _ _).mono (fun _ h c => ⟨(h c).1.trans (by
        obtain ⟨h0, h1, h2⟩ := hag c
        rw [h0, h1, h2]), (h c).2⟩) (Cert.OddProjectReferenceIdeal.Closed.run m' ρ')⟩

/-- The even layer's projection: its reference runs, ends with its arguments unchanged and every counter at zero. -/
theorem even_reference_frame : Cert.quiescent_EvenProjectReferenceIdeal := fun m ρ _ =>
  (θ_run Cert.EvenProjectReferenceIdeal.defs _ _).mono (fun r h => ⟨fun c => (h c).2.2.2.2.2.2.2.2.2, Idealize.ShloMosaic.sem_eq_zero_of_no_sems (by decide) r.2⟩)
    (Cert.EvenProjectReferenceIdeal.Value.run (F := Ideal) m ρ)

/-- The even layer's projection and its reference end with equal results. -/
theorem even : Cert.algebraic_EvenProjectIdeal_EvenProjectReferenceIdeal := fun m ρ m' ρ' _ hag =>
  ⟨fun c => Cert.EvenProjectIdeal.Closed.outQ (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1))
      (m ((c.tc : Thread Cert.EvenProjectIdeal.nD Cert.EvenProjectIdeal.τ).loc Cert.EvenProjectIdeal.main_arg2)) (m ((c.tc : Thread Cert.EvenProjectIdeal.nD Cert.EvenProjectIdeal.τ).loc Cert.EvenProjectIdeal.main_arg3))
      (m ((c.tc : Thread Cert.EvenProjectIdeal.nD Cert.EvenProjectIdeal.τ).loc Cert.EvenProjectIdeal.main_arg5)) (m ((c.tc : Thread Cert.EvenProjectIdeal.nD Cert.EvenProjectIdeal.τ).loc Cert.EvenProjectIdeal.main_arg6)),
    fun c => Cert.EvenProjectIdeal.Closed.outK (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1))
      (m ((c.tc : Thread Cert.EvenProjectIdeal.nD Cert.EvenProjectIdeal.τ).loc Cert.EvenProjectIdeal.main_arg2)) (m ((c.tc : Thread Cert.EvenProjectIdeal.nD Cert.EvenProjectIdeal.τ).loc Cert.EvenProjectIdeal.main_arg4)),
    fun c => Cert.EvenProjectIdeal.Closed.outC (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1))
      (m ((c.tc : Thread Cert.EvenProjectIdeal.nD Cert.EvenProjectIdeal.τ).loc Cert.EvenProjectIdeal.main_arg2)) (m ((c.tc : Thread Cert.EvenProjectIdeal.nD Cert.EvenProjectIdeal.τ).loc Cert.EvenProjectIdeal.main_arg4)),
    fun c => Cert.EvenProjectIdeal.Closed.outR (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1))
      (m ((c.tc : Thread Cert.EvenProjectIdeal.nD Cert.EvenProjectIdeal.τ).loc Cert.EvenProjectIdeal.main_arg2)),
    fun c => Cert.EvenProjectIdeal.Closed.outB 416 (by decide) (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1))
      (m ((c.tc : Thread Cert.EvenProjectIdeal.nD Cert.EvenProjectIdeal.τ).loc Cert.EvenProjectIdeal.main_arg2)),
    fun c => Cert.EvenProjectIdeal.Closed.outB 928 (by decide) (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1))
      (m ((c.tc : Thread Cert.EvenProjectIdeal.nD Cert.EvenProjectIdeal.τ).loc Cert.EvenProjectIdeal.main_arg2)),
    fun c => Cert.EvenProjectIdeal.Closed.outB 1440 (by decide) (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1))
      (m ((c.tc : Thread Cert.EvenProjectIdeal.nD Cert.EvenProjectIdeal.τ).loc Cert.EvenProjectIdeal.main_arg2)),
    fun c => Cert.EvenProjectIdeal.Closed.outF 928 (by decide) (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1))
      (m ((c.tc : Thread Cert.EvenProjectIdeal.nD Cert.EvenProjectIdeal.τ).loc Cert.EvenProjectIdeal.main_arg2)),
    fun c => Cert.EvenProjectIdeal.Closed.outF 1440 (by decide) (m ((c.tc : Thread Cert.EvenProjectIdeal.nD Cert.EvenProjectIdeal.τ).loc Cert.EvenProjectIdeal.main_arg0)) (m ((c.tc : Thread Cert.EvenProjectIdeal.nD Cert.EvenProjectIdeal.τ).loc Cert.EvenProjectIdeal.main_arg1))
      (m ((c.tc : Thread Cert.EvenProjectIdeal.nD Cert.EvenProjectIdeal.τ).loc Cert.EvenProjectIdeal.main_arg2)),
    (θ_run Cert.EvenProjectIdeal.defs _ _).mono (fun _ h c => ⟨(h c).1.trans (Cert.EvenProjectIdeal.Closed.final9 m c), (h c).2.1.trans (Cert.EvenProjectIdeal.Closed.final10 m c), (h c).2.2.1.trans (Cert.EvenProjectIdeal.Closed.final11 m c), (h c).2.2.2.1.trans (Cert.EvenProjectIdeal.Closed.final12 m c), (h c).2.2.2.2.1.trans (Cert.EvenProjectIdeal.Closed.final13 m c), (h c).2.2.2.2.2.1.trans (Cert.EvenProjectIdeal.Closed.final14 m c), (h c).2.2.2.2.2.2.1.trans (Cert.EvenProjectIdeal.Closed.final15 m c), (h c).2.2.2.2.2.2.2.1.trans (Cert.EvenProjectIdeal.Closed.final16 m c), (h c).2.2.2.2.2.2.2.2.1.trans (Cert.EvenProjectIdeal.Closed.final17 m c), (h c).2.2.2.2.2.2.2.2.2⟩)
      (Cert.EvenProjectIdeal.Value.run_blocks (F := Ideal) m ρ),
    (θ_run Cert.EvenProjectReferenceIdeal.defs _ _).mono (fun _ h c => by
      obtain ⟨h0, h1, h2, h3, h4, h5, h6⟩ := hag c
      exact ⟨(h c).1.trans (by rw [h0, h1, h2, h3, h5, h6]),
        (h c).2.1.trans (by rw [h0, h1, h2, h4]),
        (h c).2.2.1.trans (by rw [h0, h1, h2, h4]),
        (h c).2.2.2.1.trans (by rw [h0, h1, h2]),
        (h c).2.2.2.2.1.trans (by rw [h0, h1, h2]),
        (h c).2.2.2.2.2.1.trans (by rw [h0, h1, h2]),
        (h c).2.2.2.2.2.2.1.trans (by rw [h0, h1, h2]),
        (h c).2.2.2.2.2.2.2.1.trans (by rw [h0, h1, h2]),
        (h c).2.2.2.2.2.2.2.2.1.trans (by rw [h0, h1, h2]), (h c).2.2.2.2.2.2.2.2.2⟩) (Cert.EvenProjectReferenceIdeal.Closed.run m' ρ')⟩

end Cert.ProjectionClaims

end
-- ==== Proof.EvenOutputValue.lean ====
/- The values of the even layer's output projection: the heads' latents through the value weight, pair by pair, then the
   two halves of the heads' lanes through the output weight, with the residual, and the reference's result. -/
module

public import proofs.«01_k».proof.Proof.Indices
public import proofs.«01_k».proof.Proof.Gen.EvenOutputIdeal.Value
public import proofs.«01_k».proof.Proof.Gen.EvenOutputReferenceIdeal.Run
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.EvenOutputIdeal.Closed

open Cert.EvenOutputIdeal Cert.EvenOutputIdeal.Gen Cert.Indices

variable (m : (ℓ : Loc nD τ sig) → Buf (Elt Ideal) ℓ)

/-- Lane `j` of the heads' values of one row, from the heads' latents. -/
def lane (o : Fin 8 → Fin 128 → EReal) (w : Fin 128 → Fin 8 → Fin 64 → EReal) (j : Fin 512) : EReal :=
  ∑ r : Fin 128, o ⟨j.val / 64, by omega⟩ r * w r ⟨j.val / 64, by omega⟩ ⟨j.val % 64, by omega⟩

/-- Two heads' weights out of the latents, as one block with zeros across. -/
def pair (w : Fin 128 → Fin 8 → Fin 64 → EReal) (p : Fin 4) (a : Fin 256) (b : Fin 128) : EReal :=
  if h : a.val < 128 then (if h' : b.val < 64 then w ⟨a.val, h⟩ ⟨2 * p.val, by omega⟩ ⟨b.val, h'⟩ else 0)
  else (if h' : b.val < 64 then 0 else w ⟨a.val - 128, by omega⟩ ⟨2 * p.val + 1, by omega⟩ ⟨b.val - 64, by omega⟩)

theorem sum_halves (f : Fin 256 → EReal) :
    ∑ a, f a = ∑ n : Fin 128, f ⟨n.val, by omega⟩ + ∑ n : Fin 128, f ⟨128 + n.val, by omega⟩ :=
  Fin.sum_univ_add (a := 128) (b := 128) f

/-- A pair of heads' latents times the pair's weight is the two heads' lanes. -/
theorem sum_pair (o : Fin 8 → Fin 128 → EReal) (w : Fin 128 → Fin 8 → Fin 64 → EReal) (p : Fin 4) (b : Fin 128) :
    ∑ a : Fin 256, (if h : a.val < 128 then o ⟨2 * p.val, by omega⟩ ⟨a.val, h⟩ else o ⟨2 * p.val + 1, by omega⟩ ⟨a.val - 128, by omega⟩) * pair w p a b
      = lane o w ⟨p.val * 128 + b.val, by omega⟩ := by
  rw [sum_halves]
  unfold lane
  by_cases e : b.val < 64
  · rw [show ∑ n : Fin 128, (if h : (⟨128 + n.val, by omega⟩ : Fin 256).val < 128 then o ⟨2 * p.val, by omega⟩ ⟨(⟨128 + n.val, by omega⟩ : Fin 256).val, h⟩
        else o ⟨2 * p.val + 1, by omega⟩ ⟨(⟨128 + n.val, by omega⟩ : Fin 256).val - 128, by omega⟩) * pair w p ⟨128 + n.val, by omega⟩ b = 0 from
      Finset.sum_eq_zero fun n _ => by
        unfold pair
        rw [dif_neg (by dsimp only; omega), dif_neg (by dsimp only; omega), dif_pos e, mul_zero], add_zero]
    refine Finset.sum_congr rfl fun n _ => ?_
    unfold pair
    rw [dif_pos n.isLt, dif_pos n.isLt, dif_pos e]
    refine congrArg₂ (· * ·) (congrArg₂ o (Fin.ext (by dsimp only; omega)) rfl) ?_
    exact congr (congrArg₂ w rfl (Fin.ext (by dsimp only; omega))) (Fin.ext (by dsimp only; omega))
  · rw [show ∑ n : Fin 128, (if h : (⟨n.val, by omega⟩ : Fin 256).val < 128 then o ⟨2 * p.val, by omega⟩ ⟨(⟨n.val, by omega⟩ : Fin 256).val, h⟩
        else o ⟨2 * p.val + 1, by omega⟩ ⟨(⟨n.val, by omega⟩ : Fin 256).val - 128, by omega⟩) * pair w p ⟨n.val, by omega⟩ b = 0 from
      Finset.sum_eq_zero fun n _ => by
        unfold pair
        rw [dif_pos n.isLt, dif_pos n.isLt, dif_neg e, mul_zero], zero_add]
    refine Finset.sum_congr rfl fun n _ => ?_
    unfold pair
    rw [dif_neg (by dsimp only; omega), dif_neg (by dsimp only; omega), dif_neg e]
    refine congrArg₂ (· * ·) (congrArg₂ o (Fin.ext (by dsimp only; omega)) (Fin.ext (by dsimp only; omega))) ?_
    exact congr (congrArg₂ w (Fin.ext (by dsimp only; omega)) (Fin.ext (by dsimp only; omega))) (Fin.ext (by dsimp only; omega))

/-- The result array: every row, plus the two halves of the heads' lanes through the output weight. -/
def out (x : Vec Ideal S32x2048x1024 .f32) (ol : Vec Ideal S32x2048x8x128 .f32) (ob : Vec Ideal S32x2048x8x64 .f32)
    (wv : Vec Ideal S128x8x64 .f32) (wo : Vec Ideal S1024x1024 .f32) (n : Fin 65536) (d : Fin 1024) : EReal :=
  x (ix3 (⟨n.val / 2048, by omega⟩ : Fin 32) (⟨n.val % 2048, by omega⟩ : Fin 2048) d)
    + ∑ j : Fin 512, lane (fun h r => ol (ix4 (⟨n.val / 2048, by omega⟩ : Fin 32) (⟨n.val % 2048, by omega⟩ : Fin 2048) h r)) (fun r h e => wv (ix3 r h e)) j
        * wo (ix2 (⟨j.val, by omega⟩ : Fin 1024) d)
    + ∑ j : Fin 512, ob (ix4 (⟨n.val / 2048, by omega⟩ : Fin 32) (⟨n.val % 2048, by omega⟩ : Fin 2048) (⟨j.val / 64, by omega⟩ : Fin 8) (⟨j.val % 64, by omega⟩ : Fin 64))
        * wo (ix2 (⟨512 + j.val, by omega⟩ : Fin 1024) d)

def outArray (x : Vec Ideal S32x2048x1024 .f32) (ol : Vec Ideal S32x2048x8x128 .f32) (ob : Vec Ideal S32x2048x8x64 .f32)
    (wv : Vec Ideal S128x8x64 .f32) (wo : Vec Ideal S1024x1024 .f32) : Vec Ideal S65536x1024 .f32 := fun i => out x ol ob wv wo (i 0) (i 1)

theorem outArray_at (x : Vec Ideal S32x2048x1024 .f32) (ol : Vec Ideal S32x2048x8x128 .f32) (ob : Vec Ideal S32x2048x8x64 .f32)
    (wv : Vec Ideal S128x8x64 .f32) (wo : Vec Ideal S1024x1024 .f32) (n : Fin 65536) (d : Fin 1024) : outArray x ol ob wv wo (ix2 n d) = out x ol ob wv wo n d := rfl

/-- The heads' weights, pair by pair. -/
abbrev heads (w : Vec Ideal S128x8x64 .f32) : FVec Ideal S4x2x128x64 .f32 :=
  shapeCast S4x2x128x64 (transpose S8x128x64 [1, 0, 2] w transposes_S128x8x64_S8x128x64_1_0_2) shapeCasts_S8x128x64_S4x2x128x64

/-- The blocks of the pairs. -/
abbrev pairs (k : FVec Ideal S4x2x128x64 .f32) : FVec Ideal S4x256x128 .f32 :=
  concatenate S4x256x128 1 [⟨S4x128x128, concatenate S4x128x128 2 [⟨S4x128x64, shapeCast S4x128x64 (extractStridedSlice S4x1x128x64 ![0, 0, 0, 0] k slices_S4x2x128x64_S4x1x128x64_0_0_0_0) shapeCasts_S4x1x128x64_S4x128x64⟩, ⟨S4x128x64, broadcastInDim S4x128x64 ![] bcast_S_S4x128x64 (constant S_ .f32 0x00000000#32)⟩] concatenates_S4x128x64_S4x128x64_S4x128x128_d2⟩,
    ⟨S4x128x128, concatenate S4x128x128 2 [⟨S4x128x64, broadcastInDim S4x128x64 ![] bcast_S_S4x128x64 (constant S_ .f32 0x00000000#32)⟩, ⟨S4x128x64, shapeCast S4x128x64 (extractStridedSlice S4x1x128x64 ![0, 1, 0, 0] k slices_S4x2x128x64_S4x1x128x64_0_1_0_0) shapeCasts_S4x1x128x64_S4x128x64⟩] concatenates_S4x128x64_S4x128x64_S4x128x128_d2⟩] concatenates_S4x128x128_S4x128x128_S4x256x128_d1

theorem heads_at (w : Vec Ideal S128x8x64 .f32) (p : Fin 4) (g : Fin 2) (r : Fin 128) (e : Fin 64) :
    heads w (ix4 p g r e) = w (ix3 r ⟨2 * p.val + g.val, by omega⟩ e) := by
  unfold heads
  pointwise
  exact congrArg w (ix3_congr rfl (by dsimp only; omega) rfl)

theorem pairs_at (k : FVec Ideal S4x2x128x64 .f32) (p : Fin 4) (a : Fin 256) (b : Fin 128) :
    pairs k (ix3 p a b) = if h : a.val < 128 then (if h' : b.val < 64 then k (ix4 p 0 ⟨a.val, h⟩ ⟨b.val, h'⟩) else 0)
      else (if h' : b.val < 64 then 0 else k (ix4 p 1 ⟨a.val - 128, by omega⟩ ⟨b.val - 64, by omega⟩)) := by
  unfold pairs
  pointwise

theorem pair_at (w : Vec Ideal S128x8x64 .f32) (p : Fin 4) (a : Fin 256) (b : Fin 128) :
    pairs (heads w) (ix3 p a b) = pair (fun r h e => w (ix3 r h e)) p a b := by
  rw [pairs_at]
  unfold pair
  simp only [heads_at]
  rfl

theorem V5 (c : Dev nD) : V m c main_v5 = shapeCast S65536x1024 (m ((c : Thread nD τ).loc main_arg0)) shapeCasts_S32x2048x1024_S65536x1024 := by
  unfold V
  after_results <;> rfl
theorem V2 (c : Dev nD) : V m c main_v2 = (shapeCast S8x65536x128 (transpose S8x32x2048x128 [2, 0, 1, 3] (m ((c : Thread nD τ).loc main_arg1)) transposes_S32x2048x8x128_S8x32x2048x128_2_0_1_3) shapeCasts_S8x32x2048x128_S8x65536x128 : Vec Ideal S8x65536x128 .f32) := by
  unfold V
  after_results <;> rfl
theorem V4 (c : Dev nD) : V m c main_v4 = (shapeCast S65536x512 (m ((c : Thread nD τ).loc main_arg2)) shapeCasts_S32x2048x8x64_S65536x512 : Vec Ideal S65536x512 .f32) := by
  unfold V
  after_results <;> rfl
theorem V18 (c : Dev nD) : V m c main_v18 = (pairs (heads (m ((c : Thread nD τ).loc main_arg3))) : Vec Ideal S4x256x128 .f32) := by
  unfold V
  after_results <;> rfl
theorem V19 (c : Dev nD) : V m c main_v19 = (m ((c : Thread nD τ).loc main_arg4) : Vec Ideal S1024x1024 .f32) := by
  unfold V
  after_results <;> rfl

theorem idx0 : ∀ t : Fin cfg0.N, win0_0.index t = ![t.val, 0] :=
  (by decide +kernel : ∀ t : Fin grid0.N, win0_0.index t = ![t.val, 0])
theorem idx1 : ∀ t : Fin cfg0.N, win0_1.index t = ![0, t.val, 0] :=
  (by decide +kernel : ∀ t : Fin grid0.N, win0_1.index t = ![0, t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0, 0] :=
  (by decide +kernel : ∀ t : Fin grid0.N, win0_3.index t = ![0, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val, 0] :=
  (by decide +kernel : ∀ t : Fin grid0.N, win0_5.index t = ![t.val, 0])

theorem emb0 (t : Fin cfg0.N) (r : Fin 512) (k : Fin 1024) : ((cfg0.win 0).blk t).view.emb (ix2 r k)
    = ix2 (⟨t.val * 512 + r.val, by have := t.isLt; have : cfg0.N = 128 := N_0; omega⟩ : Fin 65536) k := by
  blk_ext [idx0 t]
theorem emb1 (t : Fin cfg0.N) (h : Fin 8) (r : Fin 512) (k : Fin 128) : ((cfg0.win 1).blk t).view.emb (ix3 h r k)
    = ix3 h (⟨t.val * 512 + r.val, by have := t.isLt; have : cfg0.N = 128 := N_0; omega⟩ : Fin 65536) k := by
  blk_ext [idx1 t]
theorem emb2 (t : Fin cfg0.N) (r : Fin 512) (k : Fin 512) : ((cfg0.win 2).blk t).view.emb (ix2 r k)
    = ix2 (⟨t.val * 512 + r.val, by have := t.isLt; have : cfg0.N = 128 := N_0; omega⟩ : Fin 65536) k := by
  blk_ext [idx2 t]
theorem emb5 (t : Fin cfg0.N) (r : Fin 512) (k : Fin 1024) : ((cfg0.win 5).blk t).view.emb (ix2 r k)
    = ix2 (⟨t.val * 512 + r.val, by have := t.isLt; have : cfg0.N = 128 := N_0; omega⟩ : Fin 65536) k := by
  blk_ext [idx5 t]

theorem rows (x : Vec Ideal S32x2048x1024 .f32) (h : S32x2048x1024.ShapeCasts S65536x1024) (n : Fin 65536) (k : Fin 1024) :
    shapeCast S65536x1024 x h (ix2 n k) = x (ix3 (⟨n.val / 2048, by omega⟩ : Fin 32) (⟨n.val % 2048, by omega⟩ : Fin 2048) k) := by
  pointwise

theorem latents (x : Vec Ideal S32x2048x8x128 .f32) (g : Fin 8) (n : Fin 65536) (k : Fin 128) :
    shapeCast S8x65536x128 (transpose S8x32x2048x128 [2, 0, 1, 3] x transposes_S32x2048x8x128_S8x32x2048x128_2_0_1_3) shapeCasts_S8x32x2048x128_S8x65536x128 (ix3 g n k)
      = x (ix4 (⟨n.val / 2048, by omega⟩ : Fin 32) (⟨n.val % 2048, by omega⟩ : Fin 2048) g k) := by
  pointwise
  try exact congrArg x (ix4_congr (by dsimp only; omega) (by dsimp only; omega) rfl rfl)

theorem others (x : Vec Ideal S32x2048x8x64 .f32) (n : Fin 65536) (k : Fin 512) :
    shapeCast S65536x512 x shapeCasts_S32x2048x8x64_S65536x512 (ix2 n k)
      = x (ix4 (⟨n.val / 2048, by omega⟩ : Fin 32) (⟨n.val % 2048, by omega⟩ : Fin 2048) (⟨k.val / 64, by omega⟩ : Fin 8) (⟨k.val % 64, by omega⟩ : Fin 64)) := by
  pointwise
  try exact congrArg x (ix4_congr (by dsimp only; omega) (by dsimp only; omega) (by dsimp only; omega) (by dsimp only; omega))

theorem iblk0 (c : Dev nD) (t : Fin cfg0.N) (r : Fin 512) (k : Fin 1024) (n : Fin 65536) (hn : n.val = t.val * 512 + r.val) :
    iblk (F := Ideal) m c 0 t (ix2 r k) = m ((c : Thread nD τ).loc main_arg0) (ix3 (⟨n.val / 2048, by omega⟩ : Fin 32) (⟨n.val % 2048, by omega⟩ : Fin 2048) k) := by
  unfold iblk
  rw [View.read_apply]
  erw [V5, emb0, rows]
  exact congrArg (m ((c : Thread nD τ).loc main_arg0)) (ix3_congr (by dsimp only; omega) (by dsimp only; omega) rfl)

theorem iblk1 (c : Dev nD) (t : Fin cfg0.N) (g : Fin 8) (r : Fin 512) (k : Fin 128) (n : Fin 65536) (hn : n.val = t.val * 512 + r.val) :
    iblk (F := Ideal) m c 1 t (ix3 g r k) = m ((c : Thread nD τ).loc main_arg1) (ix4 (⟨n.val / 2048, by omega⟩ : Fin 32) (⟨n.val % 2048, by omega⟩ : Fin 2048) g k) := by
  unfold iblk
  rw [View.read_apply]
  erw [V2, emb1, latents]
  exact congrArg (m ((c : Thread nD τ).loc main_arg1)) (ix4_congr (by dsimp only; omega) (by dsimp only; omega) rfl rfl)

theorem iblk2 (c : Dev nD) (t : Fin cfg0.N) (r : Fin 512) (k : Fin 512) (n : Fin 65536) (hn : n.val = t.val * 512 + r.val) :
    iblk (F := Ideal) m c 2 t (ix2 r k) = m ((c : Thread nD τ).loc main_arg2)
      (ix4 (⟨n.val / 2048, by omega⟩ : Fin 32) (⟨n.val % 2048, by omega⟩ : Fin 2048) (⟨k.val / 64, by omega⟩ : Fin 8) (⟨k.val % 64, by omega⟩ : Fin 64)) := by
  unfold iblk
  rw [View.read_apply]
  erw [V4, emb2, others]
  exact congrArg (m ((c : Thread nD τ).loc main_arg2)) (ix4_congr (by dsimp only; omega) (by dsimp only; omega) rfl rfl)

theorem iblk3 (c : Dev nD) (t : Fin cfg0.N) (p : Fin 4) (a : Fin 256) (b : Fin 128) :
    iblk (F := Ideal) m c 3 t (ix3 p a b) = pair (fun r h e => m ((c : Thread nD τ).loc main_arg3) (ix3 r h e)) p a b := by
  rw [← pair_at]
  blk_simp [iblk, idx3 t]
  rw [V18]
  blk_ext [idx3 t]

theorem iblk4 (c : Dev nD) (t : Fin cfg0.N) (k : Fin 1024) (j : Fin 1024) :
    iblk (F := Ideal) m c 4 t (ix2 k j) = m ((c : Thread nD τ).loc main_arg4) (ix2 k j) := by
  blk_simp [iblk, idx4 t]
  rw [V19]
  blk_ext [idx4 t]

/-- A head's latents and a pair's weight, loaded from their blocks. -/
theorem head_ld (x : Vec Ideal S8x512x128 .bf16) (p : ℕ) (h) (hp : p < 8) (r : Fin 512) (l : Fin 128) :
    View.ld x (Rect.unit ![p, 0, 0] ![1, 512, 128] h) (ix3 0 r l) = x (ix3 (⟨p, hp⟩ : Fin 8) r l) := by
  refine congrArg x ?_
  funext a
  fin_cases a
  · exact Fin.ext (by simp [Rect.emb, LoadRect.idx, Rect.toLoadRect, Rect.unit])
  · exact Fin.ext (by simp [Rect.emb, LoadRect.idx, Rect.toLoadRect, Rect.unit])
  · exact Fin.ext (by simp [Rect.emb, LoadRect.idx, Rect.toLoadRect, Rect.unit])

theorem pair_ld (x : Vec Ideal S4x256x128 .bf16) (p : ℕ) (h) (hp : p < 4) (a : Fin 256) (b : Fin 128) :
    View.ld x (Rect.unit ![p, 0, 0] ![1, 256, 128] h) (ix3 0 a b) = x (ix3 (⟨p, hp⟩ : Fin 4) a b) := by
  refine congrArg x ?_
  funext a
  fin_cases a
  · exact Fin.ext (by simp [Rect.emb, LoadRect.idx, Rect.toLoadRect, Rect.unit])
  · exact Fin.ext (by simp [Rect.emb, LoadRect.idx, Rect.toLoadRect, Rect.unit])
  · exact Fin.ext (by simp [Rect.emb, LoadRect.idx, Rect.toLoadRect, Rect.unit])

theorem rows_ld (x : Vec Ideal S1024x1024 .bf16) (o : ℕ) (h) (ho : o + 512 ≤ 1024) (a : Fin 512) (b : Fin 1024) :
    View.ld x (Rect.unit ![o, 0] ![512, 1024] h) (ix2 a b) = x (ix2 (⟨o + a.val, by omega⟩ : Fin 1024) b) := by
  refine congrArg x ?_
  funext a
  fin_cases a
  · exact Fin.ext (by simp [Rect.emb, LoadRect.idx, Rect.toLoadRect, Rect.unit])
  · exact Fin.ext (by simp [Rect.emb, LoadRect.idx, Rect.toLoadRect, Rect.unit])

/-- A pair's product, read at an element. -/
theorem product_at (u v : Vec Ideal S1x512x128 .bf16) (w : Vec Ideal S1x256x128 .bf16) (r : Fin 512) (b : Fin 128) :
    k0_pay2 (F := Ideal) u v w (ix2 r b)
      = ∑ a : Fin 256, (if h : a.val < 128 then u (ix3 0 r ⟨a.val, h⟩) else v (ix3 0 r ⟨a.val - 128, by omega⟩)) * w (ix3 0 a b) := by
  pointwise [k0_pay2]

/-- The four pairs' lanes beside each other. -/
abbrev side (a b c d : FVec Ideal S512x128 .bf16) : FVec Ideal S512x512 .bf16 :=
  concatenate S512x512 1 [⟨S512x128, a⟩, ⟨S512x128, b⟩, ⟨S512x128, c⟩, ⟨S512x128, d⟩] concatenates_S512x128_S512x128_S512x128_S512x128_S512x512_d1

theorem side_at (a b c d : FVec Ideal S512x128 .bf16) (f : Fin 512 → EReal) (r : Fin 512)
    (ha : ∀ l : Fin 128, a (ix2 r l) = f ⟨0 * 128 + l.val, by omega⟩) (hb : ∀ l : Fin 128, b (ix2 r l) = f ⟨1 * 128 + l.val, by omega⟩)
    (hc : ∀ l : Fin 128, c (ix2 r l) = f ⟨2 * 128 + l.val, by omega⟩) (hd : ∀ l : Fin 128, d (ix2 r l) = f ⟨3 * 128 + l.val, by omega⟩) (j : Fin 512) :
    side a b c d (ix2 r j) = f j := by
  unfold side
  pointwise
  repeat' split
  all_goals
    first
    | rw [ha]
    | rw [hb]
    | rw [hc]
    | rw [hd]
    exact congrArg f (Fin.ext (by dsimp only; omega))

/-- The block's result from the pairs' lanes, read at an element. -/
theorem sum_at (v8 v17 v26 : FVec Ideal S512x128 .bf16) (v27 v29 : Vec Ideal S1x512x128 .bf16) (v32 : Vec Ideal S1x256x128 .bf16) (v37 : Vec Ideal S512x1024 .f32)
    (v39 : Vec Ideal S512x1024 .bf16) (v43 : Vec Ideal S512x512 .bf16) (v45 : Vec Ideal S512x1024 .bf16) (r : Fin 512) (d : Fin 1024) :
    k0_pay1 (F := Ideal) v8 v17 v26 v27 v29 v32 v37 v39 v43 v45 (ix2 r d)
      = v37 (ix2 r d) + ∑ j : Fin 512, side v8 v17 v26 (k0_pay2 (F := Ideal) v27 v29 v32) (ix2 r j) * v39 (ix2 j d) + ∑ j : Fin 512, v43 (ix2 r j) * v45 (ix2 j d) := by
  rw [show k0_pay1 (F := Ideal) v8 v17 v26 v27 v29 v32 v37 v39 v43 v45
    = addf (addf (shapeCast S512x1024 v37 shapeCasts_S512x1024_S512x1024 : FVec Ideal S512x1024 .f32)
        (matmul (F := Ideal) (φ₁ := .bf16) (φ₂ := .bf16) dot_S512x512_S512x1024_S512x1024_1_0_0_1_n_n none (side v8 v17 v26 (k0_pay2 (F := Ideal) v27 v29 v32)) (shapeCast S512x1024 v39 shapeCasts_S512x1024_S512x1024) (constant S512x1024 .f32 0x00000000#32)))
      (matmul (F := Ideal) (φ₁ := .bf16) (φ₂ := .bf16) dot_S512x512_S512x1024_S512x1024_1_0_0_1_n_n none (shapeCast S512x512 v43 shapeCasts_S512x512_S512x512) (shapeCast S512x1024 v45 shapeCasts_S512x1024_S512x1024) (constant S512x1024 .f32 0x00000000#32)) from rfl]
  generalize side v8 v17 v26 (k0_pay2 (F := Ideal) v27 v29 v32) = s
  pointwise

/-- A pair's product of a grid point's latents is the pair's lanes. -/
theorem lanes_at (c : Dev nD) (t : Fin cfg0.N) (p g g' : ℕ)
    (h : ∀ a : Fin S8x512x128.rank, ![g, 0, 0] a + ![1, 512, 128] a ≤ S8x512x128.size a) (h' : ∀ a : Fin S8x512x128.rank, ![g', 0, 0] a + ![1, 512, 128] a ≤ S8x512x128.size a)
    (h'' : ∀ a : Fin S4x256x128.rank, ![p, 0, 0] a + ![1, 256, 128] a ≤ S4x256x128.size a) (hp : p < 4) (hg : g = 2 * p) (hg' : g' = 2 * p + 1) (r : Fin 512) (n : Fin 65536) (hn : n.val = t.val * 512 + r.val) (b : Fin 128) :
    k0_pay2 (F := Ideal) (View.ld (iblk (F := Ideal) m c 1 t) (Rect.unit (s := S8x512x128) ![g, 0, 0] ![1, 512, 128] h)) (View.ld (iblk (F := Ideal) m c 1 t) (Rect.unit (s := S8x512x128) ![g', 0, 0] ![1, 512, 128] h'))
        (View.ld (iblk (F := Ideal) m c 3 t) (Rect.unit (s := S4x256x128) ![p, 0, 0] ![1, 256, 128] h'')) (ix2 r b)
      = lane (fun h r => m ((c : Thread nD τ).loc main_arg1) (ix4 (⟨n.val / 2048, by omega⟩ : Fin 32) (⟨n.val % 2048, by omega⟩ : Fin 2048) h r))
          (fun r h e => m ((c : Thread nD τ).loc main_arg3) (ix3 r h e)) ⟨p * 128 + b.val, by omega⟩ := by
  subst hg hg'
  rw [product_at, ← sum_pair _ _ ⟨p, hp⟩ b]
  refine Finset.sum_congr rfl fun a _ => ?_
  rw [pair_ld (iblk (F := Ideal) m c 3 t) p h'' hp, iblk3]
  refine congrArg₂ (· * ·) ?_ rfl
  by_cases ha : a.val < 128
  · rw [dif_pos ha, dif_pos ha, head_ld (iblk (F := Ideal) m c 1 t) _ h (by omega), iblk1 m c t _ r _ n hn]
  · rw [dif_neg ha, dif_neg ha, head_ld (iblk (F := Ideal) m c 1 t) _ h' (by omega), iblk1 m c t _ r _ n hn]

/-- The load of all of a block is the block. -/
theorem full0 (x : Vec Ideal S512x1024 .f32) : View.ld x r0_12 = x := by
  rw [View.ld_unit_lit]
  intro a
  fin_cases a <;> rfl
theorem full2 (x : Vec Ideal S512x512 .bf16) : View.ld x r0_14 = x := by
  rw [View.ld_unit_lit]
  intro a
  fin_cases a <;> rfl

/-- A grid point's block holds its rows of the result. -/
theorem out_at (c : Dev nD) (t : Fin cfg0.N) (r : Fin 512) (d : Fin 1024) (n : Fin 65536) (hn : n.val = t.val * 512 + r.val) :
    out0_5 (F := Ideal) (iblk m c 0 t) (iblk m c 1 t) (iblk m c 2 t) (iblk m c 3 t) (iblk m c 4 t) (ix2 r d)
      = outArray (m ((c : Thread nD τ).loc main_arg0)) (m ((c : Thread nD τ).loc main_arg1)) (m ((c : Thread nD τ).loc main_arg2)) (m ((c : Thread nD τ).loc main_arg3)) (m ((c : Thread nD τ).loc main_arg4)) (ix2 n d) := by
  unfold out0_5
  rw [View.canon_unit_zero (by funext a; fin_cases a <;> rfl), sum_at]
  rw [outArray_at]
  unfold out
  refine congrArg₂ (· + ·) (congrArg₂ (· + ·) ((congrFun (full0 (iblk m c 0 t)) _).trans (iblk0 m c t r d n hn)) ?_) ?_
  · refine Finset.sum_congr rfl fun j _ => congrArg₂ (· * ·) ?_ ?_
    · exact side_at _ _ _ _ _ r
        (fun l => lanes_at m c t 0 0 1 _ _ _ (by decide) rfl rfl r n hn l)
        (fun l => lanes_at m c t 1 2 3 _ _ _ (by decide) rfl rfl r n hn l)
        (fun l => lanes_at m c t 2 4 5 _ _ _ (by decide) rfl rfl r n hn l)
        (fun l => lanes_at m c t 3 6 7 _ _ _ (by decide) rfl rfl r n hn l) j
    · rw [rows_ld (iblk (F := Ideal) m c 4 t) 0 _ (by decide), iblk4]
      exact congrArg (m ((c : Thread nD τ).loc main_arg4)) (ix2_congr (by dsimp only; omega) rfl)
  · refine Finset.sum_congr rfl fun j _ => congrArg₂ (· * ·) ((congrFun (full2 (iblk m c 2 t)) _).trans (iblk2 m c t r j n hn)) ?_
    rw [rows_ld (iblk (F := Ideal) m c 4 t) 512 _ (by decide), iblk4]

/-- The result array of the call. -/
theorem final5 (c : Dev nD) : (dats (F := Ideal) m 0 c).arrAt 5 cfg0.N = outArray (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats (F := Ideal) m 0 c).arrAt_eq_of_covers 5 _ (by decide +kernel) fun t hf y => ?_
  rw [after0_5]
  idx_vars y
  have ht : t.val < 128 := N_0 ▸ t.isLt
  have h := out_at m c t y0 y1 ⟨t.val * 512 + y0.val, by omega⟩ rfl
  erw [emb5 t y0 y1]
  generalize outArray (m (c.tc.loc main_arg0)) (m (c.tc.loc main_arg1)) (m (c.tc.loc main_arg2)) (m (c.tc.loc main_arg3)) (m (c.tc.loc main_arg4)) = G at h ⊢
  generalize out0_5 (F := Ideal) (iblk m c 0 t) (iblk m c 1 t) (iblk m c 2 t) (iblk m c 3 t) (iblk m c 4 t) = O at h ⊢
  exact h

end Cert.EvenOutputIdeal.Closed

namespace Cert.EvenOutputReferenceIdeal.Closed

open Cert.EvenOutputReferenceIdeal Cert.EvenOutputReferenceIdeal.Gen Cert.Indices
open Cert.EvenOutputIdeal.Closed (out outArray outArray_at lane)

/-- The reference's values of every head from the latents. -/
abbrev A (ol : Vec Ideal S32x2048x8x128 .f32) (wv : Vec Ideal S128x8x64 .f32) : Vec Ideal S32x2048x512 .f32 :=
  shapeCast S32x2048x512 (transpose S32x2048x8x64 [2, 3, 0, 1] (Host.dotGeneral (F := Ideal) (φ₁ := .f32) (φ₂ := .f32) dot_S128x8x64_S32x2048x8x128_S8x64x32x2048_0_3_2_01_1_2 none wv ol) transposes_S8x64x32x2048_S32x2048x8x64_2_3_0_1) shapeCasts_S32x2048x8x64_S32x2048x512

/-- The reference's lanes beside each other. -/
abbrev B (a : Vec Ideal S32x2048x512 .f32) (ob : Vec Ideal S32x2048x8x64 .f32) : Vec Ideal S32x2048x1024 .f32 :=
  concatenate S32x2048x1024 2 [⟨S32x2048x512, a⟩, ⟨S32x2048x512, shapeCast S32x2048x512 ob shapeCasts_S32x2048x8x64_S32x2048x512⟩] concatenates_S32x2048x512_S32x2048x512_S32x2048x1024_d2

/-- The reference's result from the lanes. -/
abbrev R (x u : Vec Ideal S32x2048x1024 .f32) (wo : Vec Ideal S1024x1024 .f32) : Vec Ideal S65536x1024 .f32 :=
  shapeCast S65536x1024 (addf x (Host.dotGeneral (F := Ideal) (φ₁ := .f32) (φ₂ := .f32) dot_S32x2048x1024_S1024x1024_S32x2048x1024_2_0_01_1_n_n none u wo)) shapeCasts_S32x2048x1024_S65536x1024

theorem A_at (ol : Vec Ideal S32x2048x8x128 .f32) (wv : Vec Ideal S128x8x64 .f32) (b : Fin 32) (s : Fin 2048) (j : Fin 512) :
    A ol wv (ix3 b s j) = lane (fun h r => ol (ix4 b s h r)) (fun r h e => wv (ix3 r h e)) j := by
  unfold A lane
  pointwise
  exact Finset.sum_congr rfl fun r _ => mul_comm _ _

theorem B_at (a : Vec Ideal S32x2048x512 .f32) (ob : Vec Ideal S32x2048x8x64 .f32) (b : Fin 32) (s : Fin 2048) (j : Fin 1024) :
    B a ob (ix3 b s j) = if h : j.val < 512 then a (ix3 b s ⟨j.val, h⟩)
      else ob (ix4 b s ⟨(j.val - 512) / 64, by omega⟩ ⟨(j.val - 512) % 64, by omega⟩) := by
  unfold B
  pointwise

theorem R_at (x u : Vec Ideal S32x2048x1024 .f32) (wo : Vec Ideal S1024x1024 .f32) (n : Fin 65536) (d : Fin 1024) :
    R x u wo (ix2 n d) = x (ix3 ⟨n.val / 2048, by omega⟩ ⟨n.val % 2048, by omega⟩ d)
      + ∑ j : Fin 1024, u (ix3 ⟨n.val / 2048, by omega⟩ ⟨n.val % 2048, by omega⟩ j) * wo (ix2 j d) := by
  unfold R
  pointwise

theorem result (x : Vec Ideal S32x2048x1024 .f32) (ol : Vec Ideal S32x2048x8x128 .f32) (ob : Vec Ideal S32x2048x8x64 .f32)
    (wv : Vec Ideal S128x8x64 .f32) (wo : Vec Ideal S1024x1024 .f32) : R x (B (A ol wv) ob) wo = outArray x ol ob wv wo := by
  funext i
  idx_vars i
  rw [R_at, outArray_at]
  unfold out
  rw [show ∀ f : Fin 1024 → EReal, ∑ j, f j = ∑ j : Fin 512, f ⟨j.val, by omega⟩ + ∑ j : Fin 512, f ⟨512 + j.val, by omega⟩ from
    fun f => Fin.sum_univ_add (a := 512) (b := 512) f, ← add_assoc]
  refine congrArg₂ (· + ·) (congrArg₂ (· + ·) rfl ?_) ?_
  · refine Finset.sum_congr rfl fun j _ => congrArg₂ (· * ·) ?_ rfl
    rw [B_at, dif_pos j.isLt, A_at]
  · refine Finset.sum_congr rfl fun j _ => congrArg₂ (· * ·) ?_ rfl
    rw [B_at, dif_neg (by dsimp only; omega)]
    exact congrArg ob (ix4_congr rfl rfl (by dsimp only; omega) (by dsimp only; omega))

/-- The reference's run with its result at the projection. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = outArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Value.run (F := Ideal) m ρ)
  exact result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

end Cert.EvenOutputReferenceIdeal.Closed

end
-- ==== Proof.OddOutputValue.lean ====
/- The values of the odd layer's output projection: the dilated groups mixed by the softmax of their denominators' logarithms,
   then the output weight, with the residual, and the reference's result. -/
module

public import proofs.«01_k».proof.Proof.Indices
public import proofs.«01_k».proof.Proof.Gen.OddOutputIdeal.Value
public import proofs.«01_k».proof.Proof.Gen.OddOutputReferenceIdeal.Run
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.OddOutputIdeal.Closed

open Cert.OddOutputIdeal Cert.OddOutputIdeal.Gen Cert.Indices

variable (m : (ℓ : Loc nD τ sig) → Buf (Elt Ideal) ℓ)

/-- The groups' outputs weighted by the softmax over the groups. -/
def mixture (l o : Fin 3 → EReal) : EReal :=
  ∑ g, Ideal.div (Ideal.exp (l g - Finset.univ.sup l)) (∑ i, Ideal.exp (l i - Finset.univ.sup l)) * o g

theorem sup_three (l : Fin 3 → EReal) : Finset.univ.sup l = max (max (l 0) (l 1)) (l 2) := by
  apply le_antisymm
  · refine Finset.sup_le fun i _ => ?_
    fin_cases i
    · exact le_max_of_le_left (le_max_left _ _)
    · exact le_max_of_le_left (le_max_right _ _)
    · exact le_max_right _ _
  · exact max_le (max_le (Finset.le_sup (Finset.mem_univ 0)) (Finset.le_sup (Finset.mem_univ 1))) (Finset.le_sup (Finset.mem_univ 2))

/-- The result array: every row plus the mixed heads through the output weight. -/
def out (x : Vec Ideal S32x2048x1024 .f32) (o : Fin 3 → Vec Ideal S32x2048x4x64 .f32) (l : Fin 3 → Vec Ideal S32x2048x4 .f32)
    (w : Vec Ideal S256x1024 .f32) (n : Fin 65536) (d : Fin 1024) : EReal :=
  x (ix3 (⟨n.val / 2048, by omega⟩ : Fin 32) (⟨n.val % 2048, by omega⟩ : Fin 2048) d)
    + ∑ j : Fin 256, mixture (fun g => l g (ix3 (⟨n.val / 2048, by omega⟩ : Fin 32) (⟨n.val % 2048, by omega⟩ : Fin 2048) (⟨j.val / 64, by omega⟩ : Fin 4)))
        (fun g => o g (ix4 (⟨n.val / 2048, by omega⟩ : Fin 32) (⟨n.val % 2048, by omega⟩ : Fin 2048) (⟨j.val / 64, by omega⟩ : Fin 4) (⟨j.val % 64, by omega⟩ : Fin 64)))
        * w (ix2 j d)

def outArray (x : Vec Ideal S32x2048x1024 .f32) (o : Fin 3 → Vec Ideal S32x2048x4x64 .f32) (l : Fin 3 → Vec Ideal S32x2048x4 .f32)
    (w : Vec Ideal S256x1024 .f32) : Vec Ideal S65536x1024 .f32 := fun i => out x o l w (i 0) (i 1)

theorem outArray_at (x : Vec Ideal S32x2048x1024 .f32) (o : Fin 3 → Vec Ideal S32x2048x4x64 .f32) (l : Fin 3 → Vec Ideal S32x2048x4 .f32)
    (w : Vec Ideal S256x1024 .f32) (n : Fin 65536) (d : Fin 1024) : outArray x o l w (ix2 n d) = out x o l w n d := rfl

/-- A group's output, its heads' lanes in two halves of 128. -/
abbrev halves (o : Vec Ideal S32x2048x4x64 .f32) : Vec Ideal S2x65536x128 .f32 :=
  transpose S2x65536x128 [1, 0, 2] (shapeCast S65536x2x128 o shapeCasts_S32x2048x4x64_S65536x2x128) transposes_S65536x2x128_S2x65536x128_1_0_2

/-- A head's number at all of its lanes. -/
abbrev spread (l : Vec Ideal S32x2048x4 .f32) : Vec Ideal S32x2048x4x64 .f32 :=
  broadcastInDim S32x2048x4x64 ![0, 1, 2, 3] bcast_S32x2048x4x1_S32x2048x4x64_0_1_2_3 (broadcastInDim S32x2048x4x1 ![0, 1, 2] bcast_S32x2048x4_S32x2048x4x1_0_1_2 l)

theorem halves_at (o : Vec Ideal S32x2048x4x64 .f32) (g : Fin 2) (n : Fin 65536) (k : Fin 128) (b : Fin 32) (s : Fin 2048) (h : Fin 4) (e : Fin 64)
    (hb : b.val = n.val / 2048) (hs : s.val = n.val % 2048) (hh : h.val = (g.val * 128 + k.val) / 64) (he : e.val = (g.val * 128 + k.val) % 64) :
    halves o (ix3 g n k) = o (ix4 b s h e) := by
  unfold halves
  pointwise
  exact congrArg o (ix4_congr (by dsimp only; omega) (by dsimp only; omega) (by dsimp only; omega) (by dsimp only; omega))

theorem spread_at (l : Vec Ideal S32x2048x4 .f32) (b : Fin 32) (s : Fin 2048) (h : Fin 4) (e : Fin 64) : spread l (ix4 b s h e) = l (ix3 b s h) := by
  unfold spread
  pointwise

theorem V18 (c : Dev nD) : V m c main_v18 = shapeCast S65536x1024 (m ((c : Thread nD τ).loc main_arg0)) shapeCasts_S32x2048x1024_S65536x1024 := by
  unfold V
  after_results <;> rfl
theorem V1 (c : Dev nD) : V m c main_v1 = halves (m ((c : Thread nD τ).loc main_arg1)) := by
  unfold V
  after_results <;> rfl
theorem V3 (c : Dev nD) : V m c main_v3 = halves (m ((c : Thread nD τ).loc main_arg2)) := by
  unfold V
  after_results <;> rfl
theorem V5 (c : Dev nD) : V m c main_v5 = halves (m ((c : Thread nD τ).loc main_arg3)) := by
  unfold V
  after_results <;> rfl
theorem V9 (c : Dev nD) : V m c main_v9 = halves (spread (m ((c : Thread nD τ).loc main_arg4))) := by
  unfold V
  after_results <;> rfl
theorem V13 (c : Dev nD) : V m c main_v13 = halves (spread (m ((c : Thread nD τ).loc main_arg5))) := by
  unfold V
  after_results <;> rfl
theorem V17 (c : Dev nD) : V m c main_v17 = halves (spread (m ((c : Thread nD τ).loc main_arg6))) := by
  unfold V
  after_results <;> rfl
theorem V19 (c : Dev nD) : V m c main_v19 = (m ((c : Thread nD τ).loc main_arg7) : Vec Ideal S256x1024 .f32) := by
  unfold V
  after_results <;> rfl

theorem idx0 : ∀ t : Fin cfg0.N, win0_0.index t = ![t.val, 0] :=
  (by decide +kernel : ∀ t : Fin grid0.N, win0_0.index t = ![t.val, 0])
theorem idx1 : ∀ t : Fin cfg0.N, win0_1.index t = ![0, t.val, 0] :=
  (by decide +kernel : ∀ t : Fin grid0.N, win0_1.index t = ![0, t.val, 0])
theorem idx2 : ∀ t : Fin cfg0.N, win0_2.index t = ![0, t.val, 0] :=
  (by decide +kernel : ∀ t : Fin grid0.N, win0_2.index t = ![0, t.val, 0])
theorem idx3 : ∀ t : Fin cfg0.N, win0_3.index t = ![0, t.val, 0] :=
  (by decide +kernel : ∀ t : Fin grid0.N, win0_3.index t = ![0, t.val, 0])
theorem idx4 : ∀ t : Fin cfg0.N, win0_4.index t = ![0, t.val, 0] :=
  (by decide +kernel : ∀ t : Fin grid0.N, win0_4.index t = ![0, t.val, 0])
theorem idx5 : ∀ t : Fin cfg0.N, win0_5.index t = ![0, t.val, 0] :=
  (by decide +kernel : ∀ t : Fin grid0.N, win0_5.index t = ![0, t.val, 0])
theorem idx6 : ∀ t : Fin cfg0.N, win0_6.index t = ![0, t.val, 0] :=
  (by decide +kernel : ∀ t : Fin grid0.N, win0_6.index t = ![0, t.val, 0])
theorem idx7 : ∀ t : Fin cfg0.N, win0_7.index t = ![0, 0] :=
  (by decide +kernel : ∀ t : Fin grid0.N, win0_7.index t = ![0, 0])
theorem idx8 : ∀ t : Fin cfg0.N, win0_8.index t = ![t.val, 0] :=
  (by decide +kernel : ∀ t : Fin grid0.N, win0_8.index t = ![t.val, 0])

/-- The row of the arrays that a grid point's row is. -/
abbrev rowOf (t : Fin cfg0.N) (r : Fin 512) : Fin 65536 := ⟨t.val * 512 + r.val, by have := t.isLt; have : cfg0.N = 128 := N_0; omega⟩

theorem emb0 (t : Fin cfg0.N) (r : Fin 512) (k : Fin 1024) : ((cfg0.win 0).blk t).view.emb (ix2 r k) = ix2 (rowOf t r) k := by
  blk_ext [idx0 t]
theorem emb1 (t : Fin cfg0.N) (h : Fin 2) (r : Fin 512) (k : Fin 128) : ((cfg0.win 1).blk t).view.emb (ix3 h r k) = ix3 h (rowOf t r) k := by
  blk_ext [idx1 t]
theorem emb2 (t : Fin cfg0.N) (h : Fin 2) (r : Fin 512) (k : Fin 128) : ((cfg0.win 2).blk t).view.emb (ix3 h r k) = ix3 h (rowOf t r) k := by
  blk_ext [idx2 t]
theorem emb3 (t : Fin cfg0.N) (h : Fin 2) (r : Fin 512) (k : Fin 128) : ((cfg0.win 3).blk t).view.emb (ix3 h r k) = ix3 h (rowOf t r) k := by
  blk_ext [idx3 t]
theorem emb4 (t : Fin cfg0.N) (h : Fin 2) (r : Fin 512) (k : Fin 128) : ((cfg0.win 4).blk t).view.emb (ix3 h r k) = ix3 h (rowOf t r) k := by
  blk_ext [idx4 t]
theorem emb5 (t : Fin cfg0.N) (h : Fin 2) (r : Fin 512) (k : Fin 128) : ((cfg0.win 5).blk t).view.emb (ix3 h r k) = ix3 h (rowOf t r) k := by
  blk_ext [idx5 t]
theorem emb6 (t : Fin cfg0.N) (h : Fin 2) (r : Fin 512) (k : Fin 128) : ((cfg0.win 6).blk t).view.emb (ix3 h r k) = ix3 h (rowOf t r) k := by
  blk_ext [idx6 t]
theorem emb8 (t : Fin cfg0.N) (r : Fin 512) (k : Fin 1024) : ((cfg0.win 8).blk t).view.emb (ix2 r k) = ix2 (rowOf t r) k := by
  blk_ext [idx8 t]

theorem rows (x : Vec Ideal S32x2048x1024 .f32) (h : S32x2048x1024.ShapeCasts S65536x1024) (n : Fin 65536) (k : Fin 1024) :
    shapeCast S65536x1024 x h (ix2 n k) = x (ix3 (⟨n.val / 2048, by omega⟩ : Fin 32) (⟨n.val % 2048, by omega⟩ : Fin 2048) k) := by
  pointwise

theorem iblk0 (c : Dev nD) (t : Fin cfg0.N) (r : Fin 512) (k : Fin 1024) (n : Fin 65536) (hn : n = rowOf t r) :
    iblk (F := Ideal) m c 0 t (ix2 r k) = m ((c : Thread nD τ).loc main_arg0) (ix3 (⟨n.val / 2048, by omega⟩ : Fin 32) (⟨n.val % 2048, by omega⟩ : Fin 2048) k) := by
  subst hn
  unfold iblk
  rw [View.read_apply]
  erw [V18, emb0, rows]
  rfl
theorem iblk1 (c : Dev nD) (t : Fin cfg0.N) (g : Fin 2) (r : Fin 512) (k : Fin 128) :
    iblk (F := Ideal) m c 1 t (ix3 g r k) = halves (m ((c : Thread nD τ).loc main_arg1)) (ix3 g (rowOf t r) k) := by
  unfold iblk
  rw [View.read_apply]
  erw [V1, emb1]
  rfl
theorem iblk2 (c : Dev nD) (t : Fin cfg0.N) (g : Fin 2) (r : Fin 512) (k : Fin 128) :
    iblk (F := Ideal) m c 2 t (ix3 g r k) = halves (m ((c : Thread nD τ).loc main_arg2)) (ix3 g (rowOf t r) k) := by
  unfold iblk
  rw [View.read_apply]
  erw [V3, emb2]
  rfl
theorem iblk3 (c : Dev nD) (t : Fin cfg0.N) (g : Fin 2) (r : Fin 512) (k : Fin 128) :
    iblk (F := Ideal) m c 3 t (ix3 g r k) = halves (m ((c : Thread nD τ).loc main_arg3)) (ix3 g (rowOf t r) k) := by
  unfold iblk
  rw [View.read_apply]
  erw [V5, emb3]
  rfl
theorem iblk4 (c : Dev nD) (t : Fin cfg0.N) (g : Fin 2) (r : Fin 512) (k : Fin 128) :
    iblk (F := Ideal) m c 4 t (ix3 g r k) = halves (spread (m ((c : Thread nD τ).loc main_arg4))) (ix3 g (rowOf t r) k) := by
  unfold iblk
  rw [View.read_apply]
  erw [V9, emb4]
  rfl
theorem iblk5 (c : Dev nD) (t : Fin cfg0.N) (g : Fin 2) (r : Fin 512) (k : Fin 128) :
    iblk (F := Ideal) m c 5 t (ix3 g r k) = halves (spread (m ((c : Thread nD τ).loc main_arg5))) (ix3 g (rowOf t r) k) := by
  unfold iblk
  rw [View.read_apply]
  erw [V13, emb5]
  rfl
theorem iblk6 (c : Dev nD) (t : Fin cfg0.N) (g : Fin 2) (r : Fin 512) (k : Fin 128) :
    iblk (F := Ideal) m c 6 t (ix3 g r k) = halves (spread (m ((c : Thread nD τ).loc main_arg6))) (ix3 g (rowOf t r) k) := by
  unfold iblk
  rw [View.read_apply]
  erw [V17, emb6]
  rfl
theorem iblk7 (c : Dev nD) (t : Fin cfg0.N) (j : Fin 256) (d : Fin 1024) :
    iblk (F := Ideal) m c 7 t (ix2 j d) = m ((c : Thread nD τ).loc main_arg7) (ix2 j d) := by
  blk_simp [iblk, idx7 t]
  rw [V19]
  blk_ext [idx7 t]

/-- A half, loaded from its block. -/
theorem half_ld (x : Vec Ideal S2x512x128 .f32) (p : ℕ) (h : ∀ a : Fin S2x512x128.rank, ![p, 0, 0] a + ![1, 512, 128] a ≤ S2x512x128.size a) (hp : p < 2) (r : Fin 512) (l : Fin 128) :
    View.ld x (Rect.unit ![p, 0, 0] ![1, 512, 128] h) (ix3 0 r l) = x (ix3 (⟨p, hp⟩ : Fin 2) r l) := by
  refine congrArg x ?_
  funext a
  fin_cases a
  · exact Fin.ext (by simp [Rect.emb, LoadRect.idx, Rect.toLoadRect, Rect.unit])
  · exact Fin.ext (by simp [Rect.emb, LoadRect.idx, Rect.toLoadRect, Rect.unit])
  · exact Fin.ext (by simp [Rect.emb, LoadRect.idx, Rect.toLoadRect, Rect.unit])

theorem full0 (x : Vec Ideal S512x1024 .f32) : View.ld x r0_2 = x := by
  rw [View.ld_unit_lit]
  intro a
  fin_cases a <;> rfl
theorem full7 (x : Vec Ideal S256x1024 .bf16) : View.ld x r0_3 = x := by
  rw [View.ld_unit_lit]
  intro a
  fin_cases a <;> rfl

/-- A block's two halves beside each other. -/
abbrev whole (x : Vec Ideal S2x512x128 .f32) : FVec Ideal S512x256 .f32 := k0_pay2 (F := Ideal) (View.ld x r0_0) (View.ld x r0_1)

theorem join_at (u v : Vec Ideal S1x512x128 .f32) (r : Fin 512) (j : Fin 256) :
    k0_pay2 (F := Ideal) u v (ix2 r j) = if h : j.val < 128 then u (ix3 0 r ⟨j.val, h⟩) else v (ix3 0 r ⟨j.val - 128, by omega⟩) := by
  pointwise [k0_pay2]

/-- A block of the halves of `o` is, side by side, the rows of `o`. -/
theorem whole_at (x : Vec Ideal S2x512x128 .f32) (o : Vec Ideal S32x2048x4x64 .f32) (n : Fin 65536) (r : Fin 512)
    (hx : ∀ (g : Fin 2) (k : Fin 128), x (ix3 g r k) = halves o (ix3 g n k)) (j : Fin 256) :
    whole x (ix2 r j) = o (ix4 (⟨n.val / 2048, by omega⟩ : Fin 32) (⟨n.val % 2048, by omega⟩ : Fin 2048) (⟨j.val / 64, by omega⟩ : Fin 4) (⟨j.val % 64, by omega⟩ : Fin 64)) := by
  unfold whole
  rw [join_at]
  by_cases h : j.val < 128
  · rw [dif_pos h]
    refine (half_ld x 0 _ (by decide) r _).trans ((hx _ _).trans (halves_at o _ n _ _ _ _ _ rfl rfl ?_ ?_))
    · dsimp only; omega
    · dsimp only; omega
  · rw [dif_neg h]
    refine (half_ld x 1 _ (by decide) r _).trans ((hx _ _).trans (halves_at o _ n _ _ _ _ _ rfl rfl ?_ ?_))
    · dsimp only; omega
    · dsimp only; omega

/-- The exponential of a group's entries less the greatest of the groups'. -/
abbrev ex (a b c d : FVec Ideal S512x256 .f32) : FVec Ideal S512x256 .f32 := exp (subf d (maximumf (maximumf a b) c))

/-- The groups mixed. -/
abbrev mixed (a b c u v w : FVec Ideal S512x256 .f32) : FVec Ideal S512x256 .f32 :=
  addf (addf (mulf (divf (ex a b c a) (addf (addf (ex a b c a) (ex a b c b)) (ex a b c c))) u) (mulf (divf (ex a b c b) (addf (addf (ex a b c a) (ex a b c b)) (ex a b c c))) v))
    (mulf (divf (ex a b c c) (addf (addf (ex a b c a) (ex a b c b)) (ex a b c c))) w)

theorem mixed_at (a b c u v w : FVec Ideal S512x256 .f32) (l o : Fin 3 → EReal) (r : Fin 512) (j : Fin 256)
    (h0 : a (ix2 r j) = l 0) (h1 : b (ix2 r j) = l 1) (h2 : c (ix2 r j) = l 2) (k0 : u (ix2 r j) = o 0) (k1 : v (ix2 r j) = o 1) (k2 : w (ix2 r j) = o 2) :
    mixed a b c u v w (ix2 r j) = mixture l o := by
  unfold mixture
  rw [sup_three, Fin.sum_univ_three, Fin.sum_univ_three, ← h0, ← h1, ← h2, ← k0, ← k1, ← k2]
  unfold mixed
  pointwise

/-- The result's block from the mixed groups. -/
abbrev sums (x : Vec Ideal S512x1024 .f32) (p : FVec Ideal S512x256 .f32) (w : Vec Ideal S256x1024 .bf16) : FVec Ideal S512x1024 .f32 :=
  addf (shapeCast S512x1024 x shapeCasts_S512x1024_S512x1024 : FVec Ideal S512x1024 .f32)
    (matmul (F := Ideal) (φ₁ := .bf16) (φ₂ := .bf16) dot_S512x256_S256x1024_S512x1024_1_0_0_1_n_n none (truncf .bf16 p bitsLt_bf16_f32) (shapeCast S256x1024 w shapeCasts_S256x1024_S256x1024) (constant S512x1024 .f32 0x00000000#32))

theorem sums_at (x : Vec Ideal S512x1024 .f32) (p : FVec Ideal S512x256 .f32) (w : Vec Ideal S256x1024 .bf16) (r : Fin 512) (d : Fin 1024) :
    sums x p w (ix2 r d) = x (ix2 r d) + ∑ j : Fin 256, p (ix2 r j) * w (ix2 j d) := by
  unfold sums
  pointwise

theorem block (x0 : Vec Ideal S512x1024 .f32) (x1 x2 x3 x4 x5 x6 : Vec Ideal S2x512x128 .f32) (x7 : Vec Ideal S256x1024 .bf16) :
    out0_8 (F := Ideal) x0 x1 x2 x3 x4 x5 x6 x7 = sums x0 (mixed (whole x4) (whole x5) (whole x6) (whole x1) (whole x2) (whole x3)) x7 := by
  unfold out0_8
  rw [View.canon_unit_zero (by funext a; fin_cases a <;> rfl), full0, full7]
  rfl

/-- A grid point's block holds its rows of the result. -/
theorem out_at (c : Dev nD) (t : Fin cfg0.N) (r : Fin 512) (d : Fin 1024) :
    out0_8 (F := Ideal) (iblk m c 0 t) (iblk m c 1 t) (iblk m c 2 t) (iblk m c 3 t) (iblk m c 4 t) (iblk m c 5 t) (iblk m c 6 t) (iblk m c 7 t) (ix2 r d)
      = outArray (m ((c : Thread nD τ).loc main_arg0)) ![m ((c : Thread nD τ).loc main_arg1), m ((c : Thread nD τ).loc main_arg2), m ((c : Thread nD τ).loc main_arg3)]
          ![m ((c : Thread nD τ).loc main_arg4), m ((c : Thread nD τ).loc main_arg5), m ((c : Thread nD τ).loc main_arg6)] (m ((c : Thread nD τ).loc main_arg7)) (ix2 (rowOf t r) d) := by
  rw [block, sums_at, outArray_at]
  unfold out
  refine congrArg₂ (· + ·) (iblk0 m c t r d _ rfl) (Finset.sum_congr rfl fun j _ => congrArg₂ (· * ·) ?_ (iblk7 m c t j d))
  exact mixed_at _ _ _ _ _ _ _ _ r j
    ((whole_at _ _ (rowOf t r) r (fun g k => iblk4 m c t g r k) j).trans (spread_at _ _ _ _ _))
    ((whole_at _ _ (rowOf t r) r (fun g k => iblk5 m c t g r k) j).trans (spread_at _ _ _ _ _))
    ((whole_at _ _ (rowOf t r) r (fun g k => iblk6 m c t g r k) j).trans (spread_at _ _ _ _ _))
    (whole_at _ _ (rowOf t r) r (fun g k => iblk1 m c t g r k) j)
    (whole_at _ _ (rowOf t r) r (fun g k => iblk2 m c t g r k) j)
    (whole_at _ _ (rowOf t r) r (fun g k => iblk3 m c t g r k) j)

/-- The result array of the call. -/
theorem final8 (c : Dev nD) : (dats (F := Ideal) m 0 c).arrAt 8 cfg0.N
    = outArray (m ((c : Thread nD τ).loc main_arg0)) ![m ((c : Thread nD τ).loc main_arg1), m ((c : Thread nD τ).loc main_arg2), m ((c : Thread nD τ).loc main_arg3)]
        ![m ((c : Thread nD τ).loc main_arg4), m ((c : Thread nD τ).loc main_arg5), m ((c : Thread nD τ).loc main_arg6)] (m ((c : Thread nD τ).loc main_arg7)) := by
  refine (dats (F := Ideal) m 0 c).arrAt_eq_of_covers 8 _ (by decide +kernel) fun t hf y => ?_
  rw [after0_8]
  idx_vars y
  have h := out_at m c t y0 y1
  erw [emb8 t y0 y1]
  generalize outArray (m (c.tc.loc main_arg0)) ![m (c.tc.loc main_arg1), m (c.tc.loc main_arg2), m (c.tc.loc main_arg3)] ![m (c.tc.loc main_arg4), m (c.tc.loc main_arg5), m (c.tc.loc main_arg6)] (m (c.tc.loc main_arg7)) = G at h ⊢
  generalize out0_8 (F := Ideal) (iblk m c 0 t) (iblk m c 1 t) (iblk m c 2 t) (iblk m c 3 t) (iblk m c 4 t) (iblk m c 5 t) (iblk m c 6 t) (iblk m c 7 t) = O at h ⊢
  exact h

end Cert.OddOutputIdeal.Closed

namespace Cert.OddOutputReferenceIdeal.Closed

open Cert.OddOutputReferenceIdeal Cert.OddOutputReferenceIdeal.Gen Cert.Indices
open Cert.OddOutputIdeal.Closed (out outArray outArray_at mixture rows)

/-- The reference's stack of the groups' numbers. -/
abbrev L (l : Fin 3 → Vec Ideal S32x2048x4 .f32) : FVec Ideal S3x32x2048x4 .f32 :=
  concatenate S3x32x2048x4 0 [⟨S1x32x2048x4, broadcastInDim S1x32x2048x4 ![1, 2, 3] bcast_S32x2048x4_S1x32x2048x4_1_2_3 (l 0)⟩, ⟨S1x32x2048x4, broadcastInDim S1x32x2048x4 ![1, 2, 3] bcast_S32x2048x4_S1x32x2048x4_1_2_3 (l 1)⟩, ⟨S1x32x2048x4, broadcastInDim S1x32x2048x4 ![1, 2, 3] bcast_S32x2048x4_S1x32x2048x4_1_2_3 (l 2)⟩] concatenates_S1x32x2048x4_S1x32x2048x4_S1x32x2048x4_S3x32x2048x4_d0

/-- The reference's stack of the groups' outputs. -/
abbrev U (o : Fin 3 → Vec Ideal S32x2048x4x64 .f32) : FVec Ideal S3x32x2048x4x64 .f32 :=
  concatenate S3x32x2048x4x64 0 [⟨S1x32x2048x4x64, broadcastInDim S1x32x2048x4x64 ![1, 2, 3, 4] bcast_S32x2048x4x64_S1x32x2048x4x64_1_2_3_4 (o 0)⟩, ⟨S1x32x2048x4x64, broadcastInDim S1x32x2048x4x64 ![1, 2, 3, 4] bcast_S32x2048x4x64_S1x32x2048x4x64_1_2_3_4 (o 1)⟩, ⟨S1x32x2048x4x64, broadcastInDim S1x32x2048x4x64 ![1, 2, 3, 4] bcast_S32x2048x4x64_S1x32x2048x4x64_1_2_3_4 (o 2)⟩] concatenates_S1x32x2048x4x64_S1x32x2048x4x64_S1x32x2048x4x64_S3x32x2048x4x64_d0

/-- The greatest of the groups' numbers. -/
abbrev M (l : FVec Ideal S3x32x2048x4 .f32) : FVec Ideal S32x2048x4 .f32 :=
  Host.reduce FloatOps.maximumf l (constant S_ .f32 0xFF800000#32) reducesTo_S3x32x2048x4_S32x2048x4_d0 h_S_

/-- The exponentials of the groups' numbers less `M`. -/
abbrev E (l : FVec Ideal S3x32x2048x4 .f32) (M : FVec Ideal S32x2048x4 .f32) : FVec Ideal S3x32x2048x4 .f32 :=
  Host.exp (F := Ideal) (subf l (broadcastInDim S3x32x2048x4 ![0, 1, 2, 3] bcast_S1x32x2048x4_S3x32x2048x4_0_1_2_3 (broadcastInDim S1x32x2048x4 ![1, 2, 3] bcast_S32x2048x4_S1x32x2048x4_1_2_3 (maximumf (broadcastInDim S32x2048x4 ![] bcast_S_S32x2048x4 (constant S_ .f32 0xFF800000#32)) M))))

/-- The reference's mixed heads. -/
abbrev O (e : FVec Ideal S3x32x2048x4 .f32) (u : FVec Ideal S3x32x2048x4x64 .f32) : Vec Ideal S32x2048x256 .f32 :=
  shapeCast S32x2048x256 (Host.dotGeneral (F := Ideal) (φ₁ := .f32) (φ₂ := .f32) dot_S3x32x2048x4_S3x32x2048x4x64_S32x2048x4x64_0_0_n_4_123_123 none (Host.divf e (broadcastInDim S3x32x2048x4 ![0, 1, 2, 3] bcast_S1x32x2048x4_S3x32x2048x4_0_1_2_3 (broadcastInDim S1x32x2048x4 ![1, 2, 3] bcast_S32x2048x4_S1x32x2048x4_1_2_3 (Host.reduceAdd e (constant S_ .f32 0x00000000#32) reducesTo_S3x32x2048x4_S32x2048x4_d0 h_S_)))) u) shapeCasts_S32x2048x4x64_S32x2048x256

/-- The reference's result from the mixed heads. -/
abbrev R (x : Vec Ideal S32x2048x1024 .f32) (o : Vec Ideal S32x2048x256 .f32) (w : Vec Ideal S256x1024 .f32) : Vec Ideal S65536x1024 .f32 :=
  shapeCast S65536x1024 (addf x (Host.dotGeneral (F := Ideal) (φ₁ := .f32) (φ₂ := .f32) dot_S32x2048x256_S256x1024_S32x2048x1024_2_0_01_1_n_n none o w)) shapeCasts_S32x2048x1024_S65536x1024

theorem L_at (l : Fin 3 → Vec Ideal S32x2048x4 .f32) (g : Fin 3) (b : Fin 32) (s : Fin 2048) (h : Fin 4) : L l (ix4 g b s h) = l g (ix3 b s h) := by
  unfold L
  pointwise
  fin_cases g <;> rfl

theorem U_at (o : Fin 3 → Vec Ideal S32x2048x4x64 .f32) (g : Fin 3) (b : Fin 32) (s : Fin 2048) (h : Fin 4) (e : Fin 64) : U o (ix5 g b s h e) = o g (ix4 b s h e) := by
  unfold U
  pointwise
  fin_cases g <;> rfl

theorem minus_infinity : (Ideal.ofBits FTy.f32 0xFF800000#32 : EReal) = ⊥ := by
  simp [Ideal.ofBits, Ideal.ieee]

theorem M_at (l : FVec Ideal S3x32x2048x4 .f32) (b : Fin 32) (s : Fin 2048) (h : Fin 4) :
    M l (ix3 b s h) = Finset.univ.sup fun g : Fin 3 => l (ix4 g b s h) := by
  trans Finset.fold max (Ideal.ofBits FTy.f32 0xFF800000#32) (fun g : Fin 3 => l (ix4 g b s h)) Finset.univ
  · unfold M
    pointwise
  · rw [minus_infinity]
    rfl

theorem E_at (l : FVec Ideal S3x32x2048x4 .f32) (M : FVec Ideal S32x2048x4 .f32) (g : Fin 3) (b : Fin 32) (s : Fin 2048) (h : Fin 4) :
    E l M (ix4 g b s h) = Ideal.exp (l (ix4 g b s h) - M (ix3 b s h)) := by
  unfold E
  pointwise
  rw [minus_infinity]
  refine congrArg (fun x => Ideal.exp (l (ix4 g b s h) - x)) ?_
  exact max_eq_right bot_le

theorem O_at (e : FVec Ideal S3x32x2048x4 .f32) (u : FVec Ideal S3x32x2048x4x64 .f32) (b : Fin 32) (s : Fin 2048) (j : Fin 256) :
    O e u (ix3 b s j) = ∑ g : Fin 3, Ideal.div (e (ix4 g b s ⟨j.val / 64, by omega⟩)) (∑ i : Fin 3, e (ix4 i b s ⟨j.val / 64, by omega⟩))
      * u (ix5 g b s ⟨j.val / 64, by omega⟩ ⟨j.val % 64, by omega⟩) := by
  unfold O
  pointwise

theorem R_at (x : Vec Ideal S32x2048x1024 .f32) (o : Vec Ideal S32x2048x256 .f32) (w : Vec Ideal S256x1024 .f32) (n : Fin 65536) (d : Fin 1024) :
    R x o w (ix2 n d) = x (ix3 ⟨n.val / 2048, by omega⟩ ⟨n.val % 2048, by omega⟩ d)
      + ∑ j : Fin 256, o (ix3 ⟨n.val / 2048, by omega⟩ ⟨n.val % 2048, by omega⟩ j) * w (ix2 j d) := by
  unfold R
  pointwise

theorem result (x : Vec Ideal S32x2048x1024 .f32) (o : Fin 3 → Vec Ideal S32x2048x4x64 .f32) (l : Fin 3 → Vec Ideal S32x2048x4 .f32) (w : Vec Ideal S256x1024 .f32) :
    R x (O (E (L l) (M (L l))) (U o)) w = outArray x o l w := by
  funext i
  idx_vars i
  rw [R_at, outArray_at]
  unfold out mixture
  refine congrArg₂ (· + ·) rfl (Finset.sum_congr rfl fun j _ => congrArg₂ (· * ·) ?_ rfl)
  rw [O_at]
  simp only [E_at, M_at, L_at, U_at]

/-- The reference's run with its result at the projection. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = outArray (m ((c.tc : Thread nD τ).loc main_arg0))
        ![m ((c.tc : Thread nD τ).loc main_arg1), m ((c.tc : Thread nD τ).loc main_arg2), m ((c.tc : Thread nD τ).loc main_arg3)]
        ![m ((c.tc : Thread nD τ).loc main_arg4), m ((c.tc : Thread nD τ).loc main_arg5), m ((c.tc : Thread nD τ).loc main_arg6)] (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ⟨(h c).1.trans ?_, (h c).2⟩) (Value.run (F := Ideal) m ρ)
  exact result (m ((c.tc : Thread nD τ).loc main_arg0)) ![m ((c.tc : Thread nD τ).loc main_arg1), m ((c.tc : Thread nD τ).loc main_arg2), m ((c.tc : Thread nD τ).loc main_arg3)]
    ![m ((c.tc : Thread nD τ).loc main_arg4), m ((c.tc : Thread nD τ).loc main_arg5), m ((c.tc : Thread nD τ).loc main_arg6)] (m ((c.tc : Thread nD τ).loc main_arg7))

end Cert.OddOutputReferenceIdeal.Closed

end
-- ==== Proof.MemAttendMath.lean ====
/- The arithmetic of one row of the attention into the memory, over the extended reals: with real scores the weighted sum
   divided by the weights' sum is the sum of the normalised weights' products, and a sum over one head's lanes. -/
module

public import proofs.«01_k».proof.Proof.AttentionMath
public import proofs.«01_k».proof.Proof.FfnMath
public import Idealize.ShloMosaic.Lib.Pointwise
public import Idealize.ShloMosaic.Lib.IdealHost

@[expose] public section

noncomputable section

open Idealize.ShloMosaic

namespace Cert.MemAttendMath

open Cert.AttentionMath Cert.FfnMath

/-- The value is a real number. -/
def IsReal (x : EReal) : Prop := ∃ z : ℝ, x = (z : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ i, IsReal (f i)) : IsReal (∑ i, f i) := by
  choose z hz using h
  exact ⟨∑ i, z i, by simp only [hz]; exact coe_sum _ _⟩

theorem length : (Ideal.ofBits FTy.f32 0x44800000#32 : EReal) = ((1024 : ℝ) : EReal) := by
  simp [Ideal.ofBits, Ideal.ieee, -EReal.coe_mul]
  norm_num

theorem small : (Ideal.ofBits FTy.f32 0x358637BD#32 : EReal) = ((8796093 / 8796093022208 : ℝ) : EReal) := by
  simp [Ideal.ofBits, Ideal.ieee, -EReal.coe_mul]
  norm_num

theorem eighth : (Ideal.ofBits FTy.f32 0x3E000000#32 : EReal) = ((1 / 8 : ℝ) : EReal) := by
  simp [Ideal.ofBits, Ideal.ieee, -EReal.coe_mul]
  norm_num

/-- The normalised entries of a real row are real. -/
theorem rnorm_real (x g : Fin 1024 → EReal) (hx : ∀ k, IsReal (x k)) (hg : ∀ k, IsReal (g k)) (k : Fin 1024) : IsReal (rnorm x g k) := by
  unfold rnorm
  refine IsReal.mul (IsReal.mul (hx k) ?_) (hg k)
  choose z hz using hx
  have e : ∑ l, x l * x l = ((∑ l, z l * z l : ℝ) : EReal) := by
    simp only [hz, ← EReal.coe_mul]
    exact coe_sum _ _
  have hp : 0 < (∑ l, z l * z l) / 1024 + 8796093 / 8796093022208 :=
    add_pos_of_nonneg_of_pos (div_nonneg (Finset.sum_nonneg fun l _ => mul_self_nonneg _) (by norm_num)) (by norm_num)
  rw [e, length, small, div_coe _ _ (by norm_num), ← EReal.coe_add]
  generalize (∑ l, z l * z l) / 1024 + 8796093 / 8796093022208 = y at hp ⊢
  refine ⟨(Real.sqrt y)⁻¹, (Ideal.rsqrt_coe _).trans ?_⟩
  rw [if_neg (not_lt.mpr hp.le), if_neg hp.ne']

/-- A nonnegative real factor goes into a sum. -/
theorem sum_mul_real {n : ℕ} (f : Fin n → EReal) (c : EReal) (h0 : 0 ≤ c) (h1 : c ≠ ⊤) : (∑ i, f i) * c = ∑ i, f i * c := by
  classical
  generalize (Finset.univ : Finset (Fin n)) = s
  induction s using Finset.induction_on with
  | empty => simp
  | insert a s ha ih => rw [Finset.sum_insert ha, Finset.sum_insert ha, EReal.right_distrib_of_nonneg_of_ne_top h0 h1, ih]

/-- The weighted sum of the values over the weights' sum, the weights the exponentials of the scores less their maximum. -/
def attended {n : ℕ} (s v : Fin n → EReal) : EReal :=
  Ideal.div (∑ j, Ideal.exp (s j - Finset.univ.sup s) * v j) (∑ j, Ideal.exp (s j - Finset.univ.sup s))

/-- The normalised weights times the values. -/
def weighted {n : ℕ} (s v : Fin n → EReal) : EReal :=
  ∑ j, v j * Ideal.div (Ideal.exp (s j - Finset.univ.sup s)) (∑ i, Ideal.exp (s i - Finset.univ.sup s))

theorem attended_eq {n : ℕ} (hn : 0 < n) (s v : Fin n → EReal) (hs : ∀ j, IsReal (s j)) : attended s v = weighted s v := by
  choose z hz using hs
  have h1 : Finset.univ.sup s ≠ ⊤ := sup_ne_top _ _ fun j => by rw [hz]; exact EReal.coe_ne_top _
  have h2 : Finset.univ.sup s ≠ ⊥ := fun h => by
    have := (Finset.sup_eq_bot_iff _ _).mp h (⟨0, hn⟩ : Fin n) (Finset.mem_univ _)
    rw [hz] at this
    exact EReal.coe_ne_bot _ this
  unfold attended weighted
  have e := EReal.coe_toReal h1 h2
  generalize Finset.univ.sup s = M at e ⊢
  generalize M.toReal = r at e
  subst e
  have hE : ∀ j, Ideal.exp (s j - (r : EReal)) = ((Real.exp (z j - r) : ℝ) : EReal) := fun j => by
    rw [hz, ← EReal.coe_sub]
    exact Ideal.exp_coe _
  have hpos : 0 < ∑ j, Real.exp (z j - r) := Finset.sum_pos (fun j _ => Real.exp_pos _) ⟨⟨0, hn⟩, Finset.mem_univ _⟩
  simp only [hE, coe_sum]
  have hne : ((∑ j, Real.exp (z j - r) : ℝ) : EReal) ≠ 0 := by exact_mod_cast hpos.ne'
  unfold Ideal.div
  simp only [if_neg hne]
  rw [← EReal.coe_inv, sum_mul_real _ _ (EReal.coe_nonneg.mpr (inv_nonneg.mpr hpos.le)) (EReal.coe_ne_top _)]
  exact Finset.sum_congr rfl fun j _ => by rw [mul_comm _ (v j), mul_assoc]

/-- A sum over all lanes of which only one head's are not zero. -/
theorem sum_head (q k : Fin 256 → EReal) (h : Fin 4) :
    ∑ e : Fin 256, (if e.val / 64 = h.val then q e else 0) * k e = ∑ e : Fin 64, q ⟨h.val * 64 + e.val, by omega⟩ * k ⟨h.val * 64 + e.val, by omega⟩ := by
  have hs : ∀ f : Fin 256 → EReal, ∑ e, f e = ∑ a : Fin 4, ∑ b : Fin 64, f ⟨a.val * 64 + b.val, by omega⟩ := fun f => by
    rw [← (finProdFinEquiv (m := 4) (n := 64)).sum_comp f, Fintype.sum_prod_type]
    refine Finset.sum_congr rfl fun a _ => Finset.sum_congr rfl fun b _ => congrArg f (Fin.ext ?_)
    show b.val + 64 * a.val = a.val * 64 + b.val
    omega
  rw [hs, Finset.sum_eq_single h]
  · refine Finset.sum_congr rfl fun e _ => ?_
    rw [if_pos (by dsimp only; omega)]
  · intro a _ ha
    refine Finset.sum_eq_zero fun e _ => ?_
    have : a.val ≠ h.val := fun e => ha (Fin.ext e)
    rw [if_neg (by dsimp only; omega), zero_mul]
  · exact fun h' => absurd (Finset.mem_univ _) h'

end Cert.MemAttendMath

end
-- ==== Proof.MemAttendValue.lean ====
/- The values of the attention into the memory: every head's queries against the memory's keys, the weighted sums of its
   values over the weights' sum, and their product with the output weight added to the row. -/
module

public import proofs.«01_k».proof.Proof.Indices
public import proofs.«01_k».proof.Proof.MemAttendMath
public import proofs.«01_k».proof.Proof.Gen.MemAttendIdeal.Value
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.MemAttendIdeal.Closed

open Cert.MemAttendIdeal Cert.MemAttendIdeal.Gen Cert.Indices Cert.MemAttendMath Cert.FfnMath

variable (m : (ℓ : Loc nD τ sig) → Buf (Elt Ideal) ℓ)

theorem minus_infinity : (Ideal.ofBits FTy.f32 0xFF800000#32 : EReal) = ⊥ := by
  simp [Ideal.ofBits, Ideal.ieee]

/-- A fold of maxima from minus infinity is the supremum. -/
theorem sup_fold {n : ℕ} (f : Fin n → EReal) : Finset.fold max (Ideal.ofBits FTy.f32 0xFF800000#32) f Finset.univ = Finset.univ.sup f := by
  rw [minus_infinity]
  rfl

/-- The lanes from `o` to `p`. -/
abbrev lanes (o p : BitVec 32) : IVec S512x256 1 :=
  andi (cmpi .sge (iota .tc S512x256 32 [1] iota_S512x256_d1_w32) (broadcast S512x256 o)) (cmpi .slt (iota .tc S512x256 32 [1] iota_S512x256_d1_w32) (broadcast S512x256 p))

theorem word0 : ∀ l : Fin 256, IntOp.andi (IntOp.cmpi CmpIPredicate.sge (BitVec.ofNat 32 l.val) 0#32) (IntOp.cmpi CmpIPredicate.slt (BitVec.ofNat 32 l.val) 64#32)
    = if l.val / 64 = 0 then 1#1 else 0#1 := by decide +kernel
theorem word1 : ∀ l : Fin 256, IntOp.andi (IntOp.cmpi CmpIPredicate.sge (BitVec.ofNat 32 l.val) 64#32) (IntOp.cmpi CmpIPredicate.slt (BitVec.ofNat 32 l.val) 128#32)
    = if l.val / 64 = 1 then 1#1 else 0#1 := by decide +kernel
theorem word2 : ∀ l : Fin 256, IntOp.andi (IntOp.cmpi CmpIPredicate.sge (BitVec.ofNat 32 l.val) 128#32) (IntOp.cmpi CmpIPredicate.slt (BitVec.ofNat 32 l.val) 192#32)
    = if l.val / 64 = 2 then 1#1 else 0#1 := by decide +kernel
theorem word3 : ∀ l : Fin 256, IntOp.andi (IntOp.cmpi CmpIPredicate.sge (BitVec.ofNat 32 l.val) 192#32) (IntOp.cmpi CmpIPredicate.slt (BitVec.ofNat 32 l.val) 256#32)
    = if l.val / 64 = 3 then 1#1 else 0#1 := by decide +kernel

theorem lanes0 (r : Fin 512) (l : Fin 256) : lanes 0#32 64#32 (ix2 r l) = if l.val / 64 = 0 then 1#1 else 0#1 := by
  unfold lanes
  pointwise
  exact word0 l
theorem lanes1 (r : Fin 512) (l : Fin 256) : lanes 64#32 128#32 (ix2 r l) = if l.val / 64 = 1 then 1#1 else 0#1 := by
  unfold lanes
  pointwise
  exact word1 l
theorem lanes2 (r : Fin 512) (l : Fin 256) : lanes 128#32 192#32 (ix2 r l) = if l.val / 64 = 2 then 1#1 else 0#1 := by
  unfold lanes
  pointwise
  exact word2 l
theorem lanes3 (r : Fin 512) (l : Fin 256) : lanes 192#32 256#32 (ix2 r l) = if l.val / 64 = 3 then 1#1 else 0#1 := by
  unfold lanes
  pointwise
  exact word3 l

theorem select_at (M : IVec S512x256 1) (x y : FVec Ideal S512x256 .f32) (h : ℕ) (r : Fin 512) (l : Fin 256) (hM : M (ix2 r l) = if l.val / 64 = h then 1#1 else 0#1) :
    select M x y (ix2 r l) = if l.val / 64 = h then x (ix2 r l) else y (ix2 r l) := by
  show Scalar.select (M (ix2 r l)) (x (ix2 r l)) (y (ix2 r l)) = _
  rw [hM]
  by_cases e : l.val / 64 = h
  · rw [if_pos e, if_pos e]
    rfl
  · rw [if_neg e, if_neg e]
    rfl

/-- The queries with the other heads' lanes at zero. -/
abbrev only (M : IVec S512x256 1) (q : FVec Ideal S512x256 .f32) : FVec Ideal S512x256 .bf16 :=
  truncf .bf16 (select M q (broadcast S512x256 (Scalar.ofBits .f32 0x00000000#32 : Ideal .f32))) bitsLt_bf16_f32

/-- The scores of a block's queries against the keys. -/
abbrev scores (q : FVec Ideal S512x256 .bf16) (k : FVec Ideal S256x256 .bf16) : FVec Ideal S512x256 .f32 :=
  mulf (matmul (F := Ideal) (φ₁ := .bf16) (φ₂ := .bf16) dot_S512x256_S256x256_S512x256_1_1_0_0_n_n none q k (constant S512x256 .f32 0x00000000#32)) (broadcast S512x256 (Scalar.ofBits .f32 0x3E000000#32 : Ideal .f32))

/-- The exponentials of the scores less their row's maximum. -/
abbrev weights (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- The weighted sums of the values over the weights' sums. -/
abbrev mix (p : FVec Ideal S512x256 .f32) (v : FVec Ideal S256x256 .bf16) : FVec Ideal S512x256 .f32 :=
  divf (matmul (F := Ideal) (φ₁ := .bf16) (φ₂ := .bf16) dot_S512x256_S256x256_S512x256_1_0_0_1_n_n none (truncf .bf16 p bitsLt_bf16_f32) v (constant S512x256 .f32 0x00000000#32))
    (broadcastTo S512x256 (shapeCast S512x1 (multiReduction .add [1] S512 p 0x00000000#32 reduces_S512x256_S512 (.inl rfl) rfl) shapeCasts_S512_S512x1) broadcasts_S512x1_S512x256)

/-- One head's part of the attention, at every lane. -/
abbrev part (M : IVec S512x256 1) (q : FVec Ideal S512x256 .f32) (k v : FVec Ideal S256x256 .bf16) : FVec Ideal S512x256 .f32 :=
  mix (weights (scores (only M q) k)) v

/-- The four heads' parts, each at its own lanes. -/
abbrev heads (q : FVec Ideal S512x256 .f32) (k v : FVec Ideal S256x256 .bf16) : FVec Ideal S512x256 .bf16 :=
  truncf .bf16 (select (lanes 192#32 256#32) (part (lanes 192#32 256#32) q k v)
    (select (lanes 128#32 192#32) (part (lanes 128#32 192#32) q k v)
      (select (lanes 64#32 128#32) (part (lanes 64#32 128#32) q k v)
        (select (lanes 0#32 64#32) (part (lanes 0#32 64#32) q k v) (broadcast S512x256 (Scalar.ofBits .f32 0x00000000#32 : Ideal .f32)))))) bitsLt_bf16_f32

theorem only_at (M : IVec S512x256 1) (q : FVec Ideal S512x256 .f32) (h : ℕ) (r : Fin 512) (l : Fin 256) (hM : M (ix2 r l) = if l.val / 64 = h then 1#1 else 0#1) :
    only M q (ix2 r l) = if l.val / 64 = h then q (ix2 r l) else 0 := by
  refine (select_at M q _ h r l hM).trans ?_
  by_cases e : l.val / 64 = h
  · rw [if_pos e, if_pos e]
  · rw [if_neg e, if_neg e]
    pointwise

theorem scores_at (q : FVec Ideal S512x256 .bf16) (k : FVec Ideal S256x256 .bf16) (r : Fin 512) (j : Fin 256) :
    scores q k (ix2 r j) = (∑ e : Fin 256, q (ix2 r e) * k (ix2 j e)) * Ideal.ofBits .f32 0x3E000000#32 := by
  unfold scores
  pointwise

theorem weights_at (s : FVec Ideal S512x256 .f32) (r : Fin 512) (j : Fin 256) :
    weights s (ix2 r j) = Ideal.exp (s (ix2 r j) - Finset.univ.sup fun i : Fin 256 => s (ix2 r i)) := by
  unfold weights
  pointwise
  rw [sup_fold]

theorem mix_at (p : FVec Ideal S512x256 .f32) (v : FVec Ideal S256x256 .bf16) (r : Fin 512) (l : Fin 256) :
    mix p v (ix2 r l) = Ideal.div (∑ j : Fin 256, p (ix2 r j) * v (ix2 j l)) (∑ j : Fin 256, p (ix2 r j)) := by
  unfold mix
  pointwise

theorem part_at (M : IVec S512x256 1) (q : FVec Ideal S512x256 .f32) (k v : FVec Ideal S256x256 .bf16) (h : Fin 4) (r : Fin 512) (l : Fin 256)
    (hM : ∀ l : Fin 256, M (ix2 r l) = if l.val / 64 = h.val then 1#1 else 0#1) :
    part M q k v (ix2 r l) = attended (fun j : Fin 256 => (∑ e : Fin 64, q (ix2 r ⟨h.val * 64 + e.val, by omega⟩) * k (ix2 j ⟨h.val * 64 + e.val, by omega⟩)) * Ideal.ofBits .f32 0x3E000000#32)
      (fun j => v (ix2 j l)) := by
  unfold part
  rw [mix_at]
  have e : ∀ j : Fin 256, scores (only M q) k (ix2 r j) = (∑ e : Fin 64, q (ix2 r ⟨h.val * 64 + e.val, by omega⟩) * k (ix2 j ⟨h.val * 64 + e.val, by omega⟩)) * Ideal.ofBits .f32 0x3E000000#32 := fun j => by
    rw [scores_at, ← sum_head (fun e => q (ix2 r e)) (fun e => k (ix2 j e)) h]
    exact congrArg (· * Ideal.ofBits .f32 0x3E000000#32) (Finset.sum_congr rfl fun e _ => congrArg (· * k (ix2 j e)) (only_at M q h.val r e (hM e)))
  simp only [weights_at, e]
  rfl

theorem heads_at (q : FVec Ideal S512x256 .f32) (k v : FVec Ideal S256x256 .bf16) (r : Fin 512) (l : Fin 256) :
    heads q k v (ix2 r l) = attended (fun j : Fin 256 => (∑ e : Fin 64, q (ix2 r ⟨l.val / 64 * 64 + e.val, by omega⟩) * k (ix2 j ⟨l.val / 64 * 64 + e.val, by omega⟩)) * Ideal.ofBits .f32 0x3E000000#32)
      (fun j => v (ix2 j l)) := by
  have p : ∀ (M : IVec S512x256 1) (h : Fin 4), (∀ l : Fin 256, M (ix2 r l) = if l.val / 64 = h.val then 1#1 else 0#1) → l.val / 64 = h.val →
      part M q k v (ix2 r l) = attended (fun j : Fin 256 => (∑ e : Fin 64, q (ix2 r ⟨l.val / 64 * 64 + e.val, by omega⟩) * k (ix2 j ⟨l.val / 64 * 64 + e.val, by omega⟩)) * Ideal.ofBits .f32 0x3E000000#32)
        (fun j => v (ix2 j l)) := fun M h hM hl => by
    rw [part_at M q k v h r l hM]
    simp only [hl]
  refine (select_at _ _ _ 3 r l (lanes3 r l)).trans ?_
  by_cases h3 : l.val / 64 = 3
  · rw [if_pos h3]
    exact p _ 3 (lanes3 r) h3
  rw [if_neg h3]
  refine (select_at _ _ _ 2 r l (lanes2 r l)).trans ?_
  by_cases h2 : l.val / 64 = 2
  · rw [if_pos h2]
    exact p _ 2 (lanes2 r) h2
  rw [if_neg h2]
  refine (select_at _ _ _ 1 r l (lanes1 r l)).trans ?_
  by_cases h1 : l.val / 64 = 1
  · rw [if_pos h1]
    exact p _ 1 (lanes1 r) h1
  rw [if_neg h1]
  refine (select_at _ _ _ 0 r l (lanes0 r l)).trans ?_
  rw [if_pos (by omega)]
  exact p _ 0 (lanes0 r) (by show l.val / 64 = 0; omega)

/-- The normalised block times the queries' weight, read at an element. -/
theorem query_at (x : Vec Ideal S1x512x1024 .f32) (g : Vec Ideal S1x1024 .f32) (w : Vec Ideal S1024x256 .bf16) (r : Fin 512) (j : Fin 256) :
    k0_pay3 (F := Ideal) x g w (ix2 r j) = ∑ k : Fin 1024, rnorm (fun k => x (ix3 0 r k)) (fun k => g (ix2 0 k)) k * w (ix2 k j) := by
  unfold rnorm
  pointwise [k0_pay3, k0_pay2]

theorem keys_at (k : Vec Ideal S1x256x256 .f32) (j l : Fin 256) : k0_pay4 (F := Ideal) k (ix2 j l) = k (ix3 0 j l) := by
  pointwise [k0_pay4]

theorem vals_at (v : Vec Ideal S1x256x256 .f32) (j l : Fin 256) : k0_pay5 (F := Ideal) v (ix2 j l) = v (ix3 0 j l) := by
  pointwise [k0_pay5]

theorem sum_at (x : Vec Ideal S1x512x1024 .f32) (o : FVec Ideal S512x256 .bf16) (w : Vec Ideal S256x1024 .bf16) (r : Fin 512) (d : Fin 1024) :
    k0_pay1 (F := Ideal) (k0_pay2 (F := Ideal) x) o (k0_pay12 (F := Ideal) w) (ix3 0 r d) = x (ix3 0 r d) + ∑ l : Fin 256, o (ix2 r l) * w (ix2 l d) := by
  pointwise [k0_pay1, k0_pay2, k0_pay12]

/-- The loads of all of a block are the block. -/
theorem full0 (x : Vec Ideal S1x512x1024 .f32) : View.ld x r0_0 = x := by
  rw [View.ld_unit_lit]
  intro a
  fin_cases a <;> rfl
theorem full1 (x : Vec Ideal S1x1024 .f32) : View.ld x r0_1 = x := by
  rw [View.ld_unit_lit]
  intro a
  fin_cases a <;> rfl
theorem full2 (x : Vec Ideal S1024x256 .bf16) : View.ld x r0_2 = x := by
  rw [View.ld_unit_lit]
  intro a
  fin_cases a <;> rfl
theorem full3 (x : Vec Ideal S1x256x256 .f32) : View.ld x r0_3 = x := by
  rw [View.ld_unit_lit]
  intro a
  fin_cases a <;> rfl
theorem full4 (x : Vec Ideal S256x1024 .bf16) : View.ld x r0_4 = x := by
  rw [View.ld_unit_lit]
  intro a
  fin_cases a <;> rfl

/-- What the body leaves in its result's block. -/
theorem block (x0 : Vec Ideal S1x512x1024 .f32) (x1 : Vec Ideal S1x1024 .f32) (x2 : Vec Ideal S1024x256 .bf16) (x3 x4 : Vec Ideal S1x256x256 .f32) (x5 : Vec Ideal S256x1024 .bf16) :
    out0_6 (F := Ideal) x0 x1 x2 x3 x4 x5
      = k0_pay1 (F := Ideal) (k0_pay2 (F := Ideal) x0) (heads (k0_pay3 (F := Ideal) x0 x1 x2) (k0_pay4 (F := Ideal) x3) (k0_pay5 (F := Ideal) x4)) (k0_pay12 (F := Ideal) x5) := by
  unfold out0_6 k0_pay13 k0_pay14 k0_pay15
  rw [View.canon_unit_zero (by funext a; fin_cases a <;> rfl), full0, full1, full2, full3, full3, full4]
  rfl

/-- Row `s` of batch `b`: a head's queries, its scores against the memory, and the row with the heads' products added. -/
def query (x : Vec Ideal S32x2048x1024 .f32) (g : Vec Ideal S1024 .f32) (w : Vec Ideal S1024x256 .f32) (b : Fin 32) (s : Fin 2048) (j : Fin 256) : EReal :=
  ∑ k : Fin 1024, rnorm (fun k => x (ix3 b s k)) (fun k => g (ix1 k)) k * w (ix2 k j)
def score (x : Vec Ideal S32x2048x1024 .f32) (g : Vec Ideal S1024 .f32) (w : Vec Ideal S1024x256 .f32) (k : Vec Ideal S32x256x4x64 .f32)
    (b : Fin 32) (s : Fin 2048) (h : Fin 4) (j : Fin 256) : EReal :=
  (∑ e : Fin 64, query x g w b s ⟨h.val * 64 + e.val, by omega⟩ * k (ix4 b j h e)) * Ideal.ofBits .f32 0x3E000000#32
def out (x : Vec Ideal S32x2048x1024 .f32) (g : Vec Ideal S1024 .f32) (w : Vec Ideal S1024x256 .f32) (k v : Vec Ideal S32x256x4x64 .f32) (wo : Vec Ideal S256x1024 .f32)
    (b : Fin 32) (s : Fin 2048) (d : Fin 1024) : EReal :=
  x (ix3 b s d) + ∑ l : Fin 256, attended (score x g w k b s ⟨l.val / 64, by omega⟩) (fun j => v (ix4 b j ⟨l.val / 64, by omega⟩ ⟨l.val % 64, by omega⟩)) * wo (ix2 l d)
def outArray (x : Vec Ideal S32x2048x1024 .f32) (g : Vec Ideal S1024 .f32) (w : Vec Ideal S1024x256 .f32) (k v : Vec Ideal S32x256x4x64 .f32) (wo : Vec Ideal S256x1024 .f32) :
    Vec Ideal S32x2048x1024 .f32 := fun i => out x g w k v wo (i 0) (i 1) (i 2)

theorem outArray_at (x : Vec Ideal S32x2048x1024 .f32) (g : Vec Ideal S1024 .f32) (w : Vec Ideal S1024x256 .f32) (k v : Vec Ideal S32x256x4x64 .f32) (wo : Vec Ideal S256x1024 .f32)
    (b : Fin 32) (s : Fin 2048) (d : Fin 1024) : outArray x g w k v wo (ix3 b s d) = out x g w k v wo b s d := rfl

theorem V0 (c : Dev nD) : V m c main_v0 = shapeCast S1x1024 (m ((c : Thread nD τ).loc main_arg1)) shapeCasts_S1024_S1x1024 := by
  unfold V
  after_results <;> rfl
theorem V1 (c : Dev nD) : V m c main_v1 = (m ((c : Thread nD τ).loc main_arg2) : Vec Ideal S1024x256 .f32) := by
  unfold V
  after_results <;> rfl
theorem V2 (c : Dev nD) : V m c main_v2 = shapeCast S32x256x256 (m ((c : Thread nD τ).loc main_arg3)) shapeCasts_S32x256x4x64_S32x256x256 := by
  unfold V
  after_results <;> rfl
theorem V3 (c : Dev nD) : V m c main_v3 = shapeCast S32x256x256 (m ((c : Thread nD τ).loc main_arg4)) shapeCasts_S32x256x4x64_S32x256x256 := by
  unfold V
  after_results <;> rfl
theorem V4 (c : Dev nD) : V m c main_v4 = (m ((c : Thread nD τ).loc main_arg5) : Vec Ideal S256x1024 .f32) := by
  unfold V
  after_results <;> rfl

theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val / 4, 0, 0] :=
  (by decide +kernel : ∀ t : Fin grid0.N, win0_3.index t = ![t.val / 4, 0, 0])
theorem idx4 : ∀ t : Fin cfg0.N, win0_4.index t = ![t.val / 4, 0, 0] :=
  (by decide +kernel : ∀ t : Fin grid0.N, win0_4.index t = ![t.val / 4, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val / 4, t.val % 4, 0] :=
  (by decide +kernel : ∀ t : Fin grid0.N, win0_6.index t = ![t.val / 4, t.val % 4, 0])

theorem emb0 (t : Fin cfg0.N) (r : Fin 512) (k : Fin 1024) : ((cfg0.win 0).blk t).view.emb (ix3 (0 : Fin 1) r k)
    = ix3 (⟨t.val / 4, by have := t.isLt; have : cfg0.N = 128 := N_0; omega⟩ : Fin 32) (⟨t.val % 4 * 512 + r.val, by omega⟩ : Fin 2048) k := by
  blk_ext [idx0 t]
theorem emb3 (t : Fin cfg0.N) (j l : Fin 256) : ((cfg0.win 3).blk t).view.emb (ix3 (0 : Fin 1) j l)
    = ix3 (⟨t.val / 4, by have := t.isLt; have : cfg0.N = 128 := N_0; omega⟩ : Fin 32) j l := by
  blk_ext [idx3 t]
theorem emb4 (t : Fin cfg0.N) (j l : Fin 256) : ((cfg0.win 4).blk t).view.emb (ix3 (0 : Fin 1) j l)
    = ix3 (⟨t.val / 4, by have := t.isLt; have : cfg0.N = 128 := N_0; omega⟩ : Fin 32) j l := by
  blk_ext [idx4 t]
theorem emb6 (t : Fin cfg0.N) (r : Fin 512) (k : Fin 1024) : ((cfg0.win 6).blk t).view.emb (ix3 (0 : Fin 1) r k)
    = ix3 (⟨t.val / 4, by have := t.isLt; have : cfg0.N = 128 := N_0; omega⟩ : Fin 32) (⟨t.val % 4 * 512 + r.val, by omega⟩ : Fin 2048) k := by
  blk_ext [idx6 t]

theorem lanes_of (x : Vec Ideal S32x256x4x64 .f32) (b : Fin 32) (j l : Fin 256) :
    shapeCast S32x256x256 x shapeCasts_S32x256x4x64_S32x256x256 (ix3 b j l) = x (ix4 b j (⟨l.val / 64, by omega⟩ : Fin 4) (⟨l.val % 64, by omega⟩ : Fin 64)) := by
  pointwise

theorem iblk0 (c : Dev nD) (t : Fin cfg0.N) (r : Fin 512) (k : Fin 1024) (b : Fin 32) (s : Fin 2048) (hb : b.val = t.val / 4) (hs : s.val = t.val % 4 * 512 + r.val) :
    iblk (F := Ideal) m c 0 t (ix3 0 r k) = m ((c : Thread nD τ).loc main_arg0) (ix3 b s k) := by
  unfold iblk
  rw [View.read_apply]
  erw [V_main_arg0, emb0]
  exact congrArg (m ((c : Thread nD τ).loc main_arg0)) (ix3_congr hb.symm hs.symm rfl)
theorem iblk1 (c : Dev nD) (t : Fin cfg0.N) (k : Fin 1024) :
    iblk (F := Ideal) m c 1 t (ix2 0 k) = m ((c : Thread nD τ).loc main_arg1) (ix1 k) := by
  blk_simp [iblk, idx1 t]
  rw [V0]
  pointwise
  blk_ext [idx1 t]
theorem iblk2 (c : Dev nD) (t : Fin cfg0.N) (k : Fin 1024) (j : Fin 256) :
    iblk (F := Ideal) m c 2 t (ix2 k j) = m ((c : Thread nD τ).loc main_arg2) (ix2 k j) := by
  blk_simp [iblk, idx2 t]
  rw [V1]
  blk_ext [idx2 t]
theorem iblk3 (c : Dev nD) (t : Fin cfg0.N) (j l : Fin 256) (b : Fin 32) (hb : b.val = t.val / 4) :
    iblk (F := Ideal) m c 3 t (ix3 0 j l) = m ((c : Thread nD τ).loc main_arg3) (ix4 b j (⟨l.val / 64, by omega⟩ : Fin 4) (⟨l.val % 64, by omega⟩ : Fin 64)) := by
  unfold iblk
  rw [View.read_apply]
  erw [V2, emb3, lanes_of]
  exact congrArg (m ((c : Thread nD τ).loc main_arg3)) (ix4_congr hb.symm rfl rfl rfl)
theorem iblk4 (c : Dev nD) (t : Fin cfg0.N) (j l : Fin 256) (b : Fin 32) (hb : b.val = t.val / 4) :
    iblk (F := Ideal) m c 4 t (ix3 0 j l) = m ((c : Thread nD τ).loc main_arg4) (ix4 b j (⟨l.val / 64, by omega⟩ : Fin 4) (⟨l.val % 64, by omega⟩ : Fin 64)) := by
  unfold iblk
  rw [View.read_apply]
  erw [V3, emb4, lanes_of]
  exact congrArg (m ((c : Thread nD τ).loc main_arg4)) (ix4_congr hb.symm rfl rfl rfl)
theorem iblk5 (c : Dev nD) (t : Fin cfg0.N) (l : Fin 256) (d : Fin 1024) :
    iblk (F := Ideal) m c 5 t (ix2 l d) = m ((c : Thread nD τ).loc main_arg5) (ix2 l d) := by
  blk_simp [iblk, idx5 t]
  rw [V4]
  blk_ext [idx5 t]

/-- A grid point's block holds its rows of the result. -/
theorem out_at (c : Dev nD) (t : Fin cfg0.N) (r : Fin 512) (d : Fin 1024) (b : Fin 32) (s : Fin 2048) (hb : b.val = t.val / 4) (hs : s.val = t.val % 4 * 512 + r.val) :
    out0_6 (F := Ideal) (iblk m c 0 t) (iblk m c 1 t) (iblk m c 2 t) (iblk m c 3 t) (iblk m c 4 t) (iblk m c 5 t) (ix3 0 r d)
      = outArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s d) := by
  rw [block, sum_at, outArray_at]
  unfold out
  refine congrArg₂ (· + ·) (iblk0 m c t r d b s hb hs) (Finset.sum_congr rfl fun l _ => congrArg₂ (· * ·) ?_ (iblk5 m c t l d))
  rw [heads_at]
  refine congrArg₂ attended (funext fun j => ?_) (funext fun j => ?_)
  · unfold score query
    refine congrArg (· * Ideal.ofBits .f32 0x3E000000#32) (Finset.sum_congr rfl fun e _ => congrArg₂ (· * ·) ?_ ?_)
    · rw [query_at]
      simp only [iblk0 m c t r _ b s hb hs, iblk1, iblk2]
    · rw [keys_at, iblk3 m c t _ _ b hb]
      exact congrArg (m ((c : Thread nD τ).loc main_arg3)) (ix4_congr rfl rfl (by dsimp only; omega) (by dsimp only; omega))
  · rw [vals_at, iblk4 m c t _ _ b hb]

/-- The result array of the call. -/
theorem final6 (c : Dev nD) : (dats (F := Ideal) m 0 c).arrAt 6 cfg0.N = outArray (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats (F := Ideal) m 0 c).arrAt_eq_of_covers 6 _ (by decide +kernel) fun t hf y => ?_
  rw [after0_6]
  idx_vars y
  obtain rfl : y0 = 0 := Subsingleton.elim _ _
  have ht : t.val < 128 := N_0 ▸ t.isLt
  have h := out_at m c t y1 y2 ⟨t.val / 4, by omega⟩ ⟨t.val % 4 * 512 + y1.val, by omega⟩ rfl rfl
  erw [emb6 t y1 y2]
  generalize outArray (m (c.tc.loc main_arg0)) (m (c.tc.loc main_arg1)) (m (c.tc.loc main_arg2)) (m (c.tc.loc main_arg3)) (m (c.tc.loc main_arg4)) (m (c.tc.loc main_arg5)) = G at h ⊢
  generalize out0_6 (F := Ideal) (iblk m c 0 t) (iblk m c 1 t) (iblk m c 2 t) (iblk m c 3 t) (iblk m c 4 t) (iblk m c 5 t) = O at h ⊢
  exact h

end Cert.MemAttendIdeal.Closed

end
-- ==== Proof.MemAttendReference.lean ====
/- The reference of the attention into the memory, its result read at an element. -/
module

public import proofs.«01_k».proof.Proof.MemAttendValue
public import proofs.«01_k».proof.Proof.Gen.MemAttendReferenceIdeal.Run

@[expose] public section

set_option maxRecDepth 16384

noncomputable section

open Idealize.ShloMosaic Idealize.ShloMosaic.TcCoe Idealize.SL.Sem

namespace Cert.MemAttendReferenceIdeal.Closed

open Cert.MemAttendReferenceIdeal Cert.MemAttendReferenceIdeal.Gen Cert.Indices Cert.MemAttendMath Cert.FfnMath
open Cert.MemAttendIdeal.Closed (query score out outArray outArray_at minus_infinity sup_fold)

/-- The reference's queries. -/
abbrev Q (x : Vec Ideal S32x2048x1024 .f32) (g : Vec Ideal S1024 .f32) (w : Vec Ideal S1024x256 .f32) : Vec Ideal S32x2048x256 .f32 :=
  Host.dotGeneral (F := Ideal) (φ₁ := .f32) (φ₂ := .f32) dot_S32x2048x1024_S1024x256_S32x2048x256_2_0_01_1_n_n none (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))) w

/-- The reference's scores from the queries. -/
abbrev S (q : Vec Ideal S32x2048x256 .f32) (k : Vec Ideal S32x256x4x64 .f32) : FVec Ideal S32x4x2048x256 .f32 :=
  mulf (Host.dotGeneral (F := Ideal) (φ₁ := .f32) (φ₂ := .f32) dot_S32x2048x4x64_S32x256x4x64_S32x4x2048x256_3_3_1_1_02_02 none (shapeCast S32x2048x4x64 q shapeCasts_S32x2048x256_S32x2048x4x64) k) (broadcastInDim S32x4x2048x256 ![] bcast_S_S32x4x2048x256 (constant S_ .f32 0x3E000000#32))

/-- The exponentials of the scores less a row's value. -/
abbrev E (S : FVec Ideal S32x4x2048x256 .f32) (M : FVec Ideal S32x4x2048 .f32) : FVec Ideal S32x4x2048x256 .f32 :=
  Host.exp (F := Ideal) (subf S (broadcastInDim S32x4x2048x256 ![0, 1, 2, 3] bcast_S32x4x2048x1_S32x4x2048x256_0_1_2_3 (broadcastInDim S32x4x2048x1 ![0, 1, 2] bcast_S32x4x2048_S32x4x2048x1_0_1_2 (maximumf (broadcastInDim S32x4x2048 ![] bcast_S_S32x4x2048 (constant S_ .f32 0xFF800000#32)) M))))

/-- Every row's largest score. -/
abbrev M (S : FVec Ideal S32x4x2048x256 .f32) : FVec Ideal S32x4x2048 .f32 :=
  Host.reduce FloatOps.maximumf S (constant S_ .f32 0xFF800000#32) reducesTo_S32x4x2048x256_S32x4x2048_d3 h_S_

/-- The reference's heads beside each other. -/
abbrev O (v : Vec Ideal S32x256x4x64 .f32) (E : FVec Ideal S32x4x2048x256 .f32) : Vec Ideal S32x2048x256 .f32 :=
  shapeCast S32x2048x256 (transpose S32x2048x4x64 [0, 3, 1, 2] (Host.dotGeneral (F := Ideal) (φ₁ := .f32) (φ₂ := .f32) dot_S32x256x4x64_S32x4x2048x256_S32x4x64x2048_1_3_3_2_02_01 none v (Host.divf E (broadcastInDim S32x4x2048x256 ![0, 1, 2, 3] bcast_S32x4x2048x1_S32x4x2048x256_0_1_2_3 (broadcastInDim S32x4x2048x1 ![0, 1, 2] bcast_S32x4x2048_S32x4x2048x1_0_1_2 (Host.reduceAdd E (constant S_ .f32 0x00000000#32) reducesTo_S32x4x2048x256_S32x4x2048_d3 h_S_))))) transposes_S32x4x64x2048_S32x2048x4x64_0_3_1_2) shapeCasts_S32x2048x4x64_S32x2048x256

/-- The reference's result from the heads. -/
abbrev R (x : Vec Ideal S32x2048x1024 .f32) (o : Vec Ideal S32x2048x256 .f32) (w : Vec Ideal S256x1024 .f32) : Vec Ideal S32x2048x1024 .f32 :=
  addf x (Host.dotGeneral (F := Ideal) (φ₁ := .f32) (φ₂ := .f32) dot_S32x2048x256_S256x1024_S32x2048x1024_2_0_01_1_n_n none o w)

theorem Q_at (x : Vec Ideal S32x2048x1024 .f32) (g : Vec Ideal S1024 .f32) (w : Vec Ideal S1024x256 .f32) (b : Fin 32) (s : Fin 2048) (j : Fin 256) :
    Q x g w (ix3 b s j) = query x g w b s j := by
  unfold Q query rnorm
  pointwise

theorem S_at (q : Vec Ideal S32x2048x256 .f32) (k : Vec Ideal S32x256x4x64 .f32) (b : Fin 32) (h : Fin 4) (s : Fin 2048) (j : Fin 256) :
    S q k (ix4 b h s j) = (∑ e : Fin 64, q (ix3 b s ⟨h.val * 64 + e.val, by omega⟩) * k (ix4 b j h e)) * Ideal.ofBits .f32 0x3E000000#32 := by
  unfold S
  pointwise

theorem M_at (S : FVec Ideal S32x4x2048x256 .f32) (b : Fin 32) (h : Fin 4) (s : Fin 2048) :
    M S (ix3 b h s) = Finset.univ.sup fun j : Fin 256 => S (ix4 b h s j) := by
  refine Eq.trans ?_ (sup_fold fun j : Fin 256 => S (ix4 b h s j))
  unfold M
  pointwise

theorem E_at (S : FVec Ideal S32x4x2048x256 .f32) (M : FVec Ideal S32x4x2048 .f32) (b : Fin 32) (h : Fin 4) (s : Fin 2048) (j : Fin 256) :
    E S M (ix4 b h s j) = Ideal.exp (S (ix4 b h s j) - M (ix3 b h s)) := by
  unfold E
  pointwise
  rw [minus_infinity]
  refine congrArg (fun x => Ideal.exp (S (ix4 b h s j) - x)) ?_
  exact max_eq_right bot_le

theorem O_at (v : Vec Ideal S32x256x4x64 .f32) (E : FVec Ideal S32x4x2048x256 .f32) (b : Fin 32) (s : Fin 2048) (l : Fin 256) :
    O v E (ix3 b s l) = ∑ j : Fin 256, v (ix4 b j ⟨l.val / 64, by omega⟩ ⟨l.val % 64, by omega⟩)
      * Ideal.div (E (ix4 b ⟨l.val / 64, by omega⟩ s j)) (∑ i : Fin 256, E (ix4 b ⟨l.val / 64, by omega⟩ s i)) := by
  unfold O
  pointwise

theorem R_at (x : Vec Ideal S32x2048x1024 .f32) (o : Vec Ideal S32x2048x256 .f32) (w : Vec Ideal S256x1024 .f32) (b : Fin 32) (s : Fin 2048) (d : Fin 1024) :
    R x o w (ix3 b s d) = x (ix3 b s d) + ∑ l : Fin 256, o (ix3 b s l) * w (ix2 l d) := by
  unfold R
  pointwise

/-- The scores of real arrays are real. -/
theorem score_real (x : Vec Ideal S32x2048x1024 .f32) (g : Vec Ideal S1024 .f32) (w : Vec Ideal S1024x256 .f32) (k : Vec Ideal S32x256x4x64 .f32)
    (hx : ∀ i, IsReal (x i)) (hg : ∀ i, IsReal (g i)) (hw : ∀ i, IsReal (w i)) (hk : ∀ i, IsReal (k i)) (b : Fin 32) (s : Fin 2048) (h : Fin 4) (j : Fin 256) :
    IsReal (score x g w k b s h j) := by
  unfold score query
  exact IsReal.mul (IsReal.sum fun e => IsReal.mul (IsReal.sum fun i => IsReal.mul (rnorm_real _ _ (fun _ => hx _) (fun _ => hg _) i) (hw _)) (hk _)) ⟨_, eighth⟩

theorem result (x : Vec Ideal S32x2048x1024 .f32) (g : Vec Ideal S1024 .f32) (w : Vec Ideal S1024x256 .f32) (k v : Vec Ideal S32x256x4x64 .f32) (wo : Vec Ideal S256x1024 .f32)
    (hx : ∀ i, IsReal (x i)) (hg : ∀ i, IsReal (g i)) (hw : ∀ i, IsReal (w i)) (hk : ∀ i, IsReal (k i)) :
    R x (O v (E (S (Q x g w) k) (M (S (Q x g w) k)))) wo = outArray x g w k v wo := by
  funext i
  idx_vars i
  rw [R_at, outArray_at]
  unfold out
  refine congrArg₂ (· + ·) rfl (Finset.sum_congr rfl fun l _ => congrArg₂ (· * ·) ?_ rfl)
  rw [attended_eq (by decide) _ _ fun j => score_real x g w k hx hg hw hk i0 i1 _ j, O_at]
  simp only [E_at, M_at, S_at, Q_at]
  rfl

/-- The reference's run with its result at the attention, of arrays of real numbers. -/
theorem run (m : (ℓ : Loc nD τ sig) → Buf (Elt Ideal) ℓ) (ρ : Dev nD → PrngReg)
    (hx : ∀ (c : Dev nD) (i : S32x2048x1024.Idx), IsReal ((m ((c : Thread nD τ).loc main_arg0) : Vec Ideal S32x2048x1024 .f32) i))
    (hg : ∀ (c : Dev nD) (i : S1024.Idx), IsReal ((m ((c : Thread nD τ).loc main_arg1) : Vec Ideal S1024 .f32) i))
    (hw : ∀ (c : Dev nD) (i : S1024x256.Idx), IsReal ((m ((c : Thread nD τ).loc main_arg2) : Vec Ideal S1024x256 .f32) i))
    (hk : ∀ (c : Dev nD) (i : S32x256x4x64.Idx), IsReal ((m ((c : Thread nD τ).loc main_arg3) : Vec Ideal S32x256x4x64 .f32) i)) :
    θ_run defs (onTc (τ := τ) (main (F := Ideal))) ⟨m, fun _ => 0, ρ⟩ fun r => ∀ c : Dev nD,
      r.2.mem ((c.tc : Thread nD τ).loc main_v33) = outArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2⟩) (Value.run (F := Ideal) m ρ)
  exact result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (hx c) (hg c) (hw c) (hk c)

end Cert.MemAttendReferenceIdeal.Closed

end
-- ==== Proof.OutputClaims.lean ====
/- The claims about the layers' output projections and the attention into the memory: each program and its reference end with the same result. -/
module

public import proofs.«01_k».proof.Defs
public import proofs.«01_k».proof.Proof.EvenOutputValue
public import proofs.«01_k».proof.Proof.OddOutputValue
public import proofs.«01_k».proof.Proof.MemAttendReference
public import proofs.«01_k».proof.Proof.AttentionClaims
public import proofs.«01_k».proof.Proof.Gen.Pre_mem_finite

@[expose] public section

set_option maxRecDepth 16384

noncomputable section

open Idealize.ShloMosaic Idealize.ShloMosaic.TcCoe Idealize.SL.Sem

namespace Cert.OutputClaims

open Cert.MemAttendMath (IsReal)

/-- The even layer's output projection: its reference runs, ends with its arguments unchanged and every counter at zero. -/
theorem even_output_reference_frame : Cert.quiescent_EvenOutputReferenceIdeal := fun m ρ _ =>
  (θ_run Cert.EvenOutputReferenceIdeal.defs _ _).mono (fun r h => ⟨fun c => (h c).2, Idealize.ShloMosaic.sem_eq_zero_of_no_sems (by decide) r.2⟩)
    (Cert.EvenOutputReferenceIdeal.Value.run (F := Ideal) m ρ)

/-- The even layer's output projection and its reference end with equal results. -/
theorem even_output : Cert.algebraic_EvenOutputIdeal_EvenOutputReferenceIdeal := fun m ρ m' ρ' _ hag =>
  ⟨fun c => Cert.EvenOutputIdeal.Closed.outArray (m ((c.tc : Thread Cert.EvenOutputIdeal.nD Cert.EvenOutputIdeal.τ).loc Cert.EvenOutputIdeal.main_arg0))
      (m ((c.tc : Thread Cert.EvenOutputIdeal.nD Cert.EvenOutputIdeal.τ).loc Cert.EvenOutputIdeal.main_arg1)) (m ((c.tc : Thread Cert.EvenOutputIdeal.nD Cert.EvenOutputIdeal.τ).loc Cert.EvenOutputIdeal.main_arg2))
      (m ((c.tc : Thread Cert.EvenOutputIdeal.nD Cert.EvenOutputIdeal.τ).loc Cert.EvenOutputIdeal.main_arg3)) (m ((c.tc : Thread Cert.EvenOutputIdeal.nD Cert.EvenOutputIdeal.τ).loc Cert.EvenOutputIdeal.main_arg4)),
    (θ_run Cert.EvenOutputIdeal.defs _ _).mono (fun _ h c => ⟨(h c).1.trans (Cert.EvenOutputIdeal.Closed.final5 m c), (h c).2⟩) (Cert.EvenOutputIdeal.Value.run_blocks (F := Ideal) m ρ),
    (θ_run Cert.EvenOutputReferenceIdeal.defs _ _).mono (fun _ h c => ⟨(h c).1.trans (by
        obtain ⟨h0, h1, h2, h3, h4⟩ := hag c
        rw [h0, h1, h2, h3, h4]), (h c).2⟩) (Cert.EvenOutputReferenceIdeal.Closed.run m' ρ')⟩

/-- The odd layer's output projection: its reference runs, ends with its arguments unchanged and every counter at zero. -/
theorem odd_output_reference_frame : Cert.quiescent_OddOutputReferenceIdeal := fun m ρ _ =>
  (θ_run Cert.OddOutputReferenceIdeal.defs _ _).mono (fun r h => ⟨fun c => (h c).2, Idealize.ShloMosaic.sem_eq_zero_of_no_sems (by decide) r.2⟩)
    (Cert.OddOutputReferenceIdeal.Value.run (F := Ideal) m ρ)

/-- The odd layer's output projection and its reference end with equal results. -/
theorem odd_output : Cert.algebraic_OddOutputIdeal_OddOutputReferenceIdeal := fun m ρ m' ρ' _ hag =>
  ⟨fun c => Cert.OddOutputIdeal.Closed.outArray (m ((c.tc : Thread Cert.OddOutputIdeal.nD Cert.OddOutputIdeal.τ).loc Cert.OddOutputIdeal.main_arg0))
      ![m ((c.tc : Thread Cert.OddOutputIdeal.nD Cert.OddOutputIdeal.τ).loc Cert.OddOutputIdeal.main_arg1),
        m ((c.tc : Thread Cert.OddOutputIdeal.nD Cert.OddOutputIdeal.τ).loc Cert.OddOutputIdeal.main_arg2),
        m ((c.tc : Thread Cert.OddOutputIdeal.nD Cert.OddOutputIdeal.τ).loc Cert.OddOutputIdeal.main_arg3)]
      ![m ((c.tc : Thread Cert.OddOutputIdeal.nD Cert.OddOutputIdeal.τ).loc Cert.OddOutputIdeal.main_arg4),
        m ((c.tc : Thread Cert.OddOutputIdeal.nD Cert.OddOutputIdeal.τ).loc Cert.OddOutputIdeal.main_arg5),
        m ((c.tc : Thread Cert.OddOutputIdeal.nD Cert.OddOutputIdeal.τ).loc Cert.OddOutputIdeal.main_arg6)]
      (m ((c.tc : Thread Cert.OddOutputIdeal.nD Cert.OddOutputIdeal.τ).loc Cert.OddOutputIdeal.main_arg7)),
    (θ_run Cert.OddOutputIdeal.defs _ _).mono (fun _ h c => ⟨(h c).1.trans (Cert.OddOutputIdeal.Closed.final8 m c), (h c).2⟩) (Cert.OddOutputIdeal.Value.run_blocks (F := Ideal) m ρ),
    (θ_run Cert.OddOutputReferenceIdeal.defs _ _).mono (fun _ h c => ⟨(h c).1.trans (by
        obtain ⟨h0, h1, h2, h3, h4, h5, h6, h7⟩ := hag c
        rw [h0, h1, h2, h3, h4, h5, h6, h7]), (h c).2⟩) (Cert.OddOutputReferenceIdeal.Closed.run m' ρ')⟩

/-- The attention into the memory: its reference runs, ends with its arguments unchanged and every counter at zero. -/
theorem mem_attend_reference_frame : Cert.quiescent_MemAttendReferenceIdeal := fun m ρ _ =>
  (θ_run Cert.MemAttendReferenceIdeal.defs _ _).mono (fun r h => ⟨fun c => (h c).2, Idealize.ShloMosaic.sem_eq_zero_of_no_sems (by decide) r.2⟩)
    (Cert.MemAttendReferenceIdeal.Value.run (F := Ideal) m ρ)

/-- The same with the precondition at hand. -/
theorem mem_attend_reference_frame_real : Cert.quiescent_MemAttendReferenceIdeal_pre_mem_finite := fun m ρ _ => mem_attend_reference_frame m ρ trivial

/-- The precondition gives that the entries of the rows, the norm's scale, the queries' weight and the keys are real numbers. -/
theorem real (m : (ℓ : Loc Cert.MemAttendIdeal.nD Cert.MemAttendIdeal.τ Cert.MemAttendIdeal.sig) → Buf (Elt Ideal) ℓ) (h : Cert.Pre_MemAttendIdeal_mem_finite m)
    (c : Dev Cert.MemAttendIdeal.nD) :
    (∀ i : Cert.MemAttendIdeal.S32x2048x1024.Idx, IsReal ((m ((c : Thread Cert.MemAttendIdeal.nD Cert.MemAttendIdeal.τ).loc Cert.MemAttendIdeal.main_arg0) : Vec Ideal Cert.MemAttendIdeal.S32x2048x1024 .f32) i))
    ∧ (∀ i : Cert.MemAttendIdeal.S1024.Idx, IsReal ((m ((c : Thread Cert.MemAttendIdeal.nD Cert.MemAttendIdeal.τ).loc Cert.MemAttendIdeal.main_arg1) : Vec Ideal Cert.MemAttendIdeal.S1024 .f32) i))
    ∧ (∀ i : Cert.MemAttendIdeal.S1024x256.Idx, IsReal ((m ((c : Thread Cert.MemAttendIdeal.nD Cert.MemAttendIdeal.τ).loc Cert.MemAttendIdeal.main_arg2) : Vec Ideal Cert.MemAttendIdeal.S1024x256 .f32) i))
    ∧ (∀ i : Cert.MemAttendIdeal.S32x256x4x64.Idx, IsReal ((m ((c : Thread Cert.MemAttendIdeal.nD Cert.MemAttendIdeal.τ).loc Cert.MemAttendIdeal.main_arg3) : Vec Ideal Cert.MemAttendIdeal.S32x256x4x64 .f32) i)) := by
  have e := congrFun (h c) ix0
  unfold Cert.Pre_mem_finite.fn Cert.Pre_mem_finite.fn_part1 at e
  dsimp only at e
  obtain ⟨e, h3⟩ := IntOp.andi_eq_one.1 e
  obtain ⟨e, h2⟩ := IntOp.andi_eq_one.1 e
  obtain ⟨h0, h1⟩ := IntOp.andi_eq_one.1 e
  exact ⟨Cert.AttentionClaims.real_all _ _ _ _ h0, Cert.AttentionClaims.real_all _ _ _ _ h1, Cert.AttentionClaims.real_all _ _ _ _ h2, Cert.AttentionClaims.real_all _ _ _ _ h3⟩

/-- The attention into the memory and its reference end with equal results. -/
theorem mem_attend : Cert.algebraic_MemAttendIdeal_MemAttendReferenceIdeal_pre_mem_finite := fun m ρ m' ρ' hp hag =>
  ⟨fun c => Cert.MemAttendIdeal.Closed.outArray (m ((c.tc : Thread Cert.MemAttendIdeal.nD Cert.MemAttendIdeal.τ).loc Cert.MemAttendIdeal.main_arg0))
      (m ((c.tc : Thread Cert.MemAttendIdeal.nD Cert.MemAttendIdeal.τ).loc Cert.MemAttendIdeal.main_arg1)) (m ((c.tc : Thread Cert.MemAttendIdeal.nD Cert.MemAttendIdeal.τ).loc Cert.MemAttendIdeal.main_arg2))
      (m ((c.tc : Thread Cert.MemAttendIdeal.nD Cert.MemAttendIdeal.τ).loc Cert.MemAttendIdeal.main_arg3)) (m ((c.tc : Thread Cert.MemAttendIdeal.nD Cert.MemAttendIdeal.τ).loc Cert.MemAttendIdeal.main_arg4))
      (m ((c.tc : Thread Cert.MemAttendIdeal.nD Cert.MemAttendIdeal.τ).loc Cert.MemAttendIdeal.main_arg5)),
    (θ_run Cert.MemAttendIdeal.defs _ _).mono (fun _ h c => ⟨(h c).1.trans (Cert.MemAttendIdeal.Closed.final6 m c), (h c).2⟩) (Cert.MemAttendIdeal.Value.run_blocks (F := Ideal) m ρ),
    (θ_run Cert.MemAttendReferenceIdeal.defs _ _).mono (fun _ h c => ⟨(h c).1.trans (by
        obtain ⟨h0, h1, h2, h3, h4, h5⟩ := hag c
        rw [h0, h1, h2, h3, h4, h5]), (h c).2⟩)
      (Cert.MemAttendReferenceIdeal.Closed.run m' ρ' (fun c i => (hag c).1 ▸ (real m hp c).1 i) (fun c i => (hag c).2.1 ▸ (real m hp c).2.1 i)
        (fun c i => (hag c).2.2.1 ▸ (real m hp c).2.2.1 i) (fun c i => (hag c).2.2.2.1 ▸ (real m hp c).2.2.2 i))⟩

end Cert.OutputClaims

end
-- ==== Proof.EvenProjectSampleValue.lean ====
/- The values of the even layer's projection of the samples: every block of its nine results, from the normalised rows' products with the
   weights, and the arrays that the blocks make up. -/
module

public import proofs.«01_k».proof.Proof.Indices
public import proofs.«01_k».proof.Proof.FfnMath
public import proofs.«01_k».proof.Proof.EvenProjectMath
public import proofs.«01_k».proof.Proof.Gen.EvenProjectSampleIdeal.Value
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.EvenProjectSampleIdeal.Closed

open Cert.EvenProjectSampleIdeal Cert.EvenProjectSampleIdeal.Gen Cert.Indices Cert.FfnMath Cert.EvenProjectMath

variable (m : (ℓ : Loc nD τ sig) → Buf (Elt Ideal) ℓ)

/-- The word that tells a lane of the first half of its part. -/
theorem first_half : ∀ l : Fin 128, IntOp.cmpi CmpIPredicate.slt
    (Scalar.select
      (IntOp.andi
        (IntOp.xori
          (IntOp.cmpi CmpIPredicate.slt
            (IntOp.remsi ArithUnit.vector (BitVec.ofNat 32 l.val) (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 l.val) (Scalar.select (Scalar.cmpi CmpIPredicate.eq 32#32 0#32) 1#32 32#32)) 0#32))
      (IntOp.addi
        (IntOp.remsi ArithUnit.vector (BitVec.ofNat 32 l.val) (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 l.val) (Scalar.select (Scalar.cmpi CmpIPredicate.eq 32#32 0#32) 1#32 32#32)))
    16#32 = if l.val % 32 < 16 then 1#1 else 0#1 := by decide +kernel

/-- 128 lanes turned by the block's tables. -/
def rope (p c s : FVec Ideal S512x128 .f32) : FVec Ideal S512x128 .f32 :=
  addf (mulf p c) (mulf (select (k0_pay48) (dynamicRotate 1 112#32 none p rotates_S512x128_d1) (dynamicRotate 1 16#32 none p rotates_S512x128_d1)) s)

theorem rope_at (p c s : FVec Ideal S512x128 .f32) (r : Fin 512) (l : Fin 128) :
    rope p c s (ix2 r l) = turnLanes (fun l => p (ix2 r l)) (fun l => c (ix2 r l)) (fun l => s (ix2 r l)) l := by
  unfold rope turnLanes
  pointwise [k0_pay48]
  rw [first_half]
  by_cases h : l.val % 32 < 16
  · rw [if_pos h, dif_pos h]
    refine congrArg (fun a => p (ix2 r l) * c (ix2 r l) + a * s (ix2 r l)) ?_
    exact congrArg p (ix2_congr rfl (by dsimp only; omega))
  · rw [if_neg h, dif_neg h]
    refine congrArg (fun a => p (ix2 r l) * c (ix2 r l) + a * s (ix2 r l)) ?_
    exact congrArg p (ix2_congr rfl (by dsimp only; omega))

theorem pay8_eq (z : FVec Ideal S512x2048 .f32) (c s : FVec Ideal S512x128 .f32) :
    k0_pay8 (F := Ideal) z c s = rope (extractStridedSlice S512x128 ![0, 384] z slices_S512x2048_o0_384_S512x128) c s := rfl

theorem slice_at (q : FVec Ideal S512x1536 .f32) (o : ℕ) (h) (ho : o + 128 ≤ 1536) (r : Fin 512) (l : Fin 128) :
    extractStridedSlice S512x128 ![0, o] q h (ix2 r l) = q (ix2 r ⟨o + l.val, by omega⟩) := by
  pointwise

theorem emb_at (g o : ℕ) (h) (hg : g < 8) (ho : o + 128 ≤ 256) (r : Fin 512) (l : Fin 128) :
    (Rect.unit (s := S8x512x256) ![g, 0, o] ![1, 512, 128] h).emb (ix3 0 r l) = ix3 (⟨g, hg⟩ : Fin 8) r (⟨o + l.val, by omega⟩ : Fin 256) := by
  funext a
  fin_cases a
  · exact Fin.ext (by simp [Rect.emb, LoadRect.idx, Rect.toLoadRect, Rect.unit])
  · exact Fin.ext (by simp [Rect.emb, LoadRect.idx, Rect.toLoadRect, Rect.unit])
  · exact Fin.ext (by simp [Rect.emb, LoadRect.idx, Rect.toLoadRect, Rect.unit])

theorem weight_at (x6 : Vec Ideal S4x128x256 .bf16) (p : ℕ) (h) (hp : p < 4) (a : Fin 128) (b : Fin 256) :
    View.ld x6 (Rect.unit ![p, 0, 0] ![1, 128, 256] h) (ix3 0 a b) = x6 (ix3 (⟨p, hp⟩ : Fin 4) a b) := by
  refine congrArg x6 ?_
  funext a
  fin_cases a
  · exact Fin.ext (by simp [Rect.emb, LoadRect.idx, Rect.toLoadRect, Rect.unit])
  · exact Fin.ext (by simp [Rect.emb, LoadRect.idx, Rect.toLoadRect, Rect.unit])
  · exact Fin.ext (by simp [Rect.emb, LoadRect.idx, Rect.toLoadRect, Rect.unit])

/-- The packed queries' block, from the block's queries, its tables and the pairs' weights. -/
def packed (q : FVec Ideal S512x1536 .f32) (c s : FVec Ideal S512x128 .f32) (x6 : Vec Ideal S4x128x256 .bf16)
    (h : Fin 8) (r : Fin 512) (j : Fin 256) : EReal :=
  if hj : j.val < 128 then ∑ a : Fin 128, q (ix2 r ⟨h.val / 2 * 128 + a.val, by omega⟩) * x6 (ix3 (⟨h.val / 2, by omega⟩ : Fin 4) a (⟨h.val % 2 * 128 + j.val, by omega⟩ : Fin 256))
  else turnLanes (fun l => q (ix2 r ⟨512 + 128 * h.val + l.val, by omega⟩)) (fun l => c (ix2 r l)) (fun l => s (ix2 r l)) ⟨j.val - 128, by omega⟩

def packedBlock (q : FVec Ideal S512x1536 .f32) (c s : FVec Ideal S512x128 .f32) (x6 : Vec Ideal S4x128x256 .bf16) : Vec Ideal S8x512x256 .bf16 := fun i =>
  packed q c s x6 (i 0) (i 1) (i 2)

theorem packedBlock_at (q : FVec Ideal S512x1536 .f32) (c s : FVec Ideal S512x128 .f32) (x6 : Vec Ideal S4x128x256 .bf16)
    (h : Fin 8) (r : Fin 512) (j : Fin 256) : packedBlock q c s x6 (ix3 h r j) = packed q c s x6 h r j := rfl

theorem turned_row (p : FVec Ideal S512x128 .f32) (h) (r : Fin 512) (l : Fin 128) :
    (shapeCast S1x512x128 (truncf .bf16 p bitsLt_bf16_f32) h : Vec Ideal S1x512x128 .bf16) (ix3 0 r l) = p (ix2 r l) := by
  pointwise

theorem rope_piece (q : FVec Ideal S512x1536 .f32) (c s : FVec Ideal S512x128 .f32) (x6 : Vec Ideal S4x128x256 .bf16) (g o : ℕ) (h h')
    (hg : g < 8) (ho : o = 512 + 128 * g) (x : S1x512x128.Idx) :
    (shapeCast S1x512x128 (truncf .bf16 (rope (extractStridedSlice S512x128 ![0, o] q h) c s) bitsLt_bf16_f32) shapeCasts_S512x128_S1x512x128 : Vec Ideal S1x512x128 .bf16) x
      = packedBlock q c s x6 ((Rect.unit (s := S8x512x256) ![g, 0, 128] ![1, 512, 128] h').emb x) := by
  subst ho
  idx_vars x
  obtain rfl : x0 = 0 := Subsingleton.elim _ _
  rw [turned_row, rope_at, emb_at g 128 h' hg (by decide), packedBlock_at]
  unfold packed
  rw [dif_neg (by dsimp only; omega)]
  simp only [slice_at q _ h (by omega)]
  refine congrArg (turnLanes _ _ _) (Fin.ext ?_)
  dsimp only
  omega

theorem latent_at (q : FVec Ideal S512x128 .bf16) (w : Vec Ideal S128x256 .bf16) (o : ℕ) (h) (ho : o + 128 ≤ 256) (r : Fin 512) (l : Fin 128) :
    extractStridedSlice S512x128 ![0, o] (matmul (F := Ideal) (φ₁ := .bf16) (φ₂ := .bf16) dot_S512x128_S128x256_S512x256_1_0_0_1_n_n none q w (constant S512x256 .f32 0x00000000#32)) h (ix2 r l)
      = ∑ a : Fin 128, q (ix2 r a) * w (ix2 a ⟨o + l.val, by omega⟩) := by
  pointwise

theorem square_at (w : Vec Ideal S1x128x256 .bf16) (a : Fin 128) (b : Fin 256) :
    shapeCast S128x256 w shapeCasts_S1x128x256_S128x256 (ix2 a b) = w (ix3 0 a b) := by
  pointwise

theorem cast_at (q : FVec Ideal S512x128 .f32) (r : Fin 512) (a : Fin 128) :
    (truncf .bf16 q bitsLt_bf16_f32 : FVec Ideal S512x128 .bf16) (ix2 r a) = q (ix2 r a) := rfl

theorem latent_piece (q : FVec Ideal S512x1536 .f32) (c s : FVec Ideal S512x128 .f32) (x6 : Vec Ideal S4x128x256 .bf16) (g p o e : ℕ) (h hw he h')
    (hg : g < 8) (hp : p = g / 2) (ho : o = p * 128) (hee : e = g % 2 * 128) (x : S1x512x128.Idx) :
    (shapeCast S1x512x128 (truncf .bf16 (extractStridedSlice S512x128 ![0, e]
      (matmul (F := Ideal) (φ₁ := .bf16) (φ₂ := .bf16) dot_S512x128_S128x256_S512x256_1_0_0_1_n_n none (truncf .bf16 (extractStridedSlice S512x128 ![0, o] q h) bitsLt_bf16_f32)
        (shapeCast S128x256 (View.ld x6 (Rect.unit ![p, 0, 0] ![1, 128, 256] hw)) shapeCasts_S1x128x256_S128x256) (constant S512x256 .f32 0x00000000#32)) he) bitsLt_bf16_f32)
      shapeCasts_S512x128_S1x512x128 : Vec Ideal S1x512x128 .bf16) x
      = packedBlock q c s x6 ((Rect.unit (s := S8x512x256) ![g, 0, 0] ![1, 512, 128] h').emb x) := by
  subst ho hee hp
  idx_vars x
  obtain rfl : x0 = 0 := Subsingleton.elim _ _
  rw [turned_row, latent_at _ _ _ he (by omega), emb_at g 0 h' hg (by decide), packedBlock_at]
  unfold packed
  rw [dif_pos (by dsimp only; omega)]
  refine Finset.sum_congr rfl fun a _ => ?_
  rw [cast_at, slice_at q _ h (by omega), square_at, weight_at x6 _ hw (by omega)]
  exact congrArg₂ (· * ·) rfl (congrArg x6 (ix3_congr rfl rfl (by dsimp only; omega)))

/-- What the body leaves in the packed queries' block. -/
theorem block9 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) (y : S8x512x256.Idx) :
    out0_9 (F := Ideal) x0 x1 x2 x3 x4 x5 x6 x7 x8 y = packedBlock (k0_pay64 (F := Ideal) x0 x1 x2 x3 x4 x5 x6 x7 x8) (k0_pay61 (F := Ideal) x0 x1 x2 x3 x4 x5 x6 x7 x8) (k0_pay62 (F := Ideal) x0 x1 x2 x3 x4 x5 x6 x7 x8) x6 y := by
  unfold out0_9 k0_pay65 k0_pay66 k0_pay67 k0_pay68
  refine View.canon_apply_of_pieces (packedBlock (k0_pay64 (F := Ideal) x0 x1 x2 x3 x4 x5 x6 x7 x8) (k0_pay61 (F := Ideal) x0 x1 x2 x3 x4 x5 x6 x7 x8) (k0_pay62 (F := Ideal) x0 x1 x2 x3 x4 x5 x6 x7 x8) x6) _ ?_ y
    (View.cover_of_tiledL _ ![1, 512, 128] (by sl_kernel_rfl) y)
  refine View.PiecesOf.mem ?_
  rw [show k0_pay18 (F := Ideal) (k0_pay63 (F := Ideal) x0 x1 x2 x3 x4 x5 x6 x7 x8) (View.ld x5 r0_10) (View.ld x6 r0_11)
      = matmul (F := Ideal) (φ₁ := .bf16) (φ₂ := .bf16) dot_S512x128_S128x256_S512x256_1_0_0_1_n_n none (truncf .bf16 (extractStridedSlice S512x128 ![0, 0] (k0_pay64 (F := Ideal) x0 x1 x2 x3 x4 x5 x6 x7 x8) slices_S512x1536_o0_0_S512x128) bitsLt_bf16_f32)
        (shapeCast S128x256 (View.ld x6 r0_11) shapeCasts_S1x128x256_S128x256) (constant S512x256 .f32 0x00000000#32) from rfl,
    show k0_pay19 (F := Ideal) (k0_pay63 (F := Ideal) x0 x1 x2 x3 x4 x5 x6 x7 x8) (View.ld x5 r0_10)
      = extractStridedSlice S512x128 ![0, 512] (k0_pay64 (F := Ideal) x0 x1 x2 x3 x4 x5 x6 x7 x8) slices_S512x1536_o0_512_S512x128 from rfl]
  generalize k0_pay64 (F := Ideal) x0 x1 x2 x3 x4 x5 x6 x7 x8 = q
  generalize k0_pay61 (F := Ideal) x0 x1 x2 x3 x4 x5 x6 x7 x8 = c
  generalize k0_pay62 (F := Ideal) x0 x1 x2 x3 x4 x5 x6 x7 x8 = s
  exact ⟨fun x => rope_piece q c s x6 7 1408 slices_S512x1536_o0_1408_S512x128 inb_S8x512x256_S1x512x128_7_0_128 (by decide) (by decide) x,
    fun x => latent_piece q c s x6 7 3 384 128 slices_S512x1536_o0_384_S512x128 inb_S4x128x256_S1x128x256_3_0_0 slices_S512x256_o0_128_S512x128 inb_S8x512x256_S1x512x128_7_0_0 (by decide) (by decide) (by decide) (by decide) x,
    fun x => rope_piece q c s x6 6 1280 slices_S512x1536_o0_1280_S512x128 inb_S8x512x256_S1x512x128_6_0_128 (by decide) (by decide) x,
    fun x => latent_piece q c s x6 6 3 384 0 slices_S512x1536_o0_384_S512x128 inb_S4x128x256_S1x128x256_3_0_0 slices_S512x256_o0_0_S512x128 inb_S8x512x256_S1x512x128_6_0_0 (by decide) (by decide) (by decide) (by decide) x,
    fun x => rope_piece q c s x6 5 1152 slices_S512x1536_o0_1152_S512x128 inb_S8x512x256_S1x512x128_5_0_128 (by decide) (by decide) x,
    fun x => latent_piece q c s x6 5 2 256 128 slices_S512x1536_o0_256_S512x128 inb_S4x128x256_S1x128x256_2_0_0 slices_S512x256_o0_128_S512x128 inb_S8x512x256_S1x512x128_5_0_0 (by decide) (by decide) (by decide) (by decide) x,
    fun x => rope_piece q c s x6 4 1024 slices_S512x1536_o0_1024_S512x128 inb_S8x512x256_S1x512x128_4_0_128 (by decide) (by decide) x,
    fun x => latent_piece q c s x6 4 2 256 0 slices_S512x1536_o0_256_S512x128 inb_S4x128x256_S1x128x256_2_0_0 slices_S512x256_o0_0_S512x128 inb_S8x512x256_S1x512x128_4_0_0 (by decide) (by decide) (by decide) (by decide) x,
    fun x => rope_piece q c s x6 3 896 slices_S512x1536_o0_896_S512x128 inb_S8x512x256_S1x512x128_3_0_128 (by decide) (by decide) x,
    fun x => latent_piece q c s x6 3 1 128 128 slices_S512x1536_o0_128_S512x128 inb_S4x128x256_S1x128x256_1_0_0 slices_S512x256_o0_128_S512x128 inb_S8x512x256_S1x512x128_3_0_0 (by decide) (by decide) (by decide) (by decide) x,
    fun x => rope_piece q c s x6 2 768 slices_S512x1536_o0_768_S512x128 inb_S8x512x256_S1x512x128_2_0_128 (by decide) (by decide) x,
    fun x => latent_piece q c s x6 2 1 128 0 slices_S512x1536_o0_128_S512x128 inb_S4x128x256_S1x128x256_1_0_0 slices_S512x256_o0_0_S512x128 inb_S8x512x256_S1x512x128_2_0_0 (by decide) (by decide) (by decide) (by decide) x,
    fun x => rope_piece q c s x6 1 640 slices_S512x1536_o0_640_S512x128 inb_S8x512x256_S1x512x128_1_0_128 (by decide) (by decide) x,
    fun x => latent_piece q c s x6 1 0 0 128 slices_S512x1536_o0_0_S512x128 inb_S4x128x256_S1x128x256_0_0_0 slices_S512x256_o0_128_S512x128 inb_S8x512x256_S1x512x128_1_0_0 (by decide) (by decide) (by decide) (by decide) x,
    fun x => rope_piece q c s x6 0 512 slices_S512x1536_o0_512_S512x128 inb_S8x512x256_S1x512x128_0_0_128 (by decide) (by decide) x,
    fun x => latent_piece q c s x6 0 0 0 0 slices_S512x1536_o0_0_S512x128 inb_S4x128x256_S1x128x256_0_0_0 slices_S512x256_o0_0_S512x128 inb_S8x512x256_S1x512x128_0_0_0 (by decide) (by decide) (by decide) (by decide) x,
    trivial⟩
-- ==== Proof.EvenProjectSampleInputs.lean ====
/- The inputs of the even layer's projection of the samples as its grid points read them: the rows of the samples, the joint weight with its
   columns of zeros, the packed weights of queries and keys, and the repeated tables of cosines and sines. -/
module

public import proofs.«01_k».proof.Proof.Indices
public import proofs.«01_k».proof.Proof.FfnMath
public import proofs.«01_k».proof.Proof.EvenProjectMath
public import proofs.«01_k».proof.Proof.Gen.EvenProjectSampleIdeal.Value
public import Idealize.ShloMosaic.Lib.KernelVsHost
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.EvenProjectSampleIdeal.Closed

open Cert.EvenProjectSampleIdeal Cert.EvenProjectSampleIdeal.Gen Cert.Indices Cert.EvenProjectMath

variable (m : (ℓ : Loc nD τ sig) → Buf (Elt Ideal) ℓ)

/-- The angles: position times frequency. -/
abbrev angle : FVec Ideal S512x16 .f32 :=
  mulf (broadcastInDim S512x16 ![0, 1] bcast_S512x1_S512x16_0_1 (broadcastInDim S512x1 ![0] bcast_S512_S512x1_0 (sitofp .f32 (shapeCast S512 (broadcastInDim S128x4 ![0, 1] bcast_S1x4_S128x4_0_1 (shapeCast S1x4 (addi (broadcastInDim S4 ![] bcast_S_S4 (constantI S_ 32 16384#32)) (iotaInDim S4 32 0)) shapeCasts_S4_S1x4)) shapeCasts_S128x4_S512))))
    (broadcastInDim S512x16 ![0, 1] bcast_S1x16_S512x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

def cosT : FVec Ideal S512x16 .f32 := Host.cos angle
def sinT : FVec Ideal S512x16 .f32 := Host.sin angle

/-- Two tables side by side, four times over. -/
abbrev tile (a b : FVec Ideal S512x16 .f32) : FVec Ideal S512x128 .f32 :=
  shapeCast S512x128 (broadcastInDim S1x512x4x32 ![0, 1, 2, 3] bcast_S1x512x1x32_S1x512x4x32_0_1_2_3 (shapeCast S1x512x1x32 (concatenate S512x32 1 [⟨S512x16, a⟩, ⟨S512x16, b⟩] concatenates_S512x16_S512x16_S512x32_d1) shapeCasts_S512x32_S1x512x1x32)) shapeCasts_S1x512x4x32_S512x128

theorem tile_at (a b : FVec Ideal S512x16 .f32) (s : Fin 512) (l : Fin 128) :
    tile a b (ix2 s l) = if l.val % 32 < 16 then a (ix2 s ⟨l.val % 16, by omega⟩) else b (ix2 s ⟨l.val % 16, by omega⟩) := by
  unfold tile
  pointwise
  by_cases h : l.val % 32 < 16
  · rw [dif_pos h, if_pos h]
    exact congrArg a (ix2_congr rfl (by dsimp only; omega))
  · rw [dif_neg h, if_neg h]
    exact congrArg b (ix2_congr rfl (by dsimp only; omega))

/-- The joint weight with columns of zeros. -/
abbrev joint (w : Vec Ideal S1024x1952 .f32) : FVec Ideal S1024x2048 .f32 :=
  concatenate S1024x2048 1 [⟨S1024x384, extractStridedSlice S1024x384 ![0, 0] w slices_S1024x1952_S1024x384_0_0⟩, ⟨S1024x32, extractStridedSlice S1024x32 ![0, 384] w slices_S1024x1952_S1024x32_0_384⟩,
    ⟨S1024x96, broadcastInDim S1024x96 ![] bcast_S_S1024x96 (constant S_ .f32 0x00000000#32)⟩, ⟨S1024x1536, extractStridedSlice S1024x1536 ![0, 416] w slices_S1024x1952_S1024x1536_0_416⟩] concatenates_S1024x384_S1024x32_S1024x96_S1024x1536_S1024x2048_d1

theorem joint_at (w : Vec Ideal S1024x1952 .f32) (k : Fin 1024) (j : Fin 2048) : joint w (ix2 k j) = wide (fun j => w (ix2 k j)) j := by
  unfold joint wide
  pointwise
  by_cases h0 : j.val < 384
  · rw [dif_pos h0, dif_pos (by omega)]
  · rw [dif_neg h0]
    by_cases h1 : j.val < 416
    · rw [dif_pos (by omega), dif_pos h1]
      exact congrArg w (ix2_congr rfl (by dsimp only; omega))
    · rw [dif_neg (by omega), dif_neg h1]
      by_cases h2 : j.val < 512
      · rw [dif_pos (by omega), dif_pos h2]
      · rw [dif_neg (by omega), dif_neg h2]
        exact congrArg w (ix2_congr rfl (by dsimp only; omega))

/-- Every head's last lanes, widened with zeros. -/
abbrev tails (u : Vec Ideal S256x8x96 .f32) : FVec Ideal S256x8x128 .f32 :=
  pad S256x8x128 ![0, 0, 0] ![0, 0, 96] ![0, 0, 0] (extractStridedSlice S256x8x32 ![0, 0, 64] u slices_S256x8x96_S256x8x32_0_0_64) (sitofp (F := Ideal) .f32 (constantI S_ 32 0#32)) pads_S256x8x32_S256x8x128_000_000_0960 h_S_

theorem tails_at (u : Vec Ideal S256x8x96 .f32) (r : Fin 256) (h : Fin 8) (l : Fin 128) :
    tails u (ix3 r h l) = if hl : l.val < 32 then u (ix3 r h ⟨64 + l.val, by omega⟩) else 0 := by
  unfold tails
  by_cases hl : l.val < 32
  · rw [dif_pos hl, pad_apply_of_inside _ _ _ _ _ _ _ _ (ix3 r h (⟨l.val, hl⟩ : Fin 32)) (by intro a; fin_cases a <;> simp)]
    pointwise
  · rw [dif_neg hl, pad_apply_of_not_inside _ _ _ _ _ _ _ _ (2 : Fin 3) (by simp; omega)]
    exact sitofp_zero

/-- The packed query weight. -/
abbrev packedU (u : Vec Ideal S256x8x96 .f32) : FVec Ideal S256x1536 .f32 :=
  concatenate S256x1536 1 [⟨S256x512, shapeCast S256x512 (extractStridedSlice S256x8x64 ![0, 0, 0] u slices_S256x8x96_S256x8x64_0_0_0) shapeCasts_S256x8x64_S256x512⟩, ⟨S256x1024, shapeCast S256x1024 (tails u) shapeCasts_S256x8x128_S256x1024⟩] concatenates_S256x512_S256x1024_S256x1536_d1

theorem cast_tails (t : FVec Ideal S256x8x128 .f32) (u : Vec Ideal S256x8x96 .f32) (r : Fin 256) (j : Fin 1536) :
    concatenate S256x1536 1 [⟨S256x512, shapeCast S256x512 (extractStridedSlice S256x8x64 ![0, 0, 0] u slices_S256x8x96_S256x8x64_0_0_0) shapeCasts_S256x8x64_S256x512⟩, ⟨S256x1024, shapeCast S256x1024 t shapeCasts_S256x8x128_S256x1024⟩] concatenates_S256x512_S256x1024_S256x1536_d1 (ix2 r j)
      = if h : j.val < 512 then u (ix3 r ⟨j.val / 64, by omega⟩ ⟨j.val % 64, by omega⟩) else t (ix3 r ⟨(j.val - 512) / 128, by omega⟩ ⟨(j.val - 512) % 128, by omega⟩) := by
  pointwise

theorem packedU_at (u : Vec Ideal S256x8x96 .f32) (r : Fin 256) (j : Fin 1536) : packedU u (ix2 r j) = wideQ (fun h e => u (ix3 r h e)) j := by
  unfold packedU
  rw [cast_tails]
  unfold wideQ
  by_cases h : j.val < 512
  · rw [dif_pos h, dif_pos h]
  · rw [dif_neg h, dif_neg h, tails_at]

/-- The heads' weights into the latents, pair by pair. -/
abbrev heads (k : Vec Ideal S128x8x64 .f32) : FVec Ideal S4x2x64x128 .f32 :=
  shapeCast S4x2x64x128 (transpose S8x64x128 [1, 2, 0] k transposes_S128x8x64_S8x64x128_1_2_0) shapeCasts_S8x64x128_S4x2x64x128

/-- The squares of the pairs. -/
abbrev pairs (k : FVec Ideal S4x2x64x128 .f32) : FVec Ideal S4x128x256 .f32 :=
  concatenate S4x128x256 1 [⟨S4x64x256, concatenate S4x64x256 2 [⟨S4x64x128, shapeCast S4x64x128 (extractStridedSlice S4x1x64x128 ![0, 0, 0, 0] k slices_S4x2x64x128_S4x1x64x128_0_0_0_0) shapeCasts_S4x1x64x128_S4x64x128⟩, ⟨S4x64x128, broadcastInDim S4x64x128 ![] bcast_S_S4x64x128 (constant S_ .f32 0x00000000#32)⟩] concatenates_S4x64x128_S4x64x128_S4x64x256_d2⟩,
    ⟨S4x64x256, concatenate S4x64x256 2 [⟨S4x64x128, broadcastInDim S4x64x128 ![] bcast_S_S4x64x128 (constant S_ .f32 0x00000000#32)⟩, ⟨S4x64x128, shapeCast S4x64x128 (extractStridedSlice S4x1x64x128 ![0, 1, 0, 0] k slices_S4x2x64x128_S4x1x64x128_0_1_0_0) shapeCasts_S4x1x64x128_S4x64x128⟩] concatenates_S4x64x128_S4x64x128_S4x64x256_d2⟩] concatenates_S4x64x256_S4x64x256_S4x128x256_d1

theorem heads_at (k : Vec Ideal S128x8x64 .f32) (p : Fin 4) (g : Fin 2) (n : Fin 64) (j : Fin 128) :
    heads k (ix4 p g n j) = k (ix3 j ⟨2 * p.val + g.val, by omega⟩ n) := by
  unfold heads
  pointwise
  exact congrArg k (ix3_congr rfl (by dsimp only; omega) rfl)

theorem pairs_at (k : FVec Ideal S4x2x64x128 .f32) (p : Fin 4) (a : Fin 128) (b : Fin 256) :
    pairs k (ix3 p a b) = if h : a.val < 64 then (if h' : b.val < 128 then k (ix4 p 0 ⟨a.val, h⟩ ⟨b.val, h'⟩) else 0)
      else (if h' : b.val < 128 then 0 else k (ix4 p 1 ⟨a.val - 64, by omega⟩ ⟨b.val - 128, by omega⟩)) := by
  unfold pairs
  pointwise

theorem pair_at (k : Vec Ideal S128x8x64 .f32) (p : Fin 4) (a : Fin 128) (b : Fin 256) :
    pairs (heads k) (ix3 p a b) = pair (fun j h n => k (ix3 j h n)) p a b := by
  rw [pairs_at]
  unfold pair
  simp only [heads_at]
  rfl

theorem V55 (c : Dev nD) : V m c main_v55 = shapeCast S512x1024 (m ((c : Thread nD τ).loc main_arg0)) shapeCasts_S128x4x1024_S512x1024 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V56 (c : Dev nD) : V m c main_v56 = shapeCast S1x1024 (m ((c : Thread nD τ).loc main_arg1)) shapeCasts_S1024_S1x1024 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V5 (c : Dev nD) : V m c main_v5 = (joint (m ((c : Thread nD τ).loc main_arg2)) : Vec Ideal S1024x2048 .f32) := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V57 (c : Dev nD) : V m c main_v57 = shapeCast S1x256 (m ((c : Thread nD τ).loc main_arg3)) shapeCasts_S256_S1x256 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V58 (c : Dev nD) : V m c main_v58 = shapeCast S1x128 (m ((c : Thread nD τ).loc main_arg4)) shapeCasts_S128_S1x128 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V12 (c : Dev nD) : V m c main_v12 = (packedU (m ((c : Thread nD τ).loc main_arg5)) : Vec Ideal S256x1536 .f32) := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V25 (c : Dev nD) : V m c main_v25 = (pairs (heads (m ((c : Thread nD τ).loc main_arg6))) : Vec Ideal S4x128x256 .f32) := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V49 (c : Dev nD) : V m c main_v49 = tile cosT cosT := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl
theorem V54 (c : Dev nD) : V m c main_v54 = tile (Host.negf sinT) sinT := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0, 0] :=
  (by decide +kernel : ∀ t : Fin grid0.N, win0_6.index t = ![0, 0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, t.val, 0] :=
  (by decide +kernel : ∀ t : Fin grid0.N, win0_9.index t = ![0, t.val, 0])
theorem idx10 : ∀ t : Fin cfg0.N, win0_10.index t = ![t.val, 0] :=
  (by decide +kernel : ∀ t : Fin grid0.N, win0_10.index t = ![t.val, 0])
theorem idx11 : ∀ t : Fin cfg0.N, win0_11.index t = ![t.val, 0] :=
  (by decide +kernel : ∀ t : Fin grid0.N, win0_11.index t = ![t.val, 0])
theorem idx12 : ∀ t : Fin cfg0.N, win0_12.index t = ![t.val, 0] :=
  (by decide +kernel : ∀ t : Fin grid0.N, win0_12.index t = ![t.val, 0])
theorem idx13 : ∀ t : Fin cfg0.N, win0_13.index t = ![t.val, 0] :=
  (by decide +kernel : ∀ t : Fin grid0.N, win0_13.index t = ![t.val, 0])
theorem idx14 : ∀ t : Fin cfg0.N, win0_14.index t = ![t.val, 0] :=
  (by decide +kernel : ∀ t : Fin grid0.N, win0_14.index t = ![t.val, 0])
theorem idx15 : ∀ t : Fin cfg0.N, win0_15.index t = ![t.val, 0] :=
  (by decide +kernel : ∀ t : Fin grid0.N, win0_15.index t = ![t.val, 0])
theorem idx16 : ∀ t : Fin cfg0.N, win0_16.index t = ![t.val, 0] :=
  (by decide +kernel : ∀ t : Fin grid0.N, win0_16.index t = ![t.val, 0])
theorem idx17 : ∀ t : Fin cfg0.N, win0_17.index t = ![t.val, 0] :=
  (by decide +kernel : ∀ t : Fin grid0.N, win0_17.index t = ![t.val, 0])

theorem emb0 (t : Fin cfg0.N) (r : Fin 512) (k : Fin 1024) : ((cfg0.win 0).blk t).view.emb (ix2 r k)
    = ix2 (⟨t.val * 512 + r.val, by have := t.isLt; have : cfg0.N = 1 := N_0; omega⟩ : Fin 512) k := by
  blk_ext [idx0 t]
theorem emb7 (t : Fin cfg0.N) (r : Fin 512) (l : Fin 128) : ((cfg0.win 7).blk t).view.emb (ix2 r l)
    = ix2 r l := by
  blk_ext [idx7 t]
theorem emb8 (t : Fin cfg0.N) (r : Fin 512) (l : Fin 128) : ((cfg0.win 8).blk t).view.emb (ix2 r l)
    = ix2 r l := by
  blk_ext [idx8 t]
theorem emb9 (t : Fin cfg0.N) (h : Fin 8) (r : Fin 512) (k : Fin 256) : ((cfg0.win 9).blk t).view.emb (ix3 h r k)
    = ix3 h (⟨t.val * 512 + r.val, by have := t.isLt; have : cfg0.N = 1 := N_0; omega⟩ : Fin 512) k := by
  blk_ext [idx9 t]
theorem emb10 (t : Fin cfg0.N) (r : Fin 512) (k : Fin 256) : ((cfg0.win 10).blk t).view.emb (ix2 r k)
    = ix2 (⟨t.val * 512 + r.val, by have := t.isLt; have : cfg0.N = 1 := N_0; omega⟩ : Fin 512) k := by
  blk_ext [idx10 t]
theorem emb11 (t : Fin cfg0.N) (r : Fin 512) (k : Fin 128) : ((cfg0.win 11).blk t).view.emb (ix2 r k)
    = ix2 (⟨t.val * 512 + r.val, by have := t.isLt; have : cfg0.N = 1 := N_0; omega⟩ : Fin 512) k := by
  blk_ext [idx11 t]
theorem emb12 (t : Fin cfg0.N) (r : Fin 512) (k : Fin 32) : ((cfg0.win 12).blk t).view.emb (ix2 r k)
    = ix2 (⟨t.val * 512 + r.val, by have := t.isLt; have : cfg0.N = 1 := N_0; omega⟩ : Fin 512) k := by
  blk_ext [idx12 t]
theorem emb13 (t : Fin cfg0.N) (r : Fin 512) (k : Fin 512) : ((cfg0.win 13).blk t).view.emb (ix2 r k)
    = ix2 (⟨t.val * 512 + r.val, by have := t.isLt; have : cfg0.N = 1 := N_0; omega⟩ : Fin 512) k := by
  blk_ext [idx13 t]
theorem emb14 (t : Fin cfg0.N) (r : Fin 512) (k : Fin 512) : ((cfg0.win 14).blk t).view.emb (ix2 r k)
    = ix2 (⟨t.val * 512 + r.val, by have := t.isLt; have : cfg0.N = 1 := N_0; omega⟩ : Fin 512) k := by
  blk_ext [idx14 t]
theorem emb15 (t : Fin cfg0.N) (r : Fin 512) (k : Fin 512) : ((cfg0.win 15).blk t).view.emb (ix2 r k)
    = ix2 (⟨t.val * 512 + r.val, by have := t.isLt; have : cfg0.N = 1 := N_0; omega⟩ : Fin 512) k := by
  blk_ext [idx15 t]
theorem emb16 (t : Fin cfg0.N) (r : Fin 512) (k : Fin 512) : ((cfg0.win 16).blk t).view.emb (ix2 r k)
    = ix2 (⟨t.val * 512 + r.val, by have := t.isLt; have : cfg0.N = 1 := N_0; omega⟩ : Fin 512) k := by
  blk_ext [idx16 t]
theorem emb17 (t : Fin cfg0.N) (r : Fin 512) (k : Fin 512) : ((cfg0.win 17).blk t).view.emb (ix2 r k)
    = ix2 (⟨t.val * 512 + r.val, by have := t.isLt; have : cfg0.N = 1 := N_0; omega⟩ : Fin 512) k := by
  blk_ext [idx17 t]
theorem emb2 (t : Fin cfg0.N) (k : Fin 1024) (j : Fin 2048) : ((cfg0.win 2).blk t).view.emb (ix2 k j) = ix2 k j := by
  blk_ext [idx2 t]
theorem emb5 (t : Fin cfg0.N) (k : Fin 256) (j : Fin 1536) : ((cfg0.win 5).blk t).view.emb (ix2 k j) = ix2 k j := by
  blk_ext [idx5 t]
theorem emb6 (t : Fin cfg0.N) (p : Fin 4) (k : Fin 128) (j : Fin 256) : ((cfg0.win 6).blk t).view.emb (ix3 p k j) = ix3 p k j := by
  blk_ext [idx6 t]

/-- The samples as rows of all batches, read at a row. -/
theorem rows (x : Vec Ideal S128x4x1024 .f32) (h : S128x4x1024.ShapeCasts S512x1024) (n : Fin 512) (k : Fin 1024) :
    shapeCast S512x1024 x h (ix2 n k) = x (ix3 (⟨n.val / 4, by omega⟩ : Fin 128) (⟨n.val % 4, by omega⟩ : Fin 4) k) := by
  pointwise

theorem iblk0 (c : Dev nD) (t : Fin cfg0.N) (r : Fin 512) (k : Fin 1024) (n : Fin 512) (h : n.val = t.val * 512 + r.val) :
    iblk (F := Ideal) m c 0 t (ix2 r k) = m ((c : Thread nD τ).loc main_arg0) (ix3 ⟨n.val / 4, by omega⟩ ⟨n.val % 4, by omega⟩ k) := by
  unfold iblk
  rw [View.read_apply]
  erw [V55, emb0, rows]
  exact congrArg (m ((c : Thread nD τ).loc main_arg0)) (ix3_congr (by dsimp only; omega) (by dsimp only; omega) rfl)
theorem iblk1 (c : Dev nD) (t : Fin cfg0.N) (k : Fin 1024) :
    iblk (F := Ideal) m c 1 t (ix2 0 k) = m ((c : Thread nD τ).loc main_arg1) (ix1 k) := by
  blk_simp [iblk, idx1 t]
  rw [V56]
  pointwise
  blk_ext [idx1 t]
theorem iblk2 (c : Dev nD) (t : Fin cfg0.N) (k : Fin 1024) (j : Fin 2048) :
    iblk (F := Ideal) m c 2 t (ix2 k j) = wide (fun j => m ((c : Thread nD τ).loc main_arg2) (ix2 k j)) j := by
  unfold iblk
  rw [View.read_apply]
  erw [V5, emb2]
  exact joint_at _ k j
theorem iblk3 (c : Dev nD) (t : Fin cfg0.N) (k : Fin 256) :
    iblk (F := Ideal) m c 3 t (ix2 0 k) = m ((c : Thread nD τ).loc main_arg3) (ix1 k) := by
  blk_simp [iblk, idx3 t]
  rw [V57]
  pointwise
  blk_ext [idx3 t]
theorem iblk4 (c : Dev nD) (t : Fin cfg0.N) (k : Fin 128) :
    iblk (F := Ideal) m c 4 t (ix2 0 k) = m ((c : Thread nD τ).loc main_arg4) (ix1 k) := by
  blk_simp [iblk, idx4 t]
  rw [V58]
  pointwise
  blk_ext [idx4 t]
theorem iblk5 (c : Dev nD) (t : Fin cfg0.N) (r : Fin 256) (j : Fin 1536) :
    iblk (F := Ideal) m c 5 t (ix2 r j) = wideQ (fun h e => m ((c : Thread nD τ).loc main_arg5) (ix3 r h e)) j := by
  unfold iblk
  rw [View.read_apply]
  erw [V12, emb5]
  exact packedU_at _ r j
theorem iblk6 (c : Dev nD) (t : Fin cfg0.N) (p : Fin 4) (a : Fin 128) (b : Fin 256) :
    iblk (F := Ideal) m c 6 t (ix3 p a b) = pair (fun j h n => m ((c : Thread nD τ).loc main_arg6) (ix3 j h n)) p a b := by
  unfold iblk
  rw [View.read_apply]
  erw [V25, emb6]
  exact pair_at _ p a b
theorem iblk7 (c : Dev nD) (t : Fin cfg0.N) (r : Fin 512) (l : Fin 128) (s : Fin 512) (h : s.val = t.val * 512 + r.val) :
    iblk (F := Ideal) m c 7 t (ix2 r l) = cosT (ix2 s ⟨l.val % 16, by omega⟩) := by
  obtain rfl : r = s := Fin.ext (by have := t.isLt; have : cfg0.N = 1 := N_0; omega)
  unfold iblk
  rw [View.read_apply]
  erw [V49, emb7, tile_at, ite_self]
  rfl
theorem iblk8 (c : Dev nD) (t : Fin cfg0.N) (r : Fin 512) (l : Fin 128) (s : Fin 512) (h : s.val = t.val * 512 + r.val) :
    iblk (F := Ideal) m c 8 t (ix2 r l) = if l.val % 32 < 16 then -sinT (ix2 s ⟨l.val % 16, by omega⟩) else sinT (ix2 s ⟨l.val % 16, by omega⟩) := by
  obtain rfl : r = s := Fin.ext (by have := t.isLt; have : cfg0.N = 1 := N_0; omega)
  unfold iblk
  rw [View.read_apply]
  erw [V54, emb8, tile_at]
  rfl

end Cert.EvenProjectSampleIdeal.Closed

end
-- ==== Proof.EvenProjectSampleArrays.lean ====
/- The nine results of the even layer's projection of the samples, as functions of the arguments, and the call's arrays at them. -/
module

public import proofs.«01_k».proof.Proof.Indices
public import proofs.«01_k».proof.Proof.FfnMath
public import proofs.«01_k».proof.Proof.EvenProjectMath
public import proofs.«01_k».proof.Proof.EvenProjectSampleValue
public import proofs.«01_k».proof.Proof.EvenProjectSampleInputs
public import proofs.«01_k».proof.Proof.Gen.EvenProjectSampleIdeal.Value
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.EvenProjectSampleIdeal.Closed

open Cert.EvenProjectSampleIdeal Cert.EvenProjectSampleIdeal.Gen Cert.Indices Cert.FfnMath Cert.EvenProjectMath

variable (m : (ℓ : Loc nD τ sig) → Buf (Elt Ideal) ℓ)

/-- The block's load of all of an input is the input's block. -/
theorem pay60 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) : k0_pay60 (F := Ideal) x0 x1 x2 x3 x4 x5 x6 x7 x8 = k0_pay3 (F := Ideal) x0 x1 x2 := by
  unfold k0_pay60
  rw [View.ld_unit_lit, View.ld_unit_lit, View.ld_unit_lit] <;> intro a <;> fin_cases a <;> rfl
theorem pay61 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) : k0_pay61 (F := Ideal) x0 x1 x2 x3 x4 x5 x6 x7 x8 = x7 := by
  unfold k0_pay61 k0_pay4
  rw [View.ld_unit_lit]
  · exact shapeCast_self _ _
  · intro a
    fin_cases a <;> rfl
theorem pay62 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) : k0_pay62 (F := Ideal) x0 x1 x2 x3 x4 x5 x6 x7 x8 = x8 := by
  unfold k0_pay62 k0_pay5
  rw [View.ld_unit_lit]
  · exact shapeCast_self _ _
  · intro a
    fin_cases a <;> rfl
theorem pay63 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) : k0_pay63 (F := Ideal) x0 x1 x2 x3 x4 x5 x6 x7 x8 = k0_pay6 (F := Ideal) x0 x1 x2 x3 := by
  unfold k0_pay63
  rw [View.ld_unit_lit, View.ld_unit_lit, View.ld_unit_lit, View.ld_unit_lit] <;> intro a <;> fin_cases a <;> rfl
theorem pay64 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) : k0_pay64 (F := Ideal) x0 x1 x2 x3 x4 x5 x6 x7 x8 = k0_pay17 (F := Ideal) (k0_pay6 (F := Ideal) x0 x1 x2 x3) x5 := by
  unfold k0_pay64
  rw [pay63, View.ld_unit_lit]
  intro a
  fin_cases a <;> rfl
theorem full4 (x4 : Vec Ideal S1x128 .f32) : View.ld x4 r0_5 = x4 := by
  rw [View.ld_unit_lit]
  intro a
  fin_cases a <;> rfl

/-- The normalised block times the joint weight, read at an element. -/
theorem prod_at (x : Vec Ideal S512x1024 .f32) (g : Vec Ideal S1x1024 .f32) (w : Vec Ideal S1024x2048 .bf16) (r : Fin 512) (j : Fin 2048) :
    k0_pay3 (F := Ideal) x g w (ix2 r j) = ∑ k : Fin 1024, rnorm (fun k => x (ix2 r k)) (fun k => g (ix2 0 k)) k * w (ix2 k j) := by
  unfold rnorm
  pointwise [k0_pay3]

theorem cq_at (x : Vec Ideal S512x1024 .f32) (g : Vec Ideal S1x1024 .f32) (w : Vec Ideal S1024x2048 .bf16) (gq : Vec Ideal S1x256 .f32) (r : Fin 512) (e : Fin 256) :
    k0_pay6 (F := Ideal) x g w gq (ix2 r e) = rms 0x43800000#32 (fun e => k0_pay3 (F := Ideal) x g w (ix2 r ⟨e.val, by omega⟩)) (fun e => gq (ix2 0 e)) e := by
  unfold rms k0_pay6
  generalize k0_pay3 (F := Ideal) x g w = z
  pointwise

theorem ckv_at (z : FVec Ideal S512x2048 .f32) (gkv : Vec Ideal S1x128 .f32) (r : Fin 512) (e : Fin 128) :
    k0_pay7 (F := Ideal) z gkv (ix2 r e) = rms 0x43000000#32 (fun e => z (ix2 r ⟨256 + e.val, by omega⟩)) (fun e => gkv (ix2 0 e)) e := by
  unfold rms
  pointwise [k0_pay7]

theorem query_at (q : FVec Ideal S512x256 .bf16) (w : Vec Ideal S256x1536 .bf16) (r : Fin 512) (j : Fin 1536) :
    k0_pay17 (F := Ideal) q w (ix2 r j) = ∑ a : Fin 256, q (ix2 r a) * w (ix2 a j) := by
  pointwise [k0_pay17]

/-- A row's products with the joint weight. -/
def products (x : Vec Ideal S128x4x1024 .f32) (g : Vec Ideal S1024 .f32) (w : Vec Ideal S1024x1952 .f32) (n : Fin 512) (j : Fin 1952) : EReal :=
  ∑ k : Fin 1024, rnorm (fun k => x (ix3 ⟨n.val / 4, by omega⟩ ⟨n.val % 4, by omega⟩ k)) (fun k => g (ix1 k)) k * w (ix2 k j)

/-- The cosines and sines at a row's position. -/
def cosR (n : Fin 512) (l : Fin 16) : EReal := cosT (ix2 n l)
def sinR (n : Fin 512) (l : Fin 16) : EReal := sinT (ix2 n l)

/-- The packed queries. -/
def outQ (x : Vec Ideal S128x4x1024 .f32) (g : Vec Ideal S1024 .f32) (w : Vec Ideal S1024x1952 .f32) (gq : Vec Ideal S256 .f32) (uq : Vec Ideal S256x8x96 .f32) (uk : Vec Ideal S128x8x64 .f32) : Vec Ideal S8x512x256 .bf16 := fun i =>
  packedQ (cosR (i 1)) (sinR (i 1)) (cq (products x g w (i 1)) fun r => gq (ix1 r)) (fun r h e => uq (ix3 r h e)) (fun j h n => uk (ix3 j h n)) (i 0) (i 2)
/-- The packed keys. -/
def outK (x : Vec Ideal S128x4x1024 .f32) (g : Vec Ideal S1024 .f32) (w : Vec Ideal S1024x1952 .f32) (gkv : Vec Ideal S128 .f32) : Vec Ideal S512x256 .bf16 := fun i =>
  packedK (cosR (i 0)) (sinR (i 0)) (products x g w (i 0)) (fun r => gkv (ix1 r)) (i 1)
/-- The latents. -/
def outC (x : Vec Ideal S128x4x1024 .f32) (g : Vec Ideal S1024 .f32) (w : Vec Ideal S1024x1952 .f32) (gkv : Vec Ideal S128 .f32) : Vec Ideal S512x128 .f32 := fun i =>
  ckv (products x g w (i 0)) (fun r => gkv (ix1 r)) (i 1)
/-- The rotated positional keys. -/
def outR (x : Vec Ideal S128x4x1024 .f32) (g : Vec Ideal S1024 .f32) (w : Vec Ideal S1024x1952 .f32) : Vec Ideal S512x32 .f32 := fun i =>
  kpe (cosR (i 0)) (sinR (i 0)) (products x g w (i 0)) (i 1)
/-- 512 columns of the products. -/
def outB (o : ℕ) (ho : o + 512 ≤ 1952) (x : Vec Ideal S128x4x1024 .f32) (g : Vec Ideal S1024 .f32) (w : Vec Ideal S1024x1952 .f32) : Vec Ideal S512x512 .bf16 := fun i =>
  products x g w (i 0) ⟨o + (i 1).val, by have : (i 1).val < 512 := (i 1).isLt; omega⟩
/-- The same columns, not rounded. -/
def outF (o : ℕ) (ho : o + 512 ≤ 1952) (x : Vec Ideal S128x4x1024 .f32) (g : Vec Ideal S1024 .f32) (w : Vec Ideal S1024x1952 .f32) : Vec Ideal S512x512 .f32 := fun i =>
  products x g w (i 0) ⟨o + (i 1).val, by have : (i 1).val < 512 := (i 1).isLt; omega⟩

theorem outQ_at (x : Vec Ideal S128x4x1024 .f32) (g : Vec Ideal S1024 .f32) (w : Vec Ideal S1024x1952 .f32) (gq : Vec Ideal S256 .f32) (uq : Vec Ideal S256x8x96 .f32) (uk : Vec Ideal S128x8x64 .f32) (h : Fin 8) (n : Fin 512) (j : Fin 256) :
    outQ x g w gq uq uk (ix3 h n j) = packedQ (cosR n) (sinR n) (cq (products x g w n) fun r => gq (ix1 r)) (fun r h e => uq (ix3 r h e)) (fun j h n => uk (ix3 j h n)) h j := rfl
theorem outK_at (x : Vec Ideal S128x4x1024 .f32) (g : Vec Ideal S1024 .f32) (w : Vec Ideal S1024x1952 .f32) (gkv : Vec Ideal S128 .f32) (n : Fin 512) (j : Fin 256) :
    outK x g w gkv (ix2 n j) = packedK (cosR n) (sinR n) (products x g w n) (fun r => gkv (ix1 r)) j := rfl
theorem outC_at (x : Vec Ideal S128x4x1024 .f32) (g : Vec Ideal S1024 .f32) (w : Vec Ideal S1024x1952 .f32) (gkv : Vec Ideal S128 .f32) (n : Fin 512) (j : Fin 128) :
    outC x g w gkv (ix2 n j) = ckv (products x g w n) (fun r => gkv (ix1 r)) j := rfl
theorem outR_at (x : Vec Ideal S128x4x1024 .f32) (g : Vec Ideal S1024 .f32) (w : Vec Ideal S1024x1952 .f32) (n : Fin 512) (j : Fin 32) :
    outR x g w (ix2 n j) = kpe (cosR n) (sinR n) (products x g w n) j := rfl
theorem outB_at (o : ℕ) (ho : o + 512 ≤ 1952) (x : Vec Ideal S128x4x1024 .f32) (g : Vec Ideal S1024 .f32) (w : Vec Ideal S1024x1952 .f32) (n : Fin 512) (j : Fin 512) :
    outB o ho x g w (ix2 n j) = products x g w n ⟨o + j.val, by omega⟩ := rfl
theorem outF_at (o : ℕ) (ho : o + 512 ≤ 1952) (x : Vec Ideal S128x4x1024 .f32) (g : Vec Ideal S1024 .f32) (w : Vec Ideal S1024x1952 .f32) (n : Fin 512) (j : Fin 512) :
    outF o ho x g w (ix2 n j) = products x g w n ⟨o + j.val, by omega⟩ := rfl

/-- A grid point's products: its rows' products, with the columns of zeros. -/
theorem z_at (c : Dev nD) (t : Fin cfg0.N) (r : Fin 512) (n : Fin 512) (hn : n.val = t.val * 512 + r.val) (j : Fin 2048) :
    k0_pay3 (F := Ideal) (iblk m c 0 t) (iblk m c 1 t) (iblk m c 2 t) (ix2 r j) = wide (products (m ((c : Thread nD τ).loc main_arg0)) (m ((c : Thread nD τ).loc main_arg1)) (m ((c : Thread nD τ).loc main_arg2)) n) j := by
  rw [prod_at]
  simp only [iblk0 m c t r _ n hn, iblk1, iblk2]
  exact sum_wide _ _ j

theorem cos_at (c : Dev nD) (t : Fin cfg0.N) (r : Fin 512) (n : Fin 512) (hn : n.val = t.val * 512 + r.val) (l : Fin 128) :
    (iblk m c 7 t : Vec Ideal S512x128 .f32) (ix2 r l) = cosR n ⟨l.val % 16, by omega⟩ :=
  iblk7 m c t r l n hn
theorem sin_at (c : Dev nD) (t : Fin cfg0.N) (r : Fin 512) (n : Fin 512) (hn : n.val = t.val * 512 + r.val) (l : Fin 128) :
    (iblk m c 8 t : Vec Ideal S512x128 .f32) (ix2 r l) = if l.val % 32 < 16 then -sinR n ⟨l.val % 16, by omega⟩ else sinR n ⟨l.val % 16, by omega⟩ :=
  iblk8 m c t r l n hn

/-- A grid point's queries, with their columns of zeros. -/
theorem q_at (c : Dev nD) (t : Fin cfg0.N) (r : Fin 512) (n : Fin 512) (hn : n.val = t.val * 512 + r.val) (j : Fin 1536) :
    k0_pay17 (F := Ideal) (k0_pay6 (F := Ideal) (iblk m c 0 t) (iblk m c 1 t) (iblk m c 2 t) (iblk m c 3 t)) (iblk m c 5 t) (ix2 r j)
      = wideQ (query (cq (products (m ((c : Thread nD τ).loc main_arg0)) (m ((c : Thread nD τ).loc main_arg1)) (m ((c : Thread nD τ).loc main_arg2)) n) fun r => (m ((c : Thread nD τ).loc main_arg3)) (ix1 r)) fun r h e => (m ((c : Thread nD τ).loc main_arg5)) (ix3 r h e)) j := by
  rw [query_at]
  simp only [cq_at, iblk5, iblk3, z_at m c t r n hn]
  rw [← sum_wideQ]
  refine Finset.sum_congr rfl fun a _ => congrArg (· * _) ?_
  unfold cq
  refine congrArg (fun z => rms 0x43800000#32 z (fun r => (m ((c : Thread nD τ).loc main_arg3)) (ix1 r)) a) (funext fun e => ?_)
  unfold wide
  rw [dif_pos (by dsimp only; omega)]

/-- A grid point's latents. -/
theorem c_at (c : Dev nD) (t : Fin cfg0.N) (r : Fin 512) (n : Fin 512) (hn : n.val = t.val * 512 + r.val) (j : Fin 128) :
    k0_pay7 (F := Ideal) (k0_pay3 (F := Ideal) (iblk m c 0 t) (iblk m c 1 t) (iblk m c 2 t)) (iblk m c 4 t) (ix2 r j)
      = ckv (products (m ((c : Thread nD τ).loc main_arg0)) (m ((c : Thread nD τ).loc main_arg1)) (m ((c : Thread nD τ).loc main_arg2)) n) (fun r => (m ((c : Thread nD τ).loc main_arg4)) (ix1 r)) j := by
  rw [ckv_at]
  simp only [iblk4, z_at m c t r n hn]
  unfold ckv
  refine congrArg (fun z => rms 0x43000000#32 z (fun r => (m ((c : Thread nD τ).loc main_arg4)) (ix1 r)) j) (funext fun e => ?_)
  unfold wide
  rw [dif_pos (by dsimp only; omega)]

theorem wide_slice (z : FVec Ideal S512x2048 .f32) (r : Fin 512) (l : Fin 128) :
    extractStridedSlice S512x128 ![0, 384] z slices_S512x2048_o0_384_S512x128 (ix2 r l) = z (ix2 r ⟨384 + l.val, by omega⟩) := by
  pointwise

/-- A grid point's rotated positional keys, followed by zeros. -/
theorem k_at (c : Dev nD) (t : Fin cfg0.N) (r : Fin 512) (n : Fin 512) (hn : n.val = t.val * 512 + r.val) (l : Fin 128) :
    k0_pay8 (F := Ideal) (k0_pay3 (F := Ideal) (iblk m c 0 t) (iblk m c 1 t) (iblk m c 2 t)) (iblk m c 7 t) (iblk m c 8 t) (ix2 r l)
      = if h : l.val < 32 then kpe (cosR n) (sinR n) (products (m ((c : Thread nD τ).loc main_arg0)) (m ((c : Thread nD τ).loc main_arg1)) (m ((c : Thread nD τ).loc main_arg2)) n) ⟨l.val, h⟩ else 0 := by
  rw [pay8_eq, rope_at]
  unfold kpe
  refine turnLanes_wide (cosR n) (sinR n) (fun l => products (m ((c : Thread nD τ).loc main_arg0)) (m ((c : Thread nD τ).loc main_arg1)) (m ((c : Thread nD τ).loc main_arg2)) n ⟨384 + l.val, by omega⟩) _ _ _ (fun l => ?_) (fun l => ?_) (fun l => ?_) l
  · rw [wide_slice, z_at m c t r n hn]
    unfold wide
    by_cases h : l.val < 32
    · rw [dif_pos (by dsimp only; omega), dif_pos h]
    · rw [dif_neg (by dsimp only; omega), dif_pos (by dsimp only; omega), dif_neg h]
  · exact cos_at m c t r n hn l
  · exact sin_at m c t r n hn l

theorem at9 (c : Dev nD) (t : Fin cfg0.N) (h : Fin 8) (r : Fin 512) (j : Fin 256) (n : Fin 512) (hn : n.val = t.val * 512 + r.val) :
    out0_9 (F := Ideal) (iblk m c 0 t) (iblk m c 1 t) (iblk m c 2 t) (iblk m c 3 t) (iblk m c 4 t) (iblk m c 5 t) (iblk m c 6 t) (iblk m c 7 t) (iblk m c 8 t) (ix3 h r j)
      = outQ (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (ix3 h n j) := by
  rw [block9, packedBlock_at, pay64, pay61, pay62, outQ_at]
  unfold packed packedQ
  by_cases hj : j.val < 128
  · rw [dif_pos hj, dif_pos hj]
    simp only [q_at m c t r n hn, iblk6]
    exact sum_pair _ _ h ⟨j.val, hj⟩
  · rw [dif_neg hj, dif_neg hj]
    rw [turnLanes_wide (cosR n) (sinR n) (fun l => query (cq (products (m ((c : Thread nD τ).loc main_arg0)) (m ((c : Thread nD τ).loc main_arg1)) (m ((c : Thread nD τ).loc main_arg2)) n) fun r => (m ((c : Thread nD τ).loc main_arg3)) (ix1 r)) (fun r h e => (m ((c : Thread nD τ).loc main_arg5)) (ix3 r h e)) h ⟨64 + l.val, by omega⟩) _ _ _ (fun l => ?_) (fun l => ?_) (fun l => ?_)]
    · by_cases h' : j.val < 160
      · rw [dif_pos (by dsimp only; omega), dif_pos h']
      · rw [dif_neg (by dsimp only; omega), dif_neg h']
    · rw [q_at m c t r n hn]
      unfold wideQ
      rw [dif_neg (by dsimp only; omega)]
      by_cases h' : l.val < 32
      · rw [dif_pos (by dsimp only; omega), dif_pos h']
        exact congrArg₂ (query (cq (products (m ((c : Thread nD τ).loc main_arg0)) (m ((c : Thread nD τ).loc main_arg1)) (m ((c : Thread nD τ).loc main_arg2)) n) fun r => (m ((c : Thread nD τ).loc main_arg3)) (ix1 r)) fun r h e => (m ((c : Thread nD τ).loc main_arg5)) (ix3 r h e)) (Fin.ext (by dsimp only; omega)) (Fin.ext (by dsimp only; omega))
      · rw [dif_neg (by dsimp only; omega), dif_neg h']
    · exact cos_at m c t r n hn l
    · exact sin_at m c t r n hn l

/-- The packed keys' block. -/
def keyBlock (a b : FVec Ideal S512x128 .f32) : Vec Ideal S512x256 .bf16 := fun i =>
  if h : (i 1).val < 128 then a (ix2 (i 0) ⟨(i 1).val, h⟩) else b (ix2 (i 0) ⟨(i 1).val - 128, by have : (i 1).val < 256 := (i 1).isLt; omega⟩)

theorem keyBlock_at (a b : FVec Ideal S512x128 .f32) (r : Fin 512) (j : Fin 256) :
    keyBlock a b (ix2 r j) = if h : j.val < 128 then a (ix2 r ⟨j.val, h⟩) else b (ix2 r ⟨j.val - 128, by omega⟩) := rfl

theorem key_emb (o : ℕ) (h) (ho : o + 128 ≤ 256) (r : Fin 512) (l : Fin 128) :
    (Rect.unit (s := S512x256) ![0, o] ![512, 128] h).emb (ix2 r l) = ix2 r ⟨o + l.val, by omega⟩ := by
  funext a
  fin_cases a
  · exact Fin.ext (by simp [Rect.emb, LoadRect.idx, Rect.toLoadRect, Rect.unit])
  · exact Fin.ext (by simp [Rect.emb, LoadRect.idx, Rect.toLoadRect, Rect.unit])

theorem key_first (a b : FVec Ideal S512x128 .f32) (h) (x : S512x128.Idx) :
    k0_pay10 (F := Ideal) a x = keyBlock a b ((Rect.unit (s := S512x256) ![0, 0] ![512, 128] h).emb x) := by
  idx_vars x
  rw [key_emb 0 h (by decide), keyBlock_at, dif_pos (by dsimp only; omega)]
  exact congrArg a (ix2_congr rfl (by dsimp only; omega))

theorem key_last (a b : FVec Ideal S512x128 .f32) (h) (x : S512x128.Idx) :
    k0_pay11 (F := Ideal) b x = keyBlock a b ((Rect.unit (s := S512x256) ![0, 128] ![512, 128] h).emb x) := by
  idx_vars x
  rw [key_emb 128 h (by decide), keyBlock_at, dif_neg (by dsimp only; omega)]
  exact congrArg b (ix2_congr rfl (by dsimp only; omega))

theorem block10 (x0 : Vec Ideal S512x1024 .f32) (x1 : Vec Ideal S1x1024 .f32) (x2 : Vec Ideal S1024x2048 .bf16) (x3 : Vec Ideal S1x256 .f32) (x4 : Vec Ideal S1x128 .f32)
    (x5 : Vec Ideal S256x1536 .bf16) (x6 : Vec Ideal S4x128x256 .bf16) (x7 x8 : Vec Ideal S512x128 .f32) (y : S512x256.Idx) :
    out0_10 (F := Ideal) x0 x1 x2 x3 x4 x5 x6 x7 x8 y = keyBlock (k0_pay7 (F := Ideal) (k0_pay3 (F := Ideal) x0 x1 x2) x4) (k0_pay8 (F := Ideal) (k0_pay3 (F := Ideal) x0 x1 x2) x7 x8) y := by
  unfold out0_10
  rw [pay60, pay61, pay62, full4]
  refine View.canon_apply_of_pieces (keyBlock (k0_pay7 (F := Ideal) (k0_pay3 (F := Ideal) x0 x1 x2) x4) (k0_pay8 (F := Ideal) (k0_pay3 (F := Ideal) x0 x1 x2) x7 x8)) _ ?_ y
    (View.cover_of_tiledL _ ![512, 128] (by sl_kernel_rfl) y)
  refine View.PiecesOf.mem ?_
  generalize k0_pay7 (F := Ideal) (k0_pay3 (F := Ideal) x0 x1 x2) x4 = a
  generalize k0_pay8 (F := Ideal) (k0_pay3 (F := Ideal) x0 x1 x2) x7 x8 = b
  exact ⟨fun x => key_last a b inb_S512x256_S512x128_0_128 x, fun x => key_first a b inb_S512x256_S512x128_0_0 x, trivial⟩

theorem at10 (c : Dev nD) (t : Fin cfg0.N) (r : Fin 512) (j : Fin 256) (n : Fin 512) (hn : n.val = t.val * 512 + r.val) :
    out0_10 (F := Ideal) (iblk m c 0 t) (iblk m c 1 t) (iblk m c 2 t) (iblk m c 3 t) (iblk m c 4 t) (iblk m c 5 t) (iblk m c 6 t) (iblk m c 7 t) (iblk m c 8 t) (ix2 r j) = outK (m ((c : Thread nD τ).loc main_arg0)) (m ((c : Thread nD τ).loc main_arg1)) (m ((c : Thread nD τ).loc main_arg2)) (m ((c : Thread nD τ).loc main_arg4)) (ix2 n j) := by
  rw [block10, keyBlock_at, outK_at]
  unfold packedK
  by_cases hj : j.val < 128
  · rw [dif_pos hj, dif_pos hj, c_at m c t r n hn]
  · rw [dif_neg hj, dif_neg hj, k_at m c t r n hn]
    by_cases h' : j.val < 160
    · rw [dif_pos (by dsimp only; omega), dif_pos h']
    · rw [dif_neg (by dsimp only; omega), dif_neg h']

theorem at11 (c : Dev nD) (t : Fin cfg0.N) (r : Fin 512) (j : Fin 128) (n : Fin 512) (hn : n.val = t.val * 512 + r.val) :
    out0_11 (F := Ideal) (iblk m c 0 t) (iblk m c 1 t) (iblk m c 2 t) (iblk m c 3 t) (iblk m c 4 t) (iblk m c 5 t) (iblk m c 6 t) (iblk m c 7 t) (iblk m c 8 t) (ix2 r j) = outC (m ((c : Thread nD τ).loc main_arg0)) (m ((c : Thread nD τ).loc main_arg1)) (m ((c : Thread nD τ).loc main_arg2)) (m ((c : Thread nD τ).loc main_arg4)) (ix2 n j) := by
  unfold out0_11
  rw [View.canon_unit_zero (by funext a; fin_cases a <;> rfl), pay60, full4, c_at m c t r n hn, outC_at]

theorem low_at (z : FVec Ideal S512x2048 .f32) (c s : FVec Ideal S512x128 .f32) (r : Fin 512) (l : Fin 32) :
    k0_pay9 (F := Ideal) z c s (ix2 r l) = k0_pay8 (F := Ideal) z c s (ix2 r ⟨l.val, by omega⟩) := by
  unfold k0_pay9
  generalize k0_pay8 (F := Ideal) z c s = a
  pointwise

theorem at12 (c : Dev nD) (t : Fin cfg0.N) (r : Fin 512) (j : Fin 32) (n : Fin 512) (hn : n.val = t.val * 512 + r.val) :
    out0_12 (F := Ideal) (iblk m c 0 t) (iblk m c 1 t) (iblk m c 2 t) (iblk m c 3 t) (iblk m c 4 t) (iblk m c 5 t) (iblk m c 6 t) (iblk m c 7 t) (iblk m c 8 t) (ix2 r j) = outR (m ((c : Thread nD τ).loc main_arg0)) (m ((c : Thread nD τ).loc main_arg1)) (m ((c : Thread nD τ).loc main_arg2)) (ix2 n j) := by
  unfold out0_12
  rw [View.canon_unit_zero (by funext a; fin_cases a <;> rfl), pay60, pay61, pay62, low_at, k_at m c t r n hn, outR_at, dif_pos j.isLt]

theorem cols_at (z : FVec Ideal S512x2048 .f32) (o : ℕ) (h) (ho : o + 512 ≤ 2048) (r : Fin 512) (l : Fin 512) :
    extractStridedSlice S512x512 ![0, o] z h (ix2 r l) = z (ix2 r ⟨o + l.val, by omega⟩) := by
  pointwise

/-- 512 columns of a grid point's products, after the columns of zeros. -/
theorem col_at (c : Dev nD) (t : Fin cfg0.N) (r : Fin 512) (j : Fin 512) (n : Fin 512) (hn : n.val = t.val * 512 + r.val) (o : ℕ) (h) (ho : o + 512 ≤ 1952) (hl : 416 ≤ o) :
    extractStridedSlice S512x512 ![0, o + 96] (k0_pay3 (F := Ideal) (iblk m c 0 t) (iblk m c 1 t) (iblk m c 2 t)) h (ix2 r j)
      = products (m ((c : Thread nD τ).loc main_arg0)) (m ((c : Thread nD τ).loc main_arg1)) (m ((c : Thread nD τ).loc main_arg2)) n ⟨o + j.val, by omega⟩ := by
  rw [cols_at _ _ h (by omega), z_at m c t r n hn]
  unfold wide
  rw [dif_neg (by dsimp only; omega), dif_neg (by dsimp only; omega)]
  exact congrArg (products (m ((c : Thread nD τ).loc main_arg0)) (m ((c : Thread nD τ).loc main_arg1)) (m ((c : Thread nD τ).loc main_arg2)) n) (Fin.ext (by dsimp only; omega))

theorem at13 (c : Dev nD) (t : Fin cfg0.N) (r : Fin 512) (j : Fin 512) (n : Fin 512) (hn : n.val = t.val * 512 + r.val) :
    out0_13 (F := Ideal) (iblk m c 0 t) (iblk m c 1 t) (iblk m c 2 t) (iblk m c 3 t) (iblk m c 4 t) (iblk m c 5 t) (iblk m c 6 t) (iblk m c 7 t) (iblk m c 8 t) (ix2 r j) = outB 416 (by decide) (m ((c : Thread nD τ).loc main_arg0)) (m ((c : Thread nD τ).loc main_arg1)) (m ((c : Thread nD τ).loc main_arg2)) (ix2 n j) := by
  unfold out0_13
  rw [View.canon_unit_zero (by funext a; fin_cases a <;> rfl), pay60, outB_at]
  exact col_at m c t r j n hn 416 slices_S512x2048_o0_512_S512x512 (by decide) (by decide)

theorem at14 (c : Dev nD) (t : Fin cfg0.N) (r : Fin 512) (j : Fin 512) (n : Fin 512) (hn : n.val = t.val * 512 + r.val) :
    out0_14 (F := Ideal) (iblk m c 0 t) (iblk m c 1 t) (iblk m c 2 t) (iblk m c 3 t) (iblk m c 4 t) (iblk m c 5 t) (iblk m c 6 t) (iblk m c 7 t) (iblk m c 8 t) (ix2 r j) = outB 928 (by decide) (m ((c : Thread nD τ).loc main_arg0)) (m ((c : Thread nD τ).loc main_arg1)) (m ((c : Thread nD τ).loc main_arg2)) (ix2 n j) := by
  unfold out0_14
  rw [View.canon_unit_zero (by funext a; fin_cases a <;> rfl), pay60, outB_at]
  exact col_at m c t r j n hn 928 slices_S512x2048_o0_1024_S512x512 (by decide) (by decide)

theorem at15 (c : Dev nD) (t : Fin cfg0.N) (r : Fin 512) (j : Fin 512) (n : Fin 512) (hn : n.val = t.val * 512 + r.val) :
    out0_15 (F := Ideal) (iblk m c 0 t) (iblk m c 1 t) (iblk m c 2 t) (iblk m c 3 t) (iblk m c 4 t) (iblk m c 5 t) (iblk m c 6 t) (iblk m c 7 t) (iblk m c 8 t) (ix2 r j) = outB 1440 (by decide) (m ((c : Thread nD τ).loc main_arg0)) (m ((c : Thread nD τ).loc main_arg1)) (m ((c : Thread nD τ).loc main_arg2)) (ix2 n j) := by
  unfold out0_15
  rw [View.canon_unit_zero (by funext a; fin_cases a <;> rfl), pay60, outB_at]
  exact col_at m c t r j n hn 1440 slices_S512x2048_o0_1536_S512x512 (by decide) (by decide)

theorem at16 (c : Dev nD) (t : Fin cfg0.N) (r : Fin 512) (j : Fin 512) (n : Fin 512) (hn : n.val = t.val * 512 + r.val) :
    out0_16 (F := Ideal) (iblk m c 0 t) (iblk m c 1 t) (iblk m c 2 t) (iblk m c 3 t) (iblk m c 4 t) (iblk m c 5 t) (iblk m c 6 t) (iblk m c 7 t) (iblk m c 8 t) (ix2 r j) = outF 928 (by decide) (m ((c : Thread nD τ).loc main_arg0)) (m ((c : Thread nD τ).loc main_arg1)) (m ((c : Thread nD τ).loc main_arg2)) (ix2 n j) := by
  unfold out0_16
  rw [View.canon_unit_zero (by funext a; fin_cases a <;> rfl), pay60, outF_at]
  exact col_at m c t r j n hn 928 slices_S512x2048_o0_1024_S512x512 (by decide) (by decide)

theorem at17 (c : Dev nD) (t : Fin cfg0.N) (r : Fin 512) (j : Fin 512) (n : Fin 512) (hn : n.val = t.val * 512 + r.val) :
    out0_17 (F := Ideal) (iblk m c 0 t) (iblk m c 1 t) (iblk m c 2 t) (iblk m c 3 t) (iblk m c 4 t) (iblk m c 5 t) (iblk m c 6 t) (iblk m c 7 t) (iblk m c 8 t) (ix2 r j) = outF 1440 (by decide) (m ((c : Thread nD τ).loc main_arg0)) (m ((c : Thread nD τ).loc main_arg1)) (m ((c : Thread nD τ).loc main_arg2)) (ix2 n j) := by
  unfold out0_17
  rw [View.canon_unit_zero (by funext a; fin_cases a <;> rfl), pay60, outF_at]
  exact col_at m c t r j n hn 1440 slices_S512x2048_o0_1536_S512x512 (by decide) (by decide)

/-- The result arrays of the call. -/
theorem final9 (c : Dev nD) : (dats (F := Ideal) m 0 c).arrAt 9 cfg0.N = outQ (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (dats (F := Ideal) m 0 c).arrAt_eq_of_covers 9 _ (by decide +kernel) fun t hf y => ?_
  rw [after0_9]
  idx_vars y
  have ht : t.val < 1 := N_0 ▸ t.isLt
  have h := at9 m c t y0 y1 y2 ⟨t.val * 512 + y1.val, by omega⟩ rfl
  erw [emb9 t y0 y1 y2]
  generalize outQ (m (c.tc.loc main_arg0)) (m (c.tc.loc main_arg1)) (m (c.tc.loc main_arg2)) (m (c.tc.loc main_arg3)) (m (c.tc.loc main_arg5)) (m (c.tc.loc main_arg6)) = G at h ⊢
  generalize out0_9 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final10 (c : Dev nD) : (dats (F := Ideal) m 0 c).arrAt 10 cfg0.N = outK (m ((c : Thread nD τ).loc main_arg0)) (m ((c : Thread nD τ).loc main_arg1)) (m ((c : Thread nD τ).loc main_arg2)) (m ((c : Thread nD τ).loc main_arg4)) := by
  refine (dats (F := Ideal) m 0 c).arrAt_eq_of_covers 10 _ (by decide +kernel) fun t hf y => ?_
  rw [after0_10]
  idx_vars y
  have ht : t.val < 1 := N_0 ▸ t.isLt
  have h := at10 m c t y0 y1 ⟨t.val * 512 + y0.val, by omega⟩ rfl
  erw [emb10 t y0 y1]
  generalize outK (m (c.tc.loc main_arg0)) (m (c.tc.loc main_arg1)) (m (c.tc.loc main_arg2)) (m (c.tc.loc main_arg4)) = G at h ⊢
  generalize out0_10 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final11 (c : Dev nD) : (dats (F := Ideal) m 0 c).arrAt 11 cfg0.N = outC (m ((c : Thread nD τ).loc main_arg0)) (m ((c : Thread nD τ).loc main_arg1)) (m ((c : Thread nD τ).loc main_arg2)) (m ((c : Thread nD τ).loc main_arg4)) := by
  refine (dats (F := Ideal) m 0 c).arrAt_eq_of_covers 11 _ (by decide +kernel) fun t hf y => ?_
  rw [after0_11]
  idx_vars y
  have ht : t.val < 1 := N_0 ▸ t.isLt
  have h := at11 m c t y0 y1 ⟨t.val * 512 + y0.val, by omega⟩ rfl
  erw [emb11 t y0 y1]
  generalize outC (m (c.tc.loc main_arg0)) (m (c.tc.loc main_arg1)) (m (c.tc.loc main_arg2)) (m (c.tc.loc main_arg4)) = G at h ⊢
  generalize out0_11 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final12 (c : Dev nD) : (dats (F := Ideal) m 0 c).arrAt 12 cfg0.N = outR (m ((c : Thread nD τ).loc main_arg0)) (m ((c : Thread nD τ).loc main_arg1)) (m ((c : Thread nD τ).loc main_arg2)) := by
  refine (dats (F := Ideal) m 0 c).arrAt_eq_of_covers 12 _ (by decide +kernel) fun t hf y => ?_
  rw [after0_12]
  idx_vars y
  have ht : t.val < 1 := N_0 ▸ t.isLt
  have h := at12 m c t y0 y1 ⟨t.val * 512 + y0.val, by omega⟩ rfl
  erw [emb12 t y0 y1]
  generalize outR (m (c.tc.loc main_arg0)) (m (c.tc.loc main_arg1)) (m (c.tc.loc main_arg2)) = G at h ⊢
  generalize out0_12 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final13 (c : Dev nD) : (dats (F := Ideal) m 0 c).arrAt 13 cfg0.N = outB 416 (by decide) (m ((c : Thread nD τ).loc main_arg0)) (m ((c : Thread nD τ).loc main_arg1)) (m ((c : Thread nD τ).loc main_arg2)) := by
  refine (dats (F := Ideal) m 0 c).arrAt_eq_of_covers 13 _ (by decide +kernel) fun t hf y => ?_
  rw [after0_13]
  idx_vars y
  have ht : t.val < 1 := N_0 ▸ t.isLt
  have h := at13 m c t y0 y1 ⟨t.val * 512 + y0.val, by omega⟩ rfl
  erw [emb13 t y0 y1]
  generalize outB 416 (by decide) (m (c.tc.loc main_arg0)) (m (c.tc.loc main_arg1)) (m (c.tc.loc main_arg2)) = G at h ⊢
  generalize out0_13 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final14 (c : Dev nD) : (dats (F := Ideal) m 0 c).arrAt 14 cfg0.N = outB 928 (by decide) (m ((c : Thread nD τ).loc main_arg0)) (m ((c : Thread nD τ).loc main_arg1)) (m ((c : Thread nD τ).loc main_arg2)) := by
  refine (dats (F := Ideal) m 0 c).arrAt_eq_of_covers 14 _ (by decide +kernel) fun t hf y => ?_
  rw [after0_14]
  idx_vars y
  have ht : t.val < 1 := N_0 ▸ t.isLt
  have h := at14 m c t y0 y1 ⟨t.val * 512 + y0.val, by omega⟩ rfl
  erw [emb14 t y0 y1]
  generalize outB 928 (by decide) (m (c.tc.loc main_arg0)) (m (c.tc.loc main_arg1)) (m (c.tc.loc main_arg2)) = G at h ⊢
  generalize out0_14 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final15 (c : Dev nD) : (dats (F := Ideal) m 0 c).arrAt 15 cfg0.N = outB 1440 (by decide) (m ((c : Thread nD τ).loc main_arg0)) (m ((c : Thread nD τ).loc main_arg1)) (m ((c : Thread nD τ).loc main_arg2)) := by
  refine (dats (F := Ideal) m 0 c).arrAt_eq_of_covers 15 _ (by decide +kernel) fun t hf y => ?_
  rw [after0_15]
  idx_vars y
  have ht : t.val < 1 := N_0 ▸ t.isLt
  have h := at15 m c t y0 y1 ⟨t.val * 512 + y0.val, by omega⟩ rfl
  erw [emb15 t y0 y1]
  generalize outB 1440 (by decide) (m (c.tc.loc main_arg0)) (m (c.tc.loc main_arg1)) (m (c.tc.loc main_arg2)) = G at h ⊢
  generalize out0_15 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final16 (c : Dev nD) : (dats (F := Ideal) m 0 c).arrAt 16 cfg0.N = outF 928 (by decide) (m ((c : Thread nD τ).loc main_arg0)) (m ((c : Thread nD τ).loc main_arg1)) (m ((c : Thread nD τ).loc main_arg2)) := by
  refine (dats (F := Ideal) m 0 c).arrAt_eq_of_covers 16 _ (by decide +kernel) fun t hf y => ?_
  rw [after0_16]
  idx_vars y
  have ht : t.val < 1 := N_0 ▸ t.isLt
  have h := at16 m c t y0 y1 ⟨t.val * 512 + y0.val, by omega⟩ rfl
  erw [emb16 t y0 y1]
  generalize outF 928 (by decide) (m (c.tc.loc main_arg0)) (m (c.tc.loc main_arg1)) (m (c.tc.loc main_arg2)) = G at h ⊢
  generalize out0_16 (F := Ideal) (iblk m c 0 t) (iblk m c 1 t) (iblk m c 2 t) (iblk m c 3 t) (iblk m c 4 t) (iblk m c 5 t) (iblk m c 6 t) (iblk m c 7 t) (iblk m c 8 t) = O at h ⊢
  exact h

theorem final17 (c : Dev nD) : (dats (F := Ideal) m 0 c).arrAt 17 cfg0.N = outF 1440 (by decide) (m ((c : Thread nD τ).loc main_arg0)) (m ((c : Thread nD τ).loc main_arg1)) (m ((c : Thread nD τ).loc main_arg2)) := by
  refine (dats (F := Ideal) m 0 c).arrAt_eq_of_covers 17 _ (by decide +kernel) fun t hf y => ?_
  rw [after0_17]
  idx_vars y
  have ht : t.val < 1 := N_0 ▸ t.isLt
  have h := at17 m c t y0 y1 ⟨t.val * 512 + y0.val, by omega⟩ rfl
  erw [emb17 t y0 y1]
  generalize outF 1440 (by decide) (m (c.tc.loc main_arg0)) (m (c.tc.loc main_arg1)) (m (c.tc.loc main_arg2)) = G at h ⊢
  generalize out0_17 (F := Ideal) (iblk m c 0 t) (iblk m c 1 t) (iblk m c 2 t) (iblk m c 3 t) (iblk m c 4 t) (iblk m c 5 t) (iblk m c 6 t) (iblk m c 7 t) (iblk m c 8 t) = O at h ⊢
  exact h

end Cert.EvenProjectSampleIdeal.Closed

end
-- ==== Proof.EvenProjectSampleReference.lean ====
/- The reference of the even layer's projection of the samples: its nine results read at an element, and its run with them at the projection. -/
module

public import proofs.«01_k».proof.Proof.Indices
public import proofs.«01_k».proof.Proof.FfnMath
public import proofs.«01_k».proof.Proof.EvenProjectMath
public import proofs.«01_k».proof.Proof.EvenProjectSampleArrays
public import proofs.«01_k».proof.Proof.Gen.EvenProjectSampleReferenceIdeal.Run
public import Idealize.ShloMosaic.Lib.Pipeline.ValueKit
public import Idealize.ShloMosaic.Lib.KernelVsHost
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.EvenProjectSampleReferenceIdeal.Closed

open Cert.EvenProjectSampleReferenceIdeal Cert.EvenProjectSampleReferenceIdeal.Gen Cert.Indices Cert.FfnMath Cert.EvenProjectMath
open Cert.EvenProjectSampleIdeal.Closed (products cosR sinR outQ outK outC outR outB outF outQ_at outK_at outC_at outR_at outB_at outF_at)

/-- The reference's normalised rows. -/
abbrev N (x : Vec Ideal S128x4x1024 .f32) (g : Vec Ideal S1024 .f32) : FVec Ideal S128x4x1024 .f32 :=
  mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))

/-- The reference's products. -/
abbrev P (n : Vec Ideal S128x4x1024 .f32) (w : Vec Ideal S1024x1952 .f32) : Vec Ideal S128x4x1952 .f32 :=
  Host.dotGeneral (F := Ideal) (φ₁ := .f32) (φ₂ := .f32) dot_S128x4x1024_S1024x1952_S128x4x1952_2_0_01_1_n_n none n w

/-- The products' parts: query latents, latents, positional keys, and 512 columns from `o`. -/
abbrev partQ (p : Vec Ideal S128x4x1952 .f32) : FVec Ideal S128x4x256 .f32 := extractStridedSlice S128x4x256 ![0, 0, 0] p slices_S128x4x1952_S128x4x256_0_0_0
abbrev partC (p : Vec Ideal S128x4x1952 .f32) : FVec Ideal S128x4x128 .f32 := extractStridedSlice S128x4x128 ![0, 0, 256] p slices_S128x4x1952_S128x4x128_0_0_256
abbrev partR (p : Vec Ideal S128x4x1952 .f32) : FVec Ideal S128x4x32 .f32 := extractStridedSlice S128x4x32 ![0, 0, 384] p slices_S128x4x1952_S128x4x32_0_0_384
abbrev partB (o : ℕ) (h : S128x4x1952.Slices ![0, 0, o] S128x4x512) (p : Vec Ideal S128x4x1952 .f32) : FVec Ideal S512x512 .f32 :=
  shapeCast S512x512 (extractStridedSlice S128x4x512 ![0, 0, o] p h) shapeCasts_S128x4x512_S512x512

/-- The normalised query latents and latents. -/
abbrev NQ (z : FVec Ideal S128x4x256 .f32) (g : Vec Ideal S256 .f32) : FVec Ideal S128x4x256 .f32 :=
  mulf (mulf z (broadcastInDim S128x4x256 ![0, 1, 2] bcast_S128x4x1_S128x4x256_0_1_2 (Host.rsqrt (addf (Host.divf (broadcastInDim S128x4x1 ![0, 1] bcast_S128x4_S128x4x1_0_1 (Host.reduceAdd (mulf z z) (constant S_ .f32 0x00000000#32) reducesTo_S128x4x256_S128x4_d2 h_S_)) (broadcastInDim S128x4x1 ![] bcast_S_S128x4x1 (constant S_ .f32 0x43800000#32))) (broadcastInDim S128x4x1 ![] bcast_S_S128x4x1 (constant S_ .f32 0x358637BD#32)))))) (broadcastInDim S128x4x256 ![0, 1, 2] bcast_S1x1x256_S128x4x256_0_1_2 (broadcastInDim S1x1x256 ![2] bcast_S256_S1x1x256_2 g))
abbrev NC (z : FVec Ideal S128x4x128 .f32) (g : Vec Ideal S128 .f32) : FVec Ideal S128x4x128 .f32 :=
  mulf (mulf z (broadcastInDim S128x4x128 ![0, 1, 2] bcast_S128x4x1_S128x4x128_0_1_2 (Host.rsqrt (addf (Host.divf (broadcastInDim S128x4x1 ![0, 1] bcast_S128x4_S128x4x1_0_1 (Host.reduceAdd (mulf z z) (constant S_ .f32 0x00000000#32) reducesTo_S128x4x128_S128x4_d2 h_S_)) (broadcastInDim S128x4x1 ![] bcast_S_S128x4x1 (constant S_ .f32 0x43000000#32))) (broadcastInDim S128x4x1 ![] bcast_S_S128x4x1 (constant S_ .f32 0x358637BD#32)))))) (broadcastInDim S128x4x128 ![0, 1, 2] bcast_S1x1x128_S128x4x128_0_1_2 (broadcastInDim S1x1x128 ![2] bcast_S128_S1x1x128_2 g))

/-- The heads' queries. -/
abbrev Q (n : FVec Ideal S128x4x256 .f32) (u : Vec Ideal S256x8x96 .f32) : FVec Ideal S128x4x8x96 .f32 :=
  Host.dotGeneral (F := Ideal) (φ₁ := .f32) (φ₂ := .f32) dot_S128x4x256_S256x8x96_S128x4x8x96_2_0_01_12_n_n none n u

/-- The heads' queries taken to the latents. -/
abbrev QL (q : FVec Ideal S128x4x8x96 .f32) (k : Vec Ideal S128x8x64 .f32) : FVec Ideal S128x4x8x128 .f32 :=
  transpose S128x4x8x128 [2, 3, 0, 1] (Host.dotGeneral (F := Ideal) (φ₁ := .f32) (φ₂ := .f32) dot_S128x8x64_S128x4x8x64_S8x128x128x4_2_3_0_01_1_2 none k (extractStridedSlice S128x4x8x64 ![0, 0, 0, 0] q slices_S128x4x8x96_S128x4x8x64_0_0_0_0)) transposes_S8x128x128x4_S128x4x8x128_2_3_0_1

/-- The heads' positional lanes. -/
abbrev QR (q : FVec Ideal S128x4x8x96 .f32) : FVec Ideal S128x4x8x32 .f32 :=
  extractStridedSlice S128x4x8x32 ![0, 0, 0, 64] q slices_S128x4x8x96_S128x4x8x32_0_0_0_64

/-- Parts rotated by position: the heads' and the key's. -/
abbrev T8 (q : FVec Ideal S128x4x8x32 .f32) (c s : FVec Ideal S4x16 .f32) : FVec Ideal S128x4x8x32 .f32 :=
  concatenate S128x4x8x32 3 [⟨S128x4x8x16, (subf (mulf (extractStridedSlice S128x4x8x16 ![0, 0, 0, 0] q slices_S128x4x8x32_S128x4x8x16_0_0_0_0) (broadcastInDim S128x4x8x16 ![0, 1, 2, 3] bcast_S1x4x1x16_S128x4x8x16_0_1_2_3 (broadcastInDim S1x4x1x16 ![1, 2, 3] bcast_S4x1x16_S1x4x1x16_1_2_3 (broadcastInDim S4x1x16 ![0, 2] bcast_S4x16_S4x1x16_0_2 c)))) (mulf (extractStridedSlice S128x4x8x16 ![0, 0, 0, 16] q slices_S128x4x8x32_S128x4x8x16_0_0_0_16) (broadcastInDim S128x4x8x16 ![0, 1, 2, 3] bcast_S1x4x1x16_S128x4x8x16_0_1_2_3 (broadcastInDim S1x4x1x16 ![1, 2, 3] bcast_S4x1x16_S1x4x1x16_1_2_3 (broadcastInDim S4x1x16 ![0, 2] bcast_S4x16_S4x1x16_0_2 s)))))⟩,
    ⟨S128x4x8x16, (addf (mulf (extractStridedSlice S128x4x8x16 ![0, 0, 0, 16] q slices_S128x4x8x32_S128x4x8x16_0_0_0_16) (broadcastInDim S128x4x8x16 ![0, 1, 2, 3] bcast_S1x4x1x16_S128x4x8x16_0_1_2_3 (broadcastInDim S1x4x1x16 ![1, 2, 3] bcast_S4x1x16_S1x4x1x16_1_2_3 (broadcastInDim S4x1x16 ![0, 2] bcast_S4x16_S4x1x16_0_2 c)))) (mulf (extractStridedSlice S128x4x8x16 ![0, 0, 0, 0] q slices_S128x4x8x32_S128x4x8x16_0_0_0_0) (broadcastInDim S128x4x8x16 ![0, 1, 2, 3] bcast_S1x4x1x16_S128x4x8x16_0_1_2_3 (broadcastInDim S1x4x1x16 ![1, 2, 3] bcast_S4x1x16_S1x4x1x16_1_2_3 (broadcastInDim S4x1x16 ![0, 2] bcast_S4x16_S4x1x16_0_2 s)))))⟩] concatenates_S128x4x8x16_S128x4x8x16_S128x4x8x32_d3
abbrev T1 (q : FVec Ideal S128x4x1x32 .f32) (c s : FVec Ideal S4x16 .f32) : FVec Ideal S128x4x1x32 .f32 :=
  concatenate S128x4x1x32 3 [⟨S128x4x1x16, (subf (mulf (extractStridedSlice S128x4x1x16 ![0, 0, 0, 0] q slices_S128x4x1x32_S128x4x1x16_0_0_0_0) (broadcastInDim S128x4x1x16 ![0, 1, 2, 3] bcast_S1x4x1x16_S128x4x1x16_0_1_2_3 (broadcastInDim S1x4x1x16 ![1, 2, 3] bcast_S4x1x16_S1x4x1x16_1_2_3 (broadcastInDim S4x1x16 ![0, 2] bcast_S4x16_S4x1x16_0_2 c)))) (mulf (extractStridedSlice S128x4x1x16 ![0, 0, 0, 16] q slices_S128x4x1x32_S128x4x1x16_0_0_0_16) (broadcastInDim S128x4x1x16 ![0, 1, 2, 3] bcast_S1x4x1x16_S128x4x1x16_0_1_2_3 (broadcastInDim S1x4x1x16 ![1, 2, 3] bcast_S4x1x16_S1x4x1x16_1_2_3 (broadcastInDim S4x1x16 ![0, 2] bcast_S4x16_S4x1x16_0_2 s)))))⟩,
    ⟨S128x4x1x16, (addf (mulf (extractStridedSlice S128x4x1x16 ![0, 0, 0, 16] q slices_S128x4x1x32_S128x4x1x16_0_0_0_16) (broadcastInDim S128x4x1x16 ![0, 1, 2, 3] bcast_S1x4x1x16_S128x4x1x16_0_1_2_3 (broadcastInDim S1x4x1x16 ![1, 2, 3] bcast_S4x1x16_S1x4x1x16_1_2_3 (broadcastInDim S4x1x16 ![0, 2] bcast_S4x16_S4x1x16_0_2 c)))) (mulf (extractStridedSlice S128x4x1x16 ![0, 0, 0, 0] q slices_S128x4x1x32_S128x4x1x16_0_0_0_0) (broadcastInDim S128x4x1x16 ![0, 1, 2, 3] bcast_S1x4x1x16_S128x4x1x16_0_1_2_3 (broadcastInDim S1x4x1x16 ![1, 2, 3] bcast_S4x1x16_S1x4x1x16_1_2_3 (broadcastInDim S4x1x16 ![0, 2] bcast_S4x16_S4x1x16_0_2 s)))))⟩] concatenates_S128x4x1x16_S128x4x1x16_S128x4x1x32_d3

/-- The rotated positional keys. -/
abbrev KR (r : FVec Ideal S128x4x32 .f32) (c s : FVec Ideal S4x16 .f32) : FVec Ideal S128x4x32 .f32 :=
  shapeCast S128x4x32 (T1 (broadcastInDim S128x4x1x32 ![0, 1, 3] bcast_S128x4x32_S128x4x1x32_0_1_3 r) c s) shapeCasts_S128x4x1x32_S128x4x32

/-- Latent and rotated parts side by side, with lanes of zeros. -/
abbrev W8 (l : FVec Ideal S128x4x8x128 .f32) (r : FVec Ideal S128x4x8x32 .f32) : FVec Ideal S128x4x8x256 .f32 :=
  pad S128x4x8x256 ![0, 0, 0, 0] ![0, 0, 0, 96] ![0, 0, 0, 0] (concatenate S128x4x8x160 3 [⟨S128x4x8x128, l⟩, ⟨S128x4x8x32, r⟩] concatenates_S128x4x8x128_S128x4x8x32_S128x4x8x160_d3) (sitofp (F := Ideal) .f32 (constantI S_ 32 0#32)) pads_S128x4x8x160_S128x4x8x256_000_000_000_0960 h_S_
abbrev W1 (l : FVec Ideal S128x4x128 .f32) (r : FVec Ideal S128x4x32 .f32) : FVec Ideal S128x4x256 .f32 :=
  pad S128x4x256 ![0, 0, 0] ![0, 0, 96] ![0, 0, 0] (concatenate S128x4x160 2 [⟨S128x4x128, l⟩, ⟨S128x4x32, r⟩] concatenates_S128x4x128_S128x4x32_S128x4x160_d2) (sitofp (F := Ideal) .f32 (constantI S_ 32 0#32)) pads_S128x4x160_S128x4x256_000_000_0960 h_S_

/-- Packed queries and keys as rows of all batches. -/
abbrev F8 (a : FVec Ideal S128x4x8x256 .f32) : FVec Ideal S8x512x256 .bf16 :=
  truncf .bf16 (shapeCast S8x512x256 (transpose S8x128x4x256 [2, 0, 1, 3] a transposes_S128x4x8x256_S8x128x4x256_2_0_1_3) shapeCasts_S8x128x4x256_S8x512x256) bitsLt_bf16_f32
abbrev F1 (a : FVec Ideal S128x4x256 .f32) : FVec Ideal S512x256 .bf16 :=
  truncf .bf16 (shapeCast S512x256 a shapeCasts_S128x4x256_S512x256) bitsLt_bf16_f32

theorem norm_at (x : Vec Ideal S128x4x1024 .f32) (g : Vec Ideal S1024 .f32) (b : Fin 128) (s : Fin 4) (k : Fin 1024) :
    N x g (ix3 b s k) = rnorm (fun k => x (ix3 b s k)) (fun k => g (ix1 k)) k := by
  unfold N rnorm
  pointwise

theorem prod_at (n : Vec Ideal S128x4x1024 .f32) (w : Vec Ideal S1024x1952 .f32) (b : Fin 128) (s : Fin 4) (j : Fin 1952) :
    P n w (ix3 b s j) = ∑ k : Fin 1024, n (ix3 b s k) * w (ix2 k j) := by
  unfold P
  pointwise

/-- The reference's products at a row. -/
theorem products_at (x : Vec Ideal S128x4x1024 .f32) (g : Vec Ideal S1024 .f32) (w : Vec Ideal S1024x1952 .f32) (n : Fin 512) (j : Fin 1952) :
    P (N x g) w (ix3 ⟨n.val / 4, by omega⟩ ⟨n.val % 4, by omega⟩ j) = products x g w n j := by
  rw [prod_at]
  simp only [norm_at]
  rfl

theorem partQ_at (p : Vec Ideal S128x4x1952 .f32) (b : Fin 128) (s : Fin 4) (j : Fin 256) : partQ p (ix3 b s j) = p (ix3 b s ⟨j.val, by omega⟩) := by
  unfold partQ
  pointwise
theorem partC_at (p : Vec Ideal S128x4x1952 .f32) (b : Fin 128) (s : Fin 4) (j : Fin 128) : partC p (ix3 b s j) = p (ix3 b s ⟨256 + j.val, by omega⟩) := by
  unfold partC
  pointwise
theorem partR_at (p : Vec Ideal S128x4x1952 .f32) (b : Fin 128) (s : Fin 4) (j : Fin 32) : partR p (ix3 b s j) = p (ix3 b s ⟨384 + j.val, by omega⟩) := by
  unfold partR
  pointwise
theorem partB_at (o : ℕ) (h) (ho : o + 512 ≤ 1952) (p : Vec Ideal S128x4x1952 .f32) (n : Fin 512) (j : Fin 512) :
    partB o h p (ix2 n j) = p (ix3 ⟨n.val / 4, by omega⟩ ⟨n.val % 4, by omega⟩ ⟨o + j.val, by omega⟩) := by
  unfold partB
  pointwise

theorem nq_at (z : FVec Ideal S128x4x256 .f32) (g : Vec Ideal S256 .f32) (b : Fin 128) (s : Fin 4) (k : Fin 256) :
    NQ z g (ix3 b s k) = rms 0x43800000#32 (fun k => z (ix3 b s k)) (fun k => g (ix1 k)) k := by
  unfold NQ rms
  pointwise
theorem nc_at (z : FVec Ideal S128x4x128 .f32) (g : Vec Ideal S128 .f32) (b : Fin 128) (s : Fin 4) (k : Fin 128) :
    NC z g (ix3 b s k) = rms 0x43000000#32 (fun k => z (ix3 b s k)) (fun k => g (ix1 k)) k := by
  unfold NC rms
  pointwise

theorem q_at (n : FVec Ideal S128x4x256 .f32) (u : Vec Ideal S256x8x96 .f32) (b : Fin 128) (s : Fin 4) (h : Fin 8) (e : Fin 96) :
    Q n u (ix4 b s h e) = query (fun r => n (ix3 b s r)) (fun r h e => u (ix3 r h e)) h e := by
  unfold Q query
  pointwise

theorem ql_at (q : FVec Ideal S128x4x8x96 .f32) (k : Vec Ideal S128x8x64 .f32) (b : Fin 128) (s : Fin 4) (h : Fin 8) (j : Fin 128) :
    QL q k (ix4 b s h j) = ∑ n : Fin 64, q (ix4 b s h ⟨n.val, by omega⟩) * k (ix3 j h n) := by
  unfold QL
  pointwise
  exact Finset.sum_congr rfl fun n _ => mul_comm _ _

theorem qr_at (q : FVec Ideal S128x4x8x96 .f32) (b : Fin 128) (s : Fin 4) (h : Fin 8) (l : Fin 32) :
    QR q (ix4 b s h l) = q (ix4 b s h ⟨64 + l.val, by omega⟩) := by
  unfold QR
  pointwise

theorem turn8_at (q : FVec Ideal S128x4x8x32 .f32) (c s : FVec Ideal S4x16 .f32) (b : Fin 128) (n : Fin 4) (h : Fin 8) (e : Fin 32) :
    T8 q c s (ix4 b n h e) = turn (fun l => c (ix2 n l)) (fun l => s (ix2 n l)) (fun l => q (ix4 b n h l)) e := by
  unfold T8 turn
  pointwise
  by_cases l : e.val < 16
  · rw [dif_pos l, dif_pos l, sub_eq_add_neg, ← mul_neg]
    refine congrArg₂ (· + ·) (congrArg₂ (· * ·) (congrArg q (ix4_congr rfl rfl rfl rfl)) (congrArg c (ix2_congr rfl (by dsimp only; omega))))
      (congrArg₂ (· * ·) (congrArg q (ix4_congr rfl rfl rfl (by dsimp only; omega))) (congrArg (fun a => -a) (congrArg s (ix2_congr rfl (by dsimp only; omega)))))
  · rw [dif_neg l, dif_neg l]
    refine congrArg₂ (· + ·) (congrArg₂ (· * ·) (congrArg q (ix4_congr rfl rfl rfl (by dsimp only; omega))) (congrArg c (ix2_congr rfl (by dsimp only; omega))))
      (congrArg₂ (· * ·) (congrArg q (ix4_congr rfl rfl rfl rfl)) (congrArg s (ix2_congr rfl (by dsimp only; omega))))

theorem turn1_at (q : FVec Ideal S128x4x1x32 .f32) (c s : FVec Ideal S4x16 .f32) (b : Fin 128) (n : Fin 4) (h : Fin 1) (e : Fin 32) :
    T1 q c s (ix4 b n h e) = turn (fun l => c (ix2 n l)) (fun l => s (ix2 n l)) (fun l => q (ix4 b n h l)) e := by
  obtain rfl : h = 0 := Subsingleton.elim _ _
  unfold T1 turn
  pointwise
  by_cases l : e.val < 16
  · rw [dif_pos l, dif_pos l, sub_eq_add_neg, ← mul_neg]
    refine congrArg₂ (· + ·) (congrArg₂ (· * ·) (congrArg q (ix4_congr rfl rfl rfl rfl)) (congrArg c (ix2_congr rfl (by dsimp only; omega))))
      (congrArg₂ (· * ·) (congrArg q (ix4_congr rfl rfl rfl (by dsimp only; omega))) (congrArg (fun a => -a) (congrArg s (ix2_congr rfl (by dsimp only; omega)))))
  · rw [dif_neg l, dif_neg l]
    refine congrArg₂ (· + ·) (congrArg₂ (· * ·) (congrArg q (ix4_congr rfl rfl rfl (by dsimp only; omega))) (congrArg c (ix2_congr rfl (by dsimp only; omega))))
      (congrArg₂ (· * ·) (congrArg q (ix4_congr rfl rfl rfl rfl)) (congrArg s (ix2_congr rfl (by dsimp only; omega))))

theorem spread_at (r : FVec Ideal S128x4x32 .f32) (b : Fin 128) (s : Fin 4) (h : Fin 1) (l : Fin 32) :
    broadcastInDim S128x4x1x32 ![0, 1, 3] bcast_S128x4x32_S128x4x1x32_0_1_3 r (ix4 b s h l) = r (ix3 b s l) := by
  pointwise

theorem drop_at (r : FVec Ideal S128x4x1x32 .f32) (b : Fin 128) (s : Fin 4) (l : Fin 32) :
    shapeCast S128x4x32 r shapeCasts_S128x4x1x32_S128x4x32 (ix3 b s l) = r (ix4 b s 0 l) := by
  pointwise

theorem kr_at (r : FVec Ideal S128x4x32 .f32) (c s : FVec Ideal S4x16 .f32) (b : Fin 128) (n : Fin 4) (l : Fin 32) :
    KR r c s (ix3 b n l) = turn (fun l => c (ix2 n l)) (fun l => s (ix2 n l)) (fun l => r (ix3 b n l)) l := by
  unfold KR
  rw [drop_at, turn1_at]
  exact congrArg (fun f => turn _ _ f l) (funext fun l => spread_at r b n 0 l)

theorem cat8_at (l : FVec Ideal S128x4x8x128 .f32) (r : FVec Ideal S128x4x8x32 .f32) (b : Fin 128) (s : Fin 4) (h : Fin 8) (e : Fin 160) :
    concatenate S128x4x8x160 3 [⟨S128x4x8x128, l⟩, ⟨S128x4x8x32, r⟩] concatenates_S128x4x8x128_S128x4x8x32_S128x4x8x160_d3 (ix4 b s h e)
      = if he : e.val < 128 then l (ix4 b s h ⟨e.val, he⟩) else r (ix4 b s h ⟨e.val - 128, by omega⟩) := by
  pointwise
theorem cat1_at (l : FVec Ideal S128x4x128 .f32) (r : FVec Ideal S128x4x32 .f32) (b : Fin 128) (s : Fin 4) (e : Fin 160) :
    concatenate S128x4x160 2 [⟨S128x4x128, l⟩, ⟨S128x4x32, r⟩] concatenates_S128x4x128_S128x4x32_S128x4x160_d2 (ix3 b s e)
      = if he : e.val < 128 then l (ix3 b s ⟨e.val, he⟩) else r (ix3 b s ⟨e.val - 128, by omega⟩) := by
  pointwise

theorem w8_at (l : FVec Ideal S128x4x8x128 .f32) (r : FVec Ideal S128x4x8x32 .f32) (b : Fin 128) (s : Fin 4) (h : Fin 8) (j : Fin 256) :
    W8 l r (ix4 b s h j) = if hj : j.val < 128 then l (ix4 b s h ⟨j.val, hj⟩) else if hj' : j.val < 160 then r (ix4 b s h ⟨j.val - 128, by omega⟩) else 0 := by
  unfold W8
  by_cases hj' : j.val < 160
  · rw [pad_apply_of_inside _ _ _ _ _ _ _ _ (ix4 b s h (⟨j.val, hj'⟩ : Fin 160)) (by intro a; fin_cases a <;> simp), cat8_at]
    by_cases hj : j.val < 128
    · rw [dif_pos hj, dif_pos hj]
    · rw [dif_neg hj, dif_neg hj, dif_pos hj']
  · rw [dif_neg (by omega), dif_neg hj', pad_apply_of_not_inside _ _ _ _ _ _ _ _ (3 : Fin 4) (by simp; omega)]
    exact sitofp_zero
theorem w1_at (l : FVec Ideal S128x4x128 .f32) (r : FVec Ideal S128x4x32 .f32) (b : Fin 128) (s : Fin 4) (j : Fin 256) :
    W1 l r (ix3 b s j) = if hj : j.val < 128 then l (ix3 b s ⟨j.val, hj⟩) else if hj' : j.val < 160 then r (ix3 b s ⟨j.val - 128, by omega⟩) else 0 := by
  unfold W1
  by_cases hj' : j.val < 160
  · rw [pad_apply_of_inside _ _ _ _ _ _ _ _ (ix3 b s (⟨j.val, hj'⟩ : Fin 160)) (by intro a; fin_cases a <;> simp), cat1_at]
    by_cases hj : j.val < 128
    · rw [dif_pos hj, dif_pos hj]
    · rw [dif_neg hj, dif_neg hj, dif_pos hj']
  · rw [dif_neg (by omega), dif_neg hj', pad_apply_of_not_inside _ _ _ _ _ _ _ _ (2 : Fin 3) (by simp; omega)]
    exact sitofp_zero

theorem f8_at (a : FVec Ideal S128x4x8x256 .f32) (h : Fin 8) (n : Fin 512) (j : Fin 256) :
    F8 a (ix3 h n j) = a (ix4 ⟨n.val / 4, by omega⟩ ⟨n.val % 4, by omega⟩ h j) := by
  unfold F8
  pointwise
theorem f1_at (a : FVec Ideal S128x4x256 .f32) (n : Fin 512) (j : Fin 256) :
    F1 a (ix2 n j) = a (ix3 ⟨n.val / 4, by omega⟩ ⟨n.val % 4, by omega⟩ j) := by
  unfold F1
  pointwise
theorem rows128 (a : FVec Ideal S128x4x128 .f32) (n : Fin 512) (j : Fin 128) :
    shapeCast S512x128 a shapeCasts_S128x4x128_S512x128 (ix2 n j) = a (ix3 ⟨n.val / 4, by omega⟩ ⟨n.val % 4, by omega⟩ j) := by
  pointwise
theorem rows32 (a : FVec Ideal S128x4x32 .f32) (n : Fin 512) (j : Fin 32) :
    shapeCast S512x32 a shapeCasts_S128x4x32_S512x32 (ix2 n j) = a (ix3 ⟨n.val / 4, by omega⟩ ⟨n.val % 4, by omega⟩ j) := by
  pointwise

/-- The reference's angles: the samples' positions after the past times frequency. -/
abbrev angle : FVec Ideal S4x16 .f32 :=
  mulf (broadcastInDim S4x16 ![0, 1] bcast_S4x1_S4x16_0_1 (broadcastInDim S4x1 ![0] bcast_S4_S4x1_0 (sitofp .f32 (addi (broadcastInDim S4 ![] bcast_S_S4 (constantI S_ 32 16384#32)) (iotaInDim S4 32 0)))))
    (broadcastInDim S4x16 ![0, 1] bcast_S1x16_S4x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

def cosT : FVec Ideal S4x16 .f32 := Host.cos angle
def sinT : FVec Ideal S4x16 .f32 := Host.sin angle

/-- A row's angles are those of its place among its samples. -/
theorem angle_at (n : Fin 512) (l : Fin 16) : angle (ix2 ⟨n.val % 4, by omega⟩ l) = Cert.EvenProjectSampleIdeal.Closed.angle (ix2 n l) := by
  unfold angle Cert.EvenProjectSampleIdeal.Closed.angle
  pointwise

/-- Equal angles have equal cosines and equal sines. -/
theorem cos_of (a : FVec Ideal S4x16 .f32) (b : FVec Ideal Cert.EvenProjectSampleIdeal.S512x16 .f32) (s : Fin 4) (n : Fin 512) (l : Fin 16) (h : a (ix2 s l) = b (ix2 n l)) :
    Host.cos a (ix2 s l) = Host.cos b (ix2 n l) := by
  unfold Host.cos
  rw [h]
theorem sin_of (a : FVec Ideal S4x16 .f32) (b : FVec Ideal Cert.EvenProjectSampleIdeal.S512x16 .f32) (s : Fin 4) (n : Fin 512) (l : Fin 16) (h : a (ix2 s l) = b (ix2 n l)) :
    Host.sin a (ix2 s l) = Host.sin b (ix2 n l) := by
  unfold Host.sin
  rw [h]

theorem cos_at (n : Fin 512) (l : Fin 16) : cosT (ix2 ⟨n.val % 4, by omega⟩ l) = cosR n l := by
  unfold cosT cosR Cert.EvenProjectSampleIdeal.Closed.cosT
  exact cos_of _ _ _ n l (angle_at n l)
theorem sin_at (n : Fin 512) (l : Fin 16) : sinT (ix2 ⟨n.val % 4, by omega⟩ l) = sinR n l := by
  unfold sinT sinR Cert.EvenProjectSampleIdeal.Closed.sinT
  exact sin_of _ _ _ n l (angle_at n l)

/-- The reference's packed queries. -/
theorem resultQ (x : Vec Ideal S128x4x1024 .f32) (g : Vec Ideal S1024 .f32) (w : Vec Ideal S1024x1952 .f32) (gq : Vec Ideal S256 .f32) (uq : Vec Ideal S256x8x96 .f32) (uk : Vec Ideal S128x8x64 .f32) :
    F8 (W8 (QL (Q (NQ (partQ (P (N x g) w)) gq) uq) uk) (T8 (QR (Q (NQ (partQ (P (N x g) w)) gq) uq)) cosT sinT)) = outQ x g w gq uq uk := by
  funext i
  idx_vars i
  rw [f8_at, w8_at, outQ_at]
  unfold packedQ
  by_cases hj : i2.val < 128
  · rw [dif_pos hj, dif_pos hj, ql_at]
    unfold absorbed
    simp only [q_at, nq_at, partQ_at, products_at]
    rfl
  · rw [dif_neg hj, dif_neg hj]
    by_cases hj' : i2.val < 160
    · rw [dif_pos hj', dif_pos hj', turn8_at]
      simp only [qr_at, q_at, nq_at, partQ_at, products_at, cos_at, sin_at]
      rfl
    · rw [dif_neg hj', dif_neg hj']

/-- The reference's packed keys. -/
theorem resultK (x : Vec Ideal S128x4x1024 .f32) (g : Vec Ideal S1024 .f32) (w : Vec Ideal S1024x1952 .f32) (gkv : Vec Ideal S128 .f32) :
    F1 (W1 (NC (partC (P (N x g) w)) gkv) (KR (partR (P (N x g) w)) cosT sinT)) = outK x g w gkv := by
  funext i
  idx_vars i
  rw [f1_at, w1_at, outK_at]
  unfold packedK
  by_cases hj : i1.val < 128
  · rw [dif_pos hj, dif_pos hj, nc_at]
    simp only [partC_at, products_at]
    rfl
  · rw [dif_neg hj, dif_neg hj]
    by_cases hj' : i1.val < 160
    · rw [dif_pos hj', dif_pos hj', kr_at]
      simp only [partR_at, products_at, cos_at, sin_at]
      rfl
    · rw [dif_neg hj', dif_neg hj']

theorem resultC (x : Vec Ideal S128x4x1024 .f32) (g : Vec Ideal S1024 .f32) (w : Vec Ideal S1024x1952 .f32) (gkv : Vec Ideal S128 .f32) :
    shapeCast S512x128 (NC (partC (P (N x g) w)) gkv) shapeCasts_S128x4x128_S512x128 = outC x g w gkv := by
  funext i
  idx_vars i
  rw [rows128, outC_at, nc_at]
  simp only [partC_at, products_at]
  rfl

theorem resultR (x : Vec Ideal S128x4x1024 .f32) (g : Vec Ideal S1024 .f32) (w : Vec Ideal S1024x1952 .f32) :
    shapeCast S512x32 (KR (partR (P (N x g) w)) cosT sinT) shapeCasts_S128x4x32_S512x32 = outR x g w := by
  funext i
  idx_vars i
  rw [rows32, outR_at, kr_at]
  simp only [partR_at, products_at, cos_at, sin_at]
  rfl

theorem resultF (o : ℕ) (h) (ho : o + 512 ≤ 1952) (x : Vec Ideal S128x4x1024 .f32) (g : Vec Ideal S1024 .f32) (w : Vec Ideal S1024x1952 .f32) : partB o h (P (N x g) w) = outF o ho x g w := by
  funext i
  idx_vars i
  rw [partB_at o h ho, outF_at, products_at]

theorem resultB (o : ℕ) (h) (ho : o + 512 ≤ 1952) (x : Vec Ideal S128x4x1024 .f32) (g : Vec Ideal S1024 .f32) (w : Vec Ideal S1024x1952 .f32) :
    (truncf .bf16 (partB o h (P (N x g) w)) bitsLt_bf16_f32 : FVec Ideal S512x512 .bf16) = outB o ho x g w :=
  resultF o h ho x g w

/-- The reference's run with its results at the projection. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128) = outQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v130) = outK (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v131) = outC (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v132) = outR (m ((c.tc : Thread nD τ).loc main_arg0)) (m ((c.tc : Thread nD τ).loc main_arg1)) (m ((c.tc : Thread nD τ).loc main_arg2))
      ∧ r.2.mem ((c.tc : Thread nD τ).loc main_v134) = outB 416 (by decide) (m ((c.tc : Thread nD τ).loc main_arg0)) (m ((c.tc : Thread nD τ).loc main_arg1)) (m ((c.tc : Thread nD τ).loc main_arg2))
      ∧ r.2.mem ((c.tc : Thread nD τ).loc main_v136) = outB 928 (by decide) (m ((c.tc : Thread nD τ).loc main_arg0)) (m ((c.tc : Thread nD τ).loc main_arg1)) (m ((c.tc : Thread nD τ).loc main_arg2))
      ∧ r.2.mem ((c.tc : Thread nD τ).loc main_v138) = outB 1440 (by decide) (m ((c.tc : Thread nD τ).loc main_arg0)) (m ((c.tc : Thread nD τ).loc main_arg1)) (m ((c.tc : Thread nD τ).loc main_arg2))
      ∧ r.2.mem ((c.tc : Thread nD τ).loc main_v139) = outF 928 (by decide) (m ((c.tc : Thread nD τ).loc main_arg0)) (m ((c.tc : Thread nD τ).loc main_arg1)) (m ((c.tc : Thread nD τ).loc main_arg2))
      ∧ r.2.mem ((c.tc : Thread nD τ).loc main_v140) = outF 1440 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Value.run (F := Ideal) m ρ)
  · unfold Value.res_main_v128
    exact resultQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
  · unfold Value.res_main_v130
    exact resultK (m ((c.tc : Thread nD τ).loc main_arg0)) (m ((c.tc : Thread nD τ).loc main_arg1)) (m ((c.tc : Thread nD τ).loc main_arg2)) (m ((c.tc : Thread nD τ).loc main_arg4))
  · exact resultC (m ((c.tc : Thread nD τ).loc main_arg0)) (m ((c.tc : Thread nD τ).loc main_arg1)) (m ((c.tc : Thread nD τ).loc main_arg2)) (m ((c.tc : Thread nD τ).loc main_arg4))
  · unfold Value.res_main_v132
    exact resultR (m ((c.tc : Thread nD τ).loc main_arg0)) (m ((c.tc : Thread nD τ).loc main_arg1)) (m ((c.tc : Thread nD τ).loc main_arg2))
  · exact resultB 416 slices_S128x4x1952_S128x4x512_0_0_416 (by decide) (m ((c.tc : Thread nD τ).loc main_arg0)) (m ((c.tc : Thread nD τ).loc main_arg1)) (m ((c.tc : Thread nD τ).loc main_arg2))
  · exact resultB 928 slices_S128x4x1952_S128x4x512_0_0_928 (by decide) (m ((c.tc : Thread nD τ).loc main_arg0)) (m ((c.tc : Thread nD τ).loc main_arg1)) (m ((c.tc : Thread nD τ).loc main_arg2))
  · exact resultB 1440 slices_S128x4x1952_S128x4x512_0_0_1440 (by decide) (m ((c.tc : Thread nD τ).loc main_arg0)) (m ((c.tc : Thread nD τ).loc main_arg1)) (m ((c.tc : Thread nD τ).loc main_arg2))
  · exact resultF 928 slices_S128x4x1952_S128x4x512_0_0_928 (by decide) (m ((c.tc : Thread nD τ).loc main_arg0)) (m ((c.tc : Thread nD τ).loc main_arg1)) (m ((c.tc : Thread nD τ).loc main_arg2))
  · exact resultF 1440 slices_S128x4x1952_S128x4x512_0_0_1440 (by decide) (m ((c.tc : Thread nD τ).loc main_arg0)) (m ((c.tc : Thread nD τ).loc main_arg1)) (m ((c.tc : Thread nD τ).loc main_arg2))

end Cert.EvenProjectSampleReferenceIdeal.Closed

end
-- ==== Proof.SampleProjectionClaims.lean ====
/- The claims about the samples' projection: the program and its reference end with the same results. -/
module

public import proofs.«01_k».proof.Defs
public import proofs.«01_k».proof.Proof.EvenProjectSampleArrays
public import proofs.«01_k».proof.Proof.EvenProjectSampleReference

@[expose] public section

noncomputable section

open Idealize.ShloMosaic Idealize.ShloMosaic.TcCoe Idealize.SL.Sem

namespace Cert.SampleProjectionClaims

/-- The even layer's projection of the samples: its reference runs, ends with its arguments unchanged and every counter at zero. -/
theorem even_reference_frame : Cert.quiescent_EvenProjectSampleReferenceIdeal := fun m ρ _ =>
  (θ_run Cert.EvenProjectSampleReferenceIdeal.defs _ _).mono (fun r h => ⟨fun c => (h c).2.2.2.2.2.2.2.2.2, Idealize.ShloMosaic.sem_eq_zero_of_no_sems (by decide) r.2⟩)
    (Cert.EvenProjectSampleReferenceIdeal.Value.run (F := Ideal) m ρ)

/-- The even layer's projection of the samples and its reference end with equal results. -/
theorem even : Cert.algebraic_EvenProjectSampleIdeal_EvenProjectSampleReferenceIdeal := fun m ρ m' ρ' _ hag =>
  ⟨fun c => Cert.EvenProjectSampleIdeal.Closed.outQ (m ((c.tc : Thread Cert.EvenProjectSampleIdeal.nD Cert.EvenProjectSampleIdeal.τ).loc Cert.EvenProjectSampleIdeal.main_arg0)) (m ((c.tc : Thread Cert.EvenProjectSampleIdeal.nD Cert.EvenProjectSampleIdeal.τ).loc Cert.EvenProjectSampleIdeal.main_arg1))
      (m ((c.tc : Thread Cert.EvenProjectSampleIdeal.nD Cert.EvenProjectSampleIdeal.τ).loc Cert.EvenProjectSampleIdeal.main_arg2)) (m ((c.tc : Thread Cert.EvenProjectSampleIdeal.nD Cert.EvenProjectSampleIdeal.τ).loc Cert.EvenProjectSampleIdeal.main_arg3))
      (m ((c.tc : Thread Cert.EvenProjectSampleIdeal.nD Cert.EvenProjectSampleIdeal.τ).loc Cert.EvenProjectSampleIdeal.main_arg5)) (m ((c.tc : Thread Cert.EvenProjectSampleIdeal.nD Cert.EvenProjectSampleIdeal.τ).loc Cert.EvenProjectSampleIdeal.main_arg6)),
    fun c => Cert.EvenProjectSampleIdeal.Closed.outK (m ((c.tc : Thread Cert.EvenProjectSampleIdeal.nD Cert.EvenProjectSampleIdeal.τ).loc Cert.EvenProjectSampleIdeal.main_arg0)) (m ((c.tc : Thread Cert.EvenProjectSampleIdeal.nD Cert.EvenProjectSampleIdeal.τ).loc Cert.EvenProjectSampleIdeal.main_arg1))
      (m ((c.tc : Thread Cert.EvenProjectSampleIdeal.nD Cert.EvenProjectSampleIdeal.τ).loc Cert.EvenProjectSampleIdeal.main_arg2)) (m ((c.tc : Thread Cert.EvenProjectSampleIdeal.nD Cert.EvenProjectSampleIdeal.τ).loc Cert.EvenProjectSampleIdeal.main_arg4)),
    fun c => Cert.EvenProjectSampleIdeal.Closed.outC (m ((c.tc : Thread Cert.EvenProjectSampleIdeal.nD Cert.EvenProjectSampleIdeal.τ).loc Cert.EvenProjectSampleIdeal.main_arg0)) (m ((c.tc : Thread Cert.EvenProjectSampleIdeal.nD Cert.EvenProjectSampleIdeal.τ).loc Cert.EvenProjectSampleIdeal.main_arg1))
      (m ((c.tc : Thread Cert.EvenProjectSampleIdeal.nD Cert.EvenProjectSampleIdeal.τ).loc Cert.EvenProjectSampleIdeal.main_arg2)) (m ((c.tc : Thread Cert.EvenProjectSampleIdeal.nD Cert.EvenProjectSampleIdeal.τ).loc Cert.EvenProjectSampleIdeal.main_arg4)),
    fun c => Cert.EvenProjectSampleIdeal.Closed.outR (m ((c.tc : Thread Cert.EvenProjectSampleIdeal.nD Cert.EvenProjectSampleIdeal.τ).loc Cert.EvenProjectSampleIdeal.main_arg0)) (m ((c.tc : Thread Cert.EvenProjectSampleIdeal.nD Cert.EvenProjectSampleIdeal.τ).loc Cert.EvenProjectSampleIdeal.main_arg1))
      (m ((c.tc : Thread Cert.EvenProjectSampleIdeal.nD Cert.EvenProjectSampleIdeal.τ).loc Cert.EvenProjectSampleIdeal.main_arg2)),
    fun c => Cert.EvenProjectSampleIdeal.Closed.outB 416 (by decide) (m ((c.tc : Thread Cert.EvenProjectSampleIdeal.nD Cert.EvenProjectSampleIdeal.τ).loc Cert.EvenProjectSampleIdeal.main_arg0)) (m ((c.tc : Thread Cert.EvenProjectSampleIdeal.nD Cert.EvenProjectSampleIdeal.τ).loc Cert.EvenProjectSampleIdeal.main_arg1))
      (m ((c.tc : Thread Cert.EvenProjectSampleIdeal.nD Cert.EvenProjectSampleIdeal.τ).loc Cert.EvenProjectSampleIdeal.main_arg2)),
    fun c => Cert.EvenProjectSampleIdeal.Closed.outB 928 (by decide) (m ((c.tc : Thread Cert.EvenProjectSampleIdeal.nD Cert.EvenProjectSampleIdeal.τ).loc Cert.EvenProjectSampleIdeal.main_arg0)) (m ((c.tc : Thread Cert.EvenProjectSampleIdeal.nD Cert.EvenProjectSampleIdeal.τ).loc Cert.EvenProjectSampleIdeal.main_arg1))
      (m ((c.tc : Thread Cert.EvenProjectSampleIdeal.nD Cert.EvenProjectSampleIdeal.τ).loc Cert.EvenProjectSampleIdeal.main_arg2)),
    fun c => Cert.EvenProjectSampleIdeal.Closed.outB 1440 (by decide) (m ((c.tc : Thread Cert.EvenProjectSampleIdeal.nD Cert.EvenProjectSampleIdeal.τ).loc Cert.EvenProjectSampleIdeal.main_arg0)) (m ((c.tc : Thread Cert.EvenProjectSampleIdeal.nD Cert.EvenProjectSampleIdeal.τ).loc Cert.EvenProjectSampleIdeal.main_arg1))
      (m ((c.tc : Thread Cert.EvenProjectSampleIdeal.nD Cert.EvenProjectSampleIdeal.τ).loc Cert.EvenProjectSampleIdeal.main_arg2)),
    fun c => Cert.EvenProjectSampleIdeal.Closed.outF 928 (by decide) (m ((c.tc : Thread Cert.EvenProjectSampleIdeal.nD Cert.EvenProjectSampleIdeal.τ).loc Cert.EvenProjectSampleIdeal.main_arg0)) (m ((c.tc : Thread Cert.EvenProjectSampleIdeal.nD Cert.EvenProjectSampleIdeal.τ).loc Cert.EvenProjectSampleIdeal.main_arg1))
      (m ((c.tc : Thread Cert.EvenProjectSampleIdeal.nD Cert.EvenProjectSampleIdeal.τ).loc Cert.EvenProjectSampleIdeal.main_arg2)),
    fun c => Cert.EvenProjectSampleIdeal.Closed.outF 1440 (by decide) (m ((c.tc : Thread Cert.EvenProjectSampleIdeal.nD Cert.EvenProjectSampleIdeal.τ).loc Cert.EvenProjectSampleIdeal.main_arg0)) (m ((c.tc : Thread Cert.EvenProjectSampleIdeal.nD Cert.EvenProjectSampleIdeal.τ).loc Cert.EvenProjectSampleIdeal.main_arg1))
      (m ((c.tc : Thread Cert.EvenProjectSampleIdeal.nD Cert.EvenProjectSampleIdeal.τ).loc Cert.EvenProjectSampleIdeal.main_arg2)),
    (θ_run Cert.EvenProjectSampleIdeal.defs _ _).mono (fun _ h c => ⟨(h c).1.trans (Cert.EvenProjectSampleIdeal.Closed.final9 m c), (h c).2.1.trans (Cert.EvenProjectSampleIdeal.Closed.final10 m c), (h c).2.2.1.trans (Cert.EvenProjectSampleIdeal.Closed.final11 m c), (h c).2.2.2.1.trans (Cert.EvenProjectSampleIdeal.Closed.final12 m c), (h c).2.2.2.2.1.trans (Cert.EvenProjectSampleIdeal.Closed.final13 m c), (h c).2.2.2.2.2.1.trans (Cert.EvenProjectSampleIdeal.Closed.final14 m c), (h c).2.2.2.2.2.2.1.trans (Cert.EvenProjectSampleIdeal.Closed.final15 m c), (h c).2.2.2.2.2.2.2.1.trans (Cert.EvenProjectSampleIdeal.Closed.final16 m c), (h c).2.2.2.2.2.2.2.2.1.trans (Cert.EvenProjectSampleIdeal.Closed.final17 m c), (h c).2.2.2.2.2.2.2.2.2⟩)
      (Cert.EvenProjectSampleIdeal.Value.run_blocks (F := Ideal) m ρ),
    (θ_run Cert.EvenProjectSampleReferenceIdeal.defs _ _).mono (fun _ h c => by
      obtain ⟨h0, h1, h2, h3, h4, h5, h6⟩ := hag c
      exact ⟨(h c).1.trans (by rw [h0, h1, h2, h3, h5, h6]),
        (h c).2.1.trans (by rw [h0, h1, h2, h4]),
        (h c).2.2.1.trans (by rw [h0, h1, h2, h4]),
        (h c).2.2.2.1.trans (by rw [h0, h1, h2]),
        (h c).2.2.2.2.1.trans (by rw [h0, h1, h2]),
        (h c).2.2.2.2.2.1.trans (by rw [h0, h1, h2]),
        (h c).2.2.2.2.2.2.1.trans (by rw [h0, h1, h2]),
        (h c).2.2.2.2.2.2.2.1.trans (by rw [h0, h1, h2]),
        (h c).2.2.2.2.2.2.2.2.1.trans (by rw [h0, h1, h2]), (h c).2.2.2.2.2.2.2.2.2⟩) (Cert.EvenProjectSampleReferenceIdeal.Closed.run m' ρ')⟩

end Cert.SampleProjectionClaims

end
-- ==== Proof.FfnFinalSampleValue.lean ====
/- The values of the feed-forward half that closes the layer, at the shape of the samples: each row of the result is the row with half of its
   feed-forward added, normalised once more, and the reference's result read at the same row is the same. -/
module

public import proofs.«01_k».proof.Proof.Gen.FfnFinalSampleIdeal.Value
public import proofs.«01_k».proof.Proof.Gen.FfnFinalSampleReferenceIdeal.Run
public import proofs.«01_k».proof.Proof.Indices
public import proofs.«01_k».proof.Proof.FfnMath
public import proofs.«01_k».proof.Proof.FfnValue
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.FfnFinalSampleIdeal.Closed

open Cert.FfnFinalSampleIdeal Cert.FfnFinalSampleIdeal.Gen Cert.Indices Cert.FfnMath
open Cert.FfnIdeal.Closed (acts chunk_piece)

variable (m : (ℓ : Loc nD τ sig) → Buf (Elt Ideal) ℓ)

/-- A block with half of the product of its activations added. -/
def step (x : Vec Ideal S512x1024 .f32) (a : Vec Ideal S512x2816 .bf16) (d : Vec Ideal S2816x1024 .bf16) : Vec Ideal S512x1024 .f32 :=
  k0_pay25 (F := Ideal) (k0_pay2 (F := Ideal) x) a d

/-- The half-step over a block of activations, read at an element. -/
theorem step_at (x : Vec Ideal S512x1024 .f32) (a : Vec Ideal S512x2816 .bf16) (d : Vec Ideal S2816x1024 .bf16) (r : Fin 512) (k : Fin 1024) :
    step x a d (ix2 r k) = x (ix2 r k) + Ideal.ofBits .f32 0x3F000000#32 * ∑ j : Fin 2816, a (ix2 r j) * d (ix2 j k) := by
  unfold step
  pointwise [k0_pay25, k0_pay2]

/-- The mean square of each row of a block, the small constant added. -/
def meanSq (y : FVec Ideal S512x1024 .f32) : FVec Ideal S512x1 .f32 :=
  addf (divf (shapeCast S512x1 (multiReduction .add [1] S512 (mulf y y) 0x00000000#32 reduces_S512x1024_S512 (.inl rfl) rfl) shapeCasts_S512_S512x1)
    (broadcast S512x1 (Scalar.ofBits .f32 0x44800000#32))) (broadcast S512x1 (Scalar.ofBits .f32 0x358637BD#32))

/-- The mean square, read at a row. -/
theorem meanSq_at (y : FVec Ideal S512x1024 .f32) (r : Fin 512) : meanSq y (ix2 r 0)
    = Ideal.div (∑ l : Fin 1024, y (ix2 r l) * y (ix2 r l)) (Ideal.ofBits .f32 0x44800000#32) + Ideal.ofBits .f32 0x358637BD#32 := by
  unfold meanSq
  pointwise

/-- The last normalisation of a block, read at an element. -/
theorem last_at (x : Vec Ideal S512x1024 .f32) (a : Vec Ideal S512x2816 .bf16) (d : Vec Ideal S2816x1024 .bf16) (g : Vec Ideal S1x1024 .f32)
    (r : Fin 512) (k : Fin 1024) :
    k0_pay1 (F := Ideal) (step x a d) (k0_pay26 (F := Ideal) g) (k0_pay27 (F := Ideal) (k0_pay2 (F := Ideal) x) a d) (ix2 r k)
      = rnorm (fun k => step x a d (ix2 r k)) (fun k => g (ix2 0 k)) k := by
  have e : k0_pay27 (F := Ideal) (k0_pay2 (F := Ideal) x) a d (ix2 r 0)
      = Ideal.div (∑ l : Fin 1024, step x a d (ix2 r l) * step x a d (ix2 r l)) (Ideal.ofBits .f32 0x44800000#32)
        + Ideal.ofBits .f32 0x358637BD#32 := by
    have h : k0_pay27 (F := Ideal) (k0_pay2 (F := Ideal) x) a d = meanSq (step x a d) := rfl
    rw [h, meanSq_at]
  unfold rnorm
  rw [← e]
  generalize step x a d = y
  generalize k0_pay27 (F := Ideal) (k0_pay2 (F := Ideal) x) a d = z
  pointwise [k0_pay1, k0_pay26]

/-- What a grid point leaves in the result's block: the last normalisation of the half-step over the activations of its rows. -/
theorem out_block (c : Dev nD) (t : Fin cfg0.N) (y) : outsAt0 (F := Ideal) m c t y = k0_pay1 (F := Ideal)
    (step (iblk m c 0 t) (acts (k0_pay3 (F := Ideal) (iblk m c 0 t) (iblk m c 1 t)) (iblk m c 2 t)) (iblk m c 3 t)) (k0_pay26 (F := Ideal) (iblk m c 4 t))
    (k0_pay27 (F := Ideal) (k0_pay2 (F := Ideal) (iblk m c 0 t)) (acts (k0_pay3 (F := Ideal) (iblk m c 0 t) (iblk m c 1 t)) (iblk m c 2 t)) (iblk m c 3 t)) y := by
  unfold outsAt0
  frame_out
  refine congrFun (congrArg (fun a => k0_pay1 (F := Ideal) (step (iblk m c 0 t) a (iblk m c 3 t)) (k0_pay26 (F := Ideal) (iblk m c 4 t))
    (k0_pay27 (F := Ideal) (k0_pay2 (F := Ideal) (iblk m c 0 t)) a (iblk m c 3 t))) ?_) y
  rw [View.readCov_eq_canon']
  funext z
  have e : (Rect.unit ![0, 0] ![512, 2816] inb_S512x2816_S512x2816_0_0).toLoadRect.idx z = z := by
    funext a
    fin_cases a
    · exact Fin.ext (by simp [LoadRect.idx, Rect.toLoadRect, Rect.unit])
    · exact Fin.ext (by simp [LoadRect.idx, Rect.toLoadRect, Rect.unit])
  rw [e]
  refine View.canon_apply_of_pieces (acts (k0_pay3 (F := Ideal) (iblk m c 0 t) (iblk m c 1 t)) (iblk m c 2 t)) _ ?_ z
    (View.cover_of_tiledL _ ![512, 256] (by sl_kernel_rfl) z)
  refine View.PiecesOf.mem ?_
  exact ⟨chunk_piece (k0_pay3 (F := Ideal) (iblk m c 0 t) (iblk m c 1 t)) (iblk m c 2 t) 2560 5376 inb_S1024x5632_S1024x256_0_2560 inb_S1024x5632_S1024x256_0_5376 inb_S512x2816_S512x256_0_2560 (by decide) rfl,
    chunk_piece (k0_pay3 (F := Ideal) (iblk m c 0 t) (iblk m c 1 t)) (iblk m c 2 t) 2304 5120 inb_S1024x5632_S1024x256_0_2304 inb_S1024x5632_S1024x256_0_5120 inb_S512x2816_S512x256_0_2304 (by decide) rfl,
    chunk_piece (k0_pay3 (F := Ideal) (iblk m c 0 t) (iblk m c 1 t)) (iblk m c 2 t) 2048 4864 inb_S1024x5632_S1024x256_0_2048 inb_S1024x5632_S1024x256_0_4864 inb_S512x2816_S512x256_0_2048 (by decide) rfl,
    chunk_piece (k0_pay3 (F := Ideal) (iblk m c 0 t) (iblk m c 1 t)) (iblk m c 2 t) 1792 4608 inb_S1024x5632_S1024x256_0_1792 inb_S1024x5632_S1024x256_0_4608 inb_S512x2816_S512x256_0_1792 (by decide) rfl,
    chunk_piece (k0_pay3 (F := Ideal) (iblk m c 0 t) (iblk m c 1 t)) (iblk m c 2 t) 1536 4352 inb_S1024x5632_S1024x256_0_1536 inb_S1024x5632_S1024x256_0_4352 inb_S512x2816_S512x256_0_1536 (by decide) rfl,
    chunk_piece (k0_pay3 (F := Ideal) (iblk m c 0 t) (iblk m c 1 t)) (iblk m c 2 t) 1280 4096 inb_S1024x5632_S1024x256_0_1280 inb_S1024x5632_S1024x256_0_4096 inb_S512x2816_S512x256_0_1280 (by decide) rfl,
    chunk_piece (k0_pay3 (F := Ideal) (iblk m c 0 t) (iblk m c 1 t)) (iblk m c 2 t) 1024 3840 inb_S1024x5632_S1024x256_0_1024 inb_S1024x5632_S1024x256_0_3840 inb_S512x2816_S512x256_0_1024 (by decide) rfl,
    chunk_piece (k0_pay3 (F := Ideal) (iblk m c 0 t) (iblk m c 1 t)) (iblk m c 2 t) 768 3584 inb_S1024x5632_S1024x256_0_768 inb_S1024x5632_S1024x256_0_3584 inb_S512x2816_S512x256_0_768 (by decide) rfl,
    chunk_piece (k0_pay3 (F := Ideal) (iblk m c 0 t) (iblk m c 1 t)) (iblk m c 2 t) 512 3328 inb_S1024x5632_S1024x256_0_512 inb_S1024x5632_S1024x256_0_3328 inb_S512x2816_S512x256_0_512 (by decide) rfl,
    chunk_piece (k0_pay3 (F := Ideal) (iblk m c 0 t) (iblk m c 1 t)) (iblk m c 2 t) 256 3072 inb_S1024x5632_S1024x256_0_256 inb_S1024x5632_S1024x256_0_3072 inb_S512x2816_S512x256_0_256 (by decide) rfl,
    chunk_piece (k0_pay3 (F := Ideal) (iblk m c 0 t) (iblk m c 1 t)) (iblk m c 2 t) 0 2816 inb_S1024x5632_S1024x256_0_0 inb_S1024x5632_S1024x256_0_2816 inb_S512x2816_S512x256_0_0 (by decide) rfl,
    trivial⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val, 0] :=
  (by decide +kernel : ∀ t : Fin grid0.N, win0_5.index t = ![t.val, 0])

theorem V0 (c : Dev nD) : V m c main_v0 = shapeCast S512x1024 (m ((c : Thread nD τ).loc main_arg0)) shapeCasts_S128x4x1024_S512x1024 := by
  unfold V
  after_results <;> rfl
theorem V1 (c : Dev nD) : V m c main_v1 = shapeCast S1x1024 (m ((c : Thread nD τ).loc main_arg1)) shapeCasts_S1024_S1x1024 := by
  unfold V
  after_results <;> rfl
theorem V4 (c : Dev nD) : V m c main_v4 = shapeCast S1x1024 (m ((c : Thread nD τ).loc main_arg4)) shapeCasts_S1024_S1x1024 := by
  unfold V
  after_results <;> rfl
theorem V2 (c : Dev nD) : V m c main_v2 = (m ((c : Thread nD τ).loc main_arg2) : Vec Ideal S1024x5632 .f32) := by
  unfold V
  after_results <;> rfl
theorem V3 (c : Dev nD) : V m c main_v3 = (m ((c : Thread nD τ).loc main_arg3) : Vec Ideal S2816x1024 .f32) := by
  unfold V
  after_results <;> rfl

theorem emb0 (t : Fin cfg0.N) (r : Fin 512) (k : Fin 1024) : ((cfg0.win 0).blk t).view.emb (ix2 r k)
    = ix2 (⟨t.val * 512 + r.val, by have := t.isLt; have : cfg0.N = 1 := N_0; omega⟩ : Fin 512) k := by
  blk_ext [idx0 t]
theorem emb5 (t : Fin cfg0.N) (r : Fin 512) (k : Fin 1024) : ((cfg0.win 5).blk t).view.emb (ix2 r k)
    = ix2 (⟨t.val * 512 + r.val, by have := t.isLt; have : cfg0.N = 1 := N_0; omega⟩ : Fin 512) k := by
  blk_ext [idx5 t]

/-- The samples as rows of all batches, read at a row. -/
theorem rows (x : Vec Ideal S128x4x1024 .f32) (h : S128x4x1024.ShapeCasts S512x1024) (n : Fin 512) (k : Fin 1024) :
    shapeCast S512x1024 x h (ix2 n k) = x (ix3 (⟨n.val / 4, by omega⟩ : Fin 128) (⟨n.val % 4, by omega⟩ : Fin 4) k) := by
  pointwise

theorem iblk0 (c : Dev nD) (t : Fin cfg0.N) (r : Fin 512) (k : Fin 1024) (b : Fin 128) (s : Fin 4)
    (h : b.val * 4 + s.val = t.val * 512 + r.val) :
    iblk (F := Ideal) m c 0 t (ix2 r k) = m ((c : Thread nD τ).loc main_arg0) (ix3 b s k) := by
  unfold iblk
  rw [View.read_apply]
  erw [V0, emb0, rows]
  exact congrArg (m ((c : Thread nD τ).loc main_arg0)) (ix3_congr (by dsimp only; omega) (by dsimp only; omega) rfl)
theorem iblk1 (c : Dev nD) (t : Fin cfg0.N) (k : Fin 1024)  :
    iblk (F := Ideal) m c 1 t (ix2 0 k) = m ((c : Thread nD τ).loc main_arg1) (ix1 k) := by
  blk_simp [iblk, idx1 t]
  rw [V1]
  pointwise
  blk_ext [idx1 t]
theorem iblk4 (c : Dev nD) (t : Fin cfg0.N) (k : Fin 1024)  :
    iblk (F := Ideal) m c 4 t (ix2 0 k) = m ((c : Thread nD τ).loc main_arg4) (ix1 k) := by
  blk_simp [iblk, idx4 t]
  rw [V4]
  pointwise
  blk_ext [idx4 t]
theorem iblk2 (c : Dev nD) (t : Fin cfg0.N) (k : Fin 1024) (j : Fin 5632) :
    iblk (F := Ideal) m c 2 t (ix2 k j) = m ((c : Thread nD τ).loc main_arg2) (ix2 k j) := by
  blk_simp [iblk, idx2 t]
  rw [V2]
  blk_ext [idx2 t]
theorem iblk3 (c : Dev nD) (t : Fin cfg0.N) (j : Fin 2816) (k : Fin 1024) :
    iblk (F := Ideal) m c 3 t (ix2 j k) = m ((c : Thread nD τ).loc main_arg3) (ix2 j k) := by
  blk_simp [iblk, idx3 t]
  rw [V3]
  blk_ext [idx3 t]

/-- The normalised block, read at an element, is the row's normalisation. -/
theorem norm_at (x : Vec Ideal S512x1024 .f32) (g : Vec Ideal S1x1024 .f32) (r : Fin 512) (k : Fin 1024) :
    k0_pay3 (F := Ideal) x g (ix2 r k) = rnorm (fun k => x (ix2 r k)) (fun k => g (ix2 0 k)) k := by
  unfold rnorm
  pointwise [k0_pay3, k0_pay2]

/-- The result array: every row with half of its feed-forward added, normalised. -/
def out (x : Vec Ideal S128x4x1024 .f32) (g : Vec Ideal S1024 .f32) (w : Vec Ideal S1024x5632 .f32) (d : Vec Ideal S2816x1024 .f32)
    (gf : Vec Ideal S1024 .f32) : Vec Ideal S512x1024 .f32 := fun i =>
  rnorm (ffn (fun k => x (ix3 (⟨(i 0).val / 4, by have : (i 0).val < 512 := (i 0).isLt; omega⟩ : Fin 128) (⟨(i 0).val % 4, by omega⟩ : Fin 4) k))
    (fun k => g (ix1 k)) (fun k j => w (ix2 k j)) (fun j k => d (ix2 j k))) (fun k => gf (ix1 k)) (i 1)

/-- A grid point's block holds its rows of the result. -/
theorem out_at (c : Dev nD) (t : Fin cfg0.N) (r : Fin 512) (k : Fin 1024) (n : Fin 512) (hn : n.val = t.val * 512 + r.val) :
    outsAt0 (F := Ideal) m c t (ix2 r k) = out (m ((c : Thread nD τ).loc main_arg0)) (m ((c : Thread nD τ).loc main_arg1))
      (m ((c : Thread nD τ).loc main_arg2)) (m ((c : Thread nD τ).loc main_arg3)) (m ((c : Thread nD τ).loc main_arg4)) (ix2 n k) := by
  rw [out_block, last_at]
  unfold out ffn acts
  simp only [step_at, norm_at, iblk0 m c t r _ ⟨n.val / 4, by omega⟩ ⟨n.val % 4, by omega⟩ (by dsimp only; omega), iblk1, iblk2, iblk3, iblk4, ix2_0, ix2_1]

/-- The result array of the call. -/
theorem final5 (c : Dev nD) : (dats (F := Ideal) m 0 c).arrAt 5 cfg0.N = out (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats (F := Ideal) m 0 c).arrAt_eq_of_covers 5 _ (by decide +kernel) fun t hf y => ?_
  rw [after0_5]
  idx_vars y
  have ht : t.val < 1 := N_0 ▸ t.isLt
  have h := out_at m c t y0 y1 ⟨t.val * 512 + y0.val, by omega⟩ rfl
  erw [emb5 t y0 y1]
  generalize out (m (c.tc.loc main_arg0)) (m (c.tc.loc main_arg1)) (m (c.tc.loc main_arg2)) (m (c.tc.loc main_arg3)) (m (c.tc.loc main_arg4)) = G at h ⊢
  generalize outsAt0 m c t = O at h ⊢
  exact h

end Cert.FfnFinalSampleIdeal.Closed

namespace Cert.FfnFinalSampleReferenceIdeal.Closed

open Cert.FfnFinalSampleReferenceIdeal Cert.FfnFinalSampleReferenceIdeal.Gen Cert.Indices Cert.FfnMath
open Cert.FfnFinalSampleIdeal.Closed (out)

/-- The reference's normalised rows. -/
abbrev N (x : Vec Ideal S128x4x1024 .f32) (g : Vec Ideal S1024 .f32) : FVec Ideal S128x4x1024 .f32 :=
  mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))

/-- The reference's gate and second half, one product. -/
abbrev P (n : Vec Ideal S128x4x1024 .f32) (w : Vec Ideal S1024x5632 .f32) : Vec Ideal S128x4x5632 .f32 :=
  Host.dotGeneral (F := Ideal) (φ₁ := .f32) (φ₂ := .f32) dot_S128x4x1024_S1024x5632_S128x4x5632_2_0_01_1_n_n none n w

/-- The reference's result before its rows are laid out, from the product. -/
abbrev R (x : Vec Ideal S128x4x1024 .f32) (p : Vec Ideal S128x4x5632 .f32) (d : Vec Ideal S2816x1024 .f32) : Vec Ideal S128x4x1024 .f32 :=
  addf x (mulf (broadcastInDim S128x4x1024 ![] bcast_S_S128x4x1024 (constant S_ .f32 0x3F000000#32)) (Host.dotGeneral (F := Ideal) (φ₁ := .f32) (φ₂ := .f32) dot_S128x4x2816_S2816x1024_S128x4x1024_2_0_01_1_n_n none (mulf (mulf (extractStridedSlice S128x4x2816 ![0, 0, 0] p slices_S128x4x5632_S128x4x2816_0_0_0) (Host.divf (broadcastInDim S128x4x2816 ![] bcast_S_S128x4x2816 (constant S_ .f32 0x3F800000#32)) (addf (broadcastInDim S128x4x2816 ![] bcast_S_S128x4x2816 (constant S_ .f32 0x3F800000#32)) (Host.exp (Host.negf (extractStridedSlice S128x4x2816 ![0, 0, 0] p slices_S128x4x5632_S128x4x2816_0_0_0)))))) (extractStridedSlice S128x4x2816 ![0, 0, 2816] p slices_S128x4x5632_S128x4x2816_0_0_2816)) d))

theorem norm_at (x : Vec Ideal S128x4x1024 .f32) (g : Vec Ideal S1024 .f32) (b : Fin 128) (s : Fin 4) (k : Fin 1024) :
    N x g (ix3 b s k) = rnorm (fun k => x (ix3 b s k)) (fun k => g (ix1 k)) k := by
  unfold N rnorm
  pointwise

theorem prod_at (n : Vec Ideal S128x4x1024 .f32) (w : Vec Ideal S1024x5632 .f32) (b : Fin 128) (s : Fin 4) (j : Fin 5632) :
    P n w (ix3 b s j) = lin (fun k => n (ix3 b s k)) (fun k j => w (ix2 k j)) j := by
  unfold P lin
  pointwise

theorem res_at (x : Vec Ideal S128x4x1024 .f32) (p : Vec Ideal S128x4x5632 .f32) (d : Vec Ideal S2816x1024 .f32) (b : Fin 128) (s : Fin 4) (k : Fin 1024) :
    R x p d (ix3 b s k) = x (ix3 b s k) + Ideal.ofBits .f32 0x3F000000#32
      * ∑ j : Fin 2816, gated (p (ix3 b s ⟨j.val, by omega⟩)) (p (ix3 b s ⟨2816 + j.val, by omega⟩)) * d (ix2 j k) := by
  unfold R gated
  pointwise

/-- The reference's run with its result at the same rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Value.run (F := Ideal) m ρ)
  funext i
  idx_vars i
  refine (Cert.FfnFinalSampleIdeal.Closed.rows (N (R (m ((c.tc : Thread nD τ).loc main_arg0)) (P (N (m ((c.tc : Thread nD τ).loc main_arg0)) (m ((c.tc : Thread nD τ).loc main_arg1))) (m ((c.tc : Thread nD τ).loc main_arg2))) (m ((c.tc : Thread nD τ).loc main_arg3))) (m ((c.tc : Thread nD τ).loc main_arg4))) _ i0 i1).trans ?_
  rw [norm_at]
  simp only [res_at, prod_at, norm_at]
  rfl

end Cert.FfnFinalSampleReferenceIdeal.Closed

end
-- ==== Proof.DilSampleValue.lean ====
/- The new windows of the samples' dilated attention: each group's buffer moved on by the four new rows of keys and values,
   and the reference's buffers read at the same index. -/
module

public import proofs.«01_k».proof.Proof.Indices
public import proofs.«01_k».proof.Proof.Gen.DilSampleIdeal.Value
public import proofs.«01_k».proof.Proof.Gen.DilSampleReferenceIdeal.Run
public import Idealize.ShloMosaic.Lib.Pipeline.ValueKit
public import Idealize.ShloMosaic.Lib.Pipeline.ReadBack
public import Idealize.ShloMosaic.Lib.KernelVsHost
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.DilSampleIdeal.Closed

open Cert.DilSampleIdeal Cert.DilSampleIdeal.Gen Cert.Indices

variable (m : (ℓ : Loc nD τ sig) → Buf (Elt Ideal) ℓ)

theorem five_congr {a b c d e : ℕ} {x x' : Fin a} {y y' : Fin b} {z z' : Fin c} {w w' : Fin d} {v v' : Fin e} (h : x.val = x'.val)
    (k : y.val = y'.val) (l : z.val = z'.val) (n : w.val = w'.val) (p : v.val = v'.val) : ix5 x y z w v = ix5 x' y' z' w' v' := by
  obtain rfl := Fin.ext h
  obtain rfl := Fin.ext k
  obtain rfl := Fin.ext l
  obtain rfl := Fin.ext n
  obtain rfl := Fin.ext p
  rfl

theorem three_congr {a b c : ℕ} {x x' : Fin a} {y y' : Fin b} {z z' : Fin c} (h : x.val = x'.val) (k : y.val = y'.val)
    (l : z.val = z'.val) : ix3 x y z = ix3 x' y' z' := by
  obtain rfl := Fin.ext h
  obtain rfl := Fin.ext k
  obtain rfl := Fin.ext l
  rfl

/-- The word that tells the last four lanes. -/
theorem last_lanes : ∀ l : Fin 128, IntOp.cmpi CmpIPredicate.sge (BitVec.ofNat 32 l.val) 124#32 = if l.val < 124 then 0#1 else 1#1 := by
  decide +kernel

/-- A group's new keys and values, by lane, behind 124 columns of zeros. -/
abbrev news (o : ℕ) (h : S128x4x2304.Slices ![0, 0, o] S128x4x512) (z : Vec Ideal S128x4x2304 .f32) : FVec Ideal S128x512x128 .f32 :=
  pad S128x512x128 ![0, 0, 124] ![0, 0, 0] ![0, 0, 0] (transpose S128x512x4 [0, 2, 1] (extractStridedSlice S128x4x512 ![0, 0, o] z h) transposes_S128x4x512_S128x512x4_0_2_1)
    (sitofp (F := Ideal) .f32 (constantI S_ 32 0#32)) pads_S128x512x4_S128x512x128_000_000_12400 h_S_

theorem columns_at (o : ℕ) (h : S128x4x2304.Slices ![0, 0, o] S128x4x512) (ho : o + 512 ≤ 2304) (z : Vec Ideal S128x4x2304 .f32) (n : Fin 128) (j : Fin 512) (s : Fin 4) :
    transpose S128x512x4 [0, 2, 1] (extractStridedSlice S128x4x512 ![0, 0, o] z h) transposes_S128x4x512_S128x512x4_0_2_1 (ix3 n j s) = z (ix3 n s ⟨o + j.val, by omega⟩) := by
  pointwise

theorem news_at (o : ℕ) (h : S128x4x2304.Slices ![0, 0, o] S128x4x512) (ho : o + 512 ≤ 2304) (z : Vec Ideal S128x4x2304 .f32) (n : Fin 128) (j : Fin 512) (l : Fin 128) (hl : 124 ≤ l.val) :
    news o h z (ix3 n j l) = z (ix3 n (⟨l.val - 124, by omega⟩ : Fin 4) ⟨o + j.val, by omega⟩) := by
  unfold news
  rw [pad_apply_of_inside _ _ _ _ _ _ _ _ (ix3 n j (⟨l.val - 124, by omega⟩ : Fin 4)) (by intro a; fin_cases a <;> simp <;> omega), columns_at o h ho]

/-- The sample of a grid point. -/
abbrev sample (t : Fin cfg0.N) : Fin 128 := ⟨t.val, by have := t.isLt; have : cfg0.N = 128 := N_0; omega⟩

/-- An entry of the buffer of 128 rows after it moved on by four. -/
def cell128 (z : Vec Ideal S128x4x2304 .f32) (b : Vec Ideal S128x128x2x4x64 .f32) (n : Fin 128) (p : Fin 2) (h : Fin 4) (e : Fin 64) (c : Fin 128) : EReal :=
  if hc : c.val < 124 then b (ix5 n (⟨c.val + 4, by omega⟩ : Fin 128) p h e)
  else z (ix3 n (⟨c.val - 124, by omega⟩ : Fin 4) (⟨256 + (p.val * 256 + h.val * 64 + e.val), by omega⟩ : Fin 2304))

def array128 (z : Vec Ideal S128x4x2304 .f32) (b : Vec Ideal S128x128x2x4x64 .f32) : Vec Ideal S128x2x4x64x128 .f32 := fun i =>
  cell128 z b (i 0) (i 1) (i 2) (i 3) (i 4)

theorem array128_at (z : Vec Ideal S128x4x2304 .f32) (b : Vec Ideal S128x128x2x4x64 .f32) (n : Fin 128) (p : Fin 2) (h : Fin 4) (e : Fin 64) (c : Fin 128) :
    array128 z b (ix5 n p h e c) = cell128 z b n p h e c := rfl

theorem fold128 (y : FVec Ideal S512x128 .f32) (p : Fin 2) (h : Fin 4) (e : Fin 64) (c : Fin 128) :
    (shapeCast S1x2x4x64x128 (shapeCast S2x4x64x128 y shapeCasts_S512x128_S2x4x64x128) shapeCasts_S2x4x64x128_S1x2x4x64x128 : FVec Ideal S1x2x4x64x128 .f32) (ix5 0 p h e c)
      = y (ix2 (⟨p.val * 256 + h.val * 64 + e.val, by omega⟩ : Fin 512) c) := by
  pointwise
  first
    | done
    | exact congrArg y (ix2_congr (by dsimp only; omega) (by dsimp only; omega))

theorem unfold128 (u : Vec Ideal S1x2x4x64x128 .f32) (r : Fin 512) (c : Fin 128) :
    (shapeCast S512x128 (shapeCast S2x4x64x128 u shapeCasts_S1x2x4x64x128_S2x4x64x128) shapeCasts_S2x4x64x128_S512x128 : FVec Ideal S512x128 .f32) (ix2 r c)
      = u (ix5 0 (⟨r.val / 256, by omega⟩ : Fin 2) (⟨r.val / 64 % 4, by omega⟩ : Fin 4) (⟨r.val % 64, by omega⟩ : Fin 64) c) := by
  pointwise
  first
    | done
    | exact congrArg u (five_congr (by dsimp only; omega) (by dsimp only; omega) (by dsimp only; omega) (by dsimp only; omega) (by dsimp only; omega))

/-- The columns moved round to the left by four. -/
abbrev ring128 (y : FVec Ideal S512x128 .f32) : FVec Ideal S512x128 .f32 := dynamicRotate 1 124#32 none y rotates_S512x128_d1

theorem ring128_at (y : FVec Ideal S512x128 .f32) (r : Fin 512) (c : Fin 128) :
    ring128 y (ix2 r c) = y (ix2 r (⟨(c.val + 4) % 128, by omega⟩ : Fin 128)) := by
  unfold ring128
  refine dynamicRotate_apply (s := S512x128) 1 _ _ _ _ _ ?_
  intro a
  fin_cases a
  · rfl
  · show (c.val + 4) % 128 = (c.val + 128 - 124) % 128
    omega

/-- The new columns in the last four places. -/
abbrev mix128 (y : FVec Ideal S512x128 .f32) (v : Vec Ideal S1x512x128 .f32) : FVec Ideal S512x128 .f32 :=
  select (cmpi .sge (iota .tc S512x128 32 [1] iota_S512x128_d1_w32) (broadcast S512x128 124#32)) (shapeCast S512x128 v shapeCasts_S1x512x128_S512x128 : FVec Ideal S512x128 .f32) y

theorem mix128_at (y : FVec Ideal S512x128 .f32) (v : Vec Ideal S1x512x128 .f32) (r : Fin 512) (c : Fin 128) :
    mix128 y v (ix2 r c) = if h : c.val < 124 then y (ix2 r c) else v (ix3 0 r (⟨c.val - 0, by omega⟩ : Fin 128)) := by
  unfold mix128
  pointwise
  rw [last_lanes]
  by_cases h : c.val < 124
  · rw [if_pos h, dif_pos h]
    rfl
  · rw [if_neg h, dif_neg h]
    rfl

theorem block128 (x0 : Vec Ideal S1x96x256 .f32) (x1 : Vec Ideal S1x4x2304 .f32) (x2 : Vec Ideal S1x2x4x64x128 .f32) (x3 : Vec Ideal S1x2x4x64x512 .f32) (x4 : Vec Ideal S1x2x4x64x2048 .f32)
    (x5 x6 x7 : Vec Ideal S1x512x128 .f32) :
    out0_10 (F := Ideal) x0 x1 x2 x3 x4 x5 x6 x7
      = shapeCast S1x2x4x64x128 (shapeCast S2x4x64x128 (mix128 (ring128 (shapeCast S512x128 (shapeCast S2x4x64x128 x2 shapeCasts_S1x2x4x64x128_S2x4x64x128) shapeCasts_S2x4x64x128_S512x128)) x5)
          shapeCasts_S512x128_S2x4x64x128) shapeCasts_S2x4x64x128_S1x2x4x64x128 := by
  have h : View.ld (Val := Elt Ideal) x2 r0_6 = x2 := by
    rw [View.ld_unit_lit]
    intro a
    fin_cases a <;> rfl
  have h' : View.ld (Val := Elt Ideal) x5 r0_7 = x5 := by
    rw [View.ld_unit_lit]
    intro a
    fin_cases a <;> rfl
  unfold out0_10
  rw [View.canon_unit_zero (by funext a; fin_cases a <;> rfl), h, h']
  rfl

theorem V2 (c : Dev nD) : V m c main_v19 = transpose S128x2x4x64x128 [0, 2, 3, 4, 1] (m ((c : Thread nD τ).loc main_arg1)) transposes_S128x128x2x4x64_S128x2x4x64x128_0_2_3_4_1 := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq]
  after_results <;> rfl
theorem V5 (c : Dev nD) : V m c main_v24 = news 256 slices_S128x4x2304_S128x4x512_0_0_256 (m ((c : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq]
  after_results <;> rfl

theorem idx2 : ∀ t : Fin cfg0.N, win0_2.index t = ![t.val, 0, 0, 0, 0] :=
  (by decide +kernel : ∀ t : Fin grid0.N, win0_2.index t = ![t.val, 0, 0, 0, 0])
theorem idx5 : ∀ t : Fin cfg0.N, win0_5.index t = ![t.val, 0, 0] :=
  (by decide +kernel : ∀ t : Fin grid0.N, win0_5.index t = ![t.val, 0, 0])
theorem idx10 : ∀ t : Fin cfg0.N, win0_10.index t = ![t.val, 0, 0, 0, 0] :=
  (by decide +kernel : ∀ t : Fin grid0.N, win0_10.index t = ![t.val, 0, 0, 0, 0])

theorem emb2 (t : Fin cfg0.N) (p : Fin 2) (h : Fin 4) (e : Fin 64) (c : Fin 128) : ((cfg0.win 2).blk t).view.emb (ix5 0 p h e c) = ix5 (sample t) p h e c := by
  blk_ext [idx2 t]
theorem emb5 (t : Fin cfg0.N) (j : Fin 512) (l : Fin 128) : ((cfg0.win 5).blk t).view.emb (ix3 0 j l) = ix3 (sample t) j l := by
  blk_ext [idx5 t]
theorem emb10 (t : Fin cfg0.N) (p : Fin 2) (h : Fin 4) (e : Fin 64) (c : Fin 128) : ((cfg0.win 10).blk t).view.emb (ix5 0 p h e c) = ix5 (sample t) p h e c := by
  blk_ext [idx10 t]

theorem turn128 (b : Vec Ideal S128x128x2x4x64 .f32) (n : Fin 128) (p : Fin 2) (h : Fin 4) (e : Fin 64) (c : Fin 128) :
    transpose S128x2x4x64x128 [0, 2, 3, 4, 1] b transposes_S128x128x2x4x64_S128x2x4x64x128_0_2_3_4_1 (ix5 n p h e c) = b (ix5 n c p h e) := by
  pointwise

theorem iblk2 (c : Dev nD) (t : Fin cfg0.N) (p : Fin 2) (h : Fin 4) (e : Fin 64) (k : Fin 128) :
    iblk (F := Ideal) m c 2 t (ix5 0 p h e k) = m ((c : Thread nD τ).loc main_arg1) (ix5 (sample t) k p h e) := by
  unfold iblk
  rw [View.read_apply]
  erw [V2, emb2]
  exact turn128 _ _ _ _ _ _
theorem iblk5 (c : Dev nD) (t : Fin cfg0.N) (j : Fin 512) (l : Fin 128) (hl : 124 ≤ l.val) :
    iblk (F := Ideal) m c 5 t (ix3 0 j l) = m ((c : Thread nD τ).loc main_arg0) (ix3 (sample t) (⟨l.val - 124, by omega⟩ : Fin 4) (⟨256 + j.val, by omega⟩ : Fin 2304)) := by
  unfold iblk
  rw [View.read_apply]
  erw [V5, emb5]
  exact news_at 256 _ (by decide) _ _ _ _ hl

/-- A grid point's block holds its sample's buffer. -/
theorem out10_at (c : Dev nD) (t : Fin cfg0.N) (p : Fin 2) (h : Fin 4) (e : Fin 64) (k : Fin 128) :
    out0_10 (F := Ideal) (iblk m c 0 t) (iblk m c 1 t) (iblk m c 2 t) (iblk m c 3 t) (iblk m c 4 t) (iblk m c 5 t) (iblk m c 6 t) (iblk m c 7 t) (ix5 0 p h e k)
      = array128 (m ((c : Thread nD τ).loc main_arg0)) (m ((c : Thread nD τ).loc main_arg1)) (ix5 (sample t) p h e k) := by
  rw [block128, fold128, mix128_at, array128_at]
  unfold cell128
  by_cases hk : k.val < 124
  · rw [dif_pos hk, dif_pos hk, ring128_at, unfold128]
    refine (congrArg _ (five_congr rfl ?_ ?_ ?_ ?_)).trans (iblk2 m c t p h e (⟨k.val + 4, by omega⟩ : Fin 128)) <;> (dsimp only; omega)
  · rw [dif_neg hk, dif_neg hk]
    refine (iblk5 m c t _ _ (by dsimp only; omega)).trans (congrArg _ (three_congr rfl ?_ rfl))
    dsimp only
    omega

/-- The buffer of 128 rows after the call. -/
theorem final10 (c : Dev nD) : (dats (F := Ideal) m 0 c).arrAt 10 cfg0.N = array128 (m ((c : Thread nD τ).loc main_arg0)) (m ((c : Thread nD τ).loc main_arg1)) := by
  refine (dats (F := Ideal) m 0 c).arrAt_eq_of_covers 10 _ (by decide +kernel) fun t hf y => ?_
  rw [after0_10]
  idx_vars y
  obtain rfl : y0 = 0 := Subsingleton.elim _ _
  have h := out10_at m c t y1 y2 y3 y4
  erw [emb10 t y1 y2 y3 y4]
  generalize array128 (m (c.tc.loc main_arg0)) (m (c.tc.loc main_arg1)) = G at h ⊢
  generalize out0_10 (F := Ideal) (iblk m c 0 t) (iblk m c 1 t) (iblk m c 2 t) (iblk m c 3 t) (iblk m c 4 t) (iblk m c 5 t) (iblk m c 6 t) (iblk m c 7 t) = O at h ⊢
  exact h

/-- An entry of the buffer of 512 rows after it moved on by four. -/
def cell512 (z : Vec Ideal S128x4x2304 .f32) (b : Vec Ideal S128x512x2x4x64 .f32) (n : Fin 128) (p : Fin 2) (h : Fin 4) (e : Fin 64) (c : Fin 512) : EReal :=
  if hc : c.val < 508 then b (ix5 n (⟨c.val + 4, by omega⟩ : Fin 512) p h e)
  else z (ix3 n (⟨c.val - 508, by omega⟩ : Fin 4) (⟨1024 + (p.val * 256 + h.val * 64 + e.val), by omega⟩ : Fin 2304))

def array512 (z : Vec Ideal S128x4x2304 .f32) (b : Vec Ideal S128x512x2x4x64 .f32) : Vec Ideal S128x2x4x64x512 .f32 := fun i =>
  cell512 z b (i 0) (i 1) (i 2) (i 3) (i 4)

theorem array512_at (z : Vec Ideal S128x4x2304 .f32) (b : Vec Ideal S128x512x2x4x64 .f32) (n : Fin 128) (p : Fin 2) (h : Fin 4) (e : Fin 64) (c : Fin 512) :
    array512 z b (ix5 n p h e c) = cell512 z b n p h e c := rfl

theorem fold512 (y : FVec Ideal S512x512 .f32) (p : Fin 2) (h : Fin 4) (e : Fin 64) (c : Fin 512) :
    (shapeCast S1x2x4x64x512 (shapeCast S2x4x64x512 y shapeCasts_S512x512_S2x4x64x512) shapeCasts_S2x4x64x512_S1x2x4x64x512 : FVec Ideal S1x2x4x64x512 .f32) (ix5 0 p h e c)
      = y (ix2 (⟨p.val * 256 + h.val * 64 + e.val, by omega⟩ : Fin 512) c) := by
  pointwise
  first
    | done
    | exact congrArg y (ix2_congr (by dsimp only; omega) (by dsimp only; omega))

theorem unfold512 (u : Vec Ideal S1x2x4x64x512 .f32) (r : Fin 512) (c : Fin 512) :
    (shapeCast S512x512 (shapeCast S2x4x64x512 u shapeCasts_S1x2x4x64x512_S2x4x64x512) shapeCasts_S2x4x64x512_S512x512 : FVec Ideal S512x512 .f32) (ix2 r c)
      = u (ix5 0 (⟨r.val / 256, by omega⟩ : Fin 2) (⟨r.val / 64 % 4, by omega⟩ : Fin 4) (⟨r.val % 64, by omega⟩ : Fin 64) c) := by
  pointwise
  first
    | done
    | exact congrArg u (five_congr (by dsimp only; omega) (by dsimp only; omega) (by dsimp only; omega) (by dsimp only; omega) (by dsimp only; omega))

/-- The columns moved round to the left by four. -/
abbrev ring512 (y : FVec Ideal S512x512 .f32) : FVec Ideal S512x512 .f32 := dynamicRotate 1 508#32 none y rotates_S512x512_d1

theorem ring512_at (y : FVec Ideal S512x512 .f32) (r : Fin 512) (c : Fin 512) :
    ring512 y (ix2 r c) = y (ix2 r (⟨(c.val + 4) % 512, by omega⟩ : Fin 512)) := by
  unfold ring512
  refine dynamicRotate_apply (s := S512x512) 1 _ _ _ _ _ ?_
  intro a
  fin_cases a
  · rfl
  · show (c.val + 4) % 512 = (c.val + 512 - 508) % 512
    omega

/-- The last 128 columns with the new columns in their last four places. -/
abbrev end512 (y : FVec Ideal S512x512 .f32) (v : Vec Ideal S1x512x128 .f32) : FVec Ideal S512x128 .f32 :=
  select (cmpi .sge (iota .tc S512x128 32 [1] iota_S512x128_d1_w32) (broadcast S512x128 124#32)) (shapeCast S512x128 v shapeCasts_S1x512x128_S512x128 : FVec Ideal S512x128 .f32)
    (extractStridedSlice S512x128 ![0, 384] y slices_S512x512_o0_384_S512x128)

theorem end512_at (y : FVec Ideal S512x512 .f32) (v : Vec Ideal S1x512x128 .f32) (r : Fin 512) (c : Fin 128) :
    end512 y v (ix2 r c) = if h : c.val < 124 then y (ix2 r (⟨384 + c.val, by omega⟩ : Fin 512)) else v (ix3 0 r c) := by
  unfold end512
  pointwise
  rw [last_lanes]
  by_cases h : c.val < 124
  · rw [if_pos h, dif_pos h]
    rfl
  · rw [if_neg h, dif_neg h]
    rfl

/-- The new columns in the last four places. -/
abbrev mix512 (y : FVec Ideal S512x512 .f32) (v : Vec Ideal S1x512x128 .f32) : FVec Ideal S512x512 .f32 :=
  concatenate S512x512 1 [⟨S512x384, extractStridedSlice S512x384 ![0, 0] y slices_S512x512_o0_0_S512x384⟩, ⟨S512x128, end512 y v⟩] concatenates_S512x384_S512x128_S512x512_d1

theorem join512 (y : FVec Ideal S512x512 .f32) (u : FVec Ideal S512x128 .f32) (r : Fin 512) (c : Fin 512) :
    concatenate S512x512 1 [⟨S512x384, extractStridedSlice S512x384 ![0, 0] y slices_S512x512_o0_0_S512x384⟩, ⟨S512x128, u⟩] concatenates_S512x384_S512x128_S512x512_d1 (ix2 r c)
      = if h : c.val < 384 then y (ix2 r c) else u (ix2 r (⟨c.val - 384, by omega⟩ : Fin 128)) := by
  pointwise

theorem mix512_at (y : FVec Ideal S512x512 .f32) (v : Vec Ideal S1x512x128 .f32) (r : Fin 512) (c : Fin 512) :
    mix512 y v (ix2 r c) = if h : c.val < 508 then y (ix2 r c) else v (ix3 0 r (⟨c.val - 384, by omega⟩ : Fin 128)) := by
  unfold mix512
  rw [join512]
  by_cases h : c.val < 384
  · rw [dif_pos h, dif_pos (by omega)]
  · rw [dif_neg h, end512_at]
    by_cases h' : c.val < 508
    · rw [dif_pos (by dsimp only; omega), dif_pos h']
      exact congrArg y (ix2_congr rfl (by dsimp only; omega))
    · rw [dif_neg (by dsimp only; omega), dif_neg h']

theorem block512 (x0 : Vec Ideal S1x96x256 .f32) (x1 : Vec Ideal S1x4x2304 .f32) (x2 : Vec Ideal S1x2x4x64x128 .f32) (x3 : Vec Ideal S1x2x4x64x512 .f32) (x4 : Vec Ideal S1x2x4x64x2048 .f32)
    (x5 x6 x7 : Vec Ideal S1x512x128 .f32) :
    out0_11 (F := Ideal) x0 x1 x2 x3 x4 x5 x6 x7
      = shapeCast S1x2x4x64x512 (shapeCast S2x4x64x512 (mix512 (ring512 (shapeCast S512x512 (shapeCast S2x4x64x512 x3 shapeCasts_S1x2x4x64x512_S2x4x64x512) shapeCasts_S2x4x64x512_S512x512)) x6)
          shapeCasts_S512x512_S2x4x64x512) shapeCasts_S2x4x64x512_S1x2x4x64x512 := by
  have h : View.ld (Val := Elt Ideal) x3 r0_14 = x3 := by
    rw [View.ld_unit_lit]
    intro a
    fin_cases a <;> rfl
  have h' : View.ld (Val := Elt Ideal) x6 r0_7 = x6 := by
    rw [View.ld_unit_lit]
    intro a
    fin_cases a <;> rfl
  unfold out0_11
  rw [View.canon_unit_zero (by funext a; fin_cases a <;> rfl), h, h']
  rfl

theorem V3 (c : Dev nD) : V m c main_v20 = transpose S128x2x4x64x512 [0, 2, 3, 4, 1] (m ((c : Thread nD τ).loc main_arg2)) transposes_S128x512x2x4x64_S128x2x4x64x512_0_2_3_4_1 := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq]
  after_results <;> rfl
theorem V6 (c : Dev nD) : V m c main_v27 = news 1024 slices_S128x4x2304_S128x4x512_0_0_1024 (m ((c : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq]
  after_results <;> rfl

theorem idx3 : ∀ t : Fin cfg0.N, win0_3.index t = ![t.val, 0, 0, 0, 0] :=
  (by decide +kernel : ∀ t : Fin grid0.N, win0_3.index t = ![t.val, 0, 0, 0, 0])
theorem idx6 : ∀ t : Fin cfg0.N, win0_6.index t = ![t.val, 0, 0] :=
  (by decide +kernel : ∀ t : Fin grid0.N, win0_6.index t = ![t.val, 0, 0])
theorem idx11 : ∀ t : Fin cfg0.N, win0_11.index t = ![t.val, 0, 0, 0, 0] :=
  (by decide +kernel : ∀ t : Fin grid0.N, win0_11.index t = ![t.val, 0, 0, 0, 0])

theorem emb3 (t : Fin cfg0.N) (p : Fin 2) (h : Fin 4) (e : Fin 64) (c : Fin 512) : ((cfg0.win 3).blk t).view.emb (ix5 0 p h e c) = ix5 (sample t) p h e c := by
  blk_ext [idx3 t]
theorem emb6 (t : Fin cfg0.N) (j : Fin 512) (l : Fin 128) : ((cfg0.win 6).blk t).view.emb (ix3 0 j l) = ix3 (sample t) j l := by
  blk_ext [idx6 t]
theorem emb11 (t : Fin cfg0.N) (p : Fin 2) (h : Fin 4) (e : Fin 64) (c : Fin 512) : ((cfg0.win 11).blk t).view.emb (ix5 0 p h e c) = ix5 (sample t) p h e c := by
  blk_ext [idx11 t]

theorem turn512 (b : Vec Ideal S128x512x2x4x64 .f32) (n : Fin 128) (p : Fin 2) (h : Fin 4) (e : Fin 64) (c : Fin 512) :
    transpose S128x2x4x64x512 [0, 2, 3, 4, 1] b transposes_S128x512x2x4x64_S128x2x4x64x512_0_2_3_4_1 (ix5 n p h e c) = b (ix5 n c p h e) := by
  pointwise

theorem iblk3 (c : Dev nD) (t : Fin cfg0.N) (p : Fin 2) (h : Fin 4) (e : Fin 64) (k : Fin 512) :
    iblk (F := Ideal) m c 3 t (ix5 0 p h e k) = m ((c : Thread nD τ).loc main_arg2) (ix5 (sample t) k p h e) := by
  unfold iblk
  rw [View.read_apply]
  erw [V3, emb3]
  exact turn512 _ _ _ _ _ _
theorem iblk6 (c : Dev nD) (t : Fin cfg0.N) (j : Fin 512) (l : Fin 128) (hl : 124 ≤ l.val) :
    iblk (F := Ideal) m c 6 t (ix3 0 j l) = m ((c : Thread nD τ).loc main_arg0) (ix3 (sample t) (⟨l.val - 124, by omega⟩ : Fin 4) (⟨1024 + j.val, by omega⟩ : Fin 2304)) := by
  unfold iblk
  rw [View.read_apply]
  erw [V6, emb6]
  exact news_at 1024 _ (by decide) _ _ _ _ hl

/-- A grid point's block holds its sample's buffer. -/
theorem out11_at (c : Dev nD) (t : Fin cfg0.N) (p : Fin 2) (h : Fin 4) (e : Fin 64) (k : Fin 512) :
    out0_11 (F := Ideal) (iblk m c 0 t) (iblk m c 1 t) (iblk m c 2 t) (iblk m c 3 t) (iblk m c 4 t) (iblk m c 5 t) (iblk m c 6 t) (iblk m c 7 t) (ix5 0 p h e k)
      = array512 (m ((c : Thread nD τ).loc main_arg0)) (m ((c : Thread nD τ).loc main_arg2)) (ix5 (sample t) p h e k) := by
  rw [block512, fold512, mix512_at, array512_at]
  unfold cell512
  by_cases hk : k.val < 508
  · rw [dif_pos hk, dif_pos hk, ring512_at, unfold512]
    refine (congrArg _ (five_congr rfl ?_ ?_ ?_ ?_)).trans (iblk3 m c t p h e (⟨k.val + 4, by omega⟩ : Fin 512)) <;> (dsimp only; omega)
  · rw [dif_neg hk, dif_neg hk]
    refine (iblk6 m c t _ _ (by dsimp only; omega)).trans (congrArg _ (three_congr rfl ?_ rfl))
    dsimp only
    omega

/-- The buffer of 512 rows after the call. -/
theorem final11 (c : Dev nD) : (dats (F := Ideal) m 0 c).arrAt 11 cfg0.N = array512 (m ((c : Thread nD τ).loc main_arg0)) (m ((c : Thread nD τ).loc main_arg2)) := by
  refine (dats (F := Ideal) m 0 c).arrAt_eq_of_covers 11 _ (by decide +kernel) fun t hf y => ?_
  rw [after0_11]
  idx_vars y
  obtain rfl : y0 = 0 := Subsingleton.elim _ _
  have h := out11_at m c t y1 y2 y3 y4
  erw [emb11 t y1 y2 y3 y4]
  generalize array512 (m (c.tc.loc main_arg0)) (m (c.tc.loc main_arg2)) = G at h ⊢
  generalize out0_11 (F := Ideal) (iblk m c 0 t) (iblk m c 1 t) (iblk m c 2 t) (iblk m c 3 t) (iblk m c 4 t) (iblk m c 5 t) (iblk m c 6 t) (iblk m c 7 t) = O at h ⊢
  exact h

/-- An entry of the buffer of 2048 rows after it moved on by four. -/
def cell2048 (z : Vec Ideal S128x4x2304 .f32) (b : Vec Ideal S128x2048x2x4x64 .f32) (n : Fin 128) (p : Fin 2) (h : Fin 4) (e : Fin 64) (c : Fin 2048) : EReal :=
  if hc : c.val < 2044 then b (ix5 n (⟨c.val + 4, by omega⟩ : Fin 2048) p h e)
  else z (ix3 n (⟨c.val - 2044, by omega⟩ : Fin 4) (⟨1792 + (p.val * 256 + h.val * 64 + e.val), by omega⟩ : Fin 2304))

def array2048 (z : Vec Ideal S128x4x2304 .f32) (b : Vec Ideal S128x2048x2x4x64 .f32) : Vec Ideal S128x2x4x64x2048 .f32 := fun i =>
  cell2048 z b (i 0) (i 1) (i 2) (i 3) (i 4)

theorem array2048_at (z : Vec Ideal S128x4x2304 .f32) (b : Vec Ideal S128x2048x2x4x64 .f32) (n : Fin 128) (p : Fin 2) (h : Fin 4) (e : Fin 64) (c : Fin 2048) :
    array2048 z b (ix5 n p h e c) = cell2048 z b n p h e c := rfl

theorem fold2048 (y : FVec Ideal S512x2048 .f32) (p : Fin 2) (h : Fin 4) (e : Fin 64) (c : Fin 2048) :
    (shapeCast S1x2x4x64x2048 (shapeCast S2x4x64x2048 y shapeCasts_S512x2048_S2x4x64x2048) shapeCasts_S2x4x64x2048_S1x2x4x64x2048 : FVec Ideal S1x2x4x64x2048 .f32) (ix5 0 p h e c)
      = y (ix2 (⟨p.val * 256 + h.val * 64 + e.val, by omega⟩ : Fin 512) c) := by
  pointwise
  first
    | done
    | exact congrArg y (ix2_congr (by dsimp only; omega) (by dsimp only; omega))

theorem unfold2048 (u : Vec Ideal S1x2x4x64x2048 .f32) (r : Fin 512) (c : Fin 2048) :
    (shapeCast S512x2048 (shapeCast S2x4x64x2048 u shapeCasts_S1x2x4x64x2048_S2x4x64x2048) shapeCasts_S2x4x64x2048_S512x2048 : FVec Ideal S512x2048 .f32) (ix2 r c)
      = u (ix5 0 (⟨r.val / 256, by omega⟩ : Fin 2) (⟨r.val / 64 % 4, by omega⟩ : Fin 4) (⟨r.val % 64, by omega⟩ : Fin 64) c) := by
  pointwise
  first
    | done
    | exact congrArg u (five_congr (by dsimp only; omega) (by dsimp only; omega) (by dsimp only; omega) (by dsimp only; omega) (by dsimp only; omega))

/-- The columns moved round to the left by four. -/
abbrev ring2048 (y : FVec Ideal S512x2048 .f32) : FVec Ideal S512x2048 .f32 := dynamicRotate 1 2044#32 none y rotates_S512x2048_d1

theorem ring2048_at (y : FVec Ideal S512x2048 .f32) (r : Fin 512) (c : Fin 2048) :
    ring2048 y (ix2 r c) = y (ix2 r (⟨(c.val + 4) % 2048, by omega⟩ : Fin 2048)) := by
  unfold ring2048
  refine dynamicRotate_apply (s := S512x2048) 1 _ _ _ _ _ ?_
  intro a
  fin_cases a
  · rfl
  · show (c.val + 4) % 2048 = (c.val + 2048 - 2044) % 2048
    omega

/-- The last 128 columns with the new columns in their last four places. -/
abbrev end2048 (y : FVec Ideal S512x2048 .f32) (v : Vec Ideal S1x512x128 .f32) : FVec Ideal S512x128 .f32 :=
  select (cmpi .sge (iota .tc S512x128 32 [1] iota_S512x128_d1_w32) (broadcast S512x128 124#32)) (shapeCast S512x128 v shapeCasts_S1x512x128_S512x128 : FVec Ideal S512x128 .f32)
    (extractStridedSlice S512x128 ![0, 1920] y slices_S512x2048_o0_1920_S512x128)

theorem end2048_at (y : FVec Ideal S512x2048 .f32) (v : Vec Ideal S1x512x128 .f32) (r : Fin 512) (c : Fin 128) :
    end2048 y v (ix2 r c) = if h : c.val < 124 then y (ix2 r (⟨1920 + c.val, by omega⟩ : Fin 2048)) else v (ix3 0 r c) := by
  unfold end2048
  pointwise
  rw [last_lanes]
  by_cases h : c.val < 124
  · rw [if_pos h, dif_pos h]
    rfl
  · rw [if_neg h, dif_neg h]
    rfl

/-- The new columns in the last four places. -/
abbrev mix2048 (y : FVec Ideal S512x2048 .f32) (v : Vec Ideal S1x512x128 .f32) : FVec Ideal S512x2048 .f32 :=
  concatenate S512x2048 1 [⟨S512x1920, extractStridedSlice S512x1920 ![0, 0] y slices_S512x2048_o0_0_S512x1920⟩, ⟨S512x128, end2048 y v⟩] concatenates_S512x1920_S512x128_S512x2048_d1

theorem join2048 (y : FVec Ideal S512x2048 .f32) (u : FVec Ideal S512x128 .f32) (r : Fin 512) (c : Fin 2048) :
    concatenate S512x2048 1 [⟨S512x1920, extractStridedSlice S512x1920 ![0, 0] y slices_S512x2048_o0_0_S512x1920⟩, ⟨S512x128, u⟩] concatenates_S512x1920_S512x128_S512x2048_d1 (ix2 r c)
      = if h : c.val < 1920 then y (ix2 r c) else u (ix2 r (⟨c.val - 1920, by omega⟩ : Fin 128)) := by
  pointwise

theorem mix2048_at (y : FVec Ideal S512x2048 .f32) (v : Vec Ideal S1x512x128 .f32) (r : Fin 512) (c : Fin 2048) :
    mix2048 y v (ix2 r c) = if h : c.val < 2044 then y (ix2 r c) else v (ix3 0 r (⟨c.val - 1920, by omega⟩ : Fin 128)) := by
  unfold mix2048
  rw [join2048]
  by_cases h : c.val < 1920
  · rw [dif_pos h, dif_pos (by omega)]
  · rw [dif_neg h, end2048_at]
    by_cases h' : c.val < 2044
    · rw [dif_pos (by dsimp only; omega), dif_pos h']
      exact congrArg y (ix2_congr rfl (by dsimp only; omega))
    · rw [dif_neg (by dsimp only; omega), dif_neg h']

theorem block2048 (x0 : Vec Ideal S1x96x256 .f32) (x1 : Vec Ideal S1x4x2304 .f32) (x2 : Vec Ideal S1x2x4x64x128 .f32) (x3 : Vec Ideal S1x2x4x64x512 .f32) (x4 : Vec Ideal S1x2x4x64x2048 .f32)
    (x5 x6 x7 : Vec Ideal S1x512x128 .f32) :
    out0_12 (F := Ideal) x0 x1 x2 x3 x4 x5 x6 x7
      = shapeCast S1x2x4x64x2048 (shapeCast S2x4x64x2048 (mix2048 (ring2048 (shapeCast S512x2048 (shapeCast S2x4x64x2048 x4 shapeCasts_S1x2x4x64x2048_S2x4x64x2048) shapeCasts_S2x4x64x2048_S512x2048)) x7)
          shapeCasts_S512x2048_S2x4x64x2048) shapeCasts_S2x4x64x2048_S1x2x4x64x2048 := by
  have h : View.ld (Val := Elt Ideal) x4 r0_21 = x4 := by
    rw [View.ld_unit_lit]
    intro a
    fin_cases a <;> rfl
  have h' : View.ld (Val := Elt Ideal) x7 r0_7 = x7 := by
    rw [View.ld_unit_lit]
    intro a
    fin_cases a <;> rfl
  unfold out0_12
  rw [View.canon_unit_zero (by funext a; fin_cases a <;> rfl), h, h']
  rfl

theorem V4 (c : Dev nD) : V m c main_v21 = transpose S128x2x4x64x2048 [0, 2, 3, 4, 1] (m ((c : Thread nD τ).loc main_arg3)) transposes_S128x2048x2x4x64_S128x2x4x64x2048_0_2_3_4_1 := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq]
  after_results <;> rfl
theorem V7 (c : Dev nD) : V m c main_v30 = news 1792 slices_S128x4x2304_S128x4x512_0_0_1792 (m ((c : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq]
  after_results <;> rfl

theorem idx4 : ∀ t : Fin cfg0.N, win0_4.index t = ![t.val, 0, 0, 0, 0] :=
  (by decide +kernel : ∀ t : Fin grid0.N, win0_4.index t = ![t.val, 0, 0, 0, 0])
theorem idx7 : ∀ t : Fin cfg0.N, win0_7.index t = ![t.val, 0, 0] :=
  (by decide +kernel : ∀ t : Fin grid0.N, win0_7.index t = ![t.val, 0, 0])
theorem idx12 : ∀ t : Fin cfg0.N, win0_12.index t = ![t.val, 0, 0, 0, 0] :=
  (by decide +kernel : ∀ t : Fin grid0.N, win0_12.index t = ![t.val, 0, 0, 0, 0])

theorem emb4 (t : Fin cfg0.N) (p : Fin 2) (h : Fin 4) (e : Fin 64) (c : Fin 2048) : ((cfg0.win 4).blk t).view.emb (ix5 0 p h e c) = ix5 (sample t) p h e c := by
  blk_ext [idx4 t]
theorem emb7 (t : Fin cfg0.N) (j : Fin 512) (l : Fin 128) : ((cfg0.win 7).blk t).view.emb (ix3 0 j l) = ix3 (sample t) j l := by
  blk_ext [idx7 t]
theorem emb12 (t : Fin cfg0.N) (p : Fin 2) (h : Fin 4) (e : Fin 64) (c : Fin 2048) : ((cfg0.win 12).blk t).view.emb (ix5 0 p h e c) = ix5 (sample t) p h e c := by
  blk_ext [idx12 t]

theorem turn2048 (b : Vec Ideal S128x2048x2x4x64 .f32) (n : Fin 128) (p : Fin 2) (h : Fin 4) (e : Fin 64) (c : Fin 2048) :
    transpose S128x2x4x64x2048 [0, 2, 3, 4, 1] b transposes_S128x2048x2x4x64_S128x2x4x64x2048_0_2_3_4_1 (ix5 n p h e c) = b (ix5 n c p h e) := by
  pointwise

theorem iblk4 (c : Dev nD) (t : Fin cfg0.N) (p : Fin 2) (h : Fin 4) (e : Fin 64) (k : Fin 2048) :
    iblk (F := Ideal) m c 4 t (ix5 0 p h e k) = m ((c : Thread nD τ).loc main_arg3) (ix5 (sample t) k p h e) := by
  unfold iblk
  rw [View.read_apply]
  erw [V4, emb4]
  exact turn2048 _ _ _ _ _ _
theorem iblk7 (c : Dev nD) (t : Fin cfg0.N) (j : Fin 512) (l : Fin 128) (hl : 124 ≤ l.val) :
    iblk (F := Ideal) m c 7 t (ix3 0 j l) = m ((c : Thread nD τ).loc main_arg0) (ix3 (sample t) (⟨l.val - 124, by omega⟩ : Fin 4) (⟨1792 + j.val, by omega⟩ : Fin 2304)) := by
  unfold iblk
  rw [View.read_apply]
  erw [V7, emb7]
  exact news_at 1792 _ (by decide) _ _ _ _ hl

/-- A grid point's block holds its sample's buffer. -/
theorem out12_at (c : Dev nD) (t : Fin cfg0.N) (p : Fin 2) (h : Fin 4) (e : Fin 64) (k : Fin 2048) :
    out0_12 (F := Ideal) (iblk m c 0 t) (iblk m c 1 t) (iblk m c 2 t) (iblk m c 3 t) (iblk m c 4 t) (iblk m c 5 t) (iblk m c 6 t) (iblk m c 7 t) (ix5 0 p h e k)
      = array2048 (m ((c : Thread nD τ).loc main_arg0)) (m ((c : Thread nD τ).loc main_arg3)) (ix5 (sample t) p h e k) := by
  rw [block2048, fold2048, mix2048_at, array2048_at]
  unfold cell2048
  by_cases hk : k.val < 2044
  · rw [dif_pos hk, dif_pos hk, ring2048_at, unfold2048]
    refine (congrArg _ (five_congr rfl ?_ ?_ ?_ ?_)).trans (iblk4 m c t p h e (⟨k.val + 4, by omega⟩ : Fin 2048)) <;> (dsimp only; omega)
  · rw [dif_neg hk, dif_neg hk]
    refine (iblk7 m c t _ _ (by dsimp only; omega)).trans (congrArg _ (three_congr rfl ?_ rfl))
    dsimp only
    omega

/-- The buffer of 2048 rows after the call. -/
theorem final12 (c : Dev nD) : (dats (F := Ideal) m 0 c).arrAt 12 cfg0.N = array2048 (m ((c : Thread nD τ).loc main_arg0)) (m ((c : Thread nD τ).loc main_arg3)) := by
  refine (dats (F := Ideal) m 0 c).arrAt_eq_of_covers 12 _ (by decide +kernel) fun t hf y => ?_
  rw [after0_12]
  idx_vars y
  obtain rfl : y0 = 0 := Subsingleton.elim _ _
  have h := out12_at m c t y1 y2 y3 y4
  erw [emb12 t y1 y2 y3 y4]
  generalize array2048 (m (c.tc.loc main_arg0)) (m (c.tc.loc main_arg3)) = G at h ⊢
  generalize out0_12 (F := Ideal) (iblk m c 0 t) (iblk m c 1 t) (iblk m c 2 t) (iblk m c 3 t) (iblk m c 4 t) (iblk m c 5 t) (iblk m c 6 t) (iblk m c 7 t) = O at h ⊢
  exact h

end Cert.DilSampleIdeal.Closed

namespace Cert.DilSampleReferenceIdeal.Closed

open Cert.DilSampleReferenceIdeal Cert.DilSampleReferenceIdeal.Gen Cert.Indices
open Cert.DilSampleIdeal.Closed (cell128 array128 array128_at cell512 array512 array512_at cell2048 array2048 array2048_at five_congr three_congr)

/-- A block of columns by head and lane. -/
abbrev part (o : ℕ) (h : S128x4x2304.Slices ![0, 0, o] S128x4x256) (z : Vec Ideal S128x4x2304 .f32) : FVec Ideal S128x4x4x64 .f32 :=
  shapeCast S128x4x4x64 (extractStridedSlice S128x4x256 ![0, 0, o] z h) shapeCasts_S128x4x256_S128x4x4x64

theorem part_at (o : ℕ) (h : S128x4x2304.Slices ![0, 0, o] S128x4x256) (ho : o + 256 ≤ 2304) (z : Vec Ideal S128x4x2304 .f32) (n : Fin 128) (s : Fin 4) (g : Fin 4) (e : Fin 64) :
    part o h z (ix4 n s g e) = z (ix3 n s (⟨o + (g.val * 64 + e.val), by omega⟩ : Fin 2304)) := by
  unfold part
  pointwise
  first
    | done
    | exact congrArg z (three_congr (by dsimp only; omega) (by dsimp only; omega) (by dsimp only; omega))

/-- The new keys and the new values, stacked. -/
abbrev pair (k v : FVec Ideal S128x4x4x64 .f32) : FVec Ideal S128x4x2x4x64 .f32 :=
  concatenate S128x4x2x4x64 2 [⟨S128x4x1x4x64, broadcastInDim S128x4x1x4x64 ![0, 1, 3, 4] bcast_S128x4x4x64_S128x4x1x4x64_0_1_3_4 k⟩,
    ⟨S128x4x1x4x64, broadcastInDim S128x4x1x4x64 ![0, 1, 3, 4] bcast_S128x4x4x64_S128x4x1x4x64_0_1_3_4 v⟩] concatenates_S128x4x1x4x64_S128x4x1x4x64_S128x4x2x4x64_d2

theorem pair_at (k v : FVec Ideal S128x4x4x64 .f32) (n : Fin 128) (s : Fin 4) (p : Fin 2) (h : Fin 4) (e : Fin 64) :
    pair k v (ix5 n s p h e) = if hp : p.val < 1 then k (ix4 n s h e) else v (ix4 n s h e) := by
  unfold pair
  pointwise

/-- The reference's new rows behind the old ones, without the first four. -/
abbrev whole_128 (b : Vec Ideal S128x128x2x4x64 .f32) (p : FVec Ideal S128x4x2x4x64 .f32) : Vec Ideal S128x2x4x64x128 .f32 :=
  transpose S128x2x4x64x128 [0, 2, 3, 4, 1] (extractStridedSlice S128x128x2x4x64 ![0, 4, 0, 0, 0] (concatenate S128x132x2x4x64 1 [⟨S128x128x2x4x64, b⟩, ⟨S128x4x2x4x64, p⟩]
    concatenates_S128x128x2x4x64_S128x4x2x4x64_S128x132x2x4x64_d1) slices_S128x132x2x4x64_S128x128x2x4x64_0_4_0_0_0) transposes_S128x128x2x4x64_S128x2x4x64x128_0_2_3_4_1

theorem whole_128_at (b : Vec Ideal S128x128x2x4x64 .f32) (q : FVec Ideal S128x4x2x4x64 .f32) (n : Fin 128) (p : Fin 2) (h : Fin 4) (e : Fin 64) (c : Fin 128) :
    whole_128 b q (ix5 n p h e c) = if hc : c.val < 124 then b (ix5 n (⟨c.val + 4, by omega⟩ : Fin 128) p h e) else q (ix5 n (⟨c.val - 124, by omega⟩ : Fin 4) p h e) := by
  unfold whole_128
  pointwise
  by_cases hc : c.val < 124
  · rw [dif_pos (by omega), dif_pos hc]
    exact congrArg b (five_congr rfl (by dsimp only; omega) rfl rfl rfl)
  · rw [dif_neg (by omega), dif_neg hc]
    exact congrArg q (five_congr rfl (by dsimp only; omega) rfl rfl rfl)

theorem result128 (z : Vec Ideal S128x4x2304 .f32) (b : Vec Ideal S128x128x2x4x64 .f32) :
    whole_128 b (pair (part 256 slices_S128x4x2304_S128x4x256_0_0_256 z) (part 512 slices_S128x4x2304_S128x4x256_0_0_512 z)) = array128 z b := by
  funext i
  idx_vars i
  rw [whole_128_at, array128_at]
  unfold cell128
  by_cases hc : i4.val < 124
  · rw [dif_pos hc, dif_pos hc]
  · rw [dif_neg hc, dif_neg hc, pair_at]
    by_cases hp : i1.val < 1
    · rw [dif_pos hp, part_at 256 _ (by decide)]
      exact congrArg z (three_congr rfl rfl (by dsimp only; omega))
    · rw [dif_neg hp, part_at 512 _ (by decide)]
      exact congrArg z (three_congr rfl rfl (by dsimp only; omega))

/-- The reference's new rows behind the old ones, without the first four. -/
abbrev whole_512 (b : Vec Ideal S128x512x2x4x64 .f32) (p : FVec Ideal S128x4x2x4x64 .f32) : Vec Ideal S128x2x4x64x512 .f32 :=
  transpose S128x2x4x64x512 [0, 2, 3, 4, 1] (extractStridedSlice S128x512x2x4x64 ![0, 4, 0, 0, 0] (concatenate S128x516x2x4x64 1 [⟨S128x512x2x4x64, b⟩, ⟨S128x4x2x4x64, p⟩]
    concatenates_S128x512x2x4x64_S128x4x2x4x64_S128x516x2x4x64_d1) slices_S128x516x2x4x64_S128x512x2x4x64_0_4_0_0_0) transposes_S128x512x2x4x64_S128x2x4x64x512_0_2_3_4_1

theorem whole_512_at (b : Vec Ideal S128x512x2x4x64 .f32) (q : FVec Ideal S128x4x2x4x64 .f32) (n : Fin 128) (p : Fin 2) (h : Fin 4) (e : Fin 64) (c : Fin 512) :
    whole_512 b q (ix5 n p h e c) = if hc : c.val < 508 then b (ix5 n (⟨c.val + 4, by omega⟩ : Fin 512) p h e) else q (ix5 n (⟨c.val - 508, by omega⟩ : Fin 4) p h e) := by
  unfold whole_512
  pointwise
  by_cases hc : c.val < 508
  · rw [dif_pos (by omega), dif_pos hc]
    exact congrArg b (five_congr rfl (by dsimp only; omega) rfl rfl rfl)
  · rw [dif_neg (by omega), dif_neg hc]
    exact congrArg q (five_congr rfl (by dsimp only; omega) rfl rfl rfl)

theorem result512 (z : Vec Ideal S128x4x2304 .f32) (b : Vec Ideal S128x512x2x4x64 .f32) :
    whole_512 b (pair (part 1024 slices_S128x4x2304_S128x4x256_0_0_1024 z) (part 1280 slices_S128x4x2304_S128x4x256_0_0_1280 z)) = array512 z b := by
  funext i
  idx_vars i
  rw [whole_512_at, array512_at]
  unfold cell512
  by_cases hc : i4.val < 508
  · rw [dif_pos hc, dif_pos hc]
  · rw [dif_neg hc, dif_neg hc, pair_at]
    by_cases hp : i1.val < 1
    · rw [dif_pos hp, part_at 1024 _ (by decide)]
      exact congrArg z (three_congr rfl rfl (by dsimp only; omega))
    · rw [dif_neg hp, part_at 1280 _ (by decide)]
      exact congrArg z (three_congr rfl rfl (by dsimp only; omega))

/-- The reference's new rows behind the old ones, without the first four. -/
abbrev whole_2048 (b : Vec Ideal S128x2048x2x4x64 .f32) (p : FVec Ideal S128x4x2x4x64 .f32) : Vec Ideal S128x2x4x64x2048 .f32 :=
  transpose S128x2x4x64x2048 [0, 2, 3, 4, 1] (extractStridedSlice S128x2048x2x4x64 ![0, 4, 0, 0, 0] (concatenate S128x2052x2x4x64 1 [⟨S128x2048x2x4x64, b⟩, ⟨S128x4x2x4x64, p⟩]
    concatenates_S128x2048x2x4x64_S128x4x2x4x64_S128x2052x2x4x64_d1) slices_S128x2052x2x4x64_S128x2048x2x4x64_0_4_0_0_0) transposes_S128x2048x2x4x64_S128x2x4x64x2048_0_2_3_4_1

theorem whole_2048_at (b : Vec Ideal S128x2048x2x4x64 .f32) (q : FVec Ideal S128x4x2x4x64 .f32) (n : Fin 128) (p : Fin 2) (h : Fin 4) (e : Fin 64) (c : Fin 2048) :
    whole_2048 b q (ix5 n p h e c) = if hc : c.val < 2044 then b (ix5 n (⟨c.val + 4, by omega⟩ : Fin 2048) p h e) else q (ix5 n (⟨c.val - 2044, by omega⟩ : Fin 4) p h e) := by
  unfold whole_2048
  pointwise
  by_cases hc : c.val < 2044
  · rw [dif_pos (by omega), dif_pos hc]
    exact congrArg b (five_congr rfl (by dsimp only; omega) rfl rfl rfl)
  · rw [dif_neg (by omega), dif_neg hc]
    exact congrArg q (five_congr rfl (by dsimp only; omega) rfl rfl rfl)

theorem result2048 (z : Vec Ideal S128x4x2304 .f32) (b : Vec Ideal S128x2048x2x4x64 .f32) :
    whole_2048 b (pair (part 1792 slices_S128x4x2304_S128x4x256_0_0_1792 z) (part 2048 slices_S128x4x2304_S128x4x256_0_0_2048 z)) = array2048 z b := by
  funext i
  idx_vars i
  rw [whole_2048_at, array2048_at]
  unfold cell2048
  by_cases hc : i4.val < 2044
  · rw [dif_pos hc, dif_pos hc]
  · rw [dif_neg hc, dif_neg hc, pair_at]
    by_cases hp : i1.val < 1
    · rw [dif_pos hp, part_at 1792 _ (by decide)]
      exact congrArg z (three_congr rfl rfl (by dsimp only; omega))
    · rw [dif_neg hp, part_at 2048 _ (by decide)]
      exact congrArg z (three_congr rfl rfl (by dsimp only; omega))

/-- The reference's run with its results at the moved buffers. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = array128 (m ((c.tc : Thread nD τ).loc main_arg0)) (m ((c.tc : Thread nD τ).loc main_arg1))
      ∧ r.2.mem ((c.tc : Thread nD τ).loc main_v19) = array512 (m ((c.tc : Thread nD τ).loc main_arg0)) (m ((c.tc : Thread nD τ).loc main_arg2))
      ∧ r.2.mem ((c.tc : Thread nD τ).loc main_v29) = array2048 (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2⟩) (Value.run (F := Ideal) m ρ)
  · exact result128 (m ((c.tc : Thread nD τ).loc main_arg0)) (m ((c.tc : Thread nD τ).loc main_arg1))
  · exact result512 (m ((c.tc : Thread nD τ).loc main_arg0)) (m ((c.tc : Thread nD τ).loc main_arg2))
  · exact result2048 (m ((c.tc : Thread nD τ).loc main_arg0)) (m ((c.tc : Thread nD τ).loc main_arg3))

end Cert.DilSampleReferenceIdeal.Closed

end
-- ==== Proof.SampleClaims.lean ====
/- The claims about the samples' calls: each program and its reference end with the same results. -/
module

public import proofs.«01_k».proof.Defs
public import proofs.«01_k».proof.Proof.FfnFinalSampleValue
public import proofs.«01_k».proof.Proof.DilSampleValue

@[expose] public section

noncomputable section

open Idealize.ShloMosaic Idealize.ShloMosaic.TcCoe Idealize.SL.Sem

namespace Cert.SampleClaims

/-- The closing feed-forward half's reference at the samples' shape runs, ends with its arguments unchanged and every counter at zero. -/
theorem ffn_final_reference_frame : Cert.quiescent_FfnFinalSampleReferenceIdeal := fun m ρ _ =>
  (θ_run Cert.FfnFinalSampleReferenceIdeal.defs _ _).mono (fun r h => ⟨fun c => (h c).2, Idealize.ShloMosaic.sem_eq_zero_of_no_sems (by decide) r.2⟩)
    (Cert.FfnFinalSampleReferenceIdeal.Value.run (F := Ideal) m ρ)

/-- The samples' window buffers' reference runs, ends with its arguments unchanged and every counter at zero. -/
theorem dil_sample_reference_frame : Cert.quiescent_DilSampleReferenceIdeal := fun m ρ _ =>
  (θ_run Cert.DilSampleReferenceIdeal.defs _ _).mono (fun r h => ⟨fun c => (h c).2.2.2, Idealize.ShloMosaic.sem_eq_zero_of_no_sems (by decide) r.2⟩)
    (Cert.DilSampleReferenceIdeal.Value.run (F := Ideal) m ρ)

/-- The closing feed-forward half at the samples' shape and its reference end with equal results. -/
theorem ffn_final : Cert.algebraic_FfnFinalSampleIdeal_FfnFinalSampleReferenceIdeal := fun m ρ m' ρ' _ hag =>
  ⟨fun c => Cert.FfnFinalSampleIdeal.Closed.out (m ((c.tc : Thread Cert.FfnFinalSampleIdeal.nD Cert.FfnFinalSampleIdeal.τ).loc Cert.FfnFinalSampleIdeal.main_arg0))
      (m ((c.tc : Thread Cert.FfnFinalSampleIdeal.nD Cert.FfnFinalSampleIdeal.τ).loc Cert.FfnFinalSampleIdeal.main_arg1)) (m ((c.tc : Thread Cert.FfnFinalSampleIdeal.nD Cert.FfnFinalSampleIdeal.τ).loc Cert.FfnFinalSampleIdeal.main_arg2))
      (m ((c.tc : Thread Cert.FfnFinalSampleIdeal.nD Cert.FfnFinalSampleIdeal.τ).loc Cert.FfnFinalSampleIdeal.main_arg3)) (m ((c.tc : Thread Cert.FfnFinalSampleIdeal.nD Cert.FfnFinalSampleIdeal.τ).loc Cert.FfnFinalSampleIdeal.main_arg4)),
    (θ_run Cert.FfnFinalSampleIdeal.defs _ _).mono (fun _ h c => ⟨(h c).1.trans (Cert.FfnFinalSampleIdeal.Closed.final5 m c), (h c).2⟩) (Cert.FfnFinalSampleIdeal.Value.run_blocks (F := Ideal) m ρ),
    (θ_run Cert.FfnFinalSampleReferenceIdeal.defs _ _).mono (fun _ h c => ⟨(h c).1.trans (by
        obtain ⟨h0, h1, h2, h3, h4⟩ := hag c
        rw [h0, h1, h2, h3, h4]), (h c).2⟩) (Cert.FfnFinalSampleReferenceIdeal.Closed.run m' ρ')⟩

/-- The samples' window buffers and their reference's end equal. -/
theorem dil_sample : Cert.algebraic_DilSampleIdeal_DilSampleReferenceIdeal := fun m ρ m' ρ' _ hag =>
  ⟨fun c => Cert.DilSampleIdeal.Closed.array128 (m ((c.tc : Thread Cert.DilSampleIdeal.nD Cert.DilSampleIdeal.τ).loc Cert.DilSampleIdeal.main_arg0)) (m ((c.tc : Thread Cert.DilSampleIdeal.nD Cert.DilSampleIdeal.τ).loc Cert.DilSampleIdeal.main_arg1)),
    fun c => Cert.DilSampleIdeal.Closed.array512 (m ((c.tc : Thread Cert.DilSampleIdeal.nD Cert.DilSampleIdeal.τ).loc Cert.DilSampleIdeal.main_arg0)) (m ((c.tc : Thread Cert.DilSampleIdeal.nD Cert.DilSampleIdeal.τ).loc Cert.DilSampleIdeal.main_arg2)),
    fun c => Cert.DilSampleIdeal.Closed.array2048 (m ((c.tc : Thread Cert.DilSampleIdeal.nD Cert.DilSampleIdeal.τ).loc Cert.DilSampleIdeal.main_arg0)) (m ((c.tc : Thread Cert.DilSampleIdeal.nD Cert.DilSampleIdeal.τ).loc Cert.DilSampleIdeal.main_arg3)),
    (θ_run Cert.DilSampleIdeal.defs _ _).mono (fun _ h c => ⟨(h c).2.2.1.trans (Cert.DilSampleIdeal.Closed.final10 m c), (h c).2.2.2.1.trans (Cert.DilSampleIdeal.Closed.final11 m c),
      (h c).2.2.2.2.1.trans (Cert.DilSampleIdeal.Closed.final12 m c), (h c).2.2.2.2.2⟩) (Cert.DilSampleIdeal.Value.run_blocks (F := Ideal) m ρ),
    (θ_run Cert.DilSampleReferenceIdeal.defs _ _).mono (fun _ h c => ⟨(h c).1.trans (by
        obtain ⟨h0, h1, h2, h3⟩ := hag c
        rw [h0, h1]), (h c).2.1.trans (by
        obtain ⟨h0, h1, h2, h3⟩ := hag c
        rw [h0, h2]), (h c).2.2.1.trans (by
        obtain ⟨h0, h1, h2, h3⟩ := hag c
        rw [h0, h3]), (h c).2.2.2⟩) (Cert.DilSampleReferenceIdeal.Closed.run m' ρ')⟩

end Cert.SampleClaims

end
-- ==== Proof.lean ====
/- The certificate's claims, each by its theorem. -/
module

public import proofs.«01_k».proof.Defs
public import proofs.«01_k».proof.Proof.Gen.Ffn.Frame
public import proofs.«01_k».proof.Proof.Gen.FfnIdeal.Frame
public import proofs.«01_k».proof.Proof.Gen.FfnFinal.Frame
public import proofs.«01_k».proof.Proof.Gen.FfnFinalIdeal.Frame
public import proofs.«01_k».proof.Proof.Gen.MemKv.Frame
public import proofs.«01_k».proof.Proof.Gen.MemKvIdeal.Frame
public import proofs.«01_k».proof.Proof.FeedForwardClaims
public import proofs.«01_k».proof.Proof.AttentionClaims
public import proofs.«01_k».proof.Proof.ProjectionClaims
public import proofs.«01_k».proof.Proof.OutputClaims
public import proofs.«01_k».proof.Proof.SampleProjectionClaims
public import proofs.«01_k».proof.Proof.SampleClaims
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnReferenceIdeal
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalReferenceIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvReferenceIdeal
public import proofs.«01_k».proof.Proof.Gen.Pre_mla_finite
public import proofs.«01_k».proof.Proof.Gen.KernelIdeal.Value
public import proofs.«01_k».proof.Proof.Gen.FfnIdeal.Value
public import proofs.«01_k».proof.Proof.Gen.FfnFinalIdeal.Value
public import proofs.«01_k».proof.Proof.Gen.MemKvIdeal.Value
public import proofs.«01_k».proof.Proof.Gen.ReferenceIdeal.Run
public import proofs.«01_k».proof.Proof.Gen.FfnReferenceIdeal.Run
public import proofs.«01_k».proof.Proof.Gen.FfnFinalReferenceIdeal.Run
public import proofs.«01_k».proof.Proof.Gen.MemKvReferenceIdeal.Run
public import proofs.«01_k».proof.Proof.Gen.OddProject.Frame
public import proofs.«01_k».proof.Proof.Gen.OddProjectIdeal.Frame
public import proofs.«01_k».proof.Proof.Gen.OddProject
public import proofs.«01_k».proof.Proof.Gen.OddProject.Skeleton
public import proofs.«01_k».proof.Proof.Gen.OddProject.Launch
public import proofs.«01_k».proof.Proof.Gen.OddProject.Points
public import proofs.«01_k».proof.Proof.Gen.OddProjectIdeal
public import proofs.«01_k».proof.Proof.Gen.OddProjectIdeal.Skeleton
public import proofs.«01_k».proof.Proof.Gen.OddProjectIdeal.Launch
public import proofs.«01_k».proof.Proof.Gen.OddProjectIdeal.Points
public import proofs.«01_k».proof.Proof.Gen.OddProjectReferenceIdeal
public import proofs.«01_k».proof.Proof.Gen.OddProjectIdeal.Value
public import proofs.«01_k».proof.Proof.Gen.OddProjectReferenceIdeal.Run
public import proofs.«01_k».proof.Proof.Gen.EvenProject.Frame
public import proofs.«01_k».proof.Proof.Gen.EvenProjectIdeal.Frame
public import proofs.«01_k».proof.Proof.Gen.EvenProject
public import proofs.«01_k».proof.Proof.Gen.EvenProject.Skeleton
public import proofs.«01_k».proof.Proof.Gen.EvenProject.Launch
public import proofs.«01_k».proof.Proof.Gen.EvenProject.Points
public import proofs.«01_k».proof.Proof.Gen.EvenProjectIdeal
public import proofs.«01_k».proof.Proof.Gen.EvenProjectIdeal.Skeleton
public import proofs.«01_k».proof.Proof.Gen.EvenProjectIdeal.Launch
public import proofs.«01_k».proof.Proof.Gen.EvenProjectIdeal.Points
public import proofs.«01_k».proof.Proof.Gen.EvenProjectReferenceIdeal
public import proofs.«01_k».proof.Proof.Gen.EvenProjectIdeal.Value
public import proofs.«01_k».proof.Proof.Gen.EvenProjectReferenceIdeal.Run
public import proofs.«01_k».proof.Proof.Gen.MemAttend.Frame
public import proofs.«01_k».proof.Proof.Gen.MemAttendIdeal.Frame
public import proofs.«01_k».proof.Proof.Gen.MemAttend
public import proofs.«01_k».proof.Proof.Gen.MemAttend.Skeleton
public import proofs.«01_k».proof.Proof.Gen.MemAttend.Launch
public import proofs.«01_k».proof.Proof.Gen.MemAttend.Points
public import proofs.«01_k».proof.Proof.Gen.MemAttendIdeal
public import proofs.«01_k».proof.Proof.Gen.MemAttendIdeal.Skeleton
public import proofs.«01_k».proof.Proof.Gen.MemAttendIdeal.Launch
public import proofs.«01_k».proof.Proof.Gen.MemAttendIdeal.Points
public import proofs.«01_k».proof.Proof.Gen.MemAttendReferenceIdeal
public import proofs.«01_k».proof.Proof.Gen.MemAttendIdeal.Value
public import proofs.«01_k».proof.Proof.Gen.MemAttendReferenceIdeal.Run
public import proofs.«01_k».proof.Proof.Gen.EvenOutput.Frame
public import proofs.«01_k».proof.Proof.Gen.EvenOutputIdeal.Frame
public import proofs.«01_k».proof.Proof.Gen.EvenOutput
public import proofs.«01_k».proof.Proof.Gen.EvenOutput.Skeleton
public import proofs.«01_k».proof.Proof.Gen.EvenOutput.Launch
public import proofs.«01_k».proof.Proof.Gen.EvenOutput.Points
public import proofs.«01_k».proof.Proof.Gen.EvenOutputIdeal
public import proofs.«01_k».proof.Proof.Gen.EvenOutputIdeal.Skeleton
public import proofs.«01_k».proof.Proof.Gen.EvenOutputIdeal.Launch
public import proofs.«01_k».proof.Proof.Gen.EvenOutputIdeal.Points
public import proofs.«01_k».proof.Proof.Gen.EvenOutputReferenceIdeal
public import proofs.«01_k».proof.Proof.Gen.EvenOutputIdeal.Value
public import proofs.«01_k».proof.Proof.Gen.EvenOutputReferenceIdeal.Run
public import proofs.«01_k».proof.Proof.Gen.OddOutput.Frame
public import proofs.«01_k».proof.Proof.Gen.OddOutputIdeal.Frame
public import proofs.«01_k».proof.Proof.Gen.OddOutput
public import proofs.«01_k».proof.Proof.Gen.OddOutput.Skeleton
public import proofs.«01_k».proof.Proof.Gen.OddOutput.Launch
public import proofs.«01_k».proof.Proof.Gen.OddOutput.Points
public import proofs.«01_k».proof.Proof.Gen.OddOutputIdeal
public import proofs.«01_k».proof.Proof.Gen.OddOutputIdeal.Skeleton
public import proofs.«01_k».proof.Proof.Gen.OddOutputIdeal.Launch
public import proofs.«01_k».proof.Proof.Gen.OddOutputIdeal.Points
public import proofs.«01_k».proof.Proof.Gen.OddOutputReferenceIdeal
public import proofs.«01_k».proof.Proof.Gen.OddOutputIdeal.Value
public import proofs.«01_k».proof.Proof.Gen.OddOutputReferenceIdeal.Run
public import proofs.«01_k».proof.Proof.Gen.DilSample.Frame
public import proofs.«01_k».proof.Proof.Gen.DilSampleIdeal.Frame
public import proofs.«01_k».proof.Proof.Gen.DilSample
public import proofs.«01_k».proof.Proof.Gen.DilSample.Skeleton
public import proofs.«01_k».proof.Proof.Gen.DilSample.Launch
public import proofs.«01_k».proof.Proof.Gen.DilSample.Points
public import proofs.«01_k».proof.Proof.Gen.DilSampleIdeal
public import proofs.«01_k».proof.Proof.Gen.DilSampleIdeal.Skeleton
public import proofs.«01_k».proof.Proof.Gen.DilSampleIdeal.Launch
public import proofs.«01_k».proof.Proof.Gen.DilSampleIdeal.Points
public import proofs.«01_k».proof.Proof.Gen.DilSampleReferenceIdeal
public import proofs.«01_k».proof.Proof.Gen.DilSampleIdeal.Value
public import proofs.«01_k».proof.Proof.Gen.DilSampleReferenceIdeal.Run
public import proofs.«01_k».proof.Proof.Gen.FfnFinalSample.Frame
public import proofs.«01_k».proof.Proof.Gen.FfnFinalSampleIdeal.Frame
public import proofs.«01_k».proof.Proof.Gen.FfnFinalSample
public import proofs.«01_k».proof.Proof.Gen.FfnFinalSample.Skeleton
public import proofs.«01_k».proof.Proof.Gen.FfnFinalSample.Launch
public import proofs.«01_k».proof.Proof.Gen.FfnFinalSample.Points
public import proofs.«01_k».proof.Proof.Gen.FfnFinalSampleIdeal
public import proofs.«01_k».proof.Proof.Gen.FfnFinalSampleIdeal.Skeleton
public import proofs.«01_k».proof.Proof.Gen.FfnFinalSampleIdeal.Launch
public import proofs.«01_k».proof.Proof.Gen.FfnFinalSampleIdeal.Points
public import proofs.«01_k».proof.Proof.Gen.FfnFinalSampleReferenceIdeal
public import proofs.«01_k».proof.Proof.Gen.FfnFinalSampleIdeal.Value
public import proofs.«01_k».proof.Proof.Gen.FfnFinalSampleReferenceIdeal.Run
public import proofs.«01_k».proof.Proof.Gen.EvenProjectSample.Frame
public import proofs.«01_k».proof.Proof.Gen.EvenProjectSampleIdeal.Frame
public import proofs.«01_k».proof.Proof.Gen.EvenProjectSample
public import proofs.«01_k».proof.Proof.Gen.EvenProjectSample.Skeleton
public import proofs.«01_k».proof.Proof.Gen.EvenProjectSample.Launch
public import proofs.«01_k».proof.Proof.Gen.EvenProjectSample.Points
public import proofs.«01_k».proof.Proof.Gen.EvenProjectSampleIdeal
public import proofs.«01_k».proof.Proof.Gen.EvenProjectSampleIdeal.Skeleton
public import proofs.«01_k».proof.Proof.Gen.EvenProjectSampleIdeal.Launch
public import proofs.«01_k».proof.Proof.Gen.EvenProjectSampleIdeal.Points
public import proofs.«01_k».proof.Proof.Gen.EvenProjectSampleReferenceIdeal
public import proofs.«01_k».proof.Proof.Gen.EvenProjectSampleIdeal.Value
public import proofs.«01_k».proof.Proof.Gen.EvenProjectSampleReferenceIdeal.Run
public import proofs.«01_k».proof.Proof.Gen.Pre_mem_finite
public import Idealize.ShloMosaic.Adequacy
public import Idealize.ShloMosaic.Init

@[expose] public section

noncomputable section

namespace Cert.Proof

open Idealize.ShloMosaic Idealize.SL.Sem

/-- Every claim of the certificate holds. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.FfnFinal.Gen.facts, Cert.FfnFinalIdeal.Gen.facts, Cert.FfnFinalReferenceIdeal.Gen.facts, Cert.MemKv.Gen.facts, Cert.MemKvIdeal.Gen.facts, Cert.MemKvReferenceIdeal.Gen.facts, Cert.OddProject.Gen.facts, Cert.OddProjectIdeal.Gen.facts, Cert.OddProjectReferenceIdeal.Gen.facts, Cert.EvenProject.Gen.facts, Cert.EvenProjectIdeal.Gen.facts, Cert.EvenProjectReferenceIdeal.Gen.facts,
  Cert.MemAttend.Gen.facts, Cert.MemAttendIdeal.Gen.facts, Cert.MemAttendReferenceIdeal.Gen.facts, Cert.EvenOutput.Gen.facts, Cert.EvenOutputIdeal.Gen.facts, Cert.EvenOutputReferenceIdeal.Gen.facts, Cert.OddOutput.Gen.facts, Cert.OddOutputIdeal.Gen.facts, Cert.OddOutputReferenceIdeal.Gen.facts, Cert.DilSample.Gen.facts, Cert.DilSampleIdeal.Gen.facts, Cert.DilSampleReferenceIdeal.Gen.facts, Cert.FfnFinalSample.Gen.facts, Cert.FfnFinalSampleIdeal.Gen.facts, Cert.FfnFinalSampleReferenceIdeal.Gen.facts, Cert.EvenProjectSample.Gen.facts, Cert.EvenProjectSampleIdeal.Gen.facts, Cert.EvenProjectSampleReferenceIdeal.Gen.facts, Cert.Pre_mla_finite.Gen.facts, Cert.Pre_mem_finite.Gen.facts,
  fun m ρ _ => Cert.Kernel.Gen.frame m ρ, fun m ρ _ => Cert.KernelIdeal.Gen.frame m ρ, fun m ρ _ => Cert.KernelIdeal.Gen.frame m ρ,
  Cert.AttentionClaims.reference_frame, Cert.AttentionClaims.reference_frame_real,
  fun m ρ _ => Cert.Ffn.Gen.frame m ρ, fun m ρ _ => Cert.FfnIdeal.Gen.frame m ρ, Cert.FeedForwardClaims.ffn_reference_frame,
  fun m ρ _ => Cert.FfnFinal.Gen.frame m ρ, fun m ρ _ => Cert.FfnFinalIdeal.Gen.frame m ρ, Cert.FeedForwardClaims.ffn_final_reference_frame,
  fun m ρ _ => Cert.MemKv.Gen.frame m ρ, fun m ρ _ => Cert.MemKvIdeal.Gen.frame m ρ, Cert.FeedForwardClaims.mem_kv_reference_frame,
  fun m ρ _ => Cert.OddProject.Gen.frame m ρ, fun m ρ _ => Cert.OddProjectIdeal.Gen.frame m ρ, Cert.ProjectionClaims.odd_reference_frame,
  fun m ρ _ => Cert.EvenProject.Gen.frame m ρ, fun m ρ _ => Cert.EvenProjectIdeal.Gen.frame m ρ, Cert.ProjectionClaims.even_reference_frame,
  fun m ρ _ => Cert.MemAttend.Gen.frame m ρ, fun m ρ _ => Cert.MemAttendIdeal.Gen.frame m ρ, fun m ρ _ => Cert.MemAttendIdeal.Gen.frame m ρ,
  Cert.OutputClaims.mem_attend_reference_frame, Cert.OutputClaims.mem_attend_reference_frame_real,
  fun m ρ _ => Cert.EvenOutput.Gen.frame m ρ, fun m ρ _ => Cert.EvenOutputIdeal.Gen.frame m ρ, Cert.OutputClaims.even_output_reference_frame,
  fun m ρ _ => Cert.OddOutput.Gen.frame m ρ, fun m ρ _ => Cert.OddOutputIdeal.Gen.frame m ρ, Cert.OutputClaims.odd_output_reference_frame,
  fun m ρ _ => Cert.DilSample.Gen.frame m ρ, fun m ρ _ => Cert.DilSampleIdeal.Gen.frame m ρ, Cert.SampleClaims.dil_sample_reference_frame,
  fun m ρ _ => Cert.FfnFinalSample.Gen.frame m ρ, fun m ρ _ => Cert.FfnFinalSampleIdeal.Gen.frame m ρ, Cert.SampleClaims.ffn_final_reference_frame,
  fun m ρ _ => Cert.EvenProjectSample.Gen.frame m ρ, fun m ρ _ => Cert.EvenProjectSampleIdeal.Gen.frame m ρ, Cert.SampleProjectionClaims.even_reference_frame,
  Cert.AttentionClaims.constants, Cert.AttentionClaims.attention,
  trivial, Cert.FeedForwardClaims.ffn, trivial, Cert.FeedForwardClaims.ffn_final, trivial, Cert.FeedForwardClaims.mem_kv,
  trivial, Cert.ProjectionClaims.odd, trivial, Cert.ProjectionClaims.even,
  trivial, Cert.OutputClaims.mem_attend, trivial, Cert.OutputClaims.even_output, trivial, Cert.OutputClaims.odd_output, trivial, Cert.SampleClaims.dil_sample, trivial, Cert.SampleClaims.ffn_final, trivial, Cert.SampleProjectionClaims.even⟩

end Cert.Proof

end
